-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_ffn [hPre_finite_ffn : Cert.Pre_finite_ffn.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_ffn.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_ffn [hPre_finite_ffn : Cert.Pre_finite_ffn.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_ffn.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_finite_ffn [hKernel3Ideal : Cert.Kernel3Ideal.Facts] [hPre_finite_ffn : Cert.Pre_finite_ffn.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_ffn m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_finite_ffn [hReference3Ideal : Cert.Reference3Ideal.Facts] [hPre_finite_ffn : Cert.Pre_finite_ffn.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_ffn m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v10_0)) (v1 : (c : Dev Cert.Kernel2Ideal.nD) → Buf (Elt Ideal) ((c.tc : Thread Cert.Kernel2Ideal.nD Cert.Kernel2Ideal.τ).loc Cert.Kernel2Ideal.main_v10_1)) (v2 : (c : Dev Cert.Kernel2Ideal.nD) → Buf (Elt Ideal) ((c.tc : Thread Cert.Kernel2Ideal.nD Cert.Kernel2Ideal.τ).loc Cert.Kernel2Ideal.main_v10_2)) (v3 : (c : Dev Cert.Kernel2Ideal.nD) → Buf (Elt Ideal) ((c.tc : Thread Cert.Kernel2Ideal.nD Cert.Kernel2Ideal.τ).loc Cert.Kernel2Ideal.main_v10_3)) (v4 : (c : Dev Cert.Kernel2Ideal.nD) → Buf (Elt Ideal) ((c.tc : Thread Cert.Kernel2Ideal.nD Cert.Kernel2Ideal.τ).loc Cert.Kernel2Ideal.main_v10_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10_0) = v0 c
          ∧ r.2.mem ((c.tc : Thread Cert.Kernel2Ideal.nD Cert.Kernel2Ideal.τ).loc Cert.Kernel2Ideal.main_v10_1) = v1 c
          ∧ r.2.mem ((c.tc : Thread Cert.Kernel2Ideal.nD Cert.Kernel2Ideal.τ).loc Cert.Kernel2Ideal.main_v10_2) = v2 c
          ∧ r.2.mem ((c.tc : Thread Cert.Kernel2Ideal.nD Cert.Kernel2Ideal.τ).loc Cert.Kernel2Ideal.main_v10_3) = v3 c
          ∧ r.2.mem ((c.tc : Thread Cert.Kernel2Ideal.nD Cert.Kernel2Ideal.τ).loc Cert.Kernel2Ideal.main_v10_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v33) = v0 c
          ∧ r.2.mem ((c.tc : Thread Cert.Reference2Ideal.nD Cert.Reference2Ideal.τ).loc Cert.Reference2Ideal.main_v36) = v1 c
          ∧ r.2.mem ((c.tc : Thread Cert.Reference2Ideal.nD Cert.Reference2Ideal.τ).loc Cert.Reference2Ideal.main_v39) = v2 c
          ∧ r.2.mem ((c.tc : Thread Cert.Reference2Ideal.nD Cert.Reference2Ideal.τ).loc Cert.Reference2Ideal.main_v17) = v3 c
          ∧ r.2.mem ((c.tc : Thread Cert.Reference2Ideal.nD Cert.Reference2Ideal.τ).loc Cert.Reference2Ideal.main_v40) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_finite_ffn [hKernel3Ideal : Cert.Kernel3Ideal.Facts] [hReference3Ideal : Cert.Reference3Ideal.Facts] [hPre_finite_ffn : Cert.Pre_finite_ffn.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_ffn m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v34_0)) (v1 : (c : Dev Cert.Kernel3Ideal.nD) → Buf (Elt Ideal) ((c.tc : Thread Cert.Kernel3Ideal.nD Cert.Kernel3Ideal.τ).loc Cert.Kernel3Ideal.main_v34_1)) (v2 : (c : Dev Cert.Kernel3Ideal.nD) → Buf (Elt Ideal) ((c.tc : Thread Cert.Kernel3Ideal.nD Cert.Kernel3Ideal.τ).loc Cert.Kernel3Ideal.main_v34_2)) (v3 : (c : Dev Cert.Kernel3Ideal.nD) → Buf (Elt Ideal) ((c.tc : Thread Cert.Kernel3Ideal.nD Cert.Kernel3Ideal.τ).loc Cert.Kernel3Ideal.main_v34_3)) (v4 : (c : Dev Cert.Kernel3Ideal.nD) → Buf (Elt Ideal) ((c.tc : Thread Cert.Kernel3Ideal.nD Cert.Kernel3Ideal.τ).loc Cert.Kernel3Ideal.main_v34_4)) (v5 : (c : Dev Cert.Kernel3Ideal.nD) → Buf (Elt Ideal) ((c.tc : Thread Cert.Kernel3Ideal.nD Cert.Kernel3Ideal.τ).loc Cert.Kernel3Ideal.main_v34_5)) (v6 : (c : Dev Cert.Kernel3Ideal.nD) → Buf (Elt Ideal) ((c.tc : Thread Cert.Kernel3Ideal.nD Cert.Kernel3Ideal.τ).loc Cert.Kernel3Ideal.main_v34_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v34_0) = v0 c
          ∧ r.2.mem ((c.tc : Thread Cert.Kernel3Ideal.nD Cert.Kernel3Ideal.τ).loc Cert.Kernel3Ideal.main_v34_1) = v1 c
          ∧ r.2.mem ((c.tc : Thread Cert.Kernel3Ideal.nD Cert.Kernel3Ideal.τ).loc Cert.Kernel3Ideal.main_v34_2) = v2 c
          ∧ r.2.mem ((c.tc : Thread Cert.Kernel3Ideal.nD Cert.Kernel3Ideal.τ).loc Cert.Kernel3Ideal.main_v34_3) = v3 c
          ∧ r.2.mem ((c.tc : Thread Cert.Kernel3Ideal.nD Cert.Kernel3Ideal.τ).loc Cert.Kernel3Ideal.main_v34_4) = v4 c
          ∧ r.2.mem ((c.tc : Thread Cert.Kernel3Ideal.nD Cert.Kernel3Ideal.τ).loc Cert.Kernel3Ideal.main_v34_5) = v5 c
          ∧ r.2.mem ((c.tc : Thread Cert.Kernel3Ideal.nD Cert.Kernel3Ideal.τ).loc Cert.Kernel3Ideal.main_v34_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v95) = v0 c
          ∧ r.2.mem ((c.tc : Thread Cert.Reference3Ideal.nD Cert.Reference3Ideal.τ).loc Cert.Reference3Ideal.main_v96) = v1 c
          ∧ r.2.mem ((c.tc : Thread Cert.Reference3Ideal.nD Cert.Reference3Ideal.τ).loc Cert.Reference3Ideal.main_v99) = v2 c
          ∧ r.2.mem ((c.tc : Thread Cert.Reference3Ideal.nD Cert.Reference3Ideal.τ).loc Cert.Reference3Ideal.main_v102) = v3 c
          ∧ r.2.mem ((c.tc : Thread Cert.Reference3Ideal.nD Cert.Reference3Ideal.τ).loc Cert.Reference3Ideal.main_v105) = v4 c
          ∧ r.2.mem ((c.tc : Thread Cert.Reference3Ideal.nD Cert.Reference3Ideal.τ).loc Cert.Reference3Ideal.main_v106) = v5 c
          ∧ r.2.mem ((c.tc : Thread Cert.Reference3Ideal.nD Cert.Reference3Ideal.τ).loc Cert.Reference3Ideal.main_v107) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v10) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v9) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v5_0)) (v1 : (c : Dev Cert.Kernel10Ideal.nD) → Buf (Elt Ideal) ((c.tc : Thread Cert.Kernel10Ideal.nD Cert.Kernel10Ideal.τ).loc Cert.Kernel10Ideal.main_v5_1)) (v2 : (c : Dev Cert.Kernel10Ideal.nD) → Buf (Elt Ideal) ((c.tc : Thread Cert.Kernel10Ideal.nD Cert.Kernel10Ideal.τ).loc Cert.Kernel10Ideal.main_v5_2)) (v3 : (c : Dev Cert.Kernel10Ideal.nD) → Buf (Elt Ideal) ((c.tc : Thread Cert.Kernel10Ideal.nD Cert.Kernel10Ideal.τ).loc Cert.Kernel10Ideal.main_v5_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v5_0) = v0 c
          ∧ r.2.mem ((c.tc : Thread Cert.Kernel10Ideal.nD Cert.Kernel10Ideal.τ).loc Cert.Kernel10Ideal.main_v5_1) = v1 c
          ∧ r.2.mem ((c.tc : Thread Cert.Kernel10Ideal.nD Cert.Kernel10Ideal.τ).loc Cert.Kernel10Ideal.main_v5_2) = v2 c
          ∧ r.2.mem ((c.tc : Thread Cert.Kernel10Ideal.nD Cert.Kernel10Ideal.τ).loc Cert.Kernel10Ideal.main_v5_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v57) = v0 c
          ∧ r.2.mem ((c.tc : Thread Cert.Reference10Ideal.nD Cert.Reference10Ideal.τ).loc Cert.Reference10Ideal.main_v60) = v1 c
          ∧ r.2.mem ((c.tc : Thread Cert.Reference10Ideal.nD Cert.Reference10Ideal.τ).loc Cert.Reference10Ideal.main_v61) = v2 c
          ∧ r.2.mem ((c.tc : Thread Cert.Reference10Ideal.nD Cert.Reference10Ideal.τ).loc Cert.Reference10Ideal.main_v62) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v7_0)) (v1 : (c : Dev Cert.Kernel11Ideal.nD) → Buf (Elt Ideal) ((c.tc : Thread Cert.Kernel11Ideal.nD Cert.Kernel11Ideal.τ).loc Cert.Kernel11Ideal.main_v7_1)) (v2 : (c : Dev Cert.Kernel11Ideal.nD) → Buf (Elt Ideal) ((c.tc : Thread Cert.Kernel11Ideal.nD Cert.Kernel11Ideal.τ).loc Cert.Kernel11Ideal.main_v7_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v7_0) = v0 c
          ∧ r.2.mem ((c.tc : Thread Cert.Kernel11Ideal.nD Cert.Kernel11Ideal.τ).loc Cert.Kernel11Ideal.main_v7_1) = v1 c
          ∧ r.2.mem ((c.tc : Thread Cert.Kernel11Ideal.nD Cert.Kernel11Ideal.τ).loc Cert.Kernel11Ideal.main_v7_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v22) = v0 c
          ∧ r.2.mem ((c.tc : Thread Cert.Reference11Ideal.nD Cert.Reference11Ideal.τ).loc Cert.Reference11Ideal.main_v0) = v1 c
          ∧ r.2.mem ((c.tc : Thread Cert.Reference11Ideal.nD Cert.Reference11Ideal.τ).loc Cert.Reference11Ideal.main_v1) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite : Cert.Pre_finite.Facts) (hPre_finite_ffn : Cert.Pre_finite_ffn.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_ffn (hKernel3Ideal := hKernel3Ideal) (hPre_finite_ffn := hPre_finite_ffn)
    ∧ quiescent_Reference3Ideal (hReference3Ideal := hReference3Ideal)
    ∧ quiescent_Reference3Ideal_pre_finite_ffn (hReference3Ideal := hReference3Ideal) (hPre_finite_ffn := hPre_finite_ffn)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_ffn (hKernel3Ideal := hKernel3Ideal) (hReference3Ideal := hReference3Ideal) (hPre_finite_ffn := hPre_finite_ffn)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite.lean ====
abbrev S16x4096x128 : Shape := ⟨3, ![16, 4096, 128]⟩
abbrev S16x1x128 : Shape := ⟨3, ![16, 1, 128]⟩
abbrev S_ : Shape := ⟨0, ![]⟩

class Facts : Prop where
  bcast_S_S16x4096x128 : S_.BroadcastsInDim S16x4096x128 (![] : Fin 0 → Fin S16x4096x128.rank)
  reducesTo_S16x4096x128_S_d0_1_2 : S16x4096x128.ReducesTo [0, 1, 2] S_
  h_S_ : 0 < S_.numel
  bcast_S_S16x1x128 : S_.BroadcastsInDim S16x1x128 (![] : Fin 0 → Fin S16x1x128.rank)
  reducesTo_S16x1x128_S_d0_1_2 : S16x1x128.ReducesTo [0, 1, 2] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S16x4096x128 .f32) (main_arg1 : FVec F S16x4096x128 .f32) (main_arg2 : FVec F S16x1x128 .f32) (main_arg3 : FVec F S16x1x128 .f32) : IVec S_ 1 :=
  let main_v0 : FVec F S16x4096x128 .f32 := Host.absf main_arg0
  let main_cst : FVec F S_ .f32 := constant S_ .f32 0x7F800000#32
  let main_v1 : FVec F S16x4096x128 .f32 := broadcastInDim S16x4096x128 ![] bcast_S_S16x4096x128 main_cst
  let main_v2 : IVec S16x4096x128 1 := cmpf .olt main_v0 main_v1
  let main_c : IVec S_ 1 := constantI S_ 1 1#1
  let main_v3 : IVec S_ 1 := (fun x v => Host.reduce IntOp.andi x v reducesTo_S16x4096x128_S_d0_1_2 h_S_) main_v2 main_c
  let main_v4 : FVec F S16x4096x128 .f32 := Host.absf main_arg1
  let main_cst_0 : FVec F S_ .f32 := constant S_ .f32 0x7F800000#32
  let main_v5 : FVec F S16x4096x128 .f32 := broadcastInDim S16x4096x128 ![] bcast_S_S16x4096x128 main_cst_0
  let main_v6 : IVec S16x4096x128 1 := cmpf .olt main_v4 main_v5
  let main_c_1 : IVec S_ 1 := constantI S_ 1 1#1
  let main_v7 : IVec S_ 1 := (fun x v => Host.reduce IntOp.andi x v reducesTo_S16x4096x128_S_d0_1_2 h_S_) main_v6 main_c_1
  let main_v8 : FVec F S16x1x128 .f32 := Host.absf main_arg2
  let main_cst_2 : FVec F S_ .f32 := constant S_ .f32 0x7F800000#32
  let main_v9 : FVec F S16x1x128 .f32 := broadcastInDim S16x1x128 ![] bcast_S_S16x1x128 main_cst_2
  let main_v10 : IVec S16x1x128 1 := cmpf .olt main_v8 main_v9
  let main_c_3 : IVec S_ 1 := constantI S_ 1 1#1
  let main_v11 : IVec S_ 1 := (fun x v => Host.reduce IntOp.andi x v reducesTo_S16x1x128_S_d0_1_2 h_S_) main_v10 main_c_3
  let main_v12 : FVec F S16x1x128 .f32 := Host.absf main_arg3
  let main_cst_4 : FVec F S_ .f32 := constant S_ .f32 0x7F800000#32
  let main_v13 : FVec F S16x1x128 .f32 := broadcastInDim S16x1x128 ![] bcast_S_S16x1x128 main_cst_4
  let main_v14 : IVec S16x1x128 1 := cmpf .olt main_v12 main_v13
  let main_c_5 : IVec S_ 1 := constantI S_ 1 1#1
  let main_v15 : IVec S_ 1 := (fun x v => Host.reduce IntOp.andi x v reducesTo_S16x1x128_S_d0_1_2 h_S_) main_v14 main_c_5
  fn_part1 (F := F) main_v3 main_v7 main_v11 main_v15
-- ==== Pre_finite_ffn.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S1024x2816 .f32) (main_arg5 : FVec F S1024x2816 .f32) (main_arg6 : FVec F S2816x1024 .f32) (main_v3 : IVec S_ 1) (main_v7 : IVec S_ 1) (main_v11 : IVec S_ 1) (main_v15 : IVec S_ 1) : IVec S_ 1 :=
  let main_v16 : FVec F S1024x2816 .f32 := Host.absf main_arg4
  let main_cst_6 : FVec F S_ .f32 := constant S_ .f32 0x7F800000#32
  let main_v17 : FVec F S1024x2816 .f32 := broadcastInDim S1024x2816 ![] bcast_S_S1024x2816 main_cst_6
  let main_v18 : IVec S1024x2816 1 := cmpf .olt main_v16 main_v17
  let main_c_7 : IVec S_ 1 := constantI S_ 1 1#1
  let main_v19 : IVec S_ 1 := (fun x v => Host.reduce IntOp.andi x v reducesTo_S1024x2816_S_d0_1 h_S_) main_v18 main_c_7
  let main_v20 : FVec F S1024x2816 .f32 := Host.absf main_arg5
  let main_cst_8 : FVec F S_ .f32 := constant S_ .f32 0x7F800000#32
  let main_v21 : FVec F S1024x2816 .f32 := broadcastInDim S1024x2816 ![] bcast_S_S1024x2816 main_cst_8
  let main_v22 : IVec S1024x2816 1 := cmpf .olt main_v20 main_v21
  let main_c_9 : IVec S_ 1 := constantI S_ 1 1#1
  let main_v23 : IVec S_ 1 := (fun x v => Host.reduce IntOp.andi x v reducesTo_S1024x2816_S_d0_1 h_S_) main_v22 main_c_9
  let main_v24 : FVec F S2816x1024 .f32 := Host.absf main_arg6
  let main_cst_10 : FVec F S_ .f32 := constant S_ .f32 0x7F800000#32
  let main_v25 : FVec F S2816x1024 .f32 := broadcastInDim S2816x1024 ![] bcast_S_S2816x1024 main_cst_10
  let main_v26 : IVec S2816x1024 1 := cmpf .olt main_v24 main_v25
  let main_c_11 : IVec S_ 1 := constantI S_ 1 1#1
  let main_v27 : IVec S_ 1 := (fun x v => Host.reduce IntOp.andi x v reducesTo_S2816x1024_S_d0_1 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S4096x1024 .f32) (main_arg1 : FVec F S4096x1024 .f32) (main_arg2 : FVec F S1024 .f32) (main_arg3 : FVec F S1024 .f32) (main_arg4 : FVec F S1024x2816 .f32) (main_arg5 : FVec F S1024x2816 .f32) (main_arg6 : FVec F S2816x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : FVec F S1024 .f32 := Host.absf main_arg2
  let main_cst_2 : FVec F S_ .f32 := constant S_ .f32 0x7F800000#32
  let main_v9 : FVec F S1024 .f32 := broadcastInDim S1024 ![] bcast_S_S1024 main_cst_2
  let main_v10 : IVec S1024 1 := cmpf .olt main_v8 main_v9
  let main_c_3 : IVec S_ 1 := constantI S_ 1 1#1
  let main_v11 : IVec S_ 1 := (fun x v => Host.reduce IntOp.andi x v reducesTo_S1024_S_d0 h_S_) main_v10 main_c_3
  let main_v12 : FVec F S1024 .f32 := Host.absf main_arg3
  let main_cst_4 : FVec F S_ .f32 := constant S_ .f32 0x7F800000#32
  let main_v13 : FVec F S1024 .f32 := broadcastInDim S1024 ![] bcast_S_S1024 main_cst_4
  let main_v14 : IVec S1024 1 := cmpf .olt main_v12 main_v13
  let main_c_5 : IVec S_ 1 := constantI S_ 1 1#1
  let main_v15 : IVec S_ 1 := (fun x v => Host.reduce IntOp.andi x v reducesTo_S1024_S_d0 h_S_) main_v14 main_c_5
  fn_part1 (F := F) main_arg4 main_arg5 main_arg6 main_v3 main_v7 main_v11 main_v15
-- ==== Kernel.lean ====
abbrev S16x4096x128 : Shape := ⟨3, ![16, 4096, 128]⟩
abbrev S16x1x128 : Shape := ⟨3, ![16, 1, 128]⟩
abbrev S4x1024x128 : Shape := ⟨3, ![4, 1024, 128]⟩
abbrev S4x1x128 : Shape := ⟨3, ![4, 1, 128]⟩
abbrev S4x8x128 : Shape := ⟨3, ![4, 8, 128]⟩
abbrev S8x128 : Shape := ⟨2, ![8, 128]⟩
abbrev S1x1x128 : Shape := ⟨3, ![1, 1, 128]⟩
abbrev S1x128 : Shape := ⟨2, ![1, 128]⟩
abbrev S1x8x128 : Shape := ⟨3, ![1, 8, 128]⟩

abbrev nBuf : Space → Nat
  | .hbm => 6
  | .vmem => 14
  | .smem => 0
  | _ => 0

abbrev bufTy : (tb : Table) → Fin (tcTables nBuf tb) → BufTy
  | .hbm, ⟨0, _⟩ => ⟨S16x4096x128, .f32⟩
  | .hbm, ⟨1, _⟩ => ⟨S16x4096x128, .f32⟩
  | .hbm, ⟨2, _⟩ => ⟨S16x1x128, .f32⟩
  | .hbm, ⟨3, _⟩ => ⟨S16x1x128, .f32⟩
  | .hbm, ⟨4, _⟩ => ⟨S16x4096x128, .f32⟩
  | .hbm, ⟨5, _⟩ => ⟨S16x4096x128, .f32⟩
  | .local _ .vmem, ⟨0, _⟩ => ⟨S4x1024x128, .f32⟩
  | .local _ .vmem, ⟨1, _⟩ => ⟨S4x1024x128, .f32⟩
  | .local _ .vmem, ⟨2, _⟩ => ⟨S4x1024x128, .f32⟩
  | .local _ .vmem, ⟨3, _⟩ => ⟨S4x1024x128, .f32⟩
  | .local _ .vmem, ⟨4, _⟩ => ⟨S4x1x128, .f32⟩
  | .local _ .vmem, ⟨5, _⟩ => ⟨S4x1x128, .f32⟩
  | .local _ .vmem, ⟨6, _⟩ => ⟨S4x1x128, .f32⟩
  | .local _ .vmem, ⟨7, _⟩ => ⟨S4x1x128, .f32⟩
  | .local _ .vmem, ⟨8, _⟩ => ⟨S4x1024x128, .f32⟩
  | .local _ .vmem, ⟨9, _⟩ => ⟨S4x1024x128, .f32⟩
  | .local _ .vmem, ⟨10, _⟩ => ⟨S4x1024x128, .f32⟩
  | .local _ .vmem, ⟨11, _⟩ => ⟨S4x1024x128, .f32⟩
  | .local _ .vmem, ⟨12, _⟩ => ⟨S4x8x128, .f32⟩
  | .local _ .vmem, ⟨13, _⟩ => ⟨S4x8x128, .f32⟩
  | _, _ => ⟨S16x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32_149 : BitVec 32 := 0#32
  let c128_i32 : BitVec 32 := 128#32
  let v500 : BitVec 32 := Scalar.addi c0_i32_149 c128_i32
  let c1_i32_150 : BitVec 32 := 1#32
  ⟨c0_i32_149, v500, c1_i32_150⟩
def k0_mult1 (k0_t1 : Fin k0_t1_loop.trips) : BitVec 32 :=
  let c127_i32 : BitVec 32 := 127#32
  let c0_i32_149 : BitVec 32 := 0#32
  let c1_i32_150 : BitVec 32 := 1#32
  let arg10 : BitVec 32 := Scf.iv c0_i32_149 c1_i32_150 k0_t1
  let v526 : BitVec 32 := Scalar.subi c127_i32 arg10
  let c8_i32 : BitVec 32 := 8#32
  let v527 : BitVec 32 := Scalar.muli v526 c8_i32
  v527
def k0_off1 (k0_t1 : Fin k0_t1_loop.trips) : Fin 3 → Nat :=
  let c0_176 : Index := 0#32
  let c127_i32 : BitVec 32 := 127#32
  let c0_i32_149 : BitVec 32 := 0#32
  let c1_i32_150 : BitVec 32 := 1#32
  let arg10 : BitVec 32 := Scf.iv c0_i32_149 c1_i32_150 k0_t1
  let v526 : BitVec 32 := Scalar.subi c127_i32 arg10
  let c8_i32 : BitVec 32 := 8#32
  let v527 : BitVec 32 := Scalar.muli v526 c8_i32
  let v528 : BitVec 32 := v527
  let v529 : Index := Scalar.indexCast v528
  let c0_177 : Index := 0#32
  ![0, v529.toNat, 0]
def k0_off2 (k0_t1 : Fin k0_t1_loop.trips) : Fin 3 → Nat :=
  let c1_190 : Index := 1#32
  let c127_i32 : BitVec 32 := 127#32
  let c0_i32_149 : BitVec 32 := 0#32
  let c1_i32_150 : BitVec 32 := 1#32
  let arg10 : BitVec 32 := Scf.iv c0_i32_149 c1_i32_150 k0_t1
  let v526 : BitVec 32 := Scalar.subi c127_i32 arg10
  let c8_i32 : BitVec 32 := 8#32
  let v527 : BitVec 32 := Scalar.muli v526 c8_i32
  let v528 : BitVec 32 := v527
  let v587 : Index := Scalar.indexCast v528
  let c0_191 : Index := 0#32
  ![1, v587.toNat, 0]
def k0_off3 (k0_t1 : Fin k0_t1_loop.trips) : Fin 3 → Nat :=
  let c2_204 : Index := 2#32
  let c127_i32 : BitVec 32 := 127#32
  let c0_i32_149 : BitVec 32 := 0#32
  let c1_i32_150 : BitVec 32 := 1#32
  let arg10 : BitVec 32 := Scf.iv c0_i32_149 c1_i32_150 k0_t1
  let v526 : BitVec 32 := Scalar.subi c127_i32 arg10
  let c8_i32 : BitVec 32 := 8#32
  let v527 : BitVec 32 := Scalar.muli v526 c8_i32
  let v528 : BitVec 32 := v527
  let v645 : Index := Scalar.indexCast v528
  let c0_205 : Index := 0#32
  ![2, v645.toNat, 0]
def k0_off4 (k0_t1 : Fin k0_t1_loop.trips) : Fin 3 → Nat :=
  let c3_218 : Index := 3#32
  let c127_i32 : BitVec 32 := 127#32
  let c0_i32_149 : BitVec 32 := 0#32
  let c1_i32_150 : BitVec 32 := 1#32
  let arg10 : BitVec 32 := Scf.iv c0_i32_149 c1_i32_150 k0_t1
  let v526 : BitVec 32 := Scalar.subi c127_i32 arg10
  let c8_i32 : BitVec 32 := 8#32
  let v527 : BitVec 32 := Scalar.muli v526 c8_i32
  let v528 : BitVec 32 := v527
  let v703 : Index := Scalar.indexCast v528
  let c0_219 : Index := 0#32
  ![3, v703.toNat, 0]
def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

abbrev stage0_0 : Fin 2 → Memref sig .tc .vmem S4x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S16x4096x128 : Shape := ⟨3, ![16, 4096, 128]⟩
abbrev S16x1x128 : Shape := ⟨3, ![16, 1, 128]⟩
abbrev S_ : Shape := ⟨0, ![]⟩
abbrev S16x128 : Shape := ⟨2, ![16, 128]⟩
abbrev S4096x16x128 : Shape := ⟨3, ![4096, 16, 128]⟩
abbrev S1x16x128 : Shape := ⟨3, ![1, 16, 128]⟩

abbrev nBuf : Space → Nat
  | .hbm => 67
  | .vmem => 0
  | .smem => 0
  | _ => 0

abbrev bufTy : (tb : Table) → Fin (tcTables nBuf tb) → BufTy
  | .hbm, ⟨0, _⟩ => ⟨S16x4096x128, .f32⟩
  | .hbm, ⟨1, _⟩ => ⟨S16x4096x128, .f32⟩
  | .hbm, ⟨2, _⟩ => ⟨S16x1x128, .f32⟩
  | .hbm, ⟨3, _⟩ => ⟨S16x1x128, .f32⟩
  | .hbm, ⟨4, _⟩ => ⟨S_, .f32⟩
  | .hbm, ⟨5, _⟩ => ⟨S16x128, .f32⟩
  | .hbm, ⟨6, _⟩ => ⟨S16x128, .f32⟩
  | .hbm, ⟨7, _⟩ => ⟨S16x128, .f32⟩
  | .hbm, ⟨8, _⟩ => ⟨S16x128, .f32⟩
  | .hbm, ⟨9, _⟩ => ⟨S16x128, .f32⟩
  | .hbm, ⟨10, _⟩ => ⟨S4096x16x128, .f32⟩
  | .hbm, ⟨11, _⟩ => ⟨S4096x16x128, .f32⟩
  | .hbm, ⟨12, _⟩ => ⟨S_, .f32⟩
  | .hbm, ⟨13, _⟩ => ⟨S16x128, .f32⟩
  | .hbm, ⟨14, _⟩ => ⟨S_, .f32⟩
  | .hbm, ⟨15, _⟩ => ⟨S16x128, .f32⟩
  | .hbm, ⟨16, _⟩ => ⟨S_, .f32⟩
  | .hbm, ⟨17, _⟩ => ⟨S4096x16x128, .f32⟩
  | .hbm, ⟨18, _⟩ => ⟨S_, .f32⟩
  | .hbm, ⟨19, _⟩ => ⟨S4096x16x128, .f32⟩
  | .hbm, ⟨20, _⟩ => ⟨S_, .i32⟩
  | .hbm, ⟨21, _⟩ => ⟨S4096x16x128, .f32⟩
  | .hbm, ⟨22, _⟩ => ⟨S4096x16x128, .f32⟩
  | .hbm, ⟨23, _⟩ => ⟨S16x128, .f32⟩
  | .hbm, ⟨24, _⟩ => ⟨S16x128, .f32⟩
  | .hbm, ⟨25, _⟩ => ⟨S16x128, .f32⟩
  | .hbm, ⟨26, _⟩ => ⟨S16x128, .f32⟩
  | .hbm, ⟨27, _⟩ => ⟨S_, .i32⟩
  | .hbm, ⟨28, _⟩ => ⟨S16x128, .f32⟩
  | .hbm, ⟨29, _⟩ => ⟨S16x128, .f32⟩
  | .hbm, ⟨30, _⟩ => ⟨S4096x16x128, .f32⟩
  | .hbm, ⟨31, _⟩ => ⟨S4096x16x128, .f32⟩
  | .hbm, ⟨32, _⟩ => ⟨S_, .i32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S1x16x128, .f32⟩
  | .hbm, ⟨41, _⟩ => ⟨S16x128, .f32⟩
  | .hbm, ⟨42, _⟩ => ⟨S_, .i32⟩
  | .hbm, ⟨43, _⟩ => ⟨S_, .i32⟩
  | .hbm, ⟨44, _⟩ => ⟨S1x16x128, .f32⟩
  | .hbm, ⟨45, _⟩ => ⟨S16x128, .f32⟩
  | .hbm, ⟨46, _⟩ => ⟨S16x128, .f32⟩
  | .hbm, ⟨47, _⟩ => ⟨S16x128, .f32⟩
  | .hbm, ⟨48, _⟩ => ⟨S16x128, .f32⟩
  | .hbm, ⟨49, _⟩ => ⟨S16x128, .f32⟩
  | .hbm, ⟨50, _⟩ => ⟨S16x128, .f32⟩
  | .hbm, ⟨51, _⟩ => ⟨S16x128, .f32⟩
  | .hbm, ⟨52, _⟩ => ⟨S16x128, .f32⟩
  | .hbm, ⟨53, _⟩ => ⟨S16x128, .f32⟩
  | .hbm, ⟨54, _⟩ => ⟨S16x128, .f32⟩
  | .hbm, ⟨55, _⟩ => ⟨S1x16x128, .f32⟩
  | .hbm, ⟨56, _⟩ => ⟨S_, .i32⟩
  | .hbm, ⟨57, _⟩ => ⟨S_, .i32⟩
  | .hbm, ⟨58, _⟩ => ⟨S4096x16x128, .f32⟩
  | .hbm, ⟨59, _⟩ => ⟨S1x16x128, .f32⟩
  | .hbm, ⟨60, _⟩ => ⟨S_, .i32⟩
  | .hbm, ⟨61, _⟩ => ⟨S_, .i32⟩
  | .hbm, ⟨62, _⟩ => ⟨S4096x16x128, .f32⟩
  | .hbm, ⟨63, _⟩ => ⟨S_, .i32⟩
  | .hbm, ⟨64, _⟩ => ⟨S_, .i32⟩
  | .hbm, ⟨65, _⟩ => ⟨S16x4096x128, .f32⟩
  | .hbm, ⟨66, _⟩ => ⟨S16x4096x128, .f32⟩
  | _, _ => ⟨S16x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_c : Ref sig .tc := ⟨.hbm, 20, rfl⟩
abbrev main_v11_0 : Ref sig .tc := ⟨.hbm, 21, rfl⟩
abbrev main_v11_1 : Ref sig .tc := ⟨.hbm, 22, rfl⟩
abbrev main_v11_2 : Ref sig .tc := ⟨.hbm, 23, rfl⟩
abbrev main_v11_3 : Ref sig .tc := ⟨.hbm, 24, rfl⟩
abbrev main_v11_4 : Ref sig .tc := ⟨.hbm, 25, rfl⟩
abbrev main_v11_5 : Ref sig .tc := ⟨.hbm, 26, rfl⟩
abbrev main_v11_6 : Ref sig .tc := ⟨.hbm, 27, rfl⟩
abbrev main_v11_7 : Ref sig .tc := ⟨.hbm, 28, rfl⟩
abbrev main_v11_8 : Ref sig .tc := ⟨.hbm, 29, rfl⟩
abbrev main_v11_9 : Ref sig .tc := ⟨.hbm, 30, rfl⟩
abbrev main_v11_10 : Ref sig .tc := ⟨.hbm, 31, rfl⟩
abbrev main_while0c_c_14 : Ref sig .tc := ⟨.hbm, 32, rfl⟩
abbrev main_while0c_v14 : Ref sig .tc := ⟨.hbm, 33, rfl⟩
abbrev main_while0b_c_14 : Ref sig .tc := ⟨.hbm, 34, rfl⟩
abbrev main_while0b_v14 : Ref sig .tc := ⟨.hbm, 35, rfl⟩
abbrev main_while0b_c_15 : Ref sig .tc := ⟨.hbm, 36, rfl⟩
abbrev main_while0b_v15 : Ref sig .tc := ⟨.hbm, 37, rfl⟩
abbrev main_while0b_call0_c : Ref sig .tc := ⟨.hbm, 38, rfl⟩
abbrev main_while0b_call0_c_0 : Ref sig .tc := ⟨.hbm, 39, rfl⟩
abbrev main_while0b_call0_v0 : Ref sig .tc := ⟨.hbm, 40, rfl⟩
abbrev main_while0b_v16 : Ref sig .tc := ⟨.hbm, 41, rfl⟩
abbrev main_while0b_call1_c : Ref sig .tc := ⟨.hbm, 42, rfl⟩
abbrev main_while0b_call1_c_0 : Ref sig .tc := ⟨.hbm, 43, rfl⟩
abbrev main_while0b_call1_v0 : Ref sig .tc := ⟨.hbm, 44, rfl⟩
abbrev main_while0b_v17 : Ref sig .tc := ⟨.hbm, 45, rfl⟩
abbrev main_while0b_v18 : Ref sig .tc := ⟨.hbm, 46, rfl⟩
abbrev main_while0b_v19 : Ref sig .tc := ⟨.hbm, 47, rfl⟩
abbrev main_while0b_v20 : Ref sig .tc := ⟨.hbm, 48, rfl⟩
abbrev main_while0b_v21 : Ref sig .tc := ⟨.hbm, 49, rfl⟩
abbrev main_while0b_v22 : Ref sig .tc := ⟨.hbm, 50, rfl⟩
abbrev main_while0b_v23 : Ref sig .tc := ⟨.hbm, 51, rfl⟩
abbrev main_while0b_v24 : Ref sig .tc := ⟨.hbm, 52, rfl⟩
abbrev main_while0b_v25 : Ref sig .tc := ⟨.hbm, 53, rfl⟩
abbrev main_while0b_v26 : Ref sig .tc := ⟨.hbm, 54, rfl⟩
abbrev main_while0b_call2_v0 : Ref sig .tc := ⟨.hbm, 55, rfl⟩
abbrev main_while0b_call2_c : Ref sig .tc := ⟨.hbm, 56, rfl⟩
abbrev main_while0b_call2_c_0 : Ref sig .tc := ⟨.hbm, 57, rfl⟩
abbrev main_while0b_v27 : Ref sig .tc := ⟨.hbm, 58, rfl⟩
abbrev main_while0b_call3_v0 : Ref sig .tc := ⟨.hbm, 59, rfl⟩
abbrev main_while0b_call3_c : Ref sig .tc := ⟨.hbm, 60, rfl⟩
abbrev main_while0b_call3_c_0 : Ref sig .tc := ⟨.hbm, 61, rfl⟩
abbrev main_while0b_v28 : Ref sig .tc := ⟨.hbm, 62, rfl⟩
abbrev main_while0b_c_16 : Ref sig .tc := ⟨.hbm, 63, rfl⟩
abbrev main_while0b_v29 : Ref sig .tc := ⟨.hbm, 64, rfl⟩
abbrev main_v12 : Ref sig .tc := ⟨.hbm, 65, rfl⟩
abbrev main_v13 : Ref sig .tc := ⟨.hbm, 66, rfl⟩

abbrev nD : Nat := 1
abbrev τ : Topo := Topo.v7x

variable {F : FTy → Type} [FloatOps F]

abbrev main_while0_count : Scf.Loop 32 := ⟨0#32, 4096#32, 1#32⟩
-- ==== Kernel2.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S1x1x1024 : Shape := ⟨3, ![1, 1, 1024]⟩
abbrev S4x1x704x1024 : Shape := ⟨4, ![4, 1, 704, 1024]⟩
abbrev S4x4096x704 : Shape := ⟨3, ![4, 4096, 704]⟩
abbrev S512x1024 : Shape := ⟨2, ![512, 1024]⟩
abbrev S4x512x704 : Shape := ⟨3, ![4, 512, 704]⟩
abbrev S1x1024 : Shape := ⟨2, ![1, 1024]⟩
abbrev S512 : Shape := ⟨1, ![512]⟩
abbrev S512x1 : Shape := ⟨2, ![512, 1]⟩
abbrev S1x1x704x1024 : Shape := ⟨4, ![1, 1, 704, 1024]⟩
abbrev S704x1024 : Shape := ⟨2, ![704, 1024]⟩
abbrev S512x704 : Shape := ⟨2, ![512, 704]⟩
abbrev S1x512x704 : Shape := ⟨3, ![1, 512, 704]⟩

abbrev nBuf : Space → Nat
  | .hbm => 21
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1x1x1024, .f32⟩
  | .hbm, ⟨7, _⟩ => ⟨S1x1x1024, .f32⟩
  | .hbm, ⟨8, _⟩ => ⟨S2816x1024, .f32⟩
  | .hbm, ⟨9, _⟩ => ⟨S4x1x704x1024, .f32⟩
  | .hbm, ⟨10, _⟩ => ⟨S4x1x704x1024, .bf16⟩
  | .hbm, ⟨11, _⟩ => ⟨S2816x1024, .f32⟩
  | .hbm, ⟨12, _⟩ => ⟨S4x1x704x1024, .f32⟩
  | .hbm, ⟨13, _⟩ => ⟨S4x1x704x1024, .bf16⟩
  | .hbm, ⟨14, _⟩ => ⟨S4x1x704x1024, .f32⟩
  | .hbm, ⟨15, _⟩ => ⟨S4x1x704x1024, .bf16⟩
  | .hbm, ⟨16, _⟩ => ⟨S4096x1024, .f32⟩
  | .hbm, ⟨17, _⟩ => ⟨S4x4096x704, .bf16⟩
  | .hbm, ⟨18, _⟩ => ⟨S4x4096x704, .bf16⟩
  | .hbm, ⟨19, _⟩ => ⟨S4096x1024, .f32⟩
  | .hbm, ⟨20, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S4x1x704x1024, .bf16⟩
  | .local _ .vmem, ⟨5, _⟩ => ⟨S4x1x704x1024, .bf16⟩
  | .local _ .vmem, ⟨6, _⟩ => ⟨S4x1x704x1024, .bf16⟩
  | .local _ .vmem, ⟨7, _⟩ => ⟨S512x1024, .f32⟩
  | .local _ .vmem, ⟨8, _⟩ => ⟨S512x1024, .f32⟩
  | .local _ .vmem, ⟨9, _⟩ => ⟨S4x512x704, .bf16⟩
  | .local _ .vmem, ⟨10, _⟩ => ⟨S4x512x704, .bf16⟩
  | .local _ .vmem, ⟨11, _⟩ => ⟨S4x512x704, .bf16⟩
  | .local _ .vmem, ⟨12, _⟩ => ⟨S4x512x704, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev main_v10_3 : Ref sig .tc := ⟨.hbm, 19, rfl⟩
abbrev main_v10_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x512x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x512x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩
abbrev S4096x4x704 : Shape := ⟨3, ![4096, 4, 704]⟩
abbrev S4x4096x704 : Shape := ⟨3, ![4, 4096, 704]⟩

abbrev nBuf : Space → Nat
  | .hbm => 62
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S4096x1, .f32⟩
  | .hbm, ⟨46, _⟩ => ⟨S4096x1024, .f32⟩
  | .hbm, ⟨47, _⟩ => ⟨S4096x1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x4x704, .f32⟩
  | .hbm, ⟨56, _⟩ => ⟨S4x4096x704, .f32⟩
  | .hbm, ⟨57, _⟩ => ⟨S4x4096x704, .bf16⟩
  | .hbm, ⟨58, _⟩ => ⟨S4096x4x704, .f32⟩
  | .hbm, ⟨59, _⟩ => ⟨S4x4096x704, .f32⟩
  | .hbm, ⟨60, _⟩ => ⟨S4x4096x704, .bf16⟩
  | .hbm, ⟨61, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩

abbrev nD : Nat := 1
abbrev τ : Topo := Topo.v7x

variable {F : FTy → Type} [FloatOps F]
-- ==== Kernel3.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩
abbrev S4096x4x704 : Shape := ⟨3, ![4096, 4, 704]⟩
abbrev S4x4096x704 : Shape := ⟨3, ![4, 4096, 704]⟩
abbrev S1x1x1024 : Shape := ⟨3, ![1, 1, 1024]⟩
abbrev S4x1x704x1024 : Shape := ⟨4, ![4, 1, 704, 1024]⟩
abbrev S256x1024 : Shape := ⟨2, ![256, 1024]⟩
abbrev S4x256x704 : Shape := ⟨3, ![4, 256, 704]⟩
abbrev S256 : Shape := ⟨1, ![256]⟩
abbrev S256x1 : Shape := ⟨2, ![256, 1]⟩
abbrev S1x1x704x1024 : Shape := ⟨4, ![1, 1, 704, 1024]⟩
abbrev S704x1024 : Shape := ⟨2, ![704, 1024]⟩
abbrev S256x704 : Shape := ⟨2, ![256, 704]⟩
abbrev S1x256x704 : Shape := ⟨3, ![1, 256, 704]⟩

abbrev nBuf : Space → Nat
  | .hbm => 59
  | .vmem => 27
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S_, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x1024, .f32⟩
  | .hbm, ⟨36, _⟩ => ⟨S4096x4x704, .f32⟩
  | .hbm, ⟨37, _⟩ => ⟨S4x4096x704, .f32⟩
  | .hbm, ⟨38, _⟩ => ⟨S4x4096x704, .bf16⟩
  | .hbm, ⟨39, _⟩ => ⟨S4096x4x704, .f32⟩
  | .hbm, ⟨40, _⟩ => ⟨S4x4096x704, .f32⟩
  | .hbm, ⟨41, _⟩ => ⟨S4x4096x704, .bf16⟩
  | .hbm, ⟨42, _⟩ => ⟨S1x1x1024, .f32⟩
  | .hbm, ⟨43, _⟩ => ⟨S1x1x1024, .f32⟩
  | .hbm, ⟨44, _⟩ => ⟨S2816x1024, .f32⟩
  | .hbm, ⟨45, _⟩ => ⟨S4x1x704x1024, .f32⟩
  | .hbm, ⟨46, _⟩ => ⟨S4x1x704x1024, .bf16⟩
  | .hbm, ⟨47, _⟩ => ⟨S2816x1024, .f32⟩
  | .hbm, ⟨48, _⟩ => ⟨S4x1x704x1024, .f32⟩
  | .hbm, ⟨49, _⟩ => ⟨S4x1x704x1024, .bf16⟩
  | .hbm, ⟨50, _⟩ => ⟨S4x1x704x1024, .f32⟩
  | .hbm, ⟨51, _⟩ => ⟨S4x1x704x1024, .bf16⟩
  | .hbm, ⟨52, _⟩ => ⟨S4096x1024, .f32⟩
  | .hbm, ⟨53, _⟩ => ⟨S4096x1024, .bf16⟩
  | .hbm, ⟨54, _⟩ => ⟨S4x4096x704, .bf16⟩
  | .hbm, ⟨55, _⟩ => ⟨S4x4096x704, .bf16⟩
  | .hbm, ⟨56, _⟩ => ⟨S4x4096x704, .bf16⟩
  | .hbm, ⟨57, _⟩ => ⟨S1x1024, .f32⟩
  | .hbm, ⟨58, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S4x256x704, .bf16⟩
  | .local _ .vmem, ⟨7, _⟩ => ⟨S4x256x704, .bf16⟩
  | .local _ .vmem, ⟨8, _⟩ => ⟨S4x256x704, .bf16⟩
  | .local _ .vmem, ⟨9, _⟩ => ⟨S4x256x704, .bf16⟩
  | .local _ .vmem, ⟨10, _⟩ => ⟨S1x1x1024, .f32⟩
  | .local _ .vmem, ⟨11, _⟩ => ⟨S1x1x1024, .f32⟩
  | .local _ .vmem, ⟨12, _⟩ => ⟨S4x1x704x1024, .bf16⟩
  | .local _ .vmem, ⟨13, _⟩ => ⟨S4x1x704x1024, .bf16⟩
  | .local _ .vmem, ⟨14, _⟩ => ⟨S4x1x704x1024, .bf16⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S4x256x704, .bf16⟩
  | .local _ .vmem, ⟨20, _⟩ => ⟨S4x256x704, .bf16⟩
  | .local _ .vmem, ⟨21, _⟩ => ⟨S4x256x704, .bf16⟩
  | .local _ .vmem, ⟨22, _⟩ => ⟨S4x256x704, .bf16⟩
  | .local _ .vmem, ⟨23, _⟩ => ⟨S4x256x704, .bf16⟩
  | .local _ .vmem, ⟨24, _⟩ => ⟨S4x256x704, .bf16⟩
  | .local _ .vmem, ⟨25, _⟩ => ⟨S1x1024, .f32⟩
  | .local _ .vmem, ⟨26, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34_0 : Ref sig .tc := ⟨.hbm, 52, rfl⟩
abbrev main_v34_1 : Ref sig .tc := ⟨.hbm, 53, rfl⟩
abbrev main_v34_2 : Ref sig .tc := ⟨.hbm, 54, rfl⟩
abbrev main_v34_3 : Ref sig .tc := ⟨.hbm, 55, rfl⟩
abbrev main_v34_4 : Ref sig .tc := ⟨.hbm, 56, rfl⟩
abbrev main_v34_5 : Ref sig .tc := ⟨.hbm, 57, rfl⟩
abbrev main_v34_6 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg16_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem16_0 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1x704x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x1x704x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x1x704x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x256x704 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x256x704 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4x256x704 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Reference3Ideal.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4096x2816 : Shape := ⟨2, ![4096, 2816]⟩
abbrev S4096 : Shape := ⟨1, ![4096]⟩
abbrev S4096x1 : Shape := ⟨2, ![4096, 1]⟩
abbrev S1x1024 : Shape := ⟨2, ![1, 1024]⟩
abbrev S4096x4x704 : Shape := ⟨3, ![4096, 4, 704]⟩
abbrev S4x4096x704 : Shape := ⟨3, ![4, 4096, 704]⟩

abbrev nBuf : Space → Nat
  | .hbm => 152
  | .vmem => 0
  | .smem => 0
  | _ => 0

abbrev hbmTy0_0 (i : Nat) : BufTy := match i % 128 with
  | 0 => ⟨S4096x1024, .f32⟩
  | 1 => ⟨S4096x1024, .f32⟩
  | 2 => ⟨S1024, .f32⟩
  | 3 => ⟨S1024, .f32⟩
  | 4 => ⟨S1024x2816, .f32⟩
  | 5 => ⟨S1024x2816, .f32⟩
  | 6 => ⟨S2816x1024, .f32⟩
  | 7 => ⟨S_, .f32⟩
  | 8 => ⟨S4096x2816, .f32⟩
  | 9 => ⟨S_, .f32⟩
  | 10 => ⟨S4096x1024, .f32⟩
  | 11 => ⟨S4096x1024, .f32⟩
  | 12 => ⟨S_, .f32⟩
  | 13 => ⟨S4096, .f32⟩
  | 14 => ⟨S4096x1, .f32⟩
  | 15 => ⟨S_, .f32⟩
  | 16 => ⟨S4096x1, .f32⟩
  | 17 => ⟨S4096x1, .f32⟩
  | 18 => ⟨S_, .f32⟩
  | 19 => ⟨S4096x1, .f32⟩
  | 20 => ⟨S4096x1, .f32⟩
  | 21 => ⟨S4096x1, .f32⟩
  | 22 => ⟨S4096x1, .f32⟩
  | 23 => ⟨S_, .f32⟩
  | 24 => ⟨S4096x1, .f32⟩
  | 25 => ⟨S4096x1, .f32⟩
  | 26 => ⟨S4096x1024, .f32⟩
  | 27 => ⟨S4096x1024, .f32⟩
  | 28 => ⟨S1x1024, .f32⟩
  | 29 => ⟨S4096x1024, .f32⟩
  | 30 => ⟨S4096x1024, .f32⟩
  | 31 => ⟨S4096x2816, .f32⟩
  | 32 => ⟨S4096x2816, .f32⟩
  | 33 => ⟨S4096x2816, .f32⟩
  | 34 => ⟨S4096x2816, .f32⟩
  | 35 => ⟨S_, .f32⟩
  | 36 => ⟨S4096x2816, .f32⟩
  | 37 => ⟨S4096x2816, .f32⟩
  | 38 => ⟨S_, .f32⟩
  | 39 => ⟨S4096x2816, .f32⟩
  | 40 => ⟨S4096x2816, .f32⟩
  | 41 => ⟨S_, .f32⟩
  | 42 => ⟨S4096x2816, .f32⟩
  | 43 => ⟨S4096x2816, .f32⟩
  | 44 => ⟨S4096x2816, .f32⟩
  | 45 => ⟨S4096x2816, .f32⟩
  | 46 => ⟨S4096x2816, .f32⟩
  | 47 => ⟨S4096x2816, .f32⟩
  | 48 => ⟨S4096x2816, .f32⟩
  | 49 => ⟨S4096x1024, .f32⟩
  | 50 => ⟨S4096x1024, .f32⟩
  | 51 => ⟨S4096x1024, .f32⟩
  | 52 => ⟨S_, .f32⟩
  | 53 => ⟨S4096, .f32⟩
  | 54 => ⟨S4096x1, .f32⟩
  | 55 => ⟨S_, .f32⟩
  | 56 => ⟨S4096x1, .f32⟩
  | 57 => ⟨S4096x1, .f32⟩
  | 58 => ⟨S_, .f32⟩
  | 59 => ⟨S4096x1, .f32⟩
  | 60 => ⟨S4096x1, .f32⟩
  | 61 => ⟨S4096x1, .f32⟩
  | 62 => ⟨S4096x1, .f32⟩
  | 63 => ⟨S_, .f32⟩
  | 64 => ⟨S4096x1, .f32⟩
  | 65 => ⟨S4096x1, .f32⟩
  | 66 => ⟨S4096x1024, .f32⟩
  | 67 => ⟨S4096x1024, .f32⟩
  | 68 => ⟨S1x1024, .f32⟩
  | 69 => ⟨S4096x1024, .f32⟩
  | 70 => ⟨S4096x1024, .f32⟩
  | 71 => ⟨S_, .f32⟩
  | 72 => ⟨S4096x1024, .f32⟩
  | 73 => ⟨S4096x1024, .f32⟩
  | 74 => ⟨S4096x1024, .f32⟩
  | 75 => ⟨S4096x1024, .f32⟩
  | 76 => ⟨S_, .f32⟩
  | 77 => ⟨S4096x1024, .f32⟩
  | 78 => ⟨S4096x1024, .f32⟩
  | 79 => ⟨S4096x1024, .f32⟩
  | 80 => ⟨S_, .f32⟩
  | 81 => ⟨S1024, .f32⟩
  | 82 => ⟨S1x1024, .f32⟩
  | 83 => ⟨S4096x1024, .f32⟩
  | 84 => ⟨S4096x1024, .f32⟩
  | 85 => ⟨S_, .f32⟩
  | 86 => ⟨S1024, .f32⟩
  | 87 => ⟨S4096x1024, .f32⟩
  | 88 => ⟨S_, .f32⟩
  | 89 => ⟨S4096, .f32⟩
  | 90 => ⟨S4096x1, .f32⟩
  | 91 => ⟨S4096x1024, .f32⟩
  | 92 => ⟨S4096x1024, .f32⟩
  | 93 => ⟨S4096x1, .f32⟩
  | 94 => ⟨S_, .f32⟩
  | 95 => ⟨S4096x1, .f32⟩
  | 96 => ⟨S4096x1, .f32⟩
  | 97 => ⟨S_, .f32⟩
  | 98 => ⟨S4096, .f32⟩
  | 99 => ⟨S4096x1024, .f32⟩
  | 100 => ⟨S4096x1024, .f32⟩
  | 101 => ⟨S4096x1024, .f32⟩
  | 102 => ⟨S4096x1024, .f32⟩
  | 103 => ⟨S4096x1024, .f32⟩
  | 104 => ⟨S4096x2816, .f32⟩
  | 105 => ⟨S4096x2816, .f32⟩
  | 106 => ⟨S4096x2816, .f32⟩
  | 107 => ⟨S4096x1024, .f32⟩
  | 108 => ⟨S4096x2816, .f32⟩
  | 109 => ⟨S4096x2816, .f32⟩
  | 110 => ⟨S4096x2816, .f32⟩
  | 111 => ⟨S4096x2816, .f32⟩
  | 112 => ⟨S4096x1024, .f32⟩
  | 113 => ⟨S4096x1024, .f32⟩
  | 114 => ⟨S4096x1024, .f32⟩
  | 115 => ⟨S_, .f32⟩
  | 116 => ⟨S1024, .f32⟩
  | 117 => ⟨S1x1024, .f32⟩
  | 118 => ⟨S4096x1024, .f32⟩
  | 119 => ⟨S4096x1024, .f32⟩
  | 120 => ⟨S_, .f32⟩
  | 121 => ⟨S1024, .f32⟩
  | 122 => ⟨S4096x1024, .f32⟩
  | 123 => ⟨S_, .f32⟩
  | 124 => ⟨S4096, .f32⟩
  | 125 => ⟨S4096x1, .f32⟩
  | 126 => ⟨S4096x1024, .f32⟩
  | 127 => ⟨S4096x1024, .f32⟩
  | _ => ⟨S4096x1024, .f32⟩

abbrev hbmTy0_1 (i : Nat) : BufTy := match i % 128 with
  | 0 => ⟨S4096x1024, .f32⟩
  | 1 => ⟨S4096x1, .f32⟩
  | 2 => ⟨S_, .f32⟩
  | 3 => ⟨S4096x1, .f32⟩
  | 4 => ⟨S4096x1, .f32⟩
  | 5 => ⟨S_, .f32⟩
  | 6 => ⟨S4096, .f32⟩
  | 7 => ⟨S4096x1024, .f32⟩
  | 8 => ⟨S4096x1024, .f32⟩
  | 9 => ⟨S4096x1024, .f32⟩
  | 10 => ⟨S4096x1024, .f32⟩
  | 11 => ⟨S4096x1024, .f32⟩
  | 12 => ⟨S4096x1024, .bf16⟩
  | 13 => ⟨S4096x4x704, .f32⟩
  | 14 => ⟨S4x4096x704, .f32⟩
  | 15 => ⟨S4x4096x704, .bf16⟩
  | 16 => ⟨S4096x4x704, .f32⟩
  | 17 => ⟨S4x4096x704, .f32⟩
  | 18 => ⟨S4x4096x704, .bf16⟩
  | 19 => ⟨S4096x4x704, .f32⟩
  | 20 => ⟨S4x4096x704, .f32⟩
  | 21 => ⟨S4x4096x704, .bf16⟩
  | 22 => ⟨S1x1024, .f32⟩
  | 23 => ⟨S1x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_cst_3 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v20_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v20_1 : Ref sig .tc := ⟨.hbm, 44, rfl⟩
abbrev main_v20_0 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_5 : Ref sig .tc := ⟨.hbm, 52, rfl⟩
abbrev main_v27 : Ref sig .tc := ⟨.hbm, 53, rfl⟩
abbrev main_v28 : Ref sig .tc := ⟨.hbm, 54, rfl⟩
abbrev main_cst_6 : Ref sig .tc := ⟨.hbm, 55, rfl⟩
abbrev main_v29 : Ref sig .tc := ⟨.hbm, 56, rfl⟩
abbrev main_v30 : Ref sig .tc := ⟨.hbm, 57, rfl⟩
abbrev main_cst_7 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_8 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_9 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_10 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_11 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_12 : Ref sig .tc := ⟨.hbm, 85, rfl⟩
abbrev main_v53 : Ref sig .tc := ⟨.hbm, 86, rfl⟩
abbrev main_v54 : Ref sig .tc := ⟨.hbm, 87, rfl⟩
abbrev main_cst_13 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_14 : Ref sig .tc := ⟨.hbm, 94, rfl⟩
abbrev main_v60 : Ref sig .tc := ⟨.hbm, 95, rfl⟩
abbrev main_v61 : Ref sig .tc := ⟨.hbm, 96, rfl⟩
abbrev main_cst_15 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_call1_v0 : Ref sig .tc := ⟨.hbm, 108, rfl⟩
abbrev main_call1_v1 : Ref sig .tc := ⟨.hbm, 109, rfl⟩
abbrev main_call1_v2 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_cst_16 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_cst_17 : Ref sig .tc := ⟨.hbm, 120, rfl⟩
abbrev main_v80 : Ref sig .tc := ⟨.hbm, 121, rfl⟩
abbrev main_v81 : Ref sig .tc := ⟨.hbm, 122, rfl⟩
abbrev main_cst_18 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_cst_19 : Ref sig .tc := ⟨.hbm, 130, rfl⟩
abbrev main_v88 : Ref sig .tc := ⟨.hbm, 131, rfl⟩
abbrev main_v89 : Ref sig .tc := ⟨.hbm, 132, rfl⟩
abbrev main_cst_20 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩

abbrev nD : Nat := 1
abbrev τ : Topo := Topo.v7x

variable {F : FTy → Type} [FloatOps F]
-- ==== Kernel4.lean ====
abbrev S4x4096x704 : Shape := ⟨3, ![4, 4096, 704]⟩
abbrev S4096x1024 : Shape := ⟨2, ![4096, 1024]⟩
abbrev S1x4096x1024 : Shape := ⟨3, ![1, 4096, 1024]⟩
abbrev S_ : Shape := ⟨0, ![]⟩
abbrev S4x1x704x1024 : Shape := ⟨4, ![4, 1, 704, 1024]⟩
abbrev S4x1024x704 : Shape := ⟨3, ![4, 1024, 704]⟩
abbrev S1x1024x1024 : Shape := ⟨3, ![1, 1024, 1024]⟩
abbrev S4x704x1024 : Shape := ⟨3, ![4, 704, 1024]⟩
abbrev S1x704x1024 : Shape := ⟨3, ![1, 704, 1024]⟩
abbrev S704x1024 : Shape := ⟨2, ![704, 1024]⟩
abbrev S1x1024x704 : Shape := ⟨3, ![1, 1024, 704]⟩
abbrev S1024x704 : Shape := ⟨2, ![1024, 704]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4x4096x704, .bf16⟩
  | .hbm, ⟨1, _⟩ => ⟨S4096x1024, .bf16⟩
  | .hbm, ⟨2, _⟩ => ⟨S1x4096x1024, .bf16⟩
  | .hbm, ⟨3, _⟩ => ⟨S_, .bf16⟩
  | .hbm, ⟨4, _⟩ => ⟨S4x1x704x1024, .bf16⟩
  | .hbm, ⟨5, _⟩ => ⟨S4x1x704x1024, .bf16⟩
  | .local _ .vmem, ⟨0, _⟩ => ⟨S4x1024x704, .bf16⟩
  | .local _ .vmem, ⟨1, _⟩ => ⟨S4x1024x704, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S4x1x704x1024, .bf16⟩
  | .local _ .vmem, ⟨5, _⟩ => ⟨S4x704x1024, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v46 : BitVec 1 := Scalar.cmpi .eq arg0 c3_i32
  let v47 : BitVec 32 := Scalar.extui v46
  let c0_i32_30 : BitVec 32 := 0#32
  let v48 : BitVec 1 := Scalar.cmpi .ne v47 c0_i32_30
  v48

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S4x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference4Ideal.lean ====
abbrev S4x4096x704 : Shape := ⟨3, ![4, 4096, 704]⟩
abbrev S4096x1024 : Shape := ⟨2, ![4096, 1024]⟩
abbrev S4096x4x704 : Shape := ⟨3, ![4096, 4, 704]⟩
abbrev S4096x2816 : Shape := ⟨2, ![4096, 2816]⟩
abbrev S_ : Shape := ⟨0, ![]⟩
abbrev S1024x2816 : Shape := ⟨2, ![1024, 2816]⟩
abbrev S2816x1024 : Shape := ⟨2, ![2816, 1024]⟩
abbrev S4x1x704x1024 : Shape := ⟨4, ![4, 1, 704, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4096x1024, .bf16⟩
  | .hbm, ⟨2, _⟩ => ⟨S4x4096x704, .f32⟩
  | .hbm, ⟨3, _⟩ => ⟨S4096x4x704, .f32⟩
  | .hbm, ⟨4, _⟩ => ⟨S4096x2816, .f32⟩
  | .hbm, ⟨5, _⟩ => ⟨S_, .f32⟩
  | .hbm, ⟨6, _⟩ => ⟨S1024x2816, .f32⟩
  | .hbm, ⟨7, _⟩ => ⟨S4096x1024, .f32⟩
  | .hbm, ⟨8, _⟩ => ⟨S4096x2816, .f32⟩
  | .hbm, ⟨9, _⟩ => ⟨S2816x1024, .f32⟩
  | .hbm, ⟨10, _⟩ => ⟨S1024x2816, .f32⟩
  | .hbm, ⟨11, _⟩ => ⟨S2816x1024, .f32⟩
  | .hbm, ⟨12, _⟩ => ⟨S4x1x704x1024, .f32⟩
  | .hbm, ⟨13, _⟩ => ⟨S4x1x704x1024, .bf16⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel5.lean ====
abbrev S4096x1024 : Shape := ⟨2, ![4096, 1024]⟩
abbrev S1x4096x1024 : Shape := ⟨3, ![1, 4096, 1024]⟩
abbrev S_ : Shape := ⟨0, ![]⟩
abbrev S4x1x256x1024 : Shape := ⟨4, ![4, 1, 256, 1024]⟩
abbrev S1x1024x1024 : Shape := ⟨3, ![1, 1024, 1024]⟩
abbrev S4x256x1024 : Shape := ⟨3, ![4, 256, 1024]⟩
abbrev S1x256x1024 : Shape := ⟨3, ![1, 256, 1024]⟩
abbrev S256x1024 : Shape := ⟨2, ![256, 1024]⟩
abbrev S1024x1024 : Shape := ⟨2, ![1024, 1024]⟩
abbrev S1024x256 : Shape := ⟨2, ![1024, 256]⟩

abbrev nBuf : Space → Nat
  | .hbm => 7
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1x4096x1024, .bf16⟩
  | .hbm, ⟨3, _⟩ => ⟨S1x4096x1024, .bf16⟩
  | .hbm, ⟨4, _⟩ => ⟨S_, .bf16⟩
  | .hbm, ⟨5, _⟩ => ⟨S4x1x256x1024, .bf16⟩
  | .hbm, ⟨6, _⟩ => ⟨S4x1x256x1024, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S4x1x256x1024, .bf16⟩
  | .local _ .vmem, ⟨5, _⟩ => ⟨S4x256x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v47 : BitVec 1 := Scalar.cmpi .eq arg0 c3_i32
  let v48 : BitVec 32 := Scalar.extui v47
  let c0_i32_30 : BitVec 32 := 0#32
  let v49 : BitVec 1 := Scalar.cmpi .ne v48 c0_i32_30
  v49

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference5Ideal.lean ====
abbrev S4096x1024 : Shape := ⟨2, ![4096, 1024]⟩
abbrev S_ : Shape := ⟨0, ![]⟩
abbrev S1024x1024 : Shape := ⟨2, ![1024, 1024]⟩
abbrev S4x1x256x1024 : Shape := ⟨4, ![4, 1, 256, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S4x1x256x1024, .f32⟩
  | .hbm, ⟨10, _⟩ => ⟨S4x1x256x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S4096x1024 : Shape := ⟨2, ![4096, 1024]⟩
abbrev S4x4096x512 : Shape := ⟨3, ![4, 4096, 512]⟩
abbrev S1x4096x1024 : Shape := ⟨3, ![1, 4096, 1024]⟩
abbrev S_ : Shape := ⟨0, ![]⟩
abbrev S4x1x1024x512 : Shape := ⟨4, ![4, 1, 1024, 512]⟩
abbrev S1x1024x1024 : Shape := ⟨3, ![1, 1024, 1024]⟩
abbrev S4x1024x512 : Shape := ⟨3, ![4, 1024, 512]⟩
abbrev S1x1024x512 : Shape := ⟨3, ![1, 1024, 512]⟩
abbrev S1024x512 : Shape := ⟨2, ![1024, 512]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x4096x512, .bf16⟩
  | .hbm, ⟨2, _⟩ => ⟨S1x4096x1024, .bf16⟩
  | .hbm, ⟨3, _⟩ => ⟨S_, .bf16⟩
  | .hbm, ⟨4, _⟩ => ⟨S4x1x1024x512, .bf16⟩
  | .hbm, ⟨5, _⟩ => ⟨S4x1x1024x512, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S4x1024x512, .bf16⟩
  | .local _ .vmem, ⟨3, _⟩ => ⟨S4x1024x512, .bf16⟩
  | .local _ .vmem, ⟨4, _⟩ => ⟨S4x1x1024x512, .bf16⟩
  | .local _ .vmem, ⟨5, _⟩ => ⟨S4x1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v46 : BitVec 1 := Scalar.cmpi .eq arg0 c3_i32
  let v47 : BitVec 32 := Scalar.extui v46
  let c0_i32_30 : BitVec 32 := 0#32
  let v48 : BitVec 1 := Scalar.cmpi .ne v47 c0_i32_30
  v48

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference6Ideal.lean ====
abbrev S4096x1024 : Shape := ⟨2, ![4096, 1024]⟩
abbrev S4x4096x512 : Shape := ⟨3, ![4, 4096, 512]⟩
abbrev S4096x4x512 : Shape := ⟨3, ![4096, 4, 512]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩
abbrev S1024x4x1x512 : Shape := ⟨4, ![1024, 4, 1, 512]⟩
abbrev S4x1x1024x512 : Shape := ⟨4, ![4, 1, 1024, 512]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x4096x512, .bf16⟩
  | .hbm, ⟨2, _⟩ => ⟨S4x4096x512, .f32⟩
  | .hbm, ⟨3, _⟩ => ⟨S4096x4x512, .f32⟩
  | .hbm, ⟨4, _⟩ => ⟨S4096x2048, .f32⟩
  | .hbm, ⟨5, _⟩ => ⟨S_, .f32⟩
  | .hbm, ⟨6, _⟩ => ⟨S1024x2048, .f32⟩
  | .hbm, ⟨7, _⟩ => ⟨S4096x1024, .f32⟩
  | .hbm, ⟨8, _⟩ => ⟨S4096x2048, .f32⟩
  | .hbm, ⟨9, _⟩ => ⟨S2048x1024, .f32⟩
  | .hbm, ⟨10, _⟩ => ⟨S1024x2048, .f32⟩
  | .hbm, ⟨11, _⟩ => ⟨S1024x4x1x512, .f32⟩
  | .hbm, ⟨12, _⟩ => ⟨S4x1x1024x512, .f32⟩
  | .hbm, ⟨13, _⟩ => ⟨S4x1x1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel7.lean ====
abbrev S4096x1024 : Shape := ⟨2, ![4096, 1024]⟩
abbrev S1x4096x1024 : Shape := ⟨3, ![1, 4096, 1024]⟩
abbrev S_ : Shape := ⟨0, ![]⟩
abbrev S4x1x256x1024 : Shape := ⟨4, ![4, 1, 256, 1024]⟩
abbrev S1x1024x1024 : Shape := ⟨3, ![1, 1024, 1024]⟩
abbrev S4x256x1024 : Shape := ⟨3, ![4, 256, 1024]⟩
abbrev S1x256x1024 : Shape := ⟨3, ![1, 256, 1024]⟩
abbrev S256x1024 : Shape := ⟨2, ![256, 1024]⟩
abbrev S1024x1024 : Shape := ⟨2, ![1024, 1024]⟩
abbrev S1024x256 : Shape := ⟨2, ![1024, 256]⟩

abbrev nBuf : Space → Nat
  | .hbm => 7
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1x4096x1024, .f32⟩
  | .hbm, ⟨3, _⟩ => ⟨S1x4096x1024, .bf16⟩
  | .hbm, ⟨4, _⟩ => ⟨S_, .bf16⟩
  | .hbm, ⟨5, _⟩ => ⟨S4x1x256x1024, .bf16⟩
  | .hbm, ⟨6, _⟩ => ⟨S4x1x256x1024, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S4x1x256x1024, .bf16⟩
  | .local _ .vmem, ⟨5, _⟩ => ⟨S4x256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v48 : BitVec 1 := Scalar.cmpi .eq arg0 c3_i32
  let v49 : BitVec 32 := Scalar.extui v48
  let c0_i32_30 : BitVec 32 := 0#32
  let v50 : BitVec 1 := Scalar.cmpi .ne v49 c0_i32_30
  v50

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference7Ideal.lean ====
abbrev S4096x1024 : Shape := ⟨2, ![4096, 1024]⟩
abbrev S_ : Shape := ⟨0, ![]⟩
abbrev S1024x1024 : Shape := ⟨2, ![1024, 1024]⟩
abbrev S4x1x256x1024 : Shape := ⟨4, ![4, 1, 256, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S4x1x256x1024, .f32⟩
  | .hbm, ⟨9, _⟩ => ⟨S4x1x256x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S4096x256 : Shape := ⟨2, ![4096, 256]⟩
abbrev S4x4096x256 : Shape := ⟨3, ![4, 4096, 256]⟩
abbrev S1x4096x256 : Shape := ⟨3, ![1, 4096, 256]⟩
abbrev S_ : Shape := ⟨0, ![]⟩
abbrev S4x1x256x256 : Shape := ⟨4, ![4, 1, 256, 256]⟩
abbrev S1x1024x256 : Shape := ⟨3, ![1, 1024, 256]⟩
abbrev S4x1024x256 : Shape := ⟨3, ![4, 1024, 256]⟩
abbrev S4x256x256 : Shape := ⟨3, ![4, 256, 256]⟩
abbrev S1x256x256 : Shape := ⟨3, ![1, 256, 256]⟩
abbrev S256x256 : Shape := ⟨2, ![256, 256]⟩
abbrev S1024x256 : Shape := ⟨2, ![1024, 256]⟩

abbrev nBuf : Space → Nat
  | .hbm => 6
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S4x4096x256, .bf16⟩
  | .hbm, ⟨2, _⟩ => ⟨S1x4096x256, .f32⟩
  | .hbm, ⟨3, _⟩ => ⟨S_, .bf16⟩
  | .hbm, ⟨4, _⟩ => ⟨S4x1x256x256, .bf16⟩
  | .hbm, ⟨5, _⟩ => ⟨S4x1x256x256, .bf16⟩
  | .local _ .vmem, ⟨0, _⟩ => ⟨S1x1024x256, .f32⟩
  | .local _ .vmem, ⟨1, _⟩ => ⟨S1x1024x256, .f32⟩
  | .local _ .vmem, ⟨2, _⟩ => ⟨S4x1024x256, .bf16⟩
  | .local _ .vmem, ⟨3, _⟩ => ⟨S4x1024x256, .bf16⟩
  | .local _ .vmem, ⟨4, _⟩ => ⟨S4x1x256x256, .bf16⟩
  | .local _ .vmem, ⟨5, _⟩ => ⟨S4x256x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v47 : BitVec 1 := Scalar.cmpi .eq arg0 c3_i32
  let v48 : BitVec 32 := Scalar.extui v47
  let c0_i32_30 : BitVec 32 := 0#32
  let v49 : BitVec 1 := Scalar.cmpi .ne v48 c0_i32_30
  v49

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference8Ideal.lean ====
abbrev S4096x256 : Shape := ⟨2, ![4096, 256]⟩
abbrev S4x4096x256 : Shape := ⟨3, ![4, 4096, 256]⟩
abbrev S4096x4x256 : Shape := ⟨3, ![4096, 4, 256]⟩
abbrev S4096x1024 : Shape := ⟨2, ![4096, 1024]⟩
abbrev S_ : Shape := ⟨0, ![]⟩
abbrev S256x1024 : Shape := ⟨2, ![256, 1024]⟩
abbrev S1024x256 : Shape := ⟨2, ![1024, 256]⟩
abbrev S256x4x1x256 : Shape := ⟨4, ![256, 4, 1, 256]⟩
abbrev S4x1x256x256 : Shape := ⟨4, ![4, 1, 256, 256]⟩

abbrev nBuf : Space → Nat
  | .hbm => 13
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4x4096x256, .bf16⟩
  | .hbm, ⟨2, _⟩ => ⟨S4x4096x256, .f32⟩
  | .hbm, ⟨3, _⟩ => ⟨S4096x4x256, .f32⟩
  | .hbm, ⟨4, _⟩ => ⟨S4096x1024, .f32⟩
  | .hbm, ⟨5, _⟩ => ⟨S_, .f32⟩
  | .hbm, ⟨6, _⟩ => ⟨S256x1024, .f32⟩
  | .hbm, ⟨7, _⟩ => ⟨S4096x1024, .f32⟩
  | .hbm, ⟨8, _⟩ => ⟨S1024x256, .f32⟩
  | .hbm, ⟨9, _⟩ => ⟨S256x1024, .f32⟩
  | .hbm, ⟨10, _⟩ => ⟨S256x4x1x256, .f32⟩
  | .hbm, ⟨11, _⟩ => ⟨S4x1x256x256, .f32⟩
  | .hbm, ⟨12, _⟩ => ⟨S4x1x256x256, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel9.lean ====
abbrev S4096x512 : Shape := ⟨2, ![4096, 512]⟩
abbrev S1x4096x512 : Shape := ⟨3, ![1, 4096, 512]⟩
abbrev S_ : Shape := ⟨0, ![]⟩
abbrev S4x1x128x512 : Shape := ⟨4, ![4, 1, 128, 512]⟩
abbrev S1x1024x512 : Shape := ⟨3, ![1, 1024, 512]⟩
abbrev S4x128x512 : Shape := ⟨3, ![4, 128, 512]⟩
abbrev S1x128x512 : Shape := ⟨3, ![1, 128, 512]⟩
abbrev S128x512 : Shape := ⟨2, ![128, 512]⟩
abbrev S1024x512 : Shape := ⟨2, ![1024, 512]⟩
abbrev S1024x128 : Shape := ⟨2, ![1024, 128]⟩

abbrev nBuf : Space → Nat
  | .hbm => 7
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S1x4096x512, .bf16⟩
  | .hbm, ⟨3, _⟩ => ⟨S1x4096x512, .bf16⟩
  | .hbm, ⟨4, _⟩ => ⟨S_, .bf16⟩
  | .hbm, ⟨5, _⟩ => ⟨S4x1x128x512, .bf16⟩
  | .hbm, ⟨6, _⟩ => ⟨S4x1x128x512, .bf16⟩
  | .local _ .vmem, ⟨0, _⟩ => ⟨S1x1024x512, .bf16⟩
  | .local _ .vmem, ⟨1, _⟩ => ⟨S1x1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S4x1x128x512, .bf16⟩
  | .local _ .vmem, ⟨5, _⟩ => ⟨S4x128x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v47 : BitVec 1 := Scalar.cmpi .eq arg0 c3_i32
  let v48 : BitVec 32 := Scalar.extui v47
  let c0_i32_30 : BitVec 32 := 0#32
  let v49 : BitVec 1 := Scalar.cmpi .ne v48 c0_i32_30
  v49

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1x128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference9Ideal.lean ====
abbrev S4096x512 : Shape := ⟨2, ![4096, 512]⟩
abbrev S_ : Shape := ⟨0, ![]⟩
abbrev S512x512 : Shape := ⟨2, ![512, 512]⟩
abbrev S4x1x128x512 : Shape := ⟨4, ![4, 1, 128, 512]⟩

abbrev nBuf : Space → Nat
  | .hbm => 11
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S_, .f32⟩
  | .hbm, ⟨3, _⟩ => ⟨S512x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S512x512, .f32⟩
  | .hbm, ⟨8, _⟩ => ⟨S512x512, .f32⟩
  | .hbm, ⟨9, _⟩ => ⟨S4x1x128x512, .f32⟩
  | .hbm, ⟨10, _⟩ => ⟨S4x1x128x512, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel10.lean ====
abbrev S4096x1024 : Shape := ⟨2, ![4096, 1024]⟩
abbrev S4096x256 : Shape := ⟨2, ![4096, 256]⟩
abbrev S256x1024 : Shape := ⟨2, ![256, 1024]⟩
abbrev S1024x1024 : Shape := ⟨2, ![1024, 1024]⟩
abbrev S1024 : Shape := ⟨1, ![1024]⟩
abbrev S4x1x256x1024 : Shape := ⟨4, ![4, 1, 256, 1024]⟩
abbrev S1x1x1024 : Shape := ⟨3, ![1, 1, 1024]⟩
abbrev S4x4096x256 : Shape := ⟨3, ![4, 4096, 256]⟩
abbrev S1x1024 : Shape := ⟨2, ![1, 1024]⟩
abbrev S512x1024 : Shape := ⟨2, ![512, 1024]⟩
abbrev S4x512x256 : Shape := ⟨3, ![4, 512, 256]⟩
abbrev S512 : Shape := ⟨1, ![512]⟩
abbrev S512x1 : Shape := ⟨2, ![512, 1]⟩
abbrev S512x256 : Shape := ⟨2, ![512, 256]⟩
abbrev S1x512x256 : Shape := ⟨3, ![1, 512, 256]⟩
abbrev S1x1x256x1024 : Shape := ⟨4, ![1, 1, 256, 1024]⟩

abbrev nBuf : Space → Nat
  | .hbm => 15
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x256, .f32⟩
  | .hbm, ⟨3, _⟩ => ⟨S256x1024, .f32⟩
  | .hbm, ⟨4, _⟩ => ⟨S1024x1024, .f32⟩
  | .hbm, ⟨5, _⟩ => ⟨S1024, .f32⟩
  | .hbm, ⟨6, _⟩ => ⟨S4096x1024, .f32⟩
  | .hbm, ⟨7, _⟩ => ⟨S4096x1024, .f32⟩
  | .hbm, ⟨8, _⟩ => ⟨S4x1x256x1024, .f32⟩
  | .hbm, ⟨9, _⟩ => ⟨S4x1x256x1024, .bf16⟩
  | .hbm, ⟨10, _⟩ => ⟨S1x1x1024, .f32⟩
  | .hbm, ⟨11, _⟩ => ⟨S4096x1024, .f32⟩
  | .hbm, ⟨12, _⟩ => ⟨S4x4096x256, .bf16⟩
  | .hbm, ⟨13, _⟩ => ⟨S4096x1024, .bf16⟩
  | .hbm, ⟨14, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S4x1x256x1024, .bf16⟩
  | .local _ .vmem, ⟨7, _⟩ => ⟨S1x1x1024, .f32⟩
  | .local _ .vmem, ⟨8, _⟩ => ⟨S512x1024, .f32⟩
  | .local _ .vmem, ⟨9, _⟩ => ⟨S512x1024, .f32⟩
  | .local _ .vmem, ⟨10, _⟩ => ⟨S4x512x256, .bf16⟩
  | .local _ .vmem, ⟨11, _⟩ => ⟨S4x512x256, .bf16⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1x256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference10Ideal.lean ====
abbrev S4096x1024 : Shape := ⟨2, ![4096, 1024]⟩
abbrev S4096x256 : Shape := ⟨2, ![4096, 256]⟩
abbrev S256x1024 : Shape := ⟨2, ![256, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4x256 : Shape := ⟨3, ![4096, 4, 256]⟩
abbrev S4x4096x256 : Shape := ⟨3, ![4, 4096, 256]⟩

abbrev nBuf : Space → Nat
  | .hbm => 82
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x256, .f32⟩
  | .hbm, ⟨3, _⟩ => ⟨S256x1024, .f32⟩
  | .hbm, ⟨4, _⟩ => ⟨S1024x1024, .f32⟩
  | .hbm, ⟨5, _⟩ => ⟨S1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S_, .f32⟩
  | .hbm, ⟨66, _⟩ => ⟨S4096, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x4x256, .f32⟩
  | .hbm, ⟨78, _⟩ => ⟨S4x4096x256, .f32⟩
  | .hbm, ⟨79, _⟩ => ⟨S4x4096x256, .bf16⟩
  | .hbm, ⟨80, _⟩ => ⟨S4096x1024, .bf16⟩
  | .hbm, ⟨81, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_cst_11 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩

abbrev nD : Nat := 1
abbrev τ : Topo := Topo.v7x

variable {F : FTy → Type} [FloatOps F]
-- ==== Kernel11.lean ====
abbrev S4096x1024 : Shape := ⟨2, ![4096, 1024]⟩
abbrev S4096x256 : Shape := ⟨2, ![4096, 256]⟩
abbrev S256x1024 : Shape := ⟨2, ![256, 1024]⟩
abbrev S1024x1024 : Shape := ⟨2, ![1024, 1024]⟩
abbrev S1024 : Shape := ⟨1, ![1024]⟩
abbrev S1x4096x256 : Shape := ⟨3, ![1, 4096, 256]⟩
abbrev S256x4x1x256 : Shape := ⟨4, ![256, 4, 1, 256]⟩
abbrev S4x1x256x256 : Shape := ⟨4, ![4, 1, 256, 256]⟩
abbrev S4x1x256x1024 : Shape := ⟨4, ![4, 1, 256, 1024]⟩
abbrev S1x1x1024 : Shape := ⟨3, ![1, 1, 1024]⟩
abbrev S512x1024 : Shape := ⟨2, ![512, 1024]⟩
abbrev S1x512x256 : Shape := ⟨3, ![1, 512, 256]⟩
abbrev S512x256 : Shape := ⟨2, ![512, 256]⟩
abbrev S1x1x256x1024 : Shape := ⟨4, ![1, 1, 256, 1024]⟩
abbrev S1x1x256x256 : Shape := ⟨4, ![1, 1, 256, 256]⟩
abbrev S256x256 : Shape := ⟨2, ![256, 256]⟩
abbrev S1x1024 : Shape := ⟨2, ![1, 1024]⟩
abbrev S512 : Shape := ⟨1, ![512]⟩
abbrev S512x1 : Shape := ⟨2, ![512, 1]⟩

abbrev nBuf : Space → Nat
  | .hbm => 15
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S256x1024, .f32⟩
  | .hbm, ⟨3, _⟩ => ⟨S1024x1024, .f32⟩
  | .hbm, ⟨4, _⟩ => ⟨S1024, .f32⟩
  | .hbm, ⟨5, _⟩ => ⟨S1x4096x256, .f32⟩
  | .hbm, ⟨6, _⟩ => ⟨S256x4x1x256, .f32⟩
  | .hbm, ⟨7, _⟩ => ⟨S4x1x256x256, .f32⟩
  | .hbm, ⟨8, _⟩ => ⟨S4x1x256x256, .bf16⟩
  | .hbm, ⟨9, _⟩ => ⟨S4x1x256x1024, .f32⟩
  | .hbm, ⟨10, _⟩ => ⟨S4x1x256x1024, .bf16⟩
  | .hbm, ⟨11, _⟩ => ⟨S1x1x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x512x256, .f32⟩
  | .local _ .vmem, ⟨3, _⟩ => ⟨S1x512x256, .f32⟩
  | .local _ .vmem, ⟨4, _⟩ => ⟨S4x1x256x256, .bf16⟩
  | .local _ .vmem, ⟨5, _⟩ => ⟨S4x1x256x1024, .bf16⟩
  | .local _ .vmem, ⟨6, _⟩ => ⟨S1x1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1x256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference11Ideal.lean ====
abbrev S4096x1024 : Shape := ⟨2, ![4096, 1024]⟩
abbrev S4096x256 : Shape := ⟨2, ![4096, 256]⟩
abbrev S256x1024 : Shape := ⟨2, ![256, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 33
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S256x1024, .f32⟩
  | .hbm, ⟨3, _⟩ => ⟨S1024x1024, .f32⟩
  | .hbm, ⟨4, _⟩ => ⟨S1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== Proof.ScanTile.lean ====
module

public import proofs.«01_k».proof.Proof.Gen.KernelIdeal.Frame
public import proofs.«01_k».proof.Proof.Gen.KernelIdeal.Loops
public import Idealize.ShloMosaic.Lib.ValueIdx
public import Idealize.ShloMosaic.Lib.Pointwise
public import Idealize.ShloMosaic.Lib.VecWindow
public import Idealize.ShloMosaic.Lib.WritesUnit

@[expose] public section

set_option maxRecDepth 16384

noncomputable section

namespace Cert.Scan

open Idealize.ShloMosaic Cert.KernelIdeal Cert.KernelIdeal.Gen
open Idealize.ShloMosaic.ValueIdx (mulf_apply addf_apply subf_apply)

/-- A tile of the scan: eight rows of 128 lanes of one part of the complex numbers. -/
abbrev V8 : Type := FVec Ideal S8x128 .f32
/-- The complex numbers of a tile. -/
abbrev Z8 : Type := Fin 8 → Fin 128 → ℂ

/-! ## The tile's arithmetic on vectors -/

/-- The rows moved around the end by `s`. -/
def rotv (s : BitVec 32) (x : V8) : V8 := dynamicRotate 0 s none x rotates_S8x128_d0
/-- One round of the in-tile scan, the real parts. -/
def rdR (mr mi : V8) (s : BitVec 32) (xr xi : V8) : V8 := addf xr (subf (mulf mr (rotv s xr)) (mulf mi (rotv s xi)))
/-- One round of the in-tile scan, the imaginary parts. -/
def rdI (mr mi : V8) (s : BitVec 32) (xr xi : V8) : V8 := addf xi (addf (mulf mr (rotv s xi)) (mulf mi (rotv s xr)))
/-- The carried number's contribution, the real parts. -/
def cyR (mr mi cr ci x : V8) : V8 := addf x (subf (mulf mr cr) (mulf mi ci))
/-- The carried number's contribution, the imaginary parts. -/
def cyI (mr mi cr ci x : V8) : V8 := addf x (addf (mulf mr ci) (mulf mi cr))

/-- The multipliers of one channel block: those of the three rounds and those of the carried number. -/
structure Mults where
  (r1 i1 r2 i2 r4 i4 rc ic : V8)

/-- After the first round. -/
def t1R (M : Mults) (xr xi : V8) : V8 := rdR M.r1 M.i1 7#32 xr xi
def t1I (M : Mults) (xr xi : V8) : V8 := rdI M.r1 M.i1 7#32 xr xi
/-- After the second round. -/
def t2R (M : Mults) (xr xi : V8) : V8 := rdR M.r2 M.i2 6#32 (t1R M xr xi) (t1I M xr xi)
def t2I (M : Mults) (xr xi : V8) : V8 := rdI M.r2 M.i2 6#32 (t1R M xr xi) (t1I M xr xi)
/-- After the third round. -/
def t3R (M : Mults) (xr xi : V8) : V8 := rdR M.r4 M.i4 4#32 (t2R M xr xi) (t2I M xr xi)
def t3I (M : Mults) (xr xi : V8) : V8 := rdI M.r4 M.i4 4#32 (t2R M xr xi) (t2I M xr xi)
/-- The tile's result. -/
def tileR (M : Mults) (cr ci xr xi : V8) : V8 := cyR M.rc M.ic cr ci (t3R M xr xi)
def tileI (M : Mults) (cr ci xr xi : V8) : V8 := cyI M.rc M.ic cr ci (t3I M xr xi)

/-- A loaded tile without its unit axis. -/
def un (x : FVec Ideal S1x8x128 .f32) : V8 := shapeCast S8x128 x shapeCasts_S1x8x128_S8x128
/-- A tile with the unit axis a store asks for. -/
def up (x : V8) : FVec Ideal S1x8x128 .f32 := shapeCast S1x8x128 x shapeCasts_S8x128_S1x8x128
/-- The first row on every row. -/
def row0 (x : V8) : V8 :=
  broadcastTo S8x128 (shapeCast S1x128 (extractStridedSlice S1x128 ![0, 0] x slices_S8x128_o0_0_S1x128) shapeCasts_S1x128_S1x128)
    broadcasts_S1x128_S8x128

/-! ## The same arithmetic on complex numbers -/

/-- The vectors `vr`, `vi` hold the real and the imaginary parts of `z`. -/
structure IsC (vr vi : V8) (z : Z8) : Prop where
  re : ∀ r l, vr (ix2 r l) = ((z r l).re : EReal)
  im : ∀ r l, vi (ix2 r l) = ((z r l).im : EReal)

theorem rotv_apply (s : BitVec 32) (d : Fin 8) (hd : (8 - s.toNat % 8) % 8 = d.val) (x : V8) (r : Fin 8) (l : Fin 128) :
    rotv s x (ix2 r l) = x (ix2 (r + d) l) := by
  unfold rotv
  rw [Pointwise.dynamicRotate_apply]
  rw [Shape.Idx.norm2]
  congr 1
  refine congrArg₂ ix2 (Fin.ext ?_) rfl
  have h := Fin.val_add r d
  have hr := r.isLt
  simp [h, ← hd]
  omega

theorem IsC.rd {mr mi xr xi : V8} {m x : Z8} (hm : IsC mr mi m) (hx : IsC xr xi x) (s : BitVec 32) (d : Fin 8)
    (hd : (8 - s.toNat % 8) % 8 = d.val) :
    IsC (rdR mr mi s xr xi) (rdI mr mi s xr xi) (fun r l => x r l + m r l * x (r + d) l) where
  re r l := by
    simp only [rdR, addf_apply, subf_apply, mulf_apply, rotv_apply s d hd, hm.re, hm.im, hx.re, hx.im, Complex.add_re, Complex.mul_re]
    push_cast; rfl
  im r l := by
    simp only [rdI, addf_apply, subf_apply, mulf_apply, rotv_apply s d hd, hm.re, hm.im, hx.re, hx.im, Complex.add_im, Complex.mul_im]
    push_cast; rfl

theorem IsC.cy {mr mi cr ci xr xi : V8} {m c x : Z8} (hm : IsC mr mi m) (hc : IsC cr ci c) (hx : IsC xr xi x) :
    IsC (cyR mr mi cr ci xr) (cyI mr mi cr ci xi) (fun r l => x r l + m r l * c r l) where
  re r l := by
    simp only [cyR, addf_apply, subf_apply, mulf_apply, hm.re, hm.im, hc.re, hc.im, hx.re, hx.im, Complex.add_re, Complex.mul_re]
    push_cast; rfl
  im r l := by
    simp only [cyI, addf_apply, subf_apply, mulf_apply, hm.re, hm.im, hc.re, hc.im, hx.re, hx.im, Complex.add_im, Complex.mul_im]
    push_cast; rfl

theorem row0_apply (x : V8) (r : Fin 8) (l : Fin 128) : row0 x (ix2 r l) = x (ix2 0 l) := by
  unfold row0
  pointwise

theorem un_apply (x : FVec Ideal S1x8x128 .f32) (r : Fin 8) (l : Fin 128) : un x (ix2 r l) = x (ix3 0 r l) := by
  unfold un
  pointwise

theorem up_apply (x : V8) (r : Fin 8) (l : Fin 128) : up x (ix3 0 r l) = x (ix2 r l) := by
  unfold up
  pointwise

/-- The multipliers of a channel block hold the powers of the conjugate of `a` the scan asks for. -/
structure Mults.Ok (M : Mults) (a : Fin 128 → ℂ) : Prop where
  h1 : IsC M.r1 M.i1 (fun r l => if r.val ≤ 6 then (starRingEnd ℂ) (a l) else 0)
  h2 : IsC M.r2 M.i2 (fun r l => if r.val ≤ 5 then (starRingEnd ℂ) (a l) ^ 2 else 0)
  h4 : IsC M.r4 M.i4 (fun r l => if r.val ≤ 3 then (starRingEnd ℂ) (a l) ^ 4 else 0)
  hc : IsC M.rc M.ic (fun r l => (starRingEnd ℂ) (a l) ^ (8 - r.val))

/-- The scan from the end: `n` steps of `x ↦ b + conj a · x` from `c`. -/
def rscan (b : ℕ → ℂ) (a c : ℂ) : ℕ → ℂ
  | 0 => c
  | n + 1 => b n + (starRingEnd ℂ) a * rscan b a c n

theorem rscan_add (b : ℕ → ℂ) (a c : ℂ) (m n : ℕ) :
    rscan (fun n => b (m + n)) a (rscan b a c m) n = rscan b a c (m + n) := by
  induction n with
  | zero => rfl
  | succ n ih => rw [← Nat.add_assoc, rscan, rscan, ih]

/-- A tile's result: its row `r` is the scan after the rows from the last one up to it. -/
theorem Mults.Ok.tile {M : Mults} {a : Fin 128 → ℂ} (hM : M.Ok a) {cr ci xr xi : V8} {c : Fin 128 → ℂ} {b : Fin 128 → ℕ → ℂ}
    (hc : IsC cr ci (fun _ l => c l)) (hx : IsC xr xi (fun r l => b l (7 - r.val))) :
    IsC (tileR M cr ci xr xi) (tileI M cr ci xr xi) (fun r l => rscan (b l) (a l) (c l) (8 - r.val)) := by
  have h := hM.hc.cy hc (hM.h4.rd (hM.h2.rd (hM.h1.rd hx 7#32 1 (by decide)) 6#32 2 (by decide)) 4#32 4 (by decide))
  refine cast (congrArg (IsC _ _) ?_) h
  funext r l
  fin_cases r <;> simp [rscan] <;> ring

theorem IsC.row0 {xr xi : V8} {x : Z8} (hx : IsC xr xi x) : IsC (row0 xr) (row0 xi) (fun _ l => x 0 l) :=
  ⟨fun r l => by rw [row0_apply, hx.re], fun r l => by rw [row0_apply, hx.im]⟩

end Cert.Scan

end
-- ==== Proof.FrameBase.lean ====
/- The conditions, the views and the launch of the scan, over any float values. -/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) := m ((c : Thread nD τ).loc b)

set_option maxHeartbeats 800000 in

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c))⟩) h

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 4 = 0 :=
  (fun t => by
    have ht : t.val < 16 := Nat.lt_of_lt_of_eq t.isLt N_0
    have e0 : (grid0.coords t 0).val = t.val / 4 % 4 := Pipeline.Grid.coords_val t 0 (by decide) rfl
    have e1 : (grid0.coords t 1).val = t.val / 1 % 4 := Pipeline.Grid.coords_val t 1 (by decide) rfl
    simp only [cond0_0, e0, e1]
    word_cmp
   : ∀ t : Fin grid0.N, cond0_0 (grid0.coords t) ↔ t.val % 4 = 0)

abbrev ms0_0 (t : Fin cfg0.N) : Memref sig .tc .vmem S4x1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4x1024x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x1024x128 .f32 := win0_5.stage (cfg0.slots t 5)
abbrev hs0_5 (t : Fin cfg0.N) : (ms0_5 t).IsWhole := hstage0_5 ((cfg0.slots t 5).cast nbuf0_5)

abbrev scM0_0 : Memref sig .tc .vmem S4x8x128 .f32 := Memref.whole cc0_scratch0
abbrev scM0_1 : Memref sig .tc .vmem S4x8x128 .f32 := Memref.whole cc0_scratch1

abbrev VS0_0 : View sig .tc .vmem S4x8x128 .f32 := scM0_0.view

abbrev VS0_1 : View sig .tc .vmem S4x8x128 .f32 := scM0_1.view

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelFrame

end
-- ==== Proof.FrameFirst.lean ====
/- The body at a first point of a group of channels, over any float values: what it leaves in its buffers is not named. -/
module

public import proofs.«01_k».proof.Proof.FrameBase

@[expose] public section

set_option maxRecDepth 16384

noncomputable section

namespace Cert.KernelFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in

noncomputable def kernelRun0_A (c : Dev nD) (i : grid0.Coords) (arg2 : Memref sig .tc .vmem S4x1024x128 .f32) (harg2 : arg2.IsWhole) (arg3 : Memref sig .tc .vmem S4x1024x128 .f32) (harg3 : arg3.IsWhole) (arg4 : Memref sig .tc .vmem S4x1x128 .f32) (harg4 : arg4.IsWhole) (arg5 : Memref sig .tc .vmem S4x1x128 .f32) (harg5 : arg5.IsWhole) (arg6 : Memref sig .tc .vmem S4x1024x128 .f32) (harg6 : arg6.IsWhole) (arg7 : Memref sig .tc .vmem S4x1024x128 .f32) (harg7 : arg7.IsWhole) (arg8 : Memref sig .tc .vmem S4x8x128 .f32) (harg8 : arg8.IsWhole) (arg9 : Memref sig .tc .vmem S4x8x128 .f32) (harg9 : arg9.IsWhole) (hc0 : cond0_0 i)
    (x0 : Vec F S4x1024x128 .f32) (x1 : Vec F S4x1024x128 .f32) (x2 : Vec F S4x1x128 .f32) (x3 : Vec F S4x1x128 .f32) :
    Σ' (LS0 : List (View.Piece (Elt F) S4x8x128 .f32)), { LS1 : List (View.Piece (Elt F) S4x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0_scan_bwd_l0 i arg2 harg2 arg3 harg3 arg4 harg4 arg5 harg5 arg6 harg6 arg7 harg7 arg8 harg8 arg9 harg9) K } := by
  refine ⟨?_, ?_, fun E K => ?run⟩
  case run =>
    simp only [cc0_scan_bwd_l0_eq_skeleton]; unfold cc0_scan_bwd_l0_skel
    simp only [k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _, _; isplitr; swap; · iexact H4
      ipureintro; rfl
    isplitl [H5]
    · iexists _, _; isplitr; swap; · iexact H5
      ipureintro; rfl
    isplitl [HS0]; · iexists _; iexact HS0
    iexists _; iexact HS1

end Cert.KernelFrame

end
-- ==== Proof.FrameLater.lean ====
/- The body at a later point of a group of channels, over any float values: what it leaves in its buffers is not named. -/
module

public import proofs.«01_k».proof.Proof.FrameFirst

@[expose] public section

set_option maxRecDepth 16384

noncomputable section

namespace Cert.KernelFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in

noncomputable def kernelRun0_B (c : Dev nD) (i : grid0.Coords) (arg2 : Memref sig .tc .vmem S4x1024x128 .f32) (harg2 : arg2.IsWhole) (arg3 : Memref sig .tc .vmem S4x1024x128 .f32) (harg3 : arg3.IsWhole) (arg4 : Memref sig .tc .vmem S4x1x128 .f32) (harg4 : arg4.IsWhole) (arg5 : Memref sig .tc .vmem S4x1x128 .f32) (harg5 : arg5.IsWhole) (arg6 : Memref sig .tc .vmem S4x1024x128 .f32) (harg6 : arg6.IsWhole) (arg7 : Memref sig .tc .vmem S4x1024x128 .f32) (harg7 : arg7.IsWhole) (arg8 : Memref sig .tc .vmem S4x8x128 .f32) (harg8 : arg8.IsWhole) (arg9 : Memref sig .tc .vmem S4x8x128 .f32) (harg9 : arg9.IsWhole) (hc0 : ¬cond0_0 i)
    (x0 : Vec F S4x1024x128 .f32) (x1 : Vec F S4x1024x128 .f32) (x2 : Vec F S4x1x128 .f32) (x3 : Vec F S4x1x128 .f32) (xs0 : Vec F S4x8x128 .f32) (xs1 : Vec F S4x8x128 .f32) :
    Σ' (LS0 : List (View.Piece (Elt F) S4x8x128 .f32)), { LS1 : List (View.Piece (Elt F) S4x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0_scan_bwd_l0 i arg2 harg2 arg3 harg3 arg4 harg4 arg5 harg5 arg6 harg6 arg7 harg7 arg8 harg8 arg9 harg9) K } := by
  refine ⟨?_, ?_, fun E K => ?run⟩
  case run =>
    simp only [cc0_scan_bwd_l0_eq_skeleton]; unfold cc0_scan_bwd_l0_skel
    simp only [k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg8.eq_unread hfs0; obtain rfl := harg9.eq_unread hfs1
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _, _; isplitr; swap; · iexact H4
      ipureintro; rfl
    isplitl [H5]
    · iexists _, _; isplitr; swap; · iexact H5
      ipureintro; rfl
    isplitl [HS0]; · iexists _; iexact HS0
    iexists _; iexact HS1

end Cert.KernelFrame

end
-- ==== Proof.FrameAny.lean ====
/- Every run of the kernel ends, over any float values, with its arguments unchanged. -/
module

public import proofs.«01_k».proof.Proof.FrameLater
public import Idealize.ShloMosaic.Lib.Claim

@[expose] public section

set_option maxRecDepth 16384

noncomputable section

namespace Cert.KernelFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem scover0_A_0 (c : Dev nD) (i : grid0.Coords) (arg2 : Memref sig .tc .vmem S4x1024x128 .f32) (harg2 : arg2.IsWhole) (arg3 : Memref sig .tc .vmem S4x1024x128 .f32) (harg3 : arg3.IsWhole) (arg4 : Memref sig .tc .vmem S4x1x128 .f32) (harg4 : arg4.IsWhole) (arg5 : Memref sig .tc .vmem S4x1x128 .f32) (harg5 : arg5.IsWhole) (arg6 : Memref sig .tc .vmem S4x1024x128 .f32) (harg6 : arg6.IsWhole) (arg7 : Memref sig .tc .vmem S4x1024x128 .f32) (harg7 : arg7.IsWhole) (arg8 : Memref sig .tc .vmem S4x8x128 .f32) (harg8 : arg8.IsWhole) (arg9 : Memref sig .tc .vmem S4x8x128 .f32) (harg9 : arg9.IsWhole) (hc0 : cond0_0 i)
    (x0 : Vec F S4x1024x128 .f32) (x1 : Vec F S4x1024x128 .f32) (x2 : Vec F S4x1x128 .f32) (x3 : Vec F S4x1x128 .f32) (y : S4x8x128.Idx) :
    ∃ pc ∈ (kernelRun0_A c i arg2 harg2 arg3 harg3 arg4 harg4 arg5 harg5 arg6 harg6 arg7 harg7 arg8 harg8 arg9 harg9 hc0 x0 x1 x2 x3).1, y ∈ pc.1.set :=
  View.cover_of_wholeMem (kernelRun0_A c i arg2 harg2 arg3 harg3 arg4 harg4 arg5 harg5 arg6 harg6 arg7 harg7 arg8 harg8 arg9 harg9 hc0 x0 x1 x2 x3).1 (by sl_whole_mem) y

def sout0_A_0 (c : Dev nD) (i : grid0.Coords) (arg2 : Memref sig .tc .vmem S4x1024x128 .f32) (harg2 : arg2.IsWhole) (arg3 : Memref sig .tc .vmem S4x1024x128 .f32) (harg3 : arg3.IsWhole) (arg4 : Memref sig .tc .vmem S4x1x128 .f32) (harg4 : arg4.IsWhole) (arg5 : Memref sig .tc .vmem S4x1x128 .f32) (harg5 : arg5.IsWhole) (arg6 : Memref sig .tc .vmem S4x1024x128 .f32) (harg6 : arg6.IsWhole) (arg7 : Memref sig .tc .vmem S4x1024x128 .f32) (harg7 : arg7.IsWhole) (arg8 : Memref sig .tc .vmem S4x8x128 .f32) (harg8 : arg8.IsWhole) (arg9 : Memref sig .tc .vmem S4x8x128 .f32) (harg9 : arg9.IsWhole) (hc0 : cond0_0 i)
    (x0 : Vec F S4x1024x128 .f32) (x1 : Vec F S4x1024x128 .f32) (x2 : Vec F S4x1x128 .f32) (x3 : Vec F S4x1x128 .f32) : Vec F S4x8x128 .f32 :=
  VS0_0.read (Elt F) (VS0_0.writes (Elt F) VS0_0.junk (kernelRun0_A c i arg2 harg2 arg3 harg3 arg4 harg4 arg5 harg5 arg6 harg6 arg7 harg7 arg8 harg8 arg9 harg9 hc0 x0 x1 x2 x3).1)

theorem scover0_A_1 (c : Dev nD) (i : grid0.Coords) (arg2 : Memref sig .tc .vmem S4x1024x128 .f32) (harg2 : arg2.IsWhole) (arg3 : Memref sig .tc .vmem S4x1024x128 .f32) (harg3 : arg3.IsWhole) (arg4 : Memref sig .tc .vmem S4x1x128 .f32) (harg4 : arg4.IsWhole) (arg5 : Memref sig .tc .vmem S4x1x128 .f32) (harg5 : arg5.IsWhole) (arg6 : Memref sig .tc .vmem S4x1024x128 .f32) (harg6 : arg6.IsWhole) (arg7 : Memref sig .tc .vmem S4x1024x128 .f32) (harg7 : arg7.IsWhole) (arg8 : Memref sig .tc .vmem S4x8x128 .f32) (harg8 : arg8.IsWhole) (arg9 : Memref sig .tc .vmem S4x8x128 .f32) (harg9 : arg9.IsWhole) (hc0 : cond0_0 i)
    (x0 : Vec F S4x1024x128 .f32) (x1 : Vec F S4x1024x128 .f32) (x2 : Vec F S4x1x128 .f32) (x3 : Vec F S4x1x128 .f32) (y : S4x8x128.Idx) :
    ∃ pc ∈ (kernelRun0_A c i arg2 harg2 arg3 harg3 arg4 harg4 arg5 harg5 arg6 harg6 arg7 harg7 arg8 harg8 arg9 harg9 hc0 x0 x1 x2 x3).2.1, y ∈ pc.1.set :=
  View.cover_of_wholeMem (kernelRun0_A c i arg2 harg2 arg3 harg3 arg4 harg4 arg5 harg5 arg6 harg6 arg7 harg7 arg8 harg8 arg9 harg9 hc0 x0 x1 x2 x3).2.1 (by sl_whole_mem) y

def sout0_A_1 (c : Dev nD) (i : grid0.Coords) (arg2 : Memref sig .tc .vmem S4x1024x128 .f32) (harg2 : arg2.IsWhole) (arg3 : Memref sig .tc .vmem S4x1024x128 .f32) (harg3 : arg3.IsWhole) (arg4 : Memref sig .tc .vmem S4x1x128 .f32) (harg4 : arg4.IsWhole) (arg5 : Memref sig .tc .vmem S4x1x128 .f32) (harg5 : arg5.IsWhole) (arg6 : Memref sig .tc .vmem S4x1024x128 .f32) (harg6 : arg6.IsWhole) (arg7 : Memref sig .tc .vmem S4x1024x128 .f32) (harg7 : arg7.IsWhole) (arg8 : Memref sig .tc .vmem S4x8x128 .f32) (harg8 : arg8.IsWhole) (arg9 : Memref sig .tc .vmem S4x8x128 .f32) (harg9 : arg9.IsWhole) (hc0 : cond0_0 i)
    (x0 : Vec F S4x1024x128 .f32) (x1 : Vec F S4x1024x128 .f32) (x2 : Vec F S4x1x128 .f32) (x3 : Vec F S4x1x128 .f32) : Vec F S4x8x128 .f32 :=
  VS0_1.read (Elt F) (VS0_1.writes (Elt F) VS0_1.junk (kernelRun0_A c i arg2 harg2 arg3 harg3 arg4 harg4 arg5 harg5 arg6 harg6 arg7 harg7 arg8 harg8 arg9 harg9 hc0 x0 x1 x2 x3).2.1)

theorem scover0_B_0 (c : Dev nD) (i : grid0.Coords) (arg2 : Memref sig .tc .vmem S4x1024x128 .f32) (harg2 : arg2.IsWhole) (arg3 : Memref sig .tc .vmem S4x1024x128 .f32) (harg3 : arg3.IsWhole) (arg4 : Memref sig .tc .vmem S4x1x128 .f32) (harg4 : arg4.IsWhole) (arg5 : Memref sig .tc .vmem S4x1x128 .f32) (harg5 : arg5.IsWhole) (arg6 : Memref sig .tc .vmem S4x1024x128 .f32) (harg6 : arg6.IsWhole) (arg7 : Memref sig .tc .vmem S4x1024x128 .f32) (harg7 : arg7.IsWhole) (arg8 : Memref sig .tc .vmem S4x8x128 .f32) (harg8 : arg8.IsWhole) (arg9 : Memref sig .tc .vmem S4x8x128 .f32) (harg9 : arg9.IsWhole) (hc0 : ¬cond0_0 i)
    (x0 : Vec F S4x1024x128 .f32) (x1 : Vec F S4x1024x128 .f32) (x2 : Vec F S4x1x128 .f32) (x3 : Vec F S4x1x128 .f32) (xs0 : Vec F S4x8x128 .f32) (xs1 : Vec F S4x8x128 .f32) (y : S4x8x128.Idx) :
    ∃ pc ∈ (kernelRun0_B c i arg2 harg2 arg3 harg3 arg4 harg4 arg5 harg5 arg6 harg6 arg7 harg7 arg8 harg8 arg9 harg9 hc0 x0 x1 x2 x3 xs0 xs1).1, y ∈ pc.1.set :=
  View.cover_of_tiledL (kernelRun0_B c i arg2 harg2 arg3 harg3 arg4 harg4 arg5 harg5 arg6 harg6 arg7 harg7 arg8 harg8 arg9 harg9 hc0 x0 x1 x2 x3 xs0 xs1).1 S1x8x128.size (by sl_kernel_rfl) y

def sout0_B_0 (c : Dev nD) (i : grid0.Coords) (arg2 : Memref sig .tc .vmem S4x1024x128 .f32) (harg2 : arg2.IsWhole) (arg3 : Memref sig .tc .vmem S4x1024x128 .f32) (harg3 : arg3.IsWhole) (arg4 : Memref sig .tc .vmem S4x1x128 .f32) (harg4 : arg4.IsWhole) (arg5 : Memref sig .tc .vmem S4x1x128 .f32) (harg5 : arg5.IsWhole) (arg6 : Memref sig .tc .vmem S4x1024x128 .f32) (harg6 : arg6.IsWhole) (arg7 : Memref sig .tc .vmem S4x1024x128 .f32) (harg7 : arg7.IsWhole) (arg8 : Memref sig .tc .vmem S4x8x128 .f32) (harg8 : arg8.IsWhole) (arg9 : Memref sig .tc .vmem S4x8x128 .f32) (harg9 : arg9.IsWhole) (hc0 : ¬cond0_0 i)
    (x0 : Vec F S4x1024x128 .f32) (x1 : Vec F S4x1024x128 .f32) (x2 : Vec F S4x1x128 .f32) (x3 : Vec F S4x1x128 .f32) (xs0 : Vec F S4x8x128 .f32) (xs1 : Vec F S4x8x128 .f32) : Vec F S4x8x128 .f32 :=
  VS0_0.read (Elt F) (VS0_0.writes (Elt F) VS0_0.junk (kernelRun0_B c i arg2 harg2 arg3 harg3 arg4 harg4 arg5 harg5 arg6 harg6 arg7 harg7 arg8 harg8 arg9 harg9 hc0 x0 x1 x2 x3 xs0 xs1).1)

theorem scover0_B_1 (c : Dev nD) (i : grid0.Coords) (arg2 : Memref sig .tc .vmem S4x1024x128 .f32) (harg2 : arg2.IsWhole) (arg3 : Memref sig .tc .vmem S4x1024x128 .f32) (harg3 : arg3.IsWhole) (arg4 : Memref sig .tc .vmem S4x1x128 .f32) (harg4 : arg4.IsWhole) (arg5 : Memref sig .tc .vmem S4x1x128 .f32) (harg5 : arg5.IsWhole) (arg6 : Memref sig .tc .vmem S4x1024x128 .f32) (harg6 : arg6.IsWhole) (arg7 : Memref sig .tc .vmem S4x1024x128 .f32) (harg7 : arg7.IsWhole) (arg8 : Memref sig .tc .vmem S4x8x128 .f32) (harg8 : arg8.IsWhole) (arg9 : Memref sig .tc .vmem S4x8x128 .f32) (harg9 : arg9.IsWhole) (hc0 : ¬cond0_0 i)
    (x0 : Vec F S4x1024x128 .f32) (x1 : Vec F S4x1024x128 .f32) (x2 : Vec F S4x1x128 .f32) (x3 : Vec F S4x1x128 .f32) (xs0 : Vec F S4x8x128 .f32) (xs1 : Vec F S4x8x128 .f32) (y : S4x8x128.Idx) :
    ∃ pc ∈ (kernelRun0_B c i arg2 harg2 arg3 harg3 arg4 harg4 arg5 harg5 arg6 harg6 arg7 harg7 arg8 harg8 arg9 harg9 hc0 x0 x1 x2 x3 xs0 xs1).2.1, y ∈ pc.1.set :=
  View.cover_of_tiledL (kernelRun0_B c i arg2 harg2 arg3 harg3 arg4 harg4 arg5 harg5 arg6 harg6 arg7 harg7 arg8 harg8 arg9 harg9 hc0 x0 x1 x2 x3 xs0 xs1).2.1 S1x8x128.size (by sl_kernel_rfl) y

def sout0_B_1 (c : Dev nD) (i : grid0.Coords) (arg2 : Memref sig .tc .vmem S4x1024x128 .f32) (harg2 : arg2.IsWhole) (arg3 : Memref sig .tc .vmem S4x1024x128 .f32) (harg3 : arg3.IsWhole) (arg4 : Memref sig .tc .vmem S4x1x128 .f32) (harg4 : arg4.IsWhole) (arg5 : Memref sig .tc .vmem S4x1x128 .f32) (harg5 : arg5.IsWhole) (arg6 : Memref sig .tc .vmem S4x1024x128 .f32) (harg6 : arg6.IsWhole) (arg7 : Memref sig .tc .vmem S4x1024x128 .f32) (harg7 : arg7.IsWhole) (arg8 : Memref sig .tc .vmem S4x8x128 .f32) (harg8 : arg8.IsWhole) (arg9 : Memref sig .tc .vmem S4x8x128 .f32) (harg9 : arg9.IsWhole) (hc0 : ¬cond0_0 i)
    (x0 : Vec F S4x1024x128 .f32) (x1 : Vec F S4x1024x128 .f32) (x2 : Vec F S4x1x128 .f32) (x3 : Vec F S4x1x128 .f32) (xs0 : Vec F S4x8x128 .f32) (xs1 : Vec F S4x8x128 .f32) : Vec F S4x8x128 .f32 :=
  VS0_1.read (Elt F) (VS0_1.writes (Elt F) VS0_1.junk (kernelRun0_B c i arg2 harg2 arg3 harg3 arg4 harg4 arg5 harg5 arg6 harg6 arg7 harg7 arg8 harg8 arg9 harg9 hc0 x0 x1 x2 x3 xs0 xs1).2.1)

def outsAt0 (c : Dev nD) : (n : ℕ) → n < cfg0.N → Vec F S4x8x128 .f32 × Vec F S4x8x128 .f32
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩))
  | n + 1, hn =>
    if h0 : (n + 1) % 4 = 0 then
      (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩))
    else
      (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2)

theorem outsAt0_A (c : Dev nD) (t : Fin cfg0.N) (h0 : t.val % 4 = 0) :
    outsAt0 m c t.val t.isLt = (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t)) := by
  obtain ⟨n, hn⟩ := t
  cases n with
  | zero => exact rfl
  | succ n => exact (dif_pos h0).trans rfl

theorem outsAt0_B (c : Dev nD) (t : Fin cfg0.N) (h0 : ¬t.val % 4 = 0) :
    outsAt0 m c t.val t.isLt = (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).1) ∗ owns (c : Thread nD τ) scM0_1 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).1) ∗ owns (c : Thread nD τ) scM0_1 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).1) ∗ owns (c : Thread nD τ) scM0_1 fullShare ((outsAt0 m c (n - 1) (by omega)).2)) ∗ (∃ r, prngReg c r)) := by
  cases n with
  | zero => exact absurd rfl hz
  | succ n => rfl

def forgets0 : Fin 6 → Bool := fun w => w.val == 4 || w.val == 5

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d)
    ∗ (∃ d, owns (c : Thread nD τ) (ms0_5 t) fullShare d))

set_option maxHeartbeats 6400000 in

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3]
  rw [show (dats m 0 c).Φ t.succ = PhiS m c (t.val + 1) t.isLt from rfl, PhiS_succ]
  have hN : t.val < 16 := lt_of_lt_of_eq t.isLt (show cfg0.N = 16 from N_0)
  by_cases h0 : t.val % 4 = 0
  · by_cases hz : t.val = 0
    · rw [PhiS_castSucc m c t, PhiS_zero m c _ _ hz, PhiA0_eq]
      rw [outsAt0_A m c t h0]
      unfold sout0_A_0 sout0_A_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ ((hcond0_0 t).mpr h0) (iblk m c 0 t) (iblk m c 1 t) (iblk m c 2 t) (iblk m c 3 t)).2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, H4, H5, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          unfold owns; iexists _; isplitr
          swap; · iexact HS1
          ipureintro; exact View.read_writes_of_cover _ _ _ _ _ (scover0_A_1 c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [PhiS_castSucc m c t, PhiS_pos m c _ _ hz]
      rw [outsAt0_A m c t h0]
      unfold sout0_A_0 sout0_A_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ ((hcond0_0 t).mpr h0) (iblk m c 0 t) (iblk m c 1 t) (iblk m c 2 t) (iblk m c 3 t)).2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexists _; iexact HS0
      isplitl [HS1]; · iexists _; iexact HS1
      iintro ⟨H0, H1, H2, H3, H4, H5, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          unfold owns; iexists _; isplitr
          swap; · iexact HS1
          ipureintro; exact View.read_writes_of_cover _ _ _ _ _ (scover0_A_1 c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexact H5
  · by_cases hz : t.val = 0
    · exfalso; have hN : t.val < 16 := lt_of_lt_of_eq t.isLt (show cfg0.N = 16 from N_0); omega
    · rw [PhiS_castSucc m c t, PhiS_pos m c _ _ hz]
      rw [outsAt0_B m c t h0]
      unfold sout0_B_0 sout0_B_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ (fun h => h0 ((hcond0_0 t).mp h)) (iblk m c 0 t) (iblk m c 1 t) (iblk m c 2 t) (iblk m c 3 t) _ _).2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, H4, H5, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _)
          unfold owns; iexists _; isplitr
          swap; · iexact HS1
          ipureintro; exact View.read_writes_of_cover _ _ _ _ _ (scover0_B_1 c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 16 := N_0; omega)

set_option backward.isDefEq.respectTransparency.types false in

theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (fun c => (dats m 0 c).toRForget forgets0) (A_eq m) (run_main m ρ)

/-- Every run ends with its arguments unchanged and every counter zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelFrame

end
-- ==== Proof.FrameIdeal.lean ====
module

public import proofs.«01_k».proof.Proof.ScanTile
public import proofs.«01_k».proof.Proof.FrameAny

@[expose] public section

set_option maxRecDepth 16384

noncomputable section

namespace Cert.Scan

open Idealize.ShloMosaic TcCoe Cert.KernelIdeal

/-- The idealized program is the compiled one at the ideal values, word for word, so its frame is the compiled one's frame there. -/
theorem frame_ideal (m : (ℓ : Loc nD τ sig) → Buf (Elt Idealize.ShloMosaic.Ideal) ℓ) (ρ : Dev nD → PrngReg) :
    θ_run defs (onTc (τ := τ) (main (F := Idealize.ShloMosaic.Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  have h := Cert.KernelFrame.frame (F := Idealize.ShloMosaic.Ideal) m ρ
  refine Eq.mp ?_ h
  sl_kernel_rfl

end Cert.Scan

end
-- ==== Proof.ScanTrip.lean ====
module

public import proofs.«01_k».proof.Proof.ScanTile

@[expose] public section

set_option maxRecDepth 16384

noncomputable section

namespace Cert.Scan

open Idealize.ShloMosaic Cert.KernelIdeal Cert.KernelIdeal.Gen
open Idealize.ShloMosaic.ValueIdx (mulf_apply addf_apply subf_apply)

variable (𝒱 : Variants) (c : Dev nD) (bd : Option 𝒱.V) (i : grid0.Coords)
  (arg2 : Memref sig .tc .vmem S4x1024x128 .f32) (harg2 : arg2.IsWhole) (arg3 : Memref sig .tc .vmem S4x1024x128 .f32) (harg3 : arg3.IsWhole)
  (arg4 : Memref sig .tc .vmem S4x1x128 .f32) (harg4 : arg4.IsWhole) (arg5 : Memref sig .tc .vmem S4x1x128 .f32) (harg5 : arg5.IsWhole)
  (arg6 : Memref sig .tc .vmem S4x1024x128 .f32) (harg6 : arg6.IsWhole) (arg7 : Memref sig .tc .vmem S4x1024x128 .f32) (harg7 : arg7.IsWhole)
  (arg8 : Memref sig .tc .vmem S4x8x128 .f32) (harg8 : arg8.IsWhole) (arg9 : Memref sig .tc .vmem S4x8x128 .f32) (harg9 : arg9.IsWhole)
  (v59 v61 v65 v67 v71 v73 v120 v123 v179 v181 v185 v187 v191 v193 v240 v243 v299 v301 v305 v307 v311 v313 v360 v363 v419 v421 v425 v427 v431 v433 v480 v483 v485 v487 v489 v491 v493 v495 v497 : V8)
  (X2 : BufTy.Contents (Elt Ideal) arg2.view.ty) (X3 : BufTy.Contents (Elt Ideal) arg3.view.ty)

/-- One trip's result: per channel block, the first row of the tile's result. -/
theorem tripR_eq (k : Fin k0_t1_loop.trips) (acc : V8 × V8 × V8 × V8 × V8 × V8 × V8 × V8) :
    tripR_k0_t1 (F := Ideal) 𝒱 c bd i arg2 harg2 arg3 harg3 arg4 harg4 arg5 harg5 arg6 harg6 arg7 harg7 arg8 harg8 arg9 harg9
      v59 v61 v65 v67 v71 v73 v120 v123 v179 v181 v185 v187 v191 v193 v240 v243 v299 v301 v305 v307 v311 v313 v360 v363 v419 v421 v425 v427 v431 v433 v480 v483 v485 v487 v489 v491 v493 v495 v497 X2 X3 k acc
    = (row0 (tileR ⟨v59, v61, v65, v67, v71, v73, v120, v123⟩ acc.1 acc.2.1 (un (arg2.view.readAt (Elt Ideal) (Rect.unit (s := S4x1024x128) (k0_off1 k) S1x8x128.size (k0_off1_inb k)).toLoadRect X2)) (un (arg3.view.readAt (Elt Ideal) (Rect.unit (s := S4x1024x128) (k0_off1 k) S1x8x128.size (k0_off1_inb k)).toLoadRect X3))),
       row0 (tileI ⟨v59, v61, v65, v67, v71, v73, v120, v123⟩ acc.1 acc.2.1 (un (arg2.view.readAt (Elt Ideal) (Rect.unit (s := S4x1024x128) (k0_off1 k) S1x8x128.size (k0_off1_inb k)).toLoadRect X2)) (un (arg3.view.readAt (Elt Ideal) (Rect.unit (s := S4x1024x128) (k0_off1 k) S1x8x128.size (k0_off1_inb k)).toLoadRect X3))),
       row0 (tileR ⟨v179, v181, v185, v187, v191, v193, v240, v243⟩ acc.2.2.1 acc.2.2.2.1 (un (arg2.view.readAt (Elt Ideal) (Rect.unit (s := S4x1024x128) (k0_off2 k) S1x8x128.size (k0_off2_inb k)).toLoadRect X2)) (un (arg3.view.readAt (Elt Ideal) (Rect.unit (s := S4x1024x128) (k0_off2 k) S1x8x128.size (k0_off2_inb k)).toLoadRect X3))),
       row0 (tileI ⟨v179, v181, v185, v187, v191, v193, v240, v243⟩ acc.2.2.1 acc.2.2.2.1 (un (arg2.view.readAt (Elt Ideal) (Rect.unit (s := S4x1024x128) (k0_off2 k) S1x8x128.size (k0_off2_inb k)).toLoadRect X2)) (un (arg3.view.readAt (Elt Ideal) (Rect.unit (s := S4x1024x128) (k0_off2 k) S1x8x128.size (k0_off2_inb k)).toLoadRect X3))),
       row0 (tileR ⟨v299, v301, v305, v307, v311, v313, v360, v363⟩ acc.2.2.2.2.1 acc.2.2.2.2.2.1 (un (arg2.view.readAt (Elt Ideal) (Rect.unit (s := S4x1024x128) (k0_off3 k) S1x8x128.size (k0_off3_inb k)).toLoadRect X2)) (un (arg3.view.readAt (Elt Ideal) (Rect.unit (s := S4x1024x128) (k0_off3 k) S1x8x128.size (k0_off3_inb k)).toLoadRect X3))),
       row0 (tileI ⟨v299, v301, v305, v307, v311, v313, v360, v363⟩ acc.2.2.2.2.1 acc.2.2.2.2.2.1 (un (arg2.view.readAt (Elt Ideal) (Rect.unit (s := S4x1024x128) (k0_off3 k) S1x8x128.size (k0_off3_inb k)).toLoadRect X2)) (un (arg3.view.readAt (Elt Ideal) (Rect.unit (s := S4x1024x128) (k0_off3 k) S1x8x128.size (k0_off3_inb k)).toLoadRect X3))),
       row0 (tileR ⟨v419, v421, v425, v427, v431, v433, v480, v483⟩ acc.2.2.2.2.2.2.1 acc.2.2.2.2.2.2.2 (un (arg2.view.readAt (Elt Ideal) (Rect.unit (s := S4x1024x128) (k0_off4 k) S1x8x128.size (k0_off4_inb k)).toLoadRect X2)) (un (arg3.view.readAt (Elt Ideal) (Rect.unit (s := S4x1024x128) (k0_off4 k) S1x8x128.size (k0_off4_inb k)).toLoadRect X3))),
       row0 (tileI ⟨v419, v421, v425, v427, v431, v433, v480, v483⟩ acc.2.2.2.2.2.2.1 acc.2.2.2.2.2.2.2 (un (arg2.view.readAt (Elt Ideal) (Rect.unit (s := S4x1024x128) (k0_off4 k) S1x8x128.size (k0_off4_inb k)).toLoadRect X2)) (un (arg3.view.readAt (Elt Ideal) (Rect.unit (s := S4x1024x128) (k0_off4 k) S1x8x128.size (k0_off4_inb k)).toLoadRect X3)))) := by
  unfold tripR_k0_t1 trip_k0_t1
  rfl

/-- One trip's stores: per channel block, the tile's result. -/
theorem tripL_eq (k : Fin k0_t1_loop.trips) (acc : V8 × V8 × V8 × V8 × V8 × V8 × V8 × V8) :
    tripL_k0_t1 (F := Ideal) 𝒱 c bd i arg2 harg2 arg3 harg3 arg4 harg4 arg5 harg5 arg6 harg6 arg7 harg7 arg8 harg8 arg9 harg9
      v59 v61 v65 v67 v71 v73 v120 v123 v179 v181 v185 v187 v191 v193 v240 v243 v299 v301 v305 v307 v311 v313 v360 v363 v419 v421 v425 v427 v431 v433 v480 v483 v485 v487 v489 v491 v493 v495 v497 X2 X3 k acc
    = ([⟨Rect.unit (s := S4x1024x128) (k0_off4 k) S1x8x128.size (k0_off4_inb k), up (tileR ⟨v419, v421, v425, v427, v431, v433, v480, v483⟩ acc.2.2.2.2.2.2.1 acc.2.2.2.2.2.2.2 (un (arg2.view.readAt (Elt Ideal) (Rect.unit (s := S4x1024x128) (k0_off4 k) S1x8x128.size (k0_off4_inb k)).toLoadRect X2)) (un (arg3.view.readAt (Elt Ideal) (Rect.unit (s := S4x1024x128) (k0_off4 k) S1x8x128.size (k0_off4_inb k)).toLoadRect X3)))⟩,
        ⟨Rect.unit (s := S4x1024x128) (k0_off3 k) S1x8x128.size (k0_off3_inb k), up (tileR ⟨v299, v301, v305, v307, v311, v313, v360, v363⟩ acc.2.2.2.2.1 acc.2.2.2.2.2.1 (un (arg2.view.readAt (Elt Ideal) (Rect.unit (s := S4x1024x128) (k0_off3 k) S1x8x128.size (k0_off3_inb k)).toLoadRect X2)) (un (arg3.view.readAt (Elt Ideal) (Rect.unit (s := S4x1024x128) (k0_off3 k) S1x8x128.size (k0_off3_inb k)).toLoadRect X3)))⟩,
        ⟨Rect.unit (s := S4x1024x128) (k0_off2 k) S1x8x128.size (k0_off2_inb k), up (tileR ⟨v179, v181, v185, v187, v191, v193, v240, v243⟩ acc.2.2.1 acc.2.2.2.1 (un (arg2.view.readAt (Elt Ideal) (Rect.unit (s := S4x1024x128) (k0_off2 k) S1x8x128.size (k0_off2_inb k)).toLoadRect X2)) (un (arg3.view.readAt (Elt Ideal) (Rect.unit (s := S4x1024x128) (k0_off2 k) S1x8x128.size (k0_off2_inb k)).toLoadRect X3)))⟩,
        ⟨Rect.unit (s := S4x1024x128) (k0_off1 k) S1x8x128.size (k0_off1_inb k), up (tileR ⟨v59, v61, v65, v67, v71, v73, v120, v123⟩ acc.1 acc.2.1 (un (arg2.view.readAt (Elt Ideal) (Rect.unit (s := S4x1024x128) (k0_off1 k) S1x8x128.size (k0_off1_inb k)).toLoadRect X2)) (un (arg3.view.readAt (Elt Ideal) (Rect.unit (s := S4x1024x128) (k0_off1 k) S1x8x128.size (k0_off1_inb k)).toLoadRect X3)))⟩],
       [⟨Rect.unit (s := S4x1024x128) (k0_off4 k) S1x8x128.size (k0_off4_inb k), up (tileI ⟨v419, v421, v425, v427, v431, v433, v480, v483⟩ acc.2.2.2.2.2.2.1 acc.2.2.2.2.2.2.2 (un (arg2.view.readAt (Elt Ideal) (Rect.unit (s := S4x1024x128) (k0_off4 k) S1x8x128.size (k0_off4_inb k)).toLoadRect X2)) (un (arg3.view.readAt (Elt Ideal) (Rect.unit (s := S4x1024x128) (k0_off4 k) S1x8x128.size (k0_off4_inb k)).toLoadRect X3)))⟩,
        ⟨Rect.unit (s := S4x1024x128) (k0_off3 k) S1x8x128.size (k0_off3_inb k), up (tileI ⟨v299, v301, v305, v307, v311, v313, v360, v363⟩ acc.2.2.2.2.1 acc.2.2.2.2.2.1 (un (arg2.view.readAt (Elt Ideal) (Rect.unit (s := S4x1024x128) (k0_off3 k) S1x8x128.size (k0_off3_inb k)).toLoadRect X2)) (un (arg3.view.readAt (Elt Ideal) (Rect.unit (s := S4x1024x128) (k0_off3 k) S1x8x128.size (k0_off3_inb k)).toLoadRect X3)))⟩,
        ⟨Rect.unit (s := S4x1024x128) (k0_off2 k) S1x8x128.size (k0_off2_inb k), up (tileI ⟨v179, v181, v185, v187, v191, v193, v240, v243⟩ acc.2.2.1 acc.2.2.2.1 (un (arg2.view.readAt (Elt Ideal) (Rect.unit (s := S4x1024x128) (k0_off2 k) S1x8x128.size (k0_off2_inb k)).toLoadRect X2)) (un (arg3.view.readAt (Elt Ideal) (Rect.unit (s := S4x1024x128) (k0_off2 k) S1x8x128.size (k0_off2_inb k)).toLoadRect X3)))⟩,
        ⟨Rect.unit (s := S4x1024x128) (k0_off1 k) S1x8x128.size (k0_off1_inb k), up (tileI ⟨v59, v61, v65, v67, v71, v73, v120, v123⟩ acc.1 acc.2.1 (un (arg2.view.readAt (Elt Ideal) (Rect.unit (s := S4x1024x128) (k0_off1 k) S1x8x128.size (k0_off1_inb k)).toLoadRect X2)) (un (arg3.view.readAt (Elt Ideal) (Rect.unit (s := S4x1024x128) (k0_off1 k) S1x8x128.size (k0_off1_inb k)).toLoadRect X3)))⟩]) := by
  unfold tripL_k0_t1 trip_k0_t1
  rfl

end Cert.Scan

end
-- ==== Proof.ScanLoop.lean ====
module

public import proofs.«01_k».proof.Proof.ScanTrip

@[expose] public section

set_option maxRecDepth 16384

noncomputable section

namespace Cert.Scan

open Idealize.ShloMosaic Cert.KernelIdeal Cert.KernelIdeal.Gen
open Idealize.ShloMosaic.ValueIdx (mulf_apply addf_apply subf_apply)

/-- A loaded tile's entries are the window's, at the tile's rows. -/
theorem un_readAt (v : View sig .tc .vmem S4x1024x128 .f32) (X : BufTy.Contents (Elt Ideal) v.ty) {off : Fin 3 → ℕ}
    (inb : ∀ a, off a + S1x8x128.size a ≤ S4x1024x128.size a) (q : Fin 4) (j : ℕ) (h : off = ![q.val, j, 0]) (r : Fin 8) (l : Fin 128)
    (hj : j + r.val < 1024) :
    un (v.readAt (Elt Ideal) (Rect.unit (s := S4x1024x128) off S1x8x128.size inb).toLoadRect X) (ix2 r l) = v.read (Elt Ideal) X (ix3 q ⟨j + r.val, hj⟩ l) := by
  subst h
  rw [un_apply]
  refine congrArg (v.read (Elt Ideal) X) (funext fun a => Fin.ext ?_)
  match a with
  | ⟨0, _⟩ => exact Nat.add_zero _
  | ⟨1, _⟩ => exact congrArg (j + ·) (Nat.one_mul _)
  | ⟨2, _⟩ => exact (Nat.zero_add _).trans (Nat.one_mul _)

/-- A store of one tile, read inside it. -/
theorem read_tile_mem (v : View sig .tc .vmem S4x1024x128 .f32) (f : BufTy.Contents (Elt Ideal) v.ty) {off : Fin 3 → ℕ}
    (inb : ∀ a, off a + S1x8x128.size a ≤ S4x1024x128.size a) (q : Fin 4) (j : ℕ) (h : off = ![q.val, j, 0]) (w : V8)
    (L : List (View.Piece (Elt Ideal) S4x1024x128 .f32)) (r : Fin 1024) (s : Fin 8) (hr : r.val = j + s.val) (l : Fin 128) :
    v.read (Elt Ideal) (v.writes (Elt Ideal) f (⟨Rect.unit (s := S4x1024x128) off S1x8x128.size inb, up w⟩ :: L)) (ix3 q r l) = w (ix2 s l) := by
  rw [← up_apply w s l]
  refine View.read_writes_cons_unit_of_mem v f inb (up w) L (ix3 q r l) (ix3 0 s l) h fun a => ?_
  match a with
  | ⟨0, _⟩ => rfl
  | ⟨1, _⟩ => exact hr
  | ⟨2, _⟩ => exact (Nat.zero_add _).symm

/-- A store of one tile, read in another channel. -/
theorem read_tile_channel (v : View sig .tc .vmem S4x1024x128 .f32) (f : BufTy.Contents (Elt Ideal) v.ty) {off : Fin 3 → ℕ}
    (inb : ∀ a, off a + S1x8x128.size a ≤ S4x1024x128.size a) (q q' : Fin 4) (hq : q ≠ q') (j : ℕ) (h : off = ![q'.val, j, 0])
    (w : FVec Ideal S1x8x128 .f32) (L : List (View.Piece (Elt Ideal) S4x1024x128 .f32)) (r : Fin 1024) (l : Fin 128) :
    v.read (Elt Ideal) (v.writes (Elt Ideal) f (⟨Rect.unit (s := S4x1024x128) off S1x8x128.size inb, w⟩ :: L)) (ix3 q r l)
      = v.read (Elt Ideal) (v.writes (Elt Ideal) f L) (ix3 q r l) := by
  refine View.read_writes_cons_unit_of_not_mem v f inb w L (ix3 q r l) h 0 ?_
  have hne : q.val ≠ q'.val := fun e => hq (Fin.ext e)
  show q.val < q'.val ∨ q'.val + 1 ≤ q.val
  omega

/-- A store of one tile, read below it. -/
theorem read_tile_below (v : View sig .tc .vmem S4x1024x128 .f32) (f : BufTy.Contents (Elt Ideal) v.ty) {off : Fin 3 → ℕ}
    (inb : ∀ a, off a + S1x8x128.size a ≤ S4x1024x128.size a) (q q' : Fin 4) (j : ℕ) (h : off = ![q'.val, j, 0])
    (w : FVec Ideal S1x8x128 .f32) (L : List (View.Piece (Elt Ideal) S4x1024x128 .f32)) (r : Fin 1024) (hr : j + 8 ≤ r.val) (l : Fin 128) :
    v.read (Elt Ideal) (v.writes (Elt Ideal) f (⟨Rect.unit (s := S4x1024x128) off S1x8x128.size inb, w⟩ :: L)) (ix3 q r l)
      = v.read (Elt Ideal) (v.writes (Elt Ideal) f L) (ix3 q r l) :=
  View.read_writes_cons_unit_of_not_mem v f inb w L (ix3 q r l) h 1 (Or.inr hr)

/-- One trip's four stores: the tile of the channel read, at its rows. -/
theorem read_four (v : View sig .tc .vmem S4x1024x128 .f32) (f : BufTy.Contents (Elt Ideal) v.ty) {o0 o1 o2 o3 : Fin 3 → ℕ}
    (b0 : ∀ a, o0 a + S1x8x128.size a ≤ S4x1024x128.size a) (b1 : ∀ a, o1 a + S1x8x128.size a ≤ S4x1024x128.size a)
    (b2 : ∀ a, o2 a + S1x8x128.size a ≤ S4x1024x128.size a) (b3 : ∀ a, o3 a + S1x8x128.size a ≤ S4x1024x128.size a) (j : ℕ)
    (h0 : o0 = ![0, j, 0]) (h1 : o1 = ![1, j, 0]) (h2 : o2 = ![2, j, 0]) (h3 : o3 = ![3, j, 0]) (w0 w1 w2 w3 : V8)
    (L : List (View.Piece (Elt Ideal) S4x1024x128 .f32)) (q : Fin 4) (r : Fin 1024) (s : Fin 8) (hr : r.val = j + s.val) (l : Fin 128) :
    v.read (Elt Ideal) (v.writes (Elt Ideal) f (⟨Rect.unit (s := S4x1024x128) o3 S1x8x128.size b3, up w3⟩
      :: ⟨Rect.unit (s := S4x1024x128) o2 S1x8x128.size b2, up w2⟩ :: ⟨Rect.unit (s := S4x1024x128) o1 S1x8x128.size b1, up w1⟩
      :: ⟨Rect.unit (s := S4x1024x128) o0 S1x8x128.size b0, up w0⟩ :: L)) (ix3 q r l)
      = (![w0, w1, w2, w3] : Fin 4 → V8) q (ix2 s l) := by
  fin_cases q
  · refine (read_tile_channel v f b3 0 3 (by decide) j h3 _ _ r l).trans ?_
    refine (read_tile_channel v f b2 0 2 (by decide) j h2 _ _ r l).trans ?_
    refine (read_tile_channel v f b1 0 1 (by decide) j h1 _ _ r l).trans ?_
    exact read_tile_mem v f b0 0 j h0 w0 L r s hr l
  · refine (read_tile_channel v f b3 1 3 (by decide) j h3 _ _ r l).trans ?_
    refine (read_tile_channel v f b2 1 2 (by decide) j h2 _ _ r l).trans ?_
    exact read_tile_mem v f b1 1 j h1 w1 _ r s hr l
  · refine (read_tile_channel v f b3 2 3 (by decide) j h3 _ _ r l).trans ?_
    exact read_tile_mem v f b2 2 j h2 w2 _ r s hr l
  · exact read_tile_mem v f b3 3 j h3 w3 _ r s hr l

/-- One trip's four stores leave the rows below them. -/
theorem read_four_below (v : View sig .tc .vmem S4x1024x128 .f32) (f : BufTy.Contents (Elt Ideal) v.ty) {o0 o1 o2 o3 : Fin 3 → ℕ}
    (b0 : ∀ a, o0 a + S1x8x128.size a ≤ S4x1024x128.size a) (b1 : ∀ a, o1 a + S1x8x128.size a ≤ S4x1024x128.size a)
    (b2 : ∀ a, o2 a + S1x8x128.size a ≤ S4x1024x128.size a) (b3 : ∀ a, o3 a + S1x8x128.size a ≤ S4x1024x128.size a) (j : ℕ)
    (h0 : o0 = ![0, j, 0]) (h1 : o1 = ![1, j, 0]) (h2 : o2 = ![2, j, 0]) (h3 : o3 = ![3, j, 0]) (w0 w1 w2 w3 : FVec Ideal S1x8x128 .f32)
    (L : List (View.Piece (Elt Ideal) S4x1024x128 .f32)) (q : Fin 4) (r : Fin 1024) (hr : j + 8 ≤ r.val) (l : Fin 128) :
    v.read (Elt Ideal) (v.writes (Elt Ideal) f (⟨Rect.unit (s := S4x1024x128) o3 S1x8x128.size b3, w3⟩
      :: ⟨Rect.unit (s := S4x1024x128) o2 S1x8x128.size b2, w2⟩ :: ⟨Rect.unit (s := S4x1024x128) o1 S1x8x128.size b1, w1⟩
      :: ⟨Rect.unit (s := S4x1024x128) o0 S1x8x128.size b0, w0⟩ :: L)) (ix3 q r l)
      = v.read (Elt Ideal) (v.writes (Elt Ideal) f L) (ix3 q r l) :=
  (read_tile_below v f b3 q 3 j h3 _ _ r hr l).trans <| (read_tile_below v f b2 q 2 j h2 _ _ r hr l).trans <|
    (read_tile_below v f b1 q 1 j h1 _ _ r hr l).trans <| read_tile_below v f b0 q 0 j h0 _ _ r hr l

/-- The tile of trip `k`: the scan's steps `8k` to `8k + 7`. -/
theorem Mults.Ok.at_trip {M : Mults} {a : Fin 128 → ℂ} (hM : M.Ok a) {cr ci : V8} {cc : Fin 128 → ℂ} {B : Fin 128 → ℕ → ℂ}
    (v2 v3 : View sig .tc .vmem S4x1024x128 .f32) (X2 : BufTy.Contents (Elt Ideal) v2.ty) (X3 : BufTy.Contents (Elt Ideal) v3.ty)
    {off : Fin 3 → ℕ} (inb : ∀ a, off a + S1x8x128.size a ≤ S4x1024x128.size a) (q : Fin 4) (k : ℕ) (hk : k < 128)
    (h : off = ![q.val, 1016 - 8 * k, 0])
    (hX2 : ∀ (r : Fin 1024) l, v2.read (Elt Ideal) X2 (ix3 q r l) = ((B l (1023 - r.val)).re : EReal))
    (hX3 : ∀ (r : Fin 1024) l, v3.read (Elt Ideal) X3 (ix3 q r l) = ((B l (1023 - r.val)).im : EReal))
    (hc : IsC cr ci (fun _ l => rscan (B l) (a l) (cc l) (8 * k))) :
    IsC (tileR M cr ci (un (v2.readAt (Elt Ideal) (Rect.unit (s := S4x1024x128) off S1x8x128.size inb).toLoadRect X2))
          (un (v3.readAt (Elt Ideal) (Rect.unit (s := S4x1024x128) off S1x8x128.size inb).toLoadRect X3)))
        (tileI M cr ci (un (v2.readAt (Elt Ideal) (Rect.unit (s := S4x1024x128) off S1x8x128.size inb).toLoadRect X2))
          (un (v3.readAt (Elt Ideal) (Rect.unit (s := S4x1024x128) off S1x8x128.size inb).toLoadRect X3)))
        (fun r l => rscan (B l) (a l) (cc l) (8 * k + (8 - r.val))) := by
  have hx : IsC (un (v2.readAt (Elt Ideal) (Rect.unit (s := S4x1024x128) off S1x8x128.size inb).toLoadRect X2))
      (un (v3.readAt (Elt Ideal) (Rect.unit (s := S4x1024x128) off S1x8x128.size inb).toLoadRect X3))
      (fun r l => (fun (l : Fin 128) n => B l (8 * k + n)) l (7 - r.val)) := by
    constructor
    · intro r l
      have hj : 1016 - 8 * k + r.val < 1024 := by omega
      rw [un_readAt v2 X2 inb q _ h r l hj, hX2]
      show ((B l (1023 - (1016 - 8 * k + r.val))).re : EReal) = _
      rw [show 1023 - (1016 - 8 * k + r.val) = 8 * k + (7 - r.val) by omega]
    · intro r l
      have hj : 1016 - 8 * k + r.val < 1024 := by omega
      rw [un_readAt v3 X3 inb q _ h r l hj, hX3]
      show ((B l (1023 - (1016 - 8 * k + r.val))).im : EReal) = _
      rw [show 1023 - (1016 - 8 * k + r.val) = 8 * k + (7 - r.val) by omega]
  have ht := hM.tile (b := fun l n => B l (8 * k + n)) hc hx
  simp only [rscan_add] at ht
  exact ht

variable (𝒱 : Variants) (c : Dev nD) (bd : Option 𝒱.V) (i : grid0.Coords)
  (arg2 : Memref sig .tc .vmem S4x1024x128 .f32) (harg2 : arg2.IsWhole) (arg3 : Memref sig .tc .vmem S4x1024x128 .f32) (harg3 : arg3.IsWhole)
  (arg4 : Memref sig .tc .vmem S4x1x128 .f32) (harg4 : arg4.IsWhole) (arg5 : Memref sig .tc .vmem S4x1x128 .f32) (harg5 : arg5.IsWhole)
  (arg6 : Memref sig .tc .vmem S4x1024x128 .f32) (harg6 : arg6.IsWhole) (arg7 : Memref sig .tc .vmem S4x1024x128 .f32) (harg7 : arg7.IsWhole)
  (arg8 : Memref sig .tc .vmem S4x8x128 .f32) (harg8 : arg8.IsWhole) (arg9 : Memref sig .tc .vmem S4x8x128 .f32) (harg9 : arg9.IsWhole)
  (v59 v61 v65 v67 v71 v73 v120 v123 v179 v181 v185 v187 v191 v193 v240 v243 v299 v301 v305 v307 v311 v313 v360 v363 v419 v421 v425 v427 v431 v433 v480 v483 v485 v487 v489 v491 v493 v495 v497 : V8)
  (X2 : BufTy.Contents (Elt Ideal) arg2.view.ty) (X3 : BufTy.Contents (Elt Ideal) arg3.view.ty)
  (init : V8 × V8 × V8 × V8 × V8 × V8 × V8 × V8)
  (a cc : Fin 4 → Fin 128 → ℂ) (B : Fin 4 → Fin 128 → ℕ → ℂ)

/-- What the loop has done before a trip: the carried numbers and the rows stored so far are the scan's. -/
structure Done (k : ℕ) (s : (V8 × V8 × V8 × V8 × V8 × V8 × V8 × V8) × List (View.Piece (Elt Ideal) S4x1024x128 .f32) × List (View.Piece (Elt Ideal) S4x1024x128 .f32)) : Prop where
  c0 : IsC (s.1.1) (s.1.2.1) (fun _ l => rscan (B 0 l) (a 0 l) (cc 0 l) (8 * k))
  c1 : IsC (s.1.2.2.1) (s.1.2.2.2.1) (fun _ l => rscan (B 1 l) (a 1 l) (cc 1 l) (8 * k))
  c2 : IsC (s.1.2.2.2.2.1) (s.1.2.2.2.2.2.1) (fun _ l => rscan (B 2 l) (a 2 l) (cc 2 l) (8 * k))
  c3 : IsC (s.1.2.2.2.2.2.2.1) (s.1.2.2.2.2.2.2.2) (fun _ l => rscan (B 3 l) (a 3 l) (cc 3 l) (8 * k))
  o6 : ∀ (f : BufTy.Contents (Elt Ideal) arg6.view.ty) (q : Fin 4) (r : Fin 1024) (l : Fin 128), 1024 ≤ r.val + 8 * k →
    arg6.view.read (Elt Ideal) (arg6.view.writes (Elt Ideal) f s.2.1) (ix3 q r l) = ((rscan (B q l) (a q l) (cc q l) (1024 - r.val)).re : EReal)
  o7 : ∀ (f : BufTy.Contents (Elt Ideal) arg7.view.ty) (q : Fin 4) (r : Fin 1024) (l : Fin 128), 1024 ≤ r.val + 8 * k →
    arg7.view.read (Elt Ideal) (arg7.view.writes (Elt Ideal) f s.2.2) (ix3 q r l) = ((rscan (B q l) (a q l) (cc q l) (1024 - r.val)).im : EReal)

/-- The loop's state is the scan's at every trip. -/
theorem st_done (hM0 : Mults.Ok ⟨v59, v61, v65, v67, v71, v73, v120, v123⟩ (a 0)) (hM1 : Mults.Ok ⟨v179, v181, v185, v187, v191, v193, v240, v243⟩ (a 1))
    (hM2 : Mults.Ok ⟨v299, v301, v305, v307, v311, v313, v360, v363⟩ (a 2)) (hM3 : Mults.Ok ⟨v419, v421, v425, v427, v431, v433, v480, v483⟩ (a 3))
    (hX2 : ∀ (q : Fin 4) (r : Fin 1024) l, arg2.view.read (Elt Ideal) X2 (ix3 q r l) = ((B q l (1023 - r.val)).re : EReal))
    (hX3 : ∀ (q : Fin 4) (r : Fin 1024) l, arg3.view.read (Elt Ideal) X3 (ix3 q r l) = ((B q l (1023 - r.val)).im : EReal))
    (h0 : IsC init.1 init.2.1 (fun _ l => cc 0 l)) (h1 : IsC init.2.2.1 init.2.2.2.1 (fun _ l => cc 1 l))
    (h2 : IsC init.2.2.2.2.1 init.2.2.2.2.2.1 (fun _ l => cc 2 l)) (h3 : IsC init.2.2.2.2.2.2.1 init.2.2.2.2.2.2.2 (fun _ l => cc 3 l))
    (k : ℕ) (hk : k ≤ 128) :
    Done arg6 arg7 a cc B k (st_k0_t1 (F := Ideal) 𝒱 c bd i arg2 harg2 arg3 harg3 arg4 harg4 arg5 harg5 arg6 harg6 arg7 harg7 arg8 harg8 arg9 harg9
      v59 v61 v65 v67 v71 v73 v120 v123 v179 v181 v185 v187 v191 v193 v240 v243 v299 v301 v305 v307 v311 v313 v360 v363 v419 v421 v425 v427 v431 v433 v480 v483 v485 v487 v489 v491 v493 v495 v497 X2 X3 init k) := by
  have htr : k0_t1_loop.trips = 128 := by decide +kernel
  induction k with
  | zero =>
    exact ⟨h0, h1, h2, h3, fun f q r l h => by omega, fun f q r l h => by omega⟩
  | succ k ih =>
    have hD := ih (by omega)
    have hk' : k < k0_t1_loop.trips := by omega
    have e := st_k0_t1_succ (F := Ideal) 𝒱 c bd i arg2 harg2 arg3 harg3 arg4 harg4 arg5 harg5 arg6 harg6 arg7 harg7 arg8 harg8 arg9 harg9
      v59 v61 v65 v67 v71 v73 v120 v123 v179 v181 v185 v187 v191 v193 v240 v243 v299 v301 v305 v307 v311 v313 v360 v363 v419 v421 v425 v427 v431 v433 v480 v483 v485 v487 v489 v491 v493 v495 v497 X2 X3 init ⟨k, hk'⟩
    rw [tripR_eq, tripL_eq] at e
    dsimp only at e
    rw [e]
    generalize st_k0_t1 (F := Ideal) 𝒱 c bd i arg2 harg2 arg3 harg3 arg4 harg4 arg5 harg5 arg6 harg6 arg7 harg7 arg8 harg8 arg9 harg9
      v59 v61 v65 v67 v71 v73 v120 v123 v179 v181 v185 v187 v191 v193 v240 v243 v299 v301 v305 v307 v311 v313 v360 v363 v419 v421 v425 v427 v431 v433 v480 v483 v485 v487 v489 v491 v493 v495 v497 X2 X3 init k = s at hD ⊢
    have t0 := hM0.at_trip arg2.view arg3.view X2 X3 (k0_off1_inb ⟨k, hk'⟩) 0 k (by omega) (k0_off1_eq ⟨k, hk'⟩) (hX2 0) (hX3 0) hD.c0
    have t1 := hM1.at_trip arg2.view arg3.view X2 X3 (k0_off2_inb ⟨k, hk'⟩) 1 k (by omega) (k0_off2_eq ⟨k, hk'⟩) (hX2 1) (hX3 1) hD.c1
    have t2 := hM2.at_trip arg2.view arg3.view X2 X3 (k0_off3_inb ⟨k, hk'⟩) 2 k (by omega) (k0_off3_eq ⟨k, hk'⟩) (hX2 2) (hX3 2) hD.c2
    have t3 := hM3.at_trip arg2.view arg3.view X2 X3 (k0_off4_inb ⟨k, hk'⟩) 3 k (by omega) (k0_off4_eq ⟨k, hk'⟩) (hX2 3) (hX3 3) hD.c3
    refine ⟨t0.row0, t1.row0, t2.row0, t3.row0, fun f q r l h => ?_, fun f q r l h => ?_⟩
    · by_cases hr : 1024 - 8 * k ≤ r.val
      · refine (read_four_below arg6.view f (k0_off1_inb ⟨k, hk'⟩) (k0_off2_inb ⟨k, hk'⟩) (k0_off3_inb ⟨k, hk'⟩) (k0_off4_inb ⟨k, hk'⟩) (1016 - 8 * k)
          (k0_off1_eq ⟨k, hk'⟩) (k0_off2_eq ⟨k, hk'⟩) (k0_off3_eq ⟨k, hk'⟩) (k0_off4_eq ⟨k, hk'⟩) _ _ _ _ _ q r (by omega) l).trans ?_
        exact hD.o6 f q r l (by omega)
      · have hs : r.val - (1016 - 8 * k) < 8 := by omega
        refine (read_four arg6.view f (k0_off1_inb ⟨k, hk'⟩) (k0_off2_inb ⟨k, hk'⟩) (k0_off3_inb ⟨k, hk'⟩) (k0_off4_inb ⟨k, hk'⟩) (1016 - 8 * k)
          (k0_off1_eq ⟨k, hk'⟩) (k0_off2_eq ⟨k, hk'⟩) (k0_off3_eq ⟨k, hk'⟩) (k0_off4_eq ⟨k, hk'⟩) _ _ _ _ _ q r ⟨_, hs⟩ (by show _ = _ + (r.val - (1016 - 8 * k)); omega) l).trans ?_
        have hn : 8 * k + (8 - (r.val - (1016 - 8 * k))) = 1024 - r.val := by omega
        rw [← hn]
        fin_cases q
        · exact t0.re ⟨_, hs⟩ l
        · exact t1.re ⟨_, hs⟩ l
        · exact t2.re ⟨_, hs⟩ l
        · exact t3.re ⟨_, hs⟩ l
    · by_cases hr : 1024 - 8 * k ≤ r.val
      · refine (read_four_below arg7.view f (k0_off1_inb ⟨k, hk'⟩) (k0_off2_inb ⟨k, hk'⟩) (k0_off3_inb ⟨k, hk'⟩) (k0_off4_inb ⟨k, hk'⟩) (1016 - 8 * k)
          (k0_off1_eq ⟨k, hk'⟩) (k0_off2_eq ⟨k, hk'⟩) (k0_off3_eq ⟨k, hk'⟩) (k0_off4_eq ⟨k, hk'⟩) _ _ _ _ _ q r (by omega) l).trans ?_
        exact hD.o7 f q r l (by omega)
      · have hs : r.val - (1016 - 8 * k) < 8 := by omega
        refine (read_four arg7.view f (k0_off1_inb ⟨k, hk'⟩) (k0_off2_inb ⟨k, hk'⟩) (k0_off3_inb ⟨k, hk'⟩) (k0_off4_inb ⟨k, hk'⟩) (1016 - 8 * k)
          (k0_off1_eq ⟨k, hk'⟩) (k0_off2_eq ⟨k, hk'⟩) (k0_off3_eq ⟨k, hk'⟩) (k0_off4_eq ⟨k, hk'⟩) _ _ _ _ _ q r ⟨_, hs⟩ (by show _ = _ + (r.val - (1016 - 8 * k)); omega) l).trans ?_
        have hn : 8 * k + (8 - (r.val - (1016 - 8 * k))) = 1024 - r.val := by omega
        rw [← hn]
        fin_cases q
        · exact t0.im ⟨_, hs⟩ l
        · exact t1.im ⟨_, hs⟩ l
        · exact t2.im ⟨_, hs⟩ l
        · exact t3.im ⟨_, hs⟩ l

end Cert.Scan

end
-- ==== Proof.ScanMults.lean ====
module

public import proofs.«01_k».proof.Proof.ScanTile

@[expose] public section

set_option maxRecDepth 16384

noncomputable section

namespace Cert.Scan

open Idealize.ShloMosaic Cert.KernelIdeal Cert.KernelIdeal.Gen
open Idealize.ShloMosaic.ValueIdx (mulf_apply addf_apply subf_apply)

/-- A loaded row on every row of a tile. -/
def spread (x : FVec Ideal S1x1x128 .f32) : V8 :=
  broadcastTo S8x128 (shapeCast S1x128 (shapeCast S1x128 x shapeCasts_S1x1x128_S1x128) shapeCasts_S1x128_S1x128) broadcasts_S1x128_S8x128
/-- The opposite of a tile. -/
def opp (x : V8) : V8 := mulf (broadcast S8x128 (Scalar.ofBits (F := Ideal) .f32 0xBF800000#32)) x
/-- The power `n + 1` of the number whose parts are `r`, `i`. -/
def pw (r i : V8) : ℕ → V8 × V8
  | 0 => (r, i)
  | n + 1 => (subf (mulf r (pw r i n).1) (mulf i (pw r i n).2), addf (mulf r (pw r i n).2) (mulf i (pw r i n).1))
/-- The row number. -/
def rowi : IVec S8x128 32 := iota .tc S8x128 32 [0] iota_S8x128_d0_w32
/-- `x` on the rows up to `n`, zero below. -/
def msk (n : BitVec 32) (x : V8) : V8 :=
  select (cmpi .sle rowi (broadcast S8x128 n)) x (broadcast S8x128 (Scalar.ofBits (F := Ideal) .f32 0x00000000#32))
/-- `x` on row `n`, `y` elsewhere. -/
def pick (n : BitVec 32) (x y : V8) : V8 := select (cmpi .eq rowi (broadcast S8x128 n)) x y
/-- The rows' multipliers of the carried number. -/
def chain (p : ℕ → V8) : V8 :=
  pick 7#32 (p 0) (pick 6#32 (p 1) (pick 5#32 (p 2) (pick 4#32 (p 3) (pick 3#32 (p 4) (pick 2#32 (p 5) (pick 1#32 (p 6)
    (pick 0#32 (p 7) (broadcast S8x128 (Scalar.ofBits (F := Ideal) .f32 0x00000000#32)))))))))
/-- The multipliers of the channel whose rows are `ar`, `ai`. -/
def multsOf (ar ai : FVec Ideal S1x1x128 .f32) : Mults :=
  ⟨msk 6#32 (pw (spread ar) (opp (spread ai)) 0).1, msk 6#32 (pw (spread ar) (opp (spread ai)) 0).2,
   msk 5#32 (pw (spread ar) (opp (spread ai)) 1).1, msk 5#32 (pw (spread ar) (opp (spread ai)) 1).2,
   msk 3#32 (pw (spread ar) (opp (spread ai)) 3).1, msk 3#32 (pw (spread ar) (opp (spread ai)) 3).2,
   chain (fun n => (pw (spread ar) (opp (spread ai)) n).1), chain (fun n => (pw (spread ar) (opp (spread ai)) n).2)⟩

theorem spread_apply (x : FVec Ideal S1x1x128 .f32) (r : Fin 8) (l : Fin 128) : spread x (ix2 r l) = x (ix3 0 0 l) := by
  unfold spread
  pointwise

theorem bits_neg_one : Scalar.ofBits (F := Ideal) .f32 0xBF800000#32 = ((-1 : ℝ) : EReal) :=
  (IdealRules.sign_bit.ideal_negOnePat .f32).trans (by push_cast; rfl)

theorem bits_zero : Scalar.ofBits (F := Ideal) .f32 0x00000000#32 = ((0 : ℝ) : EReal) :=
  (Ideal.ofBits_zero_f32).trans (by push_cast; rfl)

theorem rowi_apply (r : Fin 8) (l : Fin 128) : rowi (ix2 r l) = BitVec.ofNat 32 r.val := by
  unfold rowi
  pointwise

theorem msk_apply (n : BitVec 32) (k : ℕ) (h : ∀ r : Fin 8, IntOp.cmpi .sle (BitVec.ofNat 32 r.val) n = if r.val ≤ k then 1#1 else 0#1)
    (x : V8) (r : Fin 8) (l : Fin 128) : msk n x (ix2 r l) = if r.val ≤ k then x (ix2 r l) else ((0 : ℝ) : EReal) := by
  show Scalar.select (IntOp.cmpi .sle (rowi (ix2 r l)) n) (x (ix2 r l)) (Scalar.ofBits (F := Ideal) .f32 0x00000000#32) = _
  rw [rowi_apply, h r, bits_zero]
  split <;> rfl

theorem pick_apply (n : BitVec 32) (k : ℕ) (h : ∀ r : Fin 8, IntOp.cmpi .eq (BitVec.ofNat 32 r.val) n = if r.val = k then 1#1 else 0#1)
    (x y : V8) (r : Fin 8) (l : Fin 128) : pick n x y (ix2 r l) = if r.val = k then x (ix2 r l) else y (ix2 r l) := by
  show Scalar.select (IntOp.cmpi .eq (rowi (ix2 r l)) n) (x (ix2 r l)) (y (ix2 r l)) = _
  rw [rowi_apply, h r]
  split <;> rfl

theorem IsC.msk {xr xi : V8} {x : Z8} (hx : IsC xr xi x) (n : BitVec 32) (k : ℕ)
    (h : ∀ r : Fin 8, IntOp.cmpi .sle (BitVec.ofNat 32 r.val) n = if r.val ≤ k then 1#1 else 0#1) :
    IsC (msk n xr) (msk n xi) (fun r l => if r.val ≤ k then x r l else 0) where
  re r l := by rw [msk_apply n k h, hx.re]; split <;> rfl
  im r l := by rw [msk_apply n k h, hx.im]; split <;> rfl

theorem chain_apply (p : ℕ → V8) (r : Fin 8) (l : Fin 128) : chain p (ix2 r l) = p (7 - r.val) (ix2 r l) := by
  unfold chain
  rw [pick_apply 7#32 7 (by decide), pick_apply 6#32 6 (by decide), pick_apply 5#32 5 (by decide), pick_apply 4#32 4 (by decide),
    pick_apply 3#32 3 (by decide), pick_apply 2#32 2 (by decide), pick_apply 1#32 1 (by decide), pick_apply 0#32 0 (by decide)]
  fin_cases r <;> simp

theorem IsC.pw {r i : V8} {z : Z8} (h : IsC r i z) (n : ℕ) : IsC (pw r i n).1 (pw r i n).2 (fun s l => z s l ^ (n + 1)) := by
  induction n with
  | zero => exact ⟨fun s l => by rw [zero_add, pow_one]; exact h.re s l, fun s l => by rw [zero_add, pow_one]; exact h.im s l⟩
  | succ n ih =>
    refine ⟨fun s l => ?_, fun s l => ?_⟩
    · show subf (mulf r (Scan.pw r i n).1) (mulf i (Scan.pw r i n).2) (ix2 s l) = _
      rw [pow_succ', Complex.mul_re, subf_apply, mulf_apply, mulf_apply, h.re, h.im, ih.re, ih.im]
      push_cast; rfl
    · show addf (mulf r (Scan.pw r i n).2) (mulf i (Scan.pw r i n).1) (ix2 s l) = _
      rw [pow_succ', Complex.mul_im, addf_apply, mulf_apply, mulf_apply, h.re, h.im, ih.re, ih.im]
      push_cast; rfl

theorem IsC.conj {ar ai : FVec Ideal S1x1x128 .f32} {a : Fin 128 → ℂ} (hr : ∀ l, ar (ix3 0 0 l) = ((a l).re : EReal))
    (hi : ∀ l, ai (ix3 0 0 l) = ((a l).im : EReal)) : IsC (spread ar) (opp (spread ai)) (fun _ l => (starRingEnd ℂ) (a l)) where
  re r l := by rw [spread_apply, hr, Complex.conj_re]
  im r l := by
    show Scalar.ofBits (F := Ideal) .f32 0xBF800000#32 * spread ai (ix2 r l) = _
    rw [spread_apply, hi, bits_neg_one, Complex.conj_im, ← EReal.coe_mul, neg_one_mul]

/-- The multipliers of a channel are the powers of the conjugate of its number. -/
theorem multsOf_ok {ar ai : FVec Ideal S1x1x128 .f32} {a : Fin 128 → ℂ} (hr : ∀ l, ar (ix3 0 0 l) = ((a l).re : EReal))
    (hi : ∀ l, ai (ix3 0 0 l) = ((a l).im : EReal)) : (multsOf ar ai).Ok a where
  h1 := by
    have h := ((IsC.conj hr hi).pw 0).msk 6#32 6 (by decide)
    simp only [zero_add, pow_one] at h
    exact h
  h2 := ((IsC.conj hr hi).pw 1).msk 5#32 5 (by decide)
  h4 := ((IsC.conj hr hi).pw 3).msk 3#32 3 (by decide)
  hc := by
    refine ⟨fun r l => ?_, fun r l => ?_⟩
    · refine (chain_apply (fun n => (Scan.pw (spread ar) (opp (spread ai)) n).1) r l).trans ?_
      rw [((IsC.conj hr hi).pw _).re, show 7 - r.val + 1 = 8 - r.val by omega]
    · refine (chain_apply (fun n => (Scan.pw (spread ar) (opp (spread ai)) n).2) r l).trans ?_
      rw [((IsC.conj hr hi).pw _).im, show 7 - r.val + 1 = 8 - r.val by omega]

end Cert.Scan

end
-- ==== Proof.ScanRun.lean ====
module

public import proofs.«01_k».proof.Proof.ScanLoop
public import proofs.«01_k».proof.Proof.ScanMults
public import Idealize.ShloMosaic.Lib.Exec.Geometry
public import proofs.«01_k».proof.Proof.Gen.KernelIdeal.Points

@[expose] public section

set_option maxRecDepth 16384

noncomputable section

namespace Cert.Scan

open Idealize.ShloMosaic Cert.KernelIdeal Cert.KernelIdeal.Gen
open Idealize.ShloMosaic.ValueIdx (mulf_apply addf_apply subf_apply)

/-- The resource algebra the body's assertions are over. -/
abbrev MM := MT nD τ sig Unit (Elt Ideal) ℕ (UR sig nD τ) ℕ

/-- The body's branch that clears the carried numbers is taken. -/
abbrev first (i : grid0.Coords) : Prop := (Scalar.cmpi .ne (Scalar.extui (Scalar.cmpi .eq (BitVec.ofNat 32 (i 1).val) 0#32)) 0#32) = 1#1

/-- One grid point's four channels: their multipliers, the numbers carried in, and the cotangents in the scan's order. -/
structure Pt where
  a : Fin 4 → Fin 128 → ℂ
  cc : Fin 4 → Fin 128 → ℂ
  B : Fin 4 → Fin 128 → ℕ → ℂ

/-- The scan's number after `n` steps of the block. -/
def Pt.x (p : Pt) (q : Fin 4) (l : Fin 128) (n : ℕ) : ℂ := rscan (p.B q l) (p.a q l) (p.cc q l) n

/-- The block's cotangents, as the windows hold them. -/
def Pt.inR (p : Pt) : FVec Ideal S4x1024x128 .f32 := fun y => ((p.B (y 0) (y 2) (1023 - (y 1).val)).re : EReal)
def Pt.inI (p : Pt) : FVec Ideal S4x1024x128 .f32 := fun y => ((p.B (y 0) (y 2) (1023 - (y 1).val)).im : EReal)
/-- The block's multipliers, as the windows hold them. -/
def Pt.aR (p : Pt) : FVec Ideal S4x1x128 .f32 := fun y => ((p.a (y 0) (y 2)).re : EReal)
def Pt.aI (p : Pt) : FVec Ideal S4x1x128 .f32 := fun y => ((p.a (y 0) (y 2)).im : EReal)
/-- The block's results, as the windows hold them. -/
def Pt.outR (p : Pt) : FVec Ideal S4x1024x128 .f32 := fun y => ((p.x (y 0) (y 2) (1024 - (y 1).val)).re : EReal)
def Pt.outI (p : Pt) : FVec Ideal S4x1024x128 .f32 := fun y => ((p.x (y 0) (y 2) (1024 - (y 1).val)).im : EReal)
/-- The numbers carried after `n` steps, as the scratch holds them. -/
def Pt.scR (p : Pt) (n : ℕ) : FVec Ideal S4x8x128 .f32 := fun y => ((p.x (y 0) (y 2) n).re : EReal)
def Pt.scI (p : Pt) (n : ℕ) : FVec Ideal S4x8x128 .f32 := fun y => ((p.x (y 0) (y 2) n).im : EReal)

/-- A load of one channel's multiplier. -/
theorem readAt_mult (v : View sig .tc .vmem S4x1x128 .f32) (X : BufTy.Contents (Elt Ideal) v.ty) {off : Fin 3 → ℕ}
    (inb : ∀ a, off a + S1x1x128.size a ≤ S4x1x128.size a) (q : Fin 4) (h : off = ![q.val, 0, 0]) (l : Fin 128) :
    v.readAt (Elt Ideal) (Rect.unit (s := S4x1x128) off S1x1x128.size inb).toLoadRect X (ix3 0 0 l) = v.read (Elt Ideal) X (ix3 q 0 l) := by
  subst h
  refine congrArg (v.read (Elt Ideal) X) (funext fun a => Fin.ext ?_)
  match a with
  | ⟨0, _⟩ => exact Nat.add_zero _
  | ⟨1, _⟩ => rfl
  | ⟨2, _⟩ => exact (Nat.zero_add _).trans (Nat.one_mul _)

/-- The multipliers made of one channel's loads. -/
theorem Pt.mults (p : Pt) (v4 v5 : View sig .tc .vmem S4x1x128 .f32) (X4 : BufTy.Contents (Elt Ideal) v4.ty) (X5 : BufTy.Contents (Elt Ideal) v5.ty)
    (h4 : v4.read (Elt Ideal) X4 = p.aR) (h5 : v5.read (Elt Ideal) X5 = p.aI) {off : Fin 3 → ℕ}
    (inb : ∀ a, off a + S1x1x128.size a ≤ S4x1x128.size a) (q : Fin 4) (h : off = ![q.val, 0, 0]) :
    (multsOf (v4.readAt (Elt Ideal) (Rect.unit (s := S4x1x128) off S1x1x128.size inb).toLoadRect X4)
      (v5.readAt (Elt Ideal) (Rect.unit (s := S4x1x128) off S1x1x128.size inb).toLoadRect X5)).Ok (p.a q) :=
  multsOf_ok (fun l => by rw [readAt_mult v4 X4 inb q h l, h4]; rfl) (fun l => by rw [readAt_mult v5 X5 inb q h l, h5]; rfl)

/-- A load of one channel of the scratch. -/
theorem un_readAt_scr (v : View sig .tc .vmem S4x8x128 .f32) (X : BufTy.Contents (Elt Ideal) v.ty) {off : Fin 3 → ℕ}
    (inb : ∀ a, off a + S1x8x128.size a ≤ S4x8x128.size a) (q : Fin 4) (h : off = ![q.val, 0, 0]) (r : Fin 8) (l : Fin 128) :
    un (v.readAt (Elt Ideal) (Rect.unit (s := S4x8x128) off S1x8x128.size inb).toLoadRect X) (ix2 r l) = v.read (Elt Ideal) X (ix3 q r l) := by
  subst h
  rw [un_apply]
  refine congrArg (v.read (Elt Ideal) X) (funext fun a => Fin.ext ?_)
  match a with
  | ⟨0, _⟩ => exact Nat.add_zero _
  | ⟨1, _⟩ => exact (Nat.zero_add _).trans (Nat.one_mul _)
  | ⟨2, _⟩ => exact (Nat.zero_add _).trans (Nat.one_mul _)

/-- The numbers the loop starts from, loaded from the scratch. -/
theorem Pt.carried (p : Pt) (v8 v9 : View sig .tc .vmem S4x8x128 .f32) (X8 : BufTy.Contents (Elt Ideal) v8.ty) (X9 : BufTy.Contents (Elt Ideal) v9.ty)
    (h8 : v8.read (Elt Ideal) X8 = p.scR 0) (h9 : v9.read (Elt Ideal) X9 = p.scI 0) {off : Fin 3 → ℕ}
    (inb : ∀ a, off a + S1x8x128.size a ≤ S4x8x128.size a) (q : Fin 4) (h : off = ![q.val, 0, 0]) :
    IsC (un (v8.readAt (Elt Ideal) (Rect.unit (s := S4x8x128) off S1x8x128.size inb).toLoadRect X8))
      (un (v9.readAt (Elt Ideal) (Rect.unit (s := S4x8x128) off S1x8x128.size inb).toLoadRect X9)) (fun _ l => p.cc q l) where
  re r l := by rw [un_readAt_scr v8 X8 inb q h r l, h8]; rfl
  im r l := by rw [un_readAt_scr v9 X9 inb q h r l, h9]; rfl

/-- A cleared buffer. -/
def zeros : FVec Ideal S4x8x128 .f32 := shapeCast S4x8x128 (broadcast S4x8x128 (Scalar.ofBits (F := Ideal) .f32 0x00000000#32)) shapeCasts_S4x8x128_S4x8x128

theorem zeros_apply (y : S4x8x128.Idx) : zeros y = 0 := by
  unfold zeros
  obtain ⟨q, r, l, rfl⟩ : ∃ (q : Fin 4) (r : Fin 8) (l : Fin 128), y = ix3 q r l := ⟨y 0, y 1, y 2, ValueIdx.eq_ix3 y⟩
  pointwise

/-- A buffer cleared and then read. -/
theorem read_zeros (v : View sig .tc .vmem S4x8x128 .f32) (f : BufTy.Contents (Elt Ideal) v.ty) {off : Fin 3 → ℕ}
    (inb : ∀ a, off a + S4x8x128.size a ≤ S4x8x128.size a) (h : off = ![0, 0, 0]) :
    v.read (Elt Ideal) (v.writes (Elt Ideal) f [⟨Rect.unit (s := S4x8x128) off S4x8x128.size inb, zeros⟩]) = fun _ => (0 : EReal) := by
  funext y
  rw [← zeros_apply y]
  refine View.read_writes_cons_unit_of_mem v f inb zeros [] y y h fun a => ?_
  match a with
  | ⟨0, _⟩ => exact (Nat.zero_add _).symm
  | ⟨1, _⟩ => exact (Nat.zero_add _).symm
  | ⟨2, _⟩ => exact (Nat.zero_add _).symm

/-- Stores of the four channels, read back. -/
theorem read_scr_mem (v : View sig .tc .vmem S4x8x128 .f32) (f : BufTy.Contents (Elt Ideal) v.ty) {off : Fin 3 → ℕ}
    (inb : ∀ a, off a + S1x8x128.size a ≤ S4x8x128.size a) (q : Fin 4) (h : off = ![q.val, 0, 0]) (w : V8)
    (L : List (View.Piece (Elt Ideal) S4x8x128 .f32)) (r : Fin 8) (l : Fin 128) :
    v.read (Elt Ideal) (v.writes (Elt Ideal) f (⟨Rect.unit (s := S4x8x128) off S1x8x128.size inb, up w⟩ :: L)) (ix3 q r l) = w (ix2 r l) := by
  rw [← up_apply w r l]
  refine View.read_writes_cons_unit_of_mem v f inb (up w) L (ix3 q r l) (ix3 0 r l) h fun a => ?_
  match a with
  | ⟨0, _⟩ => rfl
  | ⟨1, _⟩ => exact (Nat.zero_add _).symm
  | ⟨2, _⟩ => exact (Nat.zero_add _).symm

theorem read_scr_other (v : View sig .tc .vmem S4x8x128 .f32) (f : BufTy.Contents (Elt Ideal) v.ty) {off : Fin 3 → ℕ}
    (inb : ∀ a, off a + S1x8x128.size a ≤ S4x8x128.size a) (q q' : Fin 4) (hq : q ≠ q') (h : off = ![q'.val, 0, 0])
    (w : FVec Ideal S1x8x128 .f32) (L : List (View.Piece (Elt Ideal) S4x8x128 .f32)) (r : Fin 8) (l : Fin 128) :
    v.read (Elt Ideal) (v.writes (Elt Ideal) f (⟨Rect.unit (s := S4x8x128) off S1x8x128.size inb, w⟩ :: L)) (ix3 q r l)
      = v.read (Elt Ideal) (v.writes (Elt Ideal) f L) (ix3 q r l) := by
  refine View.read_writes_cons_unit_of_not_mem v f inb w L (ix3 q r l) h 0 ?_
  have hne : q.val ≠ q'.val := fun e => hq (Fin.ext e)
  show q.val < q'.val ∨ q'.val + 1 ≤ q.val
  omega

theorem read_scr (v : View sig .tc .vmem S4x8x128 .f32) (f : BufTy.Contents (Elt Ideal) v.ty) {o0 o1 o2 o3 : Fin 3 → ℕ}
    (b0 : ∀ a, o0 a + S1x8x128.size a ≤ S4x8x128.size a) (b1 : ∀ a, o1 a + S1x8x128.size a ≤ S4x8x128.size a)
    (b2 : ∀ a, o2 a + S1x8x128.size a ≤ S4x8x128.size a) (b3 : ∀ a, o3 a + S1x8x128.size a ≤ S4x8x128.size a)
    (h0 : o0 = ![0, 0, 0]) (h1 : o1 = ![1, 0, 0]) (h2 : o2 = ![2, 0, 0]) (h3 : o3 = ![3, 0, 0]) (w0 w1 w2 w3 : V8)
    (L : List (View.Piece (Elt Ideal) S4x8x128 .f32)) (g : Fin 4 → Fin 128 → EReal)
    (g0 : ∀ r l, w0 (ix2 r l) = g 0 l) (g1 : ∀ r l, w1 (ix2 r l) = g 1 l) (g2 : ∀ r l, w2 (ix2 r l) = g 2 l) (g3 : ∀ r l, w3 (ix2 r l) = g 3 l) :
    v.read (Elt Ideal) (v.writes (Elt Ideal) f (⟨Rect.unit (s := S4x8x128) o3 S1x8x128.size b3, up w3⟩
      :: ⟨Rect.unit (s := S4x8x128) o2 S1x8x128.size b2, up w2⟩ :: ⟨Rect.unit (s := S4x8x128) o1 S1x8x128.size b1, up w1⟩
      :: ⟨Rect.unit (s := S4x8x128) o0 S1x8x128.size b0, up w0⟩ :: L)) = fun y => g (y 0) (y 2) := by
  funext y
  obtain ⟨q, r, l, rfl⟩ : ∃ (q : Fin 4) (r : Fin 8) (l : Fin 128), y = ix3 q r l := ⟨y 0, y 1, y 2, ValueIdx.eq_ix3 y⟩
  show _ = g q l
  match q with
  | ⟨0, _⟩ =>
    refine (read_scr_other v f b3 0 3 (by decide) h3 _ _ r l).trans ?_
    refine (read_scr_other v f b2 0 2 (by decide) h2 _ _ r l).trans ?_
    refine (read_scr_other v f b1 0 1 (by decide) h1 _ _ r l).trans ?_
    exact (read_scr_mem v f b0 0 h0 w0 L r l).trans (g0 r l)
  | ⟨1, _⟩ =>
    refine (read_scr_other v f b3 1 3 (by decide) h3 _ _ r l).trans ?_
    refine (read_scr_other v f b2 1 2 (by decide) h2 _ _ r l).trans ?_
    exact (read_scr_mem v f b1 1 h1 w1 _ r l).trans (g1 r l)
  | ⟨2, _⟩ =>
    refine (read_scr_other v f b3 2 3 (by decide) h3 _ _ r l).trans ?_
    exact (read_scr_mem v f b2 2 h2 w2 _ r l).trans (g2 r l)
  | ⟨3, _⟩ => exact (read_scr_mem v f b3 3 h3 w3 _ r l).trans (g3 r l)

/-- The loop's end gives the block's results. -/
theorem Done.out6 {arg6 arg7 : Memref sig .tc .vmem S4x1024x128 .f32} {p : Pt} {s} (h : Done arg6 arg7 p.a p.cc p.B 128 s)
    (f : BufTy.Contents (Elt Ideal) arg6.view.ty) : arg6.view.read (Elt Ideal) (arg6.view.writes (Elt Ideal) f s.2.1) = p.outR := by
  funext y
  obtain ⟨q, r, l, rfl⟩ : ∃ (q : Fin 4) (r : Fin 1024) (l : Fin 128), y = ix3 q r l := ⟨y 0, y 1, y 2, ValueIdx.eq_ix3 y⟩
  exact h.o6 f q r l (by omega)

theorem Done.out7 {arg6 arg7 : Memref sig .tc .vmem S4x1024x128 .f32} {p : Pt} {s} (h : Done arg6 arg7 p.a p.cc p.B 128 s)
    (f : BufTy.Contents (Elt Ideal) arg7.view.ty) : arg7.view.read (Elt Ideal) (arg7.view.writes (Elt Ideal) f s.2.2) = p.outI := by
  funext y
  obtain ⟨q, r, l, rfl⟩ : ∃ (q : Fin 4) (r : Fin 1024) (l : Fin 128), y = ix3 q r l := ⟨y 0, y 1, y 2, ValueIdx.eq_ix3 y⟩
  exact h.o7 f q r l (by omega)

/-- The loop's end gives the numbers carried on. -/
theorem Done.scr8 {arg6 arg7 : Memref sig .tc .vmem S4x1024x128 .f32} {p : Pt} {s} (h : Done arg6 arg7 p.a p.cc p.B 128 s)
    (v : View sig .tc .vmem S4x8x128 .f32) (f : BufTy.Contents (Elt Ideal) v.ty) {o0 o1 o2 o3 : Fin 3 → ℕ}
    (b0 : ∀ a, o0 a + S1x8x128.size a ≤ S4x8x128.size a) (b1 : ∀ a, o1 a + S1x8x128.size a ≤ S4x8x128.size a)
    (b2 : ∀ a, o2 a + S1x8x128.size a ≤ S4x8x128.size a) (b3 : ∀ a, o3 a + S1x8x128.size a ≤ S4x8x128.size a)
    (h0 : o0 = ![0, 0, 0]) (h1 : o1 = ![1, 0, 0]) (h2 : o2 = ![2, 0, 0]) (h3 : o3 = ![3, 0, 0])
    (L : List (View.Piece (Elt Ideal) S4x8x128 .f32)) :
    v.read (Elt Ideal) (v.writes (Elt Ideal) f (⟨Rect.unit (s := S4x8x128) o3 S1x8x128.size b3, up s.1.2.2.2.2.2.2.1⟩
      :: ⟨Rect.unit (s := S4x8x128) o2 S1x8x128.size b2, up s.1.2.2.2.2.1⟩ :: ⟨Rect.unit (s := S4x8x128) o1 S1x8x128.size b1, up s.1.2.2.1⟩
      :: ⟨Rect.unit (s := S4x8x128) o0 S1x8x128.size b0, up s.1.1⟩ :: L)) = p.scR 1024 :=
  read_scr v f b0 b1 b2 b3 h0 h1 h2 h3 _ _ _ _ L (fun q l => ((p.x q l 1024).re : EReal)) h.c0.re h.c1.re h.c2.re h.c3.re

theorem Done.scr9 {arg6 arg7 : Memref sig .tc .vmem S4x1024x128 .f32} {p : Pt} {s} (h : Done arg6 arg7 p.a p.cc p.B 128 s)
    (v : View sig .tc .vmem S4x8x128 .f32) (f : BufTy.Contents (Elt Ideal) v.ty) {o0 o1 o2 o3 : Fin 3 → ℕ}
    (b0 : ∀ a, o0 a + S1x8x128.size a ≤ S4x8x128.size a) (b1 : ∀ a, o1 a + S1x8x128.size a ≤ S4x8x128.size a)
    (b2 : ∀ a, o2 a + S1x8x128.size a ≤ S4x8x128.size a) (b3 : ∀ a, o3 a + S1x8x128.size a ≤ S4x8x128.size a)
    (h0 : o0 = ![0, 0, 0]) (h1 : o1 = ![1, 0, 0]) (h2 : o2 = ![2, 0, 0]) (h3 : o3 = ![3, 0, 0])
    (L : List (View.Piece (Elt Ideal) S4x8x128 .f32)) :
    v.read (Elt Ideal) (v.writes (Elt Ideal) f (⟨Rect.unit (s := S4x8x128) o3 S1x8x128.size b3, up s.1.2.2.2.2.2.2.2⟩
      :: ⟨Rect.unit (s := S4x8x128) o2 S1x8x128.size b2, up s.1.2.2.2.2.2.1⟩ :: ⟨Rect.unit (s := S4x8x128) o1 S1x8x128.size b1, up s.1.2.2.2.1⟩
      :: ⟨Rect.unit (s := S4x8x128) o0 S1x8x128.size b0, up s.1.2.1⟩ :: L)) = p.scI 1024 :=
  read_scr v f b0 b1 b2 b3 h0 h1 h2 h3 _ _ _ _ L (fun q l => ((p.x q l 1024).im : EReal)) h.c0.im h.c1.im h.c2.im h.c3.im

end Cert.Scan
-- ==== Proof.ScanRunA.lean ====
module

public import proofs.«01_k».proof.Proof.ScanRun
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Scan

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option maxHeartbeats 4000000 in
/-- The body at a point that clears the carried numbers. -/
theorem run_first (c : Dev nD) (i : grid0.Coords) (arg2 : Memref sig .tc .vmem S4x1024x128 .f32) (harg2 : arg2.IsWhole) (arg3 : Memref sig .tc .vmem S4x1024x128 .f32) (harg3 : arg3.IsWhole) (arg4 : Memref sig .tc .vmem S4x1x128 .f32) (harg4 : arg4.IsWhole) (arg5 : Memref sig .tc .vmem S4x1x128 .f32) (harg5 : arg5.IsWhole) (arg6 : Memref sig .tc .vmem S4x1024x128 .f32) (harg6 : arg6.IsWhole) (arg7 : Memref sig .tc .vmem S4x1024x128 .f32) (harg7 : arg7.IsWhole) (arg8 : Memref sig .tc .vmem S4x8x128 .f32) (harg8 : arg8.IsWhole) (arg9 : Memref sig .tc .vmem S4x8x128 .f32) (harg9 : arg9.IsWhole)
    (p : Pt) (hc0 : first i) (hcc : ∀ q l, p.cc q l = 0) (E : Set ℕ) (K : PUnit → sProp MM) :
    iprop(owns (c : Thread nD τ) arg2 fullShare p.inR ∗ owns (c : Thread nD τ) arg3 fullShare p.inI ∗ owns (c : Thread nD τ) arg4 fullShare p.aR ∗ owns (c : Thread nD τ) arg5 fullShare p.aI ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare p.inR ∗ owns (c : Thread nD τ) arg3 fullShare p.inI ∗ owns (c : Thread nD τ) arg4 fullShare p.aR ∗ owns (c : Thread nD τ) arg5 fullShare p.aI ∗ owns (c : Thread nD τ) arg6 fullShare p.outR ∗ owns (c : Thread nD τ) arg7 fullShare p.outI ∗ owns (c : Thread nD τ) arg8 fullShare (p.scR 1024) ∗ owns (c : Thread nD τ) arg9 fullShare (p.scI 1024)) -∗ K ⟨⟩))
      ⊢ wp frame (wpE (defs₀ (F := Ideal)) Variants.none c none) E (cc0_scan_bwd_l0 i arg2 harg2 arg3 harg3 arg4 harg4 arg5 harg5 arg6 harg6 arg7 harg7 arg8 harg8 arg9 harg9) K := by
  simp only [cc0_scan_bwd_l0_eq_skeleton]; unfold cc0_scan_bwd_l0_skel
  simp only [k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3
  sl_exec (disch := first | sl_exact hc0)
  sl_step
  clear hc0
  have h2 : arg2.view.read (Elt Ideal) (harg2.unread p.inR) = p.inR := harg2.read_unread _
  have h3 : arg3.view.read (Elt Ideal) (harg3.unread p.inI) = p.inI := harg3.read_unread _
  have h4 : arg4.view.read (Elt Ideal) (harg4.unread p.aR) = p.aR := harg4.read_unread _
  have h5 : arg5.view.read (Elt Ideal) (harg5.unread p.aI) = p.aI := harg5.read_unread _
  have h8 : arg8.view.read (Elt Ideal) (arg8.view.writes (Elt Ideal) arg8.view.junk [⟨Rect.unit (s := S4x8x128) ![0, 0, 0] S4x8x128.size inb_S4x8x128_S4x8x128_0_0_0, zeros⟩]) = p.scR 0 := by
    rw [read_zeros _ _ _ rfl]; funext y; exact (congrArg (fun z : ℂ => (z.re : EReal)) (hcc (y 0) (y 2))).symm
  have h9 : arg9.view.read (Elt Ideal) (arg9.view.writes (Elt Ideal) arg9.view.junk [⟨Rect.unit (s := S4x8x128) ![0, 0, 0] S4x8x128.size inb_S4x8x128_S4x8x128_0_0_0, zeros⟩]) = p.scI 0 := by
    rw [read_zeros _ _ _ rfl]; funext y; exact (congrArg (fun z : ℂ => (z.im : EReal)) (hcc (y 0) (y 2))).symm
  have e0 : (⟨(run_first.sl.r_14 c arg4 harg4 p), (run_first.sl.r_15 c arg5 harg5 p), (run_first.sl.r_16 c arg4 harg4 arg5 harg5 p), (run_first.sl.r_17 c arg4 harg4 arg5 harg5 p), (run_first.sl.r_18 c arg4 harg4 arg5 harg5 p), (run_first.sl.r_19 c arg4 harg4 arg5 harg5 p), (run_first.sl.r_22 c arg4 harg4 arg5 harg5 p), (run_first.sl.r_23 c arg4 harg4 arg5 harg5 p)⟩ : Mults)
      = multsOf (arg4.view.readAt (Elt Ideal) (Rect.unit (s := S4x1x128) ![0, 0, 0] S1x1x128.size inb_S4x1x128_S1x1x128_0_0_0).toLoadRect (harg4.unread p.aR)) (arg5.view.readAt (Elt Ideal) (Rect.unit (s := S4x1x128) ![0, 0, 0] S1x1x128.size inb_S4x1x128_S1x1x128_0_0_0).toLoadRect (harg5.unread p.aI)) := by
    sl_kernel_rfl
  have hM0 := p.mults arg4.view arg5.view _ _ h4 h5 inb_S4x1x128_S1x1x128_0_0_0 0 rfl
  rw [← e0] at hM0
  have e1 : (⟨(run_first.sl.r_40 c arg4 harg4 p), (run_first.sl.r_41 c arg5 harg5 p), (run_first.sl.r_42 c arg4 harg4 arg5 harg5 p), (run_first.sl.r_43 c arg4 harg4 arg5 harg5 p), (run_first.sl.r_44 c arg4 harg4 arg5 harg5 p), (run_first.sl.r_45 c arg4 harg4 arg5 harg5 p), (run_first.sl.r_48 c arg4 harg4 arg5 harg5 p), (run_first.sl.r_49 c arg4 harg4 arg5 harg5 p)⟩ : Mults)
      = multsOf (arg4.view.readAt (Elt Ideal) (Rect.unit (s := S4x1x128) ![1, 0, 0] S1x1x128.size inb_S4x1x128_S1x1x128_1_0_0).toLoadRect (harg4.unread p.aR)) (arg5.view.readAt (Elt Ideal) (Rect.unit (s := S4x1x128) ![1, 0, 0] S1x1x128.size inb_S4x1x128_S1x1x128_1_0_0).toLoadRect (harg5.unread p.aI)) := by
    sl_kernel_rfl
  have hM1 := p.mults arg4.view arg5.view _ _ h4 h5 inb_S4x1x128_S1x1x128_1_0_0 1 rfl
  rw [← e1] at hM1
  have e2 : (⟨(run_first.sl.r_65 c arg4 harg4 p), (run_first.sl.r_66 c arg5 harg5 p), (run_first.sl.r_67 c arg4 harg4 arg5 harg5 p), (run_first.sl.r_68 c arg4 harg4 arg5 harg5 p), (run_first.sl.r_69 c arg4 harg4 arg5 harg5 p), (run_first.sl.r_70 c arg4 harg4 arg5 harg5 p), (run_first.sl.r_73 c arg4 harg4 arg5 harg5 p), (run_first.sl.r_74 c arg4 harg4 arg5 harg5 p)⟩ : Mults)
      = multsOf (arg4.view.readAt (Elt Ideal) (Rect.unit (s := S4x1x128) ![2, 0, 0] S1x1x128.size inb_S4x1x128_S1x1x128_2_0_0).toLoadRect (harg4.unread p.aR)) (arg5.view.readAt (Elt Ideal) (Rect.unit (s := S4x1x128) ![2, 0, 0] S1x1x128.size inb_S4x1x128_S1x1x128_2_0_0).toLoadRect (harg5.unread p.aI)) := by
    sl_kernel_rfl
  have hM2 := p.mults arg4.view arg5.view _ _ h4 h5 inb_S4x1x128_S1x1x128_2_0_0 2 rfl
  rw [← e2] at hM2
  have e3 : (⟨(run_first.sl.r_91 c arg4 harg4 p), (run_first.sl.r_92 c arg5 harg5 p), (run_first.sl.r_93 c arg4 harg4 arg5 harg5 p), (run_first.sl.r_94 c arg4 harg4 arg5 harg5 p), (run_first.sl.r_95 c arg4 harg4 arg5 harg5 p), (run_first.sl.r_96 c arg4 harg4 arg5 harg5 p), (run_first.sl.r_99 c arg4 harg4 arg5 harg5 p), (run_first.sl.r_100 c arg4 harg4 arg5 harg5 p)⟩ : Mults)
      = multsOf (arg4.view.readAt (Elt Ideal) (Rect.unit (s := S4x1x128) ![3, 0, 0] S1x1x128.size inb_S4x1x128_S1x1x128_3_0_0).toLoadRect (harg4.unread p.aR)) (arg5.view.readAt (Elt Ideal) (Rect.unit (s := S4x1x128) ![3, 0, 0] S1x1x128.size inb_S4x1x128_S1x1x128_3_0_0).toLoadRect (harg5.unread p.aI)) := by
    sl_kernel_rfl
  have hM3 := p.mults arg4.view arg5.view _ _ h4 h5 inb_S4x1x128_S1x1x128_3_0_0 3 rfl
  rw [← e3] at hM3
  have s0 : (run_first.sl.r_101 c arg8) = un (arg8.view.readAt (Elt Ideal) (Rect.unit (s := S4x8x128) ![0, 0, 0] S1x8x128.size inb_S4x8x128_S1x8x128_0_0_0).toLoadRect (arg8.view.writes (Elt Ideal) arg8.view.junk [⟨Rect.unit (s := S4x8x128) ![0, 0, 0] S4x8x128.size inb_S4x8x128_S4x8x128_0_0_0, zeros⟩])) := by sl_kernel_rfl
  have t0 : (run_first.sl.r_102 c arg9) = un (arg9.view.readAt (Elt Ideal) (Rect.unit (s := S4x8x128) ![0, 0, 0] S1x8x128.size inb_S4x8x128_S1x8x128_0_0_0).toLoadRect (arg9.view.writes (Elt Ideal) arg9.view.junk [⟨Rect.unit (s := S4x8x128) ![0, 0, 0] S4x8x128.size inb_S4x8x128_S4x8x128_0_0_0, zeros⟩])) := by sl_kernel_rfl
  have hC0 := p.carried arg8.view arg9.view _ _ h8 h9 inb_S4x8x128_S1x8x128_0_0_0 0 rfl
  rw [← s0, ← t0] at hC0
  have s1 : (run_first.sl.r_103 c arg8) = un (arg8.view.readAt (Elt Ideal) (Rect.unit (s := S4x8x128) ![1, 0, 0] S1x8x128.size inb_S4x8x128_S1x8x128_1_0_0).toLoadRect (arg8.view.writes (Elt Ideal) arg8.view.junk [⟨Rect.unit (s := S4x8x128) ![0, 0, 0] S4x8x128.size inb_S4x8x128_S4x8x128_0_0_0, zeros⟩])) := by sl_kernel_rfl
  have t1 : (run_first.sl.r_104 c arg9) = un (arg9.view.readAt (Elt Ideal) (Rect.unit (s := S4x8x128) ![1, 0, 0] S1x8x128.size inb_S4x8x128_S1x8x128_1_0_0).toLoadRect (arg9.view.writes (Elt Ideal) arg9.view.junk [⟨Rect.unit (s := S4x8x128) ![0, 0, 0] S4x8x128.size inb_S4x8x128_S4x8x128_0_0_0, zeros⟩])) := by sl_kernel_rfl
  have hC1 := p.carried arg8.view arg9.view _ _ h8 h9 inb_S4x8x128_S1x8x128_1_0_0 1 rfl
  rw [← s1, ← t1] at hC1
  have s2 : (run_first.sl.r_105 c arg8) = un (arg8.view.readAt (Elt Ideal) (Rect.unit (s := S4x8x128) ![2, 0, 0] S1x8x128.size inb_S4x8x128_S1x8x128_2_0_0).toLoadRect (arg8.view.writes (Elt Ideal) arg8.view.junk [⟨Rect.unit (s := S4x8x128) ![0, 0, 0] S4x8x128.size inb_S4x8x128_S4x8x128_0_0_0, zeros⟩])) := by sl_kernel_rfl
  have t2 : (run_first.sl.r_106 c arg9) = un (arg9.view.readAt (Elt Ideal) (Rect.unit (s := S4x8x128) ![2, 0, 0] S1x8x128.size inb_S4x8x128_S1x8x128_2_0_0).toLoadRect (arg9.view.writes (Elt Ideal) arg9.view.junk [⟨Rect.unit (s := S4x8x128) ![0, 0, 0] S4x8x128.size inb_S4x8x128_S4x8x128_0_0_0, zeros⟩])) := by sl_kernel_rfl
  have hC2 := p.carried arg8.view arg9.view _ _ h8 h9 inb_S4x8x128_S1x8x128_2_0_0 2 rfl
  rw [← s2, ← t2] at hC2
  have s3 : (run_first.sl.r_107 c arg8) = un (arg8.view.readAt (Elt Ideal) (Rect.unit (s := S4x8x128) ![3, 0, 0] S1x8x128.size inb_S4x8x128_S1x8x128_3_0_0).toLoadRect (arg8.view.writes (Elt Ideal) arg8.view.junk [⟨Rect.unit (s := S4x8x128) ![0, 0, 0] S4x8x128.size inb_S4x8x128_S4x8x128_0_0_0, zeros⟩])) := by sl_kernel_rfl
  have t3 : (k0_pay202 (run_first.sl.v498 c arg9)) = un (arg9.view.readAt (Elt Ideal) (Rect.unit (s := S4x8x128) ![3, 0, 0] S1x8x128.size inb_S4x8x128_S1x8x128_3_0_0).toLoadRect (arg9.view.writes (Elt Ideal) arg9.view.junk [⟨Rect.unit (s := S4x8x128) ![0, 0, 0] S4x8x128.size inb_S4x8x128_S4x8x128_0_0_0, zeros⟩])) := by sl_kernel_rfl
  have hC3 := p.carried arg8.view arg9.view _ _ h8 h9 inb_S4x8x128_S1x8x128_3_0_0 3 rfl
  rw [← s3, ← t3] at hC3
  have hD := st_done Variants.none c none i arg2 harg2 arg3 harg3 arg4 harg4 arg5 harg5 arg6 harg6 arg7 harg7 arg8 harg8 arg9 harg9
    (run_first.sl.r_14 c arg4 harg4 p) (run_first.sl.r_15 c arg5 harg5 p) (run_first.sl.r_16 c arg4 harg4 arg5 harg5 p) (run_first.sl.r_17 c arg4 harg4 arg5 harg5 p) (run_first.sl.r_18 c arg4 harg4 arg5 harg5 p) (run_first.sl.r_19 c arg4 harg4 arg5 harg5 p) (run_first.sl.r_22 c arg4 harg4 arg5 harg5 p) (run_first.sl.r_23 c arg4 harg4 arg5 harg5 p) (run_first.sl.r_40 c arg4 harg4 p) (run_first.sl.r_41 c arg5 harg5 p) (run_first.sl.r_42 c arg4 harg4 arg5 harg5 p) (run_first.sl.r_43 c arg4 harg4 arg5 harg5 p) (run_first.sl.r_44 c arg4 harg4 arg5 harg5 p) (run_first.sl.r_45 c arg4 harg4 arg5 harg5 p) (run_first.sl.r_48 c arg4 harg4 arg5 harg5 p) (run_first.sl.r_49 c arg4 harg4 arg5 harg5 p) (run_first.sl.r_65 c arg4 harg4 p) (run_first.sl.r_66 c arg5 harg5 p) (run_first.sl.r_67 c arg4 harg4 arg5 harg5 p) (run_first.sl.r_68 c arg4 harg4 arg5 harg5 p) (run_first.sl.r_69 c arg4 harg4 arg5 harg5 p) (run_first.sl.r_70 c arg4 harg4 arg5 harg5 p) (run_first.sl.r_73 c arg4 harg4 arg5 harg5 p) (run_first.sl.r_74 c arg4 harg4 arg5 harg5 p) (run_first.sl.r_91 c arg4 harg4 p) (run_first.sl.r_92 c arg5 harg5 p) (run_first.sl.r_93 c arg4 harg4 arg5 harg5 p) (run_first.sl.r_94 c arg4 harg4 arg5 harg5 p) (run_first.sl.r_95 c arg4 harg4 arg5 harg5 p) (run_first.sl.r_96 c arg4 harg4 arg5 harg5 p) (run_first.sl.r_99 c arg4 harg4 arg5 harg5 p) (run_first.sl.r_100 c arg4 harg4 arg5 harg5 p)
    (run_first.sl.r_101 c arg8) (run_first.sl.r_102 c arg9) (run_first.sl.r_103 c arg8) (run_first.sl.r_104 c arg9) (run_first.sl.r_105 c arg8) (run_first.sl.r_106 c arg9) (run_first.sl.r_107 c arg8) (harg2.unread p.inR) (harg3.unread p.inI)
    ((run_first.sl.r_101 c arg8), (run_first.sl.r_102 c arg9), (run_first.sl.r_103 c arg8), (run_first.sl.r_104 c arg9), (run_first.sl.r_105 c arg8), (run_first.sl.r_106 c arg9), (run_first.sl.r_107 c arg8), (k0_pay202 (run_first.sl.v498 c arg9))) p.a p.cc p.B hM0 hM1 hM2 hM3
    (fun q r l => by rw [h2]; rfl) (fun q r l => by rw [h3]; rfl) hC0 hC1 hC2 hC3 128 le_rfl
  clear hM0 hM1 hM2 hM3 e0 e1 e2 e3 s0 s1 s2 s3 t0 t1 t2 t3 hC0 hC1 hC2 hC3
  have htr : Scf.trips k0_t1_loop.lb k0_t1_loop.ub k0_t1_loop.st = 128 := by decide +kernel
  rw [htr]
  iapply Hk
  isplitl [H0]
  · iexists _; isplitr; · ipureintro; exact h2
    iexact H0
  isplitl [H1]
  · iexists _; isplitr; · ipureintro; exact h3
    iexact H1
  isplitl [H2]
  · iexists _; isplitr; · ipureintro; exact h4
    iexact H2
  isplitl [H3]
  · iexists _; isplitr; · ipureintro; exact h5
    iexact H3
  isplitl [H4]
  · iexists _; isplitr; swap; · iexact H4
    ipureintro; exact hD.out6 f4
  isplitl [H5]
  · iexists _; isplitr; swap; · iexact H5
    ipureintro; exact hD.out7 f5
  isplitl [HS0]
  · iexists _; isplitr; swap; · iexact HS0
    ipureintro; exact hD.scr8 arg8.view _ _ _ _ _ rfl rfl rfl rfl _
  · iexists _; isplitr; swap; · iexact HS1
    ipureintro; exact hD.scr9 arg9.view _ _ _ _ _ rfl rfl rfl rfl _

end Cert.Scan
-- ==== Proof.ScanRunB.lean ====
module

public import proofs.«01_k».proof.Proof.ScanRun
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Scan

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option maxHeartbeats 4000000 in
/-- The body at a point that goes on from the carried numbers. -/
theorem run_later (c : Dev nD) (i : grid0.Coords) (arg2 : Memref sig .tc .vmem S4x1024x128 .f32) (harg2 : arg2.IsWhole) (arg3 : Memref sig .tc .vmem S4x1024x128 .f32) (harg3 : arg3.IsWhole) (arg4 : Memref sig .tc .vmem S4x1x128 .f32) (harg4 : arg4.IsWhole) (arg5 : Memref sig .tc .vmem S4x1x128 .f32) (harg5 : arg5.IsWhole) (arg6 : Memref sig .tc .vmem S4x1024x128 .f32) (harg6 : arg6.IsWhole) (arg7 : Memref sig .tc .vmem S4x1024x128 .f32) (harg7 : arg7.IsWhole) (arg8 : Memref sig .tc .vmem S4x8x128 .f32) (harg8 : arg8.IsWhole) (arg9 : Memref sig .tc .vmem S4x8x128 .f32) (harg9 : arg9.IsWhole)
    (p : Pt) (hc0 : ¬ first i) (E : Set ℕ) (K : PUnit → sProp MM) :
    iprop(owns (c : Thread nD τ) arg2 fullShare p.inR ∗ owns (c : Thread nD τ) arg3 fullShare p.inI ∗ owns (c : Thread nD τ) arg4 fullShare p.aR ∗ owns (c : Thread nD τ) arg5 fullShare p.aI ∗ (∃ d, owns (c : Thread nD τ) arg6 fullShare d) ∗ (∃ d, owns (c : Thread nD τ) arg7 fullShare d) ∗ owns (c : Thread nD τ) arg8 fullShare (p.scR 0) ∗ owns (c : Thread nD τ) arg9 fullShare (p.scI 0)
        ∗ (iprop(owns (c : Thread nD τ) arg2 fullShare p.inR ∗ owns (c : Thread nD τ) arg3 fullShare p.inI ∗ owns (c : Thread nD τ) arg4 fullShare p.aR ∗ owns (c : Thread nD τ) arg5 fullShare p.aI ∗ owns (c : Thread nD τ) arg6 fullShare p.outR ∗ owns (c : Thread nD τ) arg7 fullShare p.outI ∗ owns (c : Thread nD τ) arg8 fullShare (p.scR 1024) ∗ owns (c : Thread nD τ) arg9 fullShare (p.scI 1024)) -∗ K ⟨⟩))
      ⊢ wp frame (wpE (defs₀ (F := Ideal)) Variants.none c none) E (cc0_scan_bwd_l0 i arg2 harg2 arg3 harg3 arg4 harg4 arg5 harg5 arg6 harg6 arg7 harg7 arg8 harg8 arg9 harg9) K := by
  simp only [cc0_scan_bwd_l0_eq_skeleton]; unfold cc0_scan_bwd_l0_skel
  simp only [k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hs0, HS0⟩, ⟨%fs1, %hs1, HS1⟩, Hk⟩
  obtain rfl := harg2.eq_unread hf0; obtain rfl := harg3.eq_unread hf1; obtain rfl := harg4.eq_unread hf2; obtain rfl := harg5.eq_unread hf3
  obtain rfl := harg8.eq_unread hs0; obtain rfl := harg9.eq_unread hs1
  sl_exec (disch := first | sl_exact hc0)
  sl_step
  clear hc0
  have h2 : arg2.view.read (Elt Ideal) (harg2.unread p.inR) = p.inR := harg2.read_unread _
  have h3 : arg3.view.read (Elt Ideal) (harg3.unread p.inI) = p.inI := harg3.read_unread _
  have h4 : arg4.view.read (Elt Ideal) (harg4.unread p.aR) = p.aR := harg4.read_unread _
  have h5 : arg5.view.read (Elt Ideal) (harg5.unread p.aI) = p.aI := harg5.read_unread _
  have h8 : arg8.view.read (Elt Ideal) (harg8.unread (p.scR 0)) = p.scR 0 := harg8.read_unread _
  have h9 : arg9.view.read (Elt Ideal) (harg9.unread (p.scI 0)) = p.scI 0 := harg9.read_unread _
  have e0 : (⟨(run_later.sl.r_14 c arg4 harg4 p), (run_later.sl.r_15 c arg5 harg5 p), (run_later.sl.r_16 c arg4 harg4 arg5 harg5 p), (run_later.sl.r_17 c arg4 harg4 arg5 harg5 p), (run_later.sl.r_18 c arg4 harg4 arg5 harg5 p), (run_later.sl.r_19 c arg4 harg4 arg5 harg5 p), (run_later.sl.r_22 c arg4 harg4 arg5 harg5 p), (run_later.sl.r_23 c arg4 harg4 arg5 harg5 p)⟩ : Mults)
      = multsOf (arg4.view.readAt (Elt Ideal) (Rect.unit (s := S4x1x128) ![0, 0, 0] S1x1x128.size inb_S4x1x128_S1x1x128_0_0_0).toLoadRect (harg4.unread p.aR)) (arg5.view.readAt (Elt Ideal) (Rect.unit (s := S4x1x128) ![0, 0, 0] S1x1x128.size inb_S4x1x128_S1x1x128_0_0_0).toLoadRect (harg5.unread p.aI)) := by
    sl_kernel_rfl
  have hM0 := p.mults arg4.view arg5.view _ _ h4 h5 inb_S4x1x128_S1x1x128_0_0_0 0 rfl
  rw [← e0] at hM0
  have e1 : (⟨(run_later.sl.r_40 c arg4 harg4 p), (run_later.sl.r_41 c arg5 harg5 p), (run_later.sl.r_42 c arg4 harg4 arg5 harg5 p), (run_later.sl.r_43 c arg4 harg4 arg5 harg5 p), (run_later.sl.r_44 c arg4 harg4 arg5 harg5 p), (run_later.sl.r_45 c arg4 harg4 arg5 harg5 p), (run_later.sl.r_48 c arg4 harg4 arg5 harg5 p), (run_later.sl.r_49 c arg4 harg4 arg5 harg5 p)⟩ : Mults)
      = multsOf (arg4.view.readAt (Elt Ideal) (Rect.unit (s := S4x1x128) ![1, 0, 0] S1x1x128.size inb_S4x1x128_S1x1x128_1_0_0).toLoadRect (harg4.unread p.aR)) (arg5.view.readAt (Elt Ideal) (Rect.unit (s := S4x1x128) ![1, 0, 0] S1x1x128.size inb_S4x1x128_S1x1x128_1_0_0).toLoadRect (harg5.unread p.aI)) := by
    sl_kernel_rfl
  have hM1 := p.mults arg4.view arg5.view _ _ h4 h5 inb_S4x1x128_S1x1x128_1_0_0 1 rfl
  rw [← e1] at hM1
  have e2 : (⟨(run_later.sl.r_65 c arg4 harg4 p), (run_later.sl.r_66 c arg5 harg5 p), (run_later.sl.r_67 c arg4 harg4 arg5 harg5 p), (run_later.sl.r_68 c arg4 harg4 arg5 harg5 p), (run_later.sl.r_69 c arg4 harg4 arg5 harg5 p), (run_later.sl.r_70 c arg4 harg4 arg5 harg5 p), (run_later.sl.r_73 c arg4 harg4 arg5 harg5 p), (run_later.sl.r_74 c arg4 harg4 arg5 harg5 p)⟩ : Mults)
      = multsOf (arg4.view.readAt (Elt Ideal) (Rect.unit (s := S4x1x128) ![2, 0, 0] S1x1x128.size inb_S4x1x128_S1x1x128_2_0_0).toLoadRect (harg4.unread p.aR)) (arg5.view.readAt (Elt Ideal) (Rect.unit (s := S4x1x128) ![2, 0, 0] S1x1x128.size inb_S4x1x128_S1x1x128_2_0_0).toLoadRect (harg5.unread p.aI)) := by
    sl_kernel_rfl
  have hM2 := p.mults arg4.view arg5.view _ _ h4 h5 inb_S4x1x128_S1x1x128_2_0_0 2 rfl
  rw [← e2] at hM2
  have e3 : (⟨(run_later.sl.r_91 c arg4 harg4 p), (run_later.sl.r_92 c arg5 harg5 p), (run_later.sl.r_93 c arg4 harg4 arg5 harg5 p), (run_later.sl.r_94 c arg4 harg4 arg5 harg5 p), (run_later.sl.r_95 c arg4 harg4 arg5 harg5 p), (run_later.sl.r_96 c arg4 harg4 arg5 harg5 p), (run_later.sl.r_99 c arg4 harg4 arg5 harg5 p), (run_later.sl.r_100 c arg4 harg4 arg5 harg5 p)⟩ : Mults)
      = multsOf (arg4.view.readAt (Elt Ideal) (Rect.unit (s := S4x1x128) ![3, 0, 0] S1x1x128.size inb_S4x1x128_S1x1x128_3_0_0).toLoadRect (harg4.unread p.aR)) (arg5.view.readAt (Elt Ideal) (Rect.unit (s := S4x1x128) ![3, 0, 0] S1x1x128.size inb_S4x1x128_S1x1x128_3_0_0).toLoadRect (harg5.unread p.aI)) := by
    sl_kernel_rfl
  have hM3 := p.mults arg4.view arg5.view _ _ h4 h5 inb_S4x1x128_S1x1x128_3_0_0 3 rfl
  rw [← e3] at hM3
  have s0 : (run_later.sl.r_101 c arg8 harg8 p) = un (arg8.view.readAt (Elt Ideal) (Rect.unit (s := S4x8x128) ![0, 0, 0] S1x8x128.size inb_S4x8x128_S1x8x128_0_0_0).toLoadRect (harg8.unread (p.scR 0))) := by sl_kernel_rfl
  have t0 : (run_later.sl.r_102 c arg9 harg9 p) = un (arg9.view.readAt (Elt Ideal) (Rect.unit (s := S4x8x128) ![0, 0, 0] S1x8x128.size inb_S4x8x128_S1x8x128_0_0_0).toLoadRect (harg9.unread (p.scI 0))) := by sl_kernel_rfl
  have hC0 := p.carried arg8.view arg9.view _ _ h8 h9 inb_S4x8x128_S1x8x128_0_0_0 0 rfl
  rw [← s0, ← t0] at hC0
  have s1 : (run_later.sl.r_103 c arg8 harg8 p) = un (arg8.view.readAt (Elt Ideal) (Rect.unit (s := S4x8x128) ![1, 0, 0] S1x8x128.size inb_S4x8x128_S1x8x128_1_0_0).toLoadRect (harg8.unread (p.scR 0))) := by sl_kernel_rfl
  have t1 : (run_later.sl.r_104 c arg9 harg9 p) = un (arg9.view.readAt (Elt Ideal) (Rect.unit (s := S4x8x128) ![1, 0, 0] S1x8x128.size inb_S4x8x128_S1x8x128_1_0_0).toLoadRect (harg9.unread (p.scI 0))) := by sl_kernel_rfl
  have hC1 := p.carried arg8.view arg9.view _ _ h8 h9 inb_S4x8x128_S1x8x128_1_0_0 1 rfl
  rw [← s1, ← t1] at hC1
  have s2 : (run_later.sl.r_105 c arg8 harg8 p) = un (arg8.view.readAt (Elt Ideal) (Rect.unit (s := S4x8x128) ![2, 0, 0] S1x8x128.size inb_S4x8x128_S1x8x128_2_0_0).toLoadRect (harg8.unread (p.scR 0))) := by sl_kernel_rfl
  have t2 : (run_later.sl.r_106 c arg9 harg9 p) = un (arg9.view.readAt (Elt Ideal) (Rect.unit (s := S4x8x128) ![2, 0, 0] S1x8x128.size inb_S4x8x128_S1x8x128_2_0_0).toLoadRect (harg9.unread (p.scI 0))) := by sl_kernel_rfl
  have hC2 := p.carried arg8.view arg9.view _ _ h8 h9 inb_S4x8x128_S1x8x128_2_0_0 2 rfl
  rw [← s2, ← t2] at hC2
  have s3 : (run_later.sl.r_107 c arg8 harg8 p) = un (arg8.view.readAt (Elt Ideal) (Rect.unit (s := S4x8x128) ![3, 0, 0] S1x8x128.size inb_S4x8x128_S1x8x128_3_0_0).toLoadRect (harg8.unread (p.scR 0))) := by sl_kernel_rfl
  have t3 : (k0_pay202 (arg9.view.readAt (Elt Ideal) (Rect.unit (s := S4x8x128) ![3, 0, 0] S1x8x128.size inb_S4x8x128_S1x8x128_3_0_0).toLoadRect (harg9.unread (p.scI 0)))) = un (arg9.view.readAt (Elt Ideal) (Rect.unit (s := S4x8x128) ![3, 0, 0] S1x8x128.size inb_S4x8x128_S1x8x128_3_0_0).toLoadRect (harg9.unread (p.scI 0))) := by sl_kernel_rfl
  have hC3 := p.carried arg8.view arg9.view _ _ h8 h9 inb_S4x8x128_S1x8x128_3_0_0 3 rfl
  rw [← s3, ← t3] at hC3
  have hD := st_done Variants.none c none i arg2 harg2 arg3 harg3 arg4 harg4 arg5 harg5 arg6 harg6 arg7 harg7 arg8 harg8 arg9 harg9
    (run_later.sl.r_14 c arg4 harg4 p) (run_later.sl.r_15 c arg5 harg5 p) (run_later.sl.r_16 c arg4 harg4 arg5 harg5 p) (run_later.sl.r_17 c arg4 harg4 arg5 harg5 p) (run_later.sl.r_18 c arg4 harg4 arg5 harg5 p) (run_later.sl.r_19 c arg4 harg4 arg5 harg5 p) (run_later.sl.r_22 c arg4 harg4 arg5 harg5 p) (run_later.sl.r_23 c arg4 harg4 arg5 harg5 p) (run_later.sl.r_40 c arg4 harg4 p) (run_later.sl.r_41 c arg5 harg5 p) (run_later.sl.r_42 c arg4 harg4 arg5 harg5 p) (run_later.sl.r_43 c arg4 harg4 arg5 harg5 p) (run_later.sl.r_44 c arg4 harg4 arg5 harg5 p) (run_later.sl.r_45 c arg4 harg4 arg5 harg5 p) (run_later.sl.r_48 c arg4 harg4 arg5 harg5 p) (run_later.sl.r_49 c arg4 harg4 arg5 harg5 p) (run_later.sl.r_65 c arg4 harg4 p) (run_later.sl.r_66 c arg5 harg5 p) (run_later.sl.r_67 c arg4 harg4 arg5 harg5 p) (run_later.sl.r_68 c arg4 harg4 arg5 harg5 p) (run_later.sl.r_69 c arg4 harg4 arg5 harg5 p) (run_later.sl.r_70 c arg4 harg4 arg5 harg5 p) (run_later.sl.r_73 c arg4 harg4 arg5 harg5 p) (run_later.sl.r_74 c arg4 harg4 arg5 harg5 p) (run_later.sl.r_91 c arg4 harg4 p) (run_later.sl.r_92 c arg5 harg5 p) (run_later.sl.r_93 c arg4 harg4 arg5 harg5 p) (run_later.sl.r_94 c arg4 harg4 arg5 harg5 p) (run_later.sl.r_95 c arg4 harg4 arg5 harg5 p) (run_later.sl.r_96 c arg4 harg4 arg5 harg5 p) (run_later.sl.r_99 c arg4 harg4 arg5 harg5 p) (run_later.sl.r_100 c arg4 harg4 arg5 harg5 p)
    (run_later.sl.r_101 c arg8 harg8 p) (run_later.sl.r_102 c arg9 harg9 p) (run_later.sl.r_103 c arg8 harg8 p) (run_later.sl.r_104 c arg9 harg9 p) (run_later.sl.r_105 c arg8 harg8 p) (run_later.sl.r_106 c arg9 harg9 p) (run_later.sl.r_107 c arg8 harg8 p) (harg2.unread p.inR) (harg3.unread p.inI)
    ((run_later.sl.r_101 c arg8 harg8 p), (run_later.sl.r_102 c arg9 harg9 p), (run_later.sl.r_103 c arg8 harg8 p), (run_later.sl.r_104 c arg9 harg9 p), (run_later.sl.r_105 c arg8 harg8 p), (run_later.sl.r_106 c arg9 harg9 p), (run_later.sl.r_107 c arg8 harg8 p), (k0_pay202 (arg9.view.readAt (Elt Ideal) (Rect.unit (s := S4x8x128) ![3, 0, 0] S1x8x128.size inb_S4x8x128_S1x8x128_3_0_0).toLoadRect (harg9.unread (p.scI 0))))) p.a p.cc p.B hM0 hM1 hM2 hM3
    (fun q r l => by rw [h2]; rfl) (fun q r l => by rw [h3]; rfl) hC0 hC1 hC2 hC3 128 le_rfl
  clear hM0 hM1 hM2 hM3 e0 e1 e2 e3 s0 s1 s2 s3 t0 t1 t2 t3 hC0 hC1 hC2 hC3
  have htr : Scf.trips k0_t1_loop.lb k0_t1_loop.ub k0_t1_loop.st = 128 := by decide +kernel
  rw [htr]
  iapply Hk
  isplitl [H0]
  · iexists _; isplitr; · ipureintro; exact h2
    iexact H0
  isplitl [H1]
  · iexists _; isplitr; · ipureintro; exact h3
    iexact H1
  isplitl [H2]
  · iexists _; isplitr; · ipureintro; exact h4
    iexact H2
  isplitl [H3]
  · iexists _; isplitr; · ipureintro; exact h5
    iexact H3
  isplitl [H4]
  · iexists _; isplitr; swap; · iexact H4
    ipureintro; exact hD.out6 f4
  isplitl [H5]
  · iexists _; isplitr; swap; · iexact H5
    ipureintro; exact hD.out7 f5
  isplitl [HS0]
  · iexists _; isplitr; swap; · iexact HS0
    ipureintro; exact hD.scr8 arg8.view _ _ _ _ _ rfl rfl rfl rfl _
  · iexists _; isplitr; swap; · iexact HS1
    ipureintro; exact hD.scr9 arg9.view _ _ _ _ _ rfl rfl rfl rfl _

end Cert.Scan
-- ==== Proof.ScanDats.lean ====
module

public import proofs.«01_k».proof.Proof.ScanRunA
public import proofs.«01_k».proof.Proof.ScanRunB
public import proofs.«01_k».proof.Proof.Gen.KernelIdeal.Frame
public import Idealize.ShloMosaic.Lib.Pipeline.ValueKit

@[expose] public section

set_option maxRecDepth 16384

noncomputable section

namespace Cert.Scan

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The whole scan's inputs: the cotangents of each channel group, row and lane, and the multipliers. -/
structure Inp where
  X : Fin 16 → ℕ → Fin 128 → ℂ
  A : Fin 16 → Fin 128 → ℂ

/-- The scan's number after `n` steps from the last row. -/
def Inp.G (I : Inp) (ch : Fin 16) (l : Fin 128) (n : ℕ) : ℂ := rscan (fun n => I.X ch (4095 - n) l) (I.A ch l) 0 n

/-- The channel group a grid point's `q`-th channel is. -/
def chan (t : ℕ) (q : Fin 4) : Fin 16 := ⟨(4 * (t / 4) + q.val) % 16, Nat.mod_lt _ (by decide)⟩

theorem chan_val (t : ℕ) (q : Fin 4) (ht : t < 16) : (chan t q).val = 4 * (t / 4) + q.val := by
  show (4 * (t / 4) + q.val) % 16 = _
  omega

/-- What grid point `t` computes with. -/
def Inp.pt (I : Inp) (t : ℕ) : Pt where
  a q l := I.A (chan t q) l
  cc q l := I.G (chan t q) l (1024 * (t % 4))
  B q l n := I.X (chan t q) (4095 - (1024 * (t % 4) + n)) l

theorem Inp.pt_x (I : Inp) (t : ℕ) (q : Fin 4) (l : Fin 128) (n : ℕ) : (I.pt t).x q l n = I.G (chan t q) l (1024 * (t % 4) + n) :=
  rscan_add (fun n => I.X (chan t q) (4095 - n) l) (I.A (chan t q) l) 0 (1024 * (t % 4)) n

theorem Inp.pt_first (I : Inp) (t : ℕ) (ht : t % 4 = 0) (q : Fin 4) (l : Fin 128) : (I.pt t).cc q l = 0 := by
  show I.G (chan t q) l (1024 * (t % 4)) = 0
  rw [ht]; rfl

theorem Inp.pt_later (I : Inp) (t : ℕ) (ht : ¬ t % 4 = 0) (q : Fin 4) (l : Fin 128) : (I.pt (t - 1)).x q l 1024 = (I.pt t).x q l 0 := by
  rw [Inp.pt_x, Inp.pt_x]
  have e : chan (t - 1) q = chan t q := Fin.ext (by
    show (4 * ((t - 1) / 4) + q.val) % 16 = (4 * (t / 4) + q.val) % 16
    omega)
  rw [e]
  congr 1
  omega

theorem Inp.scR_later (I : Inp) (t : ℕ) (ht : ¬ t % 4 = 0) : (I.pt (t - 1)).scR 1024 = (I.pt t).scR 0 := by
  funext y; exact congrArg (fun z : ℂ => (z.re : EReal)) (I.pt_later t ht (y 0) (y 2))
theorem Inp.scI_later (I : Inp) (t : ℕ) (ht : ¬ t % 4 = 0) : (I.pt (t - 1)).scI 1024 = (I.pt t).scI 0 := by
  funext y; exact congrArg (fun z : ℂ => (z.im : EReal)) (I.pt_later t ht (y 0) (y 2))

/-! ## The windows' blocks -/

theorem idx0 : ∀ t : Fin cfg0.N, win0_0.index t 0 = t.val / 4 ∧ win0_0.index t 1 = 3 - t.val % 4 ∧ win0_0.index t 2 = 0 := by decide +kernel
theorem idx1 : ∀ t : Fin cfg0.N, win0_1.index t 0 = t.val / 4 ∧ win0_1.index t 1 = 3 - t.val % 4 ∧ win0_1.index t 2 = 0 := by decide +kernel
theorem idx2 : ∀ t : Fin cfg0.N, win0_2.index t 0 = t.val / 4 ∧ win0_2.index t 1 = 0 ∧ win0_2.index t 2 = 0 := by decide +kernel
theorem idx3 : ∀ t : Fin cfg0.N, win0_3.index t 0 = t.val / 4 ∧ win0_3.index t 1 = 0 ∧ win0_3.index t 2 = 0 := by decide +kernel
theorem idx4 : ∀ t : Fin cfg0.N, win0_4.index t 0 = t.val / 4 ∧ win0_4.index t 1 = 3 - t.val % 4 ∧ win0_4.index t 2 = 0 := by decide +kernel
theorem idx5 : ∀ t : Fin cfg0.N, win0_5.index t 0 = t.val / 4 ∧ win0_5.index t 1 = 3 - t.val % 4 ∧ win0_5.index t 2 = 0 := by decide +kernel

variable (m : (ℓ : Loc nD τ sig) → Buf (Elt Ideal) ℓ) (ρ : Dev nD → PrngReg)

/-- The arrays hold the scan's inputs. -/
structure Holds (I : Inp) (c : Dev nD) : Prop where
  xr : (V m c main_arg0 : FVec Ideal S16x4096x128 .f32) = fun y => ((I.X (y 0) (y 1).val (y 2)).re : EReal)
  xi : (V m c main_arg1 : FVec Ideal S16x4096x128 .f32) = fun y => ((I.X (y 0) (y 1).val (y 2)).im : EReal)
  ar : (V m c main_arg2 : FVec Ideal S16x1x128 .f32) = fun y => ((I.A (y 0) (y 2)).re : EReal)
  ai : (V m c main_arg3 : FVec Ideal S16x1x128 .f32) = fun y => ((I.A (y 0) (y 2)).im : EReal)

theorem Inp.congr_re (I : Inp) {ch ch' : Fin 16} {n n' : ℕ} {l l' : Fin 128} (h0 : ch = ch') (h1 : n = n') (h2 : l = l') :
    ((I.X ch n l).re : EReal) = ((I.X ch' n' l').re : EReal) := by subst h0 h1 h2; rfl
theorem Inp.congr_im (I : Inp) {ch ch' : Fin 16} {n n' : ℕ} {l l' : Fin 128} (h0 : ch = ch') (h1 : n = n') (h2 : l = l') :
    ((I.X ch n l).im : EReal) = ((I.X ch' n' l').im : EReal) := by subst h0 h1 h2; rfl
theorem Inp.congr_are (I : Inp) {ch ch' : Fin 16} {l l' : Fin 128} (h0 : ch = ch') (h2 : l = l') :
    ((I.A ch l).re : EReal) = ((I.A ch' l').re : EReal) := by subst h0 h2; rfl
theorem Inp.congr_aim (I : Inp) {ch ch' : Fin 16} {l l' : Fin 128} (h0 : ch = ch') (h2 : l = l') :
    ((I.A ch l).im : EReal) = ((I.A ch' l').im : EReal) := by subst h0 h2; rfl
theorem Inp.congr_gre (I : Inp) {ch ch' : Fin 16} {l l' : Fin 128} {n n' : ℕ} (h0 : ch = ch') (h2 : l = l') (h1 : n = n') :
    ((I.G ch l n).re : EReal) = ((I.G ch' l' n').re : EReal) := by subst h0 h1 h2; rfl
theorem Inp.congr_gim (I : Inp) {ch ch' : Fin 16} {l l' : Fin 128} {n n' : ℕ} (h0 : ch = ch') (h2 : l = l') (h1 : n = n') :
    ((I.G ch l n).im : EReal) = ((I.G ch' l' n').im : EReal) := by subst h0 h1 h2; rfl

/-- The scan's results as arrays. -/
def Inp.outR (I : Inp) : FVec Ideal S16x4096x128 .f32 := fun y => ((I.G (y 0) (y 2) (4096 - (y 1).val)).re : EReal)
def Inp.outI (I : Inp) : FVec Ideal S16x4096x128 .f32 := fun y => ((I.G (y 0) (y 2) (4096 - (y 1).val)).im : EReal)

theorem iblk0_eq {I : Inp} {c : Dev nD} (h : Holds m I c) (t : Fin cfg0.N) : iblk m c 0 t = (I.pt t.val).inR := by
  obtain ⟨e0, e1, e2⟩ := idx0 t
  have ht : t.val < 16 := Nat.lt_of_lt_of_eq t.isLt N_0
  funext y
  have hy0 : (y 0).val < 4 := (y 0).isLt
  have hy1 : (y 1).val < 1024 := (y 1).isLt
  blk_simp [iblk]
  refine (congrFun h.xr _).trans ?_
  refine I.congr_re (Fin.ext ?_) ?_ (Fin.ext ?_)
  · refine Eq.trans ?_ (chan_val t.val (y 0) ht).symm
    blk_simp
    omega
  · show _ = 4095 - (1024 * (t.val % 4) + (1023 - (y 1).val))
    blk_simp
    omega
  · blk_simp
    omega

theorem iblk1_eq {I : Inp} {c : Dev nD} (h : Holds m I c) (t : Fin cfg0.N) : iblk m c 1 t = (I.pt t.val).inI := by
  obtain ⟨e0, e1, e2⟩ := idx1 t
  have ht : t.val < 16 := Nat.lt_of_lt_of_eq t.isLt N_0
  funext y
  have hy0 : (y 0).val < 4 := (y 0).isLt
  have hy1 : (y 1).val < 1024 := (y 1).isLt
  blk_simp [iblk]
  refine (congrFun h.xi _).trans ?_
  refine I.congr_im (Fin.ext ?_) ?_ (Fin.ext ?_)
  · refine Eq.trans ?_ (chan_val t.val (y 0) ht).symm
    blk_simp
    omega
  · show _ = 4095 - (1024 * (t.val % 4) + (1023 - (y 1).val))
    blk_simp
    omega
  · blk_simp
    omega

theorem iblk2_eq {I : Inp} {c : Dev nD} (h : Holds m I c) (t : Fin cfg0.N) : iblk m c 2 t = (I.pt t.val).aR := by
  obtain ⟨e0, e1, e2⟩ := idx2 t
  have ht : t.val < 16 := Nat.lt_of_lt_of_eq t.isLt N_0
  funext y
  have hy0 : (y 0).val < 4 := (y 0).isLt
  blk_simp [iblk]
  refine (congrFun h.ar _).trans ?_
  refine I.congr_are (Fin.ext ?_) (Fin.ext ?_)
  · refine Eq.trans ?_ (chan_val t.val (y 0) ht).symm
    blk_simp
    omega
  · blk_simp
    omega

theorem iblk3_eq {I : Inp} {c : Dev nD} (h : Holds m I c) (t : Fin cfg0.N) : iblk m c 3 t = (I.pt t.val).aI := by
  obtain ⟨e0, e1, e2⟩ := idx3 t
  have ht : t.val < 16 := Nat.lt_of_lt_of_eq t.isLt N_0
  funext y
  have hy0 : (y 0).val < 4 := (y 0).isLt
  blk_simp [iblk]
  refine (congrFun h.ai _).trans ?_
  refine I.congr_aim (Fin.ext ?_) (Fin.ext ?_)
  · refine Eq.trans ?_ (chan_val t.val (y 0) ht).symm
    blk_simp
    omega
  · blk_simp
    omega

/-! ## The proof data -/

abbrev ms0_0 (t : Fin cfg0.N) : Memref sig .tc .vmem S4x1024x128 .f32 := win0_0.stage (cfg0.slots t 0)
abbrev ms0_1 (t : Fin cfg0.N) : Memref sig .tc .vmem S4x1024x128 .f32 := win0_1.stage (cfg0.slots t 1)
abbrev ms0_2 (t : Fin cfg0.N) : Memref sig .tc .vmem S4x1x128 .f32 := win0_2.stage (cfg0.slots t 2)
abbrev ms0_3 (t : Fin cfg0.N) : Memref sig .tc .vmem S4x1x128 .f32 := win0_3.stage (cfg0.slots t 3)
abbrev ms0_4 (t : Fin cfg0.N) : Memref sig .tc .vmem S4x1024x128 .f32 := win0_4.stage (cfg0.slots t 4)
abbrev ms0_5 (t : Fin cfg0.N) : Memref sig .tc .vmem S4x1024x128 .f32 := win0_5.stage (cfg0.slots t 5)
abbrev scr0 : Memref sig .tc .vmem S4x8x128 .f32 := Memref.whole cc0_scratch0
abbrev scr1 : Memref sig .tc .vmem S4x8x128 .f32 := Memref.whole cc0_scratch1

theorem first_iff (t : Fin cfg0.N) : first (grid0.coords t) ↔ t.val % 4 = 0 := by
  have ht : t.val < 16 := Nat.lt_of_lt_of_eq t.isLt N_0
  have e1 : (grid0.coords t 1).val = t.val / 1 % 4 := Pipeline.Grid.coords_val t 1 (by decide) rfl
  simp only [first, e1]
  word_cmp

/-- What the region starts with, the scratch buffers as memrefs. -/
theorem start_eq (c : Dev nD) :
    (Pipeline.ΦA spec0 c : sProp MM)
      = iprop(iprop((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

/-- The invariant before point `n`: from the second point on the scratch holds the numbers carried. -/
def Inv (I : Inp) (c : Dev nD) : ℕ → sProp MM
  | 0 => Pipeline.ΦA spec0 c
  | n + 1 => iprop(iprop(owns (c : Thread nD τ) scr0 fullShare ((I.pt n).scR 1024) ∗ owns (c : Thread nD τ) scr1 fullShare ((I.pt n).scI 1024)) ∗ (∃ r, prngReg c r))

theorem Inv_pos (I : Inp) (c : Dev nD) (n : ℕ) (hn : n ≠ 0) :
    Inv I c n = iprop(iprop(owns (c : Thread nD τ) scr0 fullShare ((I.pt (n - 1)).scR 1024) ∗ owns (c : Thread nD τ) scr1 fullShare ((I.pt (n - 1)).scI 1024)) ∗ (∃ r, prngReg c r)) := by
  cases n with
  | zero => exact absurd rfl hn
  | succ n => rfl

variable (J : Dev nD → Inp)

/-- The pipeline's proof data: the inputs' blocks stay, the outputs' blocks are the scan's. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => ((J c).pt t.val).outR
    | ⟨5, _⟩ => ((J c).pt t.val).outI
  Φ t := Inv (J c) c t.val
  q _ := fullShare
  owed _ := 0

theorem A_eq (c : Dev nD) (w : Fin cfg0.W) : (dats m J 0 c).A w = V m c (Pipeline.arrRef spec0 w) := by
  dsimp only [dats]
theorem after0 (c : Dev nD) (t : Fin cfg0.N) : (dats m J 0 c).after 0 t = iblk m c 0 t := by dsimp only [dats]
theorem after1 (c : Dev nD) (t : Fin cfg0.N) : (dats m J 0 c).after 1 t = iblk m c 1 t := by dsimp only [dats]
theorem after2 (c : Dev nD) (t : Fin cfg0.N) : (dats m J 0 c).after 2 t = iblk m c 2 t := by dsimp only [dats]
theorem after3 (c : Dev nD) (t : Fin cfg0.N) : (dats m J 0 c).after 3 t = iblk m c 3 t := by dsimp only [dats]
theorem after4 (c : Dev nD) (t : Fin cfg0.N) : (dats m J 0 c).after 4 t = ((J c).pt t.val).outR := by dsimp only [dats]
theorem after5 (c : Dev nD) (t : Fin cfg0.N) : (dats m J 0 c).after 5 t = ((J c).pt t.val).outI := by dsimp only [dats]
theorem before0 (c : Dev nD) (t : Fin cfg0.N) (d) : (dats m J 0 c).before 0 t d = iblk m c 0 t :=
  before0_0_of m (dats m J 0 c) (A_eq m J c 0) (after0 m J c) t d
theorem before1 (c : Dev nD) (t : Fin cfg0.N) (d) : (dats m J 0 c).before 1 t d = iblk m c 1 t :=
  before0_1_of m (dats m J 0 c) (A_eq m J c 1) (after1 m J c) t d
theorem before2 (c : Dev nD) (t : Fin cfg0.N) (d) : (dats m J 0 c).before 2 t d = iblk m c 2 t :=
  before0_2_of m (dats m J 0 c) (A_eq m J c 2) (after2 m J c) t d
theorem before3 (c : Dev nD) (t : Fin cfg0.N) (d) : (dats m J 0 c).before 3 t d = iblk m c 3 t :=
  before0_3_of m (dats m J 0 c) (A_eq m J c 3) (after3 m J c) t d

theorem Inv_castSucc (c : Dev nD) (t : Fin cfg0.N) : (dats m J 0 c).Φ t.castSucc = Inv (J c) c t.val := by
  dsimp only [dats]; rfl

/-- What the body is called with at point `t`, window by window, -/
def bodyPre (c : Dev nD) (t : Fin cfg0.N) : sProp MM :=
  iprop((dats m J 0 c).Φ t.castSucc ∗ (dats m J 0 c).owesAt () t.castSucc
    ∗ (∃ d, owns (c : Thread nD τ) (ms0_0 t) fullShare ((dats m J 0 c).before 0 t d))
    ∗ (∃ d, owns (c : Thread nD τ) (ms0_1 t) fullShare ((dats m J 0 c).before 1 t d))
    ∗ (∃ d, owns (c : Thread nD τ) (ms0_2 t) fullShare ((dats m J 0 c).before 2 t d))
    ∗ (∃ d, owns (c : Thread nD τ) (ms0_3 t) fullShare ((dats m J 0 c).before 3 t d))
    ∗ (∃ d, owns (c : Thread nD τ) (ms0_4 t) fullShare ((dats m J 0 c).before 4 t d))
    ∗ (∃ d, owns (c : Thread nD τ) (ms0_5 t) fullShare ((dats m J 0 c).before 5 t d)))

/-- and what it returns. -/
def bodyPost (c : Dev nD) (t : Fin cfg0.N) : sProp MM :=
  iprop((dats m J 0 c).Φ t.succ ∗ (dats m J 0 c).owesAt () t.succ
    ∗ owns (c : Thread nD τ) (ms0_0 t) fullShare ((dats m J 0 c).after 0 t)
    ∗ owns (c : Thread nD τ) (ms0_1 t) fullShare ((dats m J 0 c).after 1 t)
    ∗ owns (c : Thread nD τ) (ms0_2 t) fullShare ((dats m J 0 c).after 2 t)
    ∗ owns (c : Thread nD τ) (ms0_3 t) fullShare ((dats m J 0 c).after 3 t)
    ∗ owns (c : Thread nD τ) (ms0_4 t) fullShare ((dats m J 0 c).after 4 t)
    ∗ owns (c : Thread nD τ) (ms0_5 t) fullShare ((dats m J 0 c).after 5 t))

set_option maxHeartbeats 1600000 in
/-- The body at any point gives the scan's block and carries the scan's numbers on. -/
theorem sound_body (hJ : ∀ c, Holds m (J c) c) (c : Dev nD) (t : Fin cfg0.N) :
    bodyPre m J c t ⊢ wp frame (wpE (defs₀ (F := Ideal)) Variants.none c none) Set.univ (bodyAt0 t) (fun _ => bodyPost m J c t) := by
  unfold bodyPre bodyPost bodyAt0
  simp only [before0, before1, before2, before3]
  rw [show (dats m J 0 c).owesAt () t.succ = (dats m J 0 c).owesAt () t.castSucc from rfl,
    after0, after1, after2, after3, after4, after5]
  rw [show (dats m J 0 c).Φ t.succ = Inv (J c) c (t.val + 1) from rfl, Inv]
  rw [iblk0_eq m (hJ c) t, iblk1_eq m (hJ c) t, iblk2_eq m (hJ c) t, iblk3_eq m (hJ c) t, Inv_castSucc m J c t]
  by_cases h0 : t.val % 4 = 0
  · by_cases hz : t.val = 0
    · rw [show Inv (J c) c t.val = Pipeline.ΦA spec0 c by rw [hz]; rfl, start_eq]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply (run_first c (grid0.coords t) _ _ _ _ _ _ _ _ _ _ _ _ _ _ _ _ ((J c).pt t.val) ((first_iff t).mpr h0) ((J c).pt_first t.val h0) Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, H4, H5, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Inv_pos (J c) c _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply (run_first c (grid0.coords t) _ _ _ _ _ _ _ _ _ _ _ _ _ _ _ _ ((J c).pt t.val) ((first_iff t).mpr h0) ((J c).pt_first t.val h0) Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexists _; iexact HS0
      isplitl [HS1]; · iexists _; iexact HS1
      iintro ⟨H0, H1, H2, H3, H4, H5, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      iexact H5
  · have hz : t.val ≠ 0 := fun h => h0 (by rw [h])
    · rw [Inv_pos (J c) c _ hz, (J c).scR_later t.val h0, (J c).scI_later t.val h0]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply (run_later c (grid0.coords t) _ _ _ _ _ _ _ _ _ _ _ _ _ _ _ _ ((J c).pt t.val) (fun h => h0 ((first_iff t).mp h)) Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, H4, H5, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      iexact H5

theorem row_eq (t : Fin cfg0.N) : defs₀ (F := Ideal) .tc cfg0.body (cfg0.bodyArgs t (cfg0.slots t)) = bodyAt0 t := by
  unfold defs₀; rw [Defs.onTc_tc]

theorem body_obligation (hJ : ∀ c, Holds m (J c) c) (c : Dev nD) :
    BodyObligation (dats m J 0 c) (defs₀ (F := Ideal)) Variants.none () Set.univ := fun t => by
  rw [bigSep_W0, bigSep_W0, row_eq]
  exact triple_restated (sound_body m J hJ c t) rfl .rfl fun _ => .rfl

theorem hin (c : Dev nD) : Pipeline.ΦA spec0 c ⊢ (dats m J 0 c).Φ 0 := by
  rw [show (dats m J 0 c).Φ 0 = Pipeline.ΦA spec0 c from rfl]
  try exact Idealize.SL.BI.Entails.refl _

theorem hout (c : Dev nD) : (dats m J 0 c).Φ (Fin.last cfg0.N) ⊢ Pipeline.ΦA spec0 c := by
  rw [show (dats m J 0 c).Φ (Fin.last cfg0.N) = Inv (J c) c 16 from congrArg (Inv (J c) c) N_0, Inv_pos (J c) c 16 (by decide), start_eq]
  iintro ⟨⟨HS0, HS1⟩, Hg⟩
  isplitl [HS0 HS1]
  · isplitl [HS0]
    · iexists _; iexact HS0
    iexists _; iexact HS1
  iexact Hg

set_option backward.isDefEq.respectTransparency.types false in
/-- The launch: every buffer the pipeline stages ends at what the proof data computes. -/
theorem run_main (hJ : ∀ c, Holds m (J c) c) :
    θ_run defs (onTc (τ := τ) (main (F := Ideal))) (s₀ m ρ) (fun r => Pipeline.FramePost cfgs (dats m J) 0 (V m) r ∧ r.2.sem = fun _ => 0) :=
  Pipeline.θ_run_frame_track (Q' := _) cfgs (dats m J) (0 : Fin 1) launch0 defs₀ Variants.none m ρ main
    (hbody := fun c => (body_obligation m J hJ c).loose) (hshare := fun c => (dats m J 0 c).share_full fun _ => rfl)
    (howed := fun _ _ => rfl) (V := V m) (hmain := hmain m Variants.none) (hA := A_eq m J) (hin := hin m J) (hout := hout m J)

/-- The output array ends at the scan's numbers. -/
theorem final4 (c : Dev nD) : (dats m J 0 c).arrAt 4 cfg0.N = (J c).outR := by
  refine (dats m J 0 c).arrAt_eq_of_covers 4 _ (by decide +kernel) fun t hf y => ?_
  obtain ⟨e0, e1, e2⟩ := idx4 t
  have ht : t.val < 16 := Nat.lt_of_lt_of_eq t.isLt N_0
  have hy0 : (y 0).val < 4 := (y 0).isLt
  have hy1 : (y 1).val < 1024 := (y 1).isLt
  blk_simp
  rw [after4]
  show ((((J c).pt t.val).x (y 0) (y 2) (1024 - (y 1).val)).re : EReal) = _
  refine (congrArg (fun z : ℂ => (z.re : EReal)) (Inp.pt_x (J c) t.val (y 0) (y 2) (1024 - (y 1).val))).trans ?_
  refine (J c).congr_gre (Fin.ext ?_) (Fin.ext ?_) ?_
  · refine (chan_val t.val (y 0) ht).trans ?_
    blk_simp
    omega
  · blk_simp
    omega
  · blk_simp
    omega

/-- The output array ends at the scan's numbers. -/
theorem final5 (c : Dev nD) : (dats m J 0 c).arrAt 5 cfg0.N = (J c).outI := by
  refine (dats m J 0 c).arrAt_eq_of_covers 5 _ (by decide +kernel) fun t hf y => ?_
  obtain ⟨e0, e1, e2⟩ := idx5 t
  have ht : t.val < 16 := Nat.lt_of_lt_of_eq t.isLt N_0
  have hy0 : (y 0).val < 4 := (y 0).isLt
  have hy1 : (y 1).val < 1024 := (y 1).isLt
  blk_simp
  rw [after5]
  show ((((J c).pt t.val).x (y 0) (y 2) (1024 - (y 1).val)).im : EReal) = _
  refine (congrArg (fun z : ℂ => (z.im : EReal)) (Inp.pt_x (J c) t.val (y 0) (y 2) (1024 - (y 1).val))).trans ?_
  refine (J c).congr_gim (Fin.ext ?_) (Fin.ext ?_) ?_
  · refine (chan_val t.val (y 0) ht).trans ?_
    blk_simp
    omega
  · blk_simp
    omega
  · blk_simp
    omega

end Cert.Scan
-- ==== Proof.ScanFinite.lean ====
module

public import proofs.«01_k».proof.Proof.ScanDats
public import proofs.«01_k».proof.Pre_finite
public import proofs.«01_k».proof.Defs
public import Idealize.ShloMosaic.Lib.ReduceAll
public import Idealize.ShloMosaic.Lib.WordCmp

@[expose] public section

set_option maxRecDepth 16384

noncomputable section

namespace Cert.Scan

open Idealize.ShloMosaic Idealize.ShloMosaic.TcCoe

/-- The side conditions of the precondition. -/
theorem pre_facts : Cert.Pre_finite.Facts where
  bcast_S_S16x4096x128 := by decide +kernel
  reducesTo_S16x4096x128_S_d0_1_2 := by decide +kernel
  h_S_ := by decide +kernel
  bcast_S_S16x1x128 := by decide +kernel
  reducesTo_S16x1x128_S_d0_1_2 := by decide +kernel

/-- An extended real whose absolute value is below infinity is a real number. -/
theorem real_of_lt {x : EReal} (h : Idealize.ShloMosaic.Ideal.cmp .olt (max x (-x)) (Idealize.ShloMosaic.Ideal.ofBits .f32 0x7F800000#32) = 1#1) :
    x = (x.toReal : EReal) := by
  have htop : Idealize.ShloMosaic.Ideal.ofBits .f32 0x7F800000#32 = ⊤ := by simp [Idealize.ShloMosaic.Ideal.ofBits, Idealize.ShloMosaic.Ideal.ieee]
  rw [htop] at h
  induction x with
  | bot => exact absurd h (by simp [Idealize.ShloMosaic.Ideal.cmp])
  | top => exact absurd h (by simp [Idealize.ShloMosaic.Ideal.cmp])
  | coe r => rfl

section
variable [Cert.Pre_finite.Facts]
open Cert.Pre_finite Cert.Pre_finite.Facts

/-- What the precondition asks of one input. -/
abbrev allFinite {s : Shape} (hb : S_.BroadcastsInDim s (![] : Fin 0 → Fin s.rank)) {d : List (Fin s.rank)} (hr : s.ReducesTo d S_)
    (x : FVec Ideal s .f32) : IVec S_ 1 :=
  Host.reduce IntOp.andi (cmpf .olt (Host.absf x) (broadcastInDim s ![] hb (constant S_ .f32 0x7F800000#32))) (constantI S_ 1 1#1) hr h_S_

theorem allFinite_real {s : Shape} (hb : S_.BroadcastsInDim s (![] : Fin 0 → Fin s.rank)) {d : List (Fin s.rank)} (hr : s.ReducesTo d S_)
    (x : FVec Ideal s .f32) (j : S_.Idx) (h : allFinite hb hr x j = 1#1) (i : s.Idx) : x i = ((x i : EReal).toReal : EReal) :=
  haveI : Subsingleton S_.Idx := ⟨fun a b => funext fun k => k.elim0⟩
  real_of_lt (Host.reduce_andi_all _ _ hr h_S_ j h i)

theorem fn_real (x0 x1 : FVec Ideal S16x4096x128 .f32) (x2 x3 : FVec Ideal S16x1x128 .f32)
    (h : Cert.Pre_finite.fn (F := Ideal) x0 x1 x2 x3 = fun _ => 1#1) :
    (∀ i, x0 i = ((x0 i : EReal).toReal : EReal)) ∧ (∀ i, x1 i = ((x1 i : EReal).toReal : EReal))
      ∧ (∀ i, x2 i = ((x2 i : EReal).toReal : EReal)) ∧ (∀ i, x3 i = ((x3 i : EReal).toReal : EReal)) := by
  have e := congrFun h (Shape.Idx.first h_S_)
  change IntOp.andi (IntOp.andi (IntOp.andi (allFinite bcast_S_S16x4096x128 reducesTo_S16x4096x128_S_d0_1_2 x0 _)
    (allFinite bcast_S_S16x4096x128 reducesTo_S16x4096x128_S_d0_1_2 x1 _)) (allFinite bcast_S_S16x1x128 reducesTo_S16x1x128_S_d0_1_2 x2 _))
    (allFinite bcast_S_S16x1x128 reducesTo_S16x1x128_S_d0_1_2 x3 _) = 1#1 at e
  obtain ⟨e, e3⟩ := IntOp.andi_eq_one.1 e
  obtain ⟨e, e2⟩ := IntOp.andi_eq_one.1 e
  obtain ⟨e0, e1⟩ := IntOp.andi_eq_one.1 e
  exact ⟨allFinite_real _ _ x0 _ e0, allFinite_real _ _ x1 _ e1, allFinite_real _ _ x2 _ e2, allFinite_real _ _ x3 _ e3⟩
end

open Cert.KernelIdeal Cert.KernelIdeal.Gen

/-- The complex numbers four arrays of finite entries hold. -/
def inpOf (x0 x1 : FVec Ideal S16x4096x128 .f32) (x2 x3 : FVec Ideal S16x1x128 .f32) : Inp where
  X ch n l := if h : n < 4096 then ⟨(x0 (ValueIdx.ix3 ch ⟨n, h⟩ l) : EReal).toReal, (x1 (ValueIdx.ix3 ch ⟨n, h⟩ l) : EReal).toReal⟩ else 0
  A ch l := ⟨(x2 (ValueIdx.ix3 ch 0 l) : EReal).toReal, (x3 (ValueIdx.ix3 ch 0 l) : EReal).toReal⟩

theorem inpOf_X (x0 x1 : FVec Ideal S16x4096x128 .f32) (x2 x3 : FVec Ideal S16x1x128 .f32) (ch : Fin 16) (n : Fin 4096) (l : Fin 128) :
    (inpOf x0 x1 x2 x3).X ch n.val l = ⟨(x0 (ValueIdx.ix3 ch n l) : EReal).toReal, (x1 (ValueIdx.ix3 ch n l) : EReal).toReal⟩ :=
  dif_pos n.isLt

/-- The four arrays are the parts of the complex numbers they hold. -/
theorem inpOf_spec (x0 x1 : FVec Ideal S16x4096x128 .f32) (x2 x3 : FVec Ideal S16x1x128 .f32)
    (h0 : ∀ i, x0 i = ((x0 i : EReal).toReal : EReal)) (h1 : ∀ i, x1 i = ((x1 i : EReal).toReal : EReal))
    (h2 : ∀ i, x2 i = ((x2 i : EReal).toReal : EReal)) (h3 : ∀ i, x3 i = ((x3 i : EReal).toReal : EReal)) :
    (x0 = fun y => (((inpOf x0 x1 x2 x3).X (y 0) (y 1).val (y 2)).re : EReal))
      ∧ (x1 = fun y => (((inpOf x0 x1 x2 x3).X (y 0) (y 1).val (y 2)).im : EReal))
      ∧ (x2 = fun y => (((inpOf x0 x1 x2 x3).A (y 0) (y 2)).re : EReal))
      ∧ (x3 = fun y => (((inpOf x0 x1 x2 x3).A (y 0) (y 2)).im : EReal)) := by
  refine ⟨?_, ?_, ?_, ?_⟩
  · funext y
    obtain ⟨q, r, l, rfl⟩ : ∃ (q : Fin 16) (r : Fin 4096) (l : Fin 128), y = ValueIdx.ix3 q r l := ⟨y 0, y 1, y 2, ValueIdx.eq_ix3 y⟩
    exact (h0 _).trans (congrArg (fun z : ℂ => (z.re : EReal)) (inpOf_X x0 x1 x2 x3 q r l).symm)
  · funext y
    obtain ⟨q, r, l, rfl⟩ : ∃ (q : Fin 16) (r : Fin 4096) (l : Fin 128), y = ValueIdx.ix3 q r l := ⟨y 0, y 1, y 2, ValueIdx.eq_ix3 y⟩
    exact (h1 _).trans (congrArg (fun z : ℂ => (z.im : EReal)) (inpOf_X x0 x1 x2 x3 q r l).symm)
  · funext y
    obtain ⟨q, r, l, rfl⟩ : ∃ (q : Fin 16) (r : Fin 1) (l : Fin 128), y = ValueIdx.ix3 q r l := ⟨y 0, y 1, y 2, ValueIdx.eq_ix3 y⟩
    obtain rfl : r = 0 := Subsingleton.elim _ _
    exact h2 _
  · funext y
    obtain ⟨q, r, l, rfl⟩ : ∃ (q : Fin 16) (r : Fin 1) (l : Fin 128), y = ValueIdx.ix3 q r l := ⟨y 0, y 1, y 2, ValueIdx.eq_ix3 y⟩
    obtain rfl : r = 0 := Subsingleton.elim _ _
    exact h3 _

end Cert.Scan

end
-- ==== Proof.ScanRef.lean ====
module

public import proofs.«01_k».proof.Proof.ScanDats
public import proofs.«01_k».proof.Proof.Gen.ReferenceIdeal.Run
public import Idealize.ShloMosaic.Lib.Pointwise
public import Idealize.ShloMosaic.Lib.ValueIdx

@[expose] public section

set_option maxRecDepth 16384

noncomputable section

namespace Cert.Scan.Ref

open Idealize.ShloMosaic Idealize.ShloMosaic.TcCoe
open Cert.ReferenceIdeal Cert.ReferenceIdeal.Gen Cert.ReferenceIdeal.Value
open Idealize.ShloMosaic.StableHlo

/-- The contents of the reference's buffers. -/
abbrev Val : Type := Valuation τ sig (Elt Ideal)
/-- A `[16, 128]` buffer's contents. -/
abbrev M2 : Type := FVec Ideal S16x128 .f32
/-- A `[4096, 16, 128]` buffer's contents. -/
abbrev M3 : Type := FVec Ideal S4096x16x128 .f32

/-- The row trip `j` works on, as the word the loop computes, clamped. -/
def srow (j : ℕ) : ℕ :=
  (min (max (IntOp.subi (IntOp.subi 4096#32 (BitVec.ofNat 32 j)) 1#32).toInt 0) ((4096 - 1 : ℕ) : ℤ)).toNat

theorem srow_eq (j : ℕ) (hj : j < 4096) : srow j = 4095 - j := by
  have e : IntOp.subi (IntOp.subi 4096#32 (BitVec.ofNat 32 j)) 1#32 = BitVec.ofNat 32 (4095 - j) := by
    apply BitVec.eq_of_toNat_eq
    simp only [IntOp.subi, BitVec.toNat_sub, BitVec.toNat_ofNat]
    omega
  have e2 : (BitVec.ofNat 32 (4095 - j)).toInt = ((4095 - j : ℕ) : ℤ) := by
    rw [BitVec.toInt_eq_toNat_of_lt] <;> simp only [BitVec.toNat_ofNat] <;> omega
  unfold srow
  rw [e, e2]
  omega

/-- The loop's number is `j`. -/
abbrev AtTrip (j : ℕ) (V : Val) : Prop := (V (Proc.devRef .tc main_v11_6) : IVec S_ 32) = constantI S_ 32 (BitVec.ofNat 32 j)

/-- The start row's number. -/
theorem start_eq (j : ℕ) (V : Val) (h : AtTrip j V) :
    (res_main_while0b_v15 V : IVec S_ 32) (Shape.Idx.first h_S_) = IntOp.subi (IntOp.subi 4096#32 (BitVec.ofNat 32 j)) 1#32 := by
  unfold res_main_while0b_v15
  rw [h]
  rfl

/-- The start words of a trip's row. -/
abbrev startAt (w : IVec S_ 32) : Fin 3 → ℤ :=
  fun k => ((![w, constantI S_ 32 0#32, constantI S_ 32 0#32] : Fin 3 → (⟨S_, .i32⟩ : BufTy).Contents (Elt Ideal)) k (Shape.Idx.first h_S_)).toInt

/-- A row of a `[4096, 16, 128]` array. -/
theorem slice_eq (j : ℕ) (hj : j < 4096) (w : IVec S_ 32) (hw : w (Shape.Idx.first h_S_) = IntOp.subi (IntOp.subi 4096#32 (BitVec.ofNat 32 j)) 1#32)
    (x : M3) (ch : Fin 16) (l : Fin 128) :
    shapeCast S16x128 (Host.dynamicSlice S1x16x128 x (startAt w) sliceFits_S4096x16x128_S1x16x128)
      shapeCasts_S1x16x128_S16x128 (ix2 ch l) = x (ix3 ⟨4095 - j, by omega⟩ ch l) := by
  have e : (min (max (w (Shape.Idx.first h_S_)).toInt 0) ((4096 - 1 : ℕ) : ℤ)).toNat = 4095 - j := by
    rw [hw]; exact srow_eq j hj
  pointwise
  refine congrArg x (funext fun a => Fin.ext ?_)
  match a with
  | ⟨0, _⟩ => exact e
  | ⟨1, _⟩ => exact Nat.zero_add ch.val
  | ⟨2, _⟩ => exact Nat.zero_add l.val

/-- Writing a row of a `[4096, 16, 128]` array leaves the others. -/
theorem update_eq (j : ℕ) (hj : j < 4096) (w : IVec S_ 32) (hw : w (Shape.Idx.first h_S_) = IntOp.subi (IntOp.subi 4096#32 (BitVec.ofNat 32 j)) 1#32)
    (x : M3) (u : M2) (n : Fin 4096) (ch : Fin 16) (l : Fin 128) :
    Host.dynamicUpdateSlice x (broadcastInDim S1x16x128 ![1, 2] bcast_S16x128_S1x16x128_1_2 u) (startAt w)
      updateFits_S4096x16x128_S1x16x128 (ix3 n ch l) = if n.val = 4095 - j then u (ix2 ch l) else x (ix3 n ch l) := by
  have e : (min (max (w (Shape.Idx.first h_S_)).toInt 0) ((4096 - 1 : ℕ) : ℤ)).toNat = 4095 - j := by
    rw [hw]; exact srow_eq j hj
  unfold Host.dynamicUpdateSlice updateSlice
  split_ifs with h1 h2 h2
  · pointwise
    refine congrArg u (funext fun a => Fin.ext ?_)
    match a with
    | ⟨0, _⟩ => exact Nat.sub_zero ch.val
    | ⟨1, _⟩ => exact Nat.sub_zero l.val
  · refine absurd ?_ h2
    have h := h1 ⟨0, by decide⟩
    change (min (max (w (Shape.Idx.first h_S_)).toInt 0) ((4096 - 1 : ℕ) : ℤ)).toNat ≤ n.val
      ∧ n.val < (min (max (w (Shape.Idx.first h_S_)).toInt 0) ((4096 - 1 : ℕ) : ℤ)).toNat + 1 at h
    rw [e] at h
    omega
  · refine absurd ?_ h1
    intro a
    match a with
    | ⟨0, _⟩ =>
      show (min (max (w (Shape.Idx.first h_S_)).toInt 0) ((4096 - 1 : ℕ) : ℤ)).toNat ≤ n.val
        ∧ n.val < (min (max (w (Shape.Idx.first h_S_)).toInt 0) ((4096 - 1 : ℕ) : ℤ)).toNat + 1
      rw [e]; omega
    | ⟨1, _⟩ => exact ⟨Nat.zero_le _, by show ch.val < 0 + 16; omega⟩
    | ⟨2, _⟩ => exact ⟨Nat.zero_le _, by show l.val < 0 + 128; omega⟩
  · rfl

/-- What the buffers hold before trip `j`. -/
structure Inv (I : Inp) (j : ℕ) (V : Val) : Prop where
  nr : AtTrip j V
  xr : ∀ (n : Fin 4096) (ch : Fin 16) (l : Fin 128), (V (Proc.devRef .tc main_v11_0) : M3) (ix3 n ch l) = ((I.X ch n.val l).re : EReal)
  xi : ∀ (n : Fin 4096) (ch : Fin 16) (l : Fin 128), (V (Proc.devRef .tc main_v11_1) : M3) (ix3 n ch l) = ((I.X ch n.val l).im : EReal)
  a2 : ∀ (ch : Fin 16) (l : Fin 128), (V (Proc.devRef .tc main_v11_2) : M2) (ix2 ch l) = ((I.A ch l).re : EReal)
  a3 : ∀ (ch : Fin 16) (l : Fin 128), (V (Proc.devRef .tc main_v11_3) : M2) (ix2 ch l) = ((I.A ch l).im : EReal)
  a4 : ∀ (ch : Fin 16) (l : Fin 128), (V (Proc.devRef .tc main_v11_4) : M2) (ix2 ch l) = ((I.A ch l).re : EReal)
  a5 : ∀ (ch : Fin 16) (l : Fin 128), (V (Proc.devRef .tc main_v11_5) : M2) (ix2 ch l) = ((I.A ch l).im : EReal)
  cr : ∀ (ch : Fin 16) (l : Fin 128), (V (Proc.devRef .tc main_v11_7) : M2) (ix2 ch l) = (((starRingEnd ℂ) (I.A ch l) * I.G ch l j).re : EReal)
  ci : ∀ (ch : Fin 16) (l : Fin 128), (V (Proc.devRef .tc main_v11_8) : M2) (ix2 ch l) = (((starRingEnd ℂ) (I.A ch l) * I.G ch l j).im : EReal)
  yr : ∀ (n : Fin 4096) (ch : Fin 16) (l : Fin 128), 4096 - j ≤ n.val →
    (V (Proc.devRef .tc main_v11_9) : M3) (ix3 n ch l) = ((I.G ch l (4096 - n.val)).re : EReal)
  yi : ∀ (n : Fin 4096) (ch : Fin 16) (l : Fin 128), 4096 - j ≤ n.val →
    (V (Proc.devRef .tc main_v11_10) : M3) (ix3 n ch l) = ((I.G ch l (4096 - n.val)).im : EReal)

theorem G_succ (I : Inp) (ch : Fin 16) (l : Fin 128) (j : ℕ) :
    I.G ch l (j + 1) = I.X ch (4095 - j) l + (starRingEnd ℂ) (I.A ch l) * I.G ch l j := rfl

theorem Inv.sumRe {I : Inp} {j : ℕ} {V : Val} (h : Inv I j V) (hj : j < 4096) (ch : Fin 16) (l : Fin 128) :
    (res_main_while0b_v18 V : M2) (ix2 ch l) = ((I.G ch l (j + 1)).re : EReal) := by
  unfold res_main_while0b_v18
  refine (congrArg₂ (fun a b : EReal => a + b) (h.cr ch l) ((slice_eq j hj _ (start_eq j V h.nr) _ ch l).trans (h.xr _ ch l))).trans ?_
  rw [G_succ, Complex.add_re, add_comm ((I.X ch (4095 - j) l).re)]
  exact (EReal.coe_add _ _).symm

theorem Inv.sumIm {I : Inp} {j : ℕ} {V : Val} (h : Inv I j V) (hj : j < 4096) (ch : Fin 16) (l : Fin 128) :
    (res_main_while0b_v19 V : M2) (ix2 ch l) = ((I.G ch l (j + 1)).im : EReal) := by
  unfold res_main_while0b_v19
  refine (congrArg₂ (fun a b : EReal => a + b) (h.ci ch l) ((slice_eq j hj _ (start_eq j V h.nr) _ ch l).trans (h.xi _ ch l))).trans ?_
  rw [G_succ, Complex.add_im, add_comm ((I.X ch (4095 - j) l).im)]
  exact (EReal.coe_add _ _).symm

theorem step9 (V : Val) : (step_main_v11_9 V : M3) = Host.dynamicUpdateSlice (V (Proc.devRef .tc main_v11_9) : M3)
    (broadcastInDim S1x16x128 ![1, 2] bcast_S16x128_S1x16x128_1_2 (res_main_while0b_v18 V : M2)) (startAt (res_main_while0b_v15 V : IVec S_ 32))
    updateFits_S4096x16x128_S1x16x128 := by
  unfold step_main_v11_9
  sl_kernel_rfl

theorem step10 (V : Val) : (step_main_v11_10 V : M3) = Host.dynamicUpdateSlice (V (Proc.devRef .tc main_v11_10) : M3)
    (broadcastInDim S1x16x128 ![1, 2] bcast_S16x128_S1x16x128_1_2 (res_main_while0b_v19 V : M2)) (startAt (res_main_while0b_v15 V : IVec S_ 32))
    updateFits_S4096x16x128_S1x16x128 := by
  unfold step_main_v11_10
  sl_kernel_rfl

theorem Inv.next {I : Inp} {j : ℕ} {V : Val} (h : Inv I j V) (hj : j < 4096) : Inv I (j + 1) (STEP V) where
  nr := by
    refine (STEP_main_v11_6 V).trans ?_
    unfold step_main_v11_6
    rw [h.nr]
    funext i
    show BitVec.ofNat 32 j + 1#32 = BitVec.ofNat 32 (j + 1)
    simp only [BitVec.ofNat_add]
  xr n ch l := (congrFun (STEP_main_v11_0 V) _).trans (h.xr n ch l)
  xi n ch l := (congrFun (STEP_main_v11_1 V) _).trans (h.xi n ch l)
  a2 ch l := (congrFun (STEP_main_v11_2 V) _).trans (h.a2 ch l)
  a3 ch l := (congrFun (STEP_main_v11_3 V) _).trans (h.a3 ch l)
  a4 ch l := (congrFun (STEP_main_v11_4 V) _).trans (h.a4 ch l)
  a5 ch l := (congrFun (STEP_main_v11_5 V) _).trans (h.a5 ch l)
  cr ch l := by
    refine (congrFun (STEP_main_v11_7 V) _).trans ?_
    unfold step_main_v11_7
    refine (congrArg₂ (fun a b : EReal => a + b) (congrArg₂ (fun a b : EReal => a * b) (h.a5 ch l) (h.sumIm hj ch l))
      (congrArg₂ (fun a b : EReal => a * b) (h.a2 ch l) (h.sumRe hj ch l))).trans ?_
    rw [Complex.mul_re, Complex.conj_re, Complex.conj_im, ← EReal.coe_mul, ← EReal.coe_mul, ← EReal.coe_add]
    congr 1; ring
  ci ch l := by
    refine (congrFun (STEP_main_v11_8 V) _).trans ?_
    unfold step_main_v11_8
    refine (congrArg₂ (fun a b : EReal => a + b) (congrArg₂ (fun a b : EReal => a * b) (h.a4 ch l) (h.sumIm hj ch l))
      (congrArg₂ (fun a b : EReal => a * b) (h.a3 ch l) (congrArg (fun a : EReal => -a) (h.sumRe hj ch l)))).trans ?_
    rw [Complex.mul_im, Complex.conj_re, Complex.conj_im, ← EReal.coe_neg, ← EReal.coe_mul, ← EReal.coe_mul, ← EReal.coe_add]
    congr 1; ring
  yr n ch l hn := by
    refine (congrFun (STEP_main_v11_9 V) _).trans ?_
    refine (congrFun (step9 V) _).trans ((update_eq j hj _ (start_eq j V h.nr) _ _ n ch l).trans ?_)
    split_ifs with e
    · rw [h.sumRe hj ch l, show 4096 - n.val = j + 1 by omega]
    · exact h.yr n ch l (by omega)
  yi n ch l hn := by
    refine (congrFun (STEP_main_v11_10 V) _).trans ?_
    refine (congrFun (step10 V) _).trans ((update_eq j hj _ (start_eq j V h.nr) _ _ n ch l).trans ?_)
    split_ifs with e
    · rw [h.sumIm hj ch l, show 4096 - n.val = j + 1 by omega]
    · exact h.yi n ch l (by omega)

/-- Four arrays hold the scan's inputs. -/
structure Args (I : Inp) (x0 x1 : FVec Ideal S16x4096x128 .f32) (x2 x3 : FVec Ideal S16x1x128 .f32) : Prop where
  xr : x0 = fun y => ((I.X (y 0) (y 1).val (y 2)).re : EReal)
  xi : x1 = fun y => ((I.X (y 0) (y 1).val (y 2)).im : EReal)
  ar : x2 = fun y => ((I.A (y 0) (y 2)).re : EReal)
  ai : x3 = fun y => ((I.A (y 0) (y 2)).im : EReal)

variable (m : (ℓ : Loc nD τ sig) → Buf (Elt Ideal) ℓ) (c : Dev nD)

/-- The buffers before the first trip. -/
abbrev E0 : Val := entryContents preI m c

section
variable (x0 x1 : FVec Ideal S16x4096x128 .f32) (x2 x3 : FVec Ideal S16x1x128 .f32)

set_option maxRecDepth 65536 in
set_option maxHeartbeats 400000 in
theorem entry_0 : (E0 m c (Proc.devRef .tc main_v11_0) : M3) = transpose S4096x16x128 [1, 0, 2] (m ((c.tc : Thread nD τ).loc main_arg0) : FVec Ideal S16x4096x128 .f32) transposes_S16x4096x128_S4096x16x128_1_0_2 := by
  unfold E0
  simp only [entryContents, afterL_cons, afterL_nil]; after_reads_simp; rfl

set_option maxRecDepth 65536 in
set_option maxHeartbeats 400000 in
theorem entry_1 : (E0 m c (Proc.devRef .tc main_v11_1) : M3) = transpose S4096x16x128 [1, 0, 2] (m ((c.tc : Thread nD τ).loc main_arg1) : FVec Ideal S16x4096x128 .f32) transposes_S16x4096x128_S4096x16x128_1_0_2 := by
  unfold E0
  simp only [entryContents, afterL_cons, afterL_nil]; after_reads_simp; rfl

set_option maxRecDepth 65536 in
set_option maxHeartbeats 400000 in
theorem entry_2 : (E0 m c (Proc.devRef .tc main_v11_2) : M2) = shapeCast S16x128 (m ((c.tc : Thread nD τ).loc main_arg2) : FVec Ideal S16x1x128 .f32) shapeCasts_S16x1x128_S16x128 := by
  unfold E0
  simp only [entryContents, afterL_cons, afterL_nil]; after_reads_simp; rfl

set_option maxRecDepth 65536 in
set_option maxHeartbeats 400000 in
theorem entry_3 : (E0 m c (Proc.devRef .tc main_v11_3) : M2) = shapeCast S16x128 (m ((c.tc : Thread nD τ).loc main_arg3) : FVec Ideal S16x1x128 .f32) shapeCasts_S16x1x128_S16x128 := by
  unfold E0
  simp only [entryContents, afterL_cons, afterL_nil]; after_reads_simp; rfl

set_option maxRecDepth 65536 in
set_option maxHeartbeats 400000 in
theorem entry_4 : (E0 m c (Proc.devRef .tc main_v11_4) : M2) = shapeCast S16x128 (m ((c.tc : Thread nD τ).loc main_arg2) : FVec Ideal S16x1x128 .f32) shapeCasts_S16x1x128_S16x128 := by
  unfold E0
  simp only [entryContents, afterL_cons, afterL_nil]; after_reads_simp; rfl

set_option maxRecDepth 65536 in
set_option maxHeartbeats 400000 in
theorem entry_5 : (E0 m c (Proc.devRef .tc main_v11_5) : M2) = shapeCast S16x128 (m ((c.tc : Thread nD τ).loc main_arg3) : FVec Ideal S16x1x128 .f32) shapeCasts_S16x1x128_S16x128 := by
  unfold E0
  simp only [entryContents, afterL_cons, afterL_nil]; after_reads_simp; rfl

set_option maxRecDepth 65536 in
set_option maxHeartbeats 400000 in
theorem entry_6 : (E0 m c (Proc.devRef .tc main_v11_6) : IVec S_ 32) = constantI S_ 32 0#32 := by
  unfold E0
  simp only [entryContents, afterL_cons, afterL_nil]; after_reads_simp; rfl

set_option maxRecDepth 65536 in
set_option maxHeartbeats 400000 in
theorem entry_7 : (E0 m c (Proc.devRef .tc main_v11_7) : M2) = (broadcastInDim S16x128 ![] bcast_S_S16x128 (constant S_ .f32 0x00000000#32) : M2) := by
  unfold E0
  simp only [entryContents, afterL_cons, afterL_nil]; after_reads_simp; rfl

set_option maxRecDepth 65536 in
set_option maxHeartbeats 400000 in
theorem entry_8 : (E0 m c (Proc.devRef .tc main_v11_8) : M2) = (broadcastInDim S16x128 ![] bcast_S_S16x128 (constant S_ .f32 0x00000000#32) : M2) := by
  unfold E0
  simp only [entryContents, afterL_cons, afterL_nil]; after_reads_simp; rfl
end

variable {m c} {I : Inp}

/-- The four arguments hold the scan's inputs. -/
abbrev ArgsAt (I : Inp) (m : (ℓ : Loc nD τ sig) → Buf (Elt Ideal) ℓ) (c : Dev nD) : Prop :=
  Args I (m ((c.tc : Thread nD τ).loc main_arg0)) (m ((c.tc : Thread nD τ).loc main_arg1)) (m ((c.tc : Thread nD τ).loc main_arg2))
    (m ((c.tc : Thread nD τ).loc main_arg3))

theorem zero_row (ch : Fin 16) (l : Fin 128) :
    (broadcastInDim S16x128 ![] bcast_S_S16x128 (constant S_ .f32 0x00000000#32) : M2) (ix2 ch l) = (0 : EReal) := by
  show Idealize.ShloMosaic.Ideal.ofBits .f32 0x00000000#32 = 0
  simp [Idealize.ShloMosaic.Ideal.ofBits, Idealize.ShloMosaic.Ideal.ieee]

theorem inv_entry (h : ArgsAt I m c) : Inv I 0 (E0 m c) where
  nr := entry_6 m c
  xr n ch l := by
    refine (congrFun (entry_0 m c) _).trans ?_
    pointwise; rw [h.xr]; rfl
  xi n ch l := by
    refine (congrFun (entry_1 m c) _).trans ?_
    pointwise; rw [h.xi]; rfl
  a2 ch l := by
    refine (congrFun (entry_2 m c) _).trans ?_
    pointwise; rw [h.ar]; rfl
  a3 ch l := by
    refine (congrFun (entry_3 m c) _).trans ?_
    pointwise; rw [h.ai]; rfl
  a4 ch l := by
    refine (congrFun (entry_4 m c) _).trans ?_
    pointwise; rw [h.ar]; rfl
  a5 ch l := by
    refine (congrFun (entry_5 m c) _).trans ?_
    pointwise; rw [h.ai]; rfl
  cr ch l := by
    refine (congrFun (entry_7 m c) _).trans ((zero_row ch l).trans ?_)
    show (0 : EReal) = (((starRingEnd ℂ) (I.A ch l) * 0).re : EReal)
    simp
  ci ch l := by
    refine (congrFun (entry_8 m c) _).trans ((zero_row ch l).trans ?_)
    show (0 : EReal) = (((starRingEnd ℂ) (I.A ch l) * 0).im : EReal)
    simp
  yr n ch l hn := absurd hn (by omega)
  yi n ch l hn := absurd hn (by omega)

theorem inv_iter (h : ArgsAt I m c) : ∀ j ≤ 4096, Inv I j (STEP^[j] (E0 m c))
  | 0, _ => inv_entry h
  | j + 1, hj => by
    rw [Function.iterate_succ_apply']
    exact (inv_iter h j (by omega)).next (by omega)

theorem result_re (h : ArgsAt I m c) : (out_main_v13 (STEP^[4096] (E0 m c)) : FVec Ideal S16x4096x128 .f32) = I.outR := by
  funext y
  obtain ⟨q, r, l, rfl⟩ : ∃ (q : Fin 16) (r : Fin 4096) (l : Fin 128), y = ix3 q r l := ⟨y 0, y 1, y 2, ValueIdx.eq_ix3 y⟩
  have hv := inv_iter h 4096 le_rfl
  generalize STEP^[4096] (E0 m c) = V at hv
  unfold out_main_v13
  pointwise
  exact hv.yr r q l (by omega)

theorem result_im (h : ArgsAt I m c) : (out_main_v12 (STEP^[4096] (E0 m c)) : FVec Ideal S16x4096x128 .f32) = I.outI := by
  funext y
  obtain ⟨q, r, l, rfl⟩ : ∃ (q : Fin 16) (r : Fin 4096) (l : Fin 128), y = ix3 q r l := ⟨y 0, y 1, y 2, ValueIdx.eq_ix3 y⟩
  have hv := inv_iter h 4096 le_rfl
  generalize STEP^[4096] (E0 m c) = V at hv
  unfold out_main_v12
  pointwise
  exact hv.yi r q l (by omega)

end Cert.Scan.Ref

end
-- ==== Proof.FfnMath.lean ====
module

public import Idealize.ShloMosaic.PureOps.Ideal
public import Idealize.ShloMosaic.Lib.Pointwise

@[expose] public section

noncomputable section

namespace Cert.Ffn

open Idealize.ShloMosaic

/-- A row divided by the root of its mean square (with the small constant added) and scaled by the gain. -/
def rms (x g : Fin 1024 → EReal) (l : Fin 1024) : EReal :=
  x l * Ideal.rsqrt (Ideal.div (∑ k, x k * x k) (Ideal.ofBits FTy.f32 1149239296#32) + Ideal.ofBits FTy.f32 897988541#32) * g l

/-- The gated hidden unit: `a` times its sigmoid times `b`. -/
def gated (a b : EReal) : EReal := a * Ideal.logistic a * b

/-- The number that hidden unit `k` of shard `j` receives from a row. -/
def unit (x : Fin 1024 → EReal) (w : Fin 4 → Fin 704 → Fin 1024 → EReal) (j : Fin 4) (k : Fin 704) : EReal :=
  ∑ l, x l * w j k l

/-- The second product: the hidden units of all shards against the down weight. -/
def down (s : Fin 4 → Fin 704 → EReal) (w : Fin 4 → Fin 704 → Fin 1024 → EReal) (l : Fin 1024) : EReal :=
  ∑ j, ∑ k, s j k * w j k l

/-- The network's result on a row, before its own norm. -/
def mlp (x : Fin 1024 → EReal) (wg wu wd : Fin 4 → Fin 704 → Fin 1024 → EReal) (l : Fin 1024) : EReal :=
  down (fun j k => gated (unit x wg j k) (unit x wu j k)) wd l

/-- Row `704 j + k` of 2816. -/
def col (j : Fin 4) (k : Fin 704) : Fin 2816 := ⟨j.val * 704 + k.val, by omega⟩

theorem sum_col (f : Fin 2816 → EReal) : ∑ n, f n = ∑ j, ∑ k, f (col j k) :=
  Fin.sum_univ_tiles 4 704 rfl f

end Cert.Ffn
-- ==== Proof.FfnFwdBlock.lean ====
module

public import proofs.«01_k».proof.Proof.Gen.Kernel2Ideal.Frame
public import proofs.«01_k».proof.Proof.FfnMath
public import Idealize.ShloMosaic.Lib.Pipeline.Value

@[expose] public section

noncomputable section

namespace Cert.FfnFwd

open Cert.Ffn Cert.Kernel2Ideal Cert.Kernel2Ideal.Gen Idealize.ShloMosaic

variable (x0 : Vec Ideal S512x1024 .f32) (x1 x2 : Vec Ideal S1x1x1024 .f32) (x3 x4 x5 : Vec Ideal S4x1x704x1024 .bf16)

theorem pay2_at (r : Fin 512) (l : Fin 1024) : k0_pay2 x0 x1 (ix2 r l) = rms (fun l => x0 (ix2 r l)) (fun l => x1 (ix3 0 0 l)) l := by
  pointwise [k0_pay2, rms]

section
variable (x : Vec Ideal S512x1024 .bf16) (w w' : Vec Ideal S1x1x704x1024 .bf16) (r : Fin 512) (k : Fin 704) (l : Fin 1024)

theorem pay8_at : k0_pay8 x w (ix2 r k) = ∑ l, x (ix2 r l) * w (ix4 0 0 k l) := by pointwise [k0_pay8]
theorem pay9_at : k0_pay9 x w (ix2 r k) = ∑ l, x (ix2 r l) * w (ix4 0 0 k l) := by pointwise [k0_pay9]
theorem pay14_at : k0_pay14 x w (ix2 r k) = ∑ l, x (ix2 r l) * w (ix4 0 0 k l) := by pointwise [k0_pay14]
theorem pay15_at : k0_pay15 x w (ix2 r k) = ∑ l, x (ix2 r l) * w (ix4 0 0 k l) := by pointwise [k0_pay15]
theorem pay19_at : k0_pay19 x w (ix2 r k) = ∑ l, x (ix2 r l) * w (ix4 0 0 k l) := by pointwise [k0_pay19]
theorem pay20_at : k0_pay20 x w (ix2 r k) = ∑ l, x (ix2 r l) * w (ix4 0 0 k l) := by pointwise [k0_pay20]
theorem pay12_at : k0_pay12 x w w' (ix2 r k) = gated (k0_pay8 x w (ix2 r k)) (k0_pay9 x w' (ix2 r k)) := by pointwise [k0_pay12, gated]
theorem pay13_at : k0_pay13 w (ix2 k l) = w (ix4 0 0 k l) := by pointwise [k0_pay13]

theorem pay7_at (a b : FVec Ideal S512x704 .bf16) :
    k0_pay7 a b w (ix2 r l) = ∑ k, gated (a (ix2 r k)) (b (ix2 r k)) * w (ix4 0 0 k l) := by pointwise [k0_pay7, gated]

theorem pay18_at (f : FVec Ideal S512x1024 .f32) (s : FVec Ideal S512x704 .bf16) (d : FVec Ideal S704x1024 .bf16) (w'' : Vec Ideal S1x1x704x1024 .bf16) :
    k0_pay18 x f s d (constant S512x1024 .f32 0x00000000#32) w w' w'' (ix2 r l)
      = f (ix2 r l) + ∑ k, s (ix2 r k) * d (ix2 k l) + ∑ k, gated (k0_pay14 x w (ix2 r k)) (k0_pay15 x w' (ix2 r k)) * w'' (ix4 0 0 k l) := by
  pointwise [k0_pay18, gated]

theorem pay23_at (f : FVec Ideal S512x1024 .f32) (s : FVec Ideal S512x704 .bf16) :
    k0_pay23 x f s w w' (ix2 r l) = f (ix2 r l) + ∑ k, gated (s (ix2 r k)) (k0_pay20 x w (ix2 r k)) * w' (ix4 0 0 k l) := by
  pointwise [k0_pay23, gated]

theorem pay24_at (f : FVec Ideal S512x1024 .f32) (s : FVec Ideal S512x704 .bf16) (g : Vec Ideal S1x1x1024 .f32) :
    k0_pay24 x f s w w' g (ix2 r l) = rms (fun l => k0_pay23 x f s w w' (ix2 r l)) (fun l => g (ix3 0 0 l)) l := by
  pointwise [k0_pay24, rms]

theorem pay1_at (v : FVec Ideal S512x1024 .f32) :
    k0_pay1 x0 v (ix2 r l) = x0 (ix2 r l) + Ideal.ofBits FTy.f32 0x3F000000#32 * v (ix2 r l) := by
  pointwise [k0_pay1]
end

theorem ld0 : View.ld x0 r0_0 = x0 := View.ld_unit_zero (by funext a; fin_cases a <;> rfl) _ _
theorem ld1 : View.ld x1 r0_1 = x1 := View.ld_unit_zero (by funext a; fin_cases a <;> rfl) _ _

/-- Shard `j` of a weight as the body loads it. -/
def shard (w : Vec Ideal S4x1x704x1024 .bf16) (j : Fin 4) : Vec Ideal S1x1x704x1024 .bf16 := fun i => w (ix4 j 0 (i 2) (i 3))

theorem shard_at (w : Vec Ideal S4x1x704x1024 .bf16) (j : Fin 4) (k : Fin 704) (l : Fin 1024) : shard w j (ix4 0 0 k l) = w (ix4 j 0 k l) := rfl

theorem ldw0 : View.ld x3 r0_2 = shard x3 0 := by
  funext i
  obtain ⟨a, b, k, l, rfl⟩ : ∃ (a b : Fin 1) (k : Fin 704) (l : Fin 1024), i = ix4 a b k l := ⟨_, _, _, _, eq_ix4 i⟩
  obtain rfl : a = 0 := Subsingleton.elim _ _
  obtain rfl : b = 0 := Subsingleton.elim _ _
  rw [shard_at]
  pointwise []
theorem ldw1 : View.ld x3 r0_4 = shard x3 1 := by
  funext i
  obtain ⟨a, b, k, l, rfl⟩ : ∃ (a b : Fin 1) (k : Fin 704) (l : Fin 1024), i = ix4 a b k l := ⟨_, _, _, _, eq_ix4 i⟩
  obtain rfl : a = 0 := Subsingleton.elim _ _
  obtain rfl : b = 0 := Subsingleton.elim _ _
  rw [shard_at]
  pointwise []
theorem ldw2 : View.ld x3 r0_6 = shard x3 2 := by
  funext i
  obtain ⟨a, b, k, l, rfl⟩ : ∃ (a b : Fin 1) (k : Fin 704) (l : Fin 1024), i = ix4 a b k l := ⟨_, _, _, _, eq_ix4 i⟩
  obtain rfl : a = 0 := Subsingleton.elim _ _
  obtain rfl : b = 0 := Subsingleton.elim _ _
  rw [shard_at]
  pointwise []
theorem ldw3 : View.ld x3 r0_8 = shard x3 3 := by
  funext i
  obtain ⟨a, b, k, l, rfl⟩ : ∃ (a b : Fin 1) (k : Fin 704) (l : Fin 1024), i = ix4 a b k l := ⟨_, _, _, _, eq_ix4 i⟩
  obtain rfl : a = 0 := Subsingleton.elim _ _
  obtain rfl : b = 0 := Subsingleton.elim _ _
  rw [shard_at]
  pointwise []

/-- Row `r` of the normed block. -/
abbrev xrow (r : Fin 512) : Fin 1024 → EReal := rms (fun l => x0 (ix2 r l)) (fun l => x1 (ix3 0 0 l))

/-- The weight's shards as a function of shard, row and column. -/
abbrev wt (w : Vec Ideal S4x1x704x1024 .bf16) (j : Fin 4) (k : Fin 704) (l : Fin 1024) : EReal := w (ix4 j 0 k l)

theorem pay25_at (r : Fin 512) (l : Fin 1024) : k0_pay25 x0 x1 x2 x3 x4 x5 (ix2 r l) = xrow x0 x1 r l := by
  unfold k0_pay25
  rw [ld0, ld1, pay2_at]

theorem out10_at (r : Fin 512) (l : Fin 1024) : out0_10 x0 x1 x2 x3 x4 x5 (ix2 r l) = xrow x0 x1 r l := by
  unfold out0_10
  rw [View.canon_unit_zero (by funext a; fin_cases a <;> rfl)]
  exact pay25_at x0 x1 x2 x3 x4 x5 r l

theorem mlp_at (r : Fin 512) (l : Fin 1024) :
    k0_pay23 (k0_pay25 x0 x1 x2 x3 x4 x5) (k0_pay26 x0 x1 x2 x3 x4 x5) (k0_pay27 x0 x1 x2 x3 x4 x5) (View.ld x4 r0_8) (View.ld x5 r0_8) (ix2 r l)
      = mlp (xrow x0 x1 r) (wt x3) (wt x4) (wt x5) l := by
  have e3 : ∀ w : Vec Ideal S1x1x704x1024 .bf16, k0_pay3 x0 x1 w = k0_pay8 (k0_pay2 x0 x1) w := fun _ => rfl
  have e4 : ∀ w : Vec Ideal S1x1x704x1024 .bf16, k0_pay4 x0 x1 w = k0_pay9 (k0_pay2 x0 x1) w := fun _ => rfl
  rw [pay23_at]
  unfold k0_pay26 k0_pay27
  rw [pay18_at, pay7_at]
  simp only [pay12_at, pay13_at, pay19_at, pay20_at, pay14_at, pay15_at, ld0, ld1, e3, e4, pay8_at, pay9_at, pay25_at, pay2_at]
  rw [ldw0 x3, ldw0 x4, ldw0 x5, ldw1 x3, ldw1 x4, ldw1 x5, ldw2 x3, ldw2 x4, ldw2 x5, ldw3 x3, ldw3 x4, ldw3 x5]
  simp only [shard_at]
  unfold mlp down unit
  rw [Fin.sum_univ_four]

theorem out9_at (r : Fin 512) (l : Fin 1024) :
    out0_9 x0 x1 x2 x3 x4 x5 (ix2 r l) = mlp (xrow x0 x1 r) (wt x3) (wt x4) (wt x5) l := by
  unfold out0_9
  rw [View.canon_unit_zero (by funext a; fin_cases a <;> rfl)]
  exact mlp_at x0 x1 x2 x3 x4 x5 r l

theorem out6_at (r : Fin 512) (l : Fin 1024) :
    out0_6 x0 x1 x2 x3 x4 x5 (ix2 r l)
      = x0 (ix2 r l) + Ideal.ofBits FTy.f32 0x3F000000#32 * rms (mlp (xrow x0 x1 r) (wt x3) (wt x4) (wt x5)) (fun l => x2 (ix3 0 0 l)) l := by
  unfold out0_6
  rw [View.canon_unit_zero (by funext a; fin_cases a <;> rfl), pay1_at, pay24_at, ld0, ld1]
  simp only [mlp_at]

theorem emb0 (t : Fin 512) (q : Fin 704) : r0_3.emb (ix3 (0 : Fin 1) t q) = ix3 (n0 := 4) (n1 := 512) (n2 := 704) 0 t q := by
  funext a; fin_cases a <;> apply Fin.ext <;> simp [Rect.emb_apply]

theorem emb1 (t : Fin 512) (q : Fin 704) : r0_5.emb (ix3 (0 : Fin 1) t q) = ix3 (n0 := 4) (n1 := 512) (n2 := 704) 1 t q := by
  funext a; fin_cases a <;> apply Fin.ext <;> simp [Rect.emb_apply]

theorem emb2 (t : Fin 512) (q : Fin 704) : r0_7.emb (ix3 (0 : Fin 1) t q) = ix3 (n0 := 4) (n1 := 512) (n2 := 704) 2 t q := by
  funext a; fin_cases a <;> apply Fin.ext <;> simp [Rect.emb_apply]

theorem emb3 (t : Fin 512) (q : Fin 704) : r0_9.emb (ix3 (0 : Fin 1) t q) = ix3 (n0 := 4) (n1 := 512) (n2 := 704) 3 t q := by
  funext a; fin_cases a <;> apply Fin.ext <;> simp [Rect.emb_apply]

theorem out7_at (j : Fin 4) (r : Fin 512) (k : Fin 704) :
    out0_7 x0 x1 x2 x3 x4 x5 (ix3 j r k) = unit (xrow x0 x1 r) (wt x3) j k := by
  unfold out0_7
  refine View.canon_apply_of_pieces (Val := Elt Ideal) (fun y : S4x512x704.Idx => unit (xrow x0 x1 (y 1)) (wt x3) (y 0) (y 2)) _ ?_ _
    (cover0_7 _ _ _ _ _)
  intro p hp x
  simp only [List.mem_cons, List.not_mem_nil, or_false] at hp
  rcases hp with rfl | rfl | rfl | rfl
  all_goals
    obtain ⟨a, t, q, rfl⟩ : ∃ (a : Fin 1) (t : Fin 512) (q : Fin 704), x = ix3 a t q := ⟨_, _, _, eq_ix3 x⟩
    obtain rfl : a = 0 := Subsingleton.elim _ _
  · refine Eq.trans (b := unit (xrow x0 x1 t) (wt x3) 3 q) ?_
      (congrArg (fun y : S4x512x704.Idx => unit (xrow x0 x1 (y 1)) (wt x3) (y 0) (y 2)) (emb3 t q)).symm
    show k0_pay21 (k0_pay27 x0 x1 x2 x3 x4 x5) (ix3 0 t q) = _
    refine Eq.trans (b := k0_pay27 x0 x1 x2 x3 x4 x5 (ix2 t q)) (by pointwise [k0_pay21]) ?_
    unfold k0_pay27
    rw [pay19_at, ldw3 x3]
    simp only [pay25_at, shard_at]; rfl
  · refine Eq.trans (b := unit (xrow x0 x1 t) (wt x3) 2 q) ?_
      (congrArg (fun y : S4x512x704.Idx => unit (xrow x0 x1 (y 1)) (wt x3) (y 0) (y 2)) (emb2 t q)).symm
    show k0_pay16 (k0_pay25 x0 x1 x2 x3 x4 x5) (View.ld x3 r0_6) (ix3 0 t q) = _
    rw [ldw2 x3]
    refine Eq.trans (b := k0_pay14 (k0_pay25 x0 x1 x2 x3 x4 x5) (shard x3 2) (ix2 t q)) (by pointwise [k0_pay16]) ?_
    rw [pay14_at]
    simp only [pay25_at, shard_at]; rfl
  · refine Eq.trans (b := unit (xrow x0 x1 t) (wt x3) 1 q) ?_
      (congrArg (fun y : S4x512x704.Idx => unit (xrow x0 x1 (y 1)) (wt x3) (y 0) (y 2)) (emb1 t q)).symm
    show k0_pay10 (k0_pay25 x0 x1 x2 x3 x4 x5) (View.ld x3 r0_4) (ix3 0 t q) = _
    rw [ldw1 x3]
    refine Eq.trans (b := k0_pay8 (k0_pay25 x0 x1 x2 x3 x4 x5) (shard x3 1) (ix2 t q)) (by pointwise [k0_pay10]) ?_
    rw [pay8_at]
    simp only [pay25_at, shard_at]; rfl
  · refine Eq.trans (b := unit (xrow x0 x1 t) (wt x3) 0 q) ?_
      (congrArg (fun y : S4x512x704.Idx => unit (xrow x0 x1 (y 1)) (wt x3) (y 0) (y 2)) (emb0 t q)).symm
    show k0_pay5 (View.ld x0 r0_0) (View.ld x1 r0_1) (View.ld x3 r0_2) (ix3 0 t q) = _
    rw [ldw0 x3, ld0, ld1]
    refine Eq.trans (b := k0_pay8 (k0_pay2 x0 x1) (shard x3 0) (ix2 t q)) (by pointwise [k0_pay5]; rfl) ?_
    rw [pay8_at]
    simp only [pay2_at, shard_at]; rfl

theorem out8_at (j : Fin 4) (r : Fin 512) (k : Fin 704) :
    out0_8 x0 x1 x2 x3 x4 x5 (ix3 j r k) = unit (xrow x0 x1 r) (wt x4) j k := by
  unfold out0_8
  refine View.canon_apply_of_pieces (Val := Elt Ideal) (fun y : S4x512x704.Idx => unit (xrow x0 x1 (y 1)) (wt x4) (y 0) (y 2)) _ ?_ _
    (cover0_8 _ _ _ _ _)
  intro p hp x
  simp only [List.mem_cons, List.not_mem_nil, or_false] at hp
  rcases hp with rfl | rfl | rfl | rfl
  all_goals
    obtain ⟨a, t, q, rfl⟩ : ∃ (a : Fin 1) (t : Fin 512) (q : Fin 704), x = ix3 a t q := ⟨_, _, _, eq_ix3 x⟩
    obtain rfl : a = 0 := Subsingleton.elim _ _
  · refine Eq.trans (b := unit (xrow x0 x1 t) (wt x4) 3 q) ?_
      (congrArg (fun y : S4x512x704.Idx => unit (xrow x0 x1 (y 1)) (wt x4) (y 0) (y 2)) (emb3 t q)).symm
    show k0_pay22 (k0_pay25 x0 x1 x2 x3 x4 x5) (View.ld x4 r0_8) (ix3 0 t q) = _
    rw [ldw3 x4]
    refine Eq.trans (b := k0_pay20 (k0_pay25 x0 x1 x2 x3 x4 x5) (shard x4 3) (ix2 t q)) (by pointwise [k0_pay22]) ?_
    rw [pay20_at]
    simp only [pay25_at, shard_at]; rfl
  · refine Eq.trans (b := unit (xrow x0 x1 t) (wt x4) 2 q) ?_
      (congrArg (fun y : S4x512x704.Idx => unit (xrow x0 x1 (y 1)) (wt x4) (y 0) (y 2)) (emb2 t q)).symm
    show k0_pay17 (k0_pay25 x0 x1 x2 x3 x4 x5) (View.ld x4 r0_6) (ix3 0 t q) = _
    rw [ldw2 x4]
    refine Eq.trans (b := k0_pay15 (k0_pay25 x0 x1 x2 x3 x4 x5) (shard x4 2) (ix2 t q)) (by pointwise [k0_pay17]) ?_
    rw [pay15_at]
    simp only [pay25_at, shard_at]; rfl
  · refine Eq.trans (b := unit (xrow x0 x1 t) (wt x4) 1 q) ?_
      (congrArg (fun y : S4x512x704.Idx => unit (xrow x0 x1 (y 1)) (wt x4) (y 0) (y 2)) (emb1 t q)).symm
    show k0_pay11 (k0_pay25 x0 x1 x2 x3 x4 x5) (View.ld x4 r0_4) (ix3 0 t q) = _
    rw [ldw1 x4]
    refine Eq.trans (b := k0_pay9 (k0_pay25 x0 x1 x2 x3 x4 x5) (shard x4 1) (ix2 t q)) (by pointwise [k0_pay11]) ?_
    rw [pay9_at]
    simp only [pay25_at, shard_at]; rfl
  · refine Eq.trans (b := unit (xrow x0 x1 t) (wt x4) 0 q) ?_
      (congrArg (fun y : S4x512x704.Idx => unit (xrow x0 x1 (y 1)) (wt x4) (y 0) (y 2)) (emb0 t q)).symm
    show k0_pay6 (View.ld x0 r0_0) (View.ld x1 r0_1) (View.ld x4 r0_2) (ix3 0 t q) = _
    rw [ldw0 x4, ld0, ld1]
    refine Eq.trans (b := k0_pay9 (k0_pay2 x0 x1) (shard x4 0) (ix2 t q)) (by pointwise [k0_pay6]; rfl) ?_
    rw [pay9_at]
    simp only [pay2_at, shard_at]; rfl

end Cert.FfnFwd
-- ==== Proof.FfnFwdArr.lean ====
module

public import proofs.«01_k».proof.Proof.FfnFwdBlock
public import Idealize.ShloMosaic.Lib.Pipeline.ValueKit

@[expose] public section

set_option maxRecDepth 16384

noncomputable section

namespace Cert.FfnFwd

open Cert.Ffn Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The arguments as functions of row and column, the weights by shard. -/
def hv (r : Fin 4096) (l : Fin 1024) : EReal := m ((c : Thread nD τ).loc main_arg0) (ix2 r l)
def pg (l : Fin 1024) : EReal := m ((c : Thread nD τ).loc main_arg1) (ix1 l)
def qg (l : Fin 1024) : EReal := m ((c : Thread nD τ).loc main_arg2) (ix1 l)
def wg (j : Fin 4) (k : Fin 704) (l : Fin 1024) : EReal := m ((c : Thread nD τ).loc main_arg3) (ix2 l (col j k))
def wu (j : Fin 4) (k : Fin 704) (l : Fin 1024) : EReal := m ((c : Thread nD τ).loc main_arg4) (ix2 l (col j k))
def wd (j : Fin 4) (k : Fin 704) (l : Fin 1024) : EReal := m ((c : Thread nD τ).loc main_arg5) (ix2 (col j k) l)

theorem V_v0 (l : Fin 1024) : V m c main_v0 (ix3 0 0 l) = pg m c l := by
  have e : V m c main_v0 = shapeCast S1x1x1024 (m ((c : Thread nD τ).loc main_arg1)) shapeCasts_S1024_S1x1x1024 := by
    unfold V
    simp only [hostOps0]
    after_results_simp
    rfl
  rw [e]
  pointwise [pg]

theorem V_v1 (l : Fin 1024) : V m c main_v1 (ix3 0 0 l) = qg m c l := by
  have e : V m c main_v1 = shapeCast S1x1x1024 (m ((c : Thread nD τ).loc main_arg2)) shapeCasts_S1024_S1x1x1024 := by
    unfold V
    simp only [hostOps0]
    after_results_simp
    rfl
  rw [e]
  pointwise [qg]

theorem V_v4 (j : Fin 4) (k : Fin 704) (l : Fin 1024) : V m c main_v4 (ix4 j 0 k l) = wg m c j k l := by
  have e : V m c main_v4 = truncf (F := Ideal) .bf16 (shapeCast S4x1x704x1024 (transpose S2816x1024 [1, 0] (m ((c : Thread nD τ).loc main_arg3)) transposes_S1024x2816_S2816x1024_1_0) shapeCasts_S2816x1024_S4x1x704x1024) bitsLt_bf16_f32 := by
    unfold V
    simp only [hostOps0]
    after_results_simp
    rfl
  rw [e]
  pointwise [wg, col]

theorem V_v7 (j : Fin 4) (k : Fin 704) (l : Fin 1024) : V m c main_v7 (ix4 j 0 k l) = wu m c j k l := by
  have e : V m c main_v7 = truncf (F := Ideal) .bf16 (shapeCast S4x1x704x1024 (transpose S2816x1024 [1, 0] (m ((c : Thread nD τ).loc main_arg4)) transposes_S1024x2816_S2816x1024_1_0) shapeCasts_S2816x1024_S4x1x704x1024) bitsLt_bf16_f32 := by
    unfold V
    simp only [hostOps0]
    after_results_simp
    rfl
  rw [e]
  pointwise [wu, col]

theorem cast_at (x : Vec Ideal S2816x1024 .f32) (j : Fin 4) (k : Fin 704) (l : Fin 1024) :
    shapeCast S4x1x704x1024 x shapeCasts_S2816x1024_S4x1x704x1024 (ix4 j 0 k l) = x (ix2 (col j k) l) := by
  pointwise [col]

theorem V_v9 (j : Fin 4) (k : Fin 704) (l : Fin 1024) : V m c main_v9 (ix4 j 0 k l) = wd m c j k l := by
  have e : V m c main_v9 = truncf (F := Ideal) .bf16 (shapeCast S4x1x704x1024 (m ((c : Thread nD τ).loc main_arg5)) shapeCasts_S2816x1024_S4x1x704x1024) bitsLt_bf16_f32 := by
    unfold V
    simp only [hostOps0]
    after_results_simp
    rfl
  rw [e]
  exact cast_at (m ((c : Thread nD τ).loc main_arg5)) j k l

/-- Row `r` of the block of grid point `t`. -/
def row (t : Fin cfg0.N) (r : Fin 512) : Fin 4096 := ⟨t.val * 512 + r.val, by have h : t.val < 8 := t.isLt; omega⟩

theorem idx0 : ∀ t : Fin cfg0.N, win0_0.index t = ![t.val, 0] := by decide +kernel
theorem idx1 : ∀ t : Fin cfg0.N, win0_1.index t = ![0, 0, 0] := by decide +kernel
theorem idx2 : ∀ t : Fin cfg0.N, win0_2.index t = ![0, 0, 0] := by decide +kernel
theorem idx3 : ∀ t : Fin cfg0.N, win0_3.index t = ![0, 0, 0, 0] := by decide +kernel
theorem idx4 : ∀ t : Fin cfg0.N, win0_4.index t = ![0, 0, 0, 0] := by decide +kernel
theorem idx5 : ∀ t : Fin cfg0.N, win0_5.index t = ![0, 0, 0, 0] := by decide +kernel
theorem idx6 : ∀ t : Fin cfg0.N, win0_6.index t = ![t.val, 0] := by decide +kernel
theorem idx7 : ∀ t : Fin cfg0.N, win0_7.index t = ![0, t.val, 0] := by decide +kernel
theorem idx8 : ∀ t : Fin cfg0.N, win0_8.index t = ![0, t.val, 0] := by decide +kernel
theorem idx9 : ∀ t : Fin cfg0.N, win0_9.index t = ![t.val, 0] := by decide +kernel
theorem idx10 : ∀ t : Fin cfg0.N, win0_10.index t = ![t.val, 0] := by decide +kernel

theorem iblk0_at (t : Fin cfg0.N) (r : Fin 512) (l : Fin 1024) : iblk m c 0 t (ix2 r l) = hv m c (row t r) l := by
  blk_simp [iblk]
  refine (congrFun (V_main_arg0 m c) _).trans (congrArg (m ((c : Thread nD τ).loc main_arg0)) ?_)
  funext a
  fin_cases a <;> apply Fin.ext
  · blk_simp [idx0]; rfl
  · blk_simp [idx0]; rfl

theorem iblk1_at (t : Fin cfg0.N) (l : Fin 1024) : iblk m c 1 t (ix3 0 0 l) = pg m c l := by
  blk_simp [iblk]
  refine Eq.trans (congrArg (V m c main_v0) ?_) (V_v0 m c l)
  funext a
  fin_cases a <;> apply Fin.ext <;> blk_simp [idx1]

theorem iblk2_at (t : Fin cfg0.N) (l : Fin 1024) : iblk m c 2 t (ix3 0 0 l) = qg m c l := by
  blk_simp [iblk]
  refine Eq.trans (congrArg (V m c main_v1) ?_) (V_v1 m c l)
  funext a
  fin_cases a <;> apply Fin.ext <;> blk_simp [idx2]

theorem iblk3_at (t : Fin cfg0.N) (j : Fin 4) (k : Fin 704) (l : Fin 1024) : iblk m c 3 t (ix4 j 0 k l) = wg m c j k l := by
  blk_simp [iblk]
  refine Eq.trans (congrArg (V m c main_v4) ?_) (V_v4 m c j k l)
  funext a
  fin_cases a <;> apply Fin.ext <;> blk_simp [idx3]

theorem iblk4_at (t : Fin cfg0.N) (j : Fin 4) (k : Fin 704) (l : Fin 1024) : iblk m c 4 t (ix4 j 0 k l) = wu m c j k l := by
  blk_simp [iblk]
  refine Eq.trans (congrArg (V m c main_v7) ?_) (V_v7 m c j k l)
  funext a
  fin_cases a <;> apply Fin.ext <;> blk_simp [idx4]

theorem iblk5_at (t : Fin cfg0.N) (j : Fin 4) (k : Fin 704) (l : Fin 1024) : iblk m c 5 t (ix4 j 0 k l) = wd m c j k l := by
  blk_simp [iblk]
  refine Eq.trans (congrArg (V m c main_v9) ?_) (V_v9 m c j k l)
  funext a
  fin_cases a <;> apply Fin.ext <;> blk_simp [idx5]

theorem emb6 (t : Fin cfg0.N) (r : Fin 512) (l : Fin 1024) :
    (win0_6.blk t).view.emb (ix2 r l) = ix2 (n0 := 4096) (n1 := 1024) (row t r) l := by
  funext a
  fin_cases a <;> apply Fin.ext
  · blk_simp [idx6]; rfl
  · blk_simp [idx6]; rfl

theorem emb9 (t : Fin cfg0.N) (r : Fin 512) (l : Fin 1024) :
    (win0_9.blk t).view.emb (ix2 r l) = ix2 (n0 := 4096) (n1 := 1024) (row t r) l := by
  funext a
  fin_cases a <;> apply Fin.ext
  · blk_simp [idx9]; rfl
  · blk_simp [idx9]; rfl

theorem emb10 (t : Fin cfg0.N) (r : Fin 512) (l : Fin 1024) :
    (win0_10.blk t).view.emb (ix2 r l) = ix2 (n0 := 4096) (n1 := 1024) (row t r) l := by
  funext a
  fin_cases a <;> apply Fin.ext
  · blk_simp [idx10]; rfl
  · blk_simp [idx10]; rfl

theorem emb7 (t : Fin cfg0.N) (j : Fin 4) (r : Fin 512) (k : Fin 704) :
    (win0_7.blk t).view.emb (ix3 j r k) = ix3 (n0 := 4) (n1 := 4096) (n2 := 704) j (row t r) k := by
  funext a
  fin_cases a <;> apply Fin.ext
  · blk_simp [idx7]; rfl
  · blk_simp [idx7]; rfl
  · blk_simp [idx7]; rfl

theorem emb8 (t : Fin cfg0.N) (j : Fin 4) (r : Fin 512) (k : Fin 704) :
    (win0_8.blk t).view.emb (ix3 j r k) = ix3 (n0 := 4) (n1 := 4096) (n2 := 704) j (row t r) k := by
  funext a
  fin_cases a <;> apply Fin.ext
  · blk_simp [idx8]; rfl
  · blk_simp [idx8]; rfl
  · blk_simp [idx8]; rfl

theorem wt3 (t : Fin cfg0.N) : wt (iblk m c 3 t) = wg m c := by
  funext j k l; exact iblk3_at m c t j k l

theorem wt4 (t : Fin cfg0.N) : wt (iblk m c 4 t) = wu m c := by
  funext j k l; exact iblk4_at m c t j k l

theorem wt5 (t : Fin cfg0.N) : wt (iblk m c 5 t) = wd m c := by
  funext j k l; exact iblk5_at m c t j k l

theorem xrow_at (t : Fin cfg0.N) (r : Fin 512) : xrow (iblk m c 0 t) (iblk m c 1 t) r = rms (hv m c (row t r)) (pg m c) :=
  congrArg₂ rms (funext fun l => iblk0_at m c t r l) (funext fun l => iblk1_at m c t l)

theorem gain_at (t : Fin cfg0.N) : (fun l : Fin 1024 => (iblk m c 2 t (ix3 0 0 l) : EReal)) = qg m c :=
  funext fun l => iblk2_at m c t l

theorem blk10 (t : Fin cfg0.N) (r : Fin 512) (l : Fin 1024) : out0_10 (iblk m c 0 t) (iblk m c 1 t) (iblk m c 2 t) (iblk m c 3 t) (iblk m c 4 t) (iblk m c 5 t) (ix2 r l) = rms (hv m c (row t r)) (pg m c) l := by
  rw [out10_at, xrow_at]

theorem blk9 (t : Fin cfg0.N) (r : Fin 512) (l : Fin 1024) : out0_9 (iblk m c 0 t) (iblk m c 1 t) (iblk m c 2 t) (iblk m c 3 t) (iblk m c 4 t) (iblk m c 5 t) (ix2 r l) = mlp (rms (hv m c (row t r)) (pg m c)) (wg m c) (wu m c) (wd m c) l := by
  rw [out9_at, xrow_at, wt3, wt4, wt5]

theorem blk6 (t : Fin cfg0.N) (r : Fin 512) (l : Fin 1024) : out0_6 (iblk m c 0 t) (iblk m c 1 t) (iblk m c 2 t) (iblk m c 3 t) (iblk m c 4 t) (iblk m c 5 t) (ix2 r l) = hv m c (row t r) l + Ideal.ofBits FTy.f32 0x3F000000#32 * rms (mlp (rms (hv m c (row t r)) (pg m c)) (wg m c) (wu m c) (wd m c)) (qg m c) l := by
  rw [out6_at, xrow_at, wt3, wt4, wt5, gain_at, iblk0_at]

theorem blk7 (t : Fin cfg0.N) (j : Fin 4) (r : Fin 512) (k : Fin 704) : out0_7 (iblk m c 0 t) (iblk m c 1 t) (iblk m c 2 t) (iblk m c 3 t) (iblk m c 4 t) (iblk m c 5 t) (ix3 j r k) = unit (rms (hv m c (row t r)) (pg m c)) (wg m c) j k := by
  rw [out7_at, xrow_at, wt3]

theorem blk8 (t : Fin cfg0.N) (j : Fin 4) (r : Fin 512) (k : Fin 704) : out0_8 (iblk m c 0 t) (iblk m c 1 t) (iblk m c 2 t) (iblk m c 3 t) (iblk m c 4 t) (iblk m c 5 t) (ix3 j r k) = unit (rms (hv m c (row t r)) (pg m c)) (wu m c) j k := by
  rw [out8_at, xrow_at, wt4]

theorem arr10 : (dats m 0 c).arrAt 10 cfg0.N = fun i : S4096x1024.Idx => rms (hv m c (i 0)) (pg m c) (i 1) := by
  refine (dats m 0 c).arrAt_eq_of_covers 10 _ (by decide +kernel) fun t hf y => ?_
  blk_simp
  rw [after0_10]
  obtain ⟨r, l, rfl⟩ : ∃ (r : Fin 512) (l : Fin 1024), y = ix2 r l := ⟨_, _, eq_ix2 y⟩
  exact (blk10 m c t r l).trans (congrArg (fun i : S4096x1024.Idx => rms (hv m c (i 0)) (pg m c) (i 1)) (emb10 t r l)).symm

theorem arr9 : (dats m 0 c).arrAt 9 cfg0.N = fun i : S4096x1024.Idx => mlp (rms (hv m c (i 0)) (pg m c)) (wg m c) (wu m c) (wd m c) (i 1) := by
  refine (dats m 0 c).arrAt_eq_of_covers 9 _ (by decide +kernel) fun t hf y => ?_
  blk_simp
  rw [after0_9]
  obtain ⟨r, l, rfl⟩ : ∃ (r : Fin 512) (l : Fin 1024), y = ix2 r l := ⟨_, _, eq_ix2 y⟩
  exact (blk9 m c t r l).trans (congrArg (fun i : S4096x1024.Idx => mlp (rms (hv m c (i 0)) (pg m c)) (wg m c) (wu m c) (wd m c) (i 1)) (emb9 t r l)).symm

theorem arr6 : (dats m 0 c).arrAt 6 cfg0.N = fun i : S4096x1024.Idx => hv m c (i 0) (i 1) + Ideal.ofBits FTy.f32 0x3F000000#32 * rms (mlp (rms (hv m c (i 0)) (pg m c)) (wg m c) (wu m c) (wd m c)) (qg m c) (i 1) := by
  refine (dats m 0 c).arrAt_eq_of_covers 6 _ (by decide +kernel) fun t hf y => ?_
  blk_simp
  rw [after0_6]
  obtain ⟨r, l, rfl⟩ : ∃ (r : Fin 512) (l : Fin 1024), y = ix2 r l := ⟨_, _, eq_ix2 y⟩
  exact (blk6 m c t r l).trans (congrArg (fun i : S4096x1024.Idx => hv m c (i 0) (i 1) + Ideal.ofBits FTy.f32 0x3F000000#32 * rms (mlp (rms (hv m c (i 0)) (pg m c)) (wg m c) (wu m c) (wd m c)) (qg m c) (i 1)) (emb6 t r l)).symm

theorem arr7 : (dats m 0 c).arrAt 7 cfg0.N = fun i : S4x4096x704.Idx => unit (rms (hv m c (i 1)) (pg m c)) (wg m c) (i 0) (i 2) := by
  refine (dats m 0 c).arrAt_eq_of_covers 7 _ (by decide +kernel) fun t hf y => ?_
  blk_simp
  rw [after0_7]
  obtain ⟨j, r, k, rfl⟩ : ∃ (j : Fin 4) (r : Fin 512) (k : Fin 704), y = ix3 j r k := ⟨_, _, _, eq_ix3 y⟩
  exact (blk7 m c t j r k).trans (congrArg (fun i : S4x4096x704.Idx => unit (rms (hv m c (i 1)) (pg m c)) (wg m c) (i 0) (i 2)) (emb7 t j r k)).symm

theorem arr8 : (dats m 0 c).arrAt 8 cfg0.N = fun i : S4x4096x704.Idx => unit (rms (hv m c (i 1)) (pg m c)) (wu m c) (i 0) (i 2) := by
  refine (dats m 0 c).arrAt_eq_of_covers 8 _ (by decide +kernel) fun t hf y => ?_
  blk_simp
  rw [after0_8]
  obtain ⟨j, r, k, rfl⟩ : ∃ (j : Fin 4) (r : Fin 512) (k : Fin 704), y = ix3 j r k := ⟨_, _, _, eq_ix3 y⟩
  exact (blk8 m c t j r k).trans (congrArg (fun i : S4x4096x704.Idx => unit (rms (hv m c (i 1)) (pg m c)) (wu m c) (i 0) (i 2)) (emb8 t j r k)).symm

end Cert.FfnFwd
-- ==== Proof.FfnFwdRef.lean ====
module

public import proofs.«01_k».proof.Proof.Gen.Reference2Ideal.Run
public import proofs.«01_k».proof.Proof.FfnMath

@[expose] public section

set_option maxRecDepth 16384

noncomputable section

namespace Cert.FfnFwdRef

open Cert.Ffn Cert.Reference2Ideal Cert.Reference2Ideal.Gen Cert.Reference2Ideal.Value Idealize.ShloMosaic Idealize.ShloMosaic.TcCoe Idealize.SL.Sem

/-- The norm of the rows. -/
def norm (h : Vec Ideal S4096x1024 .f32) (g : Vec Ideal S1024 .f32) : Vec Ideal S4096x1024 .f32 :=
  mulf (F := Ideal) (mulf (F := Ideal) h (broadcastInDim S4096x1024 ![0, 1] bcast_S4096x1_S4096x1024_0_1 (Host.rsqrt (addf (Host.divf (broadcastInDim S4096x1 ![0] bcast_S4096_S4096x1_0 (Host.reduceAdd (F := Ideal) (mulf (F := Ideal) h h) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 g))

theorem norm_at (h : Vec Ideal S4096x1024 .f32) (g : Vec Ideal S1024 .f32) (r : Fin 4096) (l : Fin 1024) :
    norm h g (ix2 r l) = rms (fun l => h (ix2 r l)) (fun l => g (ix1 l)) l := by
  pointwise [norm, rms]

/-- The gated hidden units. -/
def gate (a b : Vec Ideal S4096x2816 .f32) : Vec Ideal S4096x2816 .f32 :=
  mulf (F := Ideal) (mulf (F := Ideal) a (Host.divf (broadcastInDim S4096x2816 ![] bcast_S_S4096x2816 (constant S_ .f32 0x3F800000#32)) (addf (broadcastInDim S4096x2816 ![] bcast_S_S4096x2816 (constant S_ .f32 0x3F800000#32)) (Host.exp (Host.negf (F := Ideal) a))))) b

theorem gate_at (a b : Vec Ideal S4096x2816 .f32) (r : Fin 4096) (n : Fin 2816) :
    gate a b (ix2 r n) = gated (a (ix2 r n)) (b (ix2 r n)) := by
  pointwise [gate, gated, Ideal.logistic]

/-- The first products. -/
def up (x : Vec Ideal S4096x1024 .f32) (w : Vec Ideal S1024x2816 .f32) : Vec Ideal S4096x2816 .f32 :=
  Host.dotGeneral (F := Ideal) (φ₁ := .f32) (φ₂ := .f32) dot_S4096x1024_S1024x2816_S4096x2816_1_0_0_1_n_n none x w

theorem up_at (x : Vec Ideal S4096x1024 .f32) (w : Vec Ideal S1024x2816 .f32) (r : Fin 4096) (n : Fin 2816) :
    up x w (ix2 r n) = ∑ l, x (ix2 r l) * w (ix2 l n) := by
  pointwise [up]

/-- The second product. -/
def dn (x : Vec Ideal S4096x2816 .f32) (w : Vec Ideal S2816x1024 .f32) : Vec Ideal S4096x1024 .f32 :=
  Host.dotGeneral (F := Ideal) (φ₁ := .f32) (φ₂ := .f32) dot_S4096x2816_S2816x1024_S4096x1024_1_0_0_1_n_n none x w

theorem dn_at (x : Vec Ideal S4096x2816 .f32) (w : Vec Ideal S2816x1024 .f32) (r : Fin 4096) (l : Fin 1024) :
    dn x w (ix2 r l) = ∑ n, x (ix2 r n) * w (ix2 n l) := by
  pointwise [dn]

/-- The hidden units by shard. -/
def shards (a : Vec Ideal S4096x2816 .f32) : Vec Ideal S4x4096x704 .bf16 :=
  truncf (F := Ideal) .bf16 (transpose S4x4096x704 [1, 0, 2] (shapeCast S4096x4x704 a shapeCasts_S4096x2816_S4096x4x704) transposes_S4096x4x704_S4x4096x704_1_0_2) bitsLt_bf16_f32

theorem shards_at (a : Vec Ideal S4096x2816 .f32) (j : Fin 4) (r : Fin 4096) (k : Fin 704) :
    shards a (ix3 j r k) = a (ix2 r (col j k)) := by
  pointwise [shards, col]

variable (m : (ℓ : Loc nD τ sig) → Buf (Elt Ideal) ℓ) (c : Dev nD)

abbrev a0 : Vec Ideal S4096x1024 .f32 := m ((c.tc : Thread nD τ).loc main_arg0)
abbrev a1 : Vec Ideal S1024 .f32 := m ((c.tc : Thread nD τ).loc main_arg1)
abbrev a2 : Vec Ideal S1024 .f32 := m ((c.tc : Thread nD τ).loc main_arg2)
abbrev a3 : Vec Ideal S1024x2816 .f32 := m ((c.tc : Thread nD τ).loc main_arg3)
abbrev a4 : Vec Ideal S1024x2816 .f32 := m ((c.tc : Thread nD τ).loc main_arg4)
abbrev a5 : Vec Ideal S2816x1024 .f32 := m ((c.tc : Thread nD τ).loc main_arg5)

/-- The normed rows, the two first products and the second. -/
def xs : Vec Ideal S4096x1024 .f32 := norm (a0 m c) (a1 m c)
def gs : Vec Ideal S4096x2816 .f32 := up (xs m c) (a3 m c)
def bs : Vec Ideal S4096x2816 .f32 := up (xs m c) (a4 m c)
def fs : Vec Ideal S4096x1024 .f32 := dn (gate (gs m c) (bs m c)) (a5 m c)
def hs : Vec Ideal S4096x1024 .f32 :=
  addf (F := Ideal) (a0 m c) (mulf (F := Ideal) (broadcastInDim S4096x1024 ![] bcast_S_S4096x1024 (constant S_ .f32 0x3F000000#32)) (norm (fs m c) (a2 m c)))

theorem run' (ρ : Dev nD → PrngReg) :
    θ_run defs (onTc (τ := τ) (main (F := Ideal))) ⟨m, fun _ => 0, ρ⟩ fun r => ∀ c : Dev nD,
      r.2.mem ((c.tc : Thread nD τ).loc main_v33) = hs m c
      ∧ r.2.mem ((c.tc : Thread nD τ).loc main_v36) = shards (gs m c)
      ∧ r.2.mem ((c.tc : Thread nD τ).loc main_v39) = shards (bs m c)
      ∧ r.2.mem ((c.tc : Thread nD τ).loc main_v17) = fs m c
      ∧ r.2.mem ((c.tc : Thread nD τ).loc main_v40) = truncf (F := Ideal) .bf16 (xs m c) bitsLt_bf16_f32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1, (h c).2.1, (h c).2.2.1, (h c).2.2.2.1, (h c).2.2.2.2.1, (h c).2.2.2.2.2⟩) (Value.run m ρ)

/-- The arguments as functions of row and column, the weights by shard. -/
abbrev hv (r : Fin 4096) (l : Fin 1024) : EReal := a0 m c (ix2 r l)
abbrev pg (l : Fin 1024) : EReal := a1 m c (ix1 l)
abbrev qg (l : Fin 1024) : EReal := a2 m c (ix1 l)
abbrev wg (j : Fin 4) (k : Fin 704) (l : Fin 1024) : EReal := a3 m c (ix2 l (col j k))
abbrev wu (j : Fin 4) (k : Fin 704) (l : Fin 1024) : EReal := a4 m c (ix2 l (col j k))
abbrev wd (j : Fin 4) (k : Fin 704) (l : Fin 1024) : EReal := a5 m c (ix2 (col j k) l)

theorem xs_at (r : Fin 4096) (l : Fin 1024) : xs m c (ix2 r l) = rms (hv m c r) (pg m c) l := norm_at _ _ r l

theorem gs_at (r : Fin 4096) (j : Fin 4) (k : Fin 704) : gs m c (ix2 r (col j k)) = unit (rms (hv m c r) (pg m c)) (wg m c) j k := by
  unfold gs
  rw [up_at]
  simp only [xs_at]
  rfl

theorem bs_at (r : Fin 4096) (j : Fin 4) (k : Fin 704) : bs m c (ix2 r (col j k)) = unit (rms (hv m c r) (pg m c)) (wu m c) j k := by
  unfold bs
  rw [up_at]
  simp only [xs_at]
  rfl

theorem fs_at (r : Fin 4096) (l : Fin 1024) : fs m c (ix2 r l) = mlp (rms (hv m c r) (pg m c)) (wg m c) (wu m c) (wd m c) l := by
  unfold fs
  rw [dn_at, sum_col]
  simp only [gate_at, gs_at, bs_at]
  rfl

theorem hs_at (r : Fin 4096) (l : Fin 1024) :
    hs m c (ix2 r l) = hv m c r l + Ideal.ofBits FTy.f32 0x3F000000#32 * rms (mlp (rms (hv m c r) (pg m c)) (wg m c) (wu m c) (wd m c)) (qg m c) l := by
  have e : hs m c (ix2 r l) = hv m c r l + Ideal.ofBits FTy.f32 0x3F000000#32 * norm (fs m c) (a2 m c) (ix2 r l) := by pointwise [hs]
  rw [e, norm_at]
  simp only [fs_at]

end Cert.FfnFwdRef
-- ==== Proof.FfnFwd.lean ====
/- The feed-forward layer's forward pass: the kernel's five arrays are the reference's. -/
module

public import proofs.«01_k».proof.Proof.FfnFwdArr
public import proofs.«01_k».proof.Proof.FfnFwdRef

@[expose] public section

set_option maxRecDepth 16384

noncomputable section

namespace Cert.FfnFwd

open Cert.Ffn Cert.Kernel2Ideal Cert.Kernel2Ideal.Gen Idealize.ShloMosaic Idealize.ShloMosaic.TcCoe Idealize.SL.Sem

variable (m : (ℓ : Loc nD τ sig) → Buf (Elt Ideal) ℓ) (m' : (ℓ : Loc Cert.Reference2Ideal.nD Cert.Reference2Ideal.τ Cert.Reference2Ideal.sig) → Buf (Elt Ideal) ℓ) (c : Dev nD)

/-- The two programs are given the same arguments on device `c`. -/
structure Same : Prop where
  h : hv m c = FfnFwdRef.hv m' c
  pg : pg m c = FfnFwdRef.pg m' c
  qg : qg m c = FfnFwdRef.qg m' c
  wg : wg m c = FfnFwdRef.wg m' c
  wu : wu m c = FfnFwdRef.wu m' c
  wd : wd m c = FfnFwdRef.wd m' c

variable {m m' c}

theorem same_of (h0 : FfnFwdRef.a0 m' c = m ((c : Thread nD τ).loc main_arg0)) (h1 : FfnFwdRef.a1 m' c = m ((c : Thread nD τ).loc main_arg1))
    (h2 : FfnFwdRef.a2 m' c = m ((c : Thread nD τ).loc main_arg2)) (h3 : FfnFwdRef.a3 m' c = m ((c : Thread nD τ).loc main_arg3))
    (h4 : FfnFwdRef.a4 m' c = m ((c : Thread nD τ).loc main_arg4)) (h5 : FfnFwdRef.a5 m' c = m ((c : Thread nD τ).loc main_arg5)) : Same m m' c where
  h := funext fun r => funext fun l => (congrFun h0 (ix2 r l)).symm
  pg := funext fun l => (congrFun h1 (ix1 l)).symm
  qg := funext fun l => (congrFun h2 (ix1 l)).symm
  wg := funext fun j => funext fun k => funext fun l => (congrFun h3 (ix2 l (col j k))).symm
  wu := funext fun j => funext fun k => funext fun l => (congrFun h4 (ix2 l (col j k))).symm
  wd := funext fun j => funext fun k => funext fun l => (congrFun h5 (ix2 (col j k) l)).symm

theorem hs_eq (s : Same m m' c) : FfnFwdRef.hs m' c = (dats m 0 c).arrAt 6 cfg0.N := by
  rw [arr6, s.h, s.pg, s.qg, s.wg, s.wu, s.wd]
  funext i
  obtain ⟨r, l, rfl⟩ : ∃ (r : Fin 4096) (l : Fin 1024), i = ix2 r l := ⟨_, _, eq_ix2 i⟩
  exact FfnFwdRef.hs_at m' c r l

theorem gs_eq (s : Same m m' c) : FfnFwdRef.shards (FfnFwdRef.gs m' c) = (dats m 0 c).arrAt 7 cfg0.N := by
  rw [arr7, s.h, s.pg, s.wg]
  funext i
  obtain ⟨j, r, k, rfl⟩ : ∃ (j : Fin 4) (r : Fin 4096) (k : Fin 704), i = ix3 j r k := ⟨_, _, _, eq_ix3 i⟩
  exact (FfnFwdRef.shards_at _ j r k).trans (FfnFwdRef.gs_at m' c r j k)

theorem bs_eq (s : Same m m' c) : FfnFwdRef.shards (FfnFwdRef.bs m' c) = (dats m 0 c).arrAt 8 cfg0.N := by
  rw [arr8, s.h, s.pg, s.wu]
  funext i
  obtain ⟨j, r, k, rfl⟩ : ∃ (j : Fin 4) (r : Fin 4096) (k : Fin 704), i = ix3 j r k := ⟨_, _, _, eq_ix3 i⟩
  exact (FfnFwdRef.shards_at _ j r k).trans (FfnFwdRef.bs_at m' c r j k)

theorem fs_eq (s : Same m m' c) : FfnFwdRef.fs m' c = (dats m 0 c).arrAt 9 cfg0.N := by
  rw [arr9, s.h, s.pg, s.wg, s.wu, s.wd]
  funext i
  obtain ⟨r, l, rfl⟩ : ∃ (r : Fin 4096) (l : Fin 1024), i = ix2 r l := ⟨_, _, eq_ix2 i⟩
  exact FfnFwdRef.fs_at m' c r l

theorem xs_eq (s : Same m m' c) : truncf (F := Ideal) .bf16 (FfnFwdRef.xs m' c) Cert.Reference2Ideal.Gen.bitsLt_bf16_f32 = (dats m 0 c).arrAt 10 cfg0.N := by
  rw [arr10, s.h, s.pg]
  funext i
  obtain ⟨r, l, rfl⟩ : ∃ (r : Fin 4096) (l : Fin 1024), i = ix2 r l := ⟨_, _, eq_ix2 i⟩
  exact FfnFwdRef.xs_at m' c r l

end Cert.FfnFwd
-- ==== Proof.FfnBwdMath.lean ====
module

public import proofs.«01_k».proof.Proof.FfnMath

@[expose] public section

noncomputable section

namespace Cert.Ffn

open Idealize.ShloMosaic

/-- The mean square of a row with the small constant added. -/
def ms (x : Fin 1024 → EReal) : EReal :=
  Ideal.div (∑ k, x k * x k) (Ideal.ofBits FTy.f32 0x44800000#32) + Ideal.ofBits FTy.f32 0x358637BD#32

/-- One over the root of `ms`. -/
def inv (x : Fin 1024 → EReal) : EReal := Ideal.rsqrt (ms x)

/-- The cotangent of a row `x` whose norm with gain `g` has cotangent `dy`. -/
def rmsb (dy x g : Fin 1024 → EReal) (l : Fin 1024) : EReal :=
  inv x * (dy l * g l - x l * inv x * Ideal.div (∑ k, dy k * g k * (x k * inv x)) (Ideal.ofBits FTy.f32 0x44800000#32))

/-- The cotangent of the gate's entry from the hidden unit's cotangent `d`. -/
def gdu (d a b : EReal) : EReal :=
  d * b * (Ideal.logistic a + a * Ideal.logistic a * (Ideal.ofBits FTy.f32 0x3F800000#32 - Ideal.logistic a))

/-- The cotangent of the up entry. -/
def gdd (d a : EReal) : EReal := d * (a * Ideal.logistic a)

/-- An extended real that is a real number. -/
def Re (x : EReal) : Prop := ∃ r : ℝ, x = (r : EReal)

theorem Re.add {x y : EReal} (hx : Re x) (hy : Re y) : Re (x + y) := by
  obtain ⟨a, rfl⟩ := hx; obtain ⟨b, rfl⟩ := hy; exact ⟨a + b, (EReal.coe_add a b).symm⟩
theorem Re.mul {x y : EReal} (hx : Re x) (hy : Re y) : Re (x * y) := by
  obtain ⟨a, rfl⟩ := hx; obtain ⟨b, rfl⟩ := hy; exact ⟨a * b, (EReal.coe_mul a b).symm⟩
theorem Re.sub {x y : EReal} (hx : Re x) (hy : Re y) : Re (x - y) := by
  obtain ⟨a, rfl⟩ := hx; obtain ⟨b, rfl⟩ := hy; exact ⟨a - b, (EReal.coe_sub a b).symm⟩

theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem Re.sum {ι : Type*} {s : Finset ι} {f : ι → EReal} (h : ∀ i, Re (f i)) : Re (∑ i ∈ s, f i) := by
  choose g hg using h
  exact ⟨∑ i ∈ s, g i, by simp only [hg, coe_sum]⟩

theorem Re.logistic {x : EReal} (hx : Re x) : Re (Ideal.logistic x) := by
  obtain ⟨a, rfl⟩ := hx; exact ⟨_, Ideal.logistic_coe a⟩

theorem bits_1024 : Ideal.ofBits FTy.f32 0x44800000#32 = ((1024 : ℝ) : EReal) := by
  simp [Ideal.ofBits, Ideal.ieee]
  rw [← EReal.coe_mul]; norm_num
theorem bits_one : Ideal.ofBits FTy.f32 0x3F800000#32 = ((1 : ℝ) : EReal) := by
  simp [Ideal.ofBits, Ideal.ieee]
  rw [← EReal.coe_mul]; norm_num
theorem bits_half : Ideal.ofBits FTy.f32 0x3F000000#32 = ((1 / 2 : ℝ) : EReal) := by
  simp [Ideal.ofBits, Ideal.ieee]
  rw [← EReal.coe_mul]; norm_num
theorem bits_mhalf : Ideal.ofBits FTy.f32 0xBF000000#32 = ((-1 / 2 : ℝ) : EReal) := by
  simp [Ideal.ofBits, Ideal.ieee]
  rw [← EReal.coe_mul]; norm_num
theorem bits_eps : ∃ e : ℝ, 0 < e ∧ Ideal.ofBits FTy.f32 0x358637BD#32 = (e : EReal) := by
  refine ⟨_, ?_, by simp [Ideal.ofBits, Ideal.ieee]; rfl⟩
  norm_num

theorem ms_real {x : Fin 1024 → EReal} (h : ∀ l, Re (x l)) : ∃ v : ℝ, 0 < v ∧ ms x = (v : EReal) := by
  choose X hX using h
  obtain ⟨e, he, hb⟩ := bits_eps
  refine ⟨(∑ k, X k * X k) * (1 / 1024) + e, by have : 0 ≤ ∑ k, X k * X k := Finset.sum_nonneg fun k _ => mul_self_nonneg _; positivity, ?_⟩
  unfold ms
  rw [hb, bits_1024, Ideal.div_coe (by norm_num)]
  simp only [hX, ← EReal.coe_mul, coe_sum, ← EReal.coe_add]

theorem inv_real {x : Fin 1024 → EReal} {v : ℝ} (hv : 0 < v) (h : ms x = (v : EReal)) : inv x = ((√v)⁻¹ : ℝ) := by
  unfold inv
  rw [h, Ideal.rsqrt_coe, if_neg (by linarith), if_neg (by linarith)]

theorem Re.inv {x : Fin 1024 → EReal} (h : ∀ l, Re (x l)) : Re (Cert.Ffn.inv x) := by
  obtain ⟨v, hv, e⟩ := ms_real h
  exact ⟨_, inv_real hv e⟩

/-- The factor that the chain rule through the mean square gives a row, as the derivative of the root times the row's sum. -/
def through (x gd : Fin 1024 → EReal) : EReal :=
  Ideal.div ((∑ k, x k * gd k) * (Ideal.ofBits FTy.f32 0xBF000000#32 * Ideal.div (inv x) (ms x))) (Ideal.ofBits FTy.f32 0x44800000#32)

/-- The chain rule's form of a norm's cotangent is the closed form. -/
theorem rmsb_ref (dy x g : Fin 1024 → EReal) (hx : ∀ l, Re (x l)) (hg : ∀ l, Re (dy l * g l)) (l : Fin 1024) :
    dy l * g l * inv x + x l * through x (fun k => dy k * g k) + through x (fun k => dy k * g k) * x l = rmsb dy x g l := by
  obtain ⟨v, hv, ev⟩ := ms_real hx
  have ei := inv_real hv ev
  unfold rmsb through
  rw [ei, ev, bits_1024, bits_mhalf, Ideal.div_coe hv.ne', Ideal.div_coe (by norm_num), Ideal.div_coe (by norm_num)]
  choose X hX using hx
  choose G hG using hg
  simp only [hX, hG, ← EReal.coe_mul, coe_sum, ← EReal.coe_add, ← EReal.coe_sub]
  congr 1
  have h2 : (√v)⁻¹ * (√v)⁻¹ = 1 / v := by
    rw [← mul_inv, Real.mul_self_sqrt hv.le, one_div]
  have h3 : ∑ k, G k * (X k * (√v)⁻¹) = (∑ k, X k * G k) * (√v)⁻¹ := by
    rw [Finset.sum_mul]; exact Finset.sum_congr rfl fun k _ => by ring
  rw [h3]
  generalize (√v)⁻¹ = r at *
  linear_combination (X l * r * (∑ k, X k * G k) * (1 / 1024)) * h2

/-- The chain rule's form of the gate's cotangent is the closed form. -/
theorem gdu_ref {d a b : EReal} (hd : Re d) (ha : Re a) (hb : Re b) :
    d * b * Ideal.logistic a + a * (d * b) * (Ideal.logistic a * (Ideal.ofBits FTy.f32 0x3F800000#32 - Ideal.logistic a)) = gdu d a b := by
  obtain ⟨D, rfl⟩ := hd; obtain ⟨A, rfl⟩ := ha; obtain ⟨B, rfl⟩ := hb
  unfold gdu
  rw [Ideal.logistic_coe, bits_one]
  simp only [← EReal.coe_mul, ← EReal.coe_add, ← EReal.coe_sub]
  congr 1
  ring

theorem Re.gdu {d a b : EReal} (hd : Re d) (ha : Re a) (hb : Re b) : Re (Cert.Ffn.gdu d a b) := by
  unfold Cert.Ffn.gdu
  exact (hd.mul hb).mul (ha.logistic.add ((ha.mul ha.logistic).mul (Re.sub ⟨1, bits_one⟩ ha.logistic)))

theorem Re.gdd {d a : EReal} (hd : Re d) (ha : Re a) : Re (Cert.Ffn.gdd d a) := hd.mul (ha.mul ha.logistic)

theorem Re.gated {a b : EReal} (ha : Re a) (hb : Re b) : Re (Cert.Ffn.gated a b) := (ha.mul ha.logistic).mul hb

theorem Re.rms {x g : Fin 1024 → EReal} (hx : ∀ l, Re (x l)) (hg : ∀ l, Re (g l)) (l : Fin 1024) : Re (Cert.Ffn.rms x g l) :=
  ((hx l).mul (Re.inv hx)).mul (hg l)

theorem Re.rmsb {dy x g : Fin 1024 → EReal} (hd : ∀ l, Re (dy l)) (hx : ∀ l, Re (x l)) (hg : ∀ l, Re (g l)) (l : Fin 1024) :
    Re (Cert.Ffn.rmsb dy x g l) := by
  unfold Cert.Ffn.rmsb
  refine (Re.inv hx).mul (Re.sub ((hd l).mul (hg l)) (((hx l).mul (Re.inv hx)).mul ?_))
  rw [bits_1024, Ideal.div_coe (by norm_num)]
  exact (Re.sum fun k => ((hd k).mul (hg k)).mul ((hx k).mul (Re.inv hx))).mul ⟨_, rfl⟩

theorem Re.half : Re (Ideal.ofBits FTy.f32 0x3F000000#32) := ⟨_, bits_half⟩

/-- The hidden units' cotangent of a row. -/
def dhid (df : Fin 1024 → EReal) (wd : Fin 4 → Fin 704 → Fin 1024 → EReal) (j : Fin 4) (k : Fin 704) : EReal := ∑ l, df l * wd j k l

/-- The cotangent of the normed row. -/
def dnrm (da db : Fin 4 → Fin 704 → EReal) (wg wu : Fin 4 → Fin 704 → Fin 1024 → EReal) (l : Fin 1024) : EReal :=
  ∑ j, (∑ k, da j k * wg j k l + ∑ k, db j k * wu j k l)

end Cert.Ffn
-- ==== Proof.FfnBwdPay.lean ====
/- The stores of the feed-forward layer's backward kernel, read at an index. -/
module

public import proofs.«01_k».proof.Proof.Gen.Kernel3Ideal.Frame
public import proofs.«01_k».proof.Proof.FfnBwdMath
public import Idealize.ShloMosaic.Lib.Pipeline.ValueKit
public import Idealize.ShloMosaic.Lib.Pointwise

@[expose] public section

set_option maxRecDepth 16384

noncomputable section

namespace Cert.FfnBwd

open Cert.Ffn Cert.Kernel3Ideal Cert.Kernel3Ideal.Gen Idealize.ShloMosaic Idealize.ShloMosaic.TcCoe Idealize.SL.Sem

/-- Half of an entry. -/
abbrev hlf (x : EReal) : EReal := Ideal.ofBits FTy.f32 0x3F000000#32 * x

variable (x0 x1 x2 : Vec Ideal S256x1024 .f32) (g : Vec Ideal S1x1x1024 .f32) (z : Vec Ideal S1x1024 .f32)
  (d f : FVec Ideal S256x1024 .f32) (e : FVec Ideal S256x1024 .bf16) (w w' : Vec Ideal S1x1x704x1024 .bf16)
  (a b : Vec Ideal S1x256x704 .bf16) (p q : FVec Ideal S256x704 .bf16) (s u v t : FVec Ideal S256x704 .f32)
  (r : Fin 256) (k : Fin 704) (l : Fin 1024)

theorem pay1_at : k0_pay1 x1 (ix2 r 0) = inv (fun l => x1 (ix2 r l)) := by
  pointwise [k0_pay1]
  rfl
theorem pay2_at : k0_pay2 x1 (ix2 r l) = x1 (ix2 r l) * inv (fun l => x1 (ix2 r l)) := by
  pointwise [k0_pay2]
  rw [pay1_at]
theorem pay3_at : k0_pay3 d x1 z (ix2 0 l) = z (ix2 0 l) + ∑ r, d (ix2 r l) * (x1 (ix2 r l) * inv (fun l => x1 (ix2 r l))) := by
  have h : k0_pay3 d x1 z (ix2 0 l) = z (ix2 0 l) + ∑ r, d (ix2 r l) * k0_pay2 x1 (ix2 r l) := by pointwise [k0_pay3]
  rw [h]
  simp only [pay2_at]
theorem pay4_at : k0_pay4 x0 d x1 g (ix2 r l) = x0 (ix2 r l) + rmsb (fun l => d (ix2 r l)) (fun l => x1 (ix2 r l)) (fun l => g (ix3 0 0 l)) l := by
  have h : k0_pay4 x0 d x1 g (ix2 r l) = x0 (ix2 r l) + k0_pay1 x1 (ix2 r 0) * (d (ix2 r l) * g (ix3 0 0 l)
      - k0_pay2 x1 (ix2 r l) * Ideal.div (∑ l, d (ix2 r l) * g (ix3 0 0 l) * k0_pay2 x1 (ix2 r l)) (Ideal.ofBits FTy.f32 0x44800000#32)) := by
    pointwise [k0_pay4]
  rw [h]
  simp only [pay2_at, pay1_at]
  rfl
theorem pay5_at : k0_pay5 (F := Ideal) (ix2 0 l) = 0 := by pointwise [k0_pay5]
theorem pay6_at : k0_pay6 (F := Ideal) (ix2 0 l) = 0 := by pointwise [k0_pay6]
theorem pay7_at : k0_pay7 x0 (ix2 r l) = hlf (x0 (ix2 r l)) := by pointwise [k0_pay7]
theorem pay9_at : k0_pay9 x2 (ix2 r 0) = inv (fun l => x2 (ix2 r l)) := by
  pointwise [k0_pay9, k0_pay8]
  rfl
theorem pay10_at : k0_pay10 x2 (ix2 r l) = x2 (ix2 r l) * inv (fun l => x2 (ix2 r l)) := by
  have h : k0_pay10 x2 (ix2 r l) = x2 (ix2 r l) * k0_pay9 x2 (ix2 r 0) := by pointwise [k0_pay10, k0_pay8]
  rw [h, pay9_at]
theorem pay11_at : k0_pay11 x0 x2 g (ix2 r l) = rmsb (fun l => hlf (x0 (ix2 r l))) (fun l => x2 (ix2 r l)) (fun l => g (ix3 0 0 l)) l := by
  have h : k0_pay11 x0 x2 g (ix2 r l) = k0_pay9 x2 (ix2 r 0) * (k0_pay7 x0 (ix2 r l) * g (ix3 0 0 l)
      - k0_pay10 x2 (ix2 r l) * Ideal.div (∑ l, k0_pay7 x0 (ix2 r l) * g (ix3 0 0 l) * k0_pay10 x2 (ix2 r l)) (Ideal.ofBits FTy.f32 0x44800000#32)) := by
    pointwise [k0_pay11]
  rw [h]
  simp only [pay7_at, pay9_at, pay10_at]
  rfl
theorem pay12_at : k0_pay12 x0 x2 z (ix2 0 l) = z (ix2 0 l) + ∑ r, hlf (x0 (ix2 r l)) * (x2 (ix2 r l) * inv (fun l => x2 (ix2 r l))) := by
  have h : k0_pay12 x0 x2 z (ix2 0 l) = z (ix2 0 l) + ∑ r, k0_pay7 x0 (ix2 r l) * k0_pay10 x2 (ix2 r l) := by pointwise [k0_pay12]
  rw [h]
  simp only [pay7_at, pay10_at]
theorem pay13_at : k0_pay13 d (ix2 r l) = d (ix2 r l) := by pointwise [k0_pay13]

theorem pay14_at : k0_pay14 d w (ix2 r k) = ∑ l, d (ix2 r l) * w (ix4 0 0 k l) := by pointwise [k0_pay14, k0_pay13]
theorem pay25_at : k0_pay25 e w (ix2 r k) = ∑ l, e (ix2 r l) * w (ix4 0 0 k l) := by pointwise [k0_pay25]
theorem pay36_at : k0_pay36 e w (ix2 r k) = ∑ l, e (ix2 r l) * w (ix4 0 0 k l) := by pointwise [k0_pay36]
theorem pay48_at : k0_pay48 e w (ix2 r k) = ∑ l, e (ix2 r l) * w (ix4 0 0 k l) := by pointwise [k0_pay48]

theorem pay19_at : k0_pay19 a b (ix3 0 r k) = gated (a (ix3 0 r k)) (b (ix3 0 r k)) := by pointwise [k0_pay19, k0_pay18, k0_pay17, k0_pay16, k0_pay15, gated]
theorem pay30_at : k0_pay30 a b (ix3 0 r k) = gated (a (ix3 0 r k)) (b (ix3 0 r k)) := by pointwise [k0_pay30, k0_pay29, k0_pay28, k0_pay27, k0_pay26, gated]
theorem pay42_at : k0_pay42 (k0_pay41 a b) (ix3 0 r k) = gated (a (ix3 0 r k)) (b (ix3 0 r k)) := by
  pointwise [k0_pay42, k0_pay41, k0_pay40, k0_pay39, k0_pay38, k0_pay37, gated]
theorem pay53_at : k0_pay53 (k0_pay49 a) b (ix3 0 r k) = gated (a (ix3 0 r k)) (b (ix3 0 r k)) := by
  pointwise [k0_pay53, k0_pay52, k0_pay51, k0_pay50, k0_pay49, gated]

theorem pay20_at : k0_pay20 d w a b (ix2 r k) = gdu (k0_pay14 d w (ix2 r k)) (a (ix3 0 r k)) (b (ix3 0 r k)) := by
  pointwise [k0_pay20, k0_pay18, k0_pay17, k0_pay16, k0_pay15, gdu]
theorem pay31_at : k0_pay31 e w a b (ix2 r k) = gdu (k0_pay25 e w (ix2 r k)) (a (ix3 0 r k)) (b (ix3 0 r k)) := by
  pointwise [k0_pay31, k0_pay29, k0_pay28, k0_pay27, k0_pay26, gdu]
theorem pay43_at : k0_pay43 s (k0_pay38 b) (k0_pay39 a) (k0_pay40 a) (ix2 r k) = gdu (s (ix2 r k)) (a (ix3 0 r k)) (b (ix3 0 r k)) := by
  pointwise [k0_pay43, k0_pay40, k0_pay39, k0_pay38, k0_pay37, gdu]
theorem pay54_at : k0_pay54 s (k0_pay49 a) b (ix2 r k) = gdu (s (ix2 r k)) (a (ix3 0 r k)) (b (ix3 0 r k)) := by
  pointwise [k0_pay54, k0_pay52, k0_pay51, k0_pay50, k0_pay49, gdu]

theorem pay21_at : k0_pay21 d w a (ix2 r k) = gdd (k0_pay14 d w (ix2 r k)) (a (ix3 0 r k)) := by
  pointwise [k0_pay21, k0_pay18, k0_pay17, k0_pay15, gdd]
theorem pay32_at : k0_pay32 e w a (ix2 r k) = gdd (k0_pay25 e w (ix2 r k)) (a (ix3 0 r k)) := by
  pointwise [k0_pay32, k0_pay29, k0_pay28, k0_pay26, gdd]
theorem pay44_at : k0_pay44 s (k0_pay40 a) (ix2 r k) = gdd (s (ix2 r k)) (a (ix3 0 r k)) := by
  pointwise [k0_pay44, k0_pay40, k0_pay39, k0_pay37, gdd]
theorem pay55_at : k0_pay55 s (k0_pay49 a) (ix2 r k) = gdd (s (ix2 r k)) (a (ix3 0 r k)) := by
  pointwise [k0_pay55, k0_pay52, k0_pay51, k0_pay49, gdd]

theorem pay22_at : k0_pay22 d w a b (ix3 0 r k) = k0_pay20 d w a b (ix2 r k) := by pointwise [k0_pay22]
theorem pay23_at : k0_pay23 p (ix3 0 r k) = p (ix2 r k) := by pointwise [k0_pay23]
theorem pay33_at : k0_pay33 p (ix3 0 r k) = p (ix2 r k) := by pointwise [k0_pay33]
theorem pay34_at : k0_pay34 p (ix3 0 r k) = p (ix2 r k) := by pointwise [k0_pay34]
theorem pay45_at : k0_pay45 s u v t (ix3 0 r k) = k0_pay43 s u v t (ix2 r k) := by pointwise [k0_pay45]
theorem pay46_at : k0_pay46 s t (ix3 0 r k) = k0_pay44 s t (ix2 r k) := by pointwise [k0_pay46]
theorem pay56_at : k0_pay56 s t b (ix3 0 r k) = k0_pay54 s t b (ix2 r k) := by pointwise [k0_pay56]
theorem pay57_at : k0_pay57 s t (ix3 0 r k) = k0_pay55 s t (ix2 r k) := by pointwise [k0_pay57]

theorem pay24_at : k0_pay24 p q w w' (ix2 r l) = ∑ k, p (ix2 r k) * w (ix4 0 0 k l) + ∑ k, q (ix2 r k) * w' (ix4 0 0 k l) := by pointwise [k0_pay24]
theorem pay35_at : k0_pay35 f p q w w' (ix2 r l) = f (ix2 r l) + (∑ k, p (ix2 r k) * w (ix4 0 0 k l) + ∑ k, q (ix2 r k) * w' (ix4 0 0 k l)) := by pointwise [k0_pay35]
theorem pay47_at : k0_pay47 f s u v t w w' (ix2 r l)
    = f (ix2 r l) + (∑ k, k0_pay43 s u v t (ix2 r k) * w (ix4 0 0 k l) + ∑ k, k0_pay44 s t (ix2 r k) * w' (ix4 0 0 k l)) := by pointwise [k0_pay47]
theorem pay58_at : k0_pay58 f s u a w w' (ix2 r l)
    = f (ix2 r l) + (∑ k, k0_pay54 s u a (ix2 r k) * w (ix4 0 0 k l) + ∑ k, k0_pay55 s u (ix2 r k) * w' (ix4 0 0 k l)) := by pointwise [k0_pay58]

end Cert.FfnBwd
-- ==== Proof.FfnBwdBlock.lean ====
/- The feed-forward layer's backward kernel at one grid point: what each output's buffer holds after it. -/
module

public import proofs.«01_k».proof.Proof.FfnBwdPay

@[expose] public section

set_option maxRecDepth 16384

noncomputable section

namespace Cert.FfnBwd

open Cert.Ffn Cert.Kernel3Ideal Cert.Kernel3Ideal.Gen Idealize.ShloMosaic Idealize.ShloMosaic.TcCoe Idealize.SL.Sem

/-- The cotangent of the layer's own output row, before its post-norm. -/
def rdf (d f g : Fin 1024 → EReal) : Fin 1024 → EReal := rmsb (fun l => hlf (d l)) f g
/-- The cotangent of the gate's numbers in a row. -/
def rda (df : Fin 1024 → EReal) (wd : Fin 4 → Fin 704 → Fin 1024 → EReal) (a b : Fin 4 → Fin 704 → EReal) (j : Fin 4) (k : Fin 704) : EReal :=
  gdu (dhid df wd j k) (a j k) (b j k)
/-- The cotangent of the other factor's numbers in a row. -/
def rdb (df : Fin 1024 → EReal) (wd : Fin 4 → Fin 704 → Fin 1024 → EReal) (a : Fin 4 → Fin 704 → EReal) (j : Fin 4) (k : Fin 704) : EReal :=
  gdd (dhid df wd j k) (a j k)
/-- The cotangent of the normed row. -/
def rdn (df : Fin 1024 → EReal) (wd wg wu : Fin 4 → Fin 704 → Fin 1024 → EReal) (a b : Fin 4 → Fin 704 → EReal) : Fin 1024 → EReal :=
  dnrm (rda df wd a b) (rdb df wd a) wg wu

/-- Row `r` of a block. -/
abbrev row (x : Vec Ideal S256x1024 .f32) (r : Fin 256) (l : Fin 1024) : EReal := x (ix2 r l)
/-- The gain. -/
abbrev gn (x : Vec Ideal S1x1x1024 .f32) (l : Fin 1024) : EReal := x (ix3 0 0 l)
/-- Row `r` of a block of hidden units. -/
abbrev hid (x : Vec Ideal S4x256x704 .bf16) (r : Fin 256) (j : Fin 4) (k : Fin 704) : EReal := x (ix3 j r k)
/-- The weights. -/
abbrev wt (x : Vec Ideal S4x1x704x1024 .bf16) (j : Fin 4) (k : Fin 704) (l : Fin 1024) : EReal := x (ix4 j 0 k l)

/-- Shard `k` of a block of hidden units. -/
abbrev Ra (k : ℕ) (inb : ∀ a : Fin 3, (![k, 0, 0] : Fin 3 → ℕ) a + (![1, 256, 704] : Fin 3 → ℕ) a ≤ S4x256x704.size a) : Rect S4x256x704 :=
  Rect.unit (s := S4x256x704) ![k, 0, 0] ![1, 256, 704] inb
/-- Shard `k` of the weights. -/
abbrev Rw (k : ℕ) (inb : ∀ a : Fin 4, (![k, 0, 0, 0] : Fin 4 → ℕ) a + (![1, 1, 704, 1024] : Fin 4 → ℕ) a ≤ S4x1x704x1024.size a) : Rect S4x1x704x1024 :=
  Rect.unit (s := S4x1x704x1024) ![k, 0, 0, 0] ![1, 1, 704, 1024] inb

theorem embA (j : Fin 4) (r : Fin 256) (q : Fin 704) (k : ℕ) (inb) (h : j.val = k) : (Ra k inb).emb (ix3 (n0 := 1) 0 r q) = ix3 (n0 := 4) (n1 := 256) (n2 := 704) j r q := by
  subst h
  funext a; fin_cases a <;> apply Fin.ext <;> simp [Rect.emb_apply]
theorem embW (j : Fin 4) (r : Fin 704) (q : Fin 1024) (k : ℕ) (inb) (h : j.val = k) :
    (Rw k inb).emb (ix4 (n0 := 1) (n1 := 1) 0 0 r q) = ix4 (n0 := 4) (n1 := 1) (n2 := 704) (n3 := 1024) j 0 r q := by
  subst h
  funext a; fin_cases a <;> apply Fin.ext <;> simp [Rect.emb_apply]

theorem hit (j : Fin 4) (r : Fin 256) (q : Fin 704) (k : ℕ) (inb) (h : j.val = k) (w : Vec Ideal S1x256x704 .bf16) (L : List (View.Piece (Elt Ideal) S4x256x704 .bf16)) :
    View.canon ((⟨Ra k inb, w⟩ : View.Piece (Elt Ideal) S4x256x704 .bf16) :: L) (ix3 j r q) = w (ix3 0 r q) := by
  rw [← embA j r q k inb h]
  exact View.canon_cons_emb (Val := Elt Ideal) (Ra k inb) w L _
theorem miss (j : Fin 4) (r : Fin 256) (q : Fin 704) (k : ℕ) (inb) (h : j.val ≠ k) (w : Vec Ideal S1x256x704 .bf16) (L : List (View.Piece (Elt Ideal) S4x256x704 .bf16)) :
    View.canon ((⟨Ra k inb, w⟩ : View.Piece (Elt Ideal) S4x256x704 .bf16) :: L) (ix3 j r q) = View.canon L (ix3 j r q) := by
  refine View.canon_cons_of_not_mem (Val := Elt Ideal) _ L ?_
  refine (Ra k inb).not_mem_set_of_axis _ 0 k 1 rfl rfl rfl ?_
  show j.val < k ∨ k + 1 ≤ j.val
  omega

/-- Four stores, one for each shard. -/
def four (u : Fin 4 → Vec Ideal S1x256x704 .bf16) : List (View.Piece (Elt Ideal) S4x256x704 .bf16) :=
  [⟨Ra 3 inb_S4x256x704_S1x256x704_3_0_0, u 3⟩, ⟨Ra 2 inb_S4x256x704_S1x256x704_2_0_0, u 2⟩,
   ⟨Ra 1 inb_S4x256x704_S1x256x704_1_0_0, u 1⟩, ⟨Ra 0 inb_S4x256x704_S1x256x704_0_0_0, u 0⟩]

theorem four_at (u : Fin 4 → Vec Ideal S1x256x704 .bf16) (j : Fin 4) (r : Fin 256) (q : Fin 704) : View.canon (four u) (ix3 j r q) = u j (ix3 0 r q) := by
  unfold four
  match j with
  | 0 => rw [miss 0 r q 3 _ (by decide), miss 0 r q 2 _ (by decide), miss 0 r q 1 _ (by decide), hit 0 r q 0 _ rfl]
  | 1 => rw [miss 1 r q 3 _ (by decide), miss 1 r q 2 _ (by decide), hit 1 r q 1 _ rfl]
  | 2 => rw [miss 2 r q 3 _ (by decide), hit 2 r q 2 _ rfl]
  | 3 => rw [hit 3 r q 3 _ rfl]

/-- What a load of shard `k` of a block reads. -/
abbrev la (x : Vec Ideal S4x256x704 .bf16) (k : ℕ) (inb : ∀ a : Fin 3, (![k, 0, 0] : Fin 3 → ℕ) a + (![1, 256, 704] : Fin 3 → ℕ) a ≤ S4x256x704.size a) : Vec Ideal S1x256x704 .bf16 :=
  View.ld x (Ra k inb)
/-- What a load of shard `k` of the weights reads. -/
abbrev lw (x : Vec Ideal S4x1x704x1024 .bf16) (k : ℕ) (inb : ∀ a : Fin 4, (![k, 0, 0, 0] : Fin 4 → ℕ) a + (![1, 1, 704, 1024] : Fin 4 → ℕ) a ≤ S4x1x704x1024.size a) : Vec Ideal S1x1x704x1024 .bf16 :=
  View.ld x (Rw k inb)

theorem la_at (x : Vec Ideal S4x256x704 .bf16) (j : Fin 4) (k : ℕ) (inb) (h : j.val = k) (r : Fin 256) (q : Fin 704) : la x k inb (ix3 0 r q) = x (ix3 j r q) :=
  congrArg x (embA j r q k inb h)
theorem lw_at (x : Vec Ideal S4x1x704x1024 .bf16) (j : Fin 4) (k : ℕ) (inb) (h : j.val = k) (r : Fin 704) (q : Fin 1024) : lw x k inb (ix4 0 0 r q) = x (ix4 j 0 r q) :=
  congrArg x (embW j r q k inb h)

variable (x0 x1 x2 : Vec Ideal S256x1024 .f32) (x3 x4 : Vec Ideal S4x256x704 .bf16) (x5 x6 : Vec Ideal S1x1x1024 .f32)
  (x7 x8 x9 : Vec Ideal S4x1x704x1024 .bf16) (xo15 xo16 : Vec Ideal S1x1024 .f32)

/-- The cotangent of the layer's own output over the block. -/
abbrev DF : FVec Ideal S256x1024 .f32 := k0_pay11 x0 x2 x6
/-- The same as it is stored. -/
abbrev DB : FVec Ideal S256x1024 .bf16 := k0_pay13 (DF x0 x2 x6)

/-- The stores of the gate's cotangents. -/
def ua : Fin 4 → Vec Ideal S1x256x704 .bf16 :=
  ![k0_pay22 (DF x0 x2 x6) (lw x9 0 inb_S4x1x704x1024_S1x1x704x1024_0_0_0_0) (la x3 0 inb_S4x256x704_S1x256x704_0_0_0) (la x4 0 inb_S4x256x704_S1x256x704_0_0_0), k0_pay33 (k0_pay31 (DB x0 x2 x6) (lw x9 1 inb_S4x1x704x1024_S1x1x704x1024_1_0_0_0) (la x3 1 inb_S4x256x704_S1x256x704_1_0_0) (la x4 1 inb_S4x256x704_S1x256x704_1_0_0)),
    k0_pay45 (k0_pay36 (DB x0 x2 x6) (lw x9 2 inb_S4x1x704x1024_S1x1x704x1024_2_0_0_0)) (k0_pay38 (la x4 2 inb_S4x256x704_S1x256x704_2_0_0)) (k0_pay39 (la x3 2 inb_S4x256x704_S1x256x704_2_0_0)) (k0_pay40 (la x3 2 inb_S4x256x704_S1x256x704_2_0_0)),
    k0_pay56 (k0_pay48 (DB x0 x2 x6) (lw x9 3 inb_S4x1x704x1024_S1x1x704x1024_3_0_0_0)) (k0_pay49 (la x3 3 inb_S4x256x704_S1x256x704_3_0_0)) (la x4 3 inb_S4x256x704_S1x256x704_3_0_0)]
/-- The stores of the other factor's cotangents. -/
def ub : Fin 4 → Vec Ideal S1x256x704 .bf16 :=
  ![k0_pay23 (k0_pay21 (DF x0 x2 x6) (lw x9 0 inb_S4x1x704x1024_S1x1x704x1024_0_0_0_0) (la x3 0 inb_S4x256x704_S1x256x704_0_0_0)), k0_pay34 (k0_pay32 (DB x0 x2 x6) (lw x9 1 inb_S4x1x704x1024_S1x1x704x1024_1_0_0_0) (la x3 1 inb_S4x256x704_S1x256x704_1_0_0)),
    k0_pay46 (k0_pay36 (DB x0 x2 x6) (lw x9 2 inb_S4x1x704x1024_S1x1x704x1024_2_0_0_0)) (k0_pay40 (la x3 2 inb_S4x256x704_S1x256x704_2_0_0)),
    k0_pay57 (k0_pay48 (DB x0 x2 x6) (lw x9 3 inb_S4x1x704x1024_S1x1x704x1024_3_0_0_0)) (k0_pay49 (la x3 3 inb_S4x256x704_S1x256x704_3_0_0))]
/-- The stores of the hidden units. -/
def uh : Fin 4 → Vec Ideal S1x256x704 .bf16 :=
  ![k0_pay19 (la x3 0 inb_S4x256x704_S1x256x704_0_0_0) (la x4 0 inb_S4x256x704_S1x256x704_0_0_0), k0_pay30 (la x3 1 inb_S4x256x704_S1x256x704_1_0_0) (la x4 1 inb_S4x256x704_S1x256x704_1_0_0), k0_pay42 (k0_pay41 (la x3 2 inb_S4x256x704_S1x256x704_2_0_0) (la x4 2 inb_S4x256x704_S1x256x704_2_0_0)), k0_pay53 (k0_pay49 (la x3 3 inb_S4x256x704_S1x256x704_3_0_0)) (la x4 3 inb_S4x256x704_S1x256x704_3_0_0)]
/-- The cotangent of the normed rows over the block. -/
def DN : FVec Ideal S256x1024 .f32 :=
  k0_pay58 (k0_pay47 (k0_pay35 (k0_pay24 (k0_pay20 (DF x0 x2 x6) (lw x9 0 inb_S4x1x704x1024_S1x1x704x1024_0_0_0_0) (la x3 0 inb_S4x256x704_S1x256x704_0_0_0) (la x4 0 inb_S4x256x704_S1x256x704_0_0_0)) (k0_pay21 (DF x0 x2 x6) (lw x9 0 inb_S4x1x704x1024_S1x1x704x1024_0_0_0_0) (la x3 0 inb_S4x256x704_S1x256x704_0_0_0)) (lw x7 0 inb_S4x1x704x1024_S1x1x704x1024_0_0_0_0) (lw x8 0 inb_S4x1x704x1024_S1x1x704x1024_0_0_0_0))
      (k0_pay31 (DB x0 x2 x6) (lw x9 1 inb_S4x1x704x1024_S1x1x704x1024_1_0_0_0) (la x3 1 inb_S4x256x704_S1x256x704_1_0_0) (la x4 1 inb_S4x256x704_S1x256x704_1_0_0)) (k0_pay32 (DB x0 x2 x6) (lw x9 1 inb_S4x1x704x1024_S1x1x704x1024_1_0_0_0) (la x3 1 inb_S4x256x704_S1x256x704_1_0_0)) (lw x7 1 inb_S4x1x704x1024_S1x1x704x1024_1_0_0_0) (lw x8 1 inb_S4x1x704x1024_S1x1x704x1024_1_0_0_0))
      (k0_pay36 (DB x0 x2 x6) (lw x9 2 inb_S4x1x704x1024_S1x1x704x1024_2_0_0_0)) (k0_pay38 (la x4 2 inb_S4x256x704_S1x256x704_2_0_0)) (k0_pay39 (la x3 2 inb_S4x256x704_S1x256x704_2_0_0)) (k0_pay40 (la x3 2 inb_S4x256x704_S1x256x704_2_0_0)) (lw x7 2 inb_S4x1x704x1024_S1x1x704x1024_2_0_0_0) (lw x8 2 inb_S4x1x704x1024_S1x1x704x1024_2_0_0_0))
    (k0_pay48 (DB x0 x2 x6) (lw x9 3 inb_S4x1x704x1024_S1x1x704x1024_3_0_0_0)) (k0_pay49 (la x3 3 inb_S4x256x704_S1x256x704_3_0_0)) (la x4 3 inb_S4x256x704_S1x256x704_3_0_0) (lw x7 3 inb_S4x1x704x1024_S1x1x704x1024_3_0_0_0) (lw x8 3 inb_S4x1x704x1024_S1x1x704x1024_3_0_0_0)

theorem DF_at (r : Fin 256) (l : Fin 1024) : DF x0 x2 x6 (ix2 r l) = rdf (row x0 r) (row x2 r) (gn x6) l := pay11_at x0 x2 x6 r l
theorem DB_at (r : Fin 256) (l : Fin 1024) : DB x0 x2 x6 (ix2 r l) = rdf (row x0 r) (row x2 r) (gn x6) l := (pay13_at _ r l).trans (DF_at x0 x2 x6 r l)

section
variable (r : Fin 256) (k : Fin 704) (l : Fin 1024)

theorem hd0 : k0_pay14 (DF x0 x2 x6) (lw x9 0 inb_S4x1x704x1024_S1x1x704x1024_0_0_0_0) (ix2 r k) = dhid (rdf (row x0 r) (row x2 r) (gn x6)) (wt x9) 0 k := by
  rw [pay14_at]
  exact Finset.sum_congr rfl fun l _ => by rw [DF_at, lw_at x9 0 0 _ rfl]
theorem hd1 : k0_pay25 (DB x0 x2 x6) (lw x9 1 inb_S4x1x704x1024_S1x1x704x1024_1_0_0_0) (ix2 r k) = dhid (rdf (row x0 r) (row x2 r) (gn x6)) (wt x9) 1 k := by
  rw [pay25_at]
  exact Finset.sum_congr rfl fun l _ => by rw [DB_at, lw_at x9 1 1 _ rfl]
theorem hd2 : k0_pay36 (DB x0 x2 x6) (lw x9 2 inb_S4x1x704x1024_S1x1x704x1024_2_0_0_0) (ix2 r k) = dhid (rdf (row x0 r) (row x2 r) (gn x6)) (wt x9) 2 k := by
  rw [pay36_at]
  exact Finset.sum_congr rfl fun l _ => by rw [DB_at, lw_at x9 2 2 _ rfl]
theorem hd3 : k0_pay48 (DB x0 x2 x6) (lw x9 3 inb_S4x1x704x1024_S1x1x704x1024_3_0_0_0) (ix2 r k) = dhid (rdf (row x0 r) (row x2 r) (gn x6)) (wt x9) 3 k := by
  rw [pay48_at]
  exact Finset.sum_congr rfl fun l _ => by rw [DB_at, lw_at x9 3 3 _ rfl]

theorem a0 : k0_pay20 (DF x0 x2 x6) (lw x9 0 inb_S4x1x704x1024_S1x1x704x1024_0_0_0_0) (la x3 0 inb_S4x256x704_S1x256x704_0_0_0) (la x4 0 inb_S4x256x704_S1x256x704_0_0_0) (ix2 r k) = rda (rdf (row x0 r) (row x2 r) (gn x6)) (wt x9) (hid x3 r) (hid x4 r) 0 k := by
  rw [pay20_at, hd0, la_at x3 0 0 _ rfl, la_at x4 0 0 _ rfl]; rfl
theorem a1 : k0_pay31 (DB x0 x2 x6) (lw x9 1 inb_S4x1x704x1024_S1x1x704x1024_1_0_0_0) (la x3 1 inb_S4x256x704_S1x256x704_1_0_0) (la x4 1 inb_S4x256x704_S1x256x704_1_0_0) (ix2 r k) = rda (rdf (row x0 r) (row x2 r) (gn x6)) (wt x9) (hid x3 r) (hid x4 r) 1 k := by
  rw [pay31_at, hd1, la_at x3 1 1 _ rfl, la_at x4 1 1 _ rfl]; rfl
theorem a2 : k0_pay43 (k0_pay36 (DB x0 x2 x6) (lw x9 2 inb_S4x1x704x1024_S1x1x704x1024_2_0_0_0)) (k0_pay38 (la x4 2 inb_S4x256x704_S1x256x704_2_0_0)) (k0_pay39 (la x3 2 inb_S4x256x704_S1x256x704_2_0_0)) (k0_pay40 (la x3 2 inb_S4x256x704_S1x256x704_2_0_0)) (ix2 r k)
    = rda (rdf (row x0 r) (row x2 r) (gn x6)) (wt x9) (hid x3 r) (hid x4 r) 2 k := by
  rw [pay43_at, hd2, la_at x3 2 2 _ rfl, la_at x4 2 2 _ rfl]; rfl
theorem a3 : k0_pay54 (k0_pay48 (DB x0 x2 x6) (lw x9 3 inb_S4x1x704x1024_S1x1x704x1024_3_0_0_0)) (k0_pay49 (la x3 3 inb_S4x256x704_S1x256x704_3_0_0)) (la x4 3 inb_S4x256x704_S1x256x704_3_0_0) (ix2 r k) = rda (rdf (row x0 r) (row x2 r) (gn x6)) (wt x9) (hid x3 r) (hid x4 r) 3 k := by
  rw [pay54_at, hd3, la_at x3 3 3 _ rfl, la_at x4 3 3 _ rfl]; rfl
theorem b0 : k0_pay21 (DF x0 x2 x6) (lw x9 0 inb_S4x1x704x1024_S1x1x704x1024_0_0_0_0) (la x3 0 inb_S4x256x704_S1x256x704_0_0_0) (ix2 r k) = rdb (rdf (row x0 r) (row x2 r) (gn x6)) (wt x9) (hid x3 r) 0 k := by
  rw [pay21_at, hd0, la_at x3 0 0 _ rfl]; rfl
theorem b1 : k0_pay32 (DB x0 x2 x6) (lw x9 1 inb_S4x1x704x1024_S1x1x704x1024_1_0_0_0) (la x3 1 inb_S4x256x704_S1x256x704_1_0_0) (ix2 r k) = rdb (rdf (row x0 r) (row x2 r) (gn x6)) (wt x9) (hid x3 r) 1 k := by
  rw [pay32_at, hd1, la_at x3 1 1 _ rfl]; rfl
theorem b2 : k0_pay44 (k0_pay36 (DB x0 x2 x6) (lw x9 2 inb_S4x1x704x1024_S1x1x704x1024_2_0_0_0)) (k0_pay40 (la x3 2 inb_S4x256x704_S1x256x704_2_0_0)) (ix2 r k) = rdb (rdf (row x0 r) (row x2 r) (gn x6)) (wt x9) (hid x3 r) 2 k := by
  rw [pay44_at, hd2, la_at x3 2 2 _ rfl]; rfl
theorem b3 : k0_pay55 (k0_pay48 (DB x0 x2 x6) (lw x9 3 inb_S4x1x704x1024_S1x1x704x1024_3_0_0_0)) (k0_pay49 (la x3 3 inb_S4x256x704_S1x256x704_3_0_0)) (ix2 r k) = rdb (rdf (row x0 r) (row x2 r) (gn x6)) (wt x9) (hid x3 r) 3 k := by
  rw [pay55_at, hd3, la_at x3 3 3 _ rfl]; rfl

theorem ua_at (j : Fin 4) : ua x0 x2 x3 x4 x6 x9 j (ix3 0 r k) = rda (rdf (row x0 r) (row x2 r) (gn x6)) (wt x9) (hid x3 r) (hid x4 r) j k := by
  match j with
  | 0 => exact (pay22_at _ _ _ _ r k).trans (a0 x0 x2 x3 x4 x6 x9 r k)
  | 1 => exact (pay33_at _ r k).trans (a1 x0 x2 x3 x4 x6 x9 r k)
  | 2 => exact (pay45_at _ _ _ _ r k).trans (a2 x0 x2 x3 x4 x6 x9 r k)
  | 3 => exact (pay56_at _ _ _ r k).trans (a3 x0 x2 x3 x4 x6 x9 r k)
theorem ub_at (j : Fin 4) : ub x0 x2 x3 x6 x9 j (ix3 0 r k) = rdb (rdf (row x0 r) (row x2 r) (gn x6)) (wt x9) (hid x3 r) j k := by
  match j with
  | 0 => exact (pay23_at _ r k).trans (b0 x0 x2 x3 x6 x9 r k)
  | 1 => exact (pay34_at _ r k).trans (b1 x0 x2 x3 x6 x9 r k)
  | 2 => exact (pay46_at _ _ r k).trans (b2 x0 x2 x3 x6 x9 r k)
  | 3 => exact (pay57_at _ _ r k).trans (b3 x0 x2 x3 x6 x9 r k)
theorem uh_at (j : Fin 4) : uh x3 x4 j (ix3 0 r k) = gated (hid x3 r j k) (hid x4 r j k) := by
  match j with
  | 0 => exact (pay19_at _ _ r k).trans (by rw [la_at x3 0 0 _ rfl, la_at x4 0 0 _ rfl])
  | 1 => exact (pay30_at _ _ r k).trans (by rw [la_at x3 1 1 _ rfl, la_at x4 1 1 _ rfl])
  | 2 => exact (pay42_at _ _ r k).trans (by rw [la_at x3 2 2 _ rfl, la_at x4 2 2 _ rfl])
  | 3 => exact (pay53_at _ _ r k).trans (by rw [la_at x3 3 3 _ rfl, la_at x4 3 3 _ rfl])

theorem DN_at : DN x0 x2 x3 x4 x6 x7 x8 x9 (ix2 r l) = rdn (rdf (row x0 r) (row x2 r) (gn x6)) (wt x9) (wt x7) (wt x8) (hid x3 r) (hid x4 r) l := by
  unfold DN rdn dnrm
  rw [pay58_at, pay47_at, pay35_at, pay24_at, Fin.sum_univ_four]
  simp only [a0, a1, a2, a3, b0, b1, b2, b3, lw_at x7 0 0 _ rfl, lw_at x7 1 1 _ rfl, lw_at x7 2 2 _ rfl, lw_at x7 3 3 _ rfl,
    lw_at x8 0 0 _ rfl, lw_at x8 1 1 _ rfl, lw_at x8 2 2 _ rfl, lw_at x8 3 3 _ rfl]
end

theorem whole : View.ld x0 (Rect.unit (s := S256x1024) ![0, 0] ![256, 1024] inb_S256x1024_S256x1024_0_0) = x0 :=
  View.ld_unit_zero (by funext a; fin_cases a <;> rfl) _ _
theorem wholeG : View.ld x5 (Rect.unit (s := S1x1x1024) ![0, 0, 0] ![1, 1, 1024] inb_S1x1x1024_S1x1x1024_0_0_0) = x5 :=
  View.ld_unit_zero (by funext a; fin_cases a <;> rfl) _ _
theorem wholeS : View.ld xo15 (Rect.unit (s := S1x1024) ![0, 0] ![1, 1024] inb_S1x1024_S1x1024_0_0) = xo15 :=
  View.ld_unit_zero (by funext a; fin_cases a <;> rfl) _ _

theorem oneS (w : Vec Ideal S1x1024 .f32) (L : List (View.Piece (Elt Ideal) S1x1024 .f32)) (l : Fin 1024) :
    View.canon ((⟨Rect.unit (s := S1x1024) ![0, 0] ![1, 1024] inb_S1x1024_S1x1024_0_0, w⟩ : View.Piece (Elt Ideal) S1x1024 .f32) :: L) (ix2 0 l) = w (ix2 0 l) := by
  have e : (Rect.unit (s := S1x1024) ![0, 0] ![1, 1024] inb_S1x1024_S1x1024_0_0).emb (ix2 (n0 := 1) 0 l) = ix2 (n0 := 1) (n1 := 1024) 0 l := by
    funext a; fin_cases a <;> apply Fin.ext <;> simp [Rect.emb_apply]
  conv_lhs => rw [← e]
  exact View.canon_cons_emb (Val := Elt Ideal) (Rect.unit (s := S1x1024) ![0, 0] ![1, 1024] inb_S1x1024_S1x1024_0_0) w L _

/-- The store that empties the first sum. -/
abbrev zero15 : List (View.Piece (Elt Ideal) S1x1024 .f32) := [⟨Rect.unit (s := S1x1024) ![0, 0] ![1, 1024] inb_S1x1024_S1x1024_0_0, k0_pay5 (F := Ideal)⟩]
/-- The store that empties the second. -/
abbrev zero16 : List (View.Piece (Elt Ideal) S1x1024 .f32) := [⟨Rect.unit (s := S1x1024) ![0, 0] ![1, 1024] inb_S1x1024_S1x1024_0_0, k0_pay6 (F := Ideal)⟩]

theorem covS (arg : Memref sig .tc .vmem S1x1024 .f32) (L : List (View.Piece (Elt Ideal) S1x1024 .f32)) :
    View.readCov (Val := Elt Ideal) arg.view L (Rect.unit (s := S1x1024) ![0, 0] ![1, 1024] inb_S1x1024_S1x1024_0_0).toLoadRect = View.canon L :=
  (View.readCov_eq_canon' arg.view L _).trans (View.ld_unit_zero (S := S1x1024) (by funext a; fin_cases a <;> rfl) inb_S1x1024_S1x1024_0_0 (View.canon L))
theorem cov15 (arg : Memref sig .tc .vmem S1x1024 .f32) (l : Fin 1024) :
    View.readCov (Val := Elt Ideal) arg.view zero15 (Rect.unit (s := S1x1024) ![0, 0] ![1, 1024] inb_S1x1024_S1x1024_0_0).toLoadRect (ix2 0 l) = 0 :=
  (congrFun (covS arg zero15) _).trans ((oneS _ _ l).trans (pay5_at l))
theorem cov16 (arg : Memref sig .tc .vmem S1x1024 .f32) (l : Fin 1024) :
    View.readCov (Val := Elt Ideal) arg.view zero16 (Rect.unit (s := S1x1024) ![0, 0] ![1, 1024] inb_S1x1024_S1x1024_0_0).toLoadRect (ix2 0 l) = 0 :=
  (congrFun (covS arg zero16) _).trans ((oneS _ _ l).trans (pay6_at l))

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S4x256x704 .bf16) (harg4 : arg4.IsWhole) (arg5 : Memref sig .tc .vmem S4x256x704 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S4x1x704x1024 .bf16) (harg8 : arg8.IsWhole) (arg9 : Memref sig .tc .vmem S4x1x704x1024 .bf16) (harg9 : arg9.IsWhole) (arg10 : Memref sig .tc .vmem S4x1x704x1024 .bf16) (harg10 : arg10.IsWhole) (arg11 : Memref sig .tc .vmem S256x1024 .f32) (harg11 : arg11.IsWhole) (arg12 : Memref sig .tc .vmem S256x1024 .bf16) (harg12 : arg12.IsWhole) (arg13 : Memref sig .tc .vmem S4x256x704 .bf16) (harg13 : arg13.IsWhole) (arg14 : Memref sig .tc .vmem S4x256x704 .bf16) (harg14 : arg14.IsWhole) (arg15 : Memref sig .tc .vmem S4x256x704 .bf16) (harg15 : arg15.IsWhole) (arg16 : Memref sig .tc .vmem S1x1024 .f32) (harg16 : arg16.IsWhole) (arg17 : Memref sig .tc .vmem S1x1024 .f32) (harg17 : arg17.IsWhole)

-- case A
theorem list10A (hc0 : cond0_0 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9).1
    = ([⟨Rect.unit (s := S256x1024) ![0, 0] ![256, 1024] inb_S256x1024_S256x1024_0_0, k0_pay4 x0 (DN x0 x2 x3 x4 x6 x7 x8 x9) x1 x5⟩] : List (View.Piece (Elt Ideal) S256x1024 .f32)) := by
  have e0 := harg1.read_unread x0
  have e1 := harg2.read_unread x1
  have e2 := harg3.read_unread x2
  have e3 := harg4.read_unread x3
  have e4 := harg5.read_unread x4
  have e5 := harg6.read_unread x5
  have e6 := harg7.read_unread x6
  have e7 := harg8.read_unread x7
  have e8 := harg9.read_unread x8
  have e9 := harg10.read_unread x9
  dsimp only [kernelRun0_A, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.v224, kernelRun0_A.sl.v35, kernelRun0_A.sl.H15_1, kernelRun0_A.sl.H16_1]
  simp only [View.readAt_eq_ld, e0, e1, e2, e3, e4, e5, e6, e7, e8, e9]
  exact (show _ = ([⟨Rect.unit (s := S256x1024) ![0, 0] ![256, 1024] inb_S256x1024_S256x1024_0_0, k0_pay4 (View.ld x0 (Rect.unit (s := S256x1024) ![0, 0] ![256, 1024] inb_S256x1024_S256x1024_0_0)) (DN (View.ld x0 (Rect.unit (s := S256x1024) ![0, 0] ![256, 1024] inb_S256x1024_S256x1024_0_0)) (View.ld x2 (Rect.unit (s := S256x1024) ![0, 0] ![256, 1024] inb_S256x1024_S256x1024_0_0)) x3 x4 (View.ld x6 (Rect.unit (s := S1x1x1024) ![0, 0, 0] ![1, 1, 1024] inb_S1x1x1024_S1x1x1024_0_0_0)) x7 x8 x9) (View.ld x1 (Rect.unit (s := S256x1024) ![0, 0] ![256, 1024] inb_S256x1024_S256x1024_0_0)) (View.ld x5 (Rect.unit (s := S1x1x1024) ![0, 0, 0] ![1, 1, 1024] inb_S1x1x1024_S1x1x1024_0_0_0))⟩] : List (View.Piece (Elt Ideal) S256x1024 .f32)) from rfl).trans (by rw [whole x0, whole x2, whole x1, wholeG x5, wholeG x6])

theorem list11A (hc0 : cond0_0 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9).2.1
    = ([⟨Rect.unit (s := S256x1024) ![0, 0] ![256, 1024] inb_S256x1024_S256x1024_0_0, DB x0 x2 x6⟩] : List (View.Piece (Elt Ideal) S256x1024 .bf16)) := by
  have e0 := harg1.read_unread x0
  have e1 := harg2.read_unread x1
  have e2 := harg3.read_unread x2
  have e3 := harg4.read_unread x3
  have e4 := harg5.read_unread x4
  have e5 := harg6.read_unread x5
  have e6 := harg7.read_unread x6
  have e7 := harg8.read_unread x7
  have e8 := harg9.read_unread x8
  have e9 := harg10.read_unread x9
  dsimp only [kernelRun0_A, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.v224, kernelRun0_A.sl.v35, kernelRun0_A.sl.H15_1, kernelRun0_A.sl.H16_1]
  simp only [View.readAt_eq_ld, e0, e1, e2, e3, e4, e5, e6, e7, e8, e9]
  exact (show _ = ([⟨Rect.unit (s := S256x1024) ![0, 0] ![256, 1024] inb_S256x1024_S256x1024_0_0, DB (View.ld x0 (Rect.unit (s := S256x1024) ![0, 0] ![256, 1024] inb_S256x1024_S256x1024_0_0)) (View.ld x2 (Rect.unit (s := S256x1024) ![0, 0] ![256, 1024] inb_S256x1024_S256x1024_0_0)) (View.ld x6 (Rect.unit (s := S1x1x1024) ![0, 0, 0] ![1, 1, 1024] inb_S1x1x1024_S1x1x1024_0_0_0))⟩] : List (View.Piece (Elt Ideal) S256x1024 .bf16)) from rfl).trans (by rw [whole x0, whole x2, wholeG x6])

theorem list12A (hc0 : cond0_0 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9).2.2.1
    = (four (ua x0 x2 x3 x4 x6 x9) : List (View.Piece (Elt Ideal) S4x256x704 .bf16)) := by
  have e0 := harg1.read_unread x0
  have e1 := harg2.read_unread x1
  have e2 := harg3.read_unread x2
  have e3 := harg4.read_unread x3
  have e4 := harg5.read_unread x4
  have e5 := harg6.read_unread x5
  have e6 := harg7.read_unread x6
  have e7 := harg8.read_unread x7
  have e8 := harg9.read_unread x8
  have e9 := harg10.read_unread x9
  dsimp only [kernelRun0_A, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.v224, kernelRun0_A.sl.v35, kernelRun0_A.sl.H15_1, kernelRun0_A.sl.H16_1]
  simp only [View.readAt_eq_ld, e0, e1, e2, e3, e4, e5, e6, e7, e8, e9]
  exact (show _ = (four (ua (View.ld x0 (Rect.unit (s := S256x1024) ![0, 0] ![256, 1024] inb_S256x1024_S256x1024_0_0)) (View.ld x2 (Rect.unit (s := S256x1024) ![0, 0] ![256, 1024] inb_S256x1024_S256x1024_0_0)) x3 x4 (View.ld x6 (Rect.unit (s := S1x1x1024) ![0, 0, 0] ![1, 1, 1024] inb_S1x1x1024_S1x1x1024_0_0_0)) x9) : List (View.Piece (Elt Ideal) S4x256x704 .bf16)) from rfl).trans (by rw [whole x0, whole x2, wholeG x6])

theorem list13A (hc0 : cond0_0 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9).2.2.2.1
    = (four (ub x0 x2 x3 x6 x9) : List (View.Piece (Elt Ideal) S4x256x704 .bf16)) := by
  have e0 := harg1.read_unread x0
  have e1 := harg2.read_unread x1
  have e2 := harg3.read_unread x2
  have e3 := harg4.read_unread x3
  have e4 := harg5.read_unread x4
  have e5 := harg6.read_unread x5
  have e6 := harg7.read_unread x6
  have e7 := harg8.read_unread x7
  have e8 := harg9.read_unread x8
  have e9 := harg10.read_unread x9
  dsimp only [kernelRun0_A, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.v224, kernelRun0_A.sl.v35, kernelRun0_A.sl.H15_1, kernelRun0_A.sl.H16_1]
  simp only [View.readAt_eq_ld, e0, e1, e2, e3, e4, e5, e6, e7, e8, e9]
  exact (show _ = (four (ub (View.ld x0 (Rect.unit (s := S256x1024) ![0, 0] ![256, 1024] inb_S256x1024_S256x1024_0_0)) (View.ld x2 (Rect.unit (s := S256x1024) ![0, 0] ![256, 1024] inb_S256x1024_S256x1024_0_0)) x3 (View.ld x6 (Rect.unit (s := S1x1x1024) ![0, 0, 0] ![1, 1, 1024] inb_S1x1x1024_S1x1x1024_0_0_0)) x9) : List (View.Piece (Elt Ideal) S4x256x704 .bf16)) from rfl).trans (by rw [whole x0, whole x2, wholeG x6])

theorem list14A (hc0 : cond0_0 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9).2.2.2.2.1
    = (four (uh x3 x4) : List (View.Piece (Elt Ideal) S4x256x704 .bf16)) := by
  have e0 := harg1.read_unread x0
  have e1 := harg2.read_unread x1
  have e2 := harg3.read_unread x2
  have e3 := harg4.read_unread x3
  have e4 := harg5.read_unread x4
  have e5 := harg6.read_unread x5
  have e6 := harg7.read_unread x6
  have e7 := harg8.read_unread x7
  have e8 := harg9.read_unread x8
  have e9 := harg10.read_unread x9
  dsimp only [kernelRun0_A, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.v224, kernelRun0_A.sl.v35, kernelRun0_A.sl.H15_1, kernelRun0_A.sl.H16_1]
  simp only [View.readAt_eq_ld, e0, e1, e2, e3, e4, e5, e6, e7, e8, e9]
  exact rfl

theorem list15A (hc0 : cond0_0 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9).2.2.2.2.2.1
    = (⟨Rect.unit (s := S1x1024) ![0, 0] ![1, 1024] inb_S1x1024_S1x1024_0_0, k0_pay3 (DN x0 x2 x3 x4 x6 x7 x8 x9) x1 (View.readCov (Val := Elt Ideal) arg16.view zero15 (Rect.unit (s := S1x1024) ![0, 0] ![1, 1024] inb_S1x1024_S1x1024_0_0).toLoadRect)⟩ :: zero15 : List (View.Piece (Elt Ideal) S1x1024 .f32)) := by
  have e0 := harg1.read_unread x0
  have e1 := harg2.read_unread x1
  have e2 := harg3.read_unread x2
  have e3 := harg4.read_unread x3
  have e4 := harg5.read_unread x4
  have e5 := harg6.read_unread x5
  have e6 := harg7.read_unread x6
  have e7 := harg8.read_unread x7
  have e8 := harg9.read_unread x8
  have e9 := harg10.read_unread x9
  dsimp only [kernelRun0_A, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.v224, kernelRun0_A.sl.v35, kernelRun0_A.sl.H15_1, kernelRun0_A.sl.H16_1]
  simp only [View.readAt_eq_ld, e0, e1, e2, e3, e4, e5, e6, e7, e8, e9]
  exact (show _ = (⟨Rect.unit (s := S1x1024) ![0, 0] ![1, 1024] inb_S1x1024_S1x1024_0_0, k0_pay3 (DN (View.ld x0 (Rect.unit (s := S256x1024) ![0, 0] ![256, 1024] inb_S256x1024_S256x1024_0_0)) (View.ld x2 (Rect.unit (s := S256x1024) ![0, 0] ![256, 1024] inb_S256x1024_S256x1024_0_0)) x3 x4 (View.ld x6 (Rect.unit (s := S1x1x1024) ![0, 0, 0] ![1, 1, 1024] inb_S1x1x1024_S1x1x1024_0_0_0)) x7 x8 x9) (View.ld x1 (Rect.unit (s := S256x1024) ![0, 0] ![256, 1024] inb_S256x1024_S256x1024_0_0)) (View.readCov (Val := Elt Ideal) arg16.view zero15 (Rect.unit (s := S1x1024) ![0, 0] ![1, 1024] inb_S1x1024_S1x1024_0_0).toLoadRect)⟩ :: zero15 : List (View.Piece (Elt Ideal) S1x1024 .f32)) from rfl).trans (by rw [whole x0, whole x2, whole x1, wholeG x6])

theorem list16A (hc0 : cond0_0 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9).2.2.2.2.2.2.1
    = (⟨Rect.unit (s := S1x1024) ![0, 0] ![1, 1024] inb_S1x1024_S1x1024_0_0, k0_pay12 x0 x2 (View.readCov (Val := Elt Ideal) arg17.view zero16 (Rect.unit (s := S1x1024) ![0, 0] ![1, 1024] inb_S1x1024_S1x1024_0_0).toLoadRect)⟩ :: zero16 : List (View.Piece (Elt Ideal) S1x1024 .f32)) := by
  have e0 := harg1.read_unread x0
  have e1 := harg2.read_unread x1
  have e2 := harg3.read_unread x2
  have e3 := harg4.read_unread x3
  have e4 := harg5.read_unread x4
  have e5 := harg6.read_unread x5
  have e6 := harg7.read_unread x6
  have e7 := harg8.read_unread x7
  have e8 := harg9.read_unread x8
  have e9 := harg10.read_unread x9
  dsimp only [kernelRun0_A, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.v224, kernelRun0_A.sl.v35, kernelRun0_A.sl.H15_1, kernelRun0_A.sl.H16_1]
  simp only [View.readAt_eq_ld, e0, e1, e2, e3, e4, e5, e6, e7, e8, e9]
  exact (show _ = (⟨Rect.unit (s := S1x1024) ![0, 0] ![1, 1024] inb_S1x1024_S1x1024_0_0, k0_pay12 (View.ld x0 (Rect.unit (s := S256x1024) ![0, 0] ![256, 1024] inb_S256x1024_S256x1024_0_0)) (View.ld x2 (Rect.unit (s := S256x1024) ![0, 0] ![256, 1024] inb_S256x1024_S256x1024_0_0)) (View.readCov (Val := Elt Ideal) arg17.view zero16 (Rect.unit (s := S1x1024) ![0, 0] ![1, 1024] inb_S1x1024_S1x1024_0_0).toLoadRect)⟩ :: zero16 : List (View.Piece (Elt Ideal) S1x1024 .f32)) from rfl).trans (by rw [whole x0, whole x2])

theorem out10A (hc0 : cond0_0 i) (r : Fin 256) (l : Fin 1024) : out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 (ix2 r l) = x0 (ix2 r l) + rmsb (rdn (rdf (row x0 r) (row x2 r) (gn x6)) (wt x9) (wt x7) (wt x8) (hid x3 r) (hid x4 r)) (row x1 r) (gn x5) l := by
  refine (View.read_writes_junk_apply_eq_canon _ _ _).trans ?_
  rw [list10A]
  refine (congrFun (View.canon_unit_zero (Val := Elt Ideal) (e := .f32) (S := S256x1024) (by funext a; fin_cases a <;> rfl) inb_S256x1024_S256x1024_0_0 (k0_pay4 x0 (DN x0 x2 x3 x4 x6 x7 x8 x9) x1 x5)) _).trans ?_
  rw [pay4_at]
  simp only [DN_at]

theorem out11A (hc0 : cond0_0 i) (r : Fin 256) (l : Fin 1024) : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 (ix2 r l) = rdf (row x0 r) (row x2 r) (gn x6) l := by
  refine (View.read_writes_junk_apply_eq_canon _ _ _).trans ?_
  rw [list11A]
  exact (congrFun (View.canon_unit_zero (Val := Elt Ideal) (e := .bf16) (S := S256x1024) (by funext a; fin_cases a <;> rfl) inb_S256x1024_S256x1024_0_0 (DB x0 x2 x6)) _).trans (DB_at x0 x2 x6 r l)

theorem out12A (hc0 : cond0_0 i) (j : Fin 4) (r : Fin 256) (k : Fin 704) : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 (ix3 j r k) = rda (rdf (row x0 r) (row x2 r) (gn x6)) (wt x9) (hid x3 r) (hid x4 r) j k := by
  refine (View.read_writes_junk_apply_eq_canon _ _ _).trans ?_
  rw [list12A]
  rw [four_at, ua_at]

theorem out13A (hc0 : cond0_0 i) (j : Fin 4) (r : Fin 256) (k : Fin 704) : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 (ix3 j r k) = rdb (rdf (row x0 r) (row x2 r) (gn x6)) (wt x9) (hid x3 r) j k := by
  refine (View.read_writes_junk_apply_eq_canon _ _ _).trans ?_
  rw [list13A]
  rw [four_at, ub_at]

theorem out14A (hc0 : cond0_0 i) (j : Fin 4) (r : Fin 256) (k : Fin 704) : out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 (ix3 j r k) = gated (hid x3 r j k) (hid x4 r j k) := by
  refine (View.read_writes_junk_apply_eq_canon _ _ _).trans ?_
  rw [list14A]
  rw [four_at, uh_at]

theorem out15A (hc0 : cond0_0 i) (l : Fin 1024) : out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 (ix2 0 l) = 0 + ∑ r : Fin 256, rdn (rdf (row x0 r) (row x2 r) (gn x6)) (wt x9) (wt x7) (wt x8) (hid x3 r) (hid x4 r) l * (row x1 r l * inv (row x1 r)) := by
  refine (View.read_writes_junk_apply_eq_canon _ _ _).trans ?_
  rw [list15A]
  rw [oneS, pay3_at, cov15]
  simp only [DN_at]

theorem out16A (hc0 : cond0_0 i) (l : Fin 1024) : out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 (ix2 0 l) = 0 + ∑ r : Fin 256, hlf (row x0 r l) * (row x2 r l * inv (row x2 r)) := by
  refine (View.read_writes_junk_apply_eq_canon _ _ _).trans ?_
  rw [list16A]
  rw [oneS, pay12_at, cov16]

-- case B
theorem list10B (hc0 : ¬cond0_0 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo15 xo16).1
    = ([⟨Rect.unit (s := S256x1024) ![0, 0] ![256, 1024] inb_S256x1024_S256x1024_0_0, k0_pay4 x0 (DN x0 x2 x3 x4 x6 x7 x8 x9) x1 x5⟩] : List (View.Piece (Elt Ideal) S256x1024 .f32)) := by
  have e0 := harg1.read_unread x0
  have e1 := harg2.read_unread x1
  have e2 := harg3.read_unread x2
  have e3 := harg4.read_unread x3
  have e4 := harg5.read_unread x4
  have e5 := harg6.read_unread x5
  have e6 := harg7.read_unread x6
  have e7 := harg8.read_unread x7
  have e8 := harg9.read_unread x8
  have e9 := harg10.read_unread x9
  have e15 := harg16.read_unread xo15
  have e16 := harg17.read_unread xo16
  dsimp only [kernelRun0_B, kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18]
  simp only [View.readAt_eq_ld, e0, e1, e2, e3, e4, e5, e6, e7, e8, e9, e15, e16]
  exact (show _ = ([⟨Rect.unit (s := S256x1024) ![0, 0] ![256, 1024] inb_S256x1024_S256x1024_0_0, k0_pay4 (View.ld x0 (Rect.unit (s := S256x1024) ![0, 0] ![256, 1024] inb_S256x1024_S256x1024_0_0)) (DN (View.ld x0 (Rect.unit (s := S256x1024) ![0, 0] ![256, 1024] inb_S256x1024_S256x1024_0_0)) (View.ld x2 (Rect.unit (s := S256x1024) ![0, 0] ![256, 1024] inb_S256x1024_S256x1024_0_0)) x3 x4 (View.ld x6 (Rect.unit (s := S1x1x1024) ![0, 0, 0] ![1, 1, 1024] inb_S1x1x1024_S1x1x1024_0_0_0)) x7 x8 x9) (View.ld x1 (Rect.unit (s := S256x1024) ![0, 0] ![256, 1024] inb_S256x1024_S256x1024_0_0)) (View.ld x5 (Rect.unit (s := S1x1x1024) ![0, 0, 0] ![1, 1, 1024] inb_S1x1x1024_S1x1x1024_0_0_0))⟩] : List (View.Piece (Elt Ideal) S256x1024 .f32)) from rfl).trans (by rw [whole x0, whole x2, whole x1, wholeG x5, wholeG x6])

theorem list11B (hc0 : ¬cond0_0 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo15 xo16).2.1
    = ([⟨Rect.unit (s := S256x1024) ![0, 0] ![256, 1024] inb_S256x1024_S256x1024_0_0, DB x0 x2 x6⟩] : List (View.Piece (Elt Ideal) S256x1024 .bf16)) := by
  have e0 := harg1.read_unread x0
  have e1 := harg2.read_unread x1
  have e2 := harg3.read_unread x2
  have e3 := harg4.read_unread x3
  have e4 := harg5.read_unread x4
  have e5 := harg6.read_unread x5
  have e6 := harg7.read_unread x6
  have e7 := harg8.read_unread x7
  have e8 := harg9.read_unread x8
  have e9 := harg10.read_unread x9
  have e15 := harg16.read_unread xo15
  have e16 := harg17.read_unread xo16
  dsimp only [kernelRun0_B, kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18]
  simp only [View.readAt_eq_ld, e0, e1, e2, e3, e4, e5, e6, e7, e8, e9, e15, e16]
  exact (show _ = ([⟨Rect.unit (s := S256x1024) ![0, 0] ![256, 1024] inb_S256x1024_S256x1024_0_0, DB (View.ld x0 (Rect.unit (s := S256x1024) ![0, 0] ![256, 1024] inb_S256x1024_S256x1024_0_0)) (View.ld x2 (Rect.unit (s := S256x1024) ![0, 0] ![256, 1024] inb_S256x1024_S256x1024_0_0)) (View.ld x6 (Rect.unit (s := S1x1x1024) ![0, 0, 0] ![1, 1, 1024] inb_S1x1x1024_S1x1x1024_0_0_0))⟩] : List (View.Piece (Elt Ideal) S256x1024 .bf16)) from rfl).trans (by rw [whole x0, whole x2, wholeG x6])

theorem list12B (hc0 : ¬cond0_0 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo15 xo16).2.2.1
    = (four (ua x0 x2 x3 x4 x6 x9) : List (View.Piece (Elt Ideal) S4x256x704 .bf16)) := by
  have e0 := harg1.read_unread x0
  have e1 := harg2.read_unread x1
  have e2 := harg3.read_unread x2
  have e3 := harg4.read_unread x3
  have e4 := harg5.read_unread x4
  have e5 := harg6.read_unread x5
  have e6 := harg7.read_unread x6
  have e7 := harg8.read_unread x7
  have e8 := harg9.read_unread x8
  have e9 := harg10.read_unread x9
  have e15 := harg16.read_unread xo15
  have e16 := harg17.read_unread xo16
  dsimp only [kernelRun0_B, kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18]
  simp only [View.readAt_eq_ld, e0, e1, e2, e3, e4, e5, e6, e7, e8, e9, e15, e16]
  exact (show _ = (four (ua (View.ld x0 (Rect.unit (s := S256x1024) ![0, 0] ![256, 1024] inb_S256x1024_S256x1024_0_0)) (View.ld x2 (Rect.unit (s := S256x1024) ![0, 0] ![256, 1024] inb_S256x1024_S256x1024_0_0)) x3 x4 (View.ld x6 (Rect.unit (s := S1x1x1024) ![0, 0, 0] ![1, 1, 1024] inb_S1x1x1024_S1x1x1024_0_0_0)) x9) : List (View.Piece (Elt Ideal) S4x256x704 .bf16)) from rfl).trans (by rw [whole x0, whole x2, wholeG x6])

theorem list13B (hc0 : ¬cond0_0 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo15 xo16).2.2.2.1
    = (four (ub x0 x2 x3 x6 x9) : List (View.Piece (Elt Ideal) S4x256x704 .bf16)) := by
  have e0 := harg1.read_unread x0
  have e1 := harg2.read_unread x1
  have e2 := harg3.read_unread x2
  have e3 := harg4.read_unread x3
  have e4 := harg5.read_unread x4
  have e5 := harg6.read_unread x5
  have e6 := harg7.read_unread x6
  have e7 := harg8.read_unread x7
  have e8 := harg9.read_unread x8
  have e9 := harg10.read_unread x9
  have e15 := harg16.read_unread xo15
  have e16 := harg17.read_unread xo16
  dsimp only [kernelRun0_B, kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18]
  simp only [View.readAt_eq_ld, e0, e1, e2, e3, e4, e5, e6, e7, e8, e9, e15, e16]
  exact (show _ = (four (ub (View.ld x0 (Rect.unit (s := S256x1024) ![0, 0] ![256, 1024] inb_S256x1024_S256x1024_0_0)) (View.ld x2 (Rect.unit (s := S256x1024) ![0, 0] ![256, 1024] inb_S256x1024_S256x1024_0_0)) x3 (View.ld x6 (Rect.unit (s := S1x1x1024) ![0, 0, 0] ![1, 1, 1024] inb_S1x1x1024_S1x1x1024_0_0_0)) x9) : List (View.Piece (Elt Ideal) S4x256x704 .bf16)) from rfl).trans (by rw [whole x0, whole x2, wholeG x6])

theorem list14B (hc0 : ¬cond0_0 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo15 xo16).2.2.2.2.1
    = (four (uh x3 x4) : List (View.Piece (Elt Ideal) S4x256x704 .bf16)) := by
  have e0 := harg1.read_unread x0
  have e1 := harg2.read_unread x1
  have e2 := harg3.read_unread x2
  have e3 := harg4.read_unread x3
  have e4 := harg5.read_unread x4
  have e5 := harg6.read_unread x5
  have e6 := harg7.read_unread x6
  have e7 := harg8.read_unread x7
  have e8 := harg9.read_unread x8
  have e9 := harg10.read_unread x9
  have e15 := harg16.read_unread xo15
  have e16 := harg17.read_unread xo16
  dsimp only [kernelRun0_B, kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18]
  simp only [View.readAt_eq_ld, e0, e1, e2, e3, e4, e5, e6, e7, e8, e9, e15, e16]
  exact rfl

theorem list15B (hc0 : ¬cond0_0 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo15 xo16).2.2.2.2.2.1
    = (⟨Rect.unit (s := S1x1024) ![0, 0] ![1, 1024] inb_S1x1024_S1x1024_0_0, k0_pay3 (DN x0 x2 x3 x4 x6 x7 x8 x9) x1 xo15⟩ :: [] : List (View.Piece (Elt Ideal) S1x1024 .f32)) := by
  have e0 := harg1.read_unread x0
  have e1 := harg2.read_unread x1
  have e2 := harg3.read_unread x2
  have e3 := harg4.read_unread x3
  have e4 := harg5.read_unread x4
  have e5 := harg6.read_unread x5
  have e6 := harg7.read_unread x6
  have e7 := harg8.read_unread x7
  have e8 := harg9.read_unread x8
  have e9 := harg10.read_unread x9
  have e15 := harg16.read_unread xo15
  have e16 := harg17.read_unread xo16
  dsimp only [kernelRun0_B, kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18]
  simp only [View.readAt_eq_ld, e0, e1, e2, e3, e4, e5, e6, e7, e8, e9, e15, e16]
  exact (show _ = (⟨Rect.unit (s := S1x1024) ![0, 0] ![1, 1024] inb_S1x1024_S1x1024_0_0, k0_pay3 (DN (View.ld x0 (Rect.unit (s := S256x1024) ![0, 0] ![256, 1024] inb_S256x1024_S256x1024_0_0)) (View.ld x2 (Rect.unit (s := S256x1024) ![0, 0] ![256, 1024] inb_S256x1024_S256x1024_0_0)) x3 x4 (View.ld x6 (Rect.unit (s := S1x1x1024) ![0, 0, 0] ![1, 1, 1024] inb_S1x1x1024_S1x1x1024_0_0_0)) x7 x8 x9) (View.ld x1 (Rect.unit (s := S256x1024) ![0, 0] ![256, 1024] inb_S256x1024_S256x1024_0_0)) (View.ld xo15 (Rect.unit (s := S1x1024) ![0, 0] ![1, 1024] inb_S1x1024_S1x1024_0_0))⟩ :: [] : List (View.Piece (Elt Ideal) S1x1024 .f32)) from rfl).trans (by rw [whole x0, whole x2, whole x1, wholeG x6, wholeS xo15])

theorem list16B (hc0 : ¬cond0_0 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo15 xo16).2.2.2.2.2.2.1
    = (⟨Rect.unit (s := S1x1024) ![0, 0] ![1, 1024] inb_S1x1024_S1x1024_0_0, k0_pay12 x0 x2 xo16⟩ :: [] : List (View.Piece (Elt Ideal) S1x1024 .f32)) := by
  have e0 := harg1.read_unread x0
  have e1 := harg2.read_unread x1
  have e2 := harg3.read_unread x2
  have e3 := harg4.read_unread x3
  have e4 := harg5.read_unread x4
  have e5 := harg6.read_unread x5
  have e6 := harg7.read_unread x6
  have e7 := harg8.read_unread x7
  have e8 := harg9.read_unread x8
  have e9 := harg10.read_unread x9
  have e15 := harg16.read_unread xo15
  have e16 := harg17.read_unread xo16
  dsimp only [kernelRun0_B, kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18]
  simp only [View.readAt_eq_ld, e0, e1, e2, e3, e4, e5, e6, e7, e8, e9, e15, e16]
  exact (show _ = (⟨Rect.unit (s := S1x1024) ![0, 0] ![1, 1024] inb_S1x1024_S1x1024_0_0, k0_pay12 (View.ld x0 (Rect.unit (s := S256x1024) ![0, 0] ![256, 1024] inb_S256x1024_S256x1024_0_0)) (View.ld x2 (Rect.unit (s := S256x1024) ![0, 0] ![256, 1024] inb_S256x1024_S256x1024_0_0)) (View.ld xo16 (Rect.unit (s := S1x1024) ![0, 0] ![1, 1024] inb_S1x1024_S1x1024_0_0))⟩ :: [] : List (View.Piece (Elt Ideal) S1x1024 .f32)) from rfl).trans (by rw [whole x0, whole x2, wholeS xo16])

theorem out10B (hc0 : ¬cond0_0 i) (r : Fin 256) (l : Fin 1024) : out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo15 xo16 (ix2 r l) = x0 (ix2 r l) + rmsb (rdn (rdf (row x0 r) (row x2 r) (gn x6)) (wt x9) (wt x7) (wt x8) (hid x3 r) (hid x4 r)) (row x1 r) (gn x5) l := by
  refine (View.read_writes_junk_apply_eq_canon _ _ _).trans ?_
  rw [list10B]
  refine (congrFun (View.canon_unit_zero (Val := Elt Ideal) (e := .f32) (S := S256x1024) (by funext a; fin_cases a <;> rfl) inb_S256x1024_S256x1024_0_0 (k0_pay4 x0 (DN x0 x2 x3 x4 x6 x7 x8 x9) x1 x5)) _).trans ?_
  rw [pay4_at]
  simp only [DN_at]

theorem out11B (hc0 : ¬cond0_0 i) (r : Fin 256) (l : Fin 1024) : out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo15 xo16 (ix2 r l) = rdf (row x0 r) (row x2 r) (gn x6) l := by
  refine (View.read_writes_junk_apply_eq_canon _ _ _).trans ?_
  rw [list11B]
  exact (congrFun (View.canon_unit_zero (Val := Elt Ideal) (e := .bf16) (S := S256x1024) (by funext a; fin_cases a <;> rfl) inb_S256x1024_S256x1024_0_0 (DB x0 x2 x6)) _).trans (DB_at x0 x2 x6 r l)

theorem out12B (hc0 : ¬cond0_0 i) (j : Fin 4) (r : Fin 256) (k : Fin 704) : out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo15 xo16 (ix3 j r k) = rda (rdf (row x0 r) (row x2 r) (gn x6)) (wt x9) (hid x3 r) (hid x4 r) j k := by
  refine (View.read_writes_junk_apply_eq_canon _ _ _).trans ?_
  rw [list12B]
  rw [four_at, ua_at]

theorem out13B (hc0 : ¬cond0_0 i) (j : Fin 4) (r : Fin 256) (k : Fin 704) : out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo15 xo16 (ix3 j r k) = rdb (rdf (row x0 r) (row x2 r) (gn x6)) (wt x9) (hid x3 r) j k := by
  refine (View.read_writes_junk_apply_eq_canon _ _ _).trans ?_
  rw [list13B]
  rw [four_at, ub_at]

theorem out14B (hc0 : ¬cond0_0 i) (j : Fin 4) (r : Fin 256) (k : Fin 704) : out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo15 xo16 (ix3 j r k) = gated (hid x3 r j k) (hid x4 r j k) := by
  refine (View.read_writes_junk_apply_eq_canon _ _ _).trans ?_
  rw [list14B]
  rw [four_at, uh_at]

theorem out15B (hc0 : ¬cond0_0 i) (l : Fin 1024) : out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo15 xo16 (ix2 0 l) = xo15 (ix2 0 l) + ∑ r : Fin 256, rdn (rdf (row x0 r) (row x2 r) (gn x6)) (wt x9) (wt x7) (wt x8) (hid x3 r) (hid x4 r) l * (row x1 r l * inv (row x1 r)) := by
  refine (View.read_writes_junk_apply_eq_canon _ _ _).trans ?_
  rw [list15B]
  rw [oneS, pay3_at]
  simp only [DN_at]

theorem out16B (hc0 : ¬cond0_0 i) (l : Fin 1024) : out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo15 xo16 (ix2 0 l) = xo16 (ix2 0 l) + ∑ r : Fin 256, hlf (row x0 r l) * (row x2 r l * inv (row x2 r)) := by
  refine (View.read_writes_junk_apply_eq_canon _ _ _).trans ?_
  rw [list16B]
  rw [oneS, pay12_at]

end Cert.FfnBwd
-- ==== Proof.FfnBwdSpec.lean ====
/- The feed-forward layer's backward pass, row by row: the arrays that the kernel and the reference both compute. -/
module

public import proofs.«01_k».proof.Proof.FfnBwdBlock

@[expose] public section

noncomputable section

namespace Cert.FfnBwd

open Cert.Ffn Idealize.ShloMosaic

/-- The arguments as functions of row and column, the weights by shard. -/
structure Args where
  d : Fin 4096 → Fin 1024 → EReal
  h : Fin 4096 → Fin 1024 → EReal
  pg : Fin 1024 → EReal
  qg : Fin 1024 → EReal
  wg : Fin 4 → Fin 704 → Fin 1024 → EReal
  wu : Fin 4 → Fin 704 → Fin 1024 → EReal
  wd : Fin 4 → Fin 704 → Fin 1024 → EReal

namespace Args
variable (A : Args) (r : Fin 4096)

/-- The normed row, its two products and the layer's own output. -/
def x : Fin 1024 → EReal := rms (A.h r) A.pg
def a (j : Fin 4) (k : Fin 704) : EReal := unit (A.x r) A.wg j k
def b (j : Fin 4) (k : Fin 704) : EReal := unit (A.x r) A.wu j k
def f : Fin 1024 → EReal := mlp (A.x r) A.wg A.wu A.wd
/-- The cotangents, from the output back. -/
def df : Fin 1024 → EReal := rdf (A.d r) (A.f r) A.qg
def da : Fin 4 → Fin 704 → EReal := rda (A.df r) A.wd (A.a r) (A.b r)
def db : Fin 4 → Fin 704 → EReal := rdb (A.df r) A.wd (A.a r)
def hh (j : Fin 4) (k : Fin 704) : EReal := gated (A.a r j k) (A.b r j k)
def dn : Fin 1024 → EReal := rdn (A.df r) A.wd A.wg A.wu (A.a r) (A.b r)
def dh (l : Fin 1024) : EReal := A.d r l + rmsb (A.dn r) (A.h r) A.pg l
/-- What a row adds to the gains' cotangents. -/
def tp (l : Fin 1024) : EReal := A.dn r l * (A.h r l * inv (A.h r))
def tq (l : Fin 1024) : EReal := hlf (A.d r l) * (A.f r l * inv (A.f r))
end Args

/-- Row `r` of the block of grid point `s`. -/
def rown (s : ℕ) (r : Fin 256) : Fin 4096 := ⟨(s * 256 + r.val) % 4096, Nat.mod_lt _ (by norm_num)⟩

theorem rown_val {s : ℕ} (h : s < 16) (r : Fin 256) : (rown s r).val = s * 256 + r.val :=
  Nat.mod_eq_of_lt (by omega)

theorem sum_rown (g : Fin 4096 → EReal) : ∑ R, g R = ∑ s ∈ Finset.range 16, ∑ r, g (rown s r) := by
  refine (Fin.sum_univ_tiles 16 256 rfl g).trans ?_
  rw [Finset.sum_range]
  refine Finset.sum_congr rfl fun s _ => Finset.sum_congr rfl fun r _ => congrArg g (Fin.ext ?_)
  exact (rown_val s.isLt r).symm

end Cert.FfnBwd
-- ==== Proof.FfnBwdHost.lean ====
/- The arrays that the host prepares for the feed-forward layer's backward kernel. -/
module

public import proofs.«01_k».proof.Proof.FfnBwdSpec
public import proofs.«01_k».proof.Proof.FfnFwdRef

@[expose] public section

set_option maxRecDepth 16384

noncomputable section

namespace Cert.FfnBwd

open Cert.Ffn Cert.Kernel3Ideal Cert.Kernel3Ideal.Gen Idealize.ShloMosaic Idealize.ShloMosaic.TcCoe Idealize.SL.Sem

variable (m : (ℓ : Loc nD τ sig) → Buf (Elt Ideal) ℓ) (c : Dev nD)

abbrev k0 : Vec Ideal S4096x1024 .f32 := m ((c : Thread nD τ).loc main_arg0)
abbrev k1 : Vec Ideal S4096x1024 .f32 := m ((c : Thread nD τ).loc main_arg1)
abbrev k2 : Vec Ideal S1024 .f32 := m ((c : Thread nD τ).loc main_arg2)
abbrev k3 : Vec Ideal S1024 .f32 := m ((c : Thread nD τ).loc main_arg3)
abbrev k4 : Vec Ideal S1024x2816 .f32 := m ((c : Thread nD τ).loc main_arg4)
abbrev k5 : Vec Ideal S1024x2816 .f32 := m ((c : Thread nD τ).loc main_arg5)
abbrev k6 : Vec Ideal S2816x1024 .f32 := m ((c : Thread nD τ).loc main_arg6)

/-- The kernel's arguments. -/
def K : Args where
  d r l := k0 m c (ix2 r l)
  h r l := k1 m c (ix2 r l)
  pg l := k2 m c (ix1 l)
  qg l := k3 m c (ix1 l)
  wg j k l := k4 m c (ix2 l (col j k))
  wu j k l := k5 m c (ix2 l (col j k))
  wd j k l := k6 m c (ix2 (col j k) l)

/-- The normed rows, their products and the layer's own output. -/
def hx : Vec Ideal S4096x1024 .f32 := FfnFwdRef.norm (k1 m c) (k2 m c)
def ha : Vec Ideal S4096x2816 .f32 := FfnFwdRef.up (hx m c) (k4 m c)
def hb : Vec Ideal S4096x2816 .f32 := FfnFwdRef.up (hx m c) (k5 m c)
def hf : Vec Ideal S4096x1024 .f32 := FfnFwdRef.dn (FfnFwdRef.gate (ha m c) (hb m c)) (k6 m c)

theorem hx_at (r : Fin 4096) (l : Fin 1024) : hx m c (ix2 r l) = (K m c).x r l := FfnFwdRef.norm_at _ _ r l
theorem ha_at (r : Fin 4096) (j : Fin 4) (k : Fin 704) : ha m c (ix2 r (col j k)) = (K m c).a r j k := by
  unfold ha
  rw [FfnFwdRef.up_at]
  simp only [hx_at]
  rfl
theorem hb_at (r : Fin 4096) (j : Fin 4) (k : Fin 704) : hb m c (ix2 r (col j k)) = (K m c).b r j k := by
  unfold hb
  rw [FfnFwdRef.up_at]
  simp only [hx_at]
  rfl
theorem hf_at (r : Fin 4096) (l : Fin 1024) : hf m c (ix2 r l) = (K m c).f r l := by
  unfold hf
  rw [FfnFwdRef.dn_at, sum_col]
  simp only [FfnFwdRef.gate_at, ha_at, hb_at]
  rfl

theorem V_v17 : V m c main_v17 = hf m c := by
  unfold V
  simp only [hostOps0, hostOps0_1, hostOps0_2, List.flatten_cons, List.flatten_nil, List.append_nil, List.cons_append, List.nil_append]
  after_results_simp
  rfl

theorem V_v20 : V m c main_v20 = FfnFwdRef.shards (ha m c) := by
  unfold V
  simp only [hostOps0, hostOps0_1, hostOps0_2, List.flatten_cons, List.flatten_nil, List.append_nil, List.cons_append, List.nil_append]
  after_results_simp
  rfl

theorem V_v23 : V m c main_v23 = FfnFwdRef.shards (hb m c) := by
  unfold V
  simp only [hostOps0, hostOps0_1, hostOps0_2, List.flatten_cons, List.flatten_nil, List.append_nil, List.cons_append, List.nil_append]
  after_results_simp
  rfl

theorem V_v24 (l : Fin 1024) : V m c main_v24 (ix3 0 0 l) = (K m c).pg l := by
  have e : V m c main_v24 = shapeCast S1x1x1024 (m ((c : Thread nD τ).loc main_arg2)) shapeCasts_S1024_S1x1x1024 := by
    unfold V
    simp only [hostOps0, hostOps0_1, hostOps0_2, List.flatten_cons, List.flatten_nil, List.append_nil, List.cons_append, List.nil_append]
    after_results_simp
    rfl
  rw [e]
  pointwise [K]

theorem V_v25 (l : Fin 1024) : V m c main_v25 (ix3 0 0 l) = (K m c).qg l := by
  have e : V m c main_v25 = shapeCast S1x1x1024 (m ((c : Thread nD τ).loc main_arg3)) shapeCasts_S1024_S1x1x1024 := by
    unfold V
    simp only [hostOps0, hostOps0_1, hostOps0_2, List.flatten_cons, List.flatten_nil, List.append_nil, List.cons_append, List.nil_append]
    after_results_simp
    rfl
  rw [e]
  pointwise [K]

/-- The weights' rearrangement. -/
def shw (x : Vec Ideal S2816x1024 .f32) : Vec Ideal S4x1x704x1024 .bf16 :=
  truncf (F := Ideal) .bf16 (shapeCast S4x1x704x1024 x shapeCasts_S2816x1024_S4x1x704x1024) bitsLt_bf16_f32
def tr (x : Vec Ideal S1024x2816 .f32) : Vec Ideal S2816x1024 .f32 := transpose S2816x1024 [1, 0] x transposes_S1024x2816_S2816x1024_1_0

theorem shw_at (x : Vec Ideal S2816x1024 .f32) (j : Fin 4) (k : Fin 704) (l : Fin 1024) : shw x (ix4 j 0 k l) = x (ix2 (col j k) l) := by
  pointwise [shw, col]
theorem tr_at (x : Vec Ideal S1024x2816 .f32) (n : Fin 2816) (l : Fin 1024) : tr x (ix2 n l) = x (ix2 l n) := by
  pointwise [tr]

theorem V_v28 (j : Fin 4) (k : Fin 704) (l : Fin 1024) : V m c main_v28 (ix4 j 0 k l) = (K m c).wg j k l := by
  have e : V m c main_v28 = shw (tr (k4 m c)) := by
    unfold V
    simp only [hostOps0, hostOps0_1, hostOps0_2, List.flatten_cons, List.flatten_nil, List.append_nil, List.cons_append, List.nil_append]
    after_results_simp
    rfl
  rw [e, shw_at, tr_at]
  rfl

theorem V_v31 (j : Fin 4) (k : Fin 704) (l : Fin 1024) : V m c main_v31 (ix4 j 0 k l) = (K m c).wu j k l := by
  have e : V m c main_v31 = shw (tr (k5 m c)) := by
    unfold V
    simp only [hostOps0, hostOps0_1, hostOps0_2, List.flatten_cons, List.flatten_nil, List.append_nil, List.cons_append, List.nil_append]
    after_results_simp
    rfl
  rw [e, shw_at, tr_at]
  rfl

theorem V_v33 (j : Fin 4) (k : Fin 704) (l : Fin 1024) : V m c main_v33 (ix4 j 0 k l) = (K m c).wd j k l := by
  have e : V m c main_v33 = shw (k6 m c) := by
    unfold V
    simp only [hostOps0, hostOps0_1, hostOps0_2, List.flatten_cons, List.flatten_nil, List.append_nil, List.cons_append, List.nil_append]
    after_results_simp
    rfl
  rw [e, shw_at]
  rfl

end Cert.FfnBwd
-- ==== Proof.FfnBwdArr.lean ====
/- The arrays that the feed-forward layer's backward kernel leaves. -/
module

public import proofs.«01_k».proof.Proof.FfnBwdHost

@[expose] public section

set_option maxRecDepth 16384

noncomputable section

namespace Cert.FfnBwd

open Cert.Ffn Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ) (c : Dev nD)

theorem rown_at (t : Fin cfg0.N) (r : Fin 256) : (rown t.val r).val = t.val * 256 + r.val := rown_val (show t.val < 16 from t.isLt) r

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![0, t.val, 0] := by decide +kernel
theorem idx4 : ∀ t : Fin cfg0.N, win0_4.index t = ![0, t.val, 0] := by decide +kernel
theorem idx5 : ∀ t : Fin cfg0.N, win0_5.index t = ![0, 0, 0] := by decide +kernel
theorem idx6 : ∀ t : Fin cfg0.N, win0_6.index t = ![0, 0, 0] := by decide +kernel
theorem idx7 : ∀ t : Fin cfg0.N, win0_7.index t = ![0, 0, 0, 0] := by decide +kernel
theorem idx8 : ∀ t : Fin cfg0.N, win0_8.index t = ![0, 0, 0, 0] := by decide +kernel
theorem idx9 : ∀ t : Fin cfg0.N, win0_9.index t = ![0, 0, 0, 0] := by decide +kernel
theorem idx10 : ∀ t : Fin cfg0.N, win0_10.index t = ![t.val, 0] := by decide +kernel
theorem idx11 : ∀ t : Fin cfg0.N, win0_11.index t = ![t.val, 0] := by decide +kernel
theorem idx12 : ∀ t : Fin cfg0.N, win0_12.index t = ![0, t.val, 0] := by decide +kernel
theorem idx13 : ∀ t : Fin cfg0.N, win0_13.index t = ![0, t.val, 0] := by decide +kernel
theorem idx14 : ∀ t : Fin cfg0.N, win0_14.index t = ![0, t.val, 0] := by decide +kernel
theorem idx15 : ∀ t : Fin cfg0.N, win0_15.index t = ![0, 0] := by decide +kernel
theorem idx16 : ∀ t : Fin cfg0.N, win0_16.index t = ![0, 0] := by decide +kernel

theorem iblk0_at (t : Fin cfg0.N) (r : Fin 256) (l : Fin 1024) : iblk m c 0 t (ix2 r l) = (K m c).d (rown t.val r) l := by
  blk_simp [iblk]
  refine (congrFun (V_main_arg0 m c) _).trans (congrArg (m ((c : Thread nD τ).loc main_arg0)) ?_)
  funext a
  fin_cases a <;> apply Fin.ext
  · refine Eq.trans ?_ (rown_at t r).symm
    blk_simp [idx0]; rfl
  · blk_simp [idx0]; rfl

theorem iblk1_at (t : Fin cfg0.N) (r : Fin 256) (l : Fin 1024) : iblk m c 1 t (ix2 r l) = (K m c).h (rown t.val r) l := by
  blk_simp [iblk]
  refine (congrFun (V_main_arg1 m c) _).trans (congrArg (m ((c : Thread nD τ).loc main_arg1)) ?_)
  funext a
  fin_cases a <;> apply Fin.ext
  · refine Eq.trans ?_ (rown_at t r).symm
    blk_simp [idx1]; rfl
  · blk_simp [idx1]; rfl

theorem iblk2_at (t : Fin cfg0.N) (r : Fin 256) (l : Fin 1024) : iblk m c 2 t (ix2 r l) = (K m c).f (rown t.val r) l := by
  blk_simp [iblk]
  refine (congrFun (V_v17 m c) _).trans (Eq.trans (congrArg (hf m c) ?_) (hf_at m c (rown t.val r) l))
  funext a
  fin_cases a <;> apply Fin.ext
  · refine Eq.trans ?_ (rown_at t r).symm
    blk_simp [idx2]; rfl
  · blk_simp [idx2]; rfl

theorem iblk3_at (t : Fin cfg0.N) (j : Fin 4) (r : Fin 256) (k : Fin 704) : iblk m c 3 t (ix3 j r k) = (K m c).a (rown t.val r) j k := by
  blk_simp [iblk]
  refine (congrFun (V_v20 m c) _).trans (Eq.trans (congrArg (FfnFwdRef.shards (ha m c)) ?_) ((FfnFwdRef.shards_at (ha m c) j (rown t.val r) k).trans (ha_at m c (rown t.val r) j k)))
  funext a
  fin_cases a <;> apply Fin.ext
  · blk_simp [idx3]; rfl
  · refine Eq.trans ?_ (rown_at t r).symm
    blk_simp [idx3]; rfl
  · blk_simp [idx3]; rfl

theorem iblk4_at (t : Fin cfg0.N) (j : Fin 4) (r : Fin 256) (k : Fin 704) : iblk m c 4 t (ix3 j r k) = (K m c).b (rown t.val r) j k := by
  blk_simp [iblk]
  refine (congrFun (V_v23 m c) _).trans (Eq.trans (congrArg (FfnFwdRef.shards (hb m c)) ?_) ((FfnFwdRef.shards_at (hb m c) j (rown t.val r) k).trans (hb_at m c (rown t.val r) j k)))
  funext a
  fin_cases a <;> apply Fin.ext
  · blk_simp [idx4]; rfl
  · refine Eq.trans ?_ (rown_at t r).symm
    blk_simp [idx4]; rfl
  · blk_simp [idx4]; rfl

theorem iblk5_at (t : Fin cfg0.N) (l : Fin 1024) : iblk m c 5 t (ix3 0 0 l) = (K m c).pg l := by
  blk_simp [iblk]
  refine Eq.trans (congrArg (V m c main_v24) ?_) (V_v24 m c l)
  funext a
  fin_cases a <;> apply Fin.ext <;> blk_simp [idx5]

theorem iblk6_at (t : Fin cfg0.N) (l : Fin 1024) : iblk m c 6 t (ix3 0 0 l) = (K m c).qg l := by
  blk_simp [iblk]
  refine Eq.trans (congrArg (V m c main_v25) ?_) (V_v25 m c l)
  funext a
  fin_cases a <;> apply Fin.ext <;> blk_simp [idx6]

theorem iblk7_at (t : Fin cfg0.N) (j : Fin 4) (k : Fin 704) (l : Fin 1024) : iblk m c 7 t (ix4 j 0 k l) = (K m c).wg j k l := by
  blk_simp [iblk]
  refine Eq.trans (congrArg (V m c main_v28) ?_) (V_v28 m c j k l)
  funext a
  fin_cases a <;> apply Fin.ext <;> blk_simp [idx7]

theorem iblk8_at (t : Fin cfg0.N) (j : Fin 4) (k : Fin 704) (l : Fin 1024) : iblk m c 8 t (ix4 j 0 k l) = (K m c).wu j k l := by
  blk_simp [iblk]
  refine Eq.trans (congrArg (V m c main_v31) ?_) (V_v31 m c j k l)
  funext a
  fin_cases a <;> apply Fin.ext <;> blk_simp [idx8]

theorem iblk9_at (t : Fin cfg0.N) (j : Fin 4) (k : Fin 704) (l : Fin 1024) : iblk m c 9 t (ix4 j 0 k l) = (K m c).wd j k l := by
  blk_simp [iblk]
  refine Eq.trans (congrArg (V m c main_v33) ?_) (V_v33 m c j k l)
  funext a
  fin_cases a <;> apply Fin.ext <;> blk_simp [idx9]

section
variable (t : Fin cfg0.N) (r : Fin 256)
theorem row0 : row (iblk m c 0 t) r = (K m c).d (rown t.val r) := funext fun l => iblk0_at m c t r l
theorem row1 : row (iblk m c 1 t) r = (K m c).h (rown t.val r) := funext fun l => iblk1_at m c t r l
theorem row2 : row (iblk m c 2 t) r = (K m c).f (rown t.val r) := funext fun l => iblk2_at m c t r l
theorem hid3 : hid (iblk m c 3 t) r = (K m c).a (rown t.val r) := funext fun j => funext fun k => iblk3_at m c t j r k
theorem hid4 : hid (iblk m c 4 t) r = (K m c).b (rown t.val r) := funext fun j => funext fun k => iblk4_at m c t j r k
theorem gn5 : gn (iblk m c 5 t) = (K m c).pg := funext fun l => iblk5_at m c t l
theorem gn6 : gn (iblk m c 6 t) = (K m c).qg := funext fun l => iblk6_at m c t l
theorem wt7 : wt (iblk m c 7 t) = (K m c).wg := funext fun j => funext fun k => funext fun l => iblk7_at m c t j k l
theorem wt8 : wt (iblk m c 8 t) = (K m c).wu := funext fun j => funext fun k => funext fun l => iblk8_at m c t j k l
theorem wt9 : wt (iblk m c 9 t) = (K m c).wd := funext fun j => funext fun k => funext fun l => iblk9_at m c t j k l

theorem tp_at (l : Fin 1024) :
    ∑ r : Fin 256, rdn (rdf (row (iblk m c 0 t) r) (row (iblk m c 2 t) r) (gn (iblk m c 6 t))) (wt (iblk m c 9 t)) (wt (iblk m c 7 t)) (wt (iblk m c 8 t)) (hid (iblk m c 3 t) r) (hid (iblk m c 4 t) r) l
      * (row (iblk m c 1 t) r l * inv (row (iblk m c 1 t) r)) = ∑ r, (K m c).tp (rown t.val r) l := by
  refine Finset.sum_congr rfl fun r _ => ?_
  rw [row0, row1, row2, hid3, hid4, gn6, wt7, wt8, wt9]
  rfl
theorem tq_at (l : Fin 1024) :
    ∑ r : Fin 256, hlf (row (iblk m c 0 t) r l) * (row (iblk m c 2 t) r l * inv (row (iblk m c 2 t) r)) = ∑ r, (K m c).tq (rown t.val r) l := by
  refine Finset.sum_congr rfl fun r _ => ?_
  rw [row0, row2]
  rfl
end

theorem blk10 (t : Fin cfg0.N) (r : Fin 256) (l : Fin 1024) : (outsAt0 m c t.val t.isLt).1 (ix2 r l) = (K m c).dh (rown t.val r) l := by
  by_cases h0 : t.val % 16 = 0
  · rw [outsAt0_A m c t h0]
    dsimp only
    rw [out10A, iblk0_at, row0, row1, row2, hid3, hid4, gn5, gn6, wt7, wt8, wt9]
    rfl
  · rw [outsAt0_B m c t h0]
    dsimp only
    rw [out10B, iblk0_at, row0, row1, row2, hid3, hid4, gn5, gn6, wt7, wt8, wt9]
    rfl

theorem blk11 (t : Fin cfg0.N) (r : Fin 256) (l : Fin 1024) : (outsAt0 m c t.val t.isLt).2.1 (ix2 r l) = (K m c).df (rown t.val r) l := by
  by_cases h0 : t.val % 16 = 0
  · rw [outsAt0_A m c t h0]
    dsimp only
    rw [out11A, row0, row2, gn6]
    rfl
  · rw [outsAt0_B m c t h0]
    dsimp only
    rw [out11B, row0, row2, gn6]
    rfl

theorem blk12 (t : Fin cfg0.N) (j : Fin 4) (r : Fin 256) (k : Fin 704) : (outsAt0 m c t.val t.isLt).2.2.1 (ix3 j r k) = (K m c).da (rown t.val r) j k := by
  by_cases h0 : t.val % 16 = 0
  · rw [outsAt0_A m c t h0]
    dsimp only
    rw [out12A, row0, row2, hid3, hid4, gn6, wt9]
    rfl
  · rw [outsAt0_B m c t h0]
    dsimp only
    rw [out12B, row0, row2, hid3, hid4, gn6, wt9]
    rfl

theorem blk13 (t : Fin cfg0.N) (j : Fin 4) (r : Fin 256) (k : Fin 704) : (outsAt0 m c t.val t.isLt).2.2.2.1 (ix3 j r k) = (K m c).db (rown t.val r) j k := by
  by_cases h0 : t.val % 16 = 0
  · rw [outsAt0_A m c t h0]
    dsimp only
    rw [out13A, row0, row2, hid3, gn6, wt9]
    rfl
  · rw [outsAt0_B m c t h0]
    dsimp only
    rw [out13B, row0, row2, hid3, gn6, wt9]
    rfl

theorem blk14 (t : Fin cfg0.N) (j : Fin 4) (r : Fin 256) (k : Fin 704) : (outsAt0 m c t.val t.isLt).2.2.2.2.1 (ix3 j r k) = (K m c).hh (rown t.val r) j k := by
  by_cases h0 : t.val % 16 = 0
  · rw [outsAt0_A m c t h0]
    dsimp only
    rw [out14A, hid3, hid4]
    rfl
  · rw [outsAt0_B m c t h0]
    dsimp only
    rw [out14B, hid3, hid4]
    rfl

theorem step15A (t : Fin cfg0.N) (h0 : t.val % 16 = 0) (l : Fin 1024) :
    (outsAt0 m c t.val t.isLt).2.2.2.2.2.1 (ix2 0 l) = 0 + ∑ r, (K m c).tp (rown t.val r) l := by
  rw [outsAt0_A m c t h0]
  dsimp only
  rw [out15A, tp_at]

theorem step15B (t : Fin cfg0.N) (h0 : ¬t.val % 16 = 0) (l : Fin 1024) :
    (outsAt0 m c t.val t.isLt).2.2.2.2.2.1 (ix2 0 l) = (outsAt0 m c (t.val - 1) (Nat.lt_of_le_of_lt (Nat.sub_le _ _) t.isLt)).2.2.2.2.2.1 (ix2 0 l) + ∑ r, (K m c).tp (rown t.val r) l := by
  rw [outsAt0_B m c t h0]
  dsimp only
  rw [out15B, tp_at]

theorem step16A (t : Fin cfg0.N) (h0 : t.val % 16 = 0) (l : Fin 1024) :
    (outsAt0 m c t.val t.isLt).2.2.2.2.2.2 (ix2 0 l) = 0 + ∑ r, (K m c).tq (rown t.val r) l := by
  rw [outsAt0_A m c t h0]
  dsimp only
  rw [out16A, tq_at]

theorem step16B (t : Fin cfg0.N) (h0 : ¬t.val % 16 = 0) (l : Fin 1024) :
    (outsAt0 m c t.val t.isLt).2.2.2.2.2.2 (ix2 0 l) = (outsAt0 m c (t.val - 1) (Nat.lt_of_le_of_lt (Nat.sub_le _ _) t.isLt)).2.2.2.2.2.2 (ix2 0 l) + ∑ r, (K m c).tq (rown t.val r) l := by
  rw [outsAt0_B m c t h0]
  dsimp only
  rw [out16B, tq_at]

attribute [local irreducible] outsAt0

theorem sum15 (l : Fin 1024) : ∀ (n : ℕ) (h : n < cfg0.N), (outsAt0 m c n h).2.2.2.2.2.1 (ix2 0 l) = ∑ s ∈ Finset.range (n + 1), ∑ r, (K m c).tp (rown s r) l
  | 0, h => by
    refine (step15A m c ⟨0, h⟩ rfl l).trans ?_
    rw [Finset.sum_range_succ, Finset.sum_range_zero]
  | n + 1, h => by
    have h' : n + 1 < 16 := h
    rw [Finset.sum_range_succ, ← sum15 l n (Nat.lt_of_succ_lt h)]
    exact step15B m c ⟨n + 1, h⟩ (show ¬(n + 1) % 16 = 0 by omega) l

theorem blk15 (t : Fin cfg0.N) (h : t.val = 15) (l : Fin 1024) : (outsAt0 m c t.val t.isLt).2.2.2.2.2.1 (ix2 0 l) = ∑ R, (K m c).tp R l := by
  rw [sum15 m c l t.val t.isLt, h, sum_rown]

theorem sum16 (l : Fin 1024) : ∀ (n : ℕ) (h : n < cfg0.N), (outsAt0 m c n h).2.2.2.2.2.2 (ix2 0 l) = ∑ s ∈ Finset.range (n + 1), ∑ r, (K m c).tq (rown s r) l
  | 0, h => by
    refine (step16A m c ⟨0, h⟩ rfl l).trans ?_
    rw [Finset.sum_range_succ, Finset.sum_range_zero]
  | n + 1, h => by
    have h' : n + 1 < 16 := h
    rw [Finset.sum_range_succ, ← sum16 l n (Nat.lt_of_succ_lt h)]
    exact step16B m c ⟨n + 1, h⟩ (show ¬(n + 1) % 16 = 0 by omega) l

theorem blk16 (t : Fin cfg0.N) (h : t.val = 15) (l : Fin 1024) : (outsAt0 m c t.val t.isLt).2.2.2.2.2.2 (ix2 0 l) = ∑ R, (K m c).tq R l := by
  rw [sum16 m c l t.val t.isLt, h, sum_rown]

theorem emb10 (t : Fin cfg0.N) (r : Fin 256) (l : Fin 1024) : (win0_10.blk t).view.emb (ix2 r l) = ix2 (n0 := 4096) (n1 := 1024) (rown t.val r) l := by
  funext a
  fin_cases a <;> apply Fin.ext
  · refine Eq.trans ?_ (rown_at t r).symm
    blk_simp [idx10]; rfl
  · blk_simp [idx10]; rfl

theorem emb11 (t : Fin cfg0.N) (r : Fin 256) (l : Fin 1024) : (win0_11.blk t).view.emb (ix2 r l) = ix2 (n0 := 4096) (n1 := 1024) (rown t.val r) l := by
  funext a
  fin_cases a <;> apply Fin.ext
  · refine Eq.trans ?_ (rown_at t r).symm
    blk_simp [idx11]; rfl
  · blk_simp [idx11]; rfl

theorem emb12 (t : Fin cfg0.N) (j : Fin 4) (r : Fin 256) (k : Fin 704) : (win0_12.blk t).view.emb (ix3 j r k) = ix3 (n0 := 4) (n1 := 4096) (n2 := 704) j (rown t.val r) k := by
  funext a
  fin_cases a <;> apply Fin.ext
  · blk_simp [idx12]; rfl
  · refine Eq.trans ?_ (rown_at t r).symm
    blk_simp [idx12]; rfl
  · blk_simp [idx12]; rfl

theorem emb13 (t : Fin cfg0.N) (j : Fin 4) (r : Fin 256) (k : Fin 704) : (win0_13.blk t).view.emb (ix3 j r k) = ix3 (n0 := 4) (n1 := 4096) (n2 := 704) j (rown t.val r) k := by
  funext a
  fin_cases a <;> apply Fin.ext
  · blk_simp [idx13]; rfl
  · refine Eq.trans ?_ (rown_at t r).symm
    blk_simp [idx13]; rfl
  · blk_simp [idx13]; rfl

theorem emb14 (t : Fin cfg0.N) (j : Fin 4) (r : Fin 256) (k : Fin 704) : (win0_14.blk t).view.emb (ix3 j r k) = ix3 (n0 := 4) (n1 := 4096) (n2 := 704) j (rown t.val r) k := by
  funext a
  fin_cases a <;> apply Fin.ext
  · blk_simp [idx14]; rfl
  · refine Eq.trans ?_ (rown_at t r).symm
    blk_simp [idx14]; rfl
  · blk_simp [idx14]; rfl

theorem emb15 (t : Fin cfg0.N) (l : Fin 1024) : (win0_15.blk t).view.emb (ix2 (n0 := 1) 0 l) = ix2 (n0 := 1) (n1 := 1024) 0 l := by
  funext a
  fin_cases a <;> apply Fin.ext <;> blk_simp [idx15]

theorem emb16 (t : Fin cfg0.N) (l : Fin 1024) : (win0_16.blk t).view.emb (ix2 (n0 := 1) 0 l) = ix2 (n0 := 1) (n1 := 1024) 0 l := by
  funext a
  fin_cases a <;> apply Fin.ext <;> blk_simp [idx16]

theorem arr10 : (dats m 0 c).arrAt 10 cfg0.N = fun i : S4096x1024.Idx => (K m c).dh (i 0) (i 1) := by
  refine (dats m 0 c).arrAt_eq_of_covers 10 _ (by decide +kernel) fun t hf y => ?_
  blk_simp
  rw [after0_10]
  obtain ⟨r, l, rfl⟩ : ∃ (r : Fin 256) (l : Fin 1024), y = ix2 r l := ⟨_, _, eq_ix2 y⟩
  exact (blk10 m c t r l).trans (congrArg (fun i : S4096x1024.Idx => (K m c).dh (i 0) (i 1)) (emb10 t r l)).symm

theorem arr11 : (dats m 0 c).arrAt 11 cfg0.N = fun i : S4096x1024.Idx => (K m c).df (i 0) (i 1) := by
  refine (dats m 0 c).arrAt_eq_of_covers 11 _ (by decide +kernel) fun t hf y => ?_
  blk_simp
  rw [after0_11]
  obtain ⟨r, l, rfl⟩ : ∃ (r : Fin 256) (l : Fin 1024), y = ix2 r l := ⟨_, _, eq_ix2 y⟩
  exact (blk11 m c t r l).trans (congrArg (fun i : S4096x1024.Idx => (K m c).df (i 0) (i 1)) (emb11 t r l)).symm

theorem arr12 : (dats m 0 c).arrAt 12 cfg0.N = fun i : S4x4096x704.Idx => (K m c).da (i 1) (i 0) (i 2) := by
  refine (dats m 0 c).arrAt_eq_of_covers 12 _ (by decide +kernel) fun t hf y => ?_
  blk_simp
  rw [after0_12]
  obtain ⟨j, r, k, rfl⟩ : ∃ (j : Fin 4) (r : Fin 256) (k : Fin 704), y = ix3 j r k := ⟨_, _, _, eq_ix3 y⟩
  exact (blk12 m c t j r k).trans (congrArg (fun i : S4x4096x704.Idx => (K m c).da (i 1) (i 0) (i 2)) (emb12 t j r k)).symm

theorem arr13 : (dats m 0 c).arrAt 13 cfg0.N = fun i : S4x4096x704.Idx => (K m c).db (i 1) (i 0) (i 2) := by
  refine (dats m 0 c).arrAt_eq_of_covers 13 _ (by decide +kernel) fun t hf y => ?_
  blk_simp
  rw [after0_13]
  obtain ⟨j, r, k, rfl⟩ : ∃ (j : Fin 4) (r : Fin 256) (k : Fin 704), y = ix3 j r k := ⟨_, _, _, eq_ix3 y⟩
  exact (blk13 m c t j r k).trans (congrArg (fun i : S4x4096x704.Idx => (K m c).db (i 1) (i 0) (i 2)) (emb13 t j r k)).symm

theorem arr14 : (dats m 0 c).arrAt 14 cfg0.N = fun i : S4x4096x704.Idx => (K m c).hh (i 1) (i 0) (i 2) := by
  refine (dats m 0 c).arrAt_eq_of_covers 14 _ (by decide +kernel) fun t hf y => ?_
  blk_simp
  rw [after0_14]
  obtain ⟨j, r, k, rfl⟩ : ∃ (j : Fin 4) (r : Fin 256) (k : Fin 704), y = ix3 j r k := ⟨_, _, _, eq_ix3 y⟩
  exact (blk14 m c t j r k).trans (congrArg (fun i : S4x4096x704.Idx => (K m c).hh (i 1) (i 0) (i 2)) (emb14 t j r k)).symm

theorem arr15 : (dats m 0 c).arrAt 15 cfg0.N = fun i : S1x1024.Idx => ∑ R, (K m c).tp R (i 1) := by
  refine (dats m 0 c).arrAt_eq_of_covers 15 _ (by decide +kernel) fun t hf y => ?_
  have ht : t.val = 15 := by
    have h4 : t.val < 16 := t.isLt
    have h3 := (flush0_15 t).mp hf
    omega
  blk_simp
  rw [after0_15]
  obtain ⟨u, l, rfl⟩ : ∃ (u : Fin 1) (l : Fin 1024), y = ix2 u l := ⟨_, _, eq_ix2 y⟩
  obtain rfl : u = 0 := Subsingleton.elim _ _
  exact (blk15 m c t ht l).trans (congrArg (fun i : S1x1024.Idx => ∑ R, (K m c).tp R (i 1)) (emb15 t l)).symm

theorem arr16 : (dats m 0 c).arrAt 16 cfg0.N = fun i : S1x1024.Idx => ∑ R, (K m c).tq R (i 1) := by
  refine (dats m 0 c).arrAt_eq_of_covers 16 _ (by decide +kernel) fun t hf y => ?_
  have ht : t.val = 15 := by
    have h4 : t.val < 16 := t.isLt
    have h3 := (flush0_16 t).mp hf
    omega
  blk_simp
  rw [after0_16]
  obtain ⟨u, l, rfl⟩ : ∃ (u : Fin 1) (l : Fin 1024), y = ix2 u l := ⟨_, _, eq_ix2 y⟩
  obtain rfl : u = 0 := Subsingleton.elim _ _
  exact (blk16 m c t ht l).trans (congrArg (fun i : S1x1024.Idx => ∑ R, (K m c).tq R (i 1)) (emb16 t l)).symm

end Cert.FfnBwd
-- ==== Proof.FfnBwdRef.lean ====
/- The reference of the feed-forward layer's backward pass, read at an index. -/
module

public import proofs.«01_k».proof.Proof.Gen.Reference3Ideal.Run
public import proofs.«01_k».proof.Proof.FfnBwdSpec

@[expose] public section

set_option maxRecDepth 16384

noncomputable section

namespace Cert.FfnBwd.Args

open Cert.Ffn

/-- Every argument is a real number. -/
structure Real (A : Args) : Prop where
  d : ∀ r l, Re (A.d r l)
  h : ∀ r l, Re (A.h r l)
  pg : ∀ l, Re (A.pg l)
  qg : ∀ l, Re (A.qg l)
  wg : ∀ j k l, Re (A.wg j k l)
  wu : ∀ j k l, Re (A.wu j k l)
  wd : ∀ j k l, Re (A.wd j k l)

variable {A : Args} (H : A.Real) (r : Fin 4096)
include H

theorem Real.x (l : Fin 1024) : Re (A.x r l) := Re.rms (H.h r) H.pg l
theorem Real.a (j : Fin 4) (k : Fin 704) : Re (A.a r j k) := show Re (∑ l, A.x r l * A.wg j k l) from Re.sum fun l => (H.x r l).mul (H.wg j k l)
theorem Real.b (j : Fin 4) (k : Fin 704) : Re (A.b r j k) := show Re (∑ l, A.x r l * A.wu j k l) from Re.sum fun l => (H.x r l).mul (H.wu j k l)
theorem Real.f (l : Fin 1024) : Re (A.f r l) := show Re (∑ j, ∑ k, gated (A.a r j k) (A.b r j k) * A.wd j k l) from Re.sum fun j => Re.sum fun k => (Re.gated (H.a r j k) (H.b r j k)).mul (H.wd j k l)
theorem Real.hd (l : Fin 1024) : Re (hlf (A.d r l)) := Re.half.mul (H.d r l)
theorem Real.df (l : Fin 1024) : Re (A.df r l) := Re.rmsb (H.hd r) (H.f r) H.qg l
theorem Real.hid (j : Fin 4) (k : Fin 704) : Re (dhid (A.df r) A.wd j k) := Re.sum fun l => (H.df r l).mul (H.wd j k l)
theorem Real.da (j : Fin 4) (k : Fin 704) : Re (A.da r j k) := Re.gdu (H.hid r j k) (H.a r j k) (H.b r j k)
theorem Real.db (j : Fin 4) (k : Fin 704) : Re (A.db r j k) := Re.gdd (H.hid r j k) (H.a r j k)
theorem Real.dn (l : Fin 1024) : Re (A.dn r l) :=
  show Re (∑ j, (∑ k, A.da r j k * A.wg j k l + ∑ k, A.db r j k * A.wu j k l)) from Re.sum fun j => (Re.sum fun k => (H.da r j k).mul (H.wg j k l)).add (Re.sum fun k => (H.db r j k).mul (H.wu j k l))

end Cert.FfnBwd.Args

namespace Cert.FfnBwdRef

open Cert.Ffn Cert.FfnBwd Cert.Reference3Ideal Cert.Reference3Ideal.Gen Cert.Reference3Ideal.Value Idealize.ShloMosaic Idealize.ShloMosaic.TcCoe Idealize.SL.Sem

/-- The mean squares of the rows. -/
def msv (h : Vec Ideal S4096x1024 .f32) : Vec Ideal S4096x1 .f32 :=
  addf (F := Ideal) (φ := .f32) (Host.divf (broadcastInDim S4096x1 ![0] bcast_S4096_S4096x1_0 (Host.reduceAdd (F := Ideal) (mulf (F := Ideal) (φ := .f32) h h) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))
theorem msv_at (h : Vec Ideal S4096x1024 .f32) (r : Fin 4096) : msv h (ix2 r 0) = ms fun l => h (ix2 r l) := by
  pointwise [msv]
  rfl

def inv1 (v : Vec Ideal S4096x1 .f32) : Vec Ideal S4096x1 .f32 := Host.rsqrt (F := Ideal) (φ := .f32) v
theorem inv1_at (h : Vec Ideal S4096x1024 .f32) (r : Fin 4096) : inv1 (msv h) (ix2 r 0) = inv fun l => h (ix2 r l) := by
  have e (v : Vec Ideal S4096x1 .f32) : inv1 v (ix2 r 0) = Ideal.rsqrt (v (ix2 r 0)) := by pointwise [inv1]
  rw [e, msv_at]
  rfl

/-- The rows times a number for each row. -/
def scr (h : Vec Ideal S4096x1024 .f32) (v : Vec Ideal S4096x1 .f32) : Vec Ideal S4096x1024 .f32 :=
  mulf (F := Ideal) (φ := .f32) h (broadcastInDim S4096x1024 ![0, 1] bcast_S4096x1_S4096x1024_0_1 v)
theorem scr_at (h : Vec Ideal S4096x1024 .f32) (v : Vec Ideal S4096x1 .f32) (r : Fin 4096) (l : Fin 1024) : scr h v (ix2 r l) = h (ix2 r l) * v (ix2 r 0) := by
  pointwise [scr]

/-- The rows times a gain. -/
def scg (h : Vec Ideal S4096x1024 .f32) (g : Vec Ideal S1024 .f32) : Vec Ideal S4096x1024 .f32 :=
  mulf (F := Ideal) (φ := .f32) h (broadcastInDim S4096x1024 ![0, 1] bcast_S1x1024_S4096x1024_0_1 (broadcastInDim S1x1024 ![1] bcast_S1024_S1x1024_1 g))
theorem scg_at (h : Vec Ideal S4096x1024 .f32) (g : Vec Ideal S1024 .f32) (r : Fin 4096) (l : Fin 1024) : scg h g (ix2 r l) = h (ix2 r l) * g (ix1 l) := by
  pointwise [scg]

/-- The products, each over an array of zeros. -/
def up (x : Vec Ideal S4096x1024 .f32) (w : Vec Ideal S1024x2816 .f32) : Vec Ideal S4096x2816 .f32 :=
  addf (F := Ideal) (φ := .f32) (Host.dotGeneral (F := Ideal) (φ₁ := .f32) (φ₂ := .f32) dot_S4096x1024_S1024x2816_S4096x2816_1_0_0_1_n_n none x w) (broadcastInDim S4096x2816 ![] bcast_S_S4096x2816 (constant S_ .f32 0x00000000#32))
theorem up_at (x : Vec Ideal S4096x1024 .f32) (w : Vec Ideal S1024x2816 .f32) (r : Fin 4096) (n : Fin 2816) : up x w (ix2 r n) = ∑ l, x (ix2 r l) * w (ix2 l n) := by
  pointwise [up]
def dwn (x : Vec Ideal S4096x2816 .f32) (w : Vec Ideal S2816x1024 .f32) : Vec Ideal S4096x1024 .f32 :=
  addf (F := Ideal) (φ := .f32) (Host.dotGeneral (F := Ideal) (φ₁ := .f32) (φ₂ := .f32) dot_S4096x2816_S2816x1024_S4096x1024_1_0_0_1_n_n none x w) (broadcastInDim S4096x1024 ![] bcast_S_S4096x1024 (constant S_ .f32 0x00000000#32))
theorem dwn_at (x : Vec Ideal S4096x2816 .f32) (w : Vec Ideal S2816x1024 .f32) (r : Fin 4096) (l : Fin 1024) : dwn x w (ix2 r l) = ∑ n, x (ix2 r n) * w (ix2 n l) := by
  pointwise [dwn]
/-- The products with the weights turned. -/
def upT (x : Vec Ideal S4096x1024 .f32) (w : Vec Ideal S2816x1024 .f32) : Vec Ideal S4096x2816 .f32 :=
  Host.dotGeneral (F := Ideal) (φ₁ := .f32) (φ₂ := .f32) dot_S4096x1024_S2816x1024_S4096x2816_1_1_0_0_n_n none x w
theorem upT_at (x : Vec Ideal S4096x1024 .f32) (w : Vec Ideal S2816x1024 .f32) (r : Fin 4096) (n : Fin 2816) : upT x w (ix2 r n) = ∑ l, x (ix2 r l) * w (ix2 n l) := by
  pointwise [upT]
def dwnT (x : Vec Ideal S4096x2816 .f32) (w : Vec Ideal S1024x2816 .f32) : Vec Ideal S4096x1024 .f32 :=
  Host.dotGeneral (F := Ideal) (φ₁ := .f32) (φ₂ := .f32) dot_S4096x2816_S1024x2816_S4096x1024_1_1_0_0_n_n none x w
theorem dwnT_at (x : Vec Ideal S4096x2816 .f32) (w : Vec Ideal S1024x2816 .f32) (r : Fin 4096) (l : Fin 1024) : dwnT x w (ix2 r l) = ∑ n, x (ix2 r n) * w (ix2 l n) := by
  pointwise [dwnT]

/-- The logistic function. -/
def lgv (a : Vec Ideal S4096x2816 .f32) : Vec Ideal S4096x2816 .f32 :=
  Host.divf (F := Ideal) (broadcastInDim S4096x2816 ![] bcast_S_S4096x2816 (constant S_ .f32 0x3F800000#32)) (addf (F := Ideal) (φ := .f32) (broadcastInDim S4096x2816 ![] bcast_S_S4096x2816 (constant S_ .f32 0x3F800000#32)) (Host.exp (Host.negf (F := Ideal) a)))
theorem lgv_at (a : Vec Ideal S4096x2816 .f32) (r : Fin 4096) (n : Fin 2816) : lgv a (ix2 r n) = Ideal.logistic (a (ix2 r n)) := by
  pointwise [lgv, Ideal.logistic]

/-- The gate's cotangents. -/
def dav (a b d s : Vec Ideal S4096x2816 .f32) : Vec Ideal S4096x2816 .f32 :=
  addf (F := Ideal) (φ := .f32) (mulf (F := Ideal) (φ := .f32) (mulf (F := Ideal) (φ := .f32) d b) s) (mulf (F := Ideal) (φ := .f32) (mulf (F := Ideal) (φ := .f32) a (mulf (F := Ideal) (φ := .f32) d b)) (mulf (F := Ideal) (φ := .f32) s (subf (F := Ideal) (φ := .f32) (broadcastInDim S4096x2816 ![] bcast_S_S4096x2816 (constant S_ .f32 0x3F800000#32)) s)))
theorem dav_at (a b d s : Vec Ideal S4096x2816 .f32) (r : Fin 4096) (n : Fin 2816) :
    dav a b d s (ix2 r n) = d (ix2 r n) * b (ix2 r n) * s (ix2 r n) + a (ix2 r n) * (d (ix2 r n) * b (ix2 r n)) * (s (ix2 r n) * (Ideal.ofBits FTy.f32 0x3F800000#32 - s (ix2 r n))) := by
  pointwise [dav]

/-- What of a row's cotangent passes through its mean square. -/
def thr (x gd : Vec Ideal S4096x1024 .f32) (u v : Vec Ideal S4096x1 .f32) : Vec Ideal S4096x1024 .f32 :=
  broadcastInDim S4096x1024 ![0] bcast_S4096_S4096x1024_0 (Host.reduceAdd (F := Ideal) (Host.divf (mulf (F := Ideal) (φ := .f32) (shapeCast _ (Host.reduceAdd (F := Ideal) (mulf (F := Ideal) (φ := .f32) x gd) (constant S_ .f32 0x00000000#32) reducesTo_S4096x1024_S4096_d1 h_S_) shapeCasts_S4096_S4096x1) (mulf (F := Ideal) (φ := .f32) (broadcastInDim S4096x1 ![] bcast_S_S4096x1 (constant S_ .f32 0xBF000000#32)) (Host.divf u v))) (broadcastInDim S4096x1 ![] bcast_S_S4096x1 (constant S_ .f32 0x44800000#32))) (constant S_ .f32 0x00000000#32) reducesTo_S4096x1_S4096_d1 h_S_)
theorem thr_at (x gd : Vec Ideal S4096x1024 .f32) (u v : Vec Ideal S4096x1 .f32) (r : Fin 4096) (l : Fin 1024) :
    thr x gd u v (ix2 r l) = Ideal.div ((∑ k, x (ix2 r k) * gd (ix2 r k)) * (Ideal.ofBits FTy.f32 0xBF000000#32 * Ideal.div (u (ix2 r 0)) (v (ix2 r 0)))) (Ideal.ofBits FTy.f32 0x44800000#32) := by
  pointwise [thr]
  exact Fin.sum_univ_one _
theorem thr_ms (x gd : Vec Ideal S4096x1024 .f32) (r : Fin 4096) (l : Fin 1024) :
    thr x gd (inv1 (msv x)) (msv x) (ix2 r l) = through (fun k => x (ix2 r k)) fun k => gd (ix2 r k) := by
  rw [thr_at, inv1_at, msv_at]
  rfl

/-- Half of the output's cotangent. -/
def hlv (d : Vec Ideal S4096x1024 .f32) : Vec Ideal S4096x1024 .f32 :=
  mulf (F := Ideal) (φ := .f32) (broadcastInDim S4096x1024 ![] bcast_S_S4096x1024 (constant S_ .f32 0x3F000000#32)) (shapeCast S4096x1024 d shapeCasts_S4096x1024_S4096x1024)
theorem hlv_at (d : Vec Ideal S4096x1024 .f32) (r : Fin 4096) (l : Fin 1024) : hlv d (ix2 r l) = hlf (d (ix2 r l)) := by
  have e : shapeCast S4096x1024 d shapeCasts_S4096x1024_S4096x1024 = d := by
    funext i
    obtain ⟨r, l, rfl⟩ : ∃ (r : Fin 4096) (l : Fin 1024), i = ix2 r l := ⟨_, _, eq_ix2 i⟩
    pointwise []
  unfold hlv
  rw [e]
  pointwise []

/-- The sum of the rows, as one row. -/
def colsum (x : Vec Ideal S4096x1024 .f32) : Vec Ideal S1x1024 .f32 :=
  shapeCast S1x1024 (Host.reduceAdd (F := Ideal) (shapeCast S1x1024 (Host.reduceAdd (F := Ideal) x (constant S_ .f32 0x00000000#32) reducesTo_S4096x1024_S1024_d0 h_S_) shapeCasts_S1024_S1x1024) (constant S_ .f32 0x00000000#32) reducesTo_S1x1024_S1024_d0 h_S_) shapeCasts_S1024_S1x1024
theorem colsum_at (x : Vec Ideal S4096x1024 .f32) (l : Fin 1024) : colsum x (ix2 0 l) = ∑ r, x (ix2 r l) := by
  pointwise [colsum]
  exact Fin.sum_univ_one _

def shards (a : Vec Ideal S4096x2816 .f32) : Vec Ideal S4x4096x704 .bf16 :=
  truncf (F := Ideal) .bf16 (transpose S4x4096x704 [1, 0, 2] (shapeCast S4096x4x704 a shapeCasts_S4096x2816_S4096x4x704) transposes_S4096x4x704_S4x4096x704_1_0_2) bitsLt_bf16_f32
theorem shards_at (a : Vec Ideal S4096x2816 .f32) (j : Fin 4) (r : Fin 4096) (k : Fin 704) : shards a (ix3 j r k) = a (ix2 r (col j k)) := by
  pointwise [shards, col]

variable (m : (ℓ : Loc nD τ sig) → Buf (Elt Ideal) ℓ) (c : Dev nD)

abbrev a0 : Vec Ideal S4096x1024 .f32 := m ((c.tc : Thread nD τ).loc main_arg0)
abbrev a1 : Vec Ideal S4096x1024 .f32 := m ((c.tc : Thread nD τ).loc main_arg1)
abbrev a2 : Vec Ideal S1024 .f32 := m ((c.tc : Thread nD τ).loc main_arg2)
abbrev a3 : Vec Ideal S1024 .f32 := m ((c.tc : Thread nD τ).loc main_arg3)
abbrev a4 : Vec Ideal S1024x2816 .f32 := m ((c.tc : Thread nD τ).loc main_arg4)
abbrev a5 : Vec Ideal S1024x2816 .f32 := m ((c.tc : Thread nD τ).loc main_arg5)
abbrev a6 : Vec Ideal S2816x1024 .f32 := m ((c.tc : Thread nD τ).loc main_arg6)

/-- The reference's arguments. -/
def R : Args where
  d r l := a0 m c (ix2 r l)
  h r l := a1 m c (ix2 r l)
  pg l := a2 m c (ix1 l)
  qg l := a3 m c (ix1 l)
  wg j k l := a4 m c (ix2 l (col j k))
  wu j k l := a5 m c (ix2 l (col j k))
  wd j k l := a6 m c (ix2 (col j k) l)

/-- The reference's arrays, from its arguments to its results. -/
def nh : Vec Ideal S4096x1024 .f32 := scr (a1 m c) (inv1 (msv (a1 m c)))
def gs : Vec Ideal S4096x2816 .f32 := up (scg (nh m c) (a2 m c)) (a4 m c)
def us : Vec Ideal S4096x2816 .f32 := up (scg (nh m c) (a2 m c)) (a5 m c)
def sl : Vec Ideal S4096x2816 .f32 := mulf (F := Ideal) (φ := .f32) (gs m c) (lgv (gs m c))
def hs : Vec Ideal S4096x2816 .f32 := mulf (F := Ideal) (φ := .f32) (sl m c) (us m c)
def fs : Vec Ideal S4096x1024 .f32 := dwn (hs m c) (a6 m c)
def nf : Vec Ideal S4096x1024 .f32 := scr (fs m c) (inv1 (msv (fs m c)))
def gf : Vec Ideal S4096x1024 .f32 := scg (hlv (a0 m c)) (a3 m c)
def tf : Vec Ideal S4096x1024 .f32 := thr (fs m c) (gf m c) (inv1 (msv (fs m c))) (msv (fs m c))
def dfs : Vec Ideal S4096x1024 .f32 :=
  addf (F := Ideal) (φ := .f32) (addf (F := Ideal) (φ := .f32) (scr (gf m c) (inv1 (msv (fs m c)))) (mulf (F := Ideal) (φ := .f32) (fs m c) (tf m c))) (mulf (F := Ideal) (φ := .f32) (tf m c) (fs m c))
def ds : Vec Ideal S4096x2816 .f32 := upT (dfs m c) (a6 m c)
def dbs : Vec Ideal S4096x2816 .f32 := mulf (F := Ideal) (φ := .f32) (sl m c) (ds m c)
def das : Vec Ideal S4096x2816 .f32 := dav (gs m c) (us m c) (ds m c) (lgv (gs m c))
def dns : Vec Ideal S4096x1024 .f32 := addf (F := Ideal) (φ := .f32) (dwnT (dbs m c) (a5 m c)) (dwnT (das m c) (a4 m c))
def gn : Vec Ideal S4096x1024 .f32 := scg (dns m c) (a2 m c)
def tn : Vec Ideal S4096x1024 .f32 := thr (a1 m c) (gn m c) (inv1 (msv (a1 m c))) (msv (a1 m c))
def dhs : Vec Ideal S4096x1024 .f32 :=
  addf (F := Ideal) (φ := .f32) (addf (F := Ideal) (φ := .f32) (addf (F := Ideal) (φ := .f32) (a0 m c) (scr (gn m c) (inv1 (msv (a1 m c))))) (mulf (F := Ideal) (φ := .f32) (a1 m c) (tn m c))) (mulf (F := Ideal) (φ := .f32) (tn m c) (a1 m c))
def dps : Vec Ideal S1x1024 .f32 := colsum (mulf (F := Ideal) (φ := .f32) (nh m c) (dns m c))
def dqs : Vec Ideal S1x1024 .f32 := colsum (mulf (F := Ideal) (φ := .f32) (nf m c) (hlv (a0 m c)))

theorem run' (ρ : Dev nD → PrngReg) :
    θ_run defs (onTc (τ := τ) (main (F := Ideal))) ⟨m, fun _ => 0, ρ⟩ fun r => ∀ c : Dev nD,
      r.2.mem ((c.tc : Thread nD τ).loc main_v95) = dhs m c
      ∧ r.2.mem ((c.tc : Thread nD τ).loc main_v96) = truncf (F := Ideal) .bf16 (dfs m c) bitsLt_bf16_f32
      ∧ r.2.mem ((c.tc : Thread nD τ).loc main_v99) = shards (das m c)
      ∧ r.2.mem ((c.tc : Thread nD τ).loc main_v102) = shards (dbs m c)
      ∧ r.2.mem ((c.tc : Thread nD τ).loc main_v105) = shards (hs m c)
      ∧ r.2.mem ((c.tc : Thread nD τ).loc main_v106) = dps m c
      ∧ r.2.mem ((c.tc : Thread nD τ).loc main_v107) = dqs m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  have e19 (c : Dev nD) : res_main_v19 (StableHlo.launchContents m c) = gs m c := rfl
  have e22 (c : Dev nD) : res_main_v22 (StableHlo.launchContents m c) = us m c := rfl
  have e20 (c : Dev nD) : res_main_v20_0 (StableHlo.launchContents m c) = sl m c := rfl
  have e23 (c : Dev nD) : res_main_v23 (StableHlo.launchContents m c) = hs m c := rfl
  have e25 (c : Dev nD) : res_main_v25 (StableHlo.launchContents m c) = fs m c := rfl
  have e52 (c : Dev nD) : res_main_v52 (StableHlo.launchContents m c) = gf m c := rfl
  have e63 (c : Dev nD) : res_main_v63 (StableHlo.launchContents m c) = tf m c := rfl
  have e67 (c : Dev nD) : res_main_v67 (StableHlo.launchContents m c) = dfs m c := rfl
  have e68 (c : Dev nD) : res_main_v68 (StableHlo.launchContents m c) = ds m c := rfl
  have e69 (c : Dev nD) : res_main_v69 (StableHlo.launchContents m c) = dbs m c := rfl
  have e72 (c : Dev nD) : res_main_v72 (StableHlo.launchContents m c) = das m c := rfl
  have e74 (c : Dev nD) : res_main_v74 (StableHlo.launchContents m c) = dns m c := rfl
  have e79 (c : Dev nD) : res_main_v79 (StableHlo.launchContents m c) = gn m c := rfl
  have e91 (c : Dev nD) : res_main_v91 (StableHlo.launchContents m c) = tn m c := rfl
  refine (θ_run defs _ _).mono (fun _ h c => ?_) (Value.run m ρ)
  obtain ⟨h0, h1, h2, h3, h4, h5, h6, hr⟩ := h c
  rw [e79, e91] at h0
  rw [e67] at h1
  rw [e72] at h2
  rw [e69] at h3
  rw [e23] at h4
  rw [e74] at h5
  exact ⟨h0, h1, h2, h3, h4, h5, h6, hr⟩

section
variable (r : Fin 4096) (l : Fin 1024) (j : Fin 4) (k : Fin 704)

theorem nh_at : nh m c (ix2 r l) = (R m c).h r l * inv ((R m c).h r) := by
  unfold nh
  rw [scr_at, inv1_at]
  rfl
theorem xs_at : scg (nh m c) (a2 m c) (ix2 r l) = (R m c).x r l := by
  rw [scg_at, nh_at]
  rfl
theorem gs_at : gs m c (ix2 r (col j k)) = (R m c).a r j k := by
  unfold gs
  rw [up_at]
  simp only [xs_at]
  rfl
theorem us_at : us m c (ix2 r (col j k)) = (R m c).b r j k := by
  unfold us
  rw [up_at]
  simp only [xs_at]
  rfl
theorem mul_at (x y : Vec Ideal S4096x2816 .f32) (n : Fin 2816) : mulf (F := Ideal) (φ := .f32) x y (ix2 r n) = x (ix2 r n) * y (ix2 r n) := rfl
theorem mulD_at (x y : Vec Ideal S4096x1024 .f32) : mulf (F := Ideal) (φ := .f32) x y (ix2 r l) = x (ix2 r l) * y (ix2 r l) := rfl
theorem addD_at (x y : Vec Ideal S4096x1024 .f32) : addf (F := Ideal) (φ := .f32) x y (ix2 r l) = x (ix2 r l) + y (ix2 r l) := rfl
theorem sl_at : sl m c (ix2 r (col j k)) = (R m c).a r j k * Ideal.logistic ((R m c).a r j k) := by
  unfold sl
  rw [mul_at, lgv_at, gs_at]
theorem hs_at : hs m c (ix2 r (col j k)) = (R m c).hh r j k := by
  unfold hs
  rw [mul_at, sl_at, us_at]
  rfl
theorem fs_at : fs m c (ix2 r l) = (R m c).f r l := by
  unfold fs
  rw [dwn_at, sum_col]
  simp only [hs_at]
  rfl
theorem nf_at : nf m c (ix2 r l) = (R m c).f r l * inv ((R m c).f r) := by
  unfold nf
  rw [scr_at, inv1_at]
  simp only [fs_at]
theorem gf_at : gf m c (ix2 r l) = hlf ((R m c).d r l) * (R m c).qg l := by
  unfold gf
  rw [scg_at, hlv_at]
  rfl
theorem tf_at : tf m c (ix2 r l) = through ((R m c).f r) (fun k => hlf ((R m c).d r k) * (R m c).qg k) := by
  unfold tf
  rw [thr_ms]
  simp only [fs_at, gf_at]

variable {m c} (H : (R m c).Real)
include H

theorem dfs_at : dfs m c (ix2 r l) = (R m c).df r l := by
  unfold dfs
  rw [addD_at, addD_at, mulD_at, mulD_at, scr_at, inv1_at, tf_at, gf_at]
  simp only [fs_at]
  exact rmsb_ref (fun l => hlf ((R m c).d r l)) ((R m c).f r) (R m c).qg (H.f r) (fun l => (H.hd r l).mul (H.qg l)) l
theorem ds_at : ds m c (ix2 r (col j k)) = dhid ((R m c).df r) (R m c).wd j k := by
  unfold ds
  rw [upT_at]
  simp only [dfs_at r _ H]
  rfl
theorem dbs_at : dbs m c (ix2 r (col j k)) = (R m c).db r j k := by
  unfold dbs
  rw [mul_at, sl_at, ds_at r j k H, mul_comm]
  rfl
theorem das_at : das m c (ix2 r (col j k)) = (R m c).da r j k := by
  unfold das
  rw [dav_at, lgv_at, gs_at, us_at, ds_at r j k H]
  exact gdu_ref (H.hid r j k) (H.a r j k) (H.b r j k)
theorem dns_at : dns m c (ix2 r l) = (R m c).dn r l := by
  unfold dns
  rw [addD_at, dwnT_at, dwnT_at, sum_col, sum_col]
  simp only [dbs_at r _ _ H, das_at r _ _ H]
  rw [add_comm, ← Finset.sum_add_distrib]
  rfl
theorem gn_at : gn m c (ix2 r l) = (R m c).dn r l * (R m c).pg l := by
  unfold gn
  rw [scg_at, dns_at r l H]
  rfl
theorem tn_at : tn m c (ix2 r l) = through ((R m c).h r) (fun k => (R m c).dn r k * (R m c).pg k) := by
  unfold tn
  rw [thr_ms]
  simp only [gn_at r _ H]
  rfl
theorem dhs_at : dhs m c (ix2 r l) = (R m c).dh r l := by
  unfold dhs
  rw [addD_at, addD_at, addD_at, mulD_at, mulD_at, scr_at, inv1_at, tn_at r l H, gn_at r l H, add_assoc, add_assoc, ← add_assoc ((R m c).dn r l * _ * _)]
  exact congrArg ((R m c).d r l + ·) (rmsb_ref ((R m c).dn r) ((R m c).h r) (R m c).pg (H.h r) (fun l => (H.dn r l).mul (H.pg l)) l)
theorem dps_at : dps m c (ix2 0 l) = ∑ r, (R m c).tp r l := by
  unfold dps
  rw [colsum_at]
  refine Finset.sum_congr rfl fun r _ => ?_
  rw [mulD_at, nh_at, dns_at r l H, mul_comm]
  rfl
omit H in
theorem dqs_at : dqs m c (ix2 0 l) = ∑ r, (R m c).tq r l := by
  unfold dqs
  rw [colsum_at]
  refine Finset.sum_congr rfl fun r _ => ?_
  rw [mulD_at, nf_at, hlv_at, mul_comm]
  rfl
end

end Cert.FfnBwdRef
-- ==== Proof.FfnBwd.lean ====
/- The feed-forward layer's backward pass: on real arguments the kernel's seven arrays are the reference's. -/
module

public import proofs.«01_k».proof.Proof.FfnBwdArr
public import proofs.«01_k».proof.Proof.FfnBwdRef
public import proofs.«01_k».proof.Pre_finite_ffn
public import proofs.«01_k».proof.Defs
public import Idealize.ShloMosaic.Lib.ReduceAll
public import Idealize.ShloMosaic.Lib.WordCmp

@[expose] public section

set_option maxRecDepth 16384

noncomputable section

namespace Cert.FfnBwd

open Cert.Ffn Idealize.ShloMosaic Idealize.ShloMosaic.TcCoe Idealize.SL.Sem

/-- The side conditions of the precondition. -/
theorem pre_facts : Cert.Pre_finite_ffn.Facts where
  bcast_S_S4096x1024 := by decide +kernel
  reducesTo_S4096x1024_S_d0_1 := by decide +kernel
  h_S_ := by decide +kernel
  bcast_S_S1024 := by decide +kernel
  reducesTo_S1024_S_d0 := by decide +kernel
  bcast_S_S1024x2816 := by decide +kernel
  reducesTo_S1024x2816_S_d0_1 := by decide +kernel
  bcast_S_S2816x1024 := by decide +kernel
  reducesTo_S2816x1024_S_d0_1 := by decide +kernel

/-- An extended real whose absolute value is below infinity is a real number. -/
theorem re_of_lt {x : EReal} (h : Ideal.cmp .olt (max x (-x)) (Ideal.ofBits .f32 0x7F800000#32) = 1#1) : Re x := by
  have htop : Ideal.ofBits .f32 0x7F800000#32 = ⊤ := by simp [Ideal.ofBits, Ideal.ieee]
  rw [htop] at h
  induction x with
  | bot => exact absurd h (by simp [Ideal.cmp])
  | top => exact absurd h (by simp [Ideal.cmp])
  | coe r => exact ⟨r, rfl⟩

section
variable [Cert.Pre_finite_ffn.Facts]
open Cert.Pre_finite_ffn Cert.Pre_finite_ffn.Facts

/-- What the precondition asks of one argument. -/
abbrev allBelow {s : Shape} (hb : S_.BroadcastsInDim s (![] : Fin 0 → Fin s.rank)) {d : List (Fin s.rank)} (hr : s.ReducesTo d S_)
    (x : FVec Ideal s .f32) : IVec S_ 1 :=
  Host.reduce IntOp.andi (cmpf .olt (Host.absf x) (broadcastInDim s ![] hb (constant S_ .f32 0x7F800000#32))) (constantI S_ 1 1#1) hr h_S_

theorem allBelow_re {s : Shape} (hb : S_.BroadcastsInDim s (![] : Fin 0 → Fin s.rank)) {d : List (Fin s.rank)} (hr : s.ReducesTo d S_)
    (x : FVec Ideal s .f32) (j : S_.Idx) (h : allBelow hb hr x j = 1#1) (i : s.Idx) : Re (x i) :=
  haveI : Subsingleton S_.Idx := ⟨fun a b => funext fun k => k.elim0⟩
  re_of_lt (Host.reduce_andi_all _ _ hr h_S_ j h i)

theorem fn_re (x0 x1 : FVec Ideal S4096x1024 .f32) (x2 x3 : FVec Ideal S1024 .f32) (x4 x5 : FVec Ideal S1024x2816 .f32) (x6 : FVec Ideal S2816x1024 .f32)
    (h : Cert.Pre_finite_ffn.fn (F := Ideal) x0 x1 x2 x3 x4 x5 x6 = fun _ => 1#1) :
    (∀ i, Re (x0 i)) ∧ (∀ i, Re (x1 i)) ∧ (∀ i, Re (x2 i)) ∧ (∀ i, Re (x3 i)) ∧ (∀ i, Re (x4 i)) ∧ (∀ i, Re (x5 i)) ∧ (∀ i, Re (x6 i)) := by
  have e := congrFun h (Shape.Idx.first h_S_)
  change IntOp.andi (IntOp.andi (IntOp.andi (IntOp.andi (IntOp.andi (IntOp.andi (allBelow bcast_S_S4096x1024 reducesTo_S4096x1024_S_d0_1 x0 _)
    (allBelow bcast_S_S4096x1024 reducesTo_S4096x1024_S_d0_1 x1 _)) (allBelow bcast_S_S1024 reducesTo_S1024_S_d0 x2 _))
    (allBelow bcast_S_S1024 reducesTo_S1024_S_d0 x3 _)) (allBelow bcast_S_S1024x2816 reducesTo_S1024x2816_S_d0_1 x4 _))
    (allBelow bcast_S_S1024x2816 reducesTo_S1024x2816_S_d0_1 x5 _)) (allBelow bcast_S_S2816x1024 reducesTo_S2816x1024_S_d0_1 x6 _) = 1#1 at e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨allBelow_re _ _ x0 _ e0, allBelow_re _ _ x1 _ e1, allBelow_re _ _ x2 _ e2, allBelow_re _ _ x3 _ e3, allBelow_re _ _ x4 _ e4,
    allBelow_re _ _ x5 _ e5, allBelow_re _ _ x6 _ e6⟩
end

open Cert.Kernel3Ideal Cert.Kernel3Ideal.Gen

variable {m : (ℓ : Loc nD τ sig) → Buf (Elt Ideal) ℓ} {m' : (ℓ : Loc Cert.Reference3Ideal.nD Cert.Reference3Ideal.τ Cert.Reference3Ideal.sig) → Buf (Elt Ideal) ℓ} {c : Dev nD}

theorem real_of (h : Cert.Pre_Kernel3Ideal_finite_ffn (hPre_finite_ffn := pre_facts) m) : (K m c).Real :=
  haveI := pre_facts
  have e := fn_re _ _ _ _ _ _ _ (h c)
  { d := fun r l => e.1 (ix2 r l)
    h := fun r l => e.2.1 (ix2 r l)
    pg := fun l => e.2.2.1 (ix1 l)
    qg := fun l => e.2.2.2.1 (ix1 l)
    wg := fun j k l => e.2.2.2.2.1 (ix2 l (col j k))
    wu := fun j k l => e.2.2.2.2.2.1 (ix2 l (col j k))
    wd := fun j k l => e.2.2.2.2.2.2 (ix2 (col j k) l) }

theorem args_of (h0 : FfnBwdRef.a0 m' c = k0 m c) (h1 : FfnBwdRef.a1 m' c = k1 m c) (h2 : FfnBwdRef.a2 m' c = k2 m c) (h3 : FfnBwdRef.a3 m' c = k3 m c)
    (h4 : FfnBwdRef.a4 m' c = k4 m c) (h5 : FfnBwdRef.a5 m' c = k5 m c) (h6 : FfnBwdRef.a6 m' c = k6 m c) : FfnBwdRef.R m' c = K m c := by
  unfold FfnBwdRef.R K
  rw [h0, h1, h2, h3, h4, h5, h6]

section
variable (s : FfnBwdRef.R m' c = K m c) (H : (FfnBwdRef.R m' c).Real)
include s H

theorem dhs_eq : FfnBwdRef.dhs m' c = (dats m 0 c).arrAt 10 cfg0.N := by
  rw [arr10, ← s]
  funext i
  obtain ⟨r, l, rfl⟩ : ∃ (r : Fin 4096) (l : Fin 1024), i = ix2 r l := ⟨_, _, eq_ix2 i⟩
  exact FfnBwdRef.dhs_at r l H

theorem dfs_eq : truncf (F := Ideal) .bf16 (FfnBwdRef.dfs m' c) Cert.Reference3Ideal.Gen.bitsLt_bf16_f32 = (dats m 0 c).arrAt 11 cfg0.N := by
  rw [arr11, ← s]
  funext i
  obtain ⟨r, l, rfl⟩ : ∃ (r : Fin 4096) (l : Fin 1024), i = ix2 r l := ⟨_, _, eq_ix2 i⟩
  exact FfnBwdRef.dfs_at r l H

theorem das_eq : FfnBwdRef.shards (FfnBwdRef.das m' c) = (dats m 0 c).arrAt 12 cfg0.N := by
  rw [arr12, ← s]
  funext i
  obtain ⟨j, r, k, rfl⟩ : ∃ (j : Fin 4) (r : Fin 4096) (k : Fin 704), i = ix3 j r k := ⟨_, _, _, eq_ix3 i⟩
  exact (FfnBwdRef.shards_at _ j r k).trans (FfnBwdRef.das_at r j k H)

theorem dbs_eq : FfnBwdRef.shards (FfnBwdRef.dbs m' c) = (dats m 0 c).arrAt 13 cfg0.N := by
  rw [arr13, ← s]
  funext i
  obtain ⟨j, r, k, rfl⟩ : ∃ (j : Fin 4) (r : Fin 4096) (k : Fin 704), i = ix3 j r k := ⟨_, _, _, eq_ix3 i⟩
  exact (FfnBwdRef.shards_at _ j r k).trans (FfnBwdRef.dbs_at r j k H)

omit H in
theorem hhs_eq : FfnBwdRef.shards (FfnBwdRef.hs m' c) = (dats m 0 c).arrAt 14 cfg0.N := by
  rw [arr14, ← s]
  funext i
  obtain ⟨j, r, k, rfl⟩ : ∃ (j : Fin 4) (r : Fin 4096) (k : Fin 704), i = ix3 j r k := ⟨_, _, _, eq_ix3 i⟩
  exact (FfnBwdRef.shards_at _ j r k).trans (FfnBwdRef.hs_at m' c r j k)

theorem dps_eq : FfnBwdRef.dps m' c = (dats m 0 c).arrAt 15 cfg0.N := by
  rw [arr15, ← s]
  funext i
  obtain ⟨r, l, rfl⟩ : ∃ (r : Fin 1) (l : Fin 1024), i = ix2 r l := ⟨_, _, eq_ix2 i⟩
  obtain rfl : r = 0 := Subsingleton.elim _ _
  exact FfnBwdRef.dps_at l H

omit H in
theorem dqs_eq : FfnBwdRef.dqs m' c = (dats m 0 c).arrAt 16 cfg0.N := by
  rw [arr16, ← s]
  funext i
  obtain ⟨r, l, rfl⟩ : ∃ (r : Fin 1) (l : Fin 1024), i = ix2 r l := ⟨_, _, eq_ix2 i⟩
  obtain rfl : r = 0 := Subsingleton.elim _ _
  exact FfnBwdRef.dqs_at l
end

end Cert.FfnBwd

end
-- ==== Proof.DwBlock.lean ====
/- The weight gradient's kernel at one grid point: each shard of the sum it keeps takes in the point's product. -/
module

public import proofs.«01_k».proof.Proof.Gen.Kernel4Ideal.Frame
public import Idealize.ShloMosaic.Lib.Pipeline.ValueKit
public import Idealize.ShloMosaic.Lib.Pointwise

@[expose] public section

set_option maxRecDepth 16384

noncomputable section

namespace Cert.Dw

open Cert.Kernel4Ideal Cert.Kernel4Ideal.Gen Idealize.ShloMosaic Idealize.ShloMosaic.TcCoe Idealize.SL.Sem

/-- The rows of shard `k` of the sum. -/
abbrev Rs (k : ℕ) (inb : ∀ a : Fin 3, (![k, 0, 0] : Fin 3 → ℕ) a + (![1, 704, 1024] : Fin 3 → ℕ) a ≤ S4x704x1024.size a) : Rect S4x704x1024 :=
  Rect.unit (s := S4x704x1024) ![k, 0, 0] ![1, 704, 1024] inb

theorem emb_at (j : Fin 4) (t : Fin 704) (q : Fin 1024) (k : ℕ) (inb) (h : j.val = k) : (Rs k inb).emb (ix3 (n0 := 1) 0 t q) = ix3 (n0 := 4) (n1 := 704) (n2 := 1024) j t q := by
  subst h
  funext a; fin_cases a <;> apply Fin.ext <;> simp [Rect.emb_apply]

theorem hit (j : Fin 4) (t : Fin 704) (q : Fin 1024) (k : ℕ) (inb) (h : j.val = k) (w : Vec Ideal S1x704x1024 .f32) (L : List (View.Piece (Elt Ideal) S4x704x1024 .f32)) :
    View.canon ((⟨Rs k inb, w⟩ : View.Piece (Elt Ideal) S4x704x1024 .f32) :: L) (ix3 j t q) = w (ix3 0 t q) := by
  rw [← emb_at j t q k inb h]
  exact View.canon_cons_emb (Val := Elt Ideal) (Rs k inb) w L _

theorem miss (j : Fin 4) (t : Fin 704) (q : Fin 1024) (k : ℕ) (inb) (h : j.val ≠ k) (w : Vec Ideal S1x704x1024 .f32) (L : List (View.Piece (Elt Ideal) S4x704x1024 .f32)) :
    View.canon ((⟨Rs k inb, w⟩ : View.Piece (Elt Ideal) S4x704x1024 .f32) :: L) (ix3 j t q) = View.canon L (ix3 j t q) := by
  refine View.canon_cons_of_not_mem (Val := Elt Ideal) _ L ?_
  refine (Rs k inb).not_mem_set_of_axis _ 0 k 1 rfl rfl rfl ?_
  show j.val < k ∨ k + 1 ≤ j.val
  omega

theorem ld_at (j : Fin 4) (t : Fin 704) (q : Fin 1024) (k : ℕ) (inb) (h : j.val = k) (X : Vec Ideal S4x704x1024 .f32) :
    View.ld X (Rs k inb) (ix3 0 t q) = X (ix3 j t q) :=
  congrArg X (emb_at j t q k inb h)

variable (x0 : Vec Ideal S4x1024x704 .bf16) (x1 : Vec Ideal S1x1024x1024 .bf16) (xs0 : Vec Ideal S4x704x1024 .f32) (v : Vec Ideal S1x704x1024 .f32)

/-- One point's product: shard `j`, row `t`, column `q`. -/
def prod (j : Fin 4) (t : Fin 704) (q : Fin 1024) : EReal := ∑ s : Fin 1024, x0 (ix3 j s t) * x1 (ix3 0 s q)

theorem pay6_at (t : Fin 704) (q : Fin 1024) : k0_pay6 x0 x1 v (ix3 0 t q) = v (ix3 0 t q) + prod x0 x1 0 t q := by pointwise [k0_pay6, k0_pay5, prod]
theorem pay7_at (t : Fin 704) (q : Fin 1024) : k0_pay7 x0 x1 v (ix3 0 t q) = v (ix3 0 t q) + prod x0 x1 1 t q := by pointwise [k0_pay7, k0_pay5, prod]
theorem pay1_at (t : Fin 704) (q : Fin 1024) : k0_pay1 (k0_pay8 v) (k0_pay9 x0) (k0_pay10 x1) (ix3 0 t q) = v (ix3 0 t q) + prod x0 x1 2 t q := by
  pointwise [k0_pay1, k0_pay8, k0_pay9, k0_pay10, k0_pay5, prod]
theorem pay2_at (t : Fin 704) (q : Fin 1024) : k0_pay2 x0 (k0_pay5 x1) v (ix3 0 t q) = v (ix3 0 t q) + prod x0 x1 3 t q := by pointwise [k0_pay2, k0_pay5, prod]
theorem pay4_at (j : Fin 4) (t : Fin 704) (q : Fin 1024) : k0_pay4 (F := Ideal) (ix3 j t q) = 0 := by pointwise [k0_pay4]
theorem pay3_at (j : Fin 4) (t : Fin 704) (q : Fin 1024) : k0_pay3 xs0 (ix4 j 0 t q) = xs0 (ix3 j t q) := by pointwise [k0_pay3]

/-- The four stores of a point, over the pieces `L` before them, what shard `k` held read as `u k`. -/
def four (u : Fin 4 → Vec Ideal S1x704x1024 .f32) (L : List (View.Piece (Elt Ideal) S4x704x1024 .f32)) : List (View.Piece (Elt Ideal) S4x704x1024 .f32) :=
  ⟨Rs 3 inb_S4x704x1024_S1x704x1024_3_0_0, k0_pay2 x0 (k0_pay5 x1) (u 3)⟩ ::
  ⟨Rs 2 inb_S4x704x1024_S1x704x1024_2_0_0, k0_pay1 (k0_pay8 (u 2)) (k0_pay9 x0) (k0_pay10 x1)⟩ ::
  ⟨Rs 1 inb_S4x704x1024_S1x704x1024_1_0_0, k0_pay7 x0 x1 (u 1)⟩ ::
  ⟨Rs 0 inb_S4x704x1024_S1x704x1024_0_0_0, k0_pay6 x0 x1 (u 0)⟩ :: L

theorem four_at (u : Fin 4 → Vec Ideal S1x704x1024 .f32) (L : List (View.Piece (Elt Ideal) S4x704x1024 .f32)) (j : Fin 4) (t : Fin 704) (q : Fin 1024) :
    View.canon (four x0 x1 u L) (ix3 j t q) = u j (ix3 0 t q) + prod x0 x1 j t q := by
  unfold four
  match j with
  | 0 => rw [miss 0 t q 3 _ (by decide), miss 0 t q 2 _ (by decide), miss 0 t q 1 _ (by decide), hit 0 t q 0 _ rfl, pay6_at]
  | 1 => rw [miss 1 t q 3 _ (by decide), miss 1 t q 2 _ (by decide), hit 1 t q 1 _ rfl, pay7_at]
  | 2 => rw [miss 2 t q 3 _ (by decide), hit 2 t q 2 _ rfl, pay1_at]
  | 3 => rw [hit 3 t q 3 _ rfl, pay2_at]

variable (c : Dev nD) (i : grid0.Coords) (arg1 : Memref sig .tc .vmem S4x1024x704 .bf16) (harg1 : arg1.IsWhole) (arg2 : Memref sig .tc .vmem S1x1024x1024 .bf16) (harg2 : arg2.IsWhole) (arg4 : Memref sig .tc .vmem S4x1x704x1024 .bf16) (harg4 : arg4.IsWhole) (arg5 : Memref sig .tc .vmem S4x704x1024 .f32) (harg5 : arg5.IsWhole)

/-- The store that empties the sum. -/
abbrev zeroL : List (View.Piece (Elt Ideal) S4x704x1024 .f32) :=
  [⟨Rect.unit (s := S4x704x1024) ![0, 0, 0] ![4, 704, 1024] inb_S4x704x1024_S4x704x1024_0_0_0, k0_pay4 (F := Ideal)⟩]

theorem zeroL_at (j : Fin 4) (t : Fin 704) (q : Fin 1024) : View.canon zeroL (ix3 j t q) = 0 := by
  have z : (![0, 0, 0] : Fin 3 → ℕ) = fun _ => 0 := by
    funext a
    fin_cases a <;> rfl
  have e : View.canon zeroL = k0_pay4 (F := Ideal) :=
    View.canon_unit_zero (Val := Elt Ideal) (e := .f32) (S := S4x704x1024) z inb_S4x704x1024_S4x704x1024_0_0_0 (k0_pay4 (F := Ideal))
  exact (congrFun e _).trans (pay4_at j t q)

theorem whole0 : View.ld x0 (Rect.unit (s := S4x1024x704) ![0, 0, 0] ![4, 1024, 704] inb_S4x1024x704_S4x1024x704_0_0_0) = x0 :=
  View.ld_unit_zero (by funext a; fin_cases a <;> rfl) _ _
theorem whole1 : View.ld x1 (Rect.unit (s := S1x1024x1024) ![0, 0, 0] ![1, 1024, 1024] inb_S1x1024x1024_S1x1024x1024_0_0_0) = x1 :=
  View.ld_unit_zero (by funext a; fin_cases a <;> rfl) _ _

/-- A load of shard `k` after the stores `L`. -/
theorem cov_at (j : Fin 4) (t : Fin 704) (q : Fin 1024) (k : ℕ) (inb) (h : j.val = k) (L : List (View.Piece (Elt Ideal) S4x704x1024 .f32)) :
    View.readCov (Val := Elt Ideal) arg5.view L (Rs k inb).toLoadRect (ix3 0 t q) = View.canon L (ix3 j t q) :=
  (congrFun (View.readCov_eq_canon' arg5.view L (Rs k inb).toLoadRect) _).trans (congrArg (View.canon L) (emb_at j t q k inb h))

theorem listB (hc0 : ¬cond0_0 i) (hc1 : ¬cond0_1 i) : (kernelRun0_B c i arg1 harg1 arg2 harg2 arg4 harg4 arg5 harg5 hc0 hc1 x0 x1 xs0).2.1
      = four x0 x1 (fun k => View.ld xs0 (Rs k.val (by revert k; decide))) [] := by
  have e0 := harg1.read_unread x0
  have e1 := harg2.read_unread x1
  have e2 := harg5.read_unread xs0
  dsimp only [kernelRun0_B, kernelRun0_B.sl.r, kernelRun0_B.sl.r_1, kernelRun0_B.sl.v36, kernelRun0_B.sl.r_2, kernelRun0_B.sl.r_3, kernelRun0_B.sl.r_4, kernelRun0_B.sl.v16, kernelRun0_B.sl.v26]
  simp only [View.readAt_eq_ld, e0, e1, e2, whole0, whole1]
  rfl

theorem soutB (hc0 : ¬cond0_0 i) (hc1 : ¬cond0_1 i) (j : Fin 4) (t : Fin 704) (q : Fin 1024) :
    sout0_B_0 c i arg1 harg1 arg2 harg2 arg4 harg4 arg5 harg5 hc0 hc1 x0 x1 xs0 (ix3 j t q) = xs0 (ix3 j t q) + prod x0 x1 j t q := by
  refine (View.read_writes_junk_apply_eq_canon _ _ _).trans ?_
  rw [listB, four_at, ld_at j t q j.val _ rfl]

theorem listC (hc0 : ¬cond0_0 i) (hc1 : cond0_1 i) : (kernelRun0_C c i arg1 harg1 arg2 harg2 arg4 harg4 arg5 harg5 hc0 hc1 x0 x1 xs0).2.1
      = four x0 x1 (fun k => View.ld xs0 (Rs k.val (by revert k; decide))) [] := by
  have e0 := harg1.read_unread x0
  have e1 := harg2.read_unread x1
  have e2 := harg5.read_unread xs0
  dsimp only [kernelRun0_C, kernelRun0_C.sl.HS0_4, kernelRun0_C.sl.r, kernelRun0_C.sl.r_1, kernelRun0_C.sl.v36, kernelRun0_C.sl.r_2, kernelRun0_C.sl.r_3, kernelRun0_C.sl.r_4, kernelRun0_C.sl.v16, kernelRun0_C.sl.v26]
  simp only [View.readAt_eq_ld, e0, e1, e2, whole0, whole1]
  rfl

theorem soutC (hc0 : ¬cond0_0 i) (hc1 : cond0_1 i) (j : Fin 4) (t : Fin 704) (q : Fin 1024) :
    sout0_C_0 c i arg1 harg1 arg2 harg2 arg4 harg4 arg5 harg5 hc0 hc1 x0 x1 xs0 (ix3 j t q) = xs0 (ix3 j t q) + prod x0 x1 j t q := by
  refine (View.read_writes_junk_apply_eq_canon _ _ _).trans ?_
  rw [listC, four_at, ld_at j t q j.val _ rfl]

theorem outC (hc0 : ¬cond0_0 i) (hc1 : cond0_1 i) (j : Fin 4) (t : Fin 704) (q : Fin 1024) :
    out0_C_2 c i arg1 harg1 arg2 harg2 arg4 harg4 arg5 harg5 hc0 hc1 x0 x1 xs0 (ix4 j 0 t q) = xs0 (ix3 j t q) + prod x0 x1 j t q := by
  refine (View.read_writes_junk_apply_eq_canon _ _ _).trans ?_
  have e : (kernelRun0_C c i arg1 harg1 arg2 harg2 arg4 harg4 arg5 harg5 hc0 hc1 x0 x1 xs0).1
      = [⟨Rect.unit (s := S4x1x704x1024) ![0, 0, 0, 0] ![4, 1, 704, 1024] inb_S4x1x704x1024_S4x1x704x1024_0_0_0_0,
          k0_pay3 (View.readCov (Val := Elt Ideal) arg5.view (kernelRun0_C c i arg1 harg1 arg2 harg2 arg4 harg4 arg5 harg5 hc0 hc1 x0 x1 xs0).2.1
            (Rect.unit (s := S4x704x1024) ![0, 0, 0] ![4, 704, 1024] inb_S4x704x1024_S4x704x1024_0_0_0).toLoadRect)⟩] := rfl
  rw [e, View.canon_unit_zero (Val := Elt Ideal) (S := S4x1x704x1024) (by funext a; fin_cases a <;> rfl), pay3_at, View.readCov_eq_canon', listC]
  exact (congrFun (View.ld_unit_zero (S := S4x704x1024) (by funext a; fin_cases a <;> rfl) inb_S4x704x1024_S4x704x1024_0_0_0
    (View.canon (four x0 x1 (fun k => View.ld xs0 (Rs k.val (by revert k; decide))) []))) (ix3 j t q)).trans
      ((four_at x0 x1 _ _ j t q).trans (by rw [ld_at j t q j.val _ rfl]))

theorem listA (hc0 : cond0_0 i) (hc1 : ¬cond0_1 i) : ∃ u : Fin 4 → Vec Ideal S1x704x1024 .f32,
    (kernelRun0_A c i arg1 harg1 arg2 harg2 arg4 harg4 arg5 harg5 hc0 hc1 x0 x1).2.1 = four x0 x1 u zeroL
      ∧ ∀ (j : Fin 4) (t : Fin 704) (q : Fin 1024), u j (ix3 0 t q) = 0 := by
  have e0 := harg1.read_unread x0
  have e1 := harg2.read_unread x1
  dsimp only [kernelRun0_A, kernelRun0_A.sl.HS0_4, kernelRun0_A.sl.HS0_3, kernelRun0_A.sl.HS0_2, kernelRun0_A.sl.HS0_1, kernelRun0_A.sl.r, kernelRun0_A.sl.r_1, kernelRun0_A.sl.v36, kernelRun0_A.sl.r_2, kernelRun0_A.sl.r_3, kernelRun0_A.sl.r_4, kernelRun0_A.sl.v16, kernelRun0_A.sl.v26, kernelRun0_A.sl.v6]
  simp only [View.readAt_eq_ld, e0, e1, whole0, whole1]
  refine ⟨![_, _, _, _], rfl, ?_⟩
  intro j t q
  match j with
  | 0 => exact (cov_at arg5 0 t q 0 _ rfl _).trans (zeroL_at 0 t q)
  | 1 => exact (cov_at arg5 1 t q 1 _ rfl _).trans ((miss 1 t q 0 _ (by decide) _ _).trans (zeroL_at 1 t q))
  | 2 => exact (cov_at arg5 2 t q 2 _ rfl _).trans ((miss 2 t q 1 _ (by decide) _ _).trans ((miss 2 t q 0 _ (by decide) _ _).trans (zeroL_at 2 t q)))
  | 3 => exact (cov_at arg5 3 t q 3 _ rfl _).trans ((miss 3 t q 2 _ (by decide) _ _).trans ((miss 3 t q 1 _ (by decide) _ _).trans ((miss 3 t q 0 _ (by decide) _ _).trans (zeroL_at 3 t q))))

theorem soutA (hc0 : cond0_0 i) (hc1 : ¬cond0_1 i) (j : Fin 4) (t : Fin 704) (q : Fin 1024) :
    sout0_A_0 c i arg1 harg1 arg2 harg2 arg4 harg4 arg5 harg5 hc0 hc1 x0 x1 (ix3 j t q) = 0 + prod x0 x1 j t q := by
  obtain ⟨u, hu, h0⟩ := listA x0 x1 c i arg1 harg1 arg2 harg2 arg4 harg4 arg5 harg5 hc0 hc1
  refine (View.read_writes_junk_apply_eq_canon _ _ _).trans ?_
  rw [hu, four_at, h0]

end Cert.Dw
-- ==== Proof.DwArr.lean ====
module

public import proofs.«01_k».proof.Proof.DwBlock
public import Idealize.ShloMosaic.Lib.Pipeline.ValueKit

@[expose] public section

set_option maxRecDepth 16384

noncomputable section

namespace Cert.Dw

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The cotangent by shard, row and column, and the normed rows. -/
def ct (j : Fin 4) (r : Fin 4096) (t : Fin 704) : EReal := m ((c : Thread nD τ).loc main_arg0) (ix3 j r t)
def xn (r : Fin 4096) (q : Fin 1024) : EReal := m ((c : Thread nD τ).loc main_arg1) (ix2 r q)

theorem V_v0 (r : Fin 4096) (q : Fin 1024) : V m c main_v0 (ix3 0 r q) = xn m c r q := by
  have e : V m c main_v0 = broadcastInDim S1x4096x1024 ![1, 2] bcast_S4096x1024_S1x4096x1024_1_2 (m ((c : Thread nD τ).loc main_arg1)) := by
    unfold V
    simp only [hostOps0]
    after_results_simp
  rw [e]
  pointwise [xn]

/-- Row `s` of the block of grid point `t`. -/
def row (t : Fin 4) (s : Fin 1024) : Fin 4096 := ⟨t.val * 1024 + s.val, by omega⟩

theorem idx0 : ∀ t : Fin cfg0.N, win0_0.index t = ![0, t.val, 0] := by decide +kernel
theorem idx1 : ∀ t : Fin cfg0.N, win0_1.index t = ![0, t.val, 0] := by decide +kernel
theorem idx2 : ∀ t : Fin cfg0.N, win0_2.index t = ![0, 0, 0, 0] := by decide +kernel

theorem iblk0_at (t : Fin 4) (j : Fin 4) (s : Fin 1024) (k : Fin 704) : iblk m c 0 (t.cast N_0.symm) (ix3 j s k) = ct m c j (row t s) k := by
  blk_simp [iblk]
  refine (congrFun (V_main_arg0 m c) _).trans (congrArg (m ((c : Thread nD τ).loc main_arg0)) ?_)
  funext a
  fin_cases a <;> apply Fin.ext
  · blk_simp [idx0]; rfl
  · blk_simp [idx0]; rfl
  · blk_simp [idx0]; rfl

theorem iblk1_at (t : Fin 4) (s : Fin 1024) (q : Fin 1024) : iblk m c 1 (t.cast N_0.symm) (ix3 0 s q) = xn m c (row t s) q := by
  blk_simp [iblk]
  refine Eq.trans (congrArg (V m c main_v0) ?_) (V_v0 m c (row t s) q)
  funext a
  fin_cases a <;> apply Fin.ext
  · blk_simp [idx1]
  · blk_simp [idx1]; rfl
  · blk_simp [idx1]; rfl

/-- What the rows of point `t` add. -/
def part (t j : Fin 4) (k : Fin 704) (q : Fin 1024) : EReal := ∑ s : Fin 1024, ct m c j (row t s) k * xn m c (row t s) q

theorem prod_at (t j : Fin 4) (k : Fin 704) (q : Fin 1024) :
    prod (iblk m c 0 (t.cast N_0.symm)) (iblk m c 1 (t.cast N_0.symm)) j k q = part m c t j k q := by
  unfold prod part
  exact Finset.sum_congr rfl fun s _ => congrArg₂ (· * ·) (iblk0_at m c t j s k) (iblk1_at m c t s q)

theorem parts (j : Fin 4) (k : Fin 704) (q : Fin 1024) :
    ∑ r : Fin 4096, ct m c j r k * xn m c r q = 0 + part m c 0 j k q + part m c 1 j k q + part m c 2 j k q + part m c 3 j k q := by
  rw [zero_add]
  refine (Fin.sum_univ_tiles 4 1024 rfl _).trans ?_
  exact Fin.sum_univ_four _

theorem stepA (t : Fin cfg0.N) (h0 : t.val % 4 = 0) (h1 : ¬t.val % 4 = 3) (j : Fin 4) (k : Fin 704) (q : Fin 1024) :
    (outsAt0 m c t.val t.isLt).2 (ix3 j k q) = 0 + prod (iblk m c 0 t) (iblk m c 1 t) j k q := by
  rw [outsAt0_A m c t h0 h1]
  dsimp only
  rw [soutA]

theorem stepB (t : Fin cfg0.N) (h0 : ¬t.val % 4 = 0) (h1 : ¬t.val % 4 = 3) (j : Fin 4) (k : Fin 704) (q : Fin 1024) :
    (outsAt0 m c t.val t.isLt).2 (ix3 j k q) = (outsAt0 m c (t.val - 1) (Nat.lt_of_le_of_lt (Nat.sub_le _ _) t.isLt)).2 (ix3 j k q) + prod (iblk m c 0 t) (iblk m c 1 t) j k q := by
  rw [outsAt0_B m c t h0 h1]
  dsimp only
  rw [soutB]

theorem stepC (t : Fin cfg0.N) (h0 : ¬t.val % 4 = 0) (h1 : t.val % 4 = 3) (j : Fin 4) (k : Fin 704) (q : Fin 1024) :
    (outsAt0 m c t.val t.isLt).1 (ix4 j 0 k q) = (outsAt0 m c (t.val - 1) (Nat.lt_of_le_of_lt (Nat.sub_le _ _) t.isLt)).2 (ix3 j k q) + prod (iblk m c 0 t) (iblk m c 1 t) j k q := by
  rw [outsAt0_C m c t h0 h1]
  dsimp only
  rw [outC]

attribute [local irreducible] outsAt0

theorem sum0 (h : 0 < cfg0.N) (j : Fin 4) (k : Fin 704) (q : Fin 1024) : (outsAt0 m c 0 h).2 (ix3 j k q) = 0 + part m c 0 j k q := by
  rw [← prod_at]
  exact stepA m c ((0 : Fin 4).cast N_0.symm) rfl (show ¬0 % 4 = 3 by decide) j k q

theorem sum1 (h : 1 < cfg0.N) (j : Fin 4) (k : Fin 704) (q : Fin 1024) : (outsAt0 m c 1 h).2 (ix3 j k q) = 0 + part m c 0 j k q + part m c 1 j k q := by
  rw [← sum0 m c (Nat.lt_of_succ_lt h), ← prod_at m c 1]
  exact stepB m c ((1 : Fin 4).cast N_0.symm) (show ¬1 % 4 = 0 by decide) (show ¬1 % 4 = 3 by decide) j k q

theorem sum2 (h : 2 < cfg0.N) (j : Fin 4) (k : Fin 704) (q : Fin 1024) : (outsAt0 m c 2 h).2 (ix3 j k q) = 0 + part m c 0 j k q + part m c 1 j k q + part m c 2 j k q := by
  rw [← sum1 m c (Nat.lt_of_succ_lt h), ← prod_at m c 2]
  exact stepB m c ((2 : Fin 4).cast N_0.symm) (show ¬2 % 4 = 0 by decide) (show ¬2 % 4 = 3 by decide) j k q

theorem out3 (h : 3 < cfg0.N) (j : Fin 4) (k : Fin 704) (q : Fin 1024) : (outsAt0 m c 3 h).1 (ix4 j 0 k q) = ∑ r : Fin 4096, ct m c j r k * xn m c r q := by
  rw [parts, ← sum2 m c (Nat.lt_of_succ_lt h), ← prod_at m c 3]
  exact stepC m c ((3 : Fin 4).cast N_0.symm) (show ¬3 % 4 = 0 by decide) (show 3 % 4 = 3 by decide) j k q

theorem out_last (t : Fin cfg0.N) (h : t.val = 3) (j : Fin 4) (k : Fin 704) (q : Fin 1024) :
    (outsAt0 m c t.val t.isLt).1 (ix4 j 0 k q) = ∑ r : Fin 4096, ct m c j r k * xn m c r q := by
  obtain ⟨n, hn⟩ := t
  obtain rfl : n = 3 := h
  exact out3 m c hn j k q

theorem emb2 (t : Fin cfg0.N) (j : Fin 4) (k : Fin 704) (q : Fin 1024) :
    (win0_2.blk t).view.emb (ix4 j 0 k q) = ix4 (n0 := 4) (n1 := 1) (n2 := 704) (n3 := 1024) j 0 k q := by
  funext a
  fin_cases a <;> apply Fin.ext <;> blk_simp [idx2]

/-- The array the call leaves. -/
theorem arr2 : (dats m 0 c).arrAt 2 cfg0.N = fun i : S4x1x704x1024.Idx => ∑ r : Fin 4096, ct m c (i 0) r (i 2) * xn m c r (i 3) := by
  refine (dats m 0 c).arrAt_eq_of_covers 2 _ (by decide +kernel) fun t hf y => ?_
  have ht : t.val = 3 := by
    have h4 : t.val < 4 := t.isLt
    have h3 := (flush0_2 t).mp hf
    omega
  blk_simp
  rw [after0_2]
  obtain ⟨j, u, k, q, rfl⟩ : ∃ (j : Fin 4) (u : Fin 1) (k : Fin 704) (q : Fin 1024), y = ix4 j u k q := ⟨_, _, _, _, eq_ix4 y⟩
  obtain rfl : u = 0 := Subsingleton.elim _ _
  exact (out_last m c t ht j k q).trans (congrArg (fun i : S4x1x704x1024.Idx => ∑ r : Fin 4096, ct m c (i 0) r (i 2) * xn m c r (i 3)) (emb2 t j k q)).symm

end Cert.Dw
-- ==== Proof.Dw.lean ====
/- One weight gradient: the kernel's array is the reference's. -/
module

public import proofs.«01_k».proof.Proof.DwArr
public import proofs.«01_k».proof.Proof.Gen.Reference4Ideal.Run

@[expose] public section

set_option maxRecDepth 16384

noncomputable section

namespace Cert.DwRef

open Cert.Reference4Ideal Cert.Reference4Ideal.Gen Cert.Reference4Ideal.Value Idealize.ShloMosaic Idealize.ShloMosaic.TcCoe Idealize.SL.Sem

/-- The reference's array, of the cotangent and the normed rows. -/
def value (a : Vec Ideal S4x4096x704 .bf16) (x : Vec Ideal S4096x1024 .bf16) : Vec Ideal S4x1x704x1024 .bf16 :=
  truncf (F := Ideal) .bf16 (shapeCast S4x1x704x1024 (transpose S2816x1024 [1, 0] (transpose S1024x2816 [1, 0] (Host.dotGeneral (F := Ideal) (φ₁ := .f32) (φ₂ := .f32) dot_S4096x2816_S4096x1024_S2816x1024_0_0_1_1_n_n none (shapeCast S4096x2816 (transpose S4096x4x704 [1, 0, 2] (extf (F := Ideal) .f32 a bitsLt_bf16_f32) transposes_S4x4096x704_S4096x4x704_1_0_2) shapeCasts_S4096x4x704_S4096x2816) (extf (F := Ideal) .f32 x bitsLt_bf16_f32)) transposes_S2816x1024_S1024x2816_1_0) transposes_S1024x2816_S2816x1024_1_0) shapeCasts_S2816x1024_S4x1x704x1024) bitsLt_bf16_f32

theorem value_at (a : Vec Ideal S4x4096x704 .bf16) (x : Vec Ideal S4096x1024 .bf16) (j : Fin 4) (k : Fin 704) (q : Fin 1024) :
    value a x (ix4 j 0 k q) = ∑ r : Fin 4096, a (ix3 j r k) * x (ix2 r q) := by
  pointwise [value]

theorem run' (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v10) = value (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  run (F := Ideal) m ρ

end Cert.DwRef

namespace Cert.Dw

open Cert.Kernel4Ideal Cert.Kernel4Ideal.Gen Idealize.ShloMosaic Idealize.ShloMosaic.TcCoe Idealize.SL.Sem

variable {m : (ℓ : Loc nD τ sig) → Buf (Elt Ideal) ℓ} {c : Dev nD}

theorem dw_eq (a : Vec Ideal S4x4096x704 .bf16) (x : Vec Ideal S4096x1024 .bf16) (h0 : a = m ((c : Thread nD τ).loc main_arg0)) (h1 : x = m ((c : Thread nD τ).loc main_arg1)) :
    DwRef.value a x = (dats m 0 c).arrAt 2 cfg0.N := by
  rw [arr2]
  funext i
  obtain ⟨j, u, k, q, rfl⟩ : ∃ (j : Fin 4) (u : Fin 1) (k : Fin 704) (q : Fin 1024), i = ix4 j u k q := ⟨_, _, _, _, eq_ix4 i⟩
  obtain rfl : u = 0 := Subsingleton.elim _ _
  subst h0
  subst h1
  exact DwRef.value_at _ _ j k q

end Cert.Dw
-- ==== Proof.DwOut.lean ====
/- The gradient of the output projection's weight: the kernel at one grid point: each shard of the sum it keeps takes in the point's product. -/
module

public import proofs.«01_k».proof.Proof.Gen.Kernel5Ideal.Frame
public import proofs.«01_k».proof.Proof.Gen.Reference5Ideal.Run
public import Idealize.ShloMosaic.Lib.Pipeline.ValueKit
public import Idealize.ShloMosaic.Lib.Pointwise

@[expose] public section

set_option maxRecDepth 16384

noncomputable section

namespace Cert.DwOut

open Cert.Kernel5Ideal Cert.Kernel5Ideal.Gen Idealize.ShloMosaic Idealize.ShloMosaic.TcCoe Idealize.SL.Sem

/-- The rows of shard `k` of the sum. -/
abbrev Rs (k : ℕ) (inb : ∀ a : Fin 3, (![k, 0, 0] : Fin 3 → ℕ) a + (![1, 256, 1024] : Fin 3 → ℕ) a ≤ S4x256x1024.size a) : Rect S4x256x1024 :=
  Rect.unit (s := S4x256x1024) ![k, 0, 0] ![1, 256, 1024] inb

theorem emb_at (j : Fin 4) (t : Fin 256) (q : Fin 1024) (k : ℕ) (inb) (h : j.val = k) : (Rs k inb).emb (ix3 (n0 := 1) 0 t q) = ix3 (n0 := 4) (n1 := 256) (n2 := 1024) j t q := by
  subst h
  funext a; fin_cases a <;> apply Fin.ext <;> simp [Rect.emb_apply]

theorem hit (j : Fin 4) (t : Fin 256) (q : Fin 1024) (k : ℕ) (inb) (h : j.val = k) (w : Vec Ideal S1x256x1024 .f32) (L : List (View.Piece (Elt Ideal) S4x256x1024 .f32)) :
    View.canon ((⟨Rs k inb, w⟩ : View.Piece (Elt Ideal) S4x256x1024 .f32) :: L) (ix3 j t q) = w (ix3 0 t q) := by
  rw [← emb_at j t q k inb h]
  exact View.canon_cons_emb (Val := Elt Ideal) (Rs k inb) w L _

theorem miss (j : Fin 4) (t : Fin 256) (q : Fin 1024) (k : ℕ) (inb) (h : j.val ≠ k) (w : Vec Ideal S1x256x1024 .f32) (L : List (View.Piece (Elt Ideal) S4x256x1024 .f32)) :
    View.canon ((⟨Rs k inb, w⟩ : View.Piece (Elt Ideal) S4x256x1024 .f32) :: L) (ix3 j t q) = View.canon L (ix3 j t q) := by
  refine View.canon_cons_of_not_mem (Val := Elt Ideal) _ L ?_
  refine (Rs k inb).not_mem_set_of_axis _ 0 k 1 rfl rfl rfl ?_
  show j.val < k ∨ k + 1 ≤ j.val
  omega

theorem ld_at (j : Fin 4) (t : Fin 256) (q : Fin 1024) (k : ℕ) (inb) (h : j.val = k) (X : Vec Ideal S4x256x1024 .f32) :
    View.ld X (Rs k inb) (ix3 0 t q) = X (ix3 j t q) :=
  congrArg X (emb_at j t q k inb h)

section
variable (x0 : Vec Ideal S1x1024x1024 .bf16) (x1 : Vec Ideal S1x1024x1024 .bf16) (xs0 : Vec Ideal S4x256x1024 .f32) (v : Vec Ideal S1x256x1024 .f32)

/-- Column `256 j + t` of 1024. -/
def cc (j : Fin 4) (t : Fin 256) : Fin 1024 := ⟨j.val * 256 + t.val, by omega⟩

/-- One point's product: shard `j`, row `t`, column `q`. -/
def prod (j : Fin 4) (t : Fin 256) (q : Fin 1024) : EReal := ∑ s : Fin 1024, x0 (ix3 0 s (cc j t)) * x1 (ix3 0 s q)

theorem pay6_at (t : Fin 256) (q : Fin 1024) : k0_pay7 x0 x1 v (ix3 0 t q) = v (ix3 0 t q) + prod x0 x1 0 t q := by pointwise [k0_pay1, k0_pay2, k0_pay5, k0_pay6, k0_pay7, k0_pay8, k0_pay9, k0_pay10, prod, cc]
theorem pay7_at (t : Fin 256) (q : Fin 1024) : k0_pay8 x0 x1 v (ix3 0 t q) = v (ix3 0 t q) + prod x0 x1 1 t q := by pointwise [k0_pay1, k0_pay2, k0_pay5, k0_pay6, k0_pay7, k0_pay8, k0_pay9, k0_pay10, prod, cc]
theorem pay1_at (t : Fin 256) (q : Fin 1024) : k0_pay1 (k0_pay6 x1) (k0_pay9 v) (k0_pay10 x0) (ix3 0 t q) = v (ix3 0 t q) + prod x0 x1 2 t q := by pointwise [k0_pay1, k0_pay2, k0_pay5, k0_pay6, k0_pay7, k0_pay8, k0_pay9, k0_pay10, prod, cc]
theorem pay2_at (t : Fin 256) (q : Fin 1024) : k0_pay2 (k0_pay5 x0) (k0_pay6 x1) v (ix3 0 t q) = v (ix3 0 t q) + prod x0 x1 3 t q := by pointwise [k0_pay1, k0_pay2, k0_pay5, k0_pay6, k0_pay7, k0_pay8, k0_pay9, k0_pay10, prod, cc]
theorem pay4_at (j : Fin 4) (t : Fin 256) (q : Fin 1024) : k0_pay4 (F := Ideal) (ix3 j t q) = 0 := by pointwise [k0_pay4]
theorem pay3_at (j : Fin 4) (t : Fin 256) (q : Fin 1024) : k0_pay3 xs0 (ix4 j 0 t q) = xs0 (ix3 j t q) := by pointwise [k0_pay3]

/-- The four stores of a point, over the pieces `L` before them, what shard `k` held read as `u k`. -/
def four (u : Fin 4 → Vec Ideal S1x256x1024 .f32) (L : List (View.Piece (Elt Ideal) S4x256x1024 .f32)) : List (View.Piece (Elt Ideal) S4x256x1024 .f32) :=
  ⟨Rs 3 inb_S4x256x1024_S1x256x1024_3_0_0, k0_pay2 (k0_pay5 x0) (k0_pay6 x1) (u 3)⟩ ::
  ⟨Rs 2 inb_S4x256x1024_S1x256x1024_2_0_0, k0_pay1 (k0_pay6 x1) (k0_pay9 (u 2)) (k0_pay10 x0)⟩ ::
  ⟨Rs 1 inb_S4x256x1024_S1x256x1024_1_0_0, k0_pay8 x0 x1 (u 1)⟩ ::
  ⟨Rs 0 inb_S4x256x1024_S1x256x1024_0_0_0, k0_pay7 x0 x1 (u 0)⟩ :: L

theorem four_at (u : Fin 4 → Vec Ideal S1x256x1024 .f32) (L : List (View.Piece (Elt Ideal) S4x256x1024 .f32)) (j : Fin 4) (t : Fin 256) (q : Fin 1024) :
    View.canon (four x0 x1 u L) (ix3 j t q) = u j (ix3 0 t q) + prod x0 x1 j t q := by
  unfold four
  match j with
  | 0 => rw [miss 0 t q 3 _ (by decide), miss 0 t q 2 _ (by decide), miss 0 t q 1 _ (by decide), hit 0 t q 0 _ rfl, pay6_at]
  | 1 => rw [miss 1 t q 3 _ (by decide), miss 1 t q 2 _ (by decide), hit 1 t q 1 _ rfl, pay7_at]
  | 2 => rw [miss 2 t q 3 _ (by decide), hit 2 t q 2 _ rfl, pay1_at]
  | 3 => rw [hit 3 t q 3 _ rfl, pay2_at]

variable (c : Dev nD) (i : grid0.Coords) (arg1 : Memref sig .tc .vmem S1x1024x1024 .bf16) (harg1 : arg1.IsWhole) (arg2 : Memref sig .tc .vmem S1x1024x1024 .bf16) (harg2 : arg2.IsWhole) (arg4 : Memref sig .tc .vmem S4x1x256x1024 .bf16) (harg4 : arg4.IsWhole) (arg5 : Memref sig .tc .vmem S4x256x1024 .f32) (harg5 : arg5.IsWhole)

/-- The store that empties the sum. -/
abbrev zeroL : List (View.Piece (Elt Ideal) S4x256x1024 .f32) :=
  [⟨Rect.unit (s := S4x256x1024) ![0, 0, 0] ![4, 256, 1024] inb_S4x256x1024_S4x256x1024_0_0_0, k0_pay4 (F := Ideal)⟩]

theorem zeroL_at (j : Fin 4) (t : Fin 256) (q : Fin 1024) : View.canon zeroL (ix3 j t q) = 0 := by
  have z : (![0, 0, 0] : Fin 3 → ℕ) = fun _ => 0 := by
    funext a
    fin_cases a <;> rfl
  have e : View.canon zeroL = k0_pay4 (F := Ideal) :=
    View.canon_unit_zero (Val := Elt Ideal) (e := .f32) (S := S4x256x1024) z inb_S4x256x1024_S4x256x1024_0_0_0 (k0_pay4 (F := Ideal))
  exact (congrFun e _).trans (pay4_at j t q)

theorem whole0 : View.ld x0 (Rect.unit (s := S1x1024x1024) ![0, 0, 0] ![1, 1024, 1024] inb_S1x1024x1024_S1x1024x1024_0_0_0) = x0 :=
  View.ld_unit_zero (by funext a; fin_cases a <;> rfl) _ _
theorem whole1 : View.ld x1 (Rect.unit (s := S1x1024x1024) ![0, 0, 0] ![1, 1024, 1024] inb_S1x1024x1024_S1x1024x1024_0_0_0) = x1 :=
  View.ld_unit_zero (by funext a; fin_cases a <;> rfl) _ _

/-- A load of shard `k` after the stores `L`. -/
theorem cov_at (j : Fin 4) (t : Fin 256) (q : Fin 1024) (k : ℕ) (inb) (h : j.val = k) (L : List (View.Piece (Elt Ideal) S4x256x1024 .f32)) :
    View.readCov (Val := Elt Ideal) arg5.view L (Rs k inb).toLoadRect (ix3 0 t q) = View.canon L (ix3 j t q) :=
  (congrFun (View.readCov_eq_canon' arg5.view L (Rs k inb).toLoadRect) _).trans (congrArg (View.canon L) (emb_at j t q k inb h))

theorem listB (hc0 : ¬cond0_0 i) (hc1 : ¬cond0_1 i) : (kernelRun0_B c i arg1 harg1 arg2 harg2 arg4 harg4 arg5 harg5 hc0 hc1 x0 x1 xs0).2.1
      = four x0 x1 (fun k => View.ld xs0 (Rs k.val (by revert k; decide))) [] := by
  have e0 := harg1.read_unread x0
  have e1 := harg2.read_unread x1
  have e2 := harg5.read_unread xs0
  dsimp only [kernelRun0_B, kernelRun0_B.sl.r, kernelRun0_B.sl.r_1, kernelRun0_B.sl.v37, kernelRun0_B.sl.r_2, kernelRun0_B.sl.r_3, kernelRun0_B.sl.v17, kernelRun0_B.sl.v27]
  simp only [View.readAt_eq_ld, e0, e1, e2, whole0, whole1]
  rfl

theorem soutB (hc0 : ¬cond0_0 i) (hc1 : ¬cond0_1 i) (j : Fin 4) (t : Fin 256) (q : Fin 1024) :
    sout0_B_0 c i arg1 harg1 arg2 harg2 arg4 harg4 arg5 harg5 hc0 hc1 x0 x1 xs0 (ix3 j t q) = xs0 (ix3 j t q) + prod x0 x1 j t q := by
  refine (View.read_writes_junk_apply_eq_canon _ _ _).trans ?_
  rw [listB, four_at, ld_at j t q j.val _ rfl]

theorem listC (hc0 : ¬cond0_0 i) (hc1 : cond0_1 i) : (kernelRun0_C c i arg1 harg1 arg2 harg2 arg4 harg4 arg5 harg5 hc0 hc1 x0 x1 xs0).2.1
      = four x0 x1 (fun k => View.ld xs0 (Rs k.val (by revert k; decide))) [] := by
  have e0 := harg1.read_unread x0
  have e1 := harg2.read_unread x1
  have e2 := harg5.read_unread xs0
  dsimp only [kernelRun0_C, kernelRun0_C.sl.HS0_4, kernelRun0_C.sl.r, kernelRun0_C.sl.r_1, kernelRun0_C.sl.v37, kernelRun0_C.sl.r_2, kernelRun0_C.sl.r_3, kernelRun0_C.sl.v17, kernelRun0_C.sl.v27]
  simp only [View.readAt_eq_ld, e0, e1, e2, whole0, whole1]
  rfl

theorem soutC (hc0 : ¬cond0_0 i) (hc1 : cond0_1 i) (j : Fin 4) (t : Fin 256) (q : Fin 1024) :
    sout0_C_0 c i arg1 harg1 arg2 harg2 arg4 harg4 arg5 harg5 hc0 hc1 x0 x1 xs0 (ix3 j t q) = xs0 (ix3 j t q) + prod x0 x1 j t q := by
  refine (View.read_writes_junk_apply_eq_canon _ _ _).trans ?_
  rw [listC, four_at, ld_at j t q j.val _ rfl]

theorem outC (hc0 : ¬cond0_0 i) (hc1 : cond0_1 i) (j : Fin 4) (t : Fin 256) (q : Fin 1024) :
    out0_C_2 c i arg1 harg1 arg2 harg2 arg4 harg4 arg5 harg5 hc0 hc1 x0 x1 xs0 (ix4 j 0 t q) = xs0 (ix3 j t q) + prod x0 x1 j t q := by
  refine (View.read_writes_junk_apply_eq_canon _ _ _).trans ?_
  have e : (kernelRun0_C c i arg1 harg1 arg2 harg2 arg4 harg4 arg5 harg5 hc0 hc1 x0 x1 xs0).1
      = [⟨Rect.unit (s := S4x1x256x1024) ![0, 0, 0, 0] ![4, 1, 256, 1024] inb_S4x1x256x1024_S4x1x256x1024_0_0_0_0,
          k0_pay3 (View.readCov (Val := Elt Ideal) arg5.view (kernelRun0_C c i arg1 harg1 arg2 harg2 arg4 harg4 arg5 harg5 hc0 hc1 x0 x1 xs0).2.1
            (Rect.unit (s := S4x256x1024) ![0, 0, 0] ![4, 256, 1024] inb_S4x256x1024_S4x256x1024_0_0_0).toLoadRect)⟩] := rfl
  rw [e, View.canon_unit_zero (Val := Elt Ideal) (S := S4x1x256x1024) (by funext a; fin_cases a <;> rfl), pay3_at, View.readCov_eq_canon', listC]
  exact (congrFun (View.ld_unit_zero (S := S4x256x1024) (by funext a; fin_cases a <;> rfl) inb_S4x256x1024_S4x256x1024_0_0_0
    (View.canon (four x0 x1 (fun k => View.ld xs0 (Rs k.val (by revert k; decide))) []))) (ix3 j t q)).trans
      ((four_at x0 x1 _ _ j t q).trans (by rw [ld_at j t q j.val _ rfl]))

theorem listA (hc0 : cond0_0 i) (hc1 : ¬cond0_1 i) : ∃ u : Fin 4 → Vec Ideal S1x256x1024 .f32,
    (kernelRun0_A c i arg1 harg1 arg2 harg2 arg4 harg4 arg5 harg5 hc0 hc1 x0 x1).2.1 = four x0 x1 u zeroL
      ∧ ∀ (j : Fin 4) (t : Fin 256) (q : Fin 1024), u j (ix3 0 t q) = 0 := by
  have e0 := harg1.read_unread x0
  have e1 := harg2.read_unread x1
  dsimp only [kernelRun0_A, kernelRun0_A.sl.HS0_4, kernelRun0_A.sl.HS0_3, kernelRun0_A.sl.HS0_2, kernelRun0_A.sl.HS0_1, kernelRun0_A.sl.r, kernelRun0_A.sl.r_1, kernelRun0_A.sl.v37, kernelRun0_A.sl.r_2, kernelRun0_A.sl.r_3, kernelRun0_A.sl.v17, kernelRun0_A.sl.v27, kernelRun0_A.sl.v7]
  simp only [View.readAt_eq_ld, e0, e1, whole0, whole1]
  refine ⟨![_, _, _, _], rfl, ?_⟩
  intro j t q
  match j with
  | 0 => exact (cov_at arg5 0 t q 0 _ rfl _).trans (zeroL_at 0 t q)
  | 1 => exact (cov_at arg5 1 t q 1 _ rfl _).trans ((miss 1 t q 0 _ (by decide) _ _).trans (zeroL_at 1 t q))
  | 2 => exact (cov_at arg5 2 t q 2 _ rfl _).trans ((miss 2 t q 1 _ (by decide) _ _).trans ((miss 2 t q 0 _ (by decide) _ _).trans (zeroL_at 2 t q)))
  | 3 => exact (cov_at arg5 3 t q 3 _ rfl _).trans ((miss 3 t q 2 _ (by decide) _ _).trans ((miss 3 t q 1 _ (by decide) _ _).trans ((miss 3 t q 0 _ (by decide) _ _).trans (zeroL_at 3 t q))))

theorem soutA (hc0 : cond0_0 i) (hc1 : ¬cond0_1 i) (j : Fin 4) (t : Fin 256) (q : Fin 1024) :
    sout0_A_0 c i arg1 harg1 arg2 harg2 arg4 harg4 arg5 harg5 hc0 hc1 x0 x1 (ix3 j t q) = 0 + prod x0 x1 j t q := by
  obtain ⟨u, hu, h0⟩ := listA x0 x1 c i arg1 harg1 arg2 harg2 arg4 harg4 arg5 harg5 hc0 hc1
  refine (View.read_writes_junk_apply_eq_canon _ _ _).trans ?_
  rw [hu, four_at, h0]

end

open Idealize.ShloMosaic.Pipeline (Dat)

section
variable (m : (ℓ : Loc nD τ sig) → Buf (Elt Ideal) ℓ) (c : Dev nD)

/-- The saved rows, and the cotangent by shard. -/
def av (r : Fin 4096) (k : Fin 1024) : EReal := (m ((c : Thread nD τ).loc main_arg0) : Vec Ideal S4096x1024 .bf16) (ix2 r k)
def bv (_j : Fin 4) (r : Fin 4096) (q : Fin 1024) : EReal := (m ((c : Thread nD τ).loc main_arg1) : Vec Ideal S4096x1024 .bf16) (ix2 r q)

theorem V_v0 (r : Fin 4096) (k : Fin 1024) : V m c main_v0 (ix3 0 r k) = av m c r k := by
  have e : V m c main_v0 = broadcastInDim S1x4096x1024 ![1, 2] bcast_S4096x1024_S1x4096x1024_1_2 (m ((c : Thread nD τ).loc main_arg0)) := by
    unfold V
    simp only [hostOps0]
    after_results_simp
  rw [e]
  pointwise [av]

theorem V_v1 (r : Fin 4096) (k : Fin 1024) : V m c main_v1 (ix3 0 r k) = bv m c 0 r k := by
  have e : V m c main_v1 = broadcastInDim S1x4096x1024 ![1, 2] bcast_S4096x1024_S1x4096x1024_1_2 (m ((c : Thread nD τ).loc main_arg1)) := by
    unfold V
    simp only [hostOps0]
    after_results_simp
  rw [e]
  pointwise [bv]

/-- Row `s` of the block of grid point `t`. -/
def row (t : Fin 4) (s : Fin 1024) : Fin 4096 := ⟨t.val * 1024 + s.val, by omega⟩

theorem idx0 : ∀ t : Fin cfg0.N, win0_0.index t = ![0, t.val, 0] := by decide +kernel
theorem idx1 : ∀ t : Fin cfg0.N, win0_1.index t = ![0, t.val, 0] := by decide +kernel
theorem idx2 : ∀ t : Fin cfg0.N, win0_2.index t = ![0, 0, 0, 0] := by decide +kernel

theorem iblk0_at (t : Fin 4) (s : Fin 1024) (k : Fin 1024) : iblk m c 0 (t.cast N_0.symm) (ix3 0 s k) = av m c (row t s) k := by
  blk_simp [iblk]
  refine Eq.trans (congrArg (V m c main_v0) ?_) (V_v0 m c (row t s) k)
  funext a
  fin_cases a <;> apply Fin.ext
  · blk_simp [idx0]
  · blk_simp [idx0]; rfl
  · blk_simp [idx0]; rfl

theorem iblk1_at (t : Fin 4) (j : Fin 4) (s : Fin 1024) (q : Fin 1024) : iblk m c 1 (t.cast N_0.symm) (ix3 0 s q) = bv m c j (row t s) q := by
  blk_simp [iblk]
  refine Eq.trans (congrArg (V m c main_v1) ?_) (V_v1 m c (row t s) q)
  funext a
  fin_cases a <;> apply Fin.ext
  · blk_simp [idx1]
  · blk_simp [idx1]; rfl
  · blk_simp [idx1]; rfl

/-- What the rows of point `t` add. -/
def part (t j : Fin 4) (k : Fin 256) (q : Fin 1024) : EReal := ∑ s : Fin 1024, av m c (row t s) (cc j k) * bv m c j (row t s) q

theorem prod_at (t j : Fin 4) (k : Fin 256) (q : Fin 1024) :
    prod (iblk m c 0 (t.cast N_0.symm)) (iblk m c 1 (t.cast N_0.symm)) j k q = part m c t j k q := by
  unfold prod part
  exact Finset.sum_congr rfl fun s _ => congrArg₂ (· * ·) (iblk0_at m c t s (cc j k)) (iblk1_at m c t j s q)

theorem parts (j : Fin 4) (k : Fin 256) (q : Fin 1024) :
    ∑ r : Fin 4096, av m c r (cc j k) * bv m c j r q = 0 + part m c 0 j k q + part m c 1 j k q + part m c 2 j k q + part m c 3 j k q := by
  rw [zero_add]
  refine (Fin.sum_univ_tiles 4 1024 rfl _).trans ?_
  exact Fin.sum_univ_four _

theorem stepA (t : Fin cfg0.N) (h0 : t.val % 4 = 0) (h1 : ¬t.val % 4 = 3) (j : Fin 4) (k : Fin 256) (q : Fin 1024) :
    (outsAt0 m c t.val t.isLt).2 (ix3 j k q) = 0 + prod (iblk m c 0 t) (iblk m c 1 t) j k q := by
  rw [outsAt0_A m c t h0 h1]
  dsimp only
  rw [soutA]

theorem stepB (t : Fin cfg0.N) (h0 : ¬t.val % 4 = 0) (h1 : ¬t.val % 4 = 3) (j : Fin 4) (k : Fin 256) (q : Fin 1024) :
    (outsAt0 m c t.val t.isLt).2 (ix3 j k q) = (outsAt0 m c (t.val - 1) (Nat.lt_of_le_of_lt (Nat.sub_le _ _) t.isLt)).2 (ix3 j k q) + prod (iblk m c 0 t) (iblk m c 1 t) j k q := by
  rw [outsAt0_B m c t h0 h1]
  dsimp only
  rw [soutB]

theorem stepC (t : Fin cfg0.N) (h0 : ¬t.val % 4 = 0) (h1 : t.val % 4 = 3) (j : Fin 4) (k : Fin 256) (q : Fin 1024) :
    (outsAt0 m c t.val t.isLt).1 (ix4 j 0 k q) = (outsAt0 m c (t.val - 1) (Nat.lt_of_le_of_lt (Nat.sub_le _ _) t.isLt)).2 (ix3 j k q) + prod (iblk m c 0 t) (iblk m c 1 t) j k q := by
  rw [outsAt0_C m c t h0 h1]
  dsimp only
  rw [outC]

attribute [local irreducible] outsAt0

theorem sum0 (h : 0 < cfg0.N) (j : Fin 4) (k : Fin 256) (q : Fin 1024) : (outsAt0 m c 0 h).2 (ix3 j k q) = 0 + part m c 0 j k q := by
  rw [← prod_at]
  exact stepA m c ((0 : Fin 4).cast N_0.symm) rfl (show ¬0 % 4 = 3 by decide) j k q

theorem sum1 (h : 1 < cfg0.N) (j : Fin 4) (k : Fin 256) (q : Fin 1024) : (outsAt0 m c 1 h).2 (ix3 j k q) = 0 + part m c 0 j k q + part m c 1 j k q := by
  rw [← sum0 m c (Nat.lt_of_succ_lt h), ← prod_at m c 1]
  exact stepB m c ((1 : Fin 4).cast N_0.symm) (show ¬1 % 4 = 0 by decide) (show ¬1 % 4 = 3 by decide) j k q

theorem sum2 (h : 2 < cfg0.N) (j : Fin 4) (k : Fin 256) (q : Fin 1024) : (outsAt0 m c 2 h).2 (ix3 j k q) = 0 + part m c 0 j k q + part m c 1 j k q + part m c 2 j k q := by
  rw [← sum1 m c (Nat.lt_of_succ_lt h), ← prod_at m c 2]
  exact stepB m c ((2 : Fin 4).cast N_0.symm) (show ¬2 % 4 = 0 by decide) (show ¬2 % 4 = 3 by decide) j k q

theorem out3 (h : 3 < cfg0.N) (j : Fin 4) (k : Fin 256) (q : Fin 1024) : (outsAt0 m c 3 h).1 (ix4 j 0 k q) = ∑ r : Fin 4096, av m c r (cc j k) * bv m c j r q := by
  rw [parts, ← sum2 m c (Nat.lt_of_succ_lt h), ← prod_at m c 3]
  exact stepC m c ((3 : Fin 4).cast N_0.symm) (show ¬3 % 4 = 0 by decide) (show 3 % 4 = 3 by decide) j k q

theorem out_last (t : Fin cfg0.N) (h : t.val = 3) (j : Fin 4) (k : Fin 256) (q : Fin 1024) :
    (outsAt0 m c t.val t.isLt).1 (ix4 j 0 k q) = ∑ r : Fin 4096, av m c r (cc j k) * bv m c j r q := by
  obtain ⟨n, hn⟩ := t
  obtain rfl : n = 3 := h
  exact out3 m c hn j k q

theorem emb2 (t : Fin cfg0.N) (j : Fin 4) (k : Fin 256) (q : Fin 1024) :
    (win0_2.blk t).view.emb (ix4 j 0 k q) = ix4 (n0 := 4) (n1 := 1) (n2 := 256) (n3 := 1024) j 0 k q := by
  funext a
  fin_cases a <;> apply Fin.ext <;> blk_simp [idx2]

/-- The array the call leaves. -/
theorem arr2 : (dats m 0 c).arrAt 2 cfg0.N = fun i : S4x1x256x1024.Idx => ∑ r : Fin 4096, av m c r (cc (i 0) (i 2)) * bv m c (i 0) r (i 3) := by
  refine (dats m 0 c).arrAt_eq_of_covers 2 _ (by decide +kernel) fun t hf y => ?_
  have ht : t.val = 3 := by
    have h4 : t.val < 4 := t.isLt
    have h3 := (flush0_2 t).mp hf
    omega
  blk_simp
  rw [after0_2]
  obtain ⟨j, u, k, q, rfl⟩ : ∃ (j : Fin 4) (u : Fin 1) (k : Fin 256) (q : Fin 1024), y = ix4 j u k q := ⟨_, _, _, _, eq_ix4 y⟩
  obtain rfl : u = 0 := Subsingleton.elim _ _
  exact (out_last m c t ht j k q).trans (congrArg (fun i : S4x1x256x1024.Idx => ∑ r : Fin 4096, av m c r (cc (i 0) (i 2)) * bv m c (i 0) r (i 3)) (emb2 t j k q)).symm

end

end Cert.DwOut

namespace Cert.DwOutRef

open Cert.Reference5Ideal Cert.Reference5Ideal.Gen Cert.Reference5Ideal.Value Idealize.ShloMosaic Idealize.ShloMosaic.TcCoe Idealize.SL.Sem

/-- The reference's array, of the saved rows and the cotangent. -/
def value (a : Vec Ideal S4096x1024 .bf16) (x : Vec Ideal S4096x1024 .bf16) : Vec Ideal S4x1x256x1024 .bf16 :=
  truncf (F := Ideal) .bf16 (shapeCast S4x1x256x1024 (transpose S1024x1024 [1, 0] (Host.dotGeneral (F := Ideal) (φ₁ := .f32) (φ₂ := .f32) dot_S4096x1024_S4096x1024_S1024x1024_0_0_1_1_n_n none (extf (F := Ideal) .f32 x bitsLt_bf16_f32) (extf (F := Ideal) .f32 a bitsLt_bf16_f32)) transposes_S1024x1024_S1024x1024_1_0) shapeCasts_S1024x1024_S4x1x256x1024) bitsLt_bf16_f32

theorem value_at (a : Vec Ideal S4096x1024 .bf16) (x : Vec Ideal S4096x1024 .bf16) (j : Fin 4) (k : Fin 256) (q : Fin 1024) :
    value a x (ix4 j 0 k q) = ∑ r : Fin 4096, a (ix2 r (DwOut.cc j k)) * x (ix2 r q) := by
  pointwise [value, DwOut.cc]
  exact Finset.sum_congr rfl fun _ _ => mul_comm _ _

theorem run' (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = value (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  run (F := Ideal) m ρ

end Cert.DwOutRef

namespace Cert.DwOut

open Cert.Kernel5Ideal Cert.Kernel5Ideal.Gen Idealize.ShloMosaic Idealize.ShloMosaic.TcCoe Idealize.SL.Sem

variable {m : (ℓ : Loc nD τ sig) → Buf (Elt Ideal) ℓ} {c : Dev nD}

theorem dw_eq (a : Vec Ideal S4096x1024 .bf16) (x : Vec Ideal S4096x1024 .bf16) (h0 : a = m ((c : Thread nD τ).loc main_arg0)) (h1 : x = m ((c : Thread nD τ).loc main_arg1)) :
    DwOutRef.value a x = (dats m 0 c).arrAt 2 cfg0.N := by
  rw [arr2]
  funext i
  obtain ⟨j, u, k, q, rfl⟩ : ∃ (j : Fin 4) (u : Fin 1) (k : Fin 256) (q : Fin 1024), i = ix4 j u k q := ⟨_, _, _, _, eq_ix4 i⟩
  obtain rfl : u = 0 := Subsingleton.elim _ _
  subst h0
  subst h1
  exact DwOutRef.value_at _ _ j k q

end Cert.DwOut
-- ==== Proof.DwIn.lean ====
/- The gradient of the input projection's weight: the kernel at one grid point: each shard of the sum it keeps takes in the point's product. -/
module

public import proofs.«01_k».proof.Proof.Gen.Kernel6Ideal.Frame
public import proofs.«01_k».proof.Proof.Gen.Reference6Ideal.Run
public import Idealize.ShloMosaic.Lib.Pipeline.ValueKit
public import Idealize.ShloMosaic.Lib.Pointwise

@[expose] public section

set_option maxRecDepth 16384

noncomputable section

namespace Cert.DwIn

open Cert.Kernel6Ideal Cert.Kernel6Ideal.Gen Idealize.ShloMosaic Idealize.ShloMosaic.TcCoe Idealize.SL.Sem

/-- The rows of shard `k` of the sum. -/
abbrev Rs (k : ℕ) (inb : ∀ a : Fin 3, (![k, 0, 0] : Fin 3 → ℕ) a + (![1, 1024, 512] : Fin 3 → ℕ) a ≤ S4x1024x512.size a) : Rect S4x1024x512 :=
  Rect.unit (s := S4x1024x512) ![k, 0, 0] ![1, 1024, 512] inb

theorem emb_at (j : Fin 4) (t : Fin 1024) (q : Fin 512) (k : ℕ) (inb) (h : j.val = k) : (Rs k inb).emb (ix3 (n0 := 1) 0 t q) = ix3 (n0 := 4) (n1 := 1024) (n2 := 512) j t q := by
  subst h
  funext a; fin_cases a <;> apply Fin.ext <;> simp [Rect.emb_apply]

theorem hit (j : Fin 4) (t : Fin 1024) (q : Fin 512) (k : ℕ) (inb) (h : j.val = k) (w : Vec Ideal S1x1024x512 .f32) (L : List (View.Piece (Elt Ideal) S4x1024x512 .f32)) :
    View.canon ((⟨Rs k inb, w⟩ : View.Piece (Elt Ideal) S4x1024x512 .f32) :: L) (ix3 j t q) = w (ix3 0 t q) := by
  rw [← emb_at j t q k inb h]
  exact View.canon_cons_emb (Val := Elt Ideal) (Rs k inb) w L _

theorem miss (j : Fin 4) (t : Fin 1024) (q : Fin 512) (k : ℕ) (inb) (h : j.val ≠ k) (w : Vec Ideal S1x1024x512 .f32) (L : List (View.Piece (Elt Ideal) S4x1024x512 .f32)) :
    View.canon ((⟨Rs k inb, w⟩ : View.Piece (Elt Ideal) S4x1024x512 .f32) :: L) (ix3 j t q) = View.canon L (ix3 j t q) := by
  refine View.canon_cons_of_not_mem (Val := Elt Ideal) _ L ?_
  refine (Rs k inb).not_mem_set_of_axis _ 0 k 1 rfl rfl rfl ?_
  show j.val < k ∨ k + 1 ≤ j.val
  omega

theorem ld_at (j : Fin 4) (t : Fin 1024) (q : Fin 512) (k : ℕ) (inb) (h : j.val = k) (X : Vec Ideal S4x1024x512 .f32) :
    View.ld X (Rs k inb) (ix3 0 t q) = X (ix3 j t q) :=
  congrArg X (emb_at j t q k inb h)

section
variable (x0 : Vec Ideal S1x1024x1024 .bf16) (x1 : Vec Ideal S4x1024x512 .bf16) (xs0 : Vec Ideal S4x1024x512 .f32) (v : Vec Ideal S1x1024x512 .f32)

/-- One point's product: shard `j`, row `t`, column `q`. -/
def prod (j : Fin 4) (t : Fin 1024) (q : Fin 512) : EReal := ∑ s : Fin 1024, x0 (ix3 0 s t) * x1 (ix3 j s q)

theorem pay6_at (t : Fin 1024) (q : Fin 512) : k0_pay6 x0 x1 v (ix3 0 t q) = v (ix3 0 t q) + prod x0 x1 0 t q := by pointwise [k0_pay1, k0_pay2, k0_pay5, k0_pay6, k0_pay7, k0_pay8, k0_pay9, k0_pay10, prod]
theorem pay7_at (t : Fin 1024) (q : Fin 512) : k0_pay7 x0 x1 v (ix3 0 t q) = v (ix3 0 t q) + prod x0 x1 1 t q := by pointwise [k0_pay1, k0_pay2, k0_pay5, k0_pay6, k0_pay7, k0_pay8, k0_pay9, k0_pay10, prod]
theorem pay1_at (t : Fin 1024) (q : Fin 512) : k0_pay1 (k0_pay8 v) (k0_pay9 x0) (k0_pay10 x1) (ix3 0 t q) = v (ix3 0 t q) + prod x0 x1 2 t q := by pointwise [k0_pay1, k0_pay2, k0_pay5, k0_pay6, k0_pay7, k0_pay8, k0_pay9, k0_pay10, prod]
theorem pay2_at (t : Fin 1024) (q : Fin 512) : k0_pay2 (k0_pay5 x0) x1 v (ix3 0 t q) = v (ix3 0 t q) + prod x0 x1 3 t q := by pointwise [k0_pay1, k0_pay2, k0_pay5, k0_pay6, k0_pay7, k0_pay8, k0_pay9, k0_pay10, prod]
theorem pay4_at (j : Fin 4) (t : Fin 1024) (q : Fin 512) : k0_pay4 (F := Ideal) (ix3 j t q) = 0 := by pointwise [k0_pay4]
theorem pay3_at (j : Fin 4) (t : Fin 1024) (q : Fin 512) : k0_pay3 xs0 (ix4 j 0 t q) = xs0 (ix3 j t q) := by pointwise [k0_pay3]

/-- The four stores of a point, over the pieces `L` before them, what shard `k` held read as `u k`. -/
def four (u : Fin 4 → Vec Ideal S1x1024x512 .f32) (L : List (View.Piece (Elt Ideal) S4x1024x512 .f32)) : List (View.Piece (Elt Ideal) S4x1024x512 .f32) :=
  ⟨Rs 3 inb_S4x1024x512_S1x1024x512_3_0_0, k0_pay2 (k0_pay5 x0) x1 (u 3)⟩ ::
  ⟨Rs 2 inb_S4x1024x512_S1x1024x512_2_0_0, k0_pay1 (k0_pay8 (u 2)) (k0_pay9 x0) (k0_pay10 x1)⟩ ::
  ⟨Rs 1 inb_S4x1024x512_S1x1024x512_1_0_0, k0_pay7 x0 x1 (u 1)⟩ ::
  ⟨Rs 0 inb_S4x1024x512_S1x1024x512_0_0_0, k0_pay6 x0 x1 (u 0)⟩ :: L

theorem four_at (u : Fin 4 → Vec Ideal S1x1024x512 .f32) (L : List (View.Piece (Elt Ideal) S4x1024x512 .f32)) (j : Fin 4) (t : Fin 1024) (q : Fin 512) :
    View.canon (four x0 x1 u L) (ix3 j t q) = u j (ix3 0 t q) + prod x0 x1 j t q := by
  unfold four
  match j with
  | 0 => rw [miss 0 t q 3 _ (by decide), miss 0 t q 2 _ (by decide), miss 0 t q 1 _ (by decide), hit 0 t q 0 _ rfl, pay6_at]
  | 1 => rw [miss 1 t q 3 _ (by decide), miss 1 t q 2 _ (by decide), hit 1 t q 1 _ rfl, pay7_at]
  | 2 => rw [miss 2 t q 3 _ (by decide), hit 2 t q 2 _ rfl, pay1_at]
  | 3 => rw [hit 3 t q 3 _ rfl, pay2_at]

variable (c : Dev nD) (i : grid0.Coords) (arg1 : Memref sig .tc .vmem S1x1024x1024 .bf16) (harg1 : arg1.IsWhole) (arg2 : Memref sig .tc .vmem S4x1024x512 .bf16) (harg2 : arg2.IsWhole) (arg4 : Memref sig .tc .vmem S4x1x1024x512 .bf16) (harg4 : arg4.IsWhole) (arg5 : Memref sig .tc .vmem S4x1024x512 .f32) (harg5 : arg5.IsWhole)

/-- The store that empties the sum. -/
abbrev zeroL : List (View.Piece (Elt Ideal) S4x1024x512 .f32) :=
  [⟨Rect.unit (s := S4x1024x512) ![0, 0, 0] ![4, 1024, 512] inb_S4x1024x512_S4x1024x512_0_0_0, k0_pay4 (F := Ideal)⟩]

theorem zeroL_at (j : Fin 4) (t : Fin 1024) (q : Fin 512) : View.canon zeroL (ix3 j t q) = 0 := by
  have z : (![0, 0, 0] : Fin 3 → ℕ) = fun _ => 0 := by
    funext a
    fin_cases a <;> rfl
  have e : View.canon zeroL = k0_pay4 (F := Ideal) :=
    View.canon_unit_zero (Val := Elt Ideal) (e := .f32) (S := S4x1024x512) z inb_S4x1024x512_S4x1024x512_0_0_0 (k0_pay4 (F := Ideal))
  exact (congrFun e _).trans (pay4_at j t q)

theorem whole0 : View.ld x0 (Rect.unit (s := S1x1024x1024) ![0, 0, 0] ![1, 1024, 1024] inb_S1x1024x1024_S1x1024x1024_0_0_0) = x0 :=
  View.ld_unit_zero (by funext a; fin_cases a <;> rfl) _ _
theorem whole1 : View.ld x1 (Rect.unit (s := S4x1024x512) ![0, 0, 0] ![4, 1024, 512] inb_S4x1024x512_S4x1024x512_0_0_0) = x1 :=
  View.ld_unit_zero (by funext a; fin_cases a <;> rfl) _ _

/-- A load of shard `k` after the stores `L`. -/
theorem cov_at (j : Fin 4) (t : Fin 1024) (q : Fin 512) (k : ℕ) (inb) (h : j.val = k) (L : List (View.Piece (Elt Ideal) S4x1024x512 .f32)) :
    View.readCov (Val := Elt Ideal) arg5.view L (Rs k inb).toLoadRect (ix3 0 t q) = View.canon L (ix3 j t q) :=
  (congrFun (View.readCov_eq_canon' arg5.view L (Rs k inb).toLoadRect) _).trans (congrArg (View.canon L) (emb_at j t q k inb h))

theorem listB (hc0 : ¬cond0_0 i) (hc1 : ¬cond0_1 i) : (kernelRun0_B c i arg1 harg1 arg2 harg2 arg4 harg4 arg5 harg5 hc0 hc1 x0 x1 xs0).2.1
      = four x0 x1 (fun k => View.ld xs0 (Rs k.val (by revert k; decide))) [] := by
  have e0 := harg1.read_unread x0
  have e1 := harg2.read_unread x1
  have e2 := harg5.read_unread xs0
  dsimp only [kernelRun0_B, kernelRun0_B.sl.r, kernelRun0_B.sl.r_1, kernelRun0_B.sl.v36, kernelRun0_B.sl.r_2, kernelRun0_B.sl.r_3, kernelRun0_B.sl.r_4, kernelRun0_B.sl.v16, kernelRun0_B.sl.v26]
  simp only [View.readAt_eq_ld, e0, e1, e2, whole0, whole1]
  rfl

theorem soutB (hc0 : ¬cond0_0 i) (hc1 : ¬cond0_1 i) (j : Fin 4) (t : Fin 1024) (q : Fin 512) :
    sout0_B_0 c i arg1 harg1 arg2 harg2 arg4 harg4 arg5 harg5 hc0 hc1 x0 x1 xs0 (ix3 j t q) = xs0 (ix3 j t q) + prod x0 x1 j t q := by
  refine (View.read_writes_junk_apply_eq_canon _ _ _).trans ?_
  rw [listB, four_at, ld_at j t q j.val _ rfl]

theorem listC (hc0 : ¬cond0_0 i) (hc1 : cond0_1 i) : (kernelRun0_C c i arg1 harg1 arg2 harg2 arg4 harg4 arg5 harg5 hc0 hc1 x0 x1 xs0).2.1
      = four x0 x1 (fun k => View.ld xs0 (Rs k.val (by revert k; decide))) [] := by
  have e0 := harg1.read_unread x0
  have e1 := harg2.read_unread x1
  have e2 := harg5.read_unread xs0
  dsimp only [kernelRun0_C, kernelRun0_C.sl.HS0_4, kernelRun0_C.sl.r, kernelRun0_C.sl.r_1, kernelRun0_C.sl.v36, kernelRun0_C.sl.r_2, kernelRun0_C.sl.r_3, kernelRun0_C.sl.r_4, kernelRun0_C.sl.v16, kernelRun0_C.sl.v26]
  simp only [View.readAt_eq_ld, e0, e1, e2, whole0, whole1]
  rfl

theorem soutC (hc0 : ¬cond0_0 i) (hc1 : cond0_1 i) (j : Fin 4) (t : Fin 1024) (q : Fin 512) :
    sout0_C_0 c i arg1 harg1 arg2 harg2 arg4 harg4 arg5 harg5 hc0 hc1 x0 x1 xs0 (ix3 j t q) = xs0 (ix3 j t q) + prod x0 x1 j t q := by
  refine (View.read_writes_junk_apply_eq_canon _ _ _).trans ?_
  rw [listC, four_at, ld_at j t q j.val _ rfl]

theorem outC (hc0 : ¬cond0_0 i) (hc1 : cond0_1 i) (j : Fin 4) (t : Fin 1024) (q : Fin 512) :
    out0_C_2 c i arg1 harg1 arg2 harg2 arg4 harg4 arg5 harg5 hc0 hc1 x0 x1 xs0 (ix4 j 0 t q) = xs0 (ix3 j t q) + prod x0 x1 j t q := by
  refine (View.read_writes_junk_apply_eq_canon _ _ _).trans ?_
  have e : (kernelRun0_C c i arg1 harg1 arg2 harg2 arg4 harg4 arg5 harg5 hc0 hc1 x0 x1 xs0).1
      = [⟨Rect.unit (s := S4x1x1024x512) ![0, 0, 0, 0] ![4, 1, 1024, 512] inb_S4x1x1024x512_S4x1x1024x512_0_0_0_0,
          k0_pay3 (View.readCov (Val := Elt Ideal) arg5.view (kernelRun0_C c i arg1 harg1 arg2 harg2 arg4 harg4 arg5 harg5 hc0 hc1 x0 x1 xs0).2.1
            (Rect.unit (s := S4x1024x512) ![0, 0, 0] ![4, 1024, 512] inb_S4x1024x512_S4x1024x512_0_0_0).toLoadRect)⟩] := rfl
  rw [e, View.canon_unit_zero (Val := Elt Ideal) (S := S4x1x1024x512) (by funext a; fin_cases a <;> rfl), pay3_at, View.readCov_eq_canon', listC]
  exact (congrFun (View.ld_unit_zero (S := S4x1024x512) (by funext a; fin_cases a <;> rfl) inb_S4x1024x512_S4x1024x512_0_0_0
    (View.canon (four x0 x1 (fun k => View.ld xs0 (Rs k.val (by revert k; decide))) []))) (ix3 j t q)).trans
      ((four_at x0 x1 _ _ j t q).trans (by rw [ld_at j t q j.val _ rfl]))

theorem listA (hc0 : cond0_0 i) (hc1 : ¬cond0_1 i) : ∃ u : Fin 4 → Vec Ideal S1x1024x512 .f32,
    (kernelRun0_A c i arg1 harg1 arg2 harg2 arg4 harg4 arg5 harg5 hc0 hc1 x0 x1).2.1 = four x0 x1 u zeroL
      ∧ ∀ (j : Fin 4) (t : Fin 1024) (q : Fin 512), u j (ix3 0 t q) = 0 := by
  have e0 := harg1.read_unread x0
  have e1 := harg2.read_unread x1
  dsimp only [kernelRun0_A, kernelRun0_A.sl.HS0_4, kernelRun0_A.sl.HS0_3, kernelRun0_A.sl.HS0_2, kernelRun0_A.sl.HS0_1, kernelRun0_A.sl.r, kernelRun0_A.sl.r_1, kernelRun0_A.sl.v36, kernelRun0_A.sl.r_2, kernelRun0_A.sl.r_3, kernelRun0_A.sl.r_4, kernelRun0_A.sl.v16, kernelRun0_A.sl.v26, kernelRun0_A.sl.v6]
  simp only [View.readAt_eq_ld, e0, e1, whole0, whole1]
  refine ⟨![_, _, _, _], rfl, ?_⟩
  intro j t q
  match j with
  | 0 => exact (cov_at arg5 0 t q 0 _ rfl _).trans (zeroL_at 0 t q)
  | 1 => exact (cov_at arg5 1 t q 1 _ rfl _).trans ((miss 1 t q 0 _ (by decide) _ _).trans (zeroL_at 1 t q))
  | 2 => exact (cov_at arg5 2 t q 2 _ rfl _).trans ((miss 2 t q 1 _ (by decide) _ _).trans ((miss 2 t q 0 _ (by decide) _ _).trans (zeroL_at 2 t q)))
  | 3 => exact (cov_at arg5 3 t q 3 _ rfl _).trans ((miss 3 t q 2 _ (by decide) _ _).trans ((miss 3 t q 1 _ (by decide) _ _).trans ((miss 3 t q 0 _ (by decide) _ _).trans (zeroL_at 3 t q))))

theorem soutA (hc0 : cond0_0 i) (hc1 : ¬cond0_1 i) (j : Fin 4) (t : Fin 1024) (q : Fin 512) :
    sout0_A_0 c i arg1 harg1 arg2 harg2 arg4 harg4 arg5 harg5 hc0 hc1 x0 x1 (ix3 j t q) = 0 + prod x0 x1 j t q := by
  obtain ⟨u, hu, h0⟩ := listA x0 x1 c i arg1 harg1 arg2 harg2 arg4 harg4 arg5 harg5 hc0 hc1
  refine (View.read_writes_junk_apply_eq_canon _ _ _).trans ?_
  rw [hu, four_at, h0]

end

open Idealize.ShloMosaic.Pipeline (Dat)

section
variable (m : (ℓ : Loc nD τ sig) → Buf (Elt Ideal) ℓ) (c : Dev nD)

/-- The saved rows, and the cotangent by shard. -/
def av (r : Fin 4096) (k : Fin 1024) : EReal := (m ((c : Thread nD τ).loc main_arg0) : Vec Ideal S4096x1024 .bf16) (ix2 r k)
def bv (j : Fin 4) (r : Fin 4096) (q : Fin 512) : EReal := (m ((c : Thread nD τ).loc main_arg1) : Vec Ideal S4x4096x512 .bf16) (ix3 j r q)

theorem V_v0 (r : Fin 4096) (k : Fin 1024) : V m c main_v0 (ix3 0 r k) = av m c r k := by
  have e : V m c main_v0 = broadcastInDim S1x4096x1024 ![1, 2] bcast_S4096x1024_S1x4096x1024_1_2 (m ((c : Thread nD τ).loc main_arg0)) := by
    unfold V
    simp only [hostOps0]
    after_results_simp
  rw [e]
  pointwise [av]

/-- Row `s` of the block of grid point `t`. -/
def row (t : Fin 4) (s : Fin 1024) : Fin 4096 := ⟨t.val * 1024 + s.val, by omega⟩

theorem idx0 : ∀ t : Fin cfg0.N, win0_0.index t = ![0, t.val, 0] := by decide +kernel
theorem idx1 : ∀ t : Fin cfg0.N, win0_1.index t = ![0, t.val, 0] := by decide +kernel
theorem idx2 : ∀ t : Fin cfg0.N, win0_2.index t = ![0, 0, 0, 0] := by decide +kernel

theorem iblk0_at (t : Fin 4) (s : Fin 1024) (k : Fin 1024) : iblk m c 0 (t.cast N_0.symm) (ix3 0 s k) = av m c (row t s) k := by
  blk_simp [iblk]
  refine Eq.trans (congrArg (V m c main_v0) ?_) (V_v0 m c (row t s) k)
  funext a
  fin_cases a <;> apply Fin.ext
  · blk_simp [idx0]
  · blk_simp [idx0]; rfl
  · blk_simp [idx0]; rfl

theorem iblk1_at (t : Fin 4) (j : Fin 4) (s : Fin 1024) (q : Fin 512) : iblk m c 1 (t.cast N_0.symm) (ix3 j s q) = bv m c j (row t s) q := by
  blk_simp [iblk]
  refine (congrFun (V_main_arg1 m c) _).trans (congrArg (m ((c : Thread nD τ).loc main_arg1)) ?_)
  funext a
  fin_cases a <;> apply Fin.ext
  · blk_simp [idx1]; rfl
  · blk_simp [idx1]; rfl
  · blk_simp [idx1]; rfl

/-- What the rows of point `t` add. -/
def part (t j : Fin 4) (k : Fin 1024) (q : Fin 512) : EReal := ∑ s : Fin 1024, av m c (row t s) k * bv m c j (row t s) q

theorem prod_at (t j : Fin 4) (k : Fin 1024) (q : Fin 512) :
    prod (iblk m c 0 (t.cast N_0.symm)) (iblk m c 1 (t.cast N_0.symm)) j k q = part m c t j k q := by
  unfold prod part
  exact Finset.sum_congr rfl fun s _ => congrArg₂ (· * ·) (iblk0_at m c t s k) (iblk1_at m c t j s q)

theorem parts (j : Fin 4) (k : Fin 1024) (q : Fin 512) :
    ∑ r : Fin 4096, av m c r k * bv m c j r q = 0 + part m c 0 j k q + part m c 1 j k q + part m c 2 j k q + part m c 3 j k q := by
  rw [zero_add]
  refine (Fin.sum_univ_tiles 4 1024 rfl _).trans ?_
  exact Fin.sum_univ_four _

theorem stepA (t : Fin cfg0.N) (h0 : t.val % 4 = 0) (h1 : ¬t.val % 4 = 3) (j : Fin 4) (k : Fin 1024) (q : Fin 512) :
    (outsAt0 m c t.val t.isLt).2 (ix3 j k q) = 0 + prod (iblk m c 0 t) (iblk m c 1 t) j k q := by
  rw [outsAt0_A m c t h0 h1]
  dsimp only
  rw [soutA]

theorem stepB (t : Fin cfg0.N) (h0 : ¬t.val % 4 = 0) (h1 : ¬t.val % 4 = 3) (j : Fin 4) (k : Fin 1024) (q : Fin 512) :
    (outsAt0 m c t.val t.isLt).2 (ix3 j k q) = (outsAt0 m c (t.val - 1) (Nat.lt_of_le_of_lt (Nat.sub_le _ _) t.isLt)).2 (ix3 j k q) + prod (iblk m c 0 t) (iblk m c 1 t) j k q := by
  rw [outsAt0_B m c t h0 h1]
  dsimp only
  rw [soutB]

theorem stepC (t : Fin cfg0.N) (h0 : ¬t.val % 4 = 0) (h1 : t.val % 4 = 3) (j : Fin 4) (k : Fin 1024) (q : Fin 512) :
    (outsAt0 m c t.val t.isLt).1 (ix4 j 0 k q) = (outsAt0 m c (t.val - 1) (Nat.lt_of_le_of_lt (Nat.sub_le _ _) t.isLt)).2 (ix3 j k q) + prod (iblk m c 0 t) (iblk m c 1 t) j k q := by
  rw [outsAt0_C m c t h0 h1]
  dsimp only
  rw [outC]

attribute [local irreducible] outsAt0

theorem sum0 (h : 0 < cfg0.N) (j : Fin 4) (k : Fin 1024) (q : Fin 512) : (outsAt0 m c 0 h).2 (ix3 j k q) = 0 + part m c 0 j k q := by
  rw [← prod_at]
  exact stepA m c ((0 : Fin 4).cast N_0.symm) rfl (show ¬0 % 4 = 3 by decide) j k q

theorem sum1 (h : 1 < cfg0.N) (j : Fin 4) (k : Fin 1024) (q : Fin 512) : (outsAt0 m c 1 h).2 (ix3 j k q) = 0 + part m c 0 j k q + part m c 1 j k q := by
  rw [← sum0 m c (Nat.lt_of_succ_lt h), ← prod_at m c 1]
  exact stepB m c ((1 : Fin 4).cast N_0.symm) (show ¬1 % 4 = 0 by decide) (show ¬1 % 4 = 3 by decide) j k q

theorem sum2 (h : 2 < cfg0.N) (j : Fin 4) (k : Fin 1024) (q : Fin 512) : (outsAt0 m c 2 h).2 (ix3 j k q) = 0 + part m c 0 j k q + part m c 1 j k q + part m c 2 j k q := by
  rw [← sum1 m c (Nat.lt_of_succ_lt h), ← prod_at m c 2]
  exact stepB m c ((2 : Fin 4).cast N_0.symm) (show ¬2 % 4 = 0 by decide) (show ¬2 % 4 = 3 by decide) j k q

theorem out3 (h : 3 < cfg0.N) (j : Fin 4) (k : Fin 1024) (q : Fin 512) : (outsAt0 m c 3 h).1 (ix4 j 0 k q) = ∑ r : Fin 4096, av m c r k * bv m c j r q := by
  rw [parts, ← sum2 m c (Nat.lt_of_succ_lt h), ← prod_at m c 3]
  exact stepC m c ((3 : Fin 4).cast N_0.symm) (show ¬3 % 4 = 0 by decide) (show 3 % 4 = 3 by decide) j k q

theorem out_last (t : Fin cfg0.N) (h : t.val = 3) (j : Fin 4) (k : Fin 1024) (q : Fin 512) :
    (outsAt0 m c t.val t.isLt).1 (ix4 j 0 k q) = ∑ r : Fin 4096, av m c r k * bv m c j r q := by
  obtain ⟨n, hn⟩ := t
  obtain rfl : n = 3 := h
  exact out3 m c hn j k q

theorem emb2 (t : Fin cfg0.N) (j : Fin 4) (k : Fin 1024) (q : Fin 512) :
    (win0_2.blk t).view.emb (ix4 j 0 k q) = ix4 (n0 := 4) (n1 := 1) (n2 := 1024) (n3 := 512) j 0 k q := by
  funext a
  fin_cases a <;> apply Fin.ext <;> blk_simp [idx2]

/-- The array the call leaves. -/
theorem arr2 : (dats m 0 c).arrAt 2 cfg0.N = fun i : S4x1x1024x512.Idx => ∑ r : Fin 4096, av m c r (i 2) * bv m c (i 0) r (i 3) := by
  refine (dats m 0 c).arrAt_eq_of_covers 2 _ (by decide +kernel) fun t hf y => ?_
  have ht : t.val = 3 := by
    have h4 : t.val < 4 := t.isLt
    have h3 := (flush0_2 t).mp hf
    omega
  blk_simp
  rw [after0_2]
  obtain ⟨j, u, k, q, rfl⟩ : ∃ (j : Fin 4) (u : Fin 1) (k : Fin 1024) (q : Fin 512), y = ix4 j u k q := ⟨_, _, _, _, eq_ix4 y⟩
  obtain rfl : u = 0 := Subsingleton.elim _ _
  exact (out_last m c t ht j k q).trans (congrArg (fun i : S4x1x1024x512.Idx => ∑ r : Fin 4096, av m c r (i 2) * bv m c (i 0) r (i 3)) (emb2 t j k q)).symm

end

end Cert.DwIn

namespace Cert.DwInRef

open Cert.Reference6Ideal Cert.Reference6Ideal.Gen Cert.Reference6Ideal.Value Idealize.ShloMosaic Idealize.ShloMosaic.TcCoe Idealize.SL.Sem

/-- The reference's array, of the saved rows and the cotangent. -/
def value (a : Vec Ideal S4096x1024 .bf16) (x : Vec Ideal S4x4096x512 .bf16) : Vec Ideal S4x1x1024x512 .bf16 :=
  truncf (F := Ideal) .bf16 (transpose S4x1x1024x512 [1, 2, 0, 3] (shapeCast S1024x4x1x512 (transpose S1024x2048 [1, 0] (Host.dotGeneral (F := Ideal) (φ₁ := .f32) (φ₂ := .f32) dot_S4096x2048_S4096x1024_S2048x1024_0_0_1_1_n_n none (shapeCast S4096x2048 (transpose S4096x4x512 [1, 0, 2] (extf (F := Ideal) .f32 x bitsLt_bf16_f32) transposes_S4x4096x512_S4096x4x512_1_0_2) shapeCasts_S4096x4x512_S4096x2048) (extf (F := Ideal) .f32 a bitsLt_bf16_f32)) transposes_S2048x1024_S1024x2048_1_0) shapeCasts_S1024x2048_S1024x4x1x512) transposes_S1024x4x1x512_S4x1x1024x512_1_2_0_3) bitsLt_bf16_f32

theorem value_at (a : Vec Ideal S4096x1024 .bf16) (x : Vec Ideal S4x4096x512 .bf16) (j : Fin 4) (k : Fin 1024) (q : Fin 512) :
    value a x (ix4 j 0 k q) = ∑ r : Fin 4096, a (ix2 r k) * x (ix3 j r q) := by
  pointwise [value]
  exact Finset.sum_congr rfl fun _ _ => mul_comm _ _

theorem run' (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v10) = value (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  run (F := Ideal) m ρ

end Cert.DwInRef

namespace Cert.DwIn

open Cert.Kernel6Ideal Cert.Kernel6Ideal.Gen Idealize.ShloMosaic Idealize.ShloMosaic.TcCoe Idealize.SL.Sem

variable {m : (ℓ : Loc nD τ sig) → Buf (Elt Ideal) ℓ} {c : Dev nD}

theorem dw_eq (a : Vec Ideal S4096x1024 .bf16) (x : Vec Ideal S4x4096x512 .bf16) (h0 : a = m ((c : Thread nD τ).loc main_arg0)) (h1 : x = m ((c : Thread nD τ).loc main_arg1)) :
    DwInRef.value a x = (dats m 0 c).arrAt 2 cfg0.N := by
  rw [arr2]
  funext i
  obtain ⟨j, u, k, q, rfl⟩ : ∃ (j : Fin 4) (u : Fin 1) (k : Fin 1024) (q : Fin 512), i = ix4 j u k q := ⟨_, _, _, _, eq_ix4 i⟩
  obtain rfl : u = 0 := Subsingleton.elim _ _
  subst h0
  subst h1
  exact DwInRef.value_at _ _ j k q

end Cert.DwIn
-- ==== Proof.DwPleGate.lean ====
/- The gradient of the layer embedding's gate's weight: the kernel at one grid point: each shard of the sum it keeps takes in the point's product. -/
module

public import proofs.«01_k».proof.Proof.Gen.Kernel7Ideal.Frame
public import proofs.«01_k».proof.Proof.Gen.Reference7Ideal.Run
public import Idealize.ShloMosaic.Lib.Pipeline.ValueKit
public import Idealize.ShloMosaic.Lib.Pointwise

@[expose] public section

set_option maxRecDepth 16384

noncomputable section

namespace Cert.DwPleGate

open Cert.Kernel7Ideal Cert.Kernel7Ideal.Gen Idealize.ShloMosaic Idealize.ShloMosaic.TcCoe Idealize.SL.Sem

/-- The rows of shard `k` of the sum. -/
abbrev Rs (k : ℕ) (inb : ∀ a : Fin 3, (![k, 0, 0] : Fin 3 → ℕ) a + (![1, 256, 1024] : Fin 3 → ℕ) a ≤ S4x256x1024.size a) : Rect S4x256x1024 :=
  Rect.unit (s := S4x256x1024) ![k, 0, 0] ![1, 256, 1024] inb

theorem emb_at (j : Fin 4) (t : Fin 256) (q : Fin 1024) (k : ℕ) (inb) (h : j.val = k) : (Rs k inb).emb (ix3 (n0 := 1) 0 t q) = ix3 (n0 := 4) (n1 := 256) (n2 := 1024) j t q := by
  subst h
  funext a; fin_cases a <;> apply Fin.ext <;> simp [Rect.emb_apply]

theorem hit (j : Fin 4) (t : Fin 256) (q : Fin 1024) (k : ℕ) (inb) (h : j.val = k) (w : Vec Ideal S1x256x1024 .f32) (L : List (View.Piece (Elt Ideal) S4x256x1024 .f32)) :
    View.canon ((⟨Rs k inb, w⟩ : View.Piece (Elt Ideal) S4x256x1024 .f32) :: L) (ix3 j t q) = w (ix3 0 t q) := by
  rw [← emb_at j t q k inb h]
  exact View.canon_cons_emb (Val := Elt Ideal) (Rs k inb) w L _

theorem miss (j : Fin 4) (t : Fin 256) (q : Fin 1024) (k : ℕ) (inb) (h : j.val ≠ k) (w : Vec Ideal S1x256x1024 .f32) (L : List (View.Piece (Elt Ideal) S4x256x1024 .f32)) :
    View.canon ((⟨Rs k inb, w⟩ : View.Piece (Elt Ideal) S4x256x1024 .f32) :: L) (ix3 j t q) = View.canon L (ix3 j t q) := by
  refine View.canon_cons_of_not_mem (Val := Elt Ideal) _ L ?_
  refine (Rs k inb).not_mem_set_of_axis _ 0 k 1 rfl rfl rfl ?_
  show j.val < k ∨ k + 1 ≤ j.val
  omega

theorem ld_at (j : Fin 4) (t : Fin 256) (q : Fin 1024) (k : ℕ) (inb) (h : j.val = k) (X : Vec Ideal S4x256x1024 .f32) :
    View.ld X (Rs k inb) (ix3 0 t q) = X (ix3 j t q) :=
  congrArg X (emb_at j t q k inb h)

section
variable (x0 : Vec Ideal S1x1024x1024 .f32) (x1 : Vec Ideal S1x1024x1024 .bf16) (xs0 : Vec Ideal S4x256x1024 .f32) (v : Vec Ideal S1x256x1024 .f32)

/-- Column `256 j + t` of 1024. -/
def cc (j : Fin 4) (t : Fin 256) : Fin 1024 := ⟨j.val * 256 + t.val, by omega⟩

/-- One point's product: shard `j`, row `t`, column `q`. -/
def prod (j : Fin 4) (t : Fin 256) (q : Fin 1024) : EReal := ∑ s : Fin 1024, x0 (ix3 0 s (cc j t)) * x1 (ix3 0 s q)

theorem pay6_at (t : Fin 256) (q : Fin 1024) : k0_pay7 x0 x1 v (ix3 0 t q) = v (ix3 0 t q) + prod x0 x1 0 t q := by pointwise [k0_pay1, k0_pay2, k0_pay5, k0_pay6, k0_pay7, k0_pay8, k0_pay9, k0_pay10, prod, cc]
theorem pay7_at (t : Fin 256) (q : Fin 1024) : k0_pay8 x0 x1 v (ix3 0 t q) = v (ix3 0 t q) + prod x0 x1 1 t q := by pointwise [k0_pay1, k0_pay2, k0_pay5, k0_pay6, k0_pay7, k0_pay8, k0_pay9, k0_pay10, prod, cc]
theorem pay1_at (t : Fin 256) (q : Fin 1024) : k0_pay1 (k0_pay6 x1) (k0_pay9 v) (k0_pay10 x0) (ix3 0 t q) = v (ix3 0 t q) + prod x0 x1 2 t q := by pointwise [k0_pay1, k0_pay2, k0_pay5, k0_pay6, k0_pay7, k0_pay8, k0_pay9, k0_pay10, prod, cc]
theorem pay2_at (t : Fin 256) (q : Fin 1024) : k0_pay2 (k0_pay5 x0) (k0_pay6 x1) v (ix3 0 t q) = v (ix3 0 t q) + prod x0 x1 3 t q := by pointwise [k0_pay1, k0_pay2, k0_pay5, k0_pay6, k0_pay7, k0_pay8, k0_pay9, k0_pay10, prod, cc]
theorem pay4_at (j : Fin 4) (t : Fin 256) (q : Fin 1024) : k0_pay4 (F := Ideal) (ix3 j t q) = 0 := by pointwise [k0_pay4]
theorem pay3_at (j : Fin 4) (t : Fin 256) (q : Fin 1024) : k0_pay3 xs0 (ix4 j 0 t q) = xs0 (ix3 j t q) := by pointwise [k0_pay3]

/-- The four stores of a point, over the pieces `L` before them, what shard `k` held read as `u k`. -/
def four (u : Fin 4 → Vec Ideal S1x256x1024 .f32) (L : List (View.Piece (Elt Ideal) S4x256x1024 .f32)) : List (View.Piece (Elt Ideal) S4x256x1024 .f32) :=
  ⟨Rs 3 inb_S4x256x1024_S1x256x1024_3_0_0, k0_pay2 (k0_pay5 x0) (k0_pay6 x1) (u 3)⟩ ::
  ⟨Rs 2 inb_S4x256x1024_S1x256x1024_2_0_0, k0_pay1 (k0_pay6 x1) (k0_pay9 (u 2)) (k0_pay10 x0)⟩ ::
  ⟨Rs 1 inb_S4x256x1024_S1x256x1024_1_0_0, k0_pay8 x0 x1 (u 1)⟩ ::
  ⟨Rs 0 inb_S4x256x1024_S1x256x1024_0_0_0, k0_pay7 x0 x1 (u 0)⟩ :: L

theorem four_at (u : Fin 4 → Vec Ideal S1x256x1024 .f32) (L : List (View.Piece (Elt Ideal) S4x256x1024 .f32)) (j : Fin 4) (t : Fin 256) (q : Fin 1024) :
    View.canon (four x0 x1 u L) (ix3 j t q) = u j (ix3 0 t q) + prod x0 x1 j t q := by
  unfold four
  match j with
  | 0 => rw [miss 0 t q 3 _ (by decide), miss 0 t q 2 _ (by decide), miss 0 t q 1 _ (by decide), hit 0 t q 0 _ rfl, pay6_at]
  | 1 => rw [miss 1 t q 3 _ (by decide), miss 1 t q 2 _ (by decide), hit 1 t q 1 _ rfl, pay7_at]
  | 2 => rw [miss 2 t q 3 _ (by decide), hit 2 t q 2 _ rfl, pay1_at]
  | 3 => rw [hit 3 t q 3 _ rfl, pay2_at]

variable (c : Dev nD) (i : grid0.Coords) (arg1 : Memref sig .tc .vmem S1x1024x1024 .f32) (harg1 : arg1.IsWhole) (arg2 : Memref sig .tc .vmem S1x1024x1024 .bf16) (harg2 : arg2.IsWhole) (arg4 : Memref sig .tc .vmem S4x1x256x1024 .bf16) (harg4 : arg4.IsWhole) (arg5 : Memref sig .tc .vmem S4x256x1024 .f32) (harg5 : arg5.IsWhole)

/-- The store that empties the sum. -/
abbrev zeroL : List (View.Piece (Elt Ideal) S4x256x1024 .f32) :=
  [⟨Rect.unit (s := S4x256x1024) ![0, 0, 0] ![4, 256, 1024] inb_S4x256x1024_S4x256x1024_0_0_0, k0_pay4 (F := Ideal)⟩]

theorem zeroL_at (j : Fin 4) (t : Fin 256) (q : Fin 1024) : View.canon zeroL (ix3 j t q) = 0 := by
  have z : (![0, 0, 0] : Fin 3 → ℕ) = fun _ => 0 := by
    funext a
    fin_cases a <;> rfl
  have e : View.canon zeroL = k0_pay4 (F := Ideal) :=
    View.canon_unit_zero (Val := Elt Ideal) (e := .f32) (S := S4x256x1024) z inb_S4x256x1024_S4x256x1024_0_0_0 (k0_pay4 (F := Ideal))
  exact (congrFun e _).trans (pay4_at j t q)

theorem whole0 : View.ld x0 (Rect.unit (s := S1x1024x1024) ![0, 0, 0] ![1, 1024, 1024] inb_S1x1024x1024_S1x1024x1024_0_0_0) = x0 :=
  View.ld_unit_zero (by funext a; fin_cases a <;> rfl) _ _
theorem whole1 : View.ld x1 (Rect.unit (s := S1x1024x1024) ![0, 0, 0] ![1, 1024, 1024] inb_S1x1024x1024_S1x1024x1024_0_0_0) = x1 :=
  View.ld_unit_zero (by funext a; fin_cases a <;> rfl) _ _

/-- A load of shard `k` after the stores `L`. -/
theorem cov_at (j : Fin 4) (t : Fin 256) (q : Fin 1024) (k : ℕ) (inb) (h : j.val = k) (L : List (View.Piece (Elt Ideal) S4x256x1024 .f32)) :
    View.readCov (Val := Elt Ideal) arg5.view L (Rs k inb).toLoadRect (ix3 0 t q) = View.canon L (ix3 j t q) :=
  (congrFun (View.readCov_eq_canon' arg5.view L (Rs k inb).toLoadRect) _).trans (congrArg (View.canon L) (emb_at j t q k inb h))

theorem listB (hc0 : ¬cond0_0 i) (hc1 : ¬cond0_1 i) : (kernelRun0_B c i arg1 harg1 arg2 harg2 arg4 harg4 arg5 harg5 hc0 hc1 x0 x1 xs0).2.1
      = four x0 x1 (fun k => View.ld xs0 (Rs k.val (by revert k; decide))) [] := by
  have e0 := harg1.read_unread x0
  have e1 := harg2.read_unread x1
  have e2 := harg5.read_unread xs0
  dsimp only [kernelRun0_B, kernelRun0_B.sl.r, kernelRun0_B.sl.r_1, kernelRun0_B.sl.v38, kernelRun0_B.sl.r_2, kernelRun0_B.sl.r_3, kernelRun0_B.sl.v18, kernelRun0_B.sl.v28]
  simp only [View.readAt_eq_ld, e0, e1, e2, whole0, whole1]
  rfl

theorem soutB (hc0 : ¬cond0_0 i) (hc1 : ¬cond0_1 i) (j : Fin 4) (t : Fin 256) (q : Fin 1024) :
    sout0_B_0 c i arg1 harg1 arg2 harg2 arg4 harg4 arg5 harg5 hc0 hc1 x0 x1 xs0 (ix3 j t q) = xs0 (ix3 j t q) + prod x0 x1 j t q := by
  refine (View.read_writes_junk_apply_eq_canon _ _ _).trans ?_
  rw [listB, four_at, ld_at j t q j.val _ rfl]

theorem listC (hc0 : ¬cond0_0 i) (hc1 : cond0_1 i) : (kernelRun0_C c i arg1 harg1 arg2 harg2 arg4 harg4 arg5 harg5 hc0 hc1 x0 x1 xs0).2.1
      = four x0 x1 (fun k => View.ld xs0 (Rs k.val (by revert k; decide))) [] := by
  have e0 := harg1.read_unread x0
  have e1 := harg2.read_unread x1
  have e2 := harg5.read_unread xs0
  dsimp only [kernelRun0_C, kernelRun0_C.sl.HS0_4, kernelRun0_C.sl.r, kernelRun0_C.sl.r_1, kernelRun0_C.sl.v38, kernelRun0_C.sl.r_2, kernelRun0_C.sl.r_3, kernelRun0_C.sl.v18, kernelRun0_C.sl.v28]
  simp only [View.readAt_eq_ld, e0, e1, e2, whole0, whole1]
  rfl

theorem soutC (hc0 : ¬cond0_0 i) (hc1 : cond0_1 i) (j : Fin 4) (t : Fin 256) (q : Fin 1024) :
    sout0_C_0 c i arg1 harg1 arg2 harg2 arg4 harg4 arg5 harg5 hc0 hc1 x0 x1 xs0 (ix3 j t q) = xs0 (ix3 j t q) + prod x0 x1 j t q := by
  refine (View.read_writes_junk_apply_eq_canon _ _ _).trans ?_
  rw [listC, four_at, ld_at j t q j.val _ rfl]

theorem outC (hc0 : ¬cond0_0 i) (hc1 : cond0_1 i) (j : Fin 4) (t : Fin 256) (q : Fin 1024) :
    out0_C_2 c i arg1 harg1 arg2 harg2 arg4 harg4 arg5 harg5 hc0 hc1 x0 x1 xs0 (ix4 j 0 t q) = xs0 (ix3 j t q) + prod x0 x1 j t q := by
  refine (View.read_writes_junk_apply_eq_canon _ _ _).trans ?_
  have e : (kernelRun0_C c i arg1 harg1 arg2 harg2 arg4 harg4 arg5 harg5 hc0 hc1 x0 x1 xs0).1
      = [⟨Rect.unit (s := S4x1x256x1024) ![0, 0, 0, 0] ![4, 1, 256, 1024] inb_S4x1x256x1024_S4x1x256x1024_0_0_0_0,
          k0_pay3 (View.readCov (Val := Elt Ideal) arg5.view (kernelRun0_C c i arg1 harg1 arg2 harg2 arg4 harg4 arg5 harg5 hc0 hc1 x0 x1 xs0).2.1
            (Rect.unit (s := S4x256x1024) ![0, 0, 0] ![4, 256, 1024] inb_S4x256x1024_S4x256x1024_0_0_0).toLoadRect)⟩] := rfl
  rw [e, View.canon_unit_zero (Val := Elt Ideal) (S := S4x1x256x1024) (by funext a; fin_cases a <;> rfl), pay3_at, View.readCov_eq_canon', listC]
  exact (congrFun (View.ld_unit_zero (S := S4x256x1024) (by funext a; fin_cases a <;> rfl) inb_S4x256x1024_S4x256x1024_0_0_0
    (View.canon (four x0 x1 (fun k => View.ld xs0 (Rs k.val (by revert k; decide))) []))) (ix3 j t q)).trans
      ((four_at x0 x1 _ _ j t q).trans (by rw [ld_at j t q j.val _ rfl]))

theorem listA (hc0 : cond0_0 i) (hc1 : ¬cond0_1 i) : ∃ u : Fin 4 → Vec Ideal S1x256x1024 .f32,
    (kernelRun0_A c i arg1 harg1 arg2 harg2 arg4 harg4 arg5 harg5 hc0 hc1 x0 x1).2.1 = four x0 x1 u zeroL
      ∧ ∀ (j : Fin 4) (t : Fin 256) (q : Fin 1024), u j (ix3 0 t q) = 0 := by
  have e0 := harg1.read_unread x0
  have e1 := harg2.read_unread x1
  dsimp only [kernelRun0_A, kernelRun0_A.sl.HS0_4, kernelRun0_A.sl.HS0_3, kernelRun0_A.sl.HS0_2, kernelRun0_A.sl.HS0_1, kernelRun0_A.sl.r, kernelRun0_A.sl.r_1, kernelRun0_A.sl.v38, kernelRun0_A.sl.r_2, kernelRun0_A.sl.r_3, kernelRun0_A.sl.v18, kernelRun0_A.sl.v28, kernelRun0_A.sl.v8]
  simp only [View.readAt_eq_ld, e0, e1, whole0, whole1]
  refine ⟨![_, _, _, _], rfl, ?_⟩
  intro j t q
  match j with
  | 0 => exact (cov_at arg5 0 t q 0 _ rfl _).trans (zeroL_at 0 t q)
  | 1 => exact (cov_at arg5 1 t q 1 _ rfl _).trans ((miss 1 t q 0 _ (by decide) _ _).trans (zeroL_at 1 t q))
  | 2 => exact (cov_at arg5 2 t q 2 _ rfl _).trans ((miss 2 t q 1 _ (by decide) _ _).trans ((miss 2 t q 0 _ (by decide) _ _).trans (zeroL_at 2 t q)))
  | 3 => exact (cov_at arg5 3 t q 3 _ rfl _).trans ((miss 3 t q 2 _ (by decide) _ _).trans ((miss 3 t q 1 _ (by decide) _ _).trans ((miss 3 t q 0 _ (by decide) _ _).trans (zeroL_at 3 t q))))

theorem soutA (hc0 : cond0_0 i) (hc1 : ¬cond0_1 i) (j : Fin 4) (t : Fin 256) (q : Fin 1024) :
    sout0_A_0 c i arg1 harg1 arg2 harg2 arg4 harg4 arg5 harg5 hc0 hc1 x0 x1 (ix3 j t q) = 0 + prod x0 x1 j t q := by
  obtain ⟨u, hu, h0⟩ := listA x0 x1 c i arg1 harg1 arg2 harg2 arg4 harg4 arg5 harg5 hc0 hc1
  refine (View.read_writes_junk_apply_eq_canon _ _ _).trans ?_
  rw [hu, four_at, h0]

end

open Idealize.ShloMosaic.Pipeline (Dat)

section
variable (m : (ℓ : Loc nD τ sig) → Buf (Elt Ideal) ℓ) (c : Dev nD)

/-- The saved rows, and the cotangent by shard. -/
def av (r : Fin 4096) (k : Fin 1024) : EReal := (m ((c : Thread nD τ).loc main_arg0) : Vec Ideal S4096x1024 .f32) (ix2 r k)
def bv (_j : Fin 4) (r : Fin 4096) (q : Fin 1024) : EReal := (m ((c : Thread nD τ).loc main_arg1) : Vec Ideal S4096x1024 .bf16) (ix2 r q)

theorem V_v0 (r : Fin 4096) (k : Fin 1024) : V m c main_v0 (ix3 0 r k) = av m c r k := by
  have e : V m c main_v0 = broadcastInDim S1x4096x1024 ![1, 2] bcast_S4096x1024_S1x4096x1024_1_2 (m ((c : Thread nD τ).loc main_arg0)) := by
    unfold V
    simp only [hostOps0]
    after_results_simp
  rw [e]
  pointwise [av]

theorem V_v1 (r : Fin 4096) (k : Fin 1024) : V m c main_v1 (ix3 0 r k) = bv m c 0 r k := by
  have e : V m c main_v1 = broadcastInDim S1x4096x1024 ![1, 2] bcast_S4096x1024_S1x4096x1024_1_2 (m ((c : Thread nD τ).loc main_arg1)) := by
    unfold V
    simp only [hostOps0]
    after_results_simp
  rw [e]
  pointwise [bv]

/-- Row `s` of the block of grid point `t`. -/
def row (t : Fin 4) (s : Fin 1024) : Fin 4096 := ⟨t.val * 1024 + s.val, by omega⟩

theorem idx0 : ∀ t : Fin cfg0.N, win0_0.index t = ![0, t.val, 0] := by decide +kernel
theorem idx1 : ∀ t : Fin cfg0.N, win0_1.index t = ![0, t.val, 0] := by decide +kernel
theorem idx2 : ∀ t : Fin cfg0.N, win0_2.index t = ![0, 0, 0, 0] := by decide +kernel

theorem iblk0_at (t : Fin 4) (s : Fin 1024) (k : Fin 1024) : iblk m c 0 (t.cast N_0.symm) (ix3 0 s k) = av m c (row t s) k := by
  blk_simp [iblk]
  refine Eq.trans (congrArg (V m c main_v0) ?_) (V_v0 m c (row t s) k)
  funext a
  fin_cases a <;> apply Fin.ext
  · blk_simp [idx0]
  · blk_simp [idx0]; rfl
  · blk_simp [idx0]; rfl

theorem iblk1_at (t : Fin 4) (j : Fin 4) (s : Fin 1024) (q : Fin 1024) : iblk m c 1 (t.cast N_0.symm) (ix3 0 s q) = bv m c j (row t s) q := by
  blk_simp [iblk]
  refine Eq.trans (congrArg (V m c main_v1) ?_) (V_v1 m c (row t s) q)
  funext a
  fin_cases a <;> apply Fin.ext
  · blk_simp [idx1]
  · blk_simp [idx1]; rfl
  · blk_simp [idx1]; rfl

/-- What the rows of point `t` add. -/
def part (t j : Fin 4) (k : Fin 256) (q : Fin 1024) : EReal := ∑ s : Fin 1024, av m c (row t s) (cc j k) * bv m c j (row t s) q

theorem prod_at (t j : Fin 4) (k : Fin 256) (q : Fin 1024) :
    prod (iblk m c 0 (t.cast N_0.symm)) (iblk m c 1 (t.cast N_0.symm)) j k q = part m c t j k q := by
  unfold prod part
  exact Finset.sum_congr rfl fun s _ => congrArg₂ (· * ·) (iblk0_at m c t s (cc j k)) (iblk1_at m c t j s q)

theorem parts (j : Fin 4) (k : Fin 256) (q : Fin 1024) :
    ∑ r : Fin 4096, av m c r (cc j k) * bv m c j r q = 0 + part m c 0 j k q + part m c 1 j k q + part m c 2 j k q + part m c 3 j k q := by
  rw [zero_add]
  refine (Fin.sum_univ_tiles 4 1024 rfl _).trans ?_
  exact Fin.sum_univ_four _

theorem stepA (t : Fin cfg0.N) (h0 : t.val % 4 = 0) (h1 : ¬t.val % 4 = 3) (j : Fin 4) (k : Fin 256) (q : Fin 1024) :
    (outsAt0 m c t.val t.isLt).2 (ix3 j k q) = 0 + prod (iblk m c 0 t) (iblk m c 1 t) j k q := by
  rw [outsAt0_A m c t h0 h1]
  dsimp only
  rw [soutA]

theorem stepB (t : Fin cfg0.N) (h0 : ¬t.val % 4 = 0) (h1 : ¬t.val % 4 = 3) (j : Fin 4) (k : Fin 256) (q : Fin 1024) :
    (outsAt0 m c t.val t.isLt).2 (ix3 j k q) = (outsAt0 m c (t.val - 1) (Nat.lt_of_le_of_lt (Nat.sub_le _ _) t.isLt)).2 (ix3 j k q) + prod (iblk m c 0 t) (iblk m c 1 t) j k q := by
  rw [outsAt0_B m c t h0 h1]
  dsimp only
  rw [soutB]

theorem stepC (t : Fin cfg0.N) (h0 : ¬t.val % 4 = 0) (h1 : t.val % 4 = 3) (j : Fin 4) (k : Fin 256) (q : Fin 1024) :
    (outsAt0 m c t.val t.isLt).1 (ix4 j 0 k q) = (outsAt0 m c (t.val - 1) (Nat.lt_of_le_of_lt (Nat.sub_le _ _) t.isLt)).2 (ix3 j k q) + prod (iblk m c 0 t) (iblk m c 1 t) j k q := by
  rw [outsAt0_C m c t h0 h1]
  dsimp only
  rw [outC]

attribute [local irreducible] outsAt0

theorem sum0 (h : 0 < cfg0.N) (j : Fin 4) (k : Fin 256) (q : Fin 1024) : (outsAt0 m c 0 h).2 (ix3 j k q) = 0 + part m c 0 j k q := by
  rw [← prod_at]
  exact stepA m c ((0 : Fin 4).cast N_0.symm) rfl (show ¬0 % 4 = 3 by decide) j k q

theorem sum1 (h : 1 < cfg0.N) (j : Fin 4) (k : Fin 256) (q : Fin 1024) : (outsAt0 m c 1 h).2 (ix3 j k q) = 0 + part m c 0 j k q + part m c 1 j k q := by
  rw [← sum0 m c (Nat.lt_of_succ_lt h), ← prod_at m c 1]
  exact stepB m c ((1 : Fin 4).cast N_0.symm) (show ¬1 % 4 = 0 by decide) (show ¬1 % 4 = 3 by decide) j k q

theorem sum2 (h : 2 < cfg0.N) (j : Fin 4) (k : Fin 256) (q : Fin 1024) : (outsAt0 m c 2 h).2 (ix3 j k q) = 0 + part m c 0 j k q + part m c 1 j k q + part m c 2 j k q := by
  rw [← sum1 m c (Nat.lt_of_succ_lt h), ← prod_at m c 2]
  exact stepB m c ((2 : Fin 4).cast N_0.symm) (show ¬2 % 4 = 0 by decide) (show ¬2 % 4 = 3 by decide) j k q

theorem out3 (h : 3 < cfg0.N) (j : Fin 4) (k : Fin 256) (q : Fin 1024) : (outsAt0 m c 3 h).1 (ix4 j 0 k q) = ∑ r : Fin 4096, av m c r (cc j k) * bv m c j r q := by
  rw [parts, ← sum2 m c (Nat.lt_of_succ_lt h), ← prod_at m c 3]
  exact stepC m c ((3 : Fin 4).cast N_0.symm) (show ¬3 % 4 = 0 by decide) (show 3 % 4 = 3 by decide) j k q

theorem out_last (t : Fin cfg0.N) (h : t.val = 3) (j : Fin 4) (k : Fin 256) (q : Fin 1024) :
    (outsAt0 m c t.val t.isLt).1 (ix4 j 0 k q) = ∑ r : Fin 4096, av m c r (cc j k) * bv m c j r q := by
  obtain ⟨n, hn⟩ := t
  obtain rfl : n = 3 := h
  exact out3 m c hn j k q

theorem emb2 (t : Fin cfg0.N) (j : Fin 4) (k : Fin 256) (q : Fin 1024) :
    (win0_2.blk t).view.emb (ix4 j 0 k q) = ix4 (n0 := 4) (n1 := 1) (n2 := 256) (n3 := 1024) j 0 k q := by
  funext a
  fin_cases a <;> apply Fin.ext <;> blk_simp [idx2]

/-- The array the call leaves. -/
theorem arr2 : (dats m 0 c).arrAt 2 cfg0.N = fun i : S4x1x256x1024.Idx => ∑ r : Fin 4096, av m c r (cc (i 0) (i 2)) * bv m c (i 0) r (i 3) := by
  refine (dats m 0 c).arrAt_eq_of_covers 2 _ (by decide +kernel) fun t hf y => ?_
  have ht : t.val = 3 := by
    have h4 : t.val < 4 := t.isLt
    have h3 := (flush0_2 t).mp hf
    omega
  blk_simp
  rw [after0_2]
  obtain ⟨j, u, k, q, rfl⟩ : ∃ (j : Fin 4) (u : Fin 1) (k : Fin 256) (q : Fin 1024), y = ix4 j u k q := ⟨_, _, _, _, eq_ix4 y⟩
  obtain rfl : u = 0 := Subsingleton.elim _ _
  exact (out_last m c t ht j k q).trans (congrArg (fun i : S4x1x256x1024.Idx => ∑ r : Fin 4096, av m c r (cc (i 0) (i 2)) * bv m c (i 0) r (i 3)) (emb2 t j k q)).symm

end

end Cert.DwPleGate

namespace Cert.DwPleGateRef

open Cert.Reference7Ideal Cert.Reference7Ideal.Gen Cert.Reference7Ideal.Value Idealize.ShloMosaic Idealize.ShloMosaic.TcCoe Idealize.SL.Sem

/-- The reference's array, of the saved rows and the cotangent. -/
def value (a : Vec Ideal S4096x1024 .f32) (x : Vec Ideal S4096x1024 .bf16) : Vec Ideal S4x1x256x1024 .bf16 :=
  truncf (F := Ideal) .bf16 (shapeCast S4x1x256x1024 (transpose S1024x1024 [1, 0] (Host.dotGeneral (F := Ideal) (φ₁ := .f32) (φ₂ := .f32) dot_S4096x1024_S4096x1024_S1024x1024_0_0_1_1_n_n none (extf (F := Ideal) .f32 x bitsLt_bf16_f32) a) transposes_S1024x1024_S1024x1024_1_0) shapeCasts_S1024x1024_S4x1x256x1024) bitsLt_bf16_f32

theorem value_at (a : Vec Ideal S4096x1024 .f32) (x : Vec Ideal S4096x1024 .bf16) (j : Fin 4) (k : Fin 256) (q : Fin 1024) :
    value a x (ix4 j 0 k q) = ∑ r : Fin 4096, a (ix2 r (DwPleGate.cc j k)) * x (ix2 r q) := by
  pointwise [value, DwPleGate.cc]
  exact Finset.sum_congr rfl fun _ _ => mul_comm _ _

theorem run' (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = value (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  run (F := Ideal) m ρ

end Cert.DwPleGateRef

namespace Cert.DwPleGate

open Cert.Kernel7Ideal Cert.Kernel7Ideal.Gen Idealize.ShloMosaic Idealize.ShloMosaic.TcCoe Idealize.SL.Sem

variable {m : (ℓ : Loc nD τ sig) → Buf (Elt Ideal) ℓ} {c : Dev nD}

theorem dw_eq (a : Vec Ideal S4096x1024 .f32) (x : Vec Ideal S4096x1024 .bf16) (h0 : a = m ((c : Thread nD τ).loc main_arg0)) (h1 : x = m ((c : Thread nD τ).loc main_arg1)) :
    DwPleGateRef.value a x = (dats m 0 c).arrAt 2 cfg0.N := by
  rw [arr2]
  funext i
  obtain ⟨j, u, k, q, rfl⟩ : ∃ (j : Fin 4) (u : Fin 1) (k : Fin 256) (q : Fin 1024), i = ix4 j u k q := ⟨_, _, _, _, eq_ix4 i⟩
  obtain rfl : u = 0 := Subsingleton.elim _ _
  subst h0
  subst h1
  exact DwPleGateRef.value_at _ _ j k q

end Cert.DwPleGate
-- ==== Proof.DwPleUp.lean ====
/- The gradient of the layer embedding's weight: the kernel at one grid point: each shard of the sum it keeps takes in the point's product. -/
module

public import proofs.«01_k».proof.Proof.Gen.Kernel8Ideal.Frame
public import proofs.«01_k».proof.Proof.Gen.Reference8Ideal.Run
public import Idealize.ShloMosaic.Lib.Pipeline.ValueKit
public import Idealize.ShloMosaic.Lib.Pointwise

@[expose] public section

set_option maxRecDepth 16384

noncomputable section

namespace Cert.DwPleUp

open Cert.Kernel8Ideal Cert.Kernel8Ideal.Gen Idealize.ShloMosaic Idealize.ShloMosaic.TcCoe Idealize.SL.Sem

/-- The rows of shard `k` of the sum. -/
abbrev Rs (k : ℕ) (inb : ∀ a : Fin 3, (![k, 0, 0] : Fin 3 → ℕ) a + (![1, 256, 256] : Fin 3 → ℕ) a ≤ S4x256x256.size a) : Rect S4x256x256 :=
  Rect.unit (s := S4x256x256) ![k, 0, 0] ![1, 256, 256] inb

theorem emb_at (j : Fin 4) (t : Fin 256) (q : Fin 256) (k : ℕ) (inb) (h : j.val = k) : (Rs k inb).emb (ix3 (n0 := 1) 0 t q) = ix3 (n0 := 4) (n1 := 256) (n2 := 256) j t q := by
  subst h
  funext a; fin_cases a <;> apply Fin.ext <;> simp [Rect.emb_apply]

theorem hit (j : Fin 4) (t : Fin 256) (q : Fin 256) (k : ℕ) (inb) (h : j.val = k) (w : Vec Ideal S1x256x256 .f32) (L : List (View.Piece (Elt Ideal) S4x256x256 .f32)) :
    View.canon ((⟨Rs k inb, w⟩ : View.Piece (Elt Ideal) S4x256x256 .f32) :: L) (ix3 j t q) = w (ix3 0 t q) := by
  rw [← emb_at j t q k inb h]
  exact View.canon_cons_emb (Val := Elt Ideal) (Rs k inb) w L _

theorem miss (j : Fin 4) (t : Fin 256) (q : Fin 256) (k : ℕ) (inb) (h : j.val ≠ k) (w : Vec Ideal S1x256x256 .f32) (L : List (View.Piece (Elt Ideal) S4x256x256 .f32)) :
    View.canon ((⟨Rs k inb, w⟩ : View.Piece (Elt Ideal) S4x256x256 .f32) :: L) (ix3 j t q) = View.canon L (ix3 j t q) := by
  refine View.canon_cons_of_not_mem (Val := Elt Ideal) _ L ?_
  refine (Rs k inb).not_mem_set_of_axis _ 0 k 1 rfl rfl rfl ?_
  show j.val < k ∨ k + 1 ≤ j.val
  omega

theorem ld_at (j : Fin 4) (t : Fin 256) (q : Fin 256) (k : ℕ) (inb) (h : j.val = k) (X : Vec Ideal S4x256x256 .f32) :
    View.ld X (Rs k inb) (ix3 0 t q) = X (ix3 j t q) :=
  congrArg X (emb_at j t q k inb h)

section
variable (x0 : Vec Ideal S1x1024x256 .f32) (x1 : Vec Ideal S4x1024x256 .bf16) (xs0 : Vec Ideal S4x256x256 .f32) (v : Vec Ideal S1x256x256 .f32)

/-- One point's product: shard `j`, row `t`, column `q`. -/
def prod (j : Fin 4) (t : Fin 256) (q : Fin 256) : EReal := ∑ s : Fin 1024, x0 (ix3 0 s t) * x1 (ix3 j s q)

theorem pay6_at (t : Fin 256) (q : Fin 256) : k0_pay6 x0 x1 v (ix3 0 t q) = v (ix3 0 t q) + prod x0 x1 0 t q := by pointwise [k0_pay1, k0_pay2, k0_pay5, k0_pay6, k0_pay7, k0_pay8, k0_pay9, k0_pay10, prod]
theorem pay7_at (t : Fin 256) (q : Fin 256) : k0_pay7 x0 x1 v (ix3 0 t q) = v (ix3 0 t q) + prod x0 x1 1 t q := by pointwise [k0_pay1, k0_pay2, k0_pay5, k0_pay6, k0_pay7, k0_pay8, k0_pay9, k0_pay10, prod]
theorem pay1_at (t : Fin 256) (q : Fin 256) : k0_pay1 (k0_pay8 v) (k0_pay9 x0) (k0_pay10 x1) (ix3 0 t q) = v (ix3 0 t q) + prod x0 x1 2 t q := by pointwise [k0_pay1, k0_pay2, k0_pay5, k0_pay6, k0_pay7, k0_pay8, k0_pay9, k0_pay10, prod]
theorem pay2_at (t : Fin 256) (q : Fin 256) : k0_pay2 (k0_pay5 x0) x1 v (ix3 0 t q) = v (ix3 0 t q) + prod x0 x1 3 t q := by pointwise [k0_pay1, k0_pay2, k0_pay5, k0_pay6, k0_pay7, k0_pay8, k0_pay9, k0_pay10, prod]
theorem pay4_at (j : Fin 4) (t : Fin 256) (q : Fin 256) : k0_pay4 (F := Ideal) (ix3 j t q) = 0 := by pointwise [k0_pay4]
theorem pay3_at (j : Fin 4) (t : Fin 256) (q : Fin 256) : k0_pay3 xs0 (ix4 j 0 t q) = xs0 (ix3 j t q) := by pointwise [k0_pay3]

/-- The four stores of a point, over the pieces `L` before them, what shard `k` held read as `u k`. -/
def four (u : Fin 4 → Vec Ideal S1x256x256 .f32) (L : List (View.Piece (Elt Ideal) S4x256x256 .f32)) : List (View.Piece (Elt Ideal) S4x256x256 .f32) :=
  ⟨Rs 3 inb_S4x256x256_S1x256x256_3_0_0, k0_pay2 (k0_pay5 x0) x1 (u 3)⟩ ::
  ⟨Rs 2 inb_S4x256x256_S1x256x256_2_0_0, k0_pay1 (k0_pay8 (u 2)) (k0_pay9 x0) (k0_pay10 x1)⟩ ::
  ⟨Rs 1 inb_S4x256x256_S1x256x256_1_0_0, k0_pay7 x0 x1 (u 1)⟩ ::
  ⟨Rs 0 inb_S4x256x256_S1x256x256_0_0_0, k0_pay6 x0 x1 (u 0)⟩ :: L

theorem four_at (u : Fin 4 → Vec Ideal S1x256x256 .f32) (L : List (View.Piece (Elt Ideal) S4x256x256 .f32)) (j : Fin 4) (t : Fin 256) (q : Fin 256) :
    View.canon (four x0 x1 u L) (ix3 j t q) = u j (ix3 0 t q) + prod x0 x1 j t q := by
  unfold four
  match j with
  | 0 => rw [miss 0 t q 3 _ (by decide), miss 0 t q 2 _ (by decide), miss 0 t q 1 _ (by decide), hit 0 t q 0 _ rfl, pay6_at]
  | 1 => rw [miss 1 t q 3 _ (by decide), miss 1 t q 2 _ (by decide), hit 1 t q 1 _ rfl, pay7_at]
  | 2 => rw [miss 2 t q 3 _ (by decide), hit 2 t q 2 _ rfl, pay1_at]
  | 3 => rw [hit 3 t q 3 _ rfl, pay2_at]

variable (c : Dev nD) (i : grid0.Coords) (arg1 : Memref sig .tc .vmem S1x1024x256 .f32) (harg1 : arg1.IsWhole) (arg2 : Memref sig .tc .vmem S4x1024x256 .bf16) (harg2 : arg2.IsWhole) (arg4 : Memref sig .tc .vmem S4x1x256x256 .bf16) (harg4 : arg4.IsWhole) (arg5 : Memref sig .tc .vmem S4x256x256 .f32) (harg5 : arg5.IsWhole)

/-- The store that empties the sum. -/
abbrev zeroL : List (View.Piece (Elt Ideal) S4x256x256 .f32) :=
  [⟨Rect.unit (s := S4x256x256) ![0, 0, 0] ![4, 256, 256] inb_S4x256x256_S4x256x256_0_0_0, k0_pay4 (F := Ideal)⟩]

theorem zeroL_at (j : Fin 4) (t : Fin 256) (q : Fin 256) : View.canon zeroL (ix3 j t q) = 0 := by
  have z : (![0, 0, 0] : Fin 3 → ℕ) = fun _ => 0 := by
    funext a
    fin_cases a <;> rfl
  have e : View.canon zeroL = k0_pay4 (F := Ideal) :=
    View.canon_unit_zero (Val := Elt Ideal) (e := .f32) (S := S4x256x256) z inb_S4x256x256_S4x256x256_0_0_0 (k0_pay4 (F := Ideal))
  exact (congrFun e _).trans (pay4_at j t q)

theorem whole0 : View.ld x0 (Rect.unit (s := S1x1024x256) ![0, 0, 0] ![1, 1024, 256] inb_S1x1024x256_S1x1024x256_0_0_0) = x0 :=
  View.ld_unit_zero (by funext a; fin_cases a <;> rfl) _ _
theorem whole1 : View.ld x1 (Rect.unit (s := S4x1024x256) ![0, 0, 0] ![4, 1024, 256] inb_S4x1024x256_S4x1024x256_0_0_0) = x1 :=
  View.ld_unit_zero (by funext a; fin_cases a <;> rfl) _ _

/-- A load of shard `k` after the stores `L`. -/
theorem cov_at (j : Fin 4) (t : Fin 256) (q : Fin 256) (k : ℕ) (inb) (h : j.val = k) (L : List (View.Piece (Elt Ideal) S4x256x256 .f32)) :
    View.readCov (Val := Elt Ideal) arg5.view L (Rs k inb).toLoadRect (ix3 0 t q) = View.canon L (ix3 j t q) :=
  (congrFun (View.readCov_eq_canon' arg5.view L (Rs k inb).toLoadRect) _).trans (congrArg (View.canon L) (emb_at j t q k inb h))

theorem listB (hc0 : ¬cond0_0 i) (hc1 : ¬cond0_1 i) : (kernelRun0_B c i arg1 harg1 arg2 harg2 arg4 harg4 arg5 harg5 hc0 hc1 x0 x1 xs0).2.1
      = four x0 x1 (fun k => View.ld xs0 (Rs k.val (by revert k; decide))) [] := by
  have e0 := harg1.read_unread x0
  have e1 := harg2.read_unread x1
  have e2 := harg5.read_unread xs0
  dsimp only [kernelRun0_B, kernelRun0_B.sl.r, kernelRun0_B.sl.r_1, kernelRun0_B.sl.v37, kernelRun0_B.sl.r_2, kernelRun0_B.sl.r_3, kernelRun0_B.sl.r_4, kernelRun0_B.sl.v17, kernelRun0_B.sl.v27]
  simp only [View.readAt_eq_ld, e0, e1, e2, whole0, whole1]
  rfl

theorem soutB (hc0 : ¬cond0_0 i) (hc1 : ¬cond0_1 i) (j : Fin 4) (t : Fin 256) (q : Fin 256) :
    sout0_B_0 c i arg1 harg1 arg2 harg2 arg4 harg4 arg5 harg5 hc0 hc1 x0 x1 xs0 (ix3 j t q) = xs0 (ix3 j t q) + prod x0 x1 j t q := by
  refine (View.read_writes_junk_apply_eq_canon _ _ _).trans ?_
  rw [listB, four_at, ld_at j t q j.val _ rfl]

theorem listC (hc0 : ¬cond0_0 i) (hc1 : cond0_1 i) : (kernelRun0_C c i arg1 harg1 arg2 harg2 arg4 harg4 arg5 harg5 hc0 hc1 x0 x1 xs0).2.1
      = four x0 x1 (fun k => View.ld xs0 (Rs k.val (by revert k; decide))) [] := by
  have e0 := harg1.read_unread x0
  have e1 := harg2.read_unread x1
  have e2 := harg5.read_unread xs0
  dsimp only [kernelRun0_C, kernelRun0_C.sl.HS0_4, kernelRun0_C.sl.r, kernelRun0_C.sl.r_1, kernelRun0_C.sl.v37, kernelRun0_C.sl.r_2, kernelRun0_C.sl.r_3, kernelRun0_C.sl.r_4, kernelRun0_C.sl.v17, kernelRun0_C.sl.v27]
  simp only [View.readAt_eq_ld, e0, e1, e2, whole0, whole1]
  rfl

theorem soutC (hc0 : ¬cond0_0 i) (hc1 : cond0_1 i) (j : Fin 4) (t : Fin 256) (q : Fin 256) :
    sout0_C_0 c i arg1 harg1 arg2 harg2 arg4 harg4 arg5 harg5 hc0 hc1 x0 x1 xs0 (ix3 j t q) = xs0 (ix3 j t q) + prod x0 x1 j t q := by
  refine (View.read_writes_junk_apply_eq_canon _ _ _).trans ?_
  rw [listC, four_at, ld_at j t q j.val _ rfl]

theorem outC (hc0 : ¬cond0_0 i) (hc1 : cond0_1 i) (j : Fin 4) (t : Fin 256) (q : Fin 256) :
    out0_C_2 c i arg1 harg1 arg2 harg2 arg4 harg4 arg5 harg5 hc0 hc1 x0 x1 xs0 (ix4 j 0 t q) = xs0 (ix3 j t q) + prod x0 x1 j t q := by
  refine (View.read_writes_junk_apply_eq_canon _ _ _).trans ?_
  have e : (kernelRun0_C c i arg1 harg1 arg2 harg2 arg4 harg4 arg5 harg5 hc0 hc1 x0 x1 xs0).1
      = [⟨Rect.unit (s := S4x1x256x256) ![0, 0, 0, 0] ![4, 1, 256, 256] inb_S4x1x256x256_S4x1x256x256_0_0_0_0,
          k0_pay3 (View.readCov (Val := Elt Ideal) arg5.view (kernelRun0_C c i arg1 harg1 arg2 harg2 arg4 harg4 arg5 harg5 hc0 hc1 x0 x1 xs0).2.1
            (Rect.unit (s := S4x256x256) ![0, 0, 0] ![4, 256, 256] inb_S4x256x256_S4x256x256_0_0_0).toLoadRect)⟩] := rfl
  rw [e, View.canon_unit_zero (Val := Elt Ideal) (S := S4x1x256x256) (by funext a; fin_cases a <;> rfl), pay3_at, View.readCov_eq_canon', listC]
  exact (congrFun (View.ld_unit_zero (S := S4x256x256) (by funext a; fin_cases a <;> rfl) inb_S4x256x256_S4x256x256_0_0_0
    (View.canon (four x0 x1 (fun k => View.ld xs0 (Rs k.val (by revert k; decide))) []))) (ix3 j t q)).trans
      ((four_at x0 x1 _ _ j t q).trans (by rw [ld_at j t q j.val _ rfl]))

theorem listA (hc0 : cond0_0 i) (hc1 : ¬cond0_1 i) : ∃ u : Fin 4 → Vec Ideal S1x256x256 .f32,
    (kernelRun0_A c i arg1 harg1 arg2 harg2 arg4 harg4 arg5 harg5 hc0 hc1 x0 x1).2.1 = four x0 x1 u zeroL
      ∧ ∀ (j : Fin 4) (t : Fin 256) (q : Fin 256), u j (ix3 0 t q) = 0 := by
  have e0 := harg1.read_unread x0
  have e1 := harg2.read_unread x1
  dsimp only [kernelRun0_A, kernelRun0_A.sl.HS0_4, kernelRun0_A.sl.HS0_3, kernelRun0_A.sl.HS0_2, kernelRun0_A.sl.HS0_1, kernelRun0_A.sl.r, kernelRun0_A.sl.r_1, kernelRun0_A.sl.v37, kernelRun0_A.sl.r_2, kernelRun0_A.sl.r_3, kernelRun0_A.sl.r_4, kernelRun0_A.sl.v17, kernelRun0_A.sl.v27, kernelRun0_A.sl.v7]
  simp only [View.readAt_eq_ld, e0, e1, whole0, whole1]
  refine ⟨![_, _, _, _], rfl, ?_⟩
  intro j t q
  match j with
  | 0 => exact (cov_at arg5 0 t q 0 _ rfl _).trans (zeroL_at 0 t q)
  | 1 => exact (cov_at arg5 1 t q 1 _ rfl _).trans ((miss 1 t q 0 _ (by decide) _ _).trans (zeroL_at 1 t q))
  | 2 => exact (cov_at arg5 2 t q 2 _ rfl _).trans ((miss 2 t q 1 _ (by decide) _ _).trans ((miss 2 t q 0 _ (by decide) _ _).trans (zeroL_at 2 t q)))
  | 3 => exact (cov_at arg5 3 t q 3 _ rfl _).trans ((miss 3 t q 2 _ (by decide) _ _).trans ((miss 3 t q 1 _ (by decide) _ _).trans ((miss 3 t q 0 _ (by decide) _ _).trans (zeroL_at 3 t q))))

theorem soutA (hc0 : cond0_0 i) (hc1 : ¬cond0_1 i) (j : Fin 4) (t : Fin 256) (q : Fin 256) :
    sout0_A_0 c i arg1 harg1 arg2 harg2 arg4 harg4 arg5 harg5 hc0 hc1 x0 x1 (ix3 j t q) = 0 + prod x0 x1 j t q := by
  obtain ⟨u, hu, h0⟩ := listA x0 x1 c i arg1 harg1 arg2 harg2 arg4 harg4 arg5 harg5 hc0 hc1
  refine (View.read_writes_junk_apply_eq_canon _ _ _).trans ?_
  rw [hu, four_at, h0]

end

open Idealize.ShloMosaic.Pipeline (Dat)

section
variable (m : (ℓ : Loc nD τ sig) → Buf (Elt Ideal) ℓ) (c : Dev nD)

/-- The saved rows, and the cotangent by shard. -/
def av (r : Fin 4096) (k : Fin 256) : EReal := (m ((c : Thread nD τ).loc main_arg0) : Vec Ideal S4096x256 .f32) (ix2 r k)
def bv (j : Fin 4) (r : Fin 4096) (q : Fin 256) : EReal := (m ((c : Thread nD τ).loc main_arg1) : Vec Ideal S4x4096x256 .bf16) (ix3 j r q)

theorem V_v0 (r : Fin 4096) (k : Fin 256) : V m c main_v0 (ix3 0 r k) = av m c r k := by
  have e : V m c main_v0 = broadcastInDim S1x4096x256 ![1, 2] bcast_S4096x256_S1x4096x256_1_2 (m ((c : Thread nD τ).loc main_arg0)) := by
    unfold V
    simp only [hostOps0]
    after_results_simp
  rw [e]
  pointwise [av]

/-- Row `s` of the block of grid point `t`. -/
def row (t : Fin 4) (s : Fin 1024) : Fin 4096 := ⟨t.val * 1024 + s.val, by omega⟩

theorem idx0 : ∀ t : Fin cfg0.N, win0_0.index t = ![0, t.val, 0] := by decide +kernel
theorem idx1 : ∀ t : Fin cfg0.N, win0_1.index t = ![0, t.val, 0] := by decide +kernel
theorem idx2 : ∀ t : Fin cfg0.N, win0_2.index t = ![0, 0, 0, 0] := by decide +kernel

theorem iblk0_at (t : Fin 4) (s : Fin 1024) (k : Fin 256) : iblk m c 0 (t.cast N_0.symm) (ix3 0 s k) = av m c (row t s) k := by
  blk_simp [iblk]
  refine Eq.trans (congrArg (V m c main_v0) ?_) (V_v0 m c (row t s) k)
  funext a
  fin_cases a <;> apply Fin.ext
  · blk_simp [idx0]
  · blk_simp [idx0]; rfl
  · blk_simp [idx0]; rfl

theorem iblk1_at (t : Fin 4) (j : Fin 4) (s : Fin 1024) (q : Fin 256) : iblk m c 1 (t.cast N_0.symm) (ix3 j s q) = bv m c j (row t s) q := by
  blk_simp [iblk]
  refine (congrFun (V_main_arg1 m c) _).trans (congrArg (m ((c : Thread nD τ).loc main_arg1)) ?_)
  funext a
  fin_cases a <;> apply Fin.ext
  · blk_simp [idx1]; rfl
  · blk_simp [idx1]; rfl
  · blk_simp [idx1]; rfl

/-- What the rows of point `t` add. -/
def part (t j : Fin 4) (k : Fin 256) (q : Fin 256) : EReal := ∑ s : Fin 1024, av m c (row t s) k * bv m c j (row t s) q

theorem prod_at (t j : Fin 4) (k : Fin 256) (q : Fin 256) :
    prod (iblk m c 0 (t.cast N_0.symm)) (iblk m c 1 (t.cast N_0.symm)) j k q = part m c t j k q := by
  unfold prod part
  exact Finset.sum_congr rfl fun s _ => congrArg₂ (· * ·) (iblk0_at m c t s k) (iblk1_at m c t j s q)

theorem parts (j : Fin 4) (k : Fin 256) (q : Fin 256) :
    ∑ r : Fin 4096, av m c r k * bv m c j r q = 0 + part m c 0 j k q + part m c 1 j k q + part m c 2 j k q + part m c 3 j k q := by
  rw [zero_add]
  refine (Fin.sum_univ_tiles 4 1024 rfl _).trans ?_
  exact Fin.sum_univ_four _

theorem stepA (t : Fin cfg0.N) (h0 : t.val % 4 = 0) (h1 : ¬t.val % 4 = 3) (j : Fin 4) (k : Fin 256) (q : Fin 256) :
    (outsAt0 m c t.val t.isLt).2 (ix3 j k q) = 0 + prod (iblk m c 0 t) (iblk m c 1 t) j k q := by
  rw [outsAt0_A m c t h0 h1]
  dsimp only
  rw [soutA]

theorem stepB (t : Fin cfg0.N) (h0 : ¬t.val % 4 = 0) (h1 : ¬t.val % 4 = 3) (j : Fin 4) (k : Fin 256) (q : Fin 256) :
    (outsAt0 m c t.val t.isLt).2 (ix3 j k q) = (outsAt0 m c (t.val - 1) (Nat.lt_of_le_of_lt (Nat.sub_le _ _) t.isLt)).2 (ix3 j k q) + prod (iblk m c 0 t) (iblk m c 1 t) j k q := by
  rw [outsAt0_B m c t h0 h1]
  dsimp only
  rw [soutB]

theorem stepC (t : Fin cfg0.N) (h0 : ¬t.val % 4 = 0) (h1 : t.val % 4 = 3) (j : Fin 4) (k : Fin 256) (q : Fin 256) :
    (outsAt0 m c t.val t.isLt).1 (ix4 j 0 k q) = (outsAt0 m c (t.val - 1) (Nat.lt_of_le_of_lt (Nat.sub_le _ _) t.isLt)).2 (ix3 j k q) + prod (iblk m c 0 t) (iblk m c 1 t) j k q := by
  rw [outsAt0_C m c t h0 h1]
  dsimp only
  rw [outC]

attribute [local irreducible] outsAt0

theorem sum0 (h : 0 < cfg0.N) (j : Fin 4) (k : Fin 256) (q : Fin 256) : (outsAt0 m c 0 h).2 (ix3 j k q) = 0 + part m c 0 j k q := by
  rw [← prod_at]
  exact stepA m c ((0 : Fin 4).cast N_0.symm) rfl (show ¬0 % 4 = 3 by decide) j k q

theorem sum1 (h : 1 < cfg0.N) (j : Fin 4) (k : Fin 256) (q : Fin 256) : (outsAt0 m c 1 h).2 (ix3 j k q) = 0 + part m c 0 j k q + part m c 1 j k q := by
  rw [← sum0 m c (Nat.lt_of_succ_lt h), ← prod_at m c 1]
  exact stepB m c ((1 : Fin 4).cast N_0.symm) (show ¬1 % 4 = 0 by decide) (show ¬1 % 4 = 3 by decide) j k q

theorem sum2 (h : 2 < cfg0.N) (j : Fin 4) (k : Fin 256) (q : Fin 256) : (outsAt0 m c 2 h).2 (ix3 j k q) = 0 + part m c 0 j k q + part m c 1 j k q + part m c 2 j k q := by
  rw [← sum1 m c (Nat.lt_of_succ_lt h), ← prod_at m c 2]
  exact stepB m c ((2 : Fin 4).cast N_0.symm) (show ¬2 % 4 = 0 by decide) (show ¬2 % 4 = 3 by decide) j k q

theorem out3 (h : 3 < cfg0.N) (j : Fin 4) (k : Fin 256) (q : Fin 256) : (outsAt0 m c 3 h).1 (ix4 j 0 k q) = ∑ r : Fin 4096, av m c r k * bv m c j r q := by
  rw [parts, ← sum2 m c (Nat.lt_of_succ_lt h), ← prod_at m c 3]
  exact stepC m c ((3 : Fin 4).cast N_0.symm) (show ¬3 % 4 = 0 by decide) (show 3 % 4 = 3 by decide) j k q

theorem out_last (t : Fin cfg0.N) (h : t.val = 3) (j : Fin 4) (k : Fin 256) (q : Fin 256) :
    (outsAt0 m c t.val t.isLt).1 (ix4 j 0 k q) = ∑ r : Fin 4096, av m c r k * bv m c j r q := by
  obtain ⟨n, hn⟩ := t
  obtain rfl : n = 3 := h
  exact out3 m c hn j k q

theorem emb2 (t : Fin cfg0.N) (j : Fin 4) (k : Fin 256) (q : Fin 256) :
    (win0_2.blk t).view.emb (ix4 j 0 k q) = ix4 (n0 := 4) (n1 := 1) (n2 := 256) (n3 := 256) j 0 k q := by
  funext a
  fin_cases a <;> apply Fin.ext <;> blk_simp [idx2]

/-- The array the call leaves. -/
theorem arr2 : (dats m 0 c).arrAt 2 cfg0.N = fun i : S4x1x256x256.Idx => ∑ r : Fin 4096, av m c r (i 2) * bv m c (i 0) r (i 3) := by
  refine (dats m 0 c).arrAt_eq_of_covers 2 _ (by decide +kernel) fun t hf y => ?_
  have ht : t.val = 3 := by
    have h4 : t.val < 4 := t.isLt
    have h3 := (flush0_2 t).mp hf
    omega
  blk_simp
  rw [after0_2]
  obtain ⟨j, u, k, q, rfl⟩ : ∃ (j : Fin 4) (u : Fin 1) (k : Fin 256) (q : Fin 256), y = ix4 j u k q := ⟨_, _, _, _, eq_ix4 y⟩
  obtain rfl : u = 0 := Subsingleton.elim _ _
  exact (out_last m c t ht j k q).trans (congrArg (fun i : S4x1x256x256.Idx => ∑ r : Fin 4096, av m c r (i 2) * bv m c (i 0) r (i 3)) (emb2 t j k q)).symm

end

end Cert.DwPleUp

namespace Cert.DwPleUpRef

open Cert.Reference8Ideal Cert.Reference8Ideal.Gen Cert.Reference8Ideal.Value Idealize.ShloMosaic Idealize.ShloMosaic.TcCoe Idealize.SL.Sem

/-- The reference's array, of the saved rows and the cotangent. -/
def value (a : Vec Ideal S4096x256 .f32) (x : Vec Ideal S4x4096x256 .bf16) : Vec Ideal S4x1x256x256 .bf16 :=
  truncf (F := Ideal) .bf16 (transpose S4x1x256x256 [1, 2, 0, 3] (shapeCast S256x4x1x256 (transpose S256x1024 [1, 0] (Host.dotGeneral (F := Ideal) (φ₁ := .f32) (φ₂ := .f32) dot_S4096x1024_S4096x256_S1024x256_0_0_1_1_n_n none (shapeCast S4096x1024 (transpose S4096x4x256 [1, 0, 2] (extf (F := Ideal) .f32 x bitsLt_bf16_f32) transposes_S4x4096x256_S4096x4x256_1_0_2) shapeCasts_S4096x4x256_S4096x1024) a) transposes_S1024x256_S256x1024_1_0) shapeCasts_S256x1024_S256x4x1x256) transposes_S256x4x1x256_S4x1x256x256_1_2_0_3) bitsLt_bf16_f32

theorem value_at (a : Vec Ideal S4096x256 .f32) (x : Vec Ideal S4x4096x256 .bf16) (j : Fin 4) (k : Fin 256) (q : Fin 256) :
    value a x (ix4 j 0 k q) = ∑ r : Fin 4096, a (ix2 r k) * x (ix3 j r q) := by
  pointwise [value]
  exact Finset.sum_congr rfl fun _ _ => mul_comm _ _

theorem run' (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v9) = value (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  run (F := Ideal) m ρ

end Cert.DwPleUpRef

namespace Cert.DwPleUp

open Cert.Kernel8Ideal Cert.Kernel8Ideal.Gen Idealize.ShloMosaic Idealize.ShloMosaic.TcCoe Idealize.SL.Sem

variable {m : (ℓ : Loc nD τ sig) → Buf (Elt Ideal) ℓ} {c : Dev nD}

theorem dw_eq (a : Vec Ideal S4096x256 .f32) (x : Vec Ideal S4x4096x256 .bf16) (h0 : a = m ((c : Thread nD τ).loc main_arg0)) (h1 : x = m ((c : Thread nD τ).loc main_arg1)) :
    DwPleUpRef.value a x = (dats m 0 c).arrAt 2 cfg0.N := by
  rw [arr2]
  funext i
  obtain ⟨j, u, k, q, rfl⟩ : ∃ (j : Fin 4) (u : Fin 1) (k : Fin 256) (q : Fin 256), i = ix4 j u k q := ⟨_, _, _, _, eq_ix4 i⟩
  obtain rfl : u = 0 := Subsingleton.elim _ _
  subst h0
  subst h1
  exact DwPleUpRef.value_at _ _ j k q

end Cert.DwPleUp
-- ==== Proof.DwGlu.lean ====
/- The gradient of the recurrence's gate's weight: the kernel at one grid point: each shard of the sum it keeps takes in the point's product. -/
module

public import proofs.«01_k».proof.Proof.Gen.Kernel9Ideal.Frame
public import proofs.«01_k».proof.Proof.Gen.Reference9Ideal.Run
public import Idealize.ShloMosaic.Lib.Pipeline.ValueKit
public import Idealize.ShloMosaic.Lib.Pointwise

@[expose] public section

set_option maxRecDepth 16384

noncomputable section

namespace Cert.DwGlu

open Cert.Kernel9Ideal Cert.Kernel9Ideal.Gen Idealize.ShloMosaic Idealize.ShloMosaic.TcCoe Idealize.SL.Sem

/-- The rows of shard `k` of the sum. -/
abbrev Rs (k : ℕ) (inb : ∀ a : Fin 3, (![k, 0, 0] : Fin 3 → ℕ) a + (![1, 128, 512] : Fin 3 → ℕ) a ≤ S4x128x512.size a) : Rect S4x128x512 :=
  Rect.unit (s := S4x128x512) ![k, 0, 0] ![1, 128, 512] inb

theorem emb_at (j : Fin 4) (t : Fin 128) (q : Fin 512) (k : ℕ) (inb) (h : j.val = k) : (Rs k inb).emb (ix3 (n0 := 1) 0 t q) = ix3 (n0 := 4) (n1 := 128) (n2 := 512) j t q := by
  subst h
  funext a; fin_cases a <;> apply Fin.ext <;> simp [Rect.emb_apply]

theorem hit (j : Fin 4) (t : Fin 128) (q : Fin 512) (k : ℕ) (inb) (h : j.val = k) (w : Vec Ideal S1x128x512 .f32) (L : List (View.Piece (Elt Ideal) S4x128x512 .f32)) :
    View.canon ((⟨Rs k inb, w⟩ : View.Piece (Elt Ideal) S4x128x512 .f32) :: L) (ix3 j t q) = w (ix3 0 t q) := by
  rw [← emb_at j t q k inb h]
  exact View.canon_cons_emb (Val := Elt Ideal) (Rs k inb) w L _

theorem miss (j : Fin 4) (t : Fin 128) (q : Fin 512) (k : ℕ) (inb) (h : j.val ≠ k) (w : Vec Ideal S1x128x512 .f32) (L : List (View.Piece (Elt Ideal) S4x128x512 .f32)) :
    View.canon ((⟨Rs k inb, w⟩ : View.Piece (Elt Ideal) S4x128x512 .f32) :: L) (ix3 j t q) = View.canon L (ix3 j t q) := by
  refine View.canon_cons_of_not_mem (Val := Elt Ideal) _ L ?_
  refine (Rs k inb).not_mem_set_of_axis _ 0 k 1 rfl rfl rfl ?_
  show j.val < k ∨ k + 1 ≤ j.val
  omega

theorem ld_at (j : Fin 4) (t : Fin 128) (q : Fin 512) (k : ℕ) (inb) (h : j.val = k) (X : Vec Ideal S4x128x512 .f32) :
    View.ld X (Rs k inb) (ix3 0 t q) = X (ix3 j t q) :=
  congrArg X (emb_at j t q k inb h)

section
variable (x0 : Vec Ideal S1x1024x512 .bf16) (x1 : Vec Ideal S1x1024x512 .bf16) (xs0 : Vec Ideal S4x128x512 .f32) (v : Vec Ideal S1x128x512 .f32)

/-- Column `128 j + t` of 512. -/
def cc (j : Fin 4) (t : Fin 128) : Fin 512 := ⟨j.val * 128 + t.val, by omega⟩

/-- One point's product: shard `j`, row `t`, column `q`. -/
def prod (j : Fin 4) (t : Fin 128) (q : Fin 512) : EReal := ∑ s : Fin 1024, x0 (ix3 0 s (cc j t)) * x1 (ix3 0 s q)

theorem pay6_at (t : Fin 128) (q : Fin 512) : k0_pay7 x0 x1 v (ix3 0 t q) = v (ix3 0 t q) + prod x0 x1 0 t q := by pointwise [k0_pay1, k0_pay2, k0_pay5, k0_pay6, k0_pay7, k0_pay8, k0_pay9, k0_pay10, prod, cc]
theorem pay7_at (t : Fin 128) (q : Fin 512) : k0_pay8 x0 x1 v (ix3 0 t q) = v (ix3 0 t q) + prod x0 x1 1 t q := by pointwise [k0_pay1, k0_pay2, k0_pay5, k0_pay6, k0_pay7, k0_pay8, k0_pay9, k0_pay10, prod, cc]
theorem pay1_at (t : Fin 128) (q : Fin 512) : k0_pay1 (k0_pay6 x1) (k0_pay9 v) (k0_pay10 x0) (ix3 0 t q) = v (ix3 0 t q) + prod x0 x1 2 t q := by pointwise [k0_pay1, k0_pay2, k0_pay5, k0_pay6, k0_pay7, k0_pay8, k0_pay9, k0_pay10, prod, cc]
theorem pay2_at (t : Fin 128) (q : Fin 512) : k0_pay2 (k0_pay5 x0) (k0_pay6 x1) v (ix3 0 t q) = v (ix3 0 t q) + prod x0 x1 3 t q := by pointwise [k0_pay1, k0_pay2, k0_pay5, k0_pay6, k0_pay7, k0_pay8, k0_pay9, k0_pay10, prod, cc]
theorem pay4_at (j : Fin 4) (t : Fin 128) (q : Fin 512) : k0_pay4 (F := Ideal) (ix3 j t q) = 0 := by pointwise [k0_pay4]
theorem pay3_at (j : Fin 4) (t : Fin 128) (q : Fin 512) : k0_pay3 xs0 (ix4 j 0 t q) = xs0 (ix3 j t q) := by pointwise [k0_pay3]

/-- The four stores of a point, over the pieces `L` before them, what shard `k` held read as `u k`. -/
def four (u : Fin 4 → Vec Ideal S1x128x512 .f32) (L : List (View.Piece (Elt Ideal) S4x128x512 .f32)) : List (View.Piece (Elt Ideal) S4x128x512 .f32) :=
  ⟨Rs 3 inb_S4x128x512_S1x128x512_3_0_0, k0_pay2 (k0_pay5 x0) (k0_pay6 x1) (u 3)⟩ ::
  ⟨Rs 2 inb_S4x128x512_S1x128x512_2_0_0, k0_pay1 (k0_pay6 x1) (k0_pay9 (u 2)) (k0_pay10 x0)⟩ ::
  ⟨Rs 1 inb_S4x128x512_S1x128x512_1_0_0, k0_pay8 x0 x1 (u 1)⟩ ::
  ⟨Rs 0 inb_S4x128x512_S1x128x512_0_0_0, k0_pay7 x0 x1 (u 0)⟩ :: L

theorem four_at (u : Fin 4 → Vec Ideal S1x128x512 .f32) (L : List (View.Piece (Elt Ideal) S4x128x512 .f32)) (j : Fin 4) (t : Fin 128) (q : Fin 512) :
    View.canon (four x0 x1 u L) (ix3 j t q) = u j (ix3 0 t q) + prod x0 x1 j t q := by
  unfold four
  match j with
  | 0 => rw [miss 0 t q 3 _ (by decide), miss 0 t q 2 _ (by decide), miss 0 t q 1 _ (by decide), hit 0 t q 0 _ rfl, pay6_at]
  | 1 => rw [miss 1 t q 3 _ (by decide), miss 1 t q 2 _ (by decide), hit 1 t q 1 _ rfl, pay7_at]
  | 2 => rw [miss 2 t q 3 _ (by decide), hit 2 t q 2 _ rfl, pay1_at]
  | 3 => rw [hit 3 t q 3 _ rfl, pay2_at]

variable (c : Dev nD) (i : grid0.Coords) (arg1 : Memref sig .tc .vmem S1x1024x512 .bf16) (harg1 : arg1.IsWhole) (arg2 : Memref sig .tc .vmem S1x1024x512 .bf16) (harg2 : arg2.IsWhole) (arg4 : Memref sig .tc .vmem S4x1x128x512 .bf16) (harg4 : arg4.IsWhole) (arg5 : Memref sig .tc .vmem S4x128x512 .f32) (harg5 : arg5.IsWhole)

/-- The store that empties the sum. -/
abbrev zeroL : List (View.Piece (Elt Ideal) S4x128x512 .f32) :=
  [⟨Rect.unit (s := S4x128x512) ![0, 0, 0] ![4, 128, 512] inb_S4x128x512_S4x128x512_0_0_0, k0_pay4 (F := Ideal)⟩]

theorem zeroL_at (j : Fin 4) (t : Fin 128) (q : Fin 512) : View.canon zeroL (ix3 j t q) = 0 := by
  have z : (![0, 0, 0] : Fin 3 → ℕ) = fun _ => 0 := by
    funext a
    fin_cases a <;> rfl
  have e : View.canon zeroL = k0_pay4 (F := Ideal) :=
    View.canon_unit_zero (Val := Elt Ideal) (e := .f32) (S := S4x128x512) z inb_S4x128x512_S4x128x512_0_0_0 (k0_pay4 (F := Ideal))
  exact (congrFun e _).trans (pay4_at j t q)

theorem whole0 : View.ld x0 (Rect.unit (s := S1x1024x512) ![0, 0, 0] ![1, 1024, 512] inb_S1x1024x512_S1x1024x512_0_0_0) = x0 :=
  View.ld_unit_zero (by funext a; fin_cases a <;> rfl) _ _
theorem whole1 : View.ld x1 (Rect.unit (s := S1x1024x512) ![0, 0, 0] ![1, 1024, 512] inb_S1x1024x512_S1x1024x512_0_0_0) = x1 :=
  View.ld_unit_zero (by funext a; fin_cases a <;> rfl) _ _

/-- A load of shard `k` after the stores `L`. -/
theorem cov_at (j : Fin 4) (t : Fin 128) (q : Fin 512) (k : ℕ) (inb) (h : j.val = k) (L : List (View.Piece (Elt Ideal) S4x128x512 .f32)) :
    View.readCov (Val := Elt Ideal) arg5.view L (Rs k inb).toLoadRect (ix3 0 t q) = View.canon L (ix3 j t q) :=
  (congrFun (View.readCov_eq_canon' arg5.view L (Rs k inb).toLoadRect) _).trans (congrArg (View.canon L) (emb_at j t q k inb h))

theorem listB (hc0 : ¬cond0_0 i) (hc1 : ¬cond0_1 i) : (kernelRun0_B c i arg1 harg1 arg2 harg2 arg4 harg4 arg5 harg5 hc0 hc1 x0 x1 xs0).2.1
      = four x0 x1 (fun k => View.ld xs0 (Rs k.val (by revert k; decide))) [] := by
  have e0 := harg1.read_unread x0
  have e1 := harg2.read_unread x1
  have e2 := harg5.read_unread xs0
  dsimp only [kernelRun0_B, kernelRun0_B.sl.r, kernelRun0_B.sl.r_1, kernelRun0_B.sl.v37, kernelRun0_B.sl.r_2, kernelRun0_B.sl.r_3, kernelRun0_B.sl.v17, kernelRun0_B.sl.v27]
  simp only [View.readAt_eq_ld, e0, e1, e2, whole0, whole1]
  rfl

theorem soutB (hc0 : ¬cond0_0 i) (hc1 : ¬cond0_1 i) (j : Fin 4) (t : Fin 128) (q : Fin 512) :
    sout0_B_0 c i arg1 harg1 arg2 harg2 arg4 harg4 arg5 harg5 hc0 hc1 x0 x1 xs0 (ix3 j t q) = xs0 (ix3 j t q) + prod x0 x1 j t q := by
  refine (View.read_writes_junk_apply_eq_canon _ _ _).trans ?_
  rw [listB, four_at, ld_at j t q j.val _ rfl]

theorem listC (hc0 : ¬cond0_0 i) (hc1 : cond0_1 i) : (kernelRun0_C c i arg1 harg1 arg2 harg2 arg4 harg4 arg5 harg5 hc0 hc1 x0 x1 xs0).2.1
      = four x0 x1 (fun k => View.ld xs0 (Rs k.val (by revert k; decide))) [] := by
  have e0 := harg1.read_unread x0
  have e1 := harg2.read_unread x1
  have e2 := harg5.read_unread xs0
  dsimp only [kernelRun0_C, kernelRun0_C.sl.HS0_4, kernelRun0_C.sl.r, kernelRun0_C.sl.r_1, kernelRun0_C.sl.v37, kernelRun0_C.sl.r_2, kernelRun0_C.sl.r_3, kernelRun0_C.sl.v17, kernelRun0_C.sl.v27]
  simp only [View.readAt_eq_ld, e0, e1, e2, whole0, whole1]
  rfl

theorem soutC (hc0 : ¬cond0_0 i) (hc1 : cond0_1 i) (j : Fin 4) (t : Fin 128) (q : Fin 512) :
    sout0_C_0 c i arg1 harg1 arg2 harg2 arg4 harg4 arg5 harg5 hc0 hc1 x0 x1 xs0 (ix3 j t q) = xs0 (ix3 j t q) + prod x0 x1 j t q := by
  refine (View.read_writes_junk_apply_eq_canon _ _ _).trans ?_
  rw [listC, four_at, ld_at j t q j.val _ rfl]

theorem outC (hc0 : ¬cond0_0 i) (hc1 : cond0_1 i) (j : Fin 4) (t : Fin 128) (q : Fin 512) :
    out0_C_2 c i arg1 harg1 arg2 harg2 arg4 harg4 arg5 harg5 hc0 hc1 x0 x1 xs0 (ix4 j 0 t q) = xs0 (ix3 j t q) + prod x0 x1 j t q := by
  refine (View.read_writes_junk_apply_eq_canon _ _ _).trans ?_
  have e : (kernelRun0_C c i arg1 harg1 arg2 harg2 arg4 harg4 arg5 harg5 hc0 hc1 x0 x1 xs0).1
      = [⟨Rect.unit (s := S4x1x128x512) ![0, 0, 0, 0] ![4, 1, 128, 512] inb_S4x1x128x512_S4x1x128x512_0_0_0_0,
          k0_pay3 (View.readCov (Val := Elt Ideal) arg5.view (kernelRun0_C c i arg1 harg1 arg2 harg2 arg4 harg4 arg5 harg5 hc0 hc1 x0 x1 xs0).2.1
            (Rect.unit (s := S4x128x512) ![0, 0, 0] ![4, 128, 512] inb_S4x128x512_S4x128x512_0_0_0).toLoadRect)⟩] := rfl
  rw [e, View.canon_unit_zero (Val := Elt Ideal) (S := S4x1x128x512) (by funext a; fin_cases a <;> rfl), pay3_at, View.readCov_eq_canon', listC]
  exact (congrFun (View.ld_unit_zero (S := S4x128x512) (by funext a; fin_cases a <;> rfl) inb_S4x128x512_S4x128x512_0_0_0
    (View.canon (four x0 x1 (fun k => View.ld xs0 (Rs k.val (by revert k; decide))) []))) (ix3 j t q)).trans
      ((four_at x0 x1 _ _ j t q).trans (by rw [ld_at j t q j.val _ rfl]))

theorem listA (hc0 : cond0_0 i) (hc1 : ¬cond0_1 i) : ∃ u : Fin 4 → Vec Ideal S1x128x512 .f32,
    (kernelRun0_A c i arg1 harg1 arg2 harg2 arg4 harg4 arg5 harg5 hc0 hc1 x0 x1).2.1 = four x0 x1 u zeroL
      ∧ ∀ (j : Fin 4) (t : Fin 128) (q : Fin 512), u j (ix3 0 t q) = 0 := by
  have e0 := harg1.read_unread x0
  have e1 := harg2.read_unread x1
  dsimp only [kernelRun0_A, kernelRun0_A.sl.HS0_4, kernelRun0_A.sl.HS0_3, kernelRun0_A.sl.HS0_2, kernelRun0_A.sl.HS0_1, kernelRun0_A.sl.r, kernelRun0_A.sl.r_1, kernelRun0_A.sl.v37, kernelRun0_A.sl.r_2, kernelRun0_A.sl.r_3, kernelRun0_A.sl.v17, kernelRun0_A.sl.v27, kernelRun0_A.sl.v7]
  simp only [View.readAt_eq_ld, e0, e1, whole0, whole1]
  refine ⟨![_, _, _, _], rfl, ?_⟩
  intro j t q
  match j with
  | 0 => exact (cov_at arg5 0 t q 0 _ rfl _).trans (zeroL_at 0 t q)
  | 1 => exact (cov_at arg5 1 t q 1 _ rfl _).trans ((miss 1 t q 0 _ (by decide) _ _).trans (zeroL_at 1 t q))
  | 2 => exact (cov_at arg5 2 t q 2 _ rfl _).trans ((miss 2 t q 1 _ (by decide) _ _).trans ((miss 2 t q 0 _ (by decide) _ _).trans (zeroL_at 2 t q)))
  | 3 => exact (cov_at arg5 3 t q 3 _ rfl _).trans ((miss 3 t q 2 _ (by decide) _ _).trans ((miss 3 t q 1 _ (by decide) _ _).trans ((miss 3 t q 0 _ (by decide) _ _).trans (zeroL_at 3 t q))))

theorem soutA (hc0 : cond0_0 i) (hc1 : ¬cond0_1 i) (j : Fin 4) (t : Fin 128) (q : Fin 512) :
    sout0_A_0 c i arg1 harg1 arg2 harg2 arg4 harg4 arg5 harg5 hc0 hc1 x0 x1 (ix3 j t q) = 0 + prod x0 x1 j t q := by
  obtain ⟨u, hu, h0⟩ := listA x0 x1 c i arg1 harg1 arg2 harg2 arg4 harg4 arg5 harg5 hc0 hc1
  refine (View.read_writes_junk_apply_eq_canon _ _ _).trans ?_
  rw [hu, four_at, h0]

end

open Idealize.ShloMosaic.Pipeline (Dat)

section
variable (m : (ℓ : Loc nD τ sig) → Buf (Elt Ideal) ℓ) (c : Dev nD)

/-- The saved rows, and the cotangent by shard. -/
def av (r : Fin 4096) (k : Fin 512) : EReal := (m ((c : Thread nD τ).loc main_arg0) : Vec Ideal S4096x512 .bf16) (ix2 r k)
def bv (_j : Fin 4) (r : Fin 4096) (q : Fin 512) : EReal := (m ((c : Thread nD τ).loc main_arg1) : Vec Ideal S4096x512 .bf16) (ix2 r q)

theorem V_v0 (r : Fin 4096) (k : Fin 512) : V m c main_v0 (ix3 0 r k) = av m c r k := by
  have e : V m c main_v0 = broadcastInDim S1x4096x512 ![1, 2] bcast_S4096x512_S1x4096x512_1_2 (m ((c : Thread nD τ).loc main_arg0)) := by
    unfold V
    simp only [hostOps0]
    after_results_simp
  rw [e]
  pointwise [av]

theorem V_v1 (r : Fin 4096) (k : Fin 512) : V m c main_v1 (ix3 0 r k) = bv m c 0 r k := by
  have e : V m c main_v1 = broadcastInDim S1x4096x512 ![1, 2] bcast_S4096x512_S1x4096x512_1_2 (m ((c : Thread nD τ).loc main_arg1)) := by
    unfold V
    simp only [hostOps0]
    after_results_simp
  rw [e]
  pointwise [bv]

/-- Row `s` of the block of grid point `t`. -/
def row (t : Fin 4) (s : Fin 1024) : Fin 4096 := ⟨t.val * 1024 + s.val, by omega⟩

theorem idx0 : ∀ t : Fin cfg0.N, win0_0.index t = ![0, t.val, 0] := by decide +kernel
theorem idx1 : ∀ t : Fin cfg0.N, win0_1.index t = ![0, t.val, 0] := by decide +kernel
theorem idx2 : ∀ t : Fin cfg0.N, win0_2.index t = ![0, 0, 0, 0] := by decide +kernel

theorem iblk0_at (t : Fin 4) (s : Fin 1024) (k : Fin 512) : iblk m c 0 (t.cast N_0.symm) (ix3 0 s k) = av m c (row t s) k := by
  blk_simp [iblk]
  refine Eq.trans (congrArg (V m c main_v0) ?_) (V_v0 m c (row t s) k)
  funext a
  fin_cases a <;> apply Fin.ext
  · blk_simp [idx0]
  · blk_simp [idx0]; rfl
  · blk_simp [idx0]; rfl

theorem iblk1_at (t : Fin 4) (j : Fin 4) (s : Fin 1024) (q : Fin 512) : iblk m c 1 (t.cast N_0.symm) (ix3 0 s q) = bv m c j (row t s) q := by
  blk_simp [iblk]
  refine Eq.trans (congrArg (V m c main_v1) ?_) (V_v1 m c (row t s) q)
  funext a
  fin_cases a <;> apply Fin.ext
  · blk_simp [idx1]
  · blk_simp [idx1]; rfl
  · blk_simp [idx1]; rfl

/-- What the rows of point `t` add. -/
def part (t j : Fin 4) (k : Fin 128) (q : Fin 512) : EReal := ∑ s : Fin 1024, av m c (row t s) (cc j k) * bv m c j (row t s) q

theorem prod_at (t j : Fin 4) (k : Fin 128) (q : Fin 512) :
    prod (iblk m c 0 (t.cast N_0.symm)) (iblk m c 1 (t.cast N_0.symm)) j k q = part m c t j k q := by
  unfold prod part
  exact Finset.sum_congr rfl fun s _ => congrArg₂ (· * ·) (iblk0_at m c t s (cc j k)) (iblk1_at m c t j s q)

theorem parts (j : Fin 4) (k : Fin 128) (q : Fin 512) :
    ∑ r : Fin 4096, av m c r (cc j k) * bv m c j r q = 0 + part m c 0 j k q + part m c 1 j k q + part m c 2 j k q + part m c 3 j k q := by
  rw [zero_add]
  refine (Fin.sum_univ_tiles 4 1024 rfl _).trans ?_
  exact Fin.sum_univ_four _

theorem stepA (t : Fin cfg0.N) (h0 : t.val % 4 = 0) (h1 : ¬t.val % 4 = 3) (j : Fin 4) (k : Fin 128) (q : Fin 512) :
    (outsAt0 m c t.val t.isLt).2 (ix3 j k q) = 0 + prod (iblk m c 0 t) (iblk m c 1 t) j k q := by
  rw [outsAt0_A m c t h0 h1]
  dsimp only
  rw [soutA]

theorem stepB (t : Fin cfg0.N) (h0 : ¬t.val % 4 = 0) (h1 : ¬t.val % 4 = 3) (j : Fin 4) (k : Fin 128) (q : Fin 512) :
    (outsAt0 m c t.val t.isLt).2 (ix3 j k q) = (outsAt0 m c (t.val - 1) (Nat.lt_of_le_of_lt (Nat.sub_le _ _) t.isLt)).2 (ix3 j k q) + prod (iblk m c 0 t) (iblk m c 1 t) j k q := by
  rw [outsAt0_B m c t h0 h1]
  dsimp only
  rw [soutB]

theorem stepC (t : Fin cfg0.N) (h0 : ¬t.val % 4 = 0) (h1 : t.val % 4 = 3) (j : Fin 4) (k : Fin 128) (q : Fin 512) :
    (outsAt0 m c t.val t.isLt).1 (ix4 j 0 k q) = (outsAt0 m c (t.val - 1) (Nat.lt_of_le_of_lt (Nat.sub_le _ _) t.isLt)).2 (ix3 j k q) + prod (iblk m c 0 t) (iblk m c 1 t) j k q := by
  rw [outsAt0_C m c t h0 h1]
  dsimp only
  rw [outC]

attribute [local irreducible] outsAt0

theorem sum0 (h : 0 < cfg0.N) (j : Fin 4) (k : Fin 128) (q : Fin 512) : (outsAt0 m c 0 h).2 (ix3 j k q) = 0 + part m c 0 j k q := by
  rw [← prod_at]
  exact stepA m c ((0 : Fin 4).cast N_0.symm) rfl (show ¬0 % 4 = 3 by decide) j k q

theorem sum1 (h : 1 < cfg0.N) (j : Fin 4) (k : Fin 128) (q : Fin 512) : (outsAt0 m c 1 h).2 (ix3 j k q) = 0 + part m c 0 j k q + part m c 1 j k q := by
  rw [← sum0 m c (Nat.lt_of_succ_lt h), ← prod_at m c 1]
  exact stepB m c ((1 : Fin 4).cast N_0.symm) (show ¬1 % 4 = 0 by decide) (show ¬1 % 4 = 3 by decide) j k q

theorem sum2 (h : 2 < cfg0.N) (j : Fin 4) (k : Fin 128) (q : Fin 512) : (outsAt0 m c 2 h).2 (ix3 j k q) = 0 + part m c 0 j k q + part m c 1 j k q + part m c 2 j k q := by
  rw [← sum1 m c (Nat.lt_of_succ_lt h), ← prod_at m c 2]
  exact stepB m c ((2 : Fin 4).cast N_0.symm) (show ¬2 % 4 = 0 by decide) (show ¬2 % 4 = 3 by decide) j k q

theorem out3 (h : 3 < cfg0.N) (j : Fin 4) (k : Fin 128) (q : Fin 512) : (outsAt0 m c 3 h).1 (ix4 j 0 k q) = ∑ r : Fin 4096, av m c r (cc j k) * bv m c j r q := by
  rw [parts, ← sum2 m c (Nat.lt_of_succ_lt h), ← prod_at m c 3]
  exact stepC m c ((3 : Fin 4).cast N_0.symm) (show ¬3 % 4 = 0 by decide) (show 3 % 4 = 3 by decide) j k q

theorem out_last (t : Fin cfg0.N) (h : t.val = 3) (j : Fin 4) (k : Fin 128) (q : Fin 512) :
    (outsAt0 m c t.val t.isLt).1 (ix4 j 0 k q) = ∑ r : Fin 4096, av m c r (cc j k) * bv m c j r q := by
  obtain ⟨n, hn⟩ := t
  obtain rfl : n = 3 := h
  exact out3 m c hn j k q

theorem emb2 (t : Fin cfg0.N) (j : Fin 4) (k : Fin 128) (q : Fin 512) :
    (win0_2.blk t).view.emb (ix4 j 0 k q) = ix4 (n0 := 4) (n1 := 1) (n2 := 128) (n3 := 512) j 0 k q := by
  funext a
  fin_cases a <;> apply Fin.ext <;> blk_simp [idx2]

/-- The array the call leaves. -/
theorem arr2 : (dats m 0 c).arrAt 2 cfg0.N = fun i : S4x1x128x512.Idx => ∑ r : Fin 4096, av m c r (cc (i 0) (i 2)) * bv m c (i 0) r (i 3) := by
  refine (dats m 0 c).arrAt_eq_of_covers 2 _ (by decide +kernel) fun t hf y => ?_
  have ht : t.val = 3 := by
    have h4 : t.val < 4 := t.isLt
    have h3 := (flush0_2 t).mp hf
    omega
  blk_simp
  rw [after0_2]
  obtain ⟨j, u, k, q, rfl⟩ : ∃ (j : Fin 4) (u : Fin 1) (k : Fin 128) (q : Fin 512), y = ix4 j u k q := ⟨_, _, _, _, eq_ix4 y⟩
  obtain rfl : u = 0 := Subsingleton.elim _ _
  exact (out_last m c t ht j k q).trans (congrArg (fun i : S4x1x128x512.Idx => ∑ r : Fin 4096, av m c r (cc (i 0) (i 2)) * bv m c (i 0) r (i 3)) (emb2 t j k q)).symm

end

end Cert.DwGlu

namespace Cert.DwGluRef

open Cert.Reference9Ideal Cert.Reference9Ideal.Gen Cert.Reference9Ideal.Value Idealize.ShloMosaic Idealize.ShloMosaic.TcCoe Idealize.SL.Sem

/-- The reference's array, of the saved rows and the cotangent. -/
def value (a : Vec Ideal S4096x512 .bf16) (x : Vec Ideal S4096x512 .bf16) : Vec Ideal S4x1x128x512 .bf16 :=
  truncf (F := Ideal) .bf16 (shapeCast S4x1x128x512 (transpose S512x512 [1, 0] (Host.dotGeneral (F := Ideal) (φ₁ := .f32) (φ₂ := .f32) dot_S4096x512_S4096x512_S512x512_0_0_1_1_n_n none (extf (F := Ideal) .f32 x bitsLt_bf16_f32) (extf (F := Ideal) .f32 a bitsLt_bf16_f32)) transposes_S512x512_S512x512_1_0) shapeCasts_S512x512_S4x1x128x512) bitsLt_bf16_f32

theorem value_at (a : Vec Ideal S4096x512 .bf16) (x : Vec Ideal S4096x512 .bf16) (j : Fin 4) (k : Fin 128) (q : Fin 512) :
    value a x (ix4 j 0 k q) = ∑ r : Fin 4096, a (ix2 r (DwGlu.cc j k)) * x (ix2 r q) := by
  pointwise [value, DwGlu.cc]
  exact Finset.sum_congr rfl fun _ _ => mul_comm _ _

theorem run' (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = value (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  run (F := Ideal) m ρ

end Cert.DwGluRef

namespace Cert.DwGlu

open Cert.Kernel9Ideal Cert.Kernel9Ideal.Gen Idealize.ShloMosaic Idealize.ShloMosaic.TcCoe Idealize.SL.Sem

variable {m : (ℓ : Loc nD τ sig) → Buf (Elt Ideal) ℓ} {c : Dev nD}

theorem dw_eq (a : Vec Ideal S4096x512 .bf16) (x : Vec Ideal S4096x512 .bf16) (h0 : a = m ((c : Thread nD τ).loc main_arg0)) (h1 : x = m ((c : Thread nD τ).loc main_arg1)) :
    DwGluRef.value a x = (dats m 0 c).arrAt 2 cfg0.N := by
  rw [arr2]
  funext i
  obtain ⟨j, u, k, q, rfl⟩ : ∃ (j : Fin 4) (u : Fin 1) (k : Fin 128) (q : Fin 512), i = ix4 j u k q := ⟨_, _, _, _, eq_ix4 i⟩
  obtain rfl : u = 0 := Subsingleton.elim _ _
  subst h0
  subst h1
  exact DwGluRef.value_at _ _ j k q

end Cert.DwGlu
-- ==== Proof.PleMath.lean ====
/- The layer embedding's arithmetic, forward and backward, on one row. -/
module

public import proofs.«01_k».proof.Proof.FfnBwdMath

@[expose] public section

noncomputable section

namespace Cert.Ple

open Cert.Ffn Idealize.ShloMosaic

/-- Column `256 j + q` of 1024. -/
def wide (j : Fin 4) (q : Fin 256) : Fin 1024 := ⟨j.val * 256 + q.val, by omega⟩

theorem sum_wide (f : Fin 1024 → EReal) : ∑ n, f n = ∑ j, ∑ q, f (wide j q) :=
  Fin.sum_univ_tiles 4 256 rfl f

theorem exists_wide (l : Fin 1024) : ∃ j q, l = wide j q :=
  ⟨⟨l.val / 256, by omega⟩, ⟨l.val % 256, by omega⟩, Fin.ext (by show l.val = l.val / 256 * 256 + l.val % 256; omega)⟩

/-- The embedding's row times the sigmoid of the gate's row. -/
def gat (e t : Fin 1024 → EReal) (l : Fin 1024) : EReal := e l * Ideal.logistic (t l)

/-- The cotangent of the gated row. -/
def dgat (d e t g : Fin 1024 → EReal) : Fin 1024 → EReal := rmsb d (gat e t) g

/-- The cotangent of the embedding's row. -/
def demb (d e t g : Fin 1024 → EReal) (l : Fin 1024) : EReal := dgat d e t g l * Ideal.logistic (t l)

/-- The cotangent of the gate's row. -/
def dgte (d e t g : Fin 1024 → EReal) (l : Fin 1024) : EReal :=
  dgat d e t g l * e l * Ideal.logistic (t l) * (Ideal.ofBits FTy.f32 0x3F800000#32 - Ideal.logistic (t l))

/-- The cotangent of the layer's row. -/
def drow (d e t g : Fin 1024 → EReal) (w : Fin 1024 → Fin 1024 → EReal) (l : Fin 1024) : EReal := d l + ∑ k, dgte d e t g k * w l k

/-- What a row adds to the gain's cotangent. -/
def dgain (d e t : Fin 1024 → EReal) (l : Fin 1024) : EReal := d l * (gat e t l * Cert.Ffn.inv (gat e t))

theorem mul_self_nonneg' (x : EReal) : 0 ≤ x * x := by
  induction x with
  | bot => simp
  | top => simp
  | coe r => exact_mod_cast mul_self_nonneg r

theorem mul_self_top {x : EReal} (h : ¬ Re x) : x * x = ⊤ := by
  induction x with
  | bot => simp
  | top => simp
  | coe r => exact absurd ⟨r, rfl⟩ h

theorem ms_top {x : Fin 1024 → EReal} {k : Fin 1024} (h : ¬ Re (x k)) : ms x = ⊤ := by
  have e : ∑ k, x k * x k = ⊤ := by
    have : x k * x k ≤ ∑ k, x k * x k :=
      Finset.single_le_sum (f := fun k => x k * x k) (fun k _ => mul_self_nonneg' (x k)) (Finset.mem_univ k)
    rw [mul_self_top h] at this
    exact top_le_iff.mp this
  obtain ⟨ε, _, hb⟩ := bits_eps
  unfold ms
  rw [e, hb, bits_1024, Ideal.div_coe (by norm_num), EReal.top_mul_coe_of_pos (by norm_num), EReal.top_add_coe]

theorem inv_top {x : Fin 1024 → EReal} {k : Fin 1024} (h : ¬ Re (x k)) : Cert.Ffn.inv x = 0 := by
  unfold Cert.Ffn.inv
  rw [ms_top h, Ideal.rsqrt_top]

theorem sum_mul_nonneg {ι : Type*} (s : Finset ι) (f : ι → EReal) {ρ : ℝ} (h : 0 ≤ ρ) : ∑ i ∈ s, f i * (ρ : EReal) = (∑ i ∈ s, f i) * (ρ : EReal) := by
  classical
  induction s using Finset.induction_on with
  | empty => simp
  | insert a s ha ih =>
    rw [Finset.sum_insert ha, Finset.sum_insert ha, ih,
      EReal.right_distrib_of_nonneg_of_ne_top (by exact_mod_cast h) (EReal.coe_ne_top ρ)]

theorem add_self (x : EReal) : x + x = ((2 : ℝ) : EReal) * x := by
  induction x with
  | bot => rw [EReal.coe_mul_bot_of_pos (by norm_num)]; rfl
  | top => rw [EReal.coe_mul_top_of_pos (by norm_num)]; rfl
  | coe r => rw [← EReal.coe_add, ← EReal.coe_mul, two_mul]

/-- The chain rule's form of a norm's cotangent is the closed form, for all extended reals. -/
theorem rmsb_ref (dy x g : Fin 1024 → EReal) (l : Fin 1024) :
    dy l * g l * Cert.Ffn.inv x + x l * through x (fun k => dy k * g k) + through x (fun k => dy k * g k) * x l = rmsb dy x g l := by
  by_cases hx : ∀ l, Re (x l)
  · obtain ⟨v, hv, ev⟩ := ms_real hx
    have ei := inv_real hv ev
    unfold rmsb through
    rw [ei, ev, bits_1024, bits_mhalf, Ideal.div_coe hv.ne', Ideal.div_coe (by norm_num), Ideal.div_coe (by norm_num)]
    have hρ : (0 : ℝ) ≤ (√v)⁻¹ := by positivity
    have h2 : (√v)⁻¹ * (√v)⁻¹ = 1 / v := by
      rw [← mul_inv, Real.mul_self_sqrt hv.le, one_div]
    have h3 : ∑ k, dy k * g k * (x k * ((√v)⁻¹ : ℝ)) = (∑ k, x k * (dy k * g k)) * ((√v)⁻¹ : ℝ) := by
      rw [← sum_mul_nonneg _ _ hρ]
      exact Finset.sum_congr rfl fun k _ => by rw [← mul_assoc, mul_comm (dy k * g k)]
    rw [h3]
    generalize ∑ k, x k * (dy k * g k) = S
    obtain ⟨X, hX⟩ := hx l
    rw [hX]
    generalize (√v)⁻¹ = r at *
    generalize dy l * g l = G
    rw [sub_eq_add_neg, EReal.left_distrib_of_nonneg_of_ne_top (by exact_mod_cast hρ) (EReal.coe_ne_top r), mul_comm (r : EReal) G, add_assoc]
    congr 1
    have e1 : (X : EReal) * (S * (((-1 / 2 : ℝ) : EReal) * ((r : EReal) * ((1 / v : ℝ) : EReal))) * ((1 / 1024 : ℝ) : EReal))
        = ((X * (-1 / 2 * (r * (1 / v))) * (1 / 1024) : ℝ) : EReal) * S := by
      simp only [EReal.coe_mul]; ac_rfl
    rw [mul_comm (S * _ * _) (X : EReal), e1, add_self, ← mul_assoc, ← EReal.coe_mul]
    have e2 : (r : EReal) * -((X : EReal) * (r : EReal) * (S * (r : EReal) * ((1 / 1024 : ℝ) : EReal)))
        = ((r * -(X * r * r * (1 / 1024)) : ℝ) : EReal) * S := by
      have : (X : EReal) * (r : EReal) * (S * (r : EReal) * ((1 / 1024 : ℝ) : EReal)) = ((X * r * r * (1 / 1024) : ℝ) : EReal) * S := by
        simp only [EReal.coe_mul]; ac_rfl
      rw [this, ← neg_mul, ← EReal.coe_neg, ← mul_assoc, ← EReal.coe_mul]
    rw [e2]
    congr 2
    rw [← h2]
    ring
  · obtain ⟨k, hk⟩ := not_forall.mp hx
    have e := inv_top hk
    unfold rmsb through
    rw [e, ms_top hk, bits_1024, Ideal.div_coe (by norm_num)]
    have : Ideal.div 0 ⊤ = 0 := by
      unfold Ideal.div
      rw [if_neg (by simp), zero_mul]
    rw [this]
    simp

/-- The gate's cotangent as the chain rule gives it. -/
theorem dgte_ref (d e t g : Fin 1024 → EReal) (l : Fin 1024) :
    e l * dgat d e t g l * (Ideal.logistic (t l) * (Ideal.ofBits FTy.f32 0x3F800000#32 - Ideal.logistic (t l))) = dgte d e t g l := by
  unfold dgte
  rw [mul_comm (e l), ← mul_assoc]

/-- The layer's row with the layer embedding added. -/
def fwd (h e t g : Fin 1024 → EReal) (l : Fin 1024) : EReal := h l + rms (gat e t) g l

/-- The embedding's row. -/
def emb (p : Fin 256 → EReal) (w : Fin 256 → Fin 1024 → EReal) (l : Fin 1024) : EReal := ∑ k, p k * w k l

/-- The gate's row. -/
def gte (h : Fin 1024 → EReal) (w : Fin 1024 → Fin 1024 → EReal) (l : Fin 1024) : EReal := ∑ k, h k * w k l

/-- Row `r` of the block of 512 rows at `t`. -/
def row (t : Fin 8) (r : Fin 512) : Fin 4096 := ⟨t.val * 512 + r.val, by omega⟩

theorem sum_row (f : Fin 4096 → EReal) : ∑ n, f n = ∑ t, ∑ r, f (row t r) :=
  Fin.sum_univ_tiles 8 512 rfl f

end Cert.Ple
-- ==== Proof.PleBwdPay.lean ====
/- The stores of the layer embedding's backward kernel, read at an index. -/
module

public import proofs.«01_k».proof.Proof.Gen.Kernel10Ideal.Frame
public import proofs.«01_k».proof.Proof.PleMath
public import Idealize.ShloMosaic.Lib.Pipeline.ValueKit
public import Idealize.ShloMosaic.Lib.Pointwise

@[expose] public section

set_option maxRecDepth 16384

noncomputable section

namespace Cert.PleBwd

open Cert.Ffn Cert.Ple Cert.Kernel10Ideal Cert.Kernel10Ideal.Gen Idealize.ShloMosaic Idealize.ShloMosaic.TcCoe Idealize.SL.Sem

variable (x0 x1 x2 : Vec Ideal S512x1024 .f32) (g : Vec Ideal S1x1x1024 .f32) (z y : Vec Ideal S1x1024 .f32)
  (e s d : FVec Ideal S512x1024 .f32) (b : FVec Ideal S512x1024 .bf16) (w w1 w2 w3 : Vec Ideal S1x1x256x1024 .bf16)
  (u : FVec Ideal S512x256 .f32) (r : Fin 512) (q : Fin 256) (l : Fin 1024)

/-- Row `r` of a block. -/
abbrev row (x : Vec Ideal S512x1024 .f32) (r : Fin 512) (l : Fin 1024) : EReal := x (ix2 r l)
/-- The gain. -/
abbrev gn (x : Vec Ideal S1x1x1024 .f32) (l : Fin 1024) : EReal := x (ix3 0 0 l)

theorem pay2_at : k0_pay2 (F := Ideal) (ix2 0 l) = 0 := by pointwise [k0_pay2]
theorem pay3_at : k0_pay3 x1 (ix2 r l) = x1 (ix2 r l) := by pointwise [k0_pay3]
theorem pay4_at : k0_pay4 x2 (ix2 r l) = Ideal.logistic (x2 (ix2 r l)) := by pointwise [k0_pay4]
theorem pay5_at : k0_pay5 x1 x2 (ix2 r l) = gat (row x1 r) (row x2 r) l := by
  have h : k0_pay5 x1 x2 (ix2 r l) = k0_pay3 x1 (ix2 r l) * k0_pay4 x2 (ix2 r l) := by pointwise [k0_pay5]
  rw [h, pay3_at, pay4_at]
  rfl
theorem pay6_at : k0_pay6 x1 x2 (ix2 r 0) = Cert.Ffn.inv (gat (row x1 r) (row x2 r)) := by
  have h : k0_pay6 x1 x2 (ix2 r 0) = Cert.Ffn.inv (fun l => k0_pay5 x1 x2 (ix2 r l)) := by
    pointwise [k0_pay6]
    rfl
  rw [h]
  simp only [pay5_at]
theorem pay7_at : k0_pay7 x1 x2 (ix2 r l) = gat (row x1 r) (row x2 r) l * Cert.Ffn.inv (gat (row x1 r) (row x2 r)) := by
  have h : k0_pay7 x1 x2 (ix2 r l) = k0_pay5 x1 x2 (ix2 r l) * k0_pay6 x1 x2 (ix2 r 0) := by pointwise [k0_pay7]
  rw [h, pay5_at, pay6_at]
theorem pay8_at : k0_pay8 x1 x2 x0 g (ix2 r l) = dgat (row x0 r) (row x1 r) (row x2 r) (gn g) l := by
  have h : k0_pay8 x1 x2 x0 g (ix2 r l) = k0_pay6 x1 x2 (ix2 r 0) * (x0 (ix2 r l) * g (ix3 0 0 l)
      - k0_pay7 x1 x2 (ix2 r l) * Ideal.div (∑ l, x0 (ix2 r l) * g (ix3 0 0 l) * k0_pay7 x1 x2 (ix2 r l)) (Ideal.ofBits FTy.f32 0x44800000#32)) := by
    pointwise [k0_pay8]
  rw [h]
  simp only [pay6_at, pay7_at]
  rfl
theorem pay9_at : k0_pay9 x1 x2 x0 (ix2 0 l) = ∑ r, dgain (row x0 r) (row x1 r) (row x2 r) l := by
  have h : k0_pay9 x1 x2 x0 (ix2 0 l) = ∑ r, x0 (ix2 r l) * k0_pay7 x1 x2 (ix2 r l) := by pointwise [k0_pay9]
  rw [h]
  simp only [pay7_at]
  rfl
theorem pay10_at : k0_pay10 z (ix2 0 l) = z (ix2 0 l) := by pointwise [k0_pay10]
theorem pay11_at (a b : FVec Ideal S1x1024 .f32) : k0_pay11 a b (ix2 0 l) = b (ix2 0 l) + a (ix2 0 l) := by pointwise [k0_pay11]
theorem pay12_at : k0_pay12 s d (ix2 r l) = d (ix2 r l) * s (ix2 r l) := by pointwise [k0_pay12]
theorem pay13_at : k0_pay13 s d (ix3 0 r q) = k0_pay12 s d (ix2 r (wide 0 q)) := by pointwise [k0_pay13, wide]
theorem pay14_at : k0_pay14 s d (ix3 0 r q) = k0_pay12 s d (ix2 r (wide 1 q)) := by pointwise [k0_pay14, wide]
theorem pay15_at : k0_pay15 s d (ix3 0 r q) = k0_pay12 s d (ix2 r (wide 2 q)) := by pointwise [k0_pay15, wide]
theorem pay16_at : k0_pay16 s d (ix3 0 r q) = k0_pay12 s d (ix2 r (wide 3 q)) := by pointwise [k0_pay16, wide]
theorem pay17_at : k0_pay17 e s d (ix2 r l) = d (ix2 r l) * e (ix2 r l) * s (ix2 r l) * (Ideal.ofBits FTy.f32 0x3F800000#32 - s (ix2 r l)) := by
  pointwise [k0_pay17]
theorem pay18_at : k0_pay18 e s d w (ix2 r q) = ∑ l, k0_pay17 e s d (ix2 r l) * w (ix4 0 0 q l) := by pointwise [k0_pay18]

theorem pay1_0 : k0_pay1 x0 b u w1 w2 w3 (ix2 r (wide 0 q)) = x0 (ix2 r (wide 0 q)) + u (ix2 r q) := by
  pointwise [k0_pay1, wide]
theorem pay1_1 : k0_pay1 x0 b u w1 w2 w3 (ix2 r (wide 1 q)) = x0 (ix2 r (wide 1 q)) + ∑ l, b (ix2 r l) * w1 (ix4 0 0 q l) := by
  pointwise [k0_pay1, wide]
theorem pay1_2 : k0_pay1 x0 b u w1 w2 w3 (ix2 r (wide 2 q)) = x0 (ix2 r (wide 2 q)) + ∑ l, b (ix2 r l) * w2 (ix4 0 0 q l) := by
  pointwise [k0_pay1, wide]
  rw [dif_neg (by omega), dif_neg (by omega), dif_pos (by omega)]
  exact congrArg (fun z => x0 _ + ∑ l, b (ix2 r l) * w2 (ix4 0 0 z l)) (Fin.ext (by show 512 + q.val - 256 - 256 = q.val; omega))
theorem pay1_3 : k0_pay1 x0 b u w1 w2 w3 (ix2 r (wide 3 q)) = x0 (ix2 r (wide 3 q)) + ∑ l, b (ix2 r l) * w3 (ix4 0 0 q l) := by
  pointwise [k0_pay1, wide]
  rw [dif_neg (by omega), dif_neg (by omega), dif_neg (by omega)]
  exact congrArg (fun z => x0 _ + ∑ l, b (ix2 r l) * w3 (ix4 0 0 z l)) (Fin.ext (by show 768 + q.val - 256 - 256 - 256 = q.val; omega))

end Cert.PleBwd
-- ==== Proof.PleBwdBlock.lean ====
/- The layer embedding's backward kernel at one grid point: what each output's buffer holds after it. -/
module

public import proofs.«01_k».proof.Proof.PleBwdPay

@[expose] public section

set_option maxRecDepth 16384

noncomputable section

namespace Cert.PleBwd

open Cert.Ffn Cert.Ple Cert.Kernel10Ideal Cert.Kernel10Ideal.Gen Idealize.ShloMosaic Idealize.ShloMosaic.TcCoe Idealize.SL.Sem

/-- The gate's weight by row and column. -/
def wt (x : Vec Ideal S4x1x256x1024 .bf16) (n l : Fin 1024) : EReal := x (ix4 ⟨n.val / 256, by omega⟩ 0 ⟨n.val % 256, by omega⟩ l)

theorem wt_wide (x : Vec Ideal S4x1x256x1024 .bf16) (j : Fin 4) (q : Fin 256) (l : Fin 1024) : wt x (wide j q) l = x (ix4 j 0 q l) := by
  have h : (⟨(wide j q).val / 256, by omega⟩ : Fin 4) = j := Fin.ext (by show (j.val * 256 + q.val) / 256 = j.val; omega)
  have h' : (⟨(wide j q).val % 256, by omega⟩ : Fin 256) = q := Fin.ext (by show (j.val * 256 + q.val) % 256 = q.val; omega)
  unfold wt
  rw [h, h']

/-- Shard `k` of a block of cotangents. -/
abbrev Ra (k : ℕ) (inb : ∀ a : Fin 3, (![k, 0, 0] : Fin 3 → ℕ) a + (![1, 512, 256] : Fin 3 → ℕ) a ≤ S4x512x256.size a) : Rect S4x512x256 :=
  Rect.unit (s := S4x512x256) ![k, 0, 0] ![1, 512, 256] inb
/-- Shard `k` of the weight. -/
abbrev Rw (k : ℕ) (inb : ∀ a : Fin 4, (![k, 0, 0, 0] : Fin 4 → ℕ) a + (![1, 1, 256, 1024] : Fin 4 → ℕ) a ≤ S4x1x256x1024.size a) : Rect S4x1x256x1024 :=
  Rect.unit (s := S4x1x256x1024) ![k, 0, 0, 0] ![1, 1, 256, 1024] inb

theorem embA (j : Fin 4) (r : Fin 512) (q : Fin 256) (k : ℕ) (inb) (h : j.val = k) : (Ra k inb).emb (ix3 (n0 := 1) 0 r q) = ix3 (n0 := 4) (n1 := 512) (n2 := 256) j r q := by
  subst h
  funext a; fin_cases a <;> apply Fin.ext <;> simp [Rect.emb_apply]
theorem embW (j : Fin 4) (r : Fin 256) (q : Fin 1024) (k : ℕ) (inb) (h : j.val = k) :
    (Rw k inb).emb (ix4 (n0 := 1) (n1 := 1) 0 0 r q) = ix4 (n0 := 4) (n1 := 1) (n2 := 256) (n3 := 1024) j 0 r q := by
  subst h
  funext a; fin_cases a <;> apply Fin.ext <;> simp [Rect.emb_apply]

theorem hit (j : Fin 4) (r : Fin 512) (q : Fin 256) (k : ℕ) (inb) (h : j.val = k) (w : Vec Ideal S1x512x256 .bf16) (L : List (View.Piece (Elt Ideal) S4x512x256 .bf16)) :
    View.canon ((⟨Ra k inb, w⟩ : View.Piece (Elt Ideal) S4x512x256 .bf16) :: L) (ix3 j r q) = w (ix3 0 r q) := by
  rw [← embA j r q k inb h]
  exact View.canon_cons_emb (Val := Elt Ideal) (Ra k inb) w L _
theorem miss (j : Fin 4) (r : Fin 512) (q : Fin 256) (k : ℕ) (inb) (h : j.val ≠ k) (w : Vec Ideal S1x512x256 .bf16) (L : List (View.Piece (Elt Ideal) S4x512x256 .bf16)) :
    View.canon ((⟨Ra k inb, w⟩ : View.Piece (Elt Ideal) S4x512x256 .bf16) :: L) (ix3 j r q) = View.canon L (ix3 j r q) := by
  refine View.canon_cons_of_not_mem (Val := Elt Ideal) _ L ?_
  refine (Ra k inb).not_mem_set_of_axis _ 0 k 1 rfl rfl rfl ?_
  show j.val < k ∨ k + 1 ≤ j.val
  omega

/-- Four stores, one for each shard. -/
def four (u : Fin 4 → Vec Ideal S1x512x256 .bf16) : List (View.Piece (Elt Ideal) S4x512x256 .bf16) :=
  [⟨Ra 3 inb_S4x512x256_S1x512x256_3_0_0, u 3⟩, ⟨Ra 2 inb_S4x512x256_S1x512x256_2_0_0, u 2⟩,
   ⟨Ra 1 inb_S4x512x256_S1x512x256_1_0_0, u 1⟩, ⟨Ra 0 inb_S4x512x256_S1x512x256_0_0_0, u 0⟩]

theorem four_at (u : Fin 4 → Vec Ideal S1x512x256 .bf16) (j : Fin 4) (r : Fin 512) (q : Fin 256) : View.canon (four u) (ix3 j r q) = u j (ix3 0 r q) := by
  unfold four
  match j with
  | 0 => rw [miss 0 r q 3 _ (by decide), miss 0 r q 2 _ (by decide), miss 0 r q 1 _ (by decide), hit 0 r q 0 _ rfl]
  | 1 => rw [miss 1 r q 3 _ (by decide), miss 1 r q 2 _ (by decide), hit 1 r q 1 _ rfl]
  | 2 => rw [miss 2 r q 3 _ (by decide), hit 2 r q 2 _ rfl]
  | 3 => rw [hit 3 r q 3 _ rfl]

/-- What a load of shard `k` of the weight reads. -/
abbrev lw (x : Vec Ideal S4x1x256x1024 .bf16) (k : ℕ) (inb : ∀ a : Fin 4, (![k, 0, 0, 0] : Fin 4 → ℕ) a + (![1, 1, 256, 1024] : Fin 4 → ℕ) a ≤ S4x1x256x1024.size a) : Vec Ideal S1x1x256x1024 .bf16 :=
  View.ld x (Rw k inb)

theorem lw_at (x : Vec Ideal S4x1x256x1024 .bf16) (j : Fin 4) (k : ℕ) (inb) (h : j.val = k) (r : Fin 256) (q : Fin 1024) : lw x k inb (ix4 0 0 r q) = x (ix4 j 0 r q) :=
  congrArg x (embW j r q k inb h)

variable (x0 x1 x2 : Vec Ideal S512x1024 .f32) (x3 : Vec Ideal S4x1x256x1024 .bf16) (x4 : Vec Ideal S1x1x1024 .f32) (xo8 : Vec Ideal S1x1024 .f32)

/-- The cotangent of the gated rows over the block. -/
abbrev DX : FVec Ideal S512x1024 .f32 := k0_pay8 x1 x2 x0 x4
/-- The cotangent of the gate's rows over the block. -/
abbrev DT : FVec Ideal S512x1024 .bf16 := k0_pay17 (k0_pay3 x1) (k0_pay4 x2) (DX x0 x1 x2 x4)
/-- The stores of the embedding's cotangent. -/
def ue : Fin 4 → Vec Ideal S1x512x256 .bf16 :=
  ![k0_pay13 (k0_pay4 x2) (DX x0 x1 x2 x4), k0_pay14 (k0_pay4 x2) (DX x0 x1 x2 x4), k0_pay15 (k0_pay4 x2) (DX x0 x1 x2 x4), k0_pay16 (k0_pay4 x2) (DX x0 x1 x2 x4)]
/-- The cotangent of the layer's rows over the block. -/
def DH : FVec Ideal S512x1024 .f32 :=
  k0_pay1 x0 (DT x0 x1 x2 x4) (k0_pay18 (k0_pay3 x1) (k0_pay4 x2) (DX x0 x1 x2 x4) (lw x3 0 inb_S4x1x256x1024_S1x1x256x1024_0_0_0_0))
    (lw x3 1 inb_S4x1x256x1024_S1x1x256x1024_1_0_0_0) (lw x3 2 inb_S4x1x256x1024_S1x1x256x1024_2_0_0_0) (lw x3 3 inb_S4x1x256x1024_S1x1x256x1024_3_0_0_0)

theorem DT_at (r : Fin 512) (l : Fin 1024) : DT x0 x1 x2 x4 (ix2 r l) = dgte (row x0 r) (row x1 r) (row x2 r) (gn x4) l := by
  unfold DT DX
  rw [pay17_at, pay8_at, pay3_at, pay4_at]
  rfl

theorem ue_at (j : Fin 4) (r : Fin 512) (q : Fin 256) : ue x0 x1 x2 x4 j (ix3 0 r q) = demb (row x0 r) (row x1 r) (row x2 r) (gn x4) (wide j q) := by
  have h : ∀ l, k0_pay12 (k0_pay4 x2) (DX x0 x1 x2 x4) (ix2 r l) = demb (row x0 r) (row x1 r) (row x2 r) (gn x4) l := by
    intro l
    unfold DX
    rw [pay12_at, pay8_at, pay4_at]
    rfl
  match j with
  | 0 => exact (pay13_at _ _ r q).trans (h _)
  | 1 => exact (pay14_at _ _ r q).trans (h _)
  | 2 => exact (pay15_at _ _ r q).trans (h _)
  | 3 => exact (pay16_at _ _ r q).trans (h _)

theorem DH_at (r : Fin 512) (l : Fin 1024) : DH x0 x1 x2 x3 x4 (ix2 r l) = drow (row x0 r) (row x1 r) (row x2 r) (gn x4) (wt x3) l := by
  obtain ⟨j, q, rfl⟩ := exists_wide l
  unfold DH drow
  simp only [wt_wide]
  match j with
  | 0 =>
    rw [pay1_0, pay18_at]
    refine congrArg (x0 (ix2 r (wide 0 q)) + ·) (Finset.sum_congr rfl fun k _ => ?_)
    rw [lw_at x3 0 0 _ rfl]
    exact congrArg (· * x3 (ix4 0 0 q k)) (DT_at x0 x1 x2 x4 r k)
  | 1 => rw [pay1_1]; simp only [DT_at, lw_at x3 1 1 _ rfl]
  | 2 => rw [pay1_2]; simp only [DT_at, lw_at x3 2 2 _ rfl]
  | 3 => rw [pay1_3]; simp only [DT_at, lw_at x3 3 3 _ rfl]

theorem whole : View.ld x0 (Rect.unit (s := S512x1024) ![0, 0] ![512, 1024] inb_S512x1024_S512x1024_0_0) = x0 :=
  View.ld_unit_zero (by funext a; fin_cases a <;> rfl) _ _
theorem wholeG : View.ld x4 (Rect.unit (s := S1x1x1024) ![0, 0, 0] ![1, 1, 1024] inb_S1x1x1024_S1x1x1024_0_0_0) = x4 :=
  View.ld_unit_zero (by funext a; fin_cases a <;> rfl) _ _
theorem wholeS : View.ld xo8 (Rect.unit (s := S1x1024) ![0, 0] ![1, 1024] inb_S1x1024_S1x1024_0_0) = xo8 :=
  View.ld_unit_zero (by funext a; fin_cases a <;> rfl) _ _

theorem oneS (w : Vec Ideal S1x1024 .f32) (L : List (View.Piece (Elt Ideal) S1x1024 .f32)) (l : Fin 1024) :
    View.canon ((⟨Rect.unit (s := S1x1024) ![0, 0] ![1, 1024] inb_S1x1024_S1x1024_0_0, w⟩ : View.Piece (Elt Ideal) S1x1024 .f32) :: L) (ix2 0 l) = w (ix2 0 l) := by
  have e : (Rect.unit (s := S1x1024) ![0, 0] ![1, 1024] inb_S1x1024_S1x1024_0_0).emb (ix2 (n0 := 1) 0 l) = ix2 (n0 := 1) (n1 := 1024) 0 l := by
    funext a; fin_cases a <;> apply Fin.ext <;> simp [Rect.emb_apply]
  conv_lhs => rw [← e]
  exact View.canon_cons_emb (Val := Elt Ideal) (Rect.unit (s := S1x1024) ![0, 0] ![1, 1024] inb_S1x1024_S1x1024_0_0) w L _

/-- The store that empties the sum. -/
abbrev zero8 : List (View.Piece (Elt Ideal) S1x1024 .f32) := [⟨Rect.unit (s := S1x1024) ![0, 0] ![1, 1024] inb_S1x1024_S1x1024_0_0, k0_pay2 (F := Ideal)⟩]

theorem covS (arg : Memref sig .tc .vmem S1x1024 .f32) (L : List (View.Piece (Elt Ideal) S1x1024 .f32)) :
    View.readCov (Val := Elt Ideal) arg.view L (Rect.unit (s := S1x1024) ![0, 0] ![1, 1024] inb_S1x1024_S1x1024_0_0).toLoadRect = View.canon L :=
  (View.readCov_eq_canon' arg.view L _).trans (View.ld_unit_zero (S := S1x1024) (by funext a; fin_cases a <;> rfl) inb_S1x1024_S1x1024_0_0 (View.canon L))
theorem cov8 (arg : Memref sig .tc .vmem S1x1024 .f32) (l : Fin 1024) :
    View.readCov (Val := Elt Ideal) arg.view zero8 (Rect.unit (s := S1x1024) ![0, 0] ![1, 1024] inb_S1x1024_S1x1024_0_0).toLoadRect (ix2 0 l) = 0 :=
  (congrFun (covS arg zero8) _).trans ((oneS _ _ l).trans (pay2_at l))

variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S4x1x256x1024 .bf16) (harg4 : arg4.IsWhole) (arg5 : Memref sig .tc .vmem S1x1x1024 .f32) (harg5 : arg5.IsWhole) (arg6 : Memref sig .tc .vmem S512x1024 .f32) (harg6 : arg6.IsWhole) (arg7 : Memref sig .tc .vmem S4x512x256 .bf16) (harg7 : arg7.IsWhole) (arg8 : Memref sig .tc .vmem S512x1024 .bf16) (harg8 : arg8.IsWhole) (arg9 : Memref sig .tc .vmem S1x1024 .f32) (harg9 : arg9.IsWhole)

-- case A

set_option maxHeartbeats 4000000 in
theorem list5A (hc0 : cond0_0 i) : (kernelRun0_A c i arg1 harg1 arg2 harg2 arg3 harg3 arg4 harg4 arg5 harg5 arg6 harg6 arg7 harg7 arg8 harg8 arg9 harg9 hc0 x0 x1 x2 x3 x4).1
    = ([⟨Rect.unit (s := S512x1024) ![0, 0] ![512, 1024] inb_S512x1024_S512x1024_0_0, DH x0 x1 x2 x3 x4⟩] : List (View.Piece (Elt Ideal) S512x1024 .f32)) := by
  have e0 := harg1.read_unread x0
  have e1 := harg2.read_unread x1
  have e2 := harg3.read_unread x2
  have e3 := harg4.read_unread x3
  have e4 := harg5.read_unread x4
  dsimp only [kernelRun0_A, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.v37, kernelRun0_A.sl.H8_1, kernelRun0_A.sl.v69, kernelRun0_A.sl.v72, kernelRun0_A.sl.v75]
  simp only [View.readAt_eq_ld, e0, e1, e2, e3, e4]
  exact (show _ = ([⟨Rect.unit (s := S512x1024) ![0, 0] ![512, 1024] inb_S512x1024_S512x1024_0_0, DH (View.ld x0 (Rect.unit (s := S512x1024) ![0, 0] ![512, 1024] inb_S512x1024_S512x1024_0_0)) (View.ld x1 (Rect.unit (s := S512x1024) ![0, 0] ![512, 1024] inb_S512x1024_S512x1024_0_0)) (View.ld x2 (Rect.unit (s := S512x1024) ![0, 0] ![512, 1024] inb_S512x1024_S512x1024_0_0)) x3 (View.ld x4 (Rect.unit (s := S1x1x1024) ![0, 0, 0] ![1, 1, 1024] inb_S1x1x1024_S1x1x1024_0_0_0))⟩] : List (View.Piece (Elt Ideal) S512x1024 .f32)) from rfl).trans (by rw [whole x0, whole x1, whole x2, wholeG x4])

theorem list6A (hc0 : cond0_0 i) : (kernelRun0_A c i arg1 harg1 arg2 harg2 arg3 harg3 arg4 harg4 arg5 harg5 arg6 harg6 arg7 harg7 arg8 harg8 arg9 harg9 hc0 x0 x1 x2 x3 x4).2.1
    = (four (ue x0 x1 x2 x4) : List (View.Piece (Elt Ideal) S4x512x256 .bf16)) := by
  have e0 := harg1.read_unread x0
  have e1 := harg2.read_unread x1
  have e2 := harg3.read_unread x2
  have e3 := harg4.read_unread x3
  have e4 := harg5.read_unread x4
  dsimp only [kernelRun0_A, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.v37, kernelRun0_A.sl.H8_1, kernelRun0_A.sl.v69, kernelRun0_A.sl.v72, kernelRun0_A.sl.v75]
  simp only [View.readAt_eq_ld, e0, e1, e2, e3, e4]
  exact (show _ = (four (ue (View.ld x0 (Rect.unit (s := S512x1024) ![0, 0] ![512, 1024] inb_S512x1024_S512x1024_0_0)) (View.ld x1 (Rect.unit (s := S512x1024) ![0, 0] ![512, 1024] inb_S512x1024_S512x1024_0_0)) (View.ld x2 (Rect.unit (s := S512x1024) ![0, 0] ![512, 1024] inb_S512x1024_S512x1024_0_0)) (View.ld x4 (Rect.unit (s := S1x1x1024) ![0, 0, 0] ![1, 1, 1024] inb_S1x1x1024_S1x1x1024_0_0_0))) : List (View.Piece (Elt Ideal) S4x512x256 .bf16)) from rfl).trans (by rw [whole x0, whole x1, whole x2, wholeG x4])

theorem list7A (hc0 : cond0_0 i) : (kernelRun0_A c i arg1 harg1 arg2 harg2 arg3 harg3 arg4 harg4 arg5 harg5 arg6 harg6 arg7 harg7 arg8 harg8 arg9 harg9 hc0 x0 x1 x2 x3 x4).2.2.1
    = ([⟨Rect.unit (s := S512x1024) ![0, 0] ![512, 1024] inb_S512x1024_S512x1024_0_0, DT x0 x1 x2 x4⟩] : List (View.Piece (Elt Ideal) S512x1024 .bf16)) := by
  have e0 := harg1.read_unread x0
  have e1 := harg2.read_unread x1
  have e2 := harg3.read_unread x2
  have e3 := harg4.read_unread x3
  have e4 := harg5.read_unread x4
  dsimp only [kernelRun0_A, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.v37, kernelRun0_A.sl.H8_1, kernelRun0_A.sl.v69, kernelRun0_A.sl.v72, kernelRun0_A.sl.v75]
  simp only [View.readAt_eq_ld, e0, e1, e2, e3, e4]
  exact (show _ = ([⟨Rect.unit (s := S512x1024) ![0, 0] ![512, 1024] inb_S512x1024_S512x1024_0_0, DT (View.ld x0 (Rect.unit (s := S512x1024) ![0, 0] ![512, 1024] inb_S512x1024_S512x1024_0_0)) (View.ld x1 (Rect.unit (s := S512x1024) ![0, 0] ![512, 1024] inb_S512x1024_S512x1024_0_0)) (View.ld x2 (Rect.unit (s := S512x1024) ![0, 0] ![512, 1024] inb_S512x1024_S512x1024_0_0)) (View.ld x4 (Rect.unit (s := S1x1x1024) ![0, 0, 0] ![1, 1, 1024] inb_S1x1x1024_S1x1x1024_0_0_0))⟩] : List (View.Piece (Elt Ideal) S512x1024 .bf16)) from rfl).trans (by rw [whole x0, whole x1, whole x2, wholeG x4])

theorem list8A (hc0 : cond0_0 i) : (kernelRun0_A c i arg1 harg1 arg2 harg2 arg3 harg3 arg4 harg4 arg5 harg5 arg6 harg6 arg7 harg7 arg8 harg8 arg9 harg9 hc0 x0 x1 x2 x3 x4).2.2.2.1
    = (⟨Rect.unit (s := S1x1024) ![0, 0] ![1, 1024] inb_S1x1024_S1x1024_0_0, k0_pay11 (k0_pay9 x1 x2 x0) (k0_pay10 (View.readCov (Val := Elt Ideal) arg9.view zero8 (Rect.unit (s := S1x1024) ![0, 0] ![1, 1024] inb_S1x1024_S1x1024_0_0).toLoadRect))⟩ :: zero8 : List (View.Piece (Elt Ideal) S1x1024 .f32)) := by
  have e0 := harg1.read_unread x0
  have e1 := harg2.read_unread x1
  have e2 := harg3.read_unread x2
  have e3 := harg4.read_unread x3
  have e4 := harg5.read_unread x4
  dsimp only [kernelRun0_A, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.v37, kernelRun0_A.sl.H8_1, kernelRun0_A.sl.v69, kernelRun0_A.sl.v72, kernelRun0_A.sl.v75]
  simp only [View.readAt_eq_ld, e0, e1, e2, e3, e4]
  exact (show _ = (⟨Rect.unit (s := S1x1024) ![0, 0] ![1, 1024] inb_S1x1024_S1x1024_0_0, k0_pay11 (k0_pay9 (View.ld x1 (Rect.unit (s := S512x1024) ![0, 0] ![512, 1024] inb_S512x1024_S512x1024_0_0)) (View.ld x2 (Rect.unit (s := S512x1024) ![0, 0] ![512, 1024] inb_S512x1024_S512x1024_0_0)) (View.ld x0 (Rect.unit (s := S512x1024) ![0, 0] ![512, 1024] inb_S512x1024_S512x1024_0_0))) (k0_pay10 (View.readCov (Val := Elt Ideal) arg9.view zero8 (Rect.unit (s := S1x1024) ![0, 0] ![1, 1024] inb_S1x1024_S1x1024_0_0).toLoadRect))⟩ :: zero8 : List (View.Piece (Elt Ideal) S1x1024 .f32)) from rfl).trans (by rw [whole x0, whole x1, whole x2])

theorem out5A (hc0 : cond0_0 i) (r : Fin 512) (l : Fin 1024) : out0_A_5 c i arg1 harg1 arg2 harg2 arg3 harg3 arg4 harg4 arg5 harg5 arg6 harg6 arg7 harg7 arg8 harg8 arg9 harg9 hc0 x0 x1 x2 x3 x4 (ix2 r l) = drow (row x0 r) (row x1 r) (row x2 r) (gn x4) (wt x3) l := by
  refine (View.read_writes_junk_apply_eq_canon _ _ _).trans ?_
  rw [list5A]
  exact (congrFun (View.canon_unit_zero (Val := Elt Ideal) (e := .f32) (S := S512x1024) (by funext a; fin_cases a <;> rfl) inb_S512x1024_S512x1024_0_0 (DH x0 x1 x2 x3 x4)) _).trans (DH_at x0 x1 x2 x3 x4 r l)

theorem out6A (hc0 : cond0_0 i) (j : Fin 4) (r : Fin 512) (q : Fin 256) : out0_A_6 c i arg1 harg1 arg2 harg2 arg3 harg3 arg4 harg4 arg5 harg5 arg6 harg6 arg7 harg7 arg8 harg8 arg9 harg9 hc0 x0 x1 x2 x3 x4 (ix3 j r q) = demb (row x0 r) (row x1 r) (row x2 r) (gn x4) (wide j q) := by
  refine (View.read_writes_junk_apply_eq_canon _ _ _).trans ?_
  rw [list6A]
  rw [four_at, ue_at]

theorem out7A (hc0 : cond0_0 i) (r : Fin 512) (l : Fin 1024) : out0_A_7 c i arg1 harg1 arg2 harg2 arg3 harg3 arg4 harg4 arg5 harg5 arg6 harg6 arg7 harg7 arg8 harg8 arg9 harg9 hc0 x0 x1 x2 x3 x4 (ix2 r l) = dgte (row x0 r) (row x1 r) (row x2 r) (gn x4) l := by
  refine (View.read_writes_junk_apply_eq_canon _ _ _).trans ?_
  rw [list7A]
  exact (congrFun (View.canon_unit_zero (Val := Elt Ideal) (e := .bf16) (S := S512x1024) (by funext a; fin_cases a <;> rfl) inb_S512x1024_S512x1024_0_0 (DT x0 x1 x2 x4)) _).trans (DT_at x0 x1 x2 x4 r l)

theorem out8A (hc0 : cond0_0 i) (l : Fin 1024) : out0_A_8 c i arg1 harg1 arg2 harg2 arg3 harg3 arg4 harg4 arg5 harg5 arg6 harg6 arg7 harg7 arg8 harg8 arg9 harg9 hc0 x0 x1 x2 x3 x4 (ix2 0 l) = 0 + ∑ r : Fin 512, dgain (row x0 r) (row x1 r) (row x2 r) l := by
  refine (View.read_writes_junk_apply_eq_canon _ _ _).trans ?_
  rw [list8A]
  rw [oneS, pay11_at, pay9_at, pay10_at, cov8]

-- case B

set_option maxHeartbeats 4000000 in
theorem list5B (hc0 : ¬cond0_0 i) : (kernelRun0_B c i arg1 harg1 arg2 harg2 arg3 harg3 arg4 harg4 arg5 harg5 arg6 harg6 arg7 harg7 arg8 harg8 arg9 harg9 hc0 x0 x1 x2 x3 x4 xo8).1
    = ([⟨Rect.unit (s := S512x1024) ![0, 0] ![512, 1024] inb_S512x1024_S512x1024_0_0, DH x0 x1 x2 x3 x4⟩] : List (View.Piece (Elt Ideal) S512x1024 .f32)) := by
  have e0 := harg1.read_unread x0
  have e1 := harg2.read_unread x1
  have e2 := harg3.read_unread x2
  have e3 := harg4.read_unread x3
  have e4 := harg5.read_unread x4
  have e8 := harg9.read_unread xo8
  dsimp only [kernelRun0_B, kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.v69, kernelRun0_B.sl.v72, kernelRun0_B.sl.v75]
  simp only [View.readAt_eq_ld, e0, e1, e2, e3, e4, e8]
  exact (show _ = ([⟨Rect.unit (s := S512x1024) ![0, 0] ![512, 1024] inb_S512x1024_S512x1024_0_0, DH (View.ld x0 (Rect.unit (s := S512x1024) ![0, 0] ![512, 1024] inb_S512x1024_S512x1024_0_0)) (View.ld x1 (Rect.unit (s := S512x1024) ![0, 0] ![512, 1024] inb_S512x1024_S512x1024_0_0)) (View.ld x2 (Rect.unit (s := S512x1024) ![0, 0] ![512, 1024] inb_S512x1024_S512x1024_0_0)) x3 (View.ld x4 (Rect.unit (s := S1x1x1024) ![0, 0, 0] ![1, 1, 1024] inb_S1x1x1024_S1x1x1024_0_0_0))⟩] : List (View.Piece (Elt Ideal) S512x1024 .f32)) from rfl).trans (by rw [whole x0, whole x1, whole x2, wholeG x4])

theorem list6B (hc0 : ¬cond0_0 i) : (kernelRun0_B c i arg1 harg1 arg2 harg2 arg3 harg3 arg4 harg4 arg5 harg5 arg6 harg6 arg7 harg7 arg8 harg8 arg9 harg9 hc0 x0 x1 x2 x3 x4 xo8).2.1
    = (four (ue x0 x1 x2 x4) : List (View.Piece (Elt Ideal) S4x512x256 .bf16)) := by
  have e0 := harg1.read_unread x0
  have e1 := harg2.read_unread x1
  have e2 := harg3.read_unread x2
  have e3 := harg4.read_unread x3
  have e4 := harg5.read_unread x4
  have e8 := harg9.read_unread xo8
  dsimp only [kernelRun0_B, kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.v69, kernelRun0_B.sl.v72, kernelRun0_B.sl.v75]
  simp only [View.readAt_eq_ld, e0, e1, e2, e3, e4, e8]
  exact (show _ = (four (ue (View.ld x0 (Rect.unit (s := S512x1024) ![0, 0] ![512, 1024] inb_S512x1024_S512x1024_0_0)) (View.ld x1 (Rect.unit (s := S512x1024) ![0, 0] ![512, 1024] inb_S512x1024_S512x1024_0_0)) (View.ld x2 (Rect.unit (s := S512x1024) ![0, 0] ![512, 1024] inb_S512x1024_S512x1024_0_0)) (View.ld x4 (Rect.unit (s := S1x1x1024) ![0, 0, 0] ![1, 1, 1024] inb_S1x1x1024_S1x1x1024_0_0_0))) : List (View.Piece (Elt Ideal) S4x512x256 .bf16)) from rfl).trans (by rw [whole x0, whole x1, whole x2, wholeG x4])

theorem list7B (hc0 : ¬cond0_0 i) : (kernelRun0_B c i arg1 harg1 arg2 harg2 arg3 harg3 arg4 harg4 arg5 harg5 arg6 harg6 arg7 harg7 arg8 harg8 arg9 harg9 hc0 x0 x1 x2 x3 x4 xo8).2.2.1
    = ([⟨Rect.unit (s := S512x1024) ![0, 0] ![512, 1024] inb_S512x1024_S512x1024_0_0, DT x0 x1 x2 x4⟩] : List (View.Piece (Elt Ideal) S512x1024 .bf16)) := by
  have e0 := harg1.read_unread x0
  have e1 := harg2.read_unread x1
  have e2 := harg3.read_unread x2
  have e3 := harg4.read_unread x3
  have e4 := harg5.read_unread x4
  have e8 := harg9.read_unread xo8
  dsimp only [kernelRun0_B, kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.v69, kernelRun0_B.sl.v72, kernelRun0_B.sl.v75]
  simp only [View.readAt_eq_ld, e0, e1, e2, e3, e4, e8]
  exact (show _ = ([⟨Rect.unit (s := S512x1024) ![0, 0] ![512, 1024] inb_S512x1024_S512x1024_0_0, DT (View.ld x0 (Rect.unit (s := S512x1024) ![0, 0] ![512, 1024] inb_S512x1024_S512x1024_0_0)) (View.ld x1 (Rect.unit (s := S512x1024) ![0, 0] ![512, 1024] inb_S512x1024_S512x1024_0_0)) (View.ld x2 (Rect.unit (s := S512x1024) ![0, 0] ![512, 1024] inb_S512x1024_S512x1024_0_0)) (View.ld x4 (Rect.unit (s := S1x1x1024) ![0, 0, 0] ![1, 1, 1024] inb_S1x1x1024_S1x1x1024_0_0_0))⟩] : List (View.Piece (Elt Ideal) S512x1024 .bf16)) from rfl).trans (by rw [whole x0, whole x1, whole x2, wholeG x4])

theorem list8B (hc0 : ¬cond0_0 i) : (kernelRun0_B c i arg1 harg1 arg2 harg2 arg3 harg3 arg4 harg4 arg5 harg5 arg6 harg6 arg7 harg7 arg8 harg8 arg9 harg9 hc0 x0 x1 x2 x3 x4 xo8).2.2.2.1
    = (⟨Rect.unit (s := S1x1024) ![0, 0] ![1, 1024] inb_S1x1024_S1x1024_0_0, k0_pay11 (k0_pay9 x1 x2 x0) (k0_pay10 xo8)⟩ :: [] : List (View.Piece (Elt Ideal) S1x1024 .f32)) := by
  have e0 := harg1.read_unread x0
  have e1 := harg2.read_unread x1
  have e2 := harg3.read_unread x2
  have e3 := harg4.read_unread x3
  have e4 := harg5.read_unread x4
  have e8 := harg9.read_unread xo8
  dsimp only [kernelRun0_B, kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.v69, kernelRun0_B.sl.v72, kernelRun0_B.sl.v75]
  simp only [View.readAt_eq_ld, e0, e1, e2, e3, e4, e8]
  exact (show _ = (⟨Rect.unit (s := S1x1024) ![0, 0] ![1, 1024] inb_S1x1024_S1x1024_0_0, k0_pay11 (k0_pay9 (View.ld x1 (Rect.unit (s := S512x1024) ![0, 0] ![512, 1024] inb_S512x1024_S512x1024_0_0)) (View.ld x2 (Rect.unit (s := S512x1024) ![0, 0] ![512, 1024] inb_S512x1024_S512x1024_0_0)) (View.ld x0 (Rect.unit (s := S512x1024) ![0, 0] ![512, 1024] inb_S512x1024_S512x1024_0_0))) (k0_pay10 (View.ld xo8 (Rect.unit (s := S1x1024) ![0, 0] ![1, 1024] inb_S1x1024_S1x1024_0_0)))⟩ :: [] : List (View.Piece (Elt Ideal) S1x1024 .f32)) from rfl).trans (by rw [whole x0, whole x1, whole x2, wholeS xo8])

theorem out5B (hc0 : ¬cond0_0 i) (r : Fin 512) (l : Fin 1024) : out0_B_5 c i arg1 harg1 arg2 harg2 arg3 harg3 arg4 harg4 arg5 harg5 arg6 harg6 arg7 harg7 arg8 harg8 arg9 harg9 hc0 x0 x1 x2 x3 x4 xo8 (ix2 r l) = drow (row x0 r) (row x1 r) (row x2 r) (gn x4) (wt x3) l := by
  refine (View.read_writes_junk_apply_eq_canon _ _ _).trans ?_
  rw [list5B]
  exact (congrFun (View.canon_unit_zero (Val := Elt Ideal) (e := .f32) (S := S512x1024) (by funext a; fin_cases a <;> rfl) inb_S512x1024_S512x1024_0_0 (DH x0 x1 x2 x3 x4)) _).trans (DH_at x0 x1 x2 x3 x4 r l)

theorem out6B (hc0 : ¬cond0_0 i) (j : Fin 4) (r : Fin 512) (q : Fin 256) : out0_B_6 c i arg1 harg1 arg2 harg2 arg3 harg3 arg4 harg4 arg5 harg5 arg6 harg6 arg7 harg7 arg8 harg8 arg9 harg9 hc0 x0 x1 x2 x3 x4 xo8 (ix3 j r q) = demb (row x0 r) (row x1 r) (row x2 r) (gn x4) (wide j q) := by
  refine (View.read_writes_junk_apply_eq_canon _ _ _).trans ?_
  rw [list6B]
  rw [four_at, ue_at]

theorem out7B (hc0 : ¬cond0_0 i) (r : Fin 512) (l : Fin 1024) : out0_B_7 c i arg1 harg1 arg2 harg2 arg3 harg3 arg4 harg4 arg5 harg5 arg6 harg6 arg7 harg7 arg8 harg8 arg9 harg9 hc0 x0 x1 x2 x3 x4 xo8 (ix2 r l) = dgte (row x0 r) (row x1 r) (row x2 r) (gn x4) l := by
  refine (View.read_writes_junk_apply_eq_canon _ _ _).trans ?_
  rw [list7B]
  exact (congrFun (View.canon_unit_zero (Val := Elt Ideal) (e := .bf16) (S := S512x1024) (by funext a; fin_cases a <;> rfl) inb_S512x1024_S512x1024_0_0 (DT x0 x1 x2 x4)) _).trans (DT_at x0 x1 x2 x4 r l)

theorem out8B (hc0 : ¬cond0_0 i) (l : Fin 1024) : out0_B_8 c i arg1 harg1 arg2 harg2 arg3 harg3 arg4 harg4 arg5 harg5 arg6 harg6 arg7 harg7 arg8 harg8 arg9 harg9 hc0 x0 x1 x2 x3 x4 xo8 (ix2 0 l) = xo8 (ix2 0 l) + ∑ r : Fin 512, dgain (row x0 r) (row x1 r) (row x2 r) l := by
  refine (View.read_writes_junk_apply_eq_canon _ _ _).trans ?_
  rw [list8B]
  rw [oneS, pay11_at, pay9_at, pay10_at]

end Cert.PleBwd
-- ==== Proof.PleFwdRef.lean ====
module

public import proofs.«01_k».proof.Proof.Gen.Reference11Ideal.Run
public import proofs.«01_k».proof.Proof.PleMath

@[expose] public section

set_option maxRecDepth 16384

noncomputable section

namespace Cert.PleFwdRef

open Cert.Ffn Cert.Ple Cert.Reference11Ideal Cert.Reference11Ideal.Gen Cert.Reference11Ideal.Value Idealize.ShloMosaic Idealize.ShloMosaic.TcCoe Idealize.SL.Sem

/-- The norm of the rows. -/
def norm (h : Vec Ideal S4096x1024 .f32) (g : Vec Ideal S1024 .f32) : Vec Ideal S4096x1024 .f32 :=
  mulf (F := Ideal) (mulf (F := Ideal) h (broadcastInDim S4096x1024 ![0, 1] bcast_S4096x1_S4096x1024_0_1 (Host.rsqrt (addf (Host.divf (broadcastInDim S4096x1 ![0] bcast_S4096_S4096x1_0 (Host.reduceAdd (F := Ideal) (mulf (F := Ideal) h h) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 g))

theorem norm_at (h : Vec Ideal S4096x1024 .f32) (g : Vec Ideal S1024 .f32) (r : Fin 4096) (l : Fin 1024) :
    norm h g (ix2 r l) = rms (fun l => h (ix2 r l)) (fun l => g (ix1 l)) l := by
  pointwise [norm, rms]

/-- The gated embedding. -/
def gated (e t : Vec Ideal S4096x1024 .f32) : Vec Ideal S4096x1024 .f32 :=
  mulf (F := Ideal) e (Host.divf (broadcastInDim S4096x1024 ![] bcast_S_S4096x1024 (constant S_ .f32 0x3F800000#32)) (addf (broadcastInDim S4096x1024 ![] bcast_S_S4096x1024 (constant S_ .f32 0x3F800000#32)) (Host.exp (Host.negf (F := Ideal) t))))

theorem gated_at (e t : Vec Ideal S4096x1024 .f32) (r : Fin 4096) (l : Fin 1024) :
    gated e t (ix2 r l) = gat (fun l => e (ix2 r l)) (fun l => t (ix2 r l)) l := by
  pointwise [gated, gat, Ideal.logistic]

/-- The embedding's product and the gate's. -/
def up (p : Vec Ideal S4096x256 .f32) (w : Vec Ideal S256x1024 .f32) : Vec Ideal S4096x1024 .f32 :=
  Host.dotGeneral (F := Ideal) (φ₁ := .f32) (φ₂ := .f32) dot_S4096x256_S256x1024_S4096x1024_1_0_0_1_n_n none p w

theorem up_at (p : Vec Ideal S4096x256 .f32) (w : Vec Ideal S256x1024 .f32) (r : Fin 4096) (l : Fin 1024) :
    up p w (ix2 r l) = emb (fun k => p (ix2 r k)) (fun k l => w (ix2 k l)) l := by
  pointwise [up, emb]

def gt (h : Vec Ideal S4096x1024 .f32) (w : Vec Ideal S1024x1024 .f32) : Vec Ideal S4096x1024 .f32 :=
  Host.dotGeneral (F := Ideal) (φ₁ := .f32) (φ₂ := .f32) dot_S4096x1024_S1024x1024_S4096x1024_1_0_0_1_n_n none h w

theorem gt_at (h : Vec Ideal S4096x1024 .f32) (w : Vec Ideal S1024x1024 .f32) (r : Fin 4096) (l : Fin 1024) :
    gt h w (ix2 r l) = gte (fun k => h (ix2 r k)) (fun k l => w (ix2 k l)) l := by
  pointwise [gt, gte]

variable (m : (ℓ : Loc nD τ sig) → Buf (Elt Ideal) ℓ) (c : Dev nD)

abbrev a0 : Vec Ideal S4096x1024 .f32 := m ((c.tc : Thread nD τ).loc main_arg0)
abbrev a1 : Vec Ideal S4096x256 .f32 := m ((c.tc : Thread nD τ).loc main_arg1)
abbrev a2 : Vec Ideal S256x1024 .f32 := m ((c.tc : Thread nD τ).loc main_arg2)
abbrev a3 : Vec Ideal S1024x1024 .f32 := m ((c.tc : Thread nD τ).loc main_arg3)
abbrev a4 : Vec Ideal S1024 .f32 := m ((c.tc : Thread nD τ).loc main_arg4)

def es : Vec Ideal S4096x1024 .f32 := up (a1 m c) (a2 m c)
def ts : Vec Ideal S4096x1024 .f32 := gt (a0 m c) (a3 m c)
def hs : Vec Ideal S4096x1024 .f32 := addf (F := Ideal) (φ := .f32) (a0 m c) (norm (gated (es m c) (ts m c)) (a4 m c))

theorem run' (ρ : Dev nD → PrngReg) :
    θ_run defs (onTc (τ := τ) (main (F := Ideal))) ⟨m, fun _ => 0, ρ⟩ fun r => ∀ c : Dev nD,
      r.2.mem ((c.tc : Thread nD τ).loc main_v22) = hs m c
      ∧ r.2.mem ((c.tc : Thread nD τ).loc main_v0) = es m c
      ∧ r.2.mem ((c.tc : Thread nD τ).loc main_v1) = ts m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1, (h c).2.1, (h c).2.2.1, (h c).2.2.2⟩) (Value.run m ρ)

/-- The arguments as functions of row and column. -/
abbrev hv (r : Fin 4096) (l : Fin 1024) : EReal := a0 m c (ix2 r l)
abbrev pv (r : Fin 4096) (k : Fin 256) : EReal := a1 m c (ix2 r k)
abbrev wu (k : Fin 256) (l : Fin 1024) : EReal := a2 m c (ix2 k l)
abbrev wg (k l : Fin 1024) : EReal := a3 m c (ix2 k l)
abbrev gn (l : Fin 1024) : EReal := a4 m c (ix1 l)

theorem es_at (r : Fin 4096) (l : Fin 1024) : es m c (ix2 r l) = emb (pv m c r) (wu m c) l := up_at _ _ r l
theorem ts_at (r : Fin 4096) (l : Fin 1024) : ts m c (ix2 r l) = gte (hv m c r) (wg m c) l := gt_at _ _ r l

theorem hs_at (r : Fin 4096) (l : Fin 1024) :
    hs m c (ix2 r l) = fwd (hv m c r) (emb (pv m c r) (wu m c)) (gte (hv m c r) (wg m c)) (gn m c) l := by
  have e : hs m c (ix2 r l) = hv m c r l + norm (gated (es m c) (ts m c)) (a4 m c) (ix2 r l) := by pointwise [hs]
  rw [e, norm_at]
  simp only [gated_at, es_at, ts_at]
  rfl

end Cert.PleFwdRef
-- ==== Proof.PleBwdArr.lean ====
/- The arrays that the layer embedding's backward kernel leaves. -/
module

public import proofs.«01_k».proof.Proof.PleBwdBlock
public import proofs.«01_k».proof.Proof.PleFwdRef
public import Idealize.ShloMosaic.Lib.Pipeline.ValueKit

@[expose] public section

set_option maxRecDepth 16384

noncomputable section

namespace Cert.PleBwd

open Cert.Ffn Cert.Ple Idealize.ShloMosaic

/-- The arguments as functions of row and column. -/
structure Args where
  d : Fin 4096 → Fin 1024 → EReal
  h : Fin 4096 → Fin 1024 → EReal
  p : Fin 4096 → Fin 256 → EReal
  wu : Fin 256 → Fin 1024 → EReal
  wg : Fin 1024 → Fin 1024 → EReal
  g : Fin 1024 → EReal

namespace Args
variable (A : Args) (r : Fin 4096)

/-- The embedding's row and the gate's. -/
def e : Fin 1024 → EReal := emb (A.p r) A.wu
def t : Fin 1024 → EReal := gte (A.h r) A.wg
/-- The cotangents. -/
def dh : Fin 1024 → EReal := drow (A.d r) (A.e r) (A.t r) A.g A.wg
def de : Fin 1024 → EReal := demb (A.d r) (A.e r) (A.t r) A.g
def dt : Fin 1024 → EReal := dgte (A.d r) (A.e r) (A.t r) A.g
def dg : Fin 1024 → EReal := dgain (A.d r) (A.e r) (A.t r)
end Args

/-- Row `r` of the block of grid point `s`. -/
def rown (s : ℕ) (r : Fin 512) : Fin 4096 := ⟨(s * 512 + r.val) % 4096, Nat.mod_lt _ (by norm_num)⟩

theorem rown_val {s : ℕ} (h : s < 8) (r : Fin 512) : (rown s r).val = s * 512 + r.val :=
  Nat.mod_eq_of_lt (by omega)

theorem sum_rown (g : Fin 4096 → EReal) : ∑ R, g R = ∑ s ∈ Finset.range 8, ∑ r, g (rown s r) := by
  refine (Fin.sum_univ_tiles 8 512 rfl g).trans ?_
  rw [Finset.sum_range]
  refine Finset.sum_congr rfl fun s _ => Finset.sum_congr rfl fun r _ => congrArg g (Fin.ext ?_)
  exact (rown_val s.isLt r).symm

open Cert.Kernel10Ideal Cert.Kernel10Ideal.Gen Idealize.ShloMosaic.TcCoe Idealize.SL.Sem
open Idealize.ShloMosaic.Pipeline (Dat)

variable (m : (ℓ : Loc nD τ sig) → Buf (Elt Ideal) ℓ) (c : Dev nD)

abbrev k0 : Vec Ideal S4096x1024 .f32 := m ((c : Thread nD τ).loc main_arg0)
abbrev k1 : Vec Ideal S4096x1024 .f32 := m ((c : Thread nD τ).loc main_arg1)
abbrev k2 : Vec Ideal S4096x256 .f32 := m ((c : Thread nD τ).loc main_arg2)
abbrev k3 : Vec Ideal S256x1024 .f32 := m ((c : Thread nD τ).loc main_arg3)
abbrev k4 : Vec Ideal S1024x1024 .f32 := m ((c : Thread nD τ).loc main_arg4)
abbrev k5 : Vec Ideal S1024 .f32 := m ((c : Thread nD τ).loc main_arg5)

/-- The kernel's arguments. -/
def K : Args where
  d r l := k0 m c (ix2 r l)
  h r l := k1 m c (ix2 r l)
  p r k := k2 m c (ix2 r k)
  wu k l := k3 m c (ix2 k l)
  wg k l := k4 m c (ix2 k l)
  g l := k5 m c (ix1 l)

theorem V_v0 (r : Fin 4096) (l : Fin 1024) : V m c main_v0 (ix2 r l) = (K m c).e r l := by
  have e : V m c main_v0 = PleFwdRef.up (k2 m c) (k3 m c) := by
    unfold V
    simp only [hostOps0]
    after_results_simp
    rfl
  rw [e]
  exact PleFwdRef.up_at _ _ r l

theorem V_v1 (r : Fin 4096) (l : Fin 1024) : V m c main_v1 (ix2 r l) = (K m c).t r l := by
  have e : V m c main_v1 = PleFwdRef.gt (k1 m c) (k4 m c) := by
    unfold V
    simp only [hostOps0]
    after_results_simp
    rfl
  rw [e]
  exact PleFwdRef.gt_at _ _ r l

theorem cast_at (x : Vec Ideal S1024x1024 .f32) (j : Fin 4) (k : Fin 256) (l : Fin 1024) :
    shapeCast S4x1x256x1024 x shapeCasts_S1024x1024_S4x1x256x1024 (ix4 j 0 k l) = x (ix2 (wide j k) l) := by
  pointwise [wide]

theorem V_v3 (j : Fin 4) (k : Fin 256) (l : Fin 1024) : V m c main_v3 (ix4 j 0 k l) = (K m c).wg (wide j k) l := by
  have e : V m c main_v3 = truncf (F := Ideal) .bf16 (shapeCast S4x1x256x1024 (m ((c : Thread nD τ).loc main_arg4)) shapeCasts_S1024x1024_S4x1x256x1024) bitsLt_bf16_f32 := by
    unfold V
    simp only [hostOps0]
    after_results_simp
    rfl
  rw [e]
  exact cast_at (m ((c : Thread nD τ).loc main_arg4)) j k l

theorem V_v4 (l : Fin 1024) : V m c main_v4 (ix3 0 0 l) = (K m c).g l := by
  have e : V m c main_v4 = shapeCast S1x1x1024 (m ((c : Thread nD τ).loc main_arg5)) shapeCasts_S1024_S1x1x1024 := by
    unfold V
    simp only [hostOps0]
    after_results_simp
    rfl
  rw [e]
  pointwise [K]

theorem rown_at (t : Fin cfg0.N) (r : Fin 512) : (rown t.val r).val = t.val * 512 + r.val := rown_val (show t.val < 8 from t.isLt) r

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![0, 0, 0, 0] := by decide +kernel
theorem idx4 : ∀ t : Fin cfg0.N, win0_4.index t = ![0, 0, 0] := by decide +kernel
theorem idx5 : ∀ t : Fin cfg0.N, win0_5.index t = ![t.val, 0] := by decide +kernel
theorem idx6 : ∀ t : Fin cfg0.N, win0_6.index t = ![0, t.val, 0] := by decide +kernel
theorem idx7 : ∀ t : Fin cfg0.N, win0_7.index t = ![t.val, 0] := by decide +kernel
theorem idx8 : ∀ t : Fin cfg0.N, win0_8.index t = ![0, 0] := by decide +kernel

theorem iblk0_at (t : Fin cfg0.N) (r : Fin 512) (l : Fin 1024) : iblk m c 0 t (ix2 r l) = (K m c).d (rown t.val r) l := by
  blk_simp [iblk]
  refine (congrFun (V_main_arg0 m c) _).trans (congrArg (m ((c : Thread nD τ).loc main_arg0)) ?_)
  funext a
  fin_cases a <;> apply Fin.ext
  · refine Eq.trans ?_ (rown_at t r).symm
    blk_simp [idx0]; rfl
  · blk_simp [idx0]; rfl

theorem iblk1_at (t : Fin cfg0.N) (r : Fin 512) (l : Fin 1024) : iblk m c 1 t (ix2 r l) = (K m c).e (rown t.val r) l := by
  blk_simp [iblk]
  refine Eq.trans (congrArg (V m c main_v0) ?_) (V_v0 m c (rown t.val r) l)
  funext a
  fin_cases a <;> apply Fin.ext
  · refine Eq.trans ?_ (rown_at t r).symm
    blk_simp [idx1]; rfl
  · blk_simp [idx1]; rfl

theorem iblk2_at (t : Fin cfg0.N) (r : Fin 512) (l : Fin 1024) : iblk m c 2 t (ix2 r l) = (K m c).t (rown t.val r) l := by
  blk_simp [iblk]
  refine Eq.trans (congrArg (V m c main_v1) ?_) (V_v1 m c (rown t.val r) l)
  funext a
  fin_cases a <;> apply Fin.ext
  · refine Eq.trans ?_ (rown_at t r).symm
    blk_simp [idx2]; rfl
  · blk_simp [idx2]; rfl

theorem iblk3_at (t : Fin cfg0.N) (j : Fin 4) (k : Fin 256) (l : Fin 1024) : iblk m c 3 t (ix4 j 0 k l) = (K m c).wg (wide j k) l := by
  blk_simp [iblk]
  refine Eq.trans (congrArg (V m c main_v3) ?_) (V_v3 m c j k l)
  funext a
  fin_cases a <;> apply Fin.ext <;> blk_simp [idx3]

theorem iblk4_at (t : Fin cfg0.N) (l : Fin 1024) : iblk m c 4 t (ix3 0 0 l) = (K m c).g l := by
  blk_simp [iblk]
  refine Eq.trans (congrArg (V m c main_v4) ?_) (V_v4 m c l)
  funext a
  fin_cases a <;> apply Fin.ext <;> blk_simp [idx4]

section
variable (t : Fin cfg0.N) (r : Fin 512)
theorem row0 : row (iblk m c 0 t) r = (K m c).d (rown t.val r) := funext fun l => iblk0_at m c t r l
theorem row1 : row (iblk m c 1 t) r = (K m c).e (rown t.val r) := funext fun l => iblk1_at m c t r l
theorem row2 : row (iblk m c 2 t) r = (K m c).t (rown t.val r) := funext fun l => iblk2_at m c t r l
theorem gn4 : gn (iblk m c 4 t) = (K m c).g := funext fun l => iblk4_at m c t l
theorem wt3 : wt (iblk m c 3 t) = (K m c).wg := by
  funext n l
  obtain ⟨j, q, rfl⟩ := exists_wide n
  rw [wt_wide, iblk3_at]

theorem dg_at (l : Fin 1024) :
    ∑ r : Fin 512, dgain (row (iblk m c 0 t) r) (row (iblk m c 1 t) r) (row (iblk m c 2 t) r) l = ∑ r, (K m c).dg (rown t.val r) l := by
  refine Finset.sum_congr rfl fun r _ => ?_
  rw [row0, row1, row2]
  rfl
end

theorem blk5 (t : Fin cfg0.N) (r : Fin 512) (l : Fin 1024) : (outsAt0 m c t.val t.isLt).1 (ix2 r l) = (K m c).dh (rown t.val r) l := by
  by_cases h0 : t.val % 8 = 0
  · rw [outsAt0_A m c t h0]
    dsimp only
    rw [out5A, row0, row1, row2, gn4, wt3]
    rfl
  · rw [outsAt0_B m c t h0]
    dsimp only
    rw [out5B, row0, row1, row2, gn4, wt3]
    rfl

theorem blk6 (t : Fin cfg0.N) (j : Fin 4) (r : Fin 512) (q : Fin 256) : (outsAt0 m c t.val t.isLt).2.1 (ix3 j r q) = (K m c).de (rown t.val r) (wide j q) := by
  by_cases h0 : t.val % 8 = 0
  · rw [outsAt0_A m c t h0]
    dsimp only
    rw [out6A, row0, row1, row2, gn4]
    rfl
  · rw [outsAt0_B m c t h0]
    dsimp only
    rw [out6B, row0, row1, row2, gn4]
    rfl

theorem blk7 (t : Fin cfg0.N) (r : Fin 512) (l : Fin 1024) : (outsAt0 m c t.val t.isLt).2.2.1 (ix2 r l) = (K m c).dt (rown t.val r) l := by
  by_cases h0 : t.val % 8 = 0
  · rw [outsAt0_A m c t h0]
    dsimp only
    rw [out7A, row0, row1, row2, gn4]
    rfl
  · rw [outsAt0_B m c t h0]
    dsimp only
    rw [out7B, row0, row1, row2, gn4]
    rfl

theorem step8A (t : Fin cfg0.N) (h0 : t.val % 8 = 0) (l : Fin 1024) :
    (outsAt0 m c t.val t.isLt).2.2.2 (ix2 0 l) = 0 + ∑ r, (K m c).dg (rown t.val r) l := by
  rw [outsAt0_A m c t h0]
  dsimp only
  rw [out8A, dg_at]

theorem step8B (t : Fin cfg0.N) (h0 : ¬t.val % 8 = 0) (l : Fin 1024) :
    (outsAt0 m c t.val t.isLt).2.2.2 (ix2 0 l) = (outsAt0 m c (t.val - 1) (Nat.lt_of_le_of_lt (Nat.sub_le _ _) t.isLt)).2.2.2 (ix2 0 l) + ∑ r, (K m c).dg (rown t.val r) l := by
  rw [outsAt0_B m c t h0]
  dsimp only
  rw [out8B, dg_at]

attribute [local irreducible] outsAt0

theorem sum8 (l : Fin 1024) : ∀ (n : ℕ) (h : n < cfg0.N), (outsAt0 m c n h).2.2.2 (ix2 0 l) = ∑ s ∈ Finset.range (n + 1), ∑ r, (K m c).dg (rown s r) l
  | 0, h => by
    refine (step8A m c ⟨0, h⟩ rfl l).trans ?_
    rw [Finset.sum_range_succ, Finset.sum_range_zero]
  | n + 1, h => by
    have h' : n + 1 < 8 := h
    rw [Finset.sum_range_succ, ← sum8 l n (Nat.lt_of_succ_lt h)]
    exact step8B m c ⟨n + 1, h⟩ (show ¬(n + 1) % 8 = 0 by omega) l

theorem blk8 (t : Fin cfg0.N) (h : t.val = 7) (l : Fin 1024) : (outsAt0 m c t.val t.isLt).2.2.2 (ix2 0 l) = ∑ R, (K m c).dg R l := by
  rw [sum8 m c l t.val t.isLt, h, sum_rown]

theorem emb5 (t : Fin cfg0.N) (r : Fin 512) (l : Fin 1024) : (win0_5.blk t).view.emb (ix2 r l) = ix2 (n0 := 4096) (n1 := 1024) (rown t.val r) l := by
  funext a
  fin_cases a <;> apply Fin.ext
  · refine Eq.trans ?_ (rown_at t r).symm
    blk_simp [idx5]; rfl
  · blk_simp [idx5]; rfl

theorem emb6 (t : Fin cfg0.N) (j : Fin 4) (r : Fin 512) (q : Fin 256) : (win0_6.blk t).view.emb (ix3 j r q) = ix3 (n0 := 4) (n1 := 4096) (n2 := 256) j (rown t.val r) q := by
  funext a
  fin_cases a <;> apply Fin.ext
  · blk_simp [idx6]; rfl
  · refine Eq.trans ?_ (rown_at t r).symm
    blk_simp [idx6]; rfl
  · blk_simp [idx6]; rfl

theorem emb7 (t : Fin cfg0.N) (r : Fin 512) (l : Fin 1024) : (win0_7.blk t).view.emb (ix2 r l) = ix2 (n0 := 4096) (n1 := 1024) (rown t.val r) l := by
  funext a
  fin_cases a <;> apply Fin.ext
  · refine Eq.trans ?_ (rown_at t r).symm
    blk_simp [idx7]; rfl
  · blk_simp [idx7]; rfl

theorem emb8 (t : Fin cfg0.N) (l : Fin 1024) : (win0_8.blk t).view.emb (ix2 (n0 := 1) 0 l) = ix2 (n0 := 1) (n1 := 1024) 0 l := by
  funext a
  fin_cases a <;> apply Fin.ext <;> blk_simp [idx8]

theorem arr5 : (dats m 0 c).arrAt 5 cfg0.N = fun i : S4096x1024.Idx => (K m c).dh (i 0) (i 1) := by
  refine (dats m 0 c).arrAt_eq_of_covers 5 _ (by decide +kernel) fun t hf y => ?_
  blk_simp
  rw [after0_5]
  obtain ⟨r, l, rfl⟩ : ∃ (r : Fin 512) (l : Fin 1024), y = ix2 r l := ⟨_, _, eq_ix2 y⟩
  exact (blk5 m c t r l).trans (congrArg (fun i : S4096x1024.Idx => (K m c).dh (i 0) (i 1)) (emb5 t r l)).symm

theorem arr6 : (dats m 0 c).arrAt 6 cfg0.N = fun i : S4x4096x256.Idx => (K m c).de (i 1) (wide (i 0) (i 2)) := by
  refine (dats m 0 c).arrAt_eq_of_covers 6 _ (by decide +kernel) fun t hf y => ?_
  blk_simp
  rw [after0_6]
  obtain ⟨j, r, q, rfl⟩ : ∃ (j : Fin 4) (r : Fin 512) (q : Fin 256), y = ix3 j r q := ⟨_, _, _, eq_ix3 y⟩
  exact (blk6 m c t j r q).trans (congrArg (fun i : S4x4096x256.Idx => (K m c).de (i 1) (wide (i 0) (i 2))) (emb6 t j r q)).symm

theorem arr7 : (dats m 0 c).arrAt 7 cfg0.N = fun i : S4096x1024.Idx => (K m c).dt (i 0) (i 1) := by
  refine (dats m 0 c).arrAt_eq_of_covers 7 _ (by decide +kernel) fun t hf y => ?_
  blk_simp
  rw [after0_7]
  obtain ⟨r, l, rfl⟩ : ∃ (r : Fin 512) (l : Fin 1024), y = ix2 r l := ⟨_, _, eq_ix2 y⟩
  exact (blk7 m c t r l).trans (congrArg (fun i : S4096x1024.Idx => (K m c).dt (i 0) (i 1)) (emb7 t r l)).symm

theorem arr8 : (dats m 0 c).arrAt 8 cfg0.N = fun i : S1x1024.Idx => ∑ R, (K m c).dg R (i 1) := by
  refine (dats m 0 c).arrAt_eq_of_covers 8 _ (by decide +kernel) fun t hf y => ?_
  have ht : t.val = 7 := by
    have h4 : t.val < 8 := t.isLt
    have h3 := (flush0_8 t).mp hf
    omega
  blk_simp
  rw [after0_8]
  obtain ⟨u, l, rfl⟩ : ∃ (u : Fin 1) (l : Fin 1024), y = ix2 u l := ⟨_, _, eq_ix2 y⟩
  obtain rfl : u = 0 := Subsingleton.elim _ _
  exact (blk8 m c t ht l).trans (congrArg (fun i : S1x1024.Idx => ∑ R, (K m c).dg R (i 1)) (emb8 t l)).symm

end Cert.PleBwd
-- ==== Proof.PleBwdRef.lean ====
/- The reference of the layer embedding's backward pass, read at an index. -/
module

public import proofs.«01_k».proof.Proof.Gen.Reference10Ideal.Run
public import proofs.«01_k».proof.Proof.PleBwdArr

@[expose] public section

set_option maxRecDepth 16384

noncomputable section

namespace Cert.PleBwdRef

open Cert.Ffn Cert.Ple Cert.PleBwd Cert.Reference10Ideal Cert.Reference10Ideal.Gen Cert.Reference10Ideal.Value Idealize.ShloMosaic Idealize.ShloMosaic.TcCoe Idealize.SL.Sem

/-- A product over an array of zeros. -/
def ov0 (x : Vec Ideal S4096x1024 .f32) : Vec Ideal S4096x1024 .f32 :=
  addf (F := Ideal) (φ := .f32) x (broadcastInDim S4096x1024 ![] bcast_S_S4096x1024 (constant S_ .f32 0x00000000#32))
theorem ov0_at (x : Vec Ideal S4096x1024 .f32) (r : Fin 4096) (l : Fin 1024) : ov0 x (ix2 r l) = x (ix2 r l) := by
  pointwise [ov0]

def up (p : Vec Ideal S4096x256 .f32) (w : Vec Ideal S256x1024 .f32) : Vec Ideal S4096x1024 .f32 :=
  Host.dotGeneral (F := Ideal) (φ₁ := .f32) (φ₂ := .f32) dot_S4096x256_S256x1024_S4096x1024_1_0_0_1_n_n none p w
theorem up_at (p : Vec Ideal S4096x256 .f32) (w : Vec Ideal S256x1024 .f32) (r : Fin 4096) (l : Fin 1024) :
    up p w (ix2 r l) = emb (fun k => p (ix2 r k)) (fun k l => w (ix2 k l)) l := by
  pointwise [up, emb]
def gt (h : Vec Ideal S4096x1024 .f32) (w : Vec Ideal S1024x1024 .f32) : Vec Ideal S4096x1024 .f32 :=
  Host.dotGeneral (F := Ideal) (φ₁ := .f32) (φ₂ := .f32) dot_S4096x1024_S1024x1024_S4096x1024_1_0_0_1_n_n none h w
theorem gt_at (h : Vec Ideal S4096x1024 .f32) (w : Vec Ideal S1024x1024 .f32) (r : Fin 4096) (l : Fin 1024) :
    gt h w (ix2 r l) = gte (fun k => h (ix2 r k)) (fun k l => w (ix2 k l)) l := by
  pointwise [gt, gte]
/-- The product with the gate's weight turned. -/
def gtT (x : Vec Ideal S4096x1024 .f32) (w : Vec Ideal S1024x1024 .f32) : Vec Ideal S4096x1024 .f32 :=
  Host.dotGeneral (F := Ideal) (φ₁ := .f32) (φ₂ := .f32) dot_S4096x1024_S1024x1024_S4096x1024_1_1_0_0_n_n none x w
theorem gtT_at (x : Vec Ideal S4096x1024 .f32) (w : Vec Ideal S1024x1024 .f32) (r : Fin 4096) (l : Fin 1024) :
    gtT x w (ix2 r l) = ∑ k, x (ix2 r k) * w (ix2 l k) := by
  pointwise [gtT]

/-- The logistic function. -/
def lgv (a : Vec Ideal S4096x1024 .f32) : Vec Ideal S4096x1024 .f32 :=
  Host.divf (F := Ideal) (broadcastInDim S4096x1024 ![] bcast_S_S4096x1024 (constant S_ .f32 0x3F800000#32)) (addf (F := Ideal) (φ := .f32) (broadcastInDim S4096x1024 ![] bcast_S_S4096x1024 (constant S_ .f32 0x3F800000#32)) (Host.exp (Host.negf (F := Ideal) a)))
theorem lgv_at (a : Vec Ideal S4096x1024 .f32) (r : Fin 4096) (l : Fin 1024) : lgv a (ix2 r l) = Ideal.logistic (a (ix2 r l)) := by
  pointwise [lgv, Ideal.logistic]
/-- Its derivative. -/
def lgd (s : Vec Ideal S4096x1024 .f32) : Vec Ideal S4096x1024 .f32 :=
  mulf (F := Ideal) (φ := .f32) s (subf (F := Ideal) (φ := .f32) (broadcastInDim S4096x1024 ![] bcast_S_S4096x1024 (constant S_ .f32 0x3F800000#32)) s)
theorem lgd_at (s : Vec Ideal S4096x1024 .f32) (r : Fin 4096) (l : Fin 1024) : lgd s (ix2 r l) = s (ix2 r l) * (Ideal.ofBits FTy.f32 0x3F800000#32 - s (ix2 r l)) := by
  pointwise [lgd]

/-- The mean squares of the rows. -/
def msv (h : Vec Ideal S4096x1024 .f32) : Vec Ideal S4096x1 .f32 :=
  addf (F := Ideal) (φ := .f32) (Host.divf (broadcastInDim S4096x1 ![0] bcast_S4096_S4096x1_0 (Host.reduceAdd (F := Ideal) (mulf (F := Ideal) (φ := .f32) h h) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))
theorem msv_at (h : Vec Ideal S4096x1024 .f32) (r : Fin 4096) : msv h (ix2 r 0) = ms fun l => h (ix2 r l) := by
  pointwise [msv]
  rfl

def inv1 (v : Vec Ideal S4096x1 .f32) : Vec Ideal S4096x1 .f32 := Host.rsqrt (F := Ideal) (φ := .f32) v
theorem inv1_at (h : Vec Ideal S4096x1024 .f32) (r : Fin 4096) : inv1 (msv h) (ix2 r 0) = Cert.Ffn.inv fun l => h (ix2 r l) := by
  have e (v : Vec Ideal S4096x1 .f32) : inv1 v (ix2 r 0) = Ideal.rsqrt (v (ix2 r 0)) := by pointwise [inv1]
  rw [e, msv_at]
  rfl

/-- The rows times a number for each row. -/
def scr (h : Vec Ideal S4096x1024 .f32) (v : Vec Ideal S4096x1 .f32) : Vec Ideal S4096x1024 .f32 :=
  mulf (F := Ideal) (φ := .f32) h (broadcastInDim S4096x1024 ![0, 1] bcast_S4096x1_S4096x1024_0_1 v)
theorem scr_at (h : Vec Ideal S4096x1024 .f32) (v : Vec Ideal S4096x1 .f32) (r : Fin 4096) (l : Fin 1024) : scr h v (ix2 r l) = h (ix2 r l) * v (ix2 r 0) := by
  pointwise [scr]

/-- The rows times a gain. -/
def scg (h : Vec Ideal S4096x1024 .f32) (g : Vec Ideal S1024 .f32) : Vec Ideal S4096x1024 .f32 :=
  mulf (F := Ideal) (φ := .f32) h (broadcastInDim S4096x1024 ![0, 1] bcast_S1x1024_S4096x1024_0_1 (broadcastInDim S1x1024 ![1] bcast_S1024_S1x1024_1 g))
theorem scg_at (h : Vec Ideal S4096x1024 .f32) (g : Vec Ideal S1024 .f32) (r : Fin 4096) (l : Fin 1024) : scg h g (ix2 r l) = h (ix2 r l) * g (ix1 l) := by
  pointwise [scg]

/-- What of a row's cotangent passes through its mean square. -/
def thr (x gd : Vec Ideal S4096x1024 .f32) (u v : Vec Ideal S4096x1 .f32) : Vec Ideal S4096x1024 .f32 :=
  broadcastInDim S4096x1024 ![0] bcast_S4096_S4096x1024_0 (Host.reduceAdd (F := Ideal) (Host.divf (mulf (F := Ideal) (φ := .f32) (shapeCast _ (Host.reduceAdd (F := Ideal) (mulf (F := Ideal) (φ := .f32) x gd) (constant S_ .f32 0x00000000#32) reducesTo_S4096x1024_S4096_d1 h_S_) shapeCasts_S4096_S4096x1) (mulf (F := Ideal) (φ := .f32) (broadcastInDim S4096x1 ![] bcast_S_S4096x1 (constant S_ .f32 0xBF000000#32)) (Host.divf u v))) (broadcastInDim S4096x1 ![] bcast_S_S4096x1 (constant S_ .f32 0x44800000#32))) (constant S_ .f32 0x00000000#32) reducesTo_S4096x1_S4096_d1 h_S_)
theorem thr_at (x gd : Vec Ideal S4096x1024 .f32) (u v : Vec Ideal S4096x1 .f32) (r : Fin 4096) (l : Fin 1024) :
    thr x gd u v (ix2 r l) = Ideal.div ((∑ k, x (ix2 r k) * gd (ix2 r k)) * (Ideal.ofBits FTy.f32 0xBF000000#32 * Ideal.div (u (ix2 r 0)) (v (ix2 r 0)))) (Ideal.ofBits FTy.f32 0x44800000#32) := by
  pointwise [thr]
  exact Fin.sum_univ_one _
theorem thr_ms (x gd : Vec Ideal S4096x1024 .f32) (r : Fin 4096) (l : Fin 1024) :
    thr x gd (inv1 (msv x)) (msv x) (ix2 r l) = through (fun k => x (ix2 r k)) fun k => gd (ix2 r k) := by
  rw [thr_at, inv1_at, msv_at]
  rfl

/-- The output's cotangent, reshaped to its own shape. -/
def same (d : Vec Ideal S4096x1024 .f32) : Vec Ideal S4096x1024 .f32 := shapeCast S4096x1024 d shapeCasts_S4096x1024_S4096x1024
theorem same_at (d : Vec Ideal S4096x1024 .f32) (r : Fin 4096) (l : Fin 1024) : same d (ix2 r l) = d (ix2 r l) := by
  pointwise [same]

/-- The sum of the rows, as one row. -/
def colsum (x : Vec Ideal S4096x1024 .f32) : Vec Ideal S1x1024 .f32 :=
  shapeCast S1x1024 (Host.reduceAdd (F := Ideal) (shapeCast S1x1024 (Host.reduceAdd (F := Ideal) x (constant S_ .f32 0x00000000#32) reducesTo_S4096x1024_S1024_d0 h_S_) shapeCasts_S1024_S1x1024) (constant S_ .f32 0x00000000#32) reducesTo_S1x1024_S1024_d0 h_S_) shapeCasts_S1024_S1x1024
theorem colsum_at (x : Vec Ideal S4096x1024 .f32) (l : Fin 1024) : colsum x (ix2 0 l) = ∑ r, x (ix2 r l) := by
  pointwise [colsum]
  exact Fin.sum_univ_one _

def shards (a : Vec Ideal S4096x1024 .f32) : Vec Ideal S4x4096x256 .bf16 :=
  truncf (F := Ideal) .bf16 (transpose S4x4096x256 [1, 0, 2] (shapeCast S4096x4x256 a shapeCasts_S4096x1024_S4096x4x256) transposes_S4096x4x256_S4x4096x256_1_0_2) bitsLt_bf16_f32
theorem shards_at (a : Vec Ideal S4096x1024 .f32) (j : Fin 4) (r : Fin 4096) (q : Fin 256) : shards a (ix3 j r q) = a (ix2 r (wide j q)) := by
  pointwise [shards, wide]

variable (m : (ℓ : Loc nD τ sig) → Buf (Elt Ideal) ℓ) (c : Dev nD)

abbrev a0 : Vec Ideal S4096x1024 .f32 := m ((c.tc : Thread nD τ).loc main_arg0)
abbrev a1 : Vec Ideal S4096x1024 .f32 := m ((c.tc : Thread nD τ).loc main_arg1)
abbrev a2 : Vec Ideal S4096x256 .f32 := m ((c.tc : Thread nD τ).loc main_arg2)
abbrev a3 : Vec Ideal S256x1024 .f32 := m ((c.tc : Thread nD τ).loc main_arg3)
abbrev a4 : Vec Ideal S1024x1024 .f32 := m ((c.tc : Thread nD τ).loc main_arg4)
abbrev a5 : Vec Ideal S1024 .f32 := m ((c.tc : Thread nD τ).loc main_arg5)

/-- The reference's arguments. -/
def R : Args where
  d r l := a0 m c (ix2 r l)
  h r l := a1 m c (ix2 r l)
  p r k := a2 m c (ix2 r k)
  wu k l := a3 m c (ix2 k l)
  wg k l := a4 m c (ix2 k l)
  g l := a5 m c (ix1 l)

/-- The reference's arrays, from its arguments to its results. -/
def es : Vec Ideal S4096x1024 .f32 := ov0 (up (a2 m c) (a3 m c))
def ss : Vec Ideal S4096x1024 .f32 := lgv (ov0 (gt (a1 m c) (a4 m c)))
def xs : Vec Ideal S4096x1024 .f32 := mulf (F := Ideal) (φ := .f32) (es m c) (ss m c)
def gd : Vec Ideal S4096x1024 .f32 := scg (same (a0 m c)) (a5 m c)
def th : Vec Ideal S4096x1024 .f32 := thr (xs m c) (gd m c) (inv1 (msv (xs m c))) (msv (xs m c))
def dx : Vec Ideal S4096x1024 .f32 :=
  addf (F := Ideal) (φ := .f32) (addf (F := Ideal) (φ := .f32) (scr (gd m c) (inv1 (msv (xs m c)))) (mulf (F := Ideal) (φ := .f32) (xs m c) (th m c))) (mulf (F := Ideal) (φ := .f32) (th m c) (xs m c))
def des : Vec Ideal S4096x1024 .f32 := mulf (F := Ideal) (φ := .f32) (dx m c) (ss m c)
def dts : Vec Ideal S4096x1024 .f32 := mulf (F := Ideal) (φ := .f32) (mulf (F := Ideal) (φ := .f32) (es m c) (dx m c)) (lgd (ss m c))
def dhs : Vec Ideal S4096x1024 .f32 := addf (F := Ideal) (φ := .f32) (a0 m c) (gtT (dts m c) (a4 m c))
def dgs : Vec Ideal S1x1024 .f32 := colsum (mulf (F := Ideal) (φ := .f32) (scr (xs m c) (inv1 (msv (xs m c)))) (same (a0 m c)))

theorem res57 : res_main_v57 (F := Ideal) m c = dhs m c := rfl
theorem res60 : res_main_v60 (F := Ideal) m c = shards (des m c) := rfl
theorem res61 : res_main_v61 (F := Ideal) m c = truncf (F := Ideal) .bf16 (dts m c) bitsLt_bf16_f32 := rfl

theorem run' (ρ : Dev nD → PrngReg) :
    θ_run defs (onTc (τ := τ) (main (F := Ideal))) ⟨m, fun _ => 0, ρ⟩ fun r => ∀ c : Dev nD,
      r.2.mem ((c.tc : Thread nD τ).loc main_v57) = dhs m c
      ∧ r.2.mem ((c.tc : Thread nD τ).loc main_v60) = shards (des m c)
      ∧ r.2.mem ((c.tc : Thread nD τ).loc main_v61) = truncf (F := Ideal) .bf16 (dts m c) bitsLt_bf16_f32
      ∧ r.2.mem ((c.tc : Thread nD τ).loc main_v62) = dgs m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun _ h c => ?_) (Value.run m ρ)
  obtain ⟨h0, h1, h2, h3, hr⟩ := h c
  rw [res57] at h0
  rw [res60] at h1
  rw [res61] at h2
  exact ⟨h0, h1, h2, h3, hr⟩

section
variable (r : Fin 4096) (l : Fin 1024)

theorem mul_at (x y : Vec Ideal S4096x1024 .f32) : mulf (F := Ideal) (φ := .f32) x y (ix2 r l) = x (ix2 r l) * y (ix2 r l) := rfl
theorem add_at (x y : Vec Ideal S4096x1024 .f32) : addf (F := Ideal) (φ := .f32) x y (ix2 r l) = x (ix2 r l) + y (ix2 r l) := rfl

theorem es_at : es m c (ix2 r l) = (R m c).e r l := (ov0_at _ r l).trans (up_at _ _ r l)
theorem ss_at : ss m c (ix2 r l) = Ideal.logistic ((R m c).t r l) := by
  unfold ss
  rw [lgv_at, ov0_at, gt_at]
  rfl
theorem xs_at : xs m c (ix2 r l) = gat ((R m c).e r) ((R m c).t r) l := by
  unfold xs
  rw [mul_at, es_at, ss_at]
  rfl
theorem gd_at : gd m c (ix2 r l) = (R m c).d r l * (R m c).g l := by
  unfold gd
  rw [scg_at, same_at]
  rfl
theorem th_at : th m c (ix2 r l) = through (gat ((R m c).e r) ((R m c).t r)) (fun k => (R m c).d r k * (R m c).g k) := by
  unfold th
  rw [thr_ms]
  simp only [xs_at, gd_at]
theorem dx_at : dx m c (ix2 r l) = dgat ((R m c).d r) ((R m c).e r) ((R m c).t r) (R m c).g l := by
  unfold dx
  rw [add_at, add_at, mul_at, mul_at, scr_at, inv1_at, th_at, gd_at]
  simp only [xs_at]
  exact rmsb_ref ((R m c).d r) (gat ((R m c).e r) ((R m c).t r)) (R m c).g l
theorem des_at : des m c (ix2 r l) = (R m c).de r l := by
  unfold des
  rw [mul_at, dx_at, ss_at]
  rfl
theorem dts_at : dts m c (ix2 r l) = (R m c).dt r l := by
  unfold dts
  rw [mul_at, mul_at, lgd_at, es_at, dx_at, ss_at]
  exact dgte_ref ((R m c).d r) ((R m c).e r) ((R m c).t r) (R m c).g l
theorem dhs_at : dhs m c (ix2 r l) = (R m c).dh r l := by
  unfold dhs
  rw [add_at, gtT_at]
  simp only [dts_at]
  rfl
theorem dgs_at : dgs m c (ix2 0 l) = ∑ r, (R m c).dg r l := by
  unfold dgs
  rw [colsum_at]
  refine Finset.sum_congr rfl fun r _ => ?_
  rw [mul_at, scr_at, inv1_at, same_at, mul_comm]
  simp only [xs_at]
  rfl
end

end Cert.PleBwdRef
-- ==== Proof.PleBwd.lean ====
/- The layer embedding's backward pass: the kernel's four arrays are the reference's. -/
module

public import proofs.«01_k».proof.Proof.PleBwdRef

@[expose] public section

set_option maxRecDepth 16384

noncomputable section

namespace Cert.PleBwd

open Cert.Ffn Cert.Ple Cert.Kernel10Ideal Cert.Kernel10Ideal.Gen Idealize.ShloMosaic Idealize.ShloMosaic.TcCoe Idealize.SL.Sem

variable {m : (ℓ : Loc nD τ sig) → Buf (Elt Ideal) ℓ} {m' : (ℓ : Loc Cert.Reference10Ideal.nD Cert.Reference10Ideal.τ Cert.Reference10Ideal.sig) → Buf (Elt Ideal) ℓ} {c : Dev nD}

/-- The two programs are given the same arguments on device `c`. -/
theorem same_of (h0 : PleBwdRef.a0 m' c = k0 m c) (h1 : PleBwdRef.a1 m' c = k1 m c) (h2 : PleBwdRef.a2 m' c = k2 m c) (h3 : PleBwdRef.a3 m' c = k3 m c)
    (h4 : PleBwdRef.a4 m' c = k4 m c) (h5 : PleBwdRef.a5 m' c = k5 m c) : PleBwdRef.R m' c = K m c := by
  unfold PleBwdRef.R K
  rw [h0, h1, h2, h3, h4, h5]

section
variable (s : PleBwdRef.R m' c = K m c)
include s

theorem dhs_eq : PleBwdRef.dhs m' c = (dats m 0 c).arrAt 5 cfg0.N := by
  rw [arr5, ← s]
  funext i
  obtain ⟨r, l, rfl⟩ : ∃ (r : Fin 4096) (l : Fin 1024), i = ix2 r l := ⟨_, _, eq_ix2 i⟩
  exact PleBwdRef.dhs_at m' c r l

theorem des_eq : PleBwdRef.shards (PleBwdRef.des m' c) = (dats m 0 c).arrAt 6 cfg0.N := by
  rw [arr6, ← s]
  funext i
  obtain ⟨j, r, q, rfl⟩ : ∃ (j : Fin 4) (r : Fin 4096) (q : Fin 256), i = ix3 j r q := ⟨_, _, _, eq_ix3 i⟩
  exact (PleBwdRef.shards_at _ j r q).trans (PleBwdRef.des_at m' c r (wide j q))

theorem dts_eq : truncf (F := Ideal) .bf16 (PleBwdRef.dts m' c) Cert.Reference10Ideal.Gen.bitsLt_bf16_f32 = (dats m 0 c).arrAt 7 cfg0.N := by
  rw [arr7, ← s]
  funext i
  obtain ⟨r, l, rfl⟩ : ∃ (r : Fin 4096) (l : Fin 1024), i = ix2 r l := ⟨_, _, eq_ix2 i⟩
  exact PleBwdRef.dts_at m' c r l

theorem dgs_eq : PleBwdRef.dgs m' c = (dats m 0 c).arrAt 8 cfg0.N := by
  rw [arr8, ← s]
  funext i
  obtain ⟨u, l, rfl⟩ : ∃ (u : Fin 1) (l : Fin 1024), i = ix2 u l := ⟨_, _, eq_ix2 i⟩
  obtain rfl : u = 0 := Subsingleton.elim _ _
  exact PleBwdRef.dgs_at m' c l
end

end Cert.PleBwd

end
-- ==== Proof.PleFwdBlock.lean ====
/- The layer embedding's forward kernel at one grid point. -/
module

public import proofs.«01_k».proof.Proof.Gen.Kernel11Ideal.Frame
public import proofs.«01_k».proof.Proof.PleMath
public import Idealize.ShloMosaic.Lib.Pipeline.Value

@[expose] public section

set_option maxRecDepth 16384

noncomputable section

namespace Cert.PleFwd

open Cert.Ffn Cert.Ple Cert.Kernel11Ideal Cert.Kernel11Ideal.Gen Idealize.ShloMosaic

variable (x0 : Vec Ideal S512x1024 .f32) (x1 : Vec Ideal S1x512x256 .f32) (x2 : Vec Ideal S4x1x256x256 .bf16) (x3 : Vec Ideal S4x1x256x1024 .bf16)
  (x4 : Vec Ideal S1x1x1024 .f32) (r : Fin 512) (l : Fin 1024) (q : Fin 256)

section
variable (w0 w1 w2 w3 : Vec Ideal S1x1x256x1024 .bf16) (p : FVec Ideal S512x256 .bf16) (u0 : FVec Ideal S256x256 .bf16)
  (u u1 u2 u3 : Vec Ideal S1x1x256x256 .bf16) (t : FVec Ideal S512x1024 .f32)

theorem pay1_at : k0_pay1 x1 (ix2 r q) = x1 (ix3 0 r q) := by pointwise [k0_pay1]
theorem pay3_at (k : Fin 256) : k0_pay3 u (ix2 k q) = u (ix4 0 0 k q) := by pointwise [k0_pay3]

theorem pay2_at : k0_pay2 x0 w0 w1 w2 w3 (ix2 r l)
    = ∑ k : Fin 256, x0 (ix2 r (wide 0 k)) * w0 (ix4 0 0 k l) + ∑ k : Fin 256, x0 (ix2 r (wide 1 k)) * w1 (ix4 0 0 k l)
      + ∑ k : Fin 256, x0 (ix2 r (wide 2 k)) * w2 (ix4 0 0 k l) + ∑ k : Fin 256, x0 (ix2 r (wide 3 k)) * w3 (ix4 0 0 k l) := by
  pointwise [k0_pay2, wide]

theorem pay4_0 : k0_pay4 p u0 (constant S512x256 .f32 0x00000000#32) u1 u2 u3 (ix2 r (wide 0 q)) = ∑ k, p (ix2 r k) * u0 (ix2 k q) := by
  pointwise [k0_pay4, wide]
theorem pay4_1 : k0_pay4 p u0 (constant S512x256 .f32 0x00000000#32) u1 u2 u3 (ix2 r (wide 1 q)) = ∑ k, p (ix2 r k) * u1 (ix4 0 0 k q) := by
  pointwise [k0_pay4, wide]
theorem pay4_2 : k0_pay4 p u0 (constant S512x256 .f32 0x00000000#32) u1 u2 u3 (ix2 r (wide 2 q)) = ∑ k, p (ix2 r k) * u2 (ix4 0 0 k q) := by
  pointwise [k0_pay4, wide]
  rw [dif_neg (by omega), dif_neg (by omega), dif_pos (by omega)]
  exact Finset.sum_congr rfl fun k _ => congrArg (fun z => p (ix2 r k) * u2 (ix4 0 0 k z)) (Fin.ext (by show 512 + q.val - 256 - 256 = q.val; omega))
theorem pay4_3 : k0_pay4 p u0 (constant S512x256 .f32 0x00000000#32) u1 u2 u3 (ix2 r (wide 3 q)) = ∑ k, p (ix2 r k) * u3 (ix4 0 0 k q) := by
  pointwise [k0_pay4, wide]
  rw [dif_neg (by omega), dif_neg (by omega), dif_neg (by omega)]
  exact Finset.sum_congr rfl fun k _ => congrArg (fun z => p (ix2 r k) * u3 (ix4 0 0 k z)) (Fin.ext (by show 768 + q.val - 256 - 256 - 256 = q.val; omega))

theorem pay5_at (e : FVec Ideal S512x256 .f32) : k0_pay5 x0 p t u0 e u1 u2 u3 x4 (ix2 r l)
    = fwd (fun l => x0 (ix2 r l)) (fun l => k0_pay4 p u0 e u1 u2 u3 (ix2 r l)) (fun l => t (ix2 r l)) (fun l => x4 (ix3 0 0 l)) l := by
  pointwise [k0_pay5, fwd, rms, gat]
end

theorem ld0 : View.ld x0 r0_0 = x0 := View.ld_unit_zero (by funext a; fin_cases a <;> rfl) _ _
theorem ld1 : View.ld x1 r0_1 = x1 := View.ld_unit_zero (by funext a; fin_cases a <;> rfl) _ _
theorem ld4 : View.ld x4 r0_10 = x4 := View.ld_unit_zero (by funext a; fin_cases a <;> rfl) _ _

/-- Shard `j` of a weight as the body loads it. -/
def shardw (w : Vec Ideal S4x1x256x1024 .bf16) (j : Fin 4) : Vec Ideal S1x1x256x1024 .bf16 := fun i => w (ix4 j 0 (i 2) (i 3))

theorem shardw_at (w : Vec Ideal S4x1x256x1024 .bf16) (j : Fin 4) (k : Fin 256) (l : Fin 1024) : shardw w j (ix4 0 0 k l) = w (ix4 j 0 k l) := rfl

theorem ldw0 : View.ld x3 r0_2 = shardw x3 0 := by
  funext i
  obtain ⟨a, b, k, l, rfl⟩ : ∃ (a b : Fin 1) (k : Fin 256) (l : Fin 1024), i = ix4 a b k l := ⟨_, _, _, _, eq_ix4 i⟩
  obtain rfl : a = 0 := Subsingleton.elim _ _
  obtain rfl : b = 0 := Subsingleton.elim _ _
  rw [shardw_at]
  pointwise []

theorem ldw1 : View.ld x3 r0_3 = shardw x3 1 := by
  funext i
  obtain ⟨a, b, k, l, rfl⟩ : ∃ (a b : Fin 1) (k : Fin 256) (l : Fin 1024), i = ix4 a b k l := ⟨_, _, _, _, eq_ix4 i⟩
  obtain rfl : a = 0 := Subsingleton.elim _ _
  obtain rfl : b = 0 := Subsingleton.elim _ _
  rw [shardw_at]
  pointwise []

theorem ldw2 : View.ld x3 r0_4 = shardw x3 2 := by
  funext i
  obtain ⟨a, b, k, l, rfl⟩ : ∃ (a b : Fin 1) (k : Fin 256) (l : Fin 1024), i = ix4 a b k l := ⟨_, _, _, _, eq_ix4 i⟩
  obtain rfl : a = 0 := Subsingleton.elim _ _
  obtain rfl : b = 0 := Subsingleton.elim _ _
  rw [shardw_at]
  pointwise []

theorem ldw3 : View.ld x3 r0_5 = shardw x3 3 := by
  funext i
  obtain ⟨a, b, k, l, rfl⟩ : ∃ (a b : Fin 1) (k : Fin 256) (l : Fin 1024), i = ix4 a b k l := ⟨_, _, _, _, eq_ix4 i⟩
  obtain rfl : a = 0 := Subsingleton.elim _ _
  obtain rfl : b = 0 := Subsingleton.elim _ _
  rw [shardw_at]
  pointwise []

/-- Shard `j` of a weight as the body loads it. -/
def shardu (w : Vec Ideal S4x1x256x256 .bf16) (j : Fin 4) : Vec Ideal S1x1x256x256 .bf16 := fun i => w (ix4 j 0 (i 2) (i 3))

theorem shardu_at (w : Vec Ideal S4x1x256x256 .bf16) (j : Fin 4) (k : Fin 256) (l : Fin 256) : shardu w j (ix4 0 0 k l) = w (ix4 j 0 k l) := rfl

theorem ldu0 : View.ld x2 r0_6 = shardu x2 0 := by
  funext i
  obtain ⟨a, b, k, l, rfl⟩ : ∃ (a b : Fin 1) (k : Fin 256) (l : Fin 256), i = ix4 a b k l := ⟨_, _, _, _, eq_ix4 i⟩
  obtain rfl : a = 0 := Subsingleton.elim _ _
  obtain rfl : b = 0 := Subsingleton.elim _ _
  rw [shardu_at]
  pointwise []

theorem ldu1 : View.ld x2 r0_7 = shardu x2 1 := by
  funext i
  obtain ⟨a, b, k, l, rfl⟩ : ∃ (a b : Fin 1) (k : Fin 256) (l : Fin 256), i = ix4 a b k l := ⟨_, _, _, _, eq_ix4 i⟩
  obtain rfl : a = 0 := Subsingleton.elim _ _
  obtain rfl : b = 0 := Subsingleton.elim _ _
  rw [shardu_at]
  pointwise []

theorem ldu2 : View.ld x2 r0_8 = shardu x2 2 := by
  funext i
  obtain ⟨a, b, k, l, rfl⟩ : ∃ (a b : Fin 1) (k : Fin 256) (l : Fin 256), i = ix4 a b k l := ⟨_, _, _, _, eq_ix4 i⟩
  obtain rfl : a = 0 := Subsingleton.elim _ _
  obtain rfl : b = 0 := Subsingleton.elim _ _
  rw [shardu_at]
  pointwise []

theorem ldu3 : View.ld x2 r0_9 = shardu x2 3 := by
  funext i
  obtain ⟨a, b, k, l, rfl⟩ : ∃ (a b : Fin 1) (k : Fin 256) (l : Fin 256), i = ix4 a b k l := ⟨_, _, _, _, eq_ix4 i⟩
  obtain rfl : a = 0 := Subsingleton.elim _ _
  obtain rfl : b = 0 := Subsingleton.elim _ _
  rw [shardu_at]
  pointwise []

/-- The block's rows: the layer's, the embedding's and the gate's. -/
abbrev hrow (l : Fin 1024) : EReal := x0 (ix2 r l)
abbrev erow : Fin 1024 → EReal := emb (fun k => x1 (ix3 0 r k)) (fun k l => x2 (ix4 ⟨l.val / 256, by omega⟩ 0 k ⟨l.val % 256, by omega⟩))
abbrev trow : Fin 1024 → EReal := gte (fun l => x0 (ix2 r l)) (fun k l => x3 (ix4 ⟨k.val / 256, by omega⟩ 0 ⟨k.val % 256, by omega⟩ l))

theorem wide_div (j : Fin 4) (q : Fin 256) (h : (wide j q).val / 256 < 4) : (⟨(wide j q).val / 256, h⟩ : Fin 4) = j :=
  Fin.ext (by show (j.val * 256 + q.val) / 256 = j.val; omega)
theorem wide_mod (j : Fin 4) (q : Fin 256) (h : (wide j q).val % 256 < 256) : (⟨(wide j q).val % 256, h⟩ : Fin 256) = q :=
  Fin.ext (by show (j.val * 256 + q.val) % 256 = q.val; omega)

theorem pay8_at : k0_pay8 x0 x1 x2 x3 x4 (ix2 r l) = trow x0 x3 r l := by
  unfold k0_pay8
  rw [ld0, ldw0, ldw1, ldw2, ldw3, pay2_at]
  unfold trow gte
  rw [sum_wide, Fin.sum_univ_four]
  simp only [wide_div, wide_mod, shardw_at]

theorem emb_at : k0_pay4 (k0_pay7 x0 x1 x2 x3 x4) (k0_pay9 x0 x1 x2 x3 x4) (k0_pay6 x0 x1 x2 x3 x4) (View.ld x2 r0_7) (View.ld x2 r0_8) (View.ld x2 r0_9) (ix2 r l)
    = erow x1 x2 r l := by
  obtain ⟨j, q, rfl⟩ := exists_wide l
  unfold k0_pay7 k0_pay9 k0_pay6
  rw [ld1, ldu0, ldu1, ldu2, ldu3]
  unfold erow emb
  simp only [wide_div, wide_mod]
  match j with
  | 0 => rw [pay4_0]; simp only [pay1_at, pay3_at, shardu_at]
  | 1 => rw [pay4_1]; simp only [pay1_at, shardu_at]
  | 2 => rw [pay4_2]; simp only [pay1_at, shardu_at]
  | 3 => rw [pay4_3]; simp only [pay1_at, shardu_at]

theorem out7_at : out0_7 x0 x1 x2 x3 x4 (ix2 r l) = trow x0 x3 r l := by
  unfold out0_7
  rw [View.canon_unit_zero (by funext a; fin_cases a <;> rfl)]
  exact pay8_at x0 x1 x2 x3 x4 r l

theorem out6_at : out0_6 x0 x1 x2 x3 x4 (ix2 r l) = erow x1 x2 r l := by
  unfold out0_6
  rw [View.canon_unit_zero (by funext a; fin_cases a <;> rfl)]
  exact emb_at x0 x1 x2 x3 x4 r l

theorem out5_at : out0_5 x0 x1 x2 x3 x4 (ix2 r l)
    = fwd (fun l => x0 (ix2 r l)) (erow x1 x2 r) (trow x0 x3 r) (fun l => x4 (ix3 0 0 l)) l := by
  unfold out0_5
  rw [View.canon_unit_zero (by funext a; fin_cases a <;> rfl), pay5_at, ld0, ld4]
  simp only [emb_at, pay8_at]

end Cert.PleFwd
-- ==== Proof.PleFwdArr.lean ====
module

public import proofs.«01_k».proof.Proof.PleFwdBlock
public import Idealize.ShloMosaic.Lib.Pipeline.ValueKit

@[expose] public section

set_option maxRecDepth 16384

noncomputable section

namespace Cert.PleFwd

open Cert.Ffn Cert.Ple Cert.Kernel11Ideal Cert.Kernel11Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The arguments as functions of row and column. -/
def hv (r : Fin 4096) (l : Fin 1024) : EReal := m ((c : Thread nD τ).loc main_arg0) (ix2 r l)
def pv (r : Fin 4096) (k : Fin 256) : EReal := m ((c : Thread nD τ).loc main_arg1) (ix2 r k)
def wu (k : Fin 256) (l : Fin 1024) : EReal := m ((c : Thread nD τ).loc main_arg2) (ix2 k l)
def wg (k l : Fin 1024) : EReal := m ((c : Thread nD τ).loc main_arg3) (ix2 k l)
def gn (l : Fin 1024) : EReal := m ((c : Thread nD τ).loc main_arg4) (ix1 l)

theorem V_v0 (r : Fin 4096) (k : Fin 256) : V m c main_v0 (ix3 0 r k) = pv m c r k := by
  have e : V m c main_v0 = broadcastInDim S1x4096x256 ![1, 2] bcast_S4096x256_S1x4096x256_1_2 (m ((c : Thread nD τ).loc main_arg1)) := by
    unfold V
    simp only [hostOps0]
    after_results_simp
  rw [e]
  pointwise [pv]

theorem V_v3 (j : Fin 4) (k q : Fin 256) : V m c main_v3 (ix4 j 0 k q) = wu m c k (wide j q) := by
  have e : V m c main_v3 = truncf (F := Ideal) .bf16 (transpose S4x1x256x256 [1, 2, 0, 3] (shapeCast S256x4x1x256 (m ((c : Thread nD τ).loc main_arg2)) shapeCasts_S256x1024_S256x4x1x256) transposes_S256x4x1x256_S4x1x256x256_1_2_0_3) bitsLt_bf16_f32 := by
    unfold V
    simp only [hostOps0]
    after_results_simp
    rfl
  rw [e]
  pointwise [wu, wide]

theorem cast_at (x : Vec Ideal S1024x1024 .f32) (j : Fin 4) (k : Fin 256) (l : Fin 1024) :
    shapeCast S4x1x256x1024 x shapeCasts_S1024x1024_S4x1x256x1024 (ix4 j 0 k l) = x (ix2 (wide j k) l) := by
  pointwise [wide]

theorem V_v5 (j : Fin 4) (k : Fin 256) (l : Fin 1024) : V m c main_v5 (ix4 j 0 k l) = wg m c (wide j k) l := by
  have e : V m c main_v5 = truncf (F := Ideal) .bf16 (shapeCast S4x1x256x1024 (m ((c : Thread nD τ).loc main_arg3)) shapeCasts_S1024x1024_S4x1x256x1024) bitsLt_bf16_f32 := by
    unfold V
    simp only [hostOps0]
    after_results_simp
    rfl
  rw [e]
  exact cast_at (m ((c : Thread nD τ).loc main_arg3)) j k l

theorem V_v6 (l : Fin 1024) : V m c main_v6 (ix3 0 0 l) = gn m c l := by
  have e : V m c main_v6 = shapeCast S1x1x1024 (m ((c : Thread nD τ).loc main_arg4)) shapeCasts_S1024_S1x1x1024 := by
    unfold V
    simp only [hostOps0]
    after_results_simp
    rfl
  rw [e]
  pointwise [gn]

/-- Row `r` of the block of grid point `t`. -/
def row (t : Fin cfg0.N) (r : Fin 512) : Fin 4096 := ⟨t.val * 512 + r.val, by have h : t.val < 8 := t.isLt; omega⟩

theorem idx0 : ∀ t : Fin cfg0.N, win0_0.index t = ![t.val, 0] := by decide +kernel
theorem idx1 : ∀ t : Fin cfg0.N, win0_1.index t = ![0, t.val, 0] := by decide +kernel
theorem idx2 : ∀ t : Fin cfg0.N, win0_2.index t = ![0, 0, 0, 0] := by decide +kernel
theorem idx3 : ∀ t : Fin cfg0.N, win0_3.index t = ![0, 0, 0, 0] := by decide +kernel
theorem idx4 : ∀ t : Fin cfg0.N, win0_4.index t = ![0, 0, 0] := by decide +kernel
theorem idx5 : ∀ t : Fin cfg0.N, win0_5.index t = ![t.val, 0] := by decide +kernel
theorem idx6 : ∀ t : Fin cfg0.N, win0_6.index t = ![t.val, 0] := by decide +kernel
theorem idx7 : ∀ t : Fin cfg0.N, win0_7.index t = ![t.val, 0] := by decide +kernel

theorem iblk0_at (t : Fin cfg0.N) (r : Fin 512) (l : Fin 1024) : iblk m c 0 t (ix2 r l) = hv m c (row t r) l := by
  blk_simp [iblk]
  refine (congrFun (V_main_arg0 m c) _).trans (congrArg (m ((c : Thread nD τ).loc main_arg0)) ?_)
  funext a
  fin_cases a <;> apply Fin.ext
  · blk_simp [idx0]; rfl
  · blk_simp [idx0]; rfl

theorem iblk1_at (t : Fin cfg0.N) (r : Fin 512) (k : Fin 256) : iblk m c 1 t (ix3 0 r k) = pv m c (row t r) k := by
  blk_simp [iblk]
  refine Eq.trans (congrArg (V m c main_v0) ?_) (V_v0 m c (row t r) k)
  funext a
  fin_cases a <;> apply Fin.ext
  · blk_simp [idx1]
  · blk_simp [idx1]; rfl
  · blk_simp [idx1]; rfl

theorem iblk2_at (t : Fin cfg0.N) (j : Fin 4) (k q : Fin 256) : iblk m c 2 t (ix4 j 0 k q) = wu m c k (wide j q) := by
  blk_simp [iblk]
  refine Eq.trans (congrArg (V m c main_v3) ?_) (V_v3 m c j k q)
  funext a
  fin_cases a <;> apply Fin.ext <;> blk_simp [idx2]

theorem iblk3_at (t : Fin cfg0.N) (j : Fin 4) (k : Fin 256) (l : Fin 1024) : iblk m c 3 t (ix4 j 0 k l) = wg m c (wide j k) l := by
  blk_simp [iblk]
  refine Eq.trans (congrArg (V m c main_v5) ?_) (V_v5 m c j k l)
  funext a
  fin_cases a <;> apply Fin.ext <;> blk_simp [idx3]

theorem iblk4_at (t : Fin cfg0.N) (l : Fin 1024) : iblk m c 4 t (ix3 0 0 l) = gn m c l := by
  blk_simp [iblk]
  refine Eq.trans (congrArg (V m c main_v6) ?_) (V_v6 m c l)
  funext a
  fin_cases a <;> apply Fin.ext <;> blk_simp [idx4]

theorem emb5 (t : Fin cfg0.N) (r : Fin 512) (l : Fin 1024) :
    (win0_5.blk t).view.emb (ix2 r l) = ix2 (n0 := 4096) (n1 := 1024) (row t r) l := by
  funext a
  fin_cases a <;> apply Fin.ext
  · blk_simp [idx5]; rfl
  · blk_simp [idx5]; rfl

theorem emb6 (t : Fin cfg0.N) (r : Fin 512) (l : Fin 1024) :
    (win0_6.blk t).view.emb (ix2 r l) = ix2 (n0 := 4096) (n1 := 1024) (row t r) l := by
  funext a
  fin_cases a <;> apply Fin.ext
  · blk_simp [idx6]; rfl
  · blk_simp [idx6]; rfl

theorem emb7 (t : Fin cfg0.N) (r : Fin 512) (l : Fin 1024) :
    (win0_7.blk t).view.emb (ix2 r l) = ix2 (n0 := 4096) (n1 := 1024) (row t r) l := by
  funext a
  fin_cases a <;> apply Fin.ext
  · blk_simp [idx7]; rfl
  · blk_simp [idx7]; rfl

theorem wide_eq (l : Fin 1024) (h : l.val / 256 < 4) (h' : l.val % 256 < 256) : wide ⟨l.val / 256, h⟩ ⟨l.val % 256, h'⟩ = l :=
  Fin.ext (by show l.val / 256 * 256 + l.val % 256 = l.val; omega)

/-- The embedding's and the gate's rows of the whole arrays. -/
abbrev ev (r : Fin 4096) : Fin 1024 → EReal := emb (pv m c r) (wu m c)
abbrev tv (r : Fin 4096) : Fin 1024 → EReal := gte (hv m c r) (wg m c)

theorem erow_eq (t : Fin cfg0.N) (r : Fin 512) : erow (iblk m c 1 t) (iblk m c 2 t) r = ev m c (row t r) := by
  funext l
  refine Finset.sum_congr rfl fun k _ => ?_
  refine congrArg₂ (· * ·) (iblk1_at m c t r k) ((iblk2_at m c t _ k _).trans ?_)
  rw [wide_eq]

theorem trow_eq (t : Fin cfg0.N) (r : Fin 512) : trow (iblk m c 0 t) (iblk m c 3 t) r = tv m c (row t r) := by
  funext l
  refine Finset.sum_congr rfl fun k _ => ?_
  refine congrArg₂ (· * ·) (iblk0_at m c t r k) ((iblk3_at m c t _ _ l).trans ?_)
  rw [wide_eq]

theorem hrow_eq (t : Fin cfg0.N) (r : Fin 512) : (fun l : Fin 1024 => (iblk m c 0 t (ix2 r l) : EReal)) = hv m c (row t r) :=
  funext fun l => iblk0_at m c t r l

theorem gain_eq (t : Fin cfg0.N) : (fun l : Fin 1024 => (iblk m c 4 t (ix3 0 0 l) : EReal)) = gn m c :=
  funext fun l => iblk4_at m c t l

theorem blk5 (t : Fin cfg0.N) (r : Fin 512) (l : Fin 1024) : out0_5 (iblk m c 0 t) (iblk m c 1 t) (iblk m c 2 t) (iblk m c 3 t) (iblk m c 4 t) (ix2 r l) = fwd (hv m c (row t r)) (ev m c (row t r)) (tv m c (row t r)) (gn m c) l := by
  rw [out5_at, erow_eq, trow_eq, hrow_eq, gain_eq]

theorem arr5 : (dats m 0 c).arrAt 5 cfg0.N = fun i : S4096x1024.Idx => fwd (hv m c (i 0)) (ev m c (i 0)) (tv m c (i 0)) (gn m c) (i 1) := by
  refine (dats m 0 c).arrAt_eq_of_covers 5 _ (by decide +kernel) fun t hf y => ?_
  blk_simp
  rw [after0_5]
  obtain ⟨r, l, rfl⟩ : ∃ (r : Fin 512) (l : Fin 1024), y = ix2 r l := ⟨_, _, eq_ix2 y⟩
  exact (blk5 m c t r l).trans (congrArg (fun i : S4096x1024.Idx => fwd (hv m c (i 0)) (ev m c (i 0)) (tv m c (i 0)) (gn m c) (i 1)) (emb5 t r l)).symm

theorem blk6 (t : Fin cfg0.N) (r : Fin 512) (l : Fin 1024) : out0_6 (iblk m c 0 t) (iblk m c 1 t) (iblk m c 2 t) (iblk m c 3 t) (iblk m c 4 t) (ix2 r l) = ev m c (row t r) l := by
  rw [out6_at, erow_eq]

theorem arr6 : (dats m 0 c).arrAt 6 cfg0.N = fun i : S4096x1024.Idx => ev m c (i 0) (i 1) := by
  refine (dats m 0 c).arrAt_eq_of_covers 6 _ (by decide +kernel) fun t hf y => ?_
  blk_simp
  rw [after0_6]
  obtain ⟨r, l, rfl⟩ : ∃ (r : Fin 512) (l : Fin 1024), y = ix2 r l := ⟨_, _, eq_ix2 y⟩
  exact (blk6 m c t r l).trans (congrArg (fun i : S4096x1024.Idx => ev m c (i 0) (i 1)) (emb6 t r l)).symm

theorem blk7 (t : Fin cfg0.N) (r : Fin 512) (l : Fin 1024) : out0_7 (iblk m c 0 t) (iblk m c 1 t) (iblk m c 2 t) (iblk m c 3 t) (iblk m c 4 t) (ix2 r l) = tv m c (row t r) l := by
  rw [out7_at, trow_eq]

theorem arr7 : (dats m 0 c).arrAt 7 cfg0.N = fun i : S4096x1024.Idx => tv m c (i 0) (i 1) := by
  refine (dats m 0 c).arrAt_eq_of_covers 7 _ (by decide +kernel) fun t hf y => ?_
  blk_simp
  rw [after0_7]
  obtain ⟨r, l, rfl⟩ : ∃ (r : Fin 512) (l : Fin 1024), y = ix2 r l := ⟨_, _, eq_ix2 y⟩
  exact (blk7 m c t r l).trans (congrArg (fun i : S4096x1024.Idx => tv m c (i 0) (i 1)) (emb7 t r l)).symm

end Cert.PleFwd
-- ==== Proof.PleFwd.lean ====
/- The layer embedding's forward pass: the kernel's three arrays are the reference's. -/
module

public import proofs.«01_k».proof.Proof.PleFwdArr
public import proofs.«01_k».proof.Proof.PleFwdRef

@[expose] public section

set_option maxRecDepth 16384

noncomputable section

namespace Cert.PleFwd

open Cert.Ffn Cert.Ple Cert.Kernel11Ideal Cert.Kernel11Ideal.Gen Idealize.ShloMosaic Idealize.ShloMosaic.TcCoe Idealize.SL.Sem

variable (m : (ℓ : Loc nD τ sig) → Buf (Elt Ideal) ℓ) (m' : (ℓ : Loc Cert.Reference11Ideal.nD Cert.Reference11Ideal.τ Cert.Reference11Ideal.sig) → Buf (Elt Ideal) ℓ) (c : Dev nD)

/-- The two programs are given the same arguments on device `c`. -/
structure Same : Prop where
  h : hv m c = PleFwdRef.hv m' c
  p : pv m c = PleFwdRef.pv m' c
  wu : wu m c = PleFwdRef.wu m' c
  wg : wg m c = PleFwdRef.wg m' c
  g : gn m c = PleFwdRef.gn m' c

variable {m m' c}

theorem same_of (h0 : PleFwdRef.a0 m' c = m ((c : Thread nD τ).loc main_arg0)) (h1 : PleFwdRef.a1 m' c = m ((c : Thread nD τ).loc main_arg1))
    (h2 : PleFwdRef.a2 m' c = m ((c : Thread nD τ).loc main_arg2)) (h3 : PleFwdRef.a3 m' c = m ((c : Thread nD τ).loc main_arg3))
    (h4 : PleFwdRef.a4 m' c = m ((c : Thread nD τ).loc main_arg4)) : Same m m' c where
  h := funext fun r => funext fun l => (congrFun h0 (ix2 r l)).symm
  p := funext fun r => funext fun k => (congrFun h1 (ix2 r k)).symm
  wu := funext fun k => funext fun l => (congrFun h2 (ix2 k l)).symm
  wg := funext fun k => funext fun l => (congrFun h3 (ix2 k l)).symm
  g := funext fun l => (congrFun h4 (ix1 l)).symm

theorem hs_eq (s : Same m m' c) : PleFwdRef.hs m' c = (dats m 0 c).arrAt 5 cfg0.N := by
  rw [arr5]
  unfold ev tv
  rw [s.h, s.p, s.wu, s.wg, s.g]
  funext i
  obtain ⟨r, l, rfl⟩ : ∃ (r : Fin 4096) (l : Fin 1024), i = ix2 r l := ⟨_, _, eq_ix2 i⟩
  exact PleFwdRef.hs_at m' c r l

theorem es_eq (s : Same m m' c) : PleFwdRef.es m' c = (dats m 0 c).arrAt 6 cfg0.N := by
  rw [arr6]
  unfold ev
  rw [s.p, s.wu]
  funext i
  obtain ⟨r, l, rfl⟩ : ∃ (r : Fin 4096) (l : Fin 1024), i = ix2 r l := ⟨_, _, eq_ix2 i⟩
  exact PleFwdRef.es_at m' c r l

theorem ts_eq (s : Same m m' c) : PleFwdRef.ts m' c = (dats m 0 c).arrAt 7 cfg0.N := by
  rw [arr7]
  unfold tv
  rw [s.h, s.wg]
  funext i
  obtain ⟨r, l, rfl⟩ : ∃ (r : Fin 4096) (l : Fin 1024), i = ix2 r l := ⟨_, _, eq_ix2 i⟩
  exact PleFwdRef.ts_at m' c r l

end Cert.PleFwd
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.FrameIdeal
public import proofs.«01_k».proof.Proof.ScanFinite
public import proofs.«01_k».proof.Proof.ScanRef
public import proofs.«01_k».proof.Proof.Gen.Kernel2.Frame
public import proofs.«01_k».proof.Proof.Gen.Kernel2Ideal.Value
public import proofs.«01_k».proof.Proof.Gen.Kernel3.Frame
public import proofs.«01_k».proof.Proof.Gen.Kernel3Ideal.Value
public import proofs.«01_k».proof.Proof.Gen.Kernel4.Frame
public import proofs.«01_k».proof.Proof.Gen.Kernel4Ideal.Value
public import proofs.«01_k».proof.Proof.FfnFwd
public import proofs.«01_k».proof.Proof.FfnBwd
public import proofs.«01_k».proof.Proof.Dw
public import proofs.«01_k».proof.Proof.Gen.Kernel5.Frame
public import proofs.«01_k».proof.Proof.Gen.Kernel5Ideal.Value
public import proofs.«01_k».proof.Proof.Gen.Kernel6.Frame
public import proofs.«01_k».proof.Proof.Gen.Kernel6Ideal.Value
public import proofs.«01_k».proof.Proof.Gen.Kernel7.Frame
public import proofs.«01_k».proof.Proof.Gen.Kernel7Ideal.Value
public import proofs.«01_k».proof.Proof.Gen.Kernel8.Frame
public import proofs.«01_k».proof.Proof.Gen.Kernel8Ideal.Value
public import proofs.«01_k».proof.Proof.Gen.Kernel9.Frame
public import proofs.«01_k».proof.Proof.Gen.Kernel9Ideal.Value
public import proofs.«01_k».proof.Proof.DwOut
public import proofs.«01_k».proof.Proof.DwIn
public import proofs.«01_k».proof.Proof.DwPleGate
public import proofs.«01_k».proof.Proof.DwPleUp
public import proofs.«01_k».proof.Proof.DwGlu
public import proofs.«01_k».proof.Proof.Gen.Kernel10.Frame
public import proofs.«01_k».proof.Proof.Gen.Kernel10Ideal.Value
public import proofs.«01_k».proof.Proof.Gen.Kernel11.Frame
public import proofs.«01_k».proof.Proof.Gen.Kernel11Ideal.Value
public import proofs.«01_k».proof.Proof.PleBwd
public import proofs.«01_k».proof.Proof.PleFwd
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference ends with its arguments unchanged and every counter zero. -/
theorem frame_reference : Cert.quiescent_ReferenceIdeal (hReferenceIdeal := Cert.ReferenceIdeal.Gen.facts) := fun m ρ _ =>
  (θ_run _ _ _).mono (fun r h => ⟨fun c => (h c).2.2, Idealize.ShloMosaic.sem_eq_zero_of_no_sems (by decide) r.2⟩)
    (Cert.ReferenceIdeal.Value.run (F := Ideal) m ρ)

/-- The numbers a device's four arguments hold. -/
abbrev inp (m : (ℓ : Loc Cert.KernelIdeal.nD Cert.KernelIdeal.τ Cert.KernelIdeal.sig) → Buf (Elt Ideal) ℓ) (c : Dev Cert.KernelIdeal.nD) : Cert.Scan.Inp :=
  Cert.Scan.inpOf (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))

/-- Both programs end at the scan of the numbers the arguments hold. -/
theorem scan_algebraic : Cert.algebraic_KernelIdeal_ReferenceIdeal_pre_finite (hKernelIdeal := Cert.KernelIdeal.Gen.facts)
    (hReferenceIdeal := Cert.ReferenceIdeal.Gen.facts) (hPre_finite := Cert.Scan.pre_facts) := by
  intro m g m' g' hpre hagree
  have hr := fun c => @Cert.Scan.fn_real Cert.Scan.pre_facts _ _ _ _ (hpre c)
  have hs := fun c => Cert.Scan.inpOf_spec _ _ _ _ (hr c).1 (hr c).2.1 (hr c).2.2.1 (hr c).2.2.2
  have hJ : ∀ c, Cert.Scan.Holds m (inp m c) c := fun c => ⟨(hs c).1, (hs c).2.1, (hs c).2.2.1, (hs c).2.2.2⟩
  refine ⟨fun c => (inp m c).outR, fun c => (inp m c).outI, ?_, ?_⟩
  · refine (θ_run _ _ _).mono (fun r h c => ?_) (Cert.Scan.run_main m g (inp m) hJ)
    exact ⟨(h.1.out_eq c 4).trans (Cert.Scan.final4 m (inp m) c), (h.1.out_eq c 5).trans (Cert.Scan.final5 m (inp m) c),
      h.1.in_eq c 0 rfl, h.1.in_eq c 1 rfl, h.1.in_eq c 2 rfl, h.1.in_eq c 3 rfl⟩
  · have hA : ∀ c, Cert.Scan.Ref.ArgsAt (inp m c) m' c := fun c =>
      ⟨(hagree c).1.trans (hs c).1, (hagree c).2.1.trans (hs c).2.1, (hagree c).2.2.1.trans (hs c).2.2.1, (hagree c).2.2.2.trans (hs c).2.2.2⟩
    exact (θ_run _ _ _).mono (fun r h c => ⟨(h c).1.trans (Cert.Scan.Ref.result_re (hA c)), (h c).2.1.trans (Cert.Scan.Ref.result_im (hA c)),
      (h c).2.2⟩) (Cert.ReferenceIdeal.Value.run (F := Ideal) m' g')

theorem frame_reference2 : Cert.quiescent_Reference2Ideal (hReference2Ideal := Cert.Reference2Ideal.Gen.facts) := fun m ρ _ =>
  (θ_run _ _ _).mono (fun r h => ⟨fun c => (h c).2.2.2.2.2, Idealize.ShloMosaic.sem_eq_zero_of_no_sems (by decide) r.2⟩)
    (Cert.Reference2Ideal.Value.run (F := Ideal) m ρ)

theorem frame_reference3 : Cert.quiescent_Reference3Ideal (hReference3Ideal := Cert.Reference3Ideal.Gen.facts) := fun m ρ _ =>
  (θ_run _ _ _).mono (fun r h => ⟨fun c => (h c).2.2.2.2.2.2.2, Idealize.ShloMosaic.sem_eq_zero_of_no_sems (by decide) r.2⟩)
    (Cert.Reference3Ideal.Value.run (F := Ideal) m ρ)

theorem frame_reference4 : Cert.quiescent_Reference4Ideal (hReference4Ideal := Cert.Reference4Ideal.Gen.facts) := fun m ρ _ =>
  (θ_run _ _ _).mono (fun r h => ⟨fun c => (h c).2, Idealize.ShloMosaic.sem_eq_zero_of_no_sems (by decide) r.2⟩)
    (Cert.Reference4Ideal.Value.run (F := Ideal) m ρ)

/-- The feed-forward layer's five arrays, as the kernel leaves them and as the reference does. -/
theorem ffn_fwd_algebraic : Cert.algebraic_Kernel2Ideal_Reference2Ideal (hKernel2Ideal := Cert.Kernel2Ideal.Gen.facts)
    (hReference2Ideal := Cert.Reference2Ideal.Gen.facts) := by
  intro m g m' g' _ hagree
  have s : ∀ c, Cert.FfnFwd.Same m m' c := fun c =>
    Cert.FfnFwd.same_of (hagree c).1 (hagree c).2.1 (hagree c).2.2.1 (hagree c).2.2.2.1 (hagree c).2.2.2.2.1 (hagree c).2.2.2.2.2
  refine ⟨fun c => (Cert.Kernel2Ideal.Gen.dats m 0 c).arrAt 6 Cert.Kernel2Ideal.cfg0.N, fun c => (Cert.Kernel2Ideal.Gen.dats m 0 c).arrAt 7 Cert.Kernel2Ideal.cfg0.N,
    fun c => (Cert.Kernel2Ideal.Gen.dats m 0 c).arrAt 8 Cert.Kernel2Ideal.cfg0.N, fun c => (Cert.Kernel2Ideal.Gen.dats m 0 c).arrAt 9 Cert.Kernel2Ideal.cfg0.N,
    fun c => (Cert.Kernel2Ideal.Gen.dats m 0 c).arrAt 10 Cert.Kernel2Ideal.cfg0.N, Cert.Kernel2Ideal.Value.run_blocks (F := Ideal) m g, ?_⟩
  refine (θ_run _ _ _).mono (fun r h c => ?_) (Cert.FfnFwdRef.run' m' g')
  exact ⟨(h c).1.trans (Cert.FfnFwd.hs_eq (s c)), (h c).2.1.trans (Cert.FfnFwd.gs_eq (s c)), (h c).2.2.1.trans (Cert.FfnFwd.bs_eq (s c)),
    (h c).2.2.2.1.trans (Cert.FfnFwd.fs_eq (s c)), (h c).2.2.2.2.1.trans (Cert.FfnFwd.xs_eq (s c)), (h c).2.2.2.2.2⟩

/-- The seven arrays of the feed-forward layer's backward pass, as the kernel leaves them and as the reference does. -/
theorem ffn_bwd_algebraic : Cert.algebraic_Kernel3Ideal_Reference3Ideal_pre_finite_ffn (hKernel3Ideal := Cert.Kernel3Ideal.Gen.facts)
    (hReference3Ideal := Cert.Reference3Ideal.Gen.facts) (hPre_finite_ffn := Cert.FfnBwd.pre_facts) := by
  intro m g m' g' hpre hagree
  have s : ∀ c, Cert.FfnBwdRef.R m' c = Cert.FfnBwd.K m c := fun c =>
    Cert.FfnBwd.args_of (hagree c).1 (hagree c).2.1 (hagree c).2.2.1 (hagree c).2.2.2.1 (hagree c).2.2.2.2.1 (hagree c).2.2.2.2.2.1 (hagree c).2.2.2.2.2.2
  have H : ∀ c, (Cert.FfnBwdRef.R m' c).Real := fun c => (s c).symm ▸ Cert.FfnBwd.real_of hpre
  refine ⟨fun c => (Cert.Kernel3Ideal.Gen.dats m 0 c).arrAt 10 Cert.Kernel3Ideal.cfg0.N, fun c => (Cert.Kernel3Ideal.Gen.dats m 0 c).arrAt 11 Cert.Kernel3Ideal.cfg0.N,
    fun c => (Cert.Kernel3Ideal.Gen.dats m 0 c).arrAt 12 Cert.Kernel3Ideal.cfg0.N, fun c => (Cert.Kernel3Ideal.Gen.dats m 0 c).arrAt 13 Cert.Kernel3Ideal.cfg0.N,
    fun c => (Cert.Kernel3Ideal.Gen.dats m 0 c).arrAt 14 Cert.Kernel3Ideal.cfg0.N, fun c => (Cert.Kernel3Ideal.Gen.dats m 0 c).arrAt 15 Cert.Kernel3Ideal.cfg0.N,
    fun c => (Cert.Kernel3Ideal.Gen.dats m 0 c).arrAt 16 Cert.Kernel3Ideal.cfg0.N, Cert.Kernel3Ideal.Value.run_blocks (F := Ideal) m g, ?_⟩
  refine (θ_run _ _ _).mono (fun r h c => ?_) (Cert.FfnBwdRef.run' m' g')
  obtain ⟨h0, h1, h2, h3, h4, h5, h6, hr⟩ := h c
  exact ⟨h0.trans (Cert.FfnBwd.dhs_eq (s c) (H c)), h1.trans (Cert.FfnBwd.dfs_eq (s c) (H c)), h2.trans (Cert.FfnBwd.das_eq (s c) (H c)),
    h3.trans (Cert.FfnBwd.dbs_eq (s c) (H c)), h4.trans (Cert.FfnBwd.hhs_eq (s c)), h5.trans (Cert.FfnBwd.dps_eq (s c) (H c)),
    h6.trans (Cert.FfnBwd.dqs_eq (s c)), hr⟩

/-- The weight gradient, as the kernel leaves it and as the reference does. -/
theorem dw_algebraic : Cert.algebraic_Kernel4Ideal_Reference4Ideal (hKernel4Ideal := Cert.Kernel4Ideal.Gen.facts)
    (hReference4Ideal := Cert.Reference4Ideal.Gen.facts) := by
  intro m g m' g' _ hagree
  refine ⟨fun c => (Cert.Kernel4Ideal.Gen.dats m 0 c).arrAt 2 Cert.Kernel4Ideal.cfg0.N, Cert.Kernel4Ideal.Value.run_blocks (F := Ideal) m g, ?_⟩
  refine (θ_run _ _ _).mono (fun r h c => ?_) (Cert.DwRef.run' m' g')
  exact ⟨(h c).1.trans (Cert.Dw.dw_eq _ _ (hagree c).1 (hagree c).2), (h c).2⟩

theorem frame_reference5 : Cert.quiescent_Reference5Ideal (hReference5Ideal := Cert.Reference5Ideal.Gen.facts) := fun m ρ _ =>
  (θ_run _ _ _).mono (fun r h => ⟨fun c => (h c).2, Idealize.ShloMosaic.sem_eq_zero_of_no_sems (by decide) r.2⟩)
    (Cert.Reference5Ideal.Value.run (F := Ideal) m ρ)

/-- The weight gradient, the output projection's. -/
theorem dw_out_algebraic : Cert.algebraic_Kernel5Ideal_Reference5Ideal (hKernel5Ideal := Cert.Kernel5Ideal.Gen.facts)
    (hReference5Ideal := Cert.Reference5Ideal.Gen.facts) := by
  intro m g m' g' _ hagree
  refine ⟨fun c => (Cert.Kernel5Ideal.Gen.dats m 0 c).arrAt 2 Cert.Kernel5Ideal.cfg0.N, Cert.Kernel5Ideal.Value.run_blocks (F := Ideal) m g, ?_⟩
  refine (θ_run _ _ _).mono (fun r h c => ?_) (Cert.DwOutRef.run' m' g')
  exact ⟨(h c).1.trans (Cert.DwOut.dw_eq _ _ (hagree c).1 (hagree c).2), (h c).2⟩

theorem frame_reference6 : Cert.quiescent_Reference6Ideal (hReference6Ideal := Cert.Reference6Ideal.Gen.facts) := fun m ρ _ =>
  (θ_run _ _ _).mono (fun r h => ⟨fun c => (h c).2, Idealize.ShloMosaic.sem_eq_zero_of_no_sems (by decide) r.2⟩)
    (Cert.Reference6Ideal.Value.run (F := Ideal) m ρ)

/-- The weight gradient, the input projection's. -/
theorem dw_in_algebraic : Cert.algebraic_Kernel6Ideal_Reference6Ideal (hKernel6Ideal := Cert.Kernel6Ideal.Gen.facts)
    (hReference6Ideal := Cert.Reference6Ideal.Gen.facts) := by
  intro m g m' g' _ hagree
  refine ⟨fun c => (Cert.Kernel6Ideal.Gen.dats m 0 c).arrAt 2 Cert.Kernel6Ideal.cfg0.N, Cert.Kernel6Ideal.Value.run_blocks (F := Ideal) m g, ?_⟩
  refine (θ_run _ _ _).mono (fun r h c => ?_) (Cert.DwInRef.run' m' g')
  exact ⟨(h c).1.trans (Cert.DwIn.dw_eq _ _ (hagree c).1 (hagree c).2), (h c).2⟩

theorem frame_reference7 : Cert.quiescent_Reference7Ideal (hReference7Ideal := Cert.Reference7Ideal.Gen.facts) := fun m ρ _ =>
  (θ_run _ _ _).mono (fun r h => ⟨fun c => (h c).2, Idealize.ShloMosaic.sem_eq_zero_of_no_sems (by decide) r.2⟩)
    (Cert.Reference7Ideal.Value.run (F := Ideal) m ρ)

/-- The weight gradient, the layer embedding's gate's. -/
theorem dw_ple_gate_algebraic : Cert.algebraic_Kernel7Ideal_Reference7Ideal (hKernel7Ideal := Cert.Kernel7Ideal.Gen.facts)
    (hReference7Ideal := Cert.Reference7Ideal.Gen.facts) := by
  intro m g m' g' _ hagree
  refine ⟨fun c => (Cert.Kernel7Ideal.Gen.dats m 0 c).arrAt 2 Cert.Kernel7Ideal.cfg0.N, Cert.Kernel7Ideal.Value.run_blocks (F := Ideal) m g, ?_⟩
  refine (θ_run _ _ _).mono (fun r h c => ?_) (Cert.DwPleGateRef.run' m' g')
  exact ⟨(h c).1.trans (Cert.DwPleGate.dw_eq _ _ (hagree c).1 (hagree c).2), (h c).2⟩

theorem frame_reference8 : Cert.quiescent_Reference8Ideal (hReference8Ideal := Cert.Reference8Ideal.Gen.facts) := fun m ρ _ =>
  (θ_run _ _ _).mono (fun r h => ⟨fun c => (h c).2, Idealize.ShloMosaic.sem_eq_zero_of_no_sems (by decide) r.2⟩)
    (Cert.Reference8Ideal.Value.run (F := Ideal) m ρ)

/-- The weight gradient, the layer embedding's own. -/
theorem dw_ple_up_algebraic : Cert.algebraic_Kernel8Ideal_Reference8Ideal (hKernel8Ideal := Cert.Kernel8Ideal.Gen.facts)
    (hReference8Ideal := Cert.Reference8Ideal.Gen.facts) := by
  intro m g m' g' _ hagree
  refine ⟨fun c => (Cert.Kernel8Ideal.Gen.dats m 0 c).arrAt 2 Cert.Kernel8Ideal.cfg0.N, Cert.Kernel8Ideal.Value.run_blocks (F := Ideal) m g, ?_⟩
  refine (θ_run _ _ _).mono (fun r h c => ?_) (Cert.DwPleUpRef.run' m' g')
  exact ⟨(h c).1.trans (Cert.DwPleUp.dw_eq _ _ (hagree c).1 (hagree c).2), (h c).2⟩

theorem frame_reference9 : Cert.quiescent_Reference9Ideal (hReference9Ideal := Cert.Reference9Ideal.Gen.facts) := fun m ρ _ =>
  (θ_run _ _ _).mono (fun r h => ⟨fun c => (h c).2, Idealize.ShloMosaic.sem_eq_zero_of_no_sems (by decide) r.2⟩)
    (Cert.Reference9Ideal.Value.run (F := Ideal) m ρ)

/-- The weight gradient, the recurrence's gate's. -/
theorem dw_glu_algebraic : Cert.algebraic_Kernel9Ideal_Reference9Ideal (hKernel9Ideal := Cert.Kernel9Ideal.Gen.facts)
    (hReference9Ideal := Cert.Reference9Ideal.Gen.facts) := by
  intro m g m' g' _ hagree
  refine ⟨fun c => (Cert.Kernel9Ideal.Gen.dats m 0 c).arrAt 2 Cert.Kernel9Ideal.cfg0.N, Cert.Kernel9Ideal.Value.run_blocks (F := Ideal) m g, ?_⟩
  refine (θ_run _ _ _).mono (fun r h c => ?_) (Cert.DwGluRef.run' m' g')
  exact ⟨(h c).1.trans (Cert.DwGlu.dw_eq _ _ (hagree c).1 (hagree c).2), (h c).2⟩

theorem frame_reference10 : Cert.quiescent_Reference10Ideal (hReference10Ideal := Cert.Reference10Ideal.Gen.facts) := fun m ρ _ =>
  (θ_run _ _ _).mono (fun r h => ⟨fun c => (h c).2.2.2.2, Idealize.ShloMosaic.sem_eq_zero_of_no_sems (by decide) r.2⟩)
    (Cert.Reference10Ideal.Value.run (F := Ideal) m ρ)

/-- The four arrays of the layer embedding's backward pass, as the kernel leaves them and as the reference does. -/
theorem ple_bwd_algebraic : Cert.algebraic_Kernel10Ideal_Reference10Ideal (hKernel10Ideal := Cert.Kernel10Ideal.Gen.facts)
    (hReference10Ideal := Cert.Reference10Ideal.Gen.facts) := by
  intro m g m' g' _ hagree
  have s : ∀ c, Cert.PleBwdRef.R m' c = Cert.PleBwd.K m c := fun c =>
    Cert.PleBwd.same_of (hagree c).1 (hagree c).2.1 (hagree c).2.2.1 (hagree c).2.2.2.1 (hagree c).2.2.2.2.1 (hagree c).2.2.2.2.2
  refine ⟨fun c => (Cert.Kernel10Ideal.Gen.dats m 0 c).arrAt 5 Cert.Kernel10Ideal.cfg0.N,
    fun c => (Cert.Kernel10Ideal.Gen.dats m 0 c).arrAt 6 Cert.Kernel10Ideal.cfg0.N,
    fun c => (Cert.Kernel10Ideal.Gen.dats m 0 c).arrAt 7 Cert.Kernel10Ideal.cfg0.N,
    fun c => (Cert.Kernel10Ideal.Gen.dats m 0 c).arrAt 8 Cert.Kernel10Ideal.cfg0.N,
    Cert.Kernel10Ideal.Value.run_blocks (F := Ideal) m g, ?_⟩
  refine (θ_run _ _ _).mono (fun r h c => ?_) (Cert.PleBwdRef.run' m' g')
  exact ⟨(h c).1.trans (Cert.PleBwd.dhs_eq (s c)), (h c).2.1.trans (Cert.PleBwd.des_eq (s c)), (h c).2.2.1.trans (Cert.PleBwd.dts_eq (s c)), (h c).2.2.2.1.trans (Cert.PleBwd.dgs_eq (s c)), (h c).2.2.2.2⟩

theorem frame_reference11 : Cert.quiescent_Reference11Ideal (hReference11Ideal := Cert.Reference11Ideal.Gen.facts) := fun m ρ _ =>
  (θ_run _ _ _).mono (fun r h => ⟨fun c => (h c).2.2.2, Idealize.ShloMosaic.sem_eq_zero_of_no_sems (by decide) r.2⟩)
    (Cert.Reference11Ideal.Value.run (F := Ideal) m ρ)

/-- The three arrays of the layer embedding's forward pass, as the kernel leaves them and as the reference does. -/
theorem ple_fwd_algebraic : Cert.algebraic_Kernel11Ideal_Reference11Ideal (hKernel11Ideal := Cert.Kernel11Ideal.Gen.facts)
    (hReference11Ideal := Cert.Reference11Ideal.Gen.facts) := by
  intro m g m' g' _ hagree
  have s : ∀ c, Cert.PleFwd.Same m m' c := fun c =>
    Cert.PleFwd.same_of (hagree c).1 (hagree c).2.1 (hagree c).2.2.1 (hagree c).2.2.2.1 (hagree c).2.2.2.2
  refine ⟨fun c => (Cert.Kernel11Ideal.Gen.dats m 0 c).arrAt 5 Cert.Kernel11Ideal.cfg0.N,
    fun c => (Cert.Kernel11Ideal.Gen.dats m 0 c).arrAt 6 Cert.Kernel11Ideal.cfg0.N,
    fun c => (Cert.Kernel11Ideal.Gen.dats m 0 c).arrAt 7 Cert.Kernel11Ideal.cfg0.N,
    Cert.Kernel11Ideal.Value.run_blocks (F := Ideal) m g, ?_⟩
  refine (θ_run _ _ _).mono (fun r h c => ?_) (Cert.PleFwdRef.run' m' g')
  exact ⟨(h c).1.trans (Cert.PleFwd.hs_eq (s c)), (h c).2.1.trans (Cert.PleFwd.es_eq (s c)), (h c).2.2.1.trans (Cert.PleFwd.ts_eq (s c)), (h c).2.2.2⟩

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
     Cert.Kernel6.Gen.facts, Cert.Kernel6Ideal.Gen.facts, Cert.Reference6Ideal.Gen.facts,
     Cert.Kernel7.Gen.facts, Cert.Kernel7Ideal.Gen.facts, Cert.Reference7Ideal.Gen.facts,
     Cert.Kernel8.Gen.facts, Cert.Kernel8Ideal.Gen.facts, Cert.Reference8Ideal.Gen.facts,
     Cert.Kernel9.Gen.facts, Cert.Kernel9Ideal.Gen.facts, Cert.Reference9Ideal.Gen.facts,
    Cert.Kernel10.Gen.facts, Cert.Kernel10Ideal.Gen.facts, Cert.Reference10Ideal.Gen.facts,
     Cert.Kernel11.Gen.facts, Cert.Kernel11Ideal.Gen.facts, Cert.Reference11Ideal.Gen.facts,
    Cert.Scan.pre_facts,
    Cert.FfnBwd.pre_facts,
    fun m ρ _ => Cert.KernelFrame.frame m ρ, fun m ρ _ => Cert.Scan.frame_ideal m ρ, fun m ρ _ => Cert.Scan.frame_ideal m ρ,
    frame_reference, fun m ρ _ => frame_reference m ρ trivial,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, fun m ρ _ => Cert.Kernel3Ideal.Gen.frame m ρ,
    frame_reference3, fun m ρ _ => frame_reference3 m ρ trivial,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, frame_reference6,
    fun m ρ _ => Cert.Kernel7.Gen.frame m ρ, fun m ρ _ => Cert.Kernel7Ideal.Gen.frame m ρ, frame_reference7,
    fun m ρ _ => Cert.Kernel8.Gen.frame m ρ, fun m ρ _ => Cert.Kernel8Ideal.Gen.frame m ρ, frame_reference8,
    fun m ρ _ => Cert.Kernel9.Gen.frame m ρ, fun m ρ _ => Cert.Kernel9Ideal.Gen.frame m ρ, frame_reference9,
    fun m ρ _ => Cert.Kernel10.Gen.frame m ρ, fun m ρ _ => Cert.Kernel10Ideal.Gen.frame m ρ, frame_reference10,
    fun m ρ _ => Cert.Kernel11.Gen.frame m ρ, fun m ρ _ => Cert.Kernel11Ideal.Gen.frame m ρ, frame_reference11,
    trivial, scan_algebraic, trivial, ffn_fwd_algebraic, trivial, ffn_bwd_algebraic, trivial, dw_algebraic,
    trivial, dw_out_algebraic, trivial, dw_in_algebraic, trivial, dw_ple_gate_algebraic, trivial, dw_ple_up_algebraic, trivial, dw_glu_algebraic, trivial, ple_bwd_algebraic, trivial, ple_fwd_algebraic⟩

end Cert.Proof

end
